-- ==== Defs.lean ====
def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite [hPre_finite : Cert.Pre_finite.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5))) = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite [hPre_finite : Cert.Pre_finite.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelInprojFwd (m : (ℓ : Loc Cert.KernelInprojFwd.nD Cert.KernelInprojFwd.τ Cert.KernelInprojFwd.sig) → Buf (Elt Bits) ℓ) : Prop :=
  True

def Pre_KernelInprojFwdIdeal (m : (ℓ : Loc Cert.KernelInprojFwdIdeal.nD Cert.KernelInprojFwdIdeal.τ Cert.KernelInprojFwdIdeal.sig) → Buf (Elt Ideal) ℓ) : Prop :=
  True

def Pre_ReferenceInprojFwdIdeal (m : (ℓ : Loc Cert.ReferenceInprojFwdIdeal.nD Cert.ReferenceInprojFwdIdeal.τ Cert.ReferenceInprojFwdIdeal.sig) → Buf (Elt Ideal) ℓ) : Prop :=
  True

def Pre_KernelAdamGate (m : (ℓ : Loc Cert.KernelAdamGate.nD Cert.KernelAdamGate.τ Cert.KernelAdamGate.sig) → Buf (Elt Bits) ℓ) : Prop :=
  True

def Pre_KernelAdamGateIdeal (m : (ℓ : Loc Cert.KernelAdamGateIdeal.nD Cert.KernelAdamGateIdeal.τ Cert.KernelAdamGateIdeal.sig) → Buf (Elt Ideal) ℓ) : Prop :=
  True

def Pre_ReferenceAdamGateIdeal (m : (ℓ : Loc Cert.ReferenceAdamGateIdeal.nD Cert.ReferenceAdamGateIdeal.τ Cert.ReferenceAdamGateIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamGlu (m : (ℓ : Loc Cert.KernelAdamGlu.nD Cert.KernelAdamGlu.τ Cert.KernelAdamGlu.sig) → Buf (Elt Bits) ℓ) : Prop :=
  True

def Pre_KernelAdamGluIdeal (m : (ℓ : Loc Cert.KernelAdamGluIdeal.nD Cert.KernelAdamGluIdeal.τ Cert.KernelAdamGluIdeal.sig) → Buf (Elt Ideal) ℓ) : Prop :=
  True

def Pre_ReferenceAdamGluIdeal (m : (ℓ : Loc Cert.ReferenceAdamGluIdeal.nD Cert.ReferenceAdamGluIdeal.τ Cert.ReferenceAdamGluIdeal.sig) → Buf (Elt Ideal) ℓ) : Prop :=
  True

def Pre_KernelAdamMeta (m : (ℓ : Loc Cert.KernelAdamMeta.nD Cert.KernelAdamMeta.τ Cert.KernelAdamMeta.sig) → Buf (Elt Bits) ℓ) : Prop :=
  True

def Pre_KernelAdamMetaIdeal (m : (ℓ : Loc Cert.KernelAdamMetaIdeal.nD Cert.KernelAdamMetaIdeal.τ Cert.KernelAdamMetaIdeal.sig) → Buf (Elt Ideal) ℓ) : Prop :=
  True

def Pre_ReferenceAdamMetaIdeal (m : (ℓ : Loc Cert.ReferenceAdamMetaIdeal.nD Cert.ReferenceAdamMetaIdeal.τ Cert.ReferenceAdamMetaIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamRest (m : (ℓ : Loc Cert.KernelAdamRest.nD Cert.KernelAdamRest.τ Cert.KernelAdamRest.sig) → Buf (Elt Bits) ℓ) : Prop :=
  True

def Pre_KernelAdamRestIdeal (m : (ℓ : Loc Cert.KernelAdamRestIdeal.nD Cert.KernelAdamRestIdeal.τ Cert.KernelAdamRestIdeal.sig) → Buf (Elt Ideal) ℓ) : Prop :=
  True

def Pre_ReferenceAdamRestIdeal (m : (ℓ : Loc Cert.ReferenceAdamRestIdeal.nD Cert.ReferenceAdamRestIdeal.τ Cert.ReferenceAdamRestIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_KernelS5Prep (m : (ℓ : Loc Cert.KernelS5Prep.nD Cert.KernelS5Prep.τ Cert.KernelS5Prep.sig) → Buf (Elt Bits) ℓ) : Prop :=
  True

def Pre_KernelS5PrepIdeal (m : (ℓ : Loc Cert.KernelS5PrepIdeal.nD Cert.KernelS5PrepIdeal.τ Cert.KernelS5PrepIdeal.sig) → Buf (Elt Ideal) ℓ) : Prop :=
  True

def Pre_ReferenceS5PrepIdeal (m : (ℓ : Loc Cert.ReferenceS5PrepIdeal.nD Cert.ReferenceS5PrepIdeal.τ Cert.ReferenceS5PrepIdeal.sig) → Buf (Elt Ideal) ℓ) : Prop :=
  True

def Pre_KernelMixOutFwd (m : (ℓ : Loc Cert.KernelMixOutFwd.nD Cert.KernelMixOutFwd.τ Cert.KernelMixOutFwd.sig) → Buf (Elt Bits) ℓ) : Prop :=
  True

def Pre_KernelMixOutFwdIdeal (m : (ℓ : Loc Cert.KernelMixOutFwdIdeal.nD Cert.KernelMixOutFwdIdeal.τ Cert.KernelMixOutFwdIdeal.sig) → Buf (Elt Ideal) ℓ) : Prop :=
  True

def Pre_ReferenceMixOutFwdIdeal (m : (ℓ : Loc Cert.ReferenceMixOutFwdIdeal.nD Cert.ReferenceMixOutFwdIdeal.τ Cert.ReferenceMixOutFwdIdeal.sig) → Buf (Elt Ideal) ℓ) : Prop :=
  True

def Pre_KernelDnDecay (m : (ℓ : Loc Cert.KernelDnDecay.nD Cert.KernelDnDecay.τ Cert.KernelDnDecay.sig) → Buf (Elt Bits) ℓ) : Prop :=
  True

def Pre_KernelDnDecayIdeal (m : (ℓ : Loc Cert.KernelDnDecayIdeal.nD Cert.KernelDnDecayIdeal.τ Cert.KernelDnDecayIdeal.sig) → Buf (Elt Ideal) ℓ) : Prop :=
  True

def Pre_KernelDnDecayIdeal_away [hPre_away : Cert.Pre_away.Facts] (m : (ℓ : Loc Cert.KernelDnDecayIdeal.nD Cert.KernelDnDecayIdeal.τ Cert.KernelDnDecayIdeal.sig) → Buf (Elt Ideal) ℓ) : Prop :=
  ∀ c : Dev Cert.KernelDnDecayIdeal.nD,
    (Cert.Pre_away.fn (F := Ideal) (m ((c.tc : Thread Cert.KernelDnDecayIdeal.nD Cert.KernelDnDecayIdeal.τ).loc Cert.KernelDnDecayIdeal.main_arg0)) (m ((c.tc : Thread Cert.KernelDnDecayIdeal.nD Cert.KernelDnDecayIdeal.τ).loc Cert.KernelDnDecayIdeal.main_arg1)) (m ((c.tc : Thread Cert.KernelDnDecayIdeal.nD Cert.KernelDnDecayIdeal.τ).loc Cert.KernelDnDecayIdeal.main_arg2)) (m ((c.tc : Thread Cert.KernelDnDecayIdeal.nD Cert.KernelDnDecayIdeal.τ).loc Cert.KernelDnDecayIdeal.main_arg3)) (m ((c.tc : Thread Cert.KernelDnDecayIdeal.nD Cert.KernelDnDecayIdeal.τ).loc Cert.KernelDnDecayIdeal.main_arg4)) (m ((c.tc : Thread Cert.KernelDnDecayIdeal.nD Cert.KernelDnDecayIdeal.τ).loc Cert.KernelDnDecayIdeal.main_arg5)) (m ((c.tc : Thread Cert.KernelDnDecayIdeal.nD Cert.KernelDnDecayIdeal.τ).loc Cert.KernelDnDecayIdeal.main_arg6)) (m ((c.tc : Thread Cert.KernelDnDecayIdeal.nD Cert.KernelDnDecayIdeal.τ).loc Cert.KernelDnDecayIdeal.main_arg7)) (m ((c.tc : Thread Cert.KernelDnDecayIdeal.nD Cert.KernelDnDecayIdeal.τ).loc Cert.KernelDnDecayIdeal.main_arg8)) (m ((c.tc : Thread Cert.KernelDnDecayIdeal.nD Cert.KernelDnDecayIdeal.τ).loc Cert.KernelDnDecayIdeal.main_arg9)) (m ((c.tc : Thread Cert.KernelDnDecayIdeal.nD Cert.KernelDnDecayIdeal.τ).loc Cert.KernelDnDecayIdeal.main_arg10))) = (fun _ => 1#1)

def Pre_ReferenceDnDecayIdeal (m : (ℓ : Loc Cert.ReferenceDnDecayIdeal.nD Cert.ReferenceDnDecayIdeal.τ Cert.ReferenceDnDecayIdeal.sig) → Buf (Elt Ideal) ℓ) : Prop :=
  True

def Pre_ReferenceDnDecayIdeal_away [hPre_away : Cert.Pre_away.Facts] (m : (ℓ : Loc Cert.ReferenceDnDecayIdeal.nD Cert.ReferenceDnDecayIdeal.τ Cert.ReferenceDnDecayIdeal.sig) → Buf (Elt Ideal) ℓ) : Prop :=
  ∀ c : Dev Cert.ReferenceDnDecayIdeal.nD,
    (Cert.Pre_away.fn (F := Ideal) (m ((c.tc : Thread Cert.ReferenceDnDecayIdeal.nD Cert.ReferenceDnDecayIdeal.τ).loc Cert.ReferenceDnDecayIdeal.main_arg0)) (m ((c.tc : Thread Cert.ReferenceDnDecayIdeal.nD Cert.ReferenceDnDecayIdeal.τ).loc Cert.ReferenceDnDecayIdeal.main_arg1)) (m ((c.tc : Thread Cert.ReferenceDnDecayIdeal.nD Cert.ReferenceDnDecayIdeal.τ).loc Cert.ReferenceDnDecayIdeal.main_arg2)) (m ((c.tc : Thread Cert.ReferenceDnDecayIdeal.nD Cert.ReferenceDnDecayIdeal.τ).loc Cert.ReferenceDnDecayIdeal.main_arg3)) (m ((c.tc : Thread Cert.ReferenceDnDecayIdeal.nD Cert.ReferenceDnDecayIdeal.τ).loc Cert.ReferenceDnDecayIdeal.main_arg4)) (m ((c.tc : Thread Cert.ReferenceDnDecayIdeal.nD Cert.ReferenceDnDecayIdeal.τ).loc Cert.ReferenceDnDecayIdeal.main_arg5)) (m ((c.tc : Thread Cert.ReferenceDnDecayIdeal.nD Cert.ReferenceDnDecayIdeal.τ).loc Cert.ReferenceDnDecayIdeal.main_arg6)) (m ((c.tc : Thread Cert.ReferenceDnDecayIdeal.nD Cert.ReferenceDnDecayIdeal.τ).loc Cert.ReferenceDnDecayIdeal.main_arg7)) (m ((c.tc : Thread Cert.ReferenceDnDecayIdeal.nD Cert.ReferenceDnDecayIdeal.τ).loc Cert.ReferenceDnDecayIdeal.main_arg8)) (m ((c.tc : Thread Cert.ReferenceDnDecayIdeal.nD Cert.ReferenceDnDecayIdeal.τ).loc Cert.ReferenceDnDecayIdeal.main_arg9)) (m ((c.tc : Thread Cert.ReferenceDnDecayIdeal.nD Cert.ReferenceDnDecayIdeal.τ).loc Cert.ReferenceDnDecayIdeal.main_arg10))) = (fun _ => 1#1)

def Pre_KernelDnConv (m : (ℓ : Loc Cert.KernelDnConv.nD Cert.KernelDnConv.τ Cert.KernelDnConv.sig) → Buf (Elt Bits) ℓ) : Prop :=
  True

def Pre_KernelDnConvIdeal (m : (ℓ : Loc Cert.KernelDnConvIdeal.nD Cert.KernelDnConvIdeal.τ Cert.KernelDnConvIdeal.sig) → Buf (Elt Ideal) ℓ) : Prop :=
  True

def Pre_KernelDnConvIdeal_real_heads [hPre_real_heads : Cert.Pre_real_heads.Facts] (m : (ℓ : Loc Cert.KernelDnConvIdeal.nD Cert.KernelDnConvIdeal.τ Cert.KernelDnConvIdeal.sig) → Buf (Elt Ideal) ℓ) : Prop :=
  ∀ c : Dev Cert.KernelDnConvIdeal.nD,
    (Cert.Pre_real_heads.fn (F := Ideal) (m ((c.tc : Thread Cert.KernelDnConvIdeal.nD Cert.KernelDnConvIdeal.τ).loc Cert.KernelDnConvIdeal.main_arg0)) (m ((c.tc : Thread Cert.KernelDnConvIdeal.nD Cert.KernelDnConvIdeal.τ).loc Cert.KernelDnConvIdeal.main_arg1)) (m ((c.tc : Thread Cert.KernelDnConvIdeal.nD Cert.KernelDnConvIdeal.τ).loc Cert.KernelDnConvIdeal.main_arg2)) (m ((c.tc : Thread Cert.KernelDnConvIdeal.nD Cert.KernelDnConvIdeal.τ).loc Cert.KernelDnConvIdeal.main_arg3)) (m ((c.tc : Thread Cert.KernelDnConvIdeal.nD Cert.KernelDnConvIdeal.τ).loc Cert.KernelDnConvIdeal.main_arg4)) (m ((c.tc : Thread Cert.KernelDnConvIdeal.nD Cert.KernelDnConvIdeal.τ).loc Cert.KernelDnConvIdeal.main_arg5)) (m ((c.tc : Thread Cert.KernelDnConvIdeal.nD Cert.KernelDnConvIdeal.τ).loc Cert.KernelDnConvIdeal.main_arg6)) (m ((c.tc : Thread Cert.KernelDnConvIdeal.nD Cert.KernelDnConvIdeal.τ).loc Cert.KernelDnConvIdeal.main_arg7)) (m ((c.tc : Thread Cert.KernelDnConvIdeal.nD Cert.KernelDnConvIdeal.τ).loc Cert.KernelDnConvIdeal.main_arg8)) (m ((c.tc : Thread Cert.KernelDnConvIdeal.nD Cert.KernelDnConvIdeal.τ).loc Cert.KernelDnConvIdeal.main_arg9)) (m ((c.tc : Thread Cert.KernelDnConvIdeal.nD Cert.KernelDnConvIdeal.τ).loc Cert.KernelDnConvIdeal.main_arg10))) = (fun _ => 1#1)

def Pre_ReferenceDnConvIdeal (m : (ℓ : Loc Cert.ReferenceDnConvIdeal.nD Cert.ReferenceDnConvIdeal.τ Cert.ReferenceDnConvIdeal.sig) → Buf (Elt Ideal) ℓ) : Prop :=
  True

def Pre_ReferenceDnConvIdeal_real_heads [hPre_real_heads : Cert.Pre_real_heads.Facts] (m : (ℓ : Loc Cert.ReferenceDnConvIdeal.nD Cert.ReferenceDnConvIdeal.τ Cert.ReferenceDnConvIdeal.sig) → Buf (Elt Ideal) ℓ) : Prop :=
  ∀ c : Dev Cert.ReferenceDnConvIdeal.nD,
    (Cert.Pre_real_heads.fn (F := Ideal) (m ((c.tc : Thread Cert.ReferenceDnConvIdeal.nD Cert.ReferenceDnConvIdeal.τ).loc Cert.ReferenceDnConvIdeal.main_arg0)) (m ((c.tc : Thread Cert.ReferenceDnConvIdeal.nD Cert.ReferenceDnConvIdeal.τ).loc Cert.ReferenceDnConvIdeal.main_arg1)) (m ((c.tc : Thread Cert.ReferenceDnConvIdeal.nD Cert.ReferenceDnConvIdeal.τ).loc Cert.ReferenceDnConvIdeal.main_arg2)) (m ((c.tc : Thread Cert.ReferenceDnConvIdeal.nD Cert.ReferenceDnConvIdeal.τ).loc Cert.ReferenceDnConvIdeal.main_arg3)) (m ((c.tc : Thread Cert.ReferenceDnConvIdeal.nD Cert.ReferenceDnConvIdeal.τ).loc Cert.ReferenceDnConvIdeal.main_arg4)) (m ((c.tc : Thread Cert.ReferenceDnConvIdeal.nD Cert.ReferenceDnConvIdeal.τ).loc Cert.ReferenceDnConvIdeal.main_arg5)) (m ((c.tc : Thread Cert.ReferenceDnConvIdeal.nD Cert.ReferenceDnConvIdeal.τ).loc Cert.ReferenceDnConvIdeal.main_arg6)) (m ((c.tc : Thread Cert.ReferenceDnConvIdeal.nD Cert.ReferenceDnConvIdeal.τ).loc Cert.ReferenceDnConvIdeal.main_arg7)) (m ((c.tc : Thread Cert.ReferenceDnConvIdeal.nD Cert.ReferenceDnConvIdeal.τ).loc Cert.ReferenceDnConvIdeal.main_arg8)) (m ((c.tc : Thread Cert.ReferenceDnConvIdeal.nD Cert.ReferenceDnConvIdeal.τ).loc Cert.ReferenceDnConvIdeal.main_arg9)) (m ((c.tc : Thread Cert.ReferenceDnConvIdeal.nD Cert.ReferenceDnConvIdeal.τ).loc Cert.ReferenceDnConvIdeal.main_arg10))) = (fun _ => 1#1)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_KernelDxIdeal_pre_finite [hKernelDxIdeal : Cert.KernelDxIdeal.Facts] [hPre_finite : Cert.Pre_finite.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_ReferenceDxIdeal_pre_finite [hReferenceDxIdeal : Cert.ReferenceDxIdeal.Facts] [hPre_finite : Cert.Pre_finite.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3)
      ∧ r.2.mem ((c.tc : Thread Cert.KernelDw.nD Cert.KernelDw.τ).loc Cert.KernelDw.main_arg4) = m ((c.tc : Thread Cert.KernelDw.nD Cert.KernelDw.τ).loc Cert.KernelDw.main_arg4)
      ∧ r.2.mem ((c.tc : Thread Cert.KernelDw.nD Cert.KernelDw.τ).loc Cert.KernelDw.main_arg5) = m ((c.tc : Thread Cert.KernelDw.nD Cert.KernelDw.τ).loc Cert.KernelDw.main_arg5))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
      ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4)
      ∧ r.2.mem ((c.tc : Thread Cert.KernelDwIdeal.nD Cert.KernelDwIdeal.τ).loc Cert.KernelDwIdeal.main_arg5) = m ((c.tc : Thread Cert.KernelDwIdeal.nD Cert.KernelDwIdeal.τ).loc Cert.KernelDwIdeal.main_arg5))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3)
      ∧ r.2.mem ((c.tc : Thread Cert.ReferenceDwIdeal.nD Cert.ReferenceDwIdeal.τ).loc Cert.ReferenceDwIdeal.main_arg4) = m ((c.tc : Thread Cert.ReferenceDwIdeal.nD Cert.ReferenceDwIdeal.τ).loc Cert.ReferenceDwIdeal.main_arg4)
      ∧ r.2.mem ((c.tc : Thread Cert.ReferenceDwIdeal.nD Cert.ReferenceDwIdeal.τ).loc Cert.ReferenceDwIdeal.main_arg5) = m ((c.tc : Thread Cert.ReferenceDwIdeal.nD Cert.ReferenceDwIdeal.τ).loc Cert.ReferenceDwIdeal.main_arg5))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4)
      ∧ r.2.mem ((c.tc : Thread Cert.KernelInproj.nD Cert.KernelInproj.τ).loc Cert.KernelInproj.main_arg5) = m ((c.tc : Thread Cert.KernelInproj.nD Cert.KernelInproj.τ).loc Cert.KernelInproj.main_arg5)
      ∧ r.2.mem ((c.tc : Thread Cert.KernelInproj.nD Cert.KernelInproj.τ).loc Cert.KernelInproj.main_arg6) = m ((c.tc : Thread Cert.KernelInproj.nD Cert.KernelInproj.τ).loc Cert.KernelInproj.main_arg6)
      ∧ r.2.mem ((c.tc : Thread Cert.KernelInproj.nD Cert.KernelInproj.τ).loc Cert.KernelInproj.main_arg7) = m ((c.tc : Thread Cert.KernelInproj.nD Cert.KernelInproj.τ).loc Cert.KernelInproj.main_arg7)
      ∧ r.2.mem ((c.tc : Thread Cert.KernelInproj.nD Cert.KernelInproj.τ).loc Cert.KernelInproj.main_arg8) = m ((c.tc : Thread Cert.KernelInproj.nD Cert.KernelInproj.τ).loc Cert.KernelInproj.main_arg8)
      ∧ r.2.mem ((c.tc : Thread Cert.KernelInproj.nD Cert.KernelInproj.τ).loc Cert.KernelInproj.main_arg9) = m ((c.tc : Thread Cert.KernelInproj.nD Cert.KernelInproj.τ).loc Cert.KernelInproj.main_arg9)
      ∧ r.2.mem ((c.tc : Thread Cert.KernelInproj.nD Cert.KernelInproj.τ).loc Cert.KernelInproj.main_arg10) = m ((c.tc : Thread Cert.KernelInproj.nD Cert.KernelInproj.τ).loc Cert.KernelInproj.main_arg10)
      ∧ r.2.mem ((c.tc : Thread Cert.KernelInproj.nD Cert.KernelInproj.τ).loc Cert.KernelInproj.main_arg11) = m ((c.tc : Thread Cert.KernelInproj.nD Cert.KernelInproj.τ).loc Cert.KernelInproj.main_arg11))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
      ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
      ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6)
      ∧ r.2.mem ((c.tc : Thread Cert.KernelInprojIdeal.nD Cert.KernelInprojIdeal.τ).loc Cert.KernelInprojIdeal.main_arg7) = m ((c.tc : Thread Cert.KernelInprojIdeal.nD Cert.KernelInprojIdeal.τ).loc Cert.KernelInprojIdeal.main_arg7)
      ∧ r.2.mem ((c.tc : Thread Cert.KernelInprojIdeal.nD Cert.KernelInprojIdeal.τ).loc Cert.KernelInprojIdeal.main_arg8) = m ((c.tc : Thread Cert.KernelInprojIdeal.nD Cert.KernelInprojIdeal.τ).loc Cert.KernelInprojIdeal.main_arg8)
      ∧ r.2.mem ((c.tc : Thread Cert.KernelInprojIdeal.nD Cert.KernelInprojIdeal.τ).loc Cert.KernelInprojIdeal.main_arg9) = m ((c.tc : Thread Cert.KernelInprojIdeal.nD Cert.KernelInprojIdeal.τ).loc Cert.KernelInprojIdeal.main_arg9)
      ∧ r.2.mem ((c.tc : Thread Cert.KernelInprojIdeal.nD Cert.KernelInprojIdeal.τ).loc Cert.KernelInprojIdeal.main_arg10) = m ((c.tc : Thread Cert.KernelInprojIdeal.nD Cert.KernelInprojIdeal.τ).loc Cert.KernelInprojIdeal.main_arg10)
      ∧ r.2.mem ((c.tc : Thread Cert.KernelInprojIdeal.nD Cert.KernelInprojIdeal.τ).loc Cert.KernelInprojIdeal.main_arg11) = m ((c.tc : Thread Cert.KernelInprojIdeal.nD Cert.KernelInprojIdeal.τ).loc Cert.KernelInprojIdeal.main_arg11))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4)
      ∧ r.2.mem ((c.tc : Thread Cert.ReferenceInprojIdeal.nD Cert.ReferenceInprojIdeal.τ).loc Cert.ReferenceInprojIdeal.main_arg5) = m ((c.tc : Thread Cert.ReferenceInprojIdeal.nD Cert.ReferenceInprojIdeal.τ).loc Cert.ReferenceInprojIdeal.main_arg5)
      ∧ r.2.mem ((c.tc : Thread Cert.ReferenceInprojIdeal.nD Cert.ReferenceInprojIdeal.τ).loc Cert.ReferenceInprojIdeal.main_arg6) = m ((c.tc : Thread Cert.ReferenceInprojIdeal.nD Cert.ReferenceInprojIdeal.τ).loc Cert.ReferenceInprojIdeal.main_arg6)
      ∧ r.2.mem ((c.tc : Thread Cert.ReferenceInprojIdeal.nD Cert.ReferenceInprojIdeal.τ).loc Cert.ReferenceInprojIdeal.main_arg7) = m ((c.tc : Thread Cert.ReferenceInprojIdeal.nD Cert.ReferenceInprojIdeal.τ).loc Cert.ReferenceInprojIdeal.main_arg7)
      ∧ r.2.mem ((c.tc : Thread Cert.ReferenceInprojIdeal.nD Cert.ReferenceInprojIdeal.τ).loc Cert.ReferenceInprojIdeal.main_arg8) = m ((c.tc : Thread Cert.ReferenceInprojIdeal.nD Cert.ReferenceInprojIdeal.τ).loc Cert.ReferenceInprojIdeal.main_arg8)
      ∧ r.2.mem ((c.tc : Thread Cert.ReferenceInprojIdeal.nD Cert.ReferenceInprojIdeal.τ).loc Cert.ReferenceInprojIdeal.main_arg9) = m ((c.tc : Thread Cert.ReferenceInprojIdeal.nD Cert.ReferenceInprojIdeal.τ).loc Cert.ReferenceInprojIdeal.main_arg9)
      ∧ r.2.mem ((c.tc : Thread Cert.ReferenceInprojIdeal.nD Cert.ReferenceInprojIdeal.τ).loc Cert.ReferenceInprojIdeal.main_arg10) = m ((c.tc : Thread Cert.ReferenceInprojIdeal.nD Cert.ReferenceInprojIdeal.τ).loc Cert.ReferenceInprojIdeal.main_arg10)
      ∧ r.2.mem ((c.tc : Thread Cert.ReferenceInprojIdeal.nD Cert.ReferenceInprojIdeal.τ).loc Cert.ReferenceInprojIdeal.main_arg11) = m ((c.tc : Thread Cert.ReferenceInprojIdeal.nD Cert.ReferenceInprojIdeal.τ).loc Cert.ReferenceInprojIdeal.main_arg11))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelInprojFwd [hKernelInprojFwd : Cert.KernelInprojFwd.Facts] : Prop :=
  ∀ (m : (ℓ : Loc Cert.KernelInprojFwd.nD Cert.KernelInprojFwd.τ Cert.KernelInprojFwd.sig) → Buf (Elt Bits) ℓ) (g : Dev Cert.KernelInprojFwd.nD → PrngReg), Pre_KernelInprojFwd m →
    θ_run (Cert.KernelInprojFwd.defs (F := Bits)) (onTc (τ := Cert.KernelInprojFwd.τ) (Cert.KernelInprojFwd.main (F := Bits))) ⟨m, fun _ => 0, g⟩ (fun r => (∀ c : Dev Cert.KernelInprojFwd.nD,
      r.2.mem ((c.tc : Thread Cert.KernelInprojFwd.nD Cert.KernelInprojFwd.τ).loc Cert.KernelInprojFwd.main_arg0) = m ((c.tc : Thread Cert.KernelInprojFwd.nD Cert.KernelInprojFwd.τ).loc Cert.KernelInprojFwd.main_arg0)
      ∧ r.2.mem ((c.tc : Thread Cert.KernelInprojFwd.nD Cert.KernelInprojFwd.τ).loc Cert.KernelInprojFwd.main_arg1) = m ((c.tc : Thread Cert.KernelInprojFwd.nD Cert.KernelInprojFwd.τ).loc Cert.KernelInprojFwd.main_arg1)
      ∧ r.2.mem ((c.tc : Thread Cert.KernelInprojFwd.nD Cert.KernelInprojFwd.τ).loc Cert.KernelInprojFwd.main_arg2) = m ((c.tc : Thread Cert.KernelInprojFwd.nD Cert.KernelInprojFwd.τ).loc Cert.KernelInprojFwd.main_arg2))
      ∧ r.2.sem = fun _ => 0)

def quiescent_KernelInprojFwdIdeal [hKernelInprojFwdIdeal : Cert.KernelInprojFwdIdeal.Facts] : Prop :=
  ∀ (m : (ℓ : Loc Cert.KernelInprojFwdIdeal.nD Cert.KernelInprojFwdIdeal.τ Cert.KernelInprojFwdIdeal.sig) → Buf (Elt Ideal) ℓ) (g : Dev Cert.KernelInprojFwdIdeal.nD → PrngReg), Pre_KernelInprojFwdIdeal m →
    θ_run (Cert.KernelInprojFwdIdeal.defs (F := Ideal)) (onTc (τ := Cert.KernelInprojFwdIdeal.τ) (Cert.KernelInprojFwdIdeal.main (F := Ideal))) ⟨m, fun _ => 0, g⟩ (fun r => (∀ c : Dev Cert.KernelInprojFwdIdeal.nD,
      r.2.mem ((c.tc : Thread Cert.KernelInprojFwdIdeal.nD Cert.KernelInprojFwdIdeal.τ).loc Cert.KernelInprojFwdIdeal.main_arg0) = m ((c.tc : Thread Cert.KernelInprojFwdIdeal.nD Cert.KernelInprojFwdIdeal.τ).loc Cert.KernelInprojFwdIdeal.main_arg0)
      ∧ r.2.mem ((c.tc : Thread Cert.KernelInprojFwdIdeal.nD Cert.KernelInprojFwdIdeal.τ).loc Cert.KernelInprojFwdIdeal.main_arg1) = m ((c.tc : Thread Cert.KernelInprojFwdIdeal.nD Cert.KernelInprojFwdIdeal.τ).loc Cert.KernelInprojFwdIdeal.main_arg1)
      ∧ r.2.mem ((c.tc : Thread Cert.KernelInprojFwdIdeal.nD Cert.KernelInprojFwdIdeal.τ).loc Cert.KernelInprojFwdIdeal.main_arg2) = m ((c.tc : Thread Cert.KernelInprojFwdIdeal.nD Cert.KernelInprojFwdIdeal.τ).loc Cert.KernelInprojFwdIdeal.main_arg2))
      ∧ r.2.sem = fun _ => 0)

def quiescent_ReferenceInprojFwdIdeal [hReferenceInprojFwdIdeal : Cert.ReferenceInprojFwdIdeal.Facts] : Prop :=
  ∀ (m : (ℓ : Loc Cert.ReferenceInprojFwdIdeal.nD Cert.ReferenceInprojFwdIdeal.τ Cert.ReferenceInprojFwdIdeal.sig) → Buf (Elt Ideal) ℓ) (g : Dev Cert.ReferenceInprojFwdIdeal.nD → PrngReg), Pre_ReferenceInprojFwdIdeal m →
    θ_run (Cert.ReferenceInprojFwdIdeal.defs (F := Ideal)) (onTc (τ := Cert.ReferenceInprojFwdIdeal.τ) (Cert.ReferenceInprojFwdIdeal.main (F := Ideal))) ⟨m, fun _ => 0, g⟩ (fun r => (∀ c : Dev Cert.ReferenceInprojFwdIdeal.nD,
      r.2.mem ((c.tc : Thread Cert.ReferenceInprojFwdIdeal.nD Cert.ReferenceInprojFwdIdeal.τ).loc Cert.ReferenceInprojFwdIdeal.main_arg0) = m ((c.tc : Thread Cert.ReferenceInprojFwdIdeal.nD Cert.ReferenceInprojFwdIdeal.τ).loc Cert.ReferenceInprojFwdIdeal.main_arg0)
      ∧ r.2.mem ((c.tc : Thread Cert.ReferenceInprojFwdIdeal.nD Cert.ReferenceInprojFwdIdeal.τ).loc Cert.ReferenceInprojFwdIdeal.main_arg1) = m ((c.tc : Thread Cert.ReferenceInprojFwdIdeal.nD Cert.ReferenceInprojFwdIdeal.τ).loc Cert.ReferenceInprojFwdIdeal.main_arg1)
      ∧ r.2.mem ((c.tc : Thread Cert.ReferenceInprojFwdIdeal.nD Cert.ReferenceInprojFwdIdeal.τ).loc Cert.ReferenceInprojFwdIdeal.main_arg2) = m ((c.tc : Thread Cert.ReferenceInprojFwdIdeal.nD Cert.ReferenceInprojFwdIdeal.τ).loc Cert.ReferenceInprojFwdIdeal.main_arg2))
      ∧ r.2.sem = fun _ => 0)

def quiescent_KernelAdamGate [hKernelAdamGate : Cert.KernelAdamGate.Facts] : Prop :=
  ∀ (m : (ℓ : Loc Cert.KernelAdamGate.nD Cert.KernelAdamGate.τ Cert.KernelAdamGate.sig) → Buf (Elt Bits) ℓ) (g : Dev Cert.KernelAdamGate.nD → PrngReg), Pre_KernelAdamGate m →
    θ_run (Cert.KernelAdamGate.defs (F := Bits)) (onTc (τ := Cert.KernelAdamGate.τ) (Cert.KernelAdamGate.main (F := Bits))) ⟨m, fun _ => 0, g⟩ (fun r => (∀ c : Dev Cert.KernelAdamGate.nD,
      r.2.mem ((c.tc : Thread Cert.KernelAdamGate.nD Cert.KernelAdamGate.τ).loc Cert.KernelAdamGate.main_arg0) = m ((c.tc : Thread Cert.KernelAdamGate.nD Cert.KernelAdamGate.τ).loc Cert.KernelAdamGate.main_arg0)
      ∧ r.2.mem ((c.tc : Thread Cert.KernelAdamGate.nD Cert.KernelAdamGate.τ).loc Cert.KernelAdamGate.main_arg1) = m ((c.tc : Thread Cert.KernelAdamGate.nD Cert.KernelAdamGate.τ).loc Cert.KernelAdamGate.main_arg1)
      ∧ r.2.mem ((c.tc : Thread Cert.KernelAdamGate.nD Cert.KernelAdamGate.τ).loc Cert.KernelAdamGate.main_arg2) = m ((c.tc : Thread Cert.KernelAdamGate.nD Cert.KernelAdamGate.τ).loc Cert.KernelAdamGate.main_arg2)
      ∧ r.2.mem ((c.tc : Thread Cert.KernelAdamGate.nD Cert.KernelAdamGate.τ).loc Cert.KernelAdamGate.main_arg3) = m ((c.tc : Thread Cert.KernelAdamGate.nD Cert.KernelAdamGate.τ).loc Cert.KernelAdamGate.main_arg3))
      ∧ r.2.sem = fun _ => 0)

def quiescent_KernelAdamGateIdeal [hKernelAdamGateIdeal : Cert.KernelAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg), Pre_KernelAdamGateIdeal m →
    θ_run (Cert.KernelAdamGateIdeal.defs (F := Ideal)) (onTc (τ := Cert.KernelAdamGateIdeal.τ) (Cert.KernelAdamGateIdeal.main (F := Ideal))) ⟨m, fun _ => 0, g⟩ (fun r => (∀ c : Dev Cert.KernelAdamGateIdeal.nD,
      r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
      ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
      ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
      ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ r.2.sem = fun _ => 0)

def quiescent_ReferenceAdamGateIdeal [hReferenceAdamGateIdeal : Cert.ReferenceAdamGateIdeal.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamGlu [hKernelAdamGlu : Cert.KernelAdamGlu.Facts] : Prop :=
  ∀ (m : (ℓ : Loc Cert.KernelAdamGlu.nD Cert.KernelAdamGlu.τ Cert.KernelAdamGlu.sig) → Buf (Elt Bits) ℓ) (g : Dev Cert.KernelAdamGlu.nD → PrngReg), Pre_KernelAdamGlu m →
    θ_run (Cert.KernelAdamGlu.defs (F := Bits)) (onTc (τ := Cert.KernelAdamGlu.τ) (Cert.KernelAdamGlu.main (F := Bits))) ⟨m, fun _ => 0, g⟩ (fun r => (∀ c : Dev Cert.KernelAdamGlu.nD,
      r.2.mem ((c.tc : Thread Cert.KernelAdamGlu.nD Cert.KernelAdamGlu.τ).loc Cert.KernelAdamGlu.main_arg0) = m ((c.tc : Thread Cert.KernelAdamGlu.nD Cert.KernelAdamGlu.τ).loc Cert.KernelAdamGlu.main_arg0)
      ∧ r.2.mem ((c.tc : Thread Cert.KernelAdamGlu.nD Cert.KernelAdamGlu.τ).loc Cert.KernelAdamGlu.main_arg1) = m ((c.tc : Thread Cert.KernelAdamGlu.nD Cert.KernelAdamGlu.τ).loc Cert.KernelAdamGlu.main_arg1)
      ∧ r.2.mem ((c.tc : Thread Cert.KernelAdamGlu.nD Cert.KernelAdamGlu.τ).loc Cert.KernelAdamGlu.main_arg2) = m ((c.tc : Thread Cert.KernelAdamGlu.nD Cert.KernelAdamGlu.τ).loc Cert.KernelAdamGlu.main_arg2)
      ∧ r.2.mem ((c.tc : Thread Cert.KernelAdamGlu.nD Cert.KernelAdamGlu.τ).loc Cert.KernelAdamGlu.main_arg3) = m ((c.tc : Thread Cert.KernelAdamGlu.nD Cert.KernelAdamGlu.τ).loc Cert.KernelAdamGlu.main_arg3))
      ∧ r.2.sem = fun _ => 0)

def quiescent_KernelAdamGluIdeal [hKernelAdamGluIdeal : Cert.KernelAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg), Pre_KernelAdamGluIdeal m →
    θ_run (Cert.KernelAdamGluIdeal.defs (F := Ideal)) (onTc (τ := Cert.KernelAdamGluIdeal.τ) (Cert.KernelAdamGluIdeal.main (F := Ideal))) ⟨m, fun _ => 0, g⟩ (fun r => (∀ c : Dev Cert.KernelAdamGluIdeal.nD,
      r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
      ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
      ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
      ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ r.2.sem = fun _ => 0)

def quiescent_ReferenceAdamGluIdeal [hReferenceAdamGluIdeal : Cert.ReferenceAdamGluIdeal.Facts] : Prop :=
  ∀ (m : (ℓ : Loc Cert.ReferenceAdamGluIdeal.nD Cert.ReferenceAdamGluIdeal.τ Cert.ReferenceAdamGluIdeal.sig) → Buf (Elt Ideal) ℓ) (g : Dev Cert.ReferenceAdamGluIdeal.nD → PrngReg), Pre_ReferenceAdamGluIdeal m →
    θ_run (Cert.ReferenceAdamGluIdeal.defs (F := Ideal)) (onTc (τ := Cert.ReferenceAdamGluIdeal.τ) (Cert.ReferenceAdamGluIdeal.main (F := Ideal))) ⟨m, fun _ => 0, g⟩ (fun r => (∀ c : Dev Cert.ReferenceAdamGluIdeal.nD,
      r.2.mem ((c.tc : Thread Cert.ReferenceAdamGluIdeal.nD Cert.ReferenceAdamGluIdeal.τ).loc Cert.ReferenceAdamGluIdeal.main_arg0) = m ((c.tc : Thread Cert.ReferenceAdamGluIdeal.nD Cert.ReferenceAdamGluIdeal.τ).loc Cert.ReferenceAdamGluIdeal.main_arg0)
      ∧ r.2.mem ((c.tc : Thread Cert.ReferenceAdamGluIdeal.nD Cert.ReferenceAdamGluIdeal.τ).loc Cert.ReferenceAdamGluIdeal.main_arg1) = m ((c.tc : Thread Cert.ReferenceAdamGluIdeal.nD Cert.ReferenceAdamGluIdeal.τ).loc Cert.ReferenceAdamGluIdeal.main_arg1)
      ∧ r.2.mem ((c.tc : Thread Cert.ReferenceAdamGluIdeal.nD Cert.ReferenceAdamGluIdeal.τ).loc Cert.ReferenceAdamGluIdeal.main_arg2) = m ((c.tc : Thread Cert.ReferenceAdamGluIdeal.nD Cert.ReferenceAdamGluIdeal.τ).loc Cert.ReferenceAdamGluIdeal.main_arg2)
      ∧ r.2.mem ((c.tc : Thread Cert.ReferenceAdamGluIdeal.nD Cert.ReferenceAdamGluIdeal.τ).loc Cert.ReferenceAdamGluIdeal.main_arg3) = m ((c.tc : Thread Cert.ReferenceAdamGluIdeal.nD Cert.ReferenceAdamGluIdeal.τ).loc Cert.ReferenceAdamGluIdeal.main_arg3))
      ∧ r.2.sem = fun _ => 0)

def quiescent_KernelAdamMeta [hKernelAdamMeta : Cert.KernelAdamMeta.Facts] : Prop :=
  ∀ (m : (ℓ : Loc Cert.KernelAdamMeta.nD Cert.KernelAdamMeta.τ Cert.KernelAdamMeta.sig) → Buf (Elt Bits) ℓ) (g : Dev Cert.KernelAdamMeta.nD → PrngReg), Pre_KernelAdamMeta m →
    θ_run (Cert.KernelAdamMeta.defs (F := Bits)) (onTc (τ := Cert.KernelAdamMeta.τ) (Cert.KernelAdamMeta.main (F := Bits))) ⟨m, fun _ => 0, g⟩ (fun r => (∀ c : Dev Cert.KernelAdamMeta.nD,
      r.2.mem ((c.tc : Thread Cert.KernelAdamMeta.nD Cert.KernelAdamMeta.τ).loc Cert.KernelAdamMeta.main_arg0) = m ((c.tc : Thread Cert.KernelAdamMeta.nD Cert.KernelAdamMeta.τ).loc Cert.KernelAdamMeta.main_arg0)
      ∧ r.2.mem ((c.tc : Thread Cert.KernelAdamMeta.nD Cert.KernelAdamMeta.τ).loc Cert.KernelAdamMeta.main_arg1) = m ((c.tc : Thread Cert.KernelAdamMeta.nD Cert.KernelAdamMeta.τ).loc Cert.KernelAdamMeta.main_arg1)
      ∧ r.2.mem ((c.tc : Thread Cert.KernelAdamMeta.nD Cert.KernelAdamMeta.τ).loc Cert.KernelAdamMeta.main_arg2) = m ((c.tc : Thread Cert.KernelAdamMeta.nD Cert.KernelAdamMeta.τ).loc Cert.KernelAdamMeta.main_arg2)
      ∧ r.2.mem ((c.tc : Thread Cert.KernelAdamMeta.nD Cert.KernelAdamMeta.τ).loc Cert.KernelAdamMeta.main_arg3) = m ((c.tc : Thread Cert.KernelAdamMeta.nD Cert.KernelAdamMeta.τ).loc Cert.KernelAdamMeta.main_arg3))
      ∧ r.2.sem = fun _ => 0)

def quiescent_KernelAdamMetaIdeal [hKernelAdamMetaIdeal : Cert.KernelAdamMetaIdeal.Facts] : Prop :=
  ∀ (m : (ℓ : Loc Cert.KernelAdamMetaIdeal.nD Cert.KernelAdamMetaIdeal.τ Cert.KernelAdamMetaIdeal.sig) → Buf (Elt Ideal) ℓ) (g : Dev Cert.KernelAdamMetaIdeal.nD → PrngReg), Pre_KernelAdamMetaIdeal m →
    θ_run (Cert.KernelAdamMetaIdeal.defs (F := Ideal)) (onTc (τ := Cert.KernelAdamMetaIdeal.τ) (Cert.KernelAdamMetaIdeal.main (F := Ideal))) ⟨m, fun _ => 0, g⟩ (fun r => (∀ c : Dev Cert.KernelAdamMetaIdeal.nD,
      r.2.mem ((c.tc : Thread Cert.KernelAdamMetaIdeal.nD Cert.KernelAdamMetaIdeal.τ).loc Cert.KernelAdamMetaIdeal.main_arg0) = m ((c.tc : Thread Cert.KernelAdamMetaIdeal.nD Cert.KernelAdamMetaIdeal.τ).loc Cert.KernelAdamMetaIdeal.main_arg0)
      ∧ r.2.mem ((c.tc : Thread Cert.KernelAdamMetaIdeal.nD Cert.KernelAdamMetaIdeal.τ).loc Cert.KernelAdamMetaIdeal.main_arg1) = m ((c.tc : Thread Cert.KernelAdamMetaIdeal.nD Cert.KernelAdamMetaIdeal.τ).loc Cert.KernelAdamMetaIdeal.main_arg1)
      ∧ r.2.mem ((c.tc : Thread Cert.KernelAdamMetaIdeal.nD Cert.KernelAdamMetaIdeal.τ).loc Cert.KernelAdamMetaIdeal.main_arg2) = m ((c.tc : Thread Cert.KernelAdamMetaIdeal.nD Cert.KernelAdamMetaIdeal.τ).loc Cert.KernelAdamMetaIdeal.main_arg2)
      ∧ r.2.mem ((c.tc : Thread Cert.KernelAdamMetaIdeal.nD Cert.KernelAdamMetaIdeal.τ).loc Cert.KernelAdamMetaIdeal.main_arg3) = m ((c.tc : Thread Cert.KernelAdamMetaIdeal.nD Cert.KernelAdamMetaIdeal.τ).loc Cert.KernelAdamMetaIdeal.main_arg3))
      ∧ r.2.sem = fun _ => 0)

def quiescent_ReferenceAdamMetaIdeal [hReferenceAdamMetaIdeal : Cert.ReferenceAdamMetaIdeal.Facts] : Prop :=
  ∀ (m : (ℓ : Loc Cert.ReferenceAdamMetaIdeal.nD Cert.ReferenceAdamMetaIdeal.τ Cert.ReferenceAdamMetaIdeal.sig) → Buf (Elt Ideal) ℓ) (g : Dev Cert.ReferenceAdamMetaIdeal.nD → PrngReg), Pre_ReferenceAdamMetaIdeal m →
    θ_run (Cert.ReferenceAdamMetaIdeal.defs (F := Ideal)) (onTc (τ := Cert.ReferenceAdamMetaIdeal.τ) (Cert.ReferenceAdamMetaIdeal.main (F := Ideal))) ⟨m, fun _ => 0, g⟩ (fun r => (∀ c : Dev Cert.ReferenceAdamMetaIdeal.nD,
      r.2.mem ((c.tc : Thread Cert.ReferenceAdamMetaIdeal.nD Cert.ReferenceAdamMetaIdeal.τ).loc Cert.ReferenceAdamMetaIdeal.main_arg0) = m ((c.tc : Thread Cert.ReferenceAdamMetaIdeal.nD Cert.ReferenceAdamMetaIdeal.τ).loc Cert.ReferenceAdamMetaIdeal.main_arg0)
      ∧ r.2.mem ((c.tc : Thread Cert.ReferenceAdamMetaIdeal.nD Cert.ReferenceAdamMetaIdeal.τ).loc Cert.ReferenceAdamMetaIdeal.main_arg1) = m ((c.tc : Thread Cert.ReferenceAdamMetaIdeal.nD Cert.ReferenceAdamMetaIdeal.τ).loc Cert.ReferenceAdamMetaIdeal.main_arg1)
      ∧ r.2.mem ((c.tc : Thread Cert.ReferenceAdamMetaIdeal.nD Cert.ReferenceAdamMetaIdeal.τ).loc Cert.ReferenceAdamMetaIdeal.main_arg2) = m ((c.tc : Thread Cert.ReferenceAdamMetaIdeal.nD Cert.ReferenceAdamMetaIdeal.τ).loc Cert.ReferenceAdamMetaIdeal.main_arg2)
      ∧ r.2.mem ((c.tc : Thread Cert.ReferenceAdamMetaIdeal.nD Cert.ReferenceAdamMetaIdeal.τ).loc Cert.ReferenceAdamMetaIdeal.main_arg3) = m ((c.tc : Thread Cert.ReferenceAdamMetaIdeal.nD Cert.ReferenceAdamMetaIdeal.τ).loc Cert.ReferenceAdamMetaIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamRest [hKernelAdamRest : Cert.KernelAdamRest.Facts] : Prop :=
  ∀ (m : (ℓ : Loc Cert.KernelAdamRest.nD Cert.KernelAdamRest.τ Cert.KernelAdamRest.sig) → Buf (Elt Bits) ℓ) (g : Dev Cert.KernelAdamRest.nD → PrngReg), Pre_KernelAdamRest m →
    θ_run (Cert.KernelAdamRest.defs (F := Bits)) (onTc (τ := Cert.KernelAdamRest.τ) (Cert.KernelAdamRest.main (F := Bits))) ⟨m, fun _ => 0, g⟩ (fun r => (∀ c : Dev Cert.KernelAdamRest.nD,
      r.2.mem ((c.tc : Thread Cert.KernelAdamRest.nD Cert.KernelAdamRest.τ).loc Cert.KernelAdamRest.main_arg0) = m ((c.tc : Thread Cert.KernelAdamRest.nD Cert.KernelAdamRest.τ).loc Cert.KernelAdamRest.main_arg0)
      ∧ r.2.mem ((c.tc : Thread Cert.KernelAdamRest.nD Cert.KernelAdamRest.τ).loc Cert.KernelAdamRest.main_arg1) = m ((c.tc : Thread Cert.KernelAdamRest.nD Cert.KernelAdamRest.τ).loc Cert.KernelAdamRest.main_arg1)
      ∧ r.2.mem ((c.tc : Thread Cert.KernelAdamRest.nD Cert.KernelAdamRest.τ).loc Cert.KernelAdamRest.main_arg2) = m ((c.tc : Thread Cert.KernelAdamRest.nD Cert.KernelAdamRest.τ).loc Cert.KernelAdamRest.main_arg2)
      ∧ r.2.mem ((c.tc : Thread Cert.KernelAdamRest.nD Cert.KernelAdamRest.τ).loc Cert.KernelAdamRest.main_arg3) = m ((c.tc : Thread Cert.KernelAdamRest.nD Cert.KernelAdamRest.τ).loc Cert.KernelAdamRest.main_arg3))
      ∧ r.2.sem = fun _ => 0)

def quiescent_KernelAdamRestIdeal [hKernelAdamRestIdeal : Cert.KernelAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg), Pre_KernelAdamRestIdeal m →
    θ_run (Cert.KernelAdamRestIdeal.defs (F := Ideal)) (onTc (τ := Cert.KernelAdamRestIdeal.τ) (Cert.KernelAdamRestIdeal.main (F := Ideal))) ⟨m, fun _ => 0, g⟩ (fun r => (∀ c : Dev Cert.KernelAdamRestIdeal.nD,
      r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
      ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
      ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
      ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3))
      ∧ r.2.sem = fun _ => 0)

def quiescent_ReferenceAdamRestIdeal [hReferenceAdamRestIdeal : Cert.ReferenceAdamRestIdeal.Facts] : Prop :=
  ∀ (m : (ℓ : Loc Cert.ReferenceAdamRestIdeal.nD Cert.ReferenceAdamRestIdeal.τ Cert.ReferenceAdamRestIdeal.sig) → Buf (Elt Ideal) ℓ) (g : Dev Cert.ReferenceAdamRestIdeal.nD → PrngReg), Pre_ReferenceAdamRestIdeal m →
    θ_run (Cert.ReferenceAdamRestIdeal.defs (F := Ideal)) (onTc (τ := Cert.ReferenceAdamRestIdeal.τ) (Cert.ReferenceAdamRestIdeal.main (F := Ideal))) ⟨m, fun _ => 0, g⟩ (fun r => (∀ c : Dev Cert.ReferenceAdamRestIdeal.nD,
      r.2.mem ((c.tc : Thread Cert.ReferenceAdamRestIdeal.nD Cert.ReferenceAdamRestIdeal.τ).loc Cert.ReferenceAdamRestIdeal.main_arg0) = m ((c.tc : Thread Cert.ReferenceAdamRestIdeal.nD Cert.ReferenceAdamRestIdeal.τ).loc Cert.ReferenceAdamRestIdeal.main_arg0)
      ∧ r.2.mem ((c.tc : Thread Cert.ReferenceAdamRestIdeal.nD Cert.ReferenceAdamRestIdeal.τ).loc Cert.ReferenceAdamRestIdeal.main_arg1) = m ((c.tc : Thread Cert.ReferenceAdamRestIdeal.nD Cert.ReferenceAdamRestIdeal.τ).loc Cert.ReferenceAdamRestIdeal.main_arg1)
      ∧ r.2.mem ((c.tc : Thread Cert.ReferenceAdamRestIdeal.nD Cert.ReferenceAdamRestIdeal.τ).loc Cert.ReferenceAdamRestIdeal.main_arg2) = m ((c.tc : Thread Cert.ReferenceAdamRestIdeal.nD Cert.ReferenceAdamRestIdeal.τ).loc Cert.ReferenceAdamRestIdeal.main_arg2)
      ∧ r.2.mem ((c.tc : Thread Cert.ReferenceAdamRestIdeal.nD Cert.ReferenceAdamRestIdeal.τ).loc Cert.ReferenceAdamRestIdeal.main_arg3) = m ((c.tc : Thread Cert.ReferenceAdamRestIdeal.nD Cert.ReferenceAdamRestIdeal.τ).loc Cert.ReferenceAdamRestIdeal.main_arg3))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5)
      ∧ r.2.mem ((c.tc : Thread Cert.KernelMixOut.nD Cert.KernelMixOut.τ).loc Cert.KernelMixOut.main_arg6) = m ((c.tc : Thread Cert.KernelMixOut.nD Cert.KernelMixOut.τ).loc Cert.KernelMixOut.main_arg6)
      ∧ r.2.mem ((c.tc : Thread Cert.KernelMixOut.nD Cert.KernelMixOut.τ).loc Cert.KernelMixOut.main_arg7) = m ((c.tc : Thread Cert.KernelMixOut.nD Cert.KernelMixOut.τ).loc Cert.KernelMixOut.main_arg7)
      ∧ r.2.mem ((c.tc : Thread Cert.KernelMixOut.nD Cert.KernelMixOut.τ).loc Cert.KernelMixOut.main_arg8) = m ((c.tc : Thread Cert.KernelMixOut.nD Cert.KernelMixOut.τ).loc Cert.KernelMixOut.main_arg8)
      ∧ r.2.mem ((c.tc : Thread Cert.KernelMixOut.nD Cert.KernelMixOut.τ).loc Cert.KernelMixOut.main_arg9) = m ((c.tc : Thread Cert.KernelMixOut.nD Cert.KernelMixOut.τ).loc Cert.KernelMixOut.main_arg9)
      ∧ r.2.mem ((c.tc : Thread Cert.KernelMixOut.nD Cert.KernelMixOut.τ).loc Cert.KernelMixOut.main_arg10) = m ((c.tc : Thread Cert.KernelMixOut.nD Cert.KernelMixOut.τ).loc Cert.KernelMixOut.main_arg10))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
      ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7)
      ∧ r.2.mem ((c.tc : Thread Cert.KernelMixOutIdeal.nD Cert.KernelMixOutIdeal.τ).loc Cert.KernelMixOutIdeal.main_arg8) = m ((c.tc : Thread Cert.KernelMixOutIdeal.nD Cert.KernelMixOutIdeal.τ).loc Cert.KernelMixOutIdeal.main_arg8)
      ∧ r.2.mem ((c.tc : Thread Cert.KernelMixOutIdeal.nD Cert.KernelMixOutIdeal.τ).loc Cert.KernelMixOutIdeal.main_arg9) = m ((c.tc : Thread Cert.KernelMixOutIdeal.nD Cert.KernelMixOutIdeal.τ).loc Cert.KernelMixOutIdeal.main_arg9)
      ∧ r.2.mem ((c.tc : Thread Cert.KernelMixOutIdeal.nD Cert.KernelMixOutIdeal.τ).loc Cert.KernelMixOutIdeal.main_arg10) = m ((c.tc : Thread Cert.KernelMixOutIdeal.nD Cert.KernelMixOutIdeal.τ).loc Cert.KernelMixOutIdeal.main_arg10))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6)
      ∧ r.2.mem ((c.tc : Thread Cert.ReferenceMixOutIdeal.nD Cert.ReferenceMixOutIdeal.τ).loc Cert.ReferenceMixOutIdeal.main_arg7) = m ((c.tc : Thread Cert.ReferenceMixOutIdeal.nD Cert.ReferenceMixOutIdeal.τ).loc Cert.ReferenceMixOutIdeal.main_arg7)
      ∧ r.2.mem ((c.tc : Thread Cert.ReferenceMixOutIdeal.nD Cert.ReferenceMixOutIdeal.τ).loc Cert.ReferenceMixOutIdeal.main_arg8) = m ((c.tc : Thread Cert.ReferenceMixOutIdeal.nD Cert.ReferenceMixOutIdeal.τ).loc Cert.ReferenceMixOutIdeal.main_arg8)
      ∧ r.2.mem ((c.tc : Thread Cert.ReferenceMixOutIdeal.nD Cert.ReferenceMixOutIdeal.τ).loc Cert.ReferenceMixOutIdeal.main_arg9) = m ((c.tc : Thread Cert.ReferenceMixOutIdeal.nD Cert.ReferenceMixOutIdeal.τ).loc Cert.ReferenceMixOutIdeal.main_arg9)
      ∧ r.2.mem ((c.tc : Thread Cert.ReferenceMixOutIdeal.nD Cert.ReferenceMixOutIdeal.τ).loc Cert.ReferenceMixOutIdeal.main_arg10) = m ((c.tc : Thread Cert.ReferenceMixOutIdeal.nD Cert.ReferenceMixOutIdeal.τ).loc Cert.ReferenceMixOutIdeal.main_arg10))
      ∧ r.2.sem = fun _ => 0)

def quiescent_KernelS5Prep [hKernelS5Prep : Cert.KernelS5Prep.Facts] : Prop :=
  ∀ (m : (ℓ : Loc Cert.KernelS5Prep.nD Cert.KernelS5Prep.τ Cert.KernelS5Prep.sig) → Buf (Elt Bits) ℓ) (g : Dev Cert.KernelS5Prep.nD → PrngReg), Pre_KernelS5Prep m →
    θ_run (Cert.KernelS5Prep.defs (F := Bits)) (onTc (τ := Cert.KernelS5Prep.τ) (Cert.KernelS5Prep.main (F := Bits))) ⟨m, fun _ => 0, g⟩ (fun r => (∀ c : Dev Cert.KernelS5Prep.nD,
      r.2.mem ((c.tc : Thread Cert.KernelS5Prep.nD Cert.KernelS5Prep.τ).loc Cert.KernelS5Prep.main_arg0) = m ((c.tc : Thread Cert.KernelS5Prep.nD Cert.KernelS5Prep.τ).loc Cert.KernelS5Prep.main_arg0)
      ∧ r.2.mem ((c.tc : Thread Cert.KernelS5Prep.nD Cert.KernelS5Prep.τ).loc Cert.KernelS5Prep.main_arg1) = m ((c.tc : Thread Cert.KernelS5Prep.nD Cert.KernelS5Prep.τ).loc Cert.KernelS5Prep.main_arg1)
      ∧ r.2.mem ((c.tc : Thread Cert.KernelS5Prep.nD Cert.KernelS5Prep.τ).loc Cert.KernelS5Prep.main_arg2) = m ((c.tc : Thread Cert.KernelS5Prep.nD Cert.KernelS5Prep.τ).loc Cert.KernelS5Prep.main_arg2)
      ∧ r.2.mem ((c.tc : Thread Cert.KernelS5Prep.nD Cert.KernelS5Prep.τ).loc Cert.KernelS5Prep.main_arg3) = m ((c.tc : Thread Cert.KernelS5Prep.nD Cert.KernelS5Prep.τ).loc Cert.KernelS5Prep.main_arg3)
      ∧ r.2.mem ((c.tc : Thread Cert.KernelS5Prep.nD Cert.KernelS5Prep.τ).loc Cert.KernelS5Prep.main_arg4) = m ((c.tc : Thread Cert.KernelS5Prep.nD Cert.KernelS5Prep.τ).loc Cert.KernelS5Prep.main_arg4)
      ∧ r.2.mem ((c.tc : Thread Cert.KernelS5Prep.nD Cert.KernelS5Prep.τ).loc Cert.KernelS5Prep.main_arg5) = m ((c.tc : Thread Cert.KernelS5Prep.nD Cert.KernelS5Prep.τ).loc Cert.KernelS5Prep.main_arg5)
      ∧ r.2.mem ((c.tc : Thread Cert.KernelS5Prep.nD Cert.KernelS5Prep.τ).loc Cert.KernelS5Prep.main_arg6) = m ((c.tc : Thread Cert.KernelS5Prep.nD Cert.KernelS5Prep.τ).loc Cert.KernelS5Prep.main_arg6)
      ∧ r.2.mem ((c.tc : Thread Cert.KernelS5Prep.nD Cert.KernelS5Prep.τ).loc Cert.KernelS5Prep.main_arg7) = m ((c.tc : Thread Cert.KernelS5Prep.nD Cert.KernelS5Prep.τ).loc Cert.KernelS5Prep.main_arg7)
      ∧ r.2.mem ((c.tc : Thread Cert.KernelS5Prep.nD Cert.KernelS5Prep.τ).loc Cert.KernelS5Prep.main_arg8) = m ((c.tc : Thread Cert.KernelS5Prep.nD Cert.KernelS5Prep.τ).loc Cert.KernelS5Prep.main_arg8))
      ∧ r.2.sem = fun _ => 0)

def quiescent_KernelS5PrepIdeal [hKernelS5PrepIdeal : Cert.KernelS5PrepIdeal.Facts] : Prop :=
  ∀ (m : (ℓ : Loc Cert.KernelS5PrepIdeal.nD Cert.KernelS5PrepIdeal.τ Cert.KernelS5PrepIdeal.sig) → Buf (Elt Ideal) ℓ) (g : Dev Cert.KernelS5PrepIdeal.nD → PrngReg), Pre_KernelS5PrepIdeal m →
    θ_run (Cert.KernelS5PrepIdeal.defs (F := Ideal)) (onTc (τ := Cert.KernelS5PrepIdeal.τ) (Cert.KernelS5PrepIdeal.main (F := Ideal))) ⟨m, fun _ => 0, g⟩ (fun r => (∀ c : Dev Cert.KernelS5PrepIdeal.nD,
      r.2.mem ((c.tc : Thread Cert.KernelS5PrepIdeal.nD Cert.KernelS5PrepIdeal.τ).loc Cert.KernelS5PrepIdeal.main_arg0) = m ((c.tc : Thread Cert.KernelS5PrepIdeal.nD Cert.KernelS5PrepIdeal.τ).loc Cert.KernelS5PrepIdeal.main_arg0)
      ∧ r.2.mem ((c.tc : Thread Cert.KernelS5PrepIdeal.nD Cert.KernelS5PrepIdeal.τ).loc Cert.KernelS5PrepIdeal.main_arg1) = m ((c.tc : Thread Cert.KernelS5PrepIdeal.nD Cert.KernelS5PrepIdeal.τ).loc Cert.KernelS5PrepIdeal.main_arg1)
      ∧ r.2.mem ((c.tc : Thread Cert.KernelS5PrepIdeal.nD Cert.KernelS5PrepIdeal.τ).loc Cert.KernelS5PrepIdeal.main_arg2) = m ((c.tc : Thread Cert.KernelS5PrepIdeal.nD Cert.KernelS5PrepIdeal.τ).loc Cert.KernelS5PrepIdeal.main_arg2)
      ∧ r.2.mem ((c.tc : Thread Cert.KernelS5PrepIdeal.nD Cert.KernelS5PrepIdeal.τ).loc Cert.KernelS5PrepIdeal.main_arg3) = m ((c.tc : Thread Cert.KernelS5PrepIdeal.nD Cert.KernelS5PrepIdeal.τ).loc Cert.KernelS5PrepIdeal.main_arg3)
      ∧ r.2.mem ((c.tc : Thread Cert.KernelS5PrepIdeal.nD Cert.KernelS5PrepIdeal.τ).loc Cert.KernelS5PrepIdeal.main_arg4) = m ((c.tc : Thread Cert.KernelS5PrepIdeal.nD Cert.KernelS5PrepIdeal.τ).loc Cert.KernelS5PrepIdeal.main_arg4)
      ∧ r.2.mem ((c.tc : Thread Cert.KernelS5PrepIdeal.nD Cert.KernelS5PrepIdeal.τ).loc Cert.KernelS5PrepIdeal.main_arg5) = m ((c.tc : Thread Cert.KernelS5PrepIdeal.nD Cert.KernelS5PrepIdeal.τ).loc Cert.KernelS5PrepIdeal.main_arg5)
      ∧ r.2.mem ((c.tc : Thread Cert.KernelS5PrepIdeal.nD Cert.KernelS5PrepIdeal.τ).loc Cert.KernelS5PrepIdeal.main_arg6) = m ((c.tc : Thread Cert.KernelS5PrepIdeal.nD Cert.KernelS5PrepIdeal.τ).loc Cert.KernelS5PrepIdeal.main_arg6)
      ∧ r.2.mem ((c.tc : Thread Cert.KernelS5PrepIdeal.nD Cert.KernelS5PrepIdeal.τ).loc Cert.KernelS5PrepIdeal.main_arg7) = m ((c.tc : Thread Cert.KernelS5PrepIdeal.nD Cert.KernelS5PrepIdeal.τ).loc Cert.KernelS5PrepIdeal.main_arg7)
      ∧ r.2.mem ((c.tc : Thread Cert.KernelS5PrepIdeal.nD Cert.KernelS5PrepIdeal.τ).loc Cert.KernelS5PrepIdeal.main_arg8) = m ((c.tc : Thread Cert.KernelS5PrepIdeal.nD Cert.KernelS5PrepIdeal.τ).loc Cert.KernelS5PrepIdeal.main_arg8))
      ∧ r.2.sem = fun _ => 0)

def quiescent_ReferenceS5PrepIdeal [hReferenceS5PrepIdeal : Cert.ReferenceS5PrepIdeal.Facts] : Prop :=
  ∀ (m : (ℓ : Loc Cert.ReferenceS5PrepIdeal.nD Cert.ReferenceS5PrepIdeal.τ Cert.ReferenceS5PrepIdeal.sig) → Buf (Elt Ideal) ℓ) (g : Dev Cert.ReferenceS5PrepIdeal.nD → PrngReg), Pre_ReferenceS5PrepIdeal m →
    θ_run (Cert.ReferenceS5PrepIdeal.defs (F := Ideal)) (onTc (τ := Cert.ReferenceS5PrepIdeal.τ) (Cert.ReferenceS5PrepIdeal.main (F := Ideal))) ⟨m, fun _ => 0, g⟩ (fun r => (∀ c : Dev Cert.ReferenceS5PrepIdeal.nD,
      r.2.mem ((c.tc : Thread Cert.ReferenceS5PrepIdeal.nD Cert.ReferenceS5PrepIdeal.τ).loc Cert.ReferenceS5PrepIdeal.main_arg0) = m ((c.tc : Thread Cert.ReferenceS5PrepIdeal.nD Cert.ReferenceS5PrepIdeal.τ).loc Cert.ReferenceS5PrepIdeal.main_arg0)
      ∧ r.2.mem ((c.tc : Thread Cert.ReferenceS5PrepIdeal.nD Cert.ReferenceS5PrepIdeal.τ).loc Cert.ReferenceS5PrepIdeal.main_arg1) = m ((c.tc : Thread Cert.ReferenceS5PrepIdeal.nD Cert.ReferenceS5PrepIdeal.τ).loc Cert.ReferenceS5PrepIdeal.main_arg1)
      ∧ r.2.mem ((c.tc : Thread Cert.ReferenceS5PrepIdeal.nD Cert.ReferenceS5PrepIdeal.τ).loc Cert.ReferenceS5PrepIdeal.main_arg2) = m ((c.tc : Thread Cert.ReferenceS5PrepIdeal.nD Cert.ReferenceS5PrepIdeal.τ).loc Cert.ReferenceS5PrepIdeal.main_arg2)
      ∧ r.2.mem ((c.tc : Thread Cert.ReferenceS5PrepIdeal.nD Cert.ReferenceS5PrepIdeal.τ).loc Cert.ReferenceS5PrepIdeal.main_arg3) = m ((c.tc : Thread Cert.ReferenceS5PrepIdeal.nD Cert.ReferenceS5PrepIdeal.τ).loc Cert.ReferenceS5PrepIdeal.main_arg3)
      ∧ r.2.mem ((c.tc : Thread Cert.ReferenceS5PrepIdeal.nD Cert.ReferenceS5PrepIdeal.τ).loc Cert.ReferenceS5PrepIdeal.main_arg4) = m ((c.tc : Thread Cert.ReferenceS5PrepIdeal.nD Cert.ReferenceS5PrepIdeal.τ).loc Cert.ReferenceS5PrepIdeal.main_arg4)
      ∧ r.2.mem ((c.tc : Thread Cert.ReferenceS5PrepIdeal.nD Cert.ReferenceS5PrepIdeal.τ).loc Cert.ReferenceS5PrepIdeal.main_arg5) = m ((c.tc : Thread Cert.ReferenceS5PrepIdeal.nD Cert.ReferenceS5PrepIdeal.τ).loc Cert.ReferenceS5PrepIdeal.main_arg5)
      ∧ r.2.mem ((c.tc : Thread Cert.ReferenceS5PrepIdeal.nD Cert.ReferenceS5PrepIdeal.τ).loc Cert.ReferenceS5PrepIdeal.main_arg6) = m ((c.tc : Thread Cert.ReferenceS5PrepIdeal.nD Cert.ReferenceS5PrepIdeal.τ).loc Cert.ReferenceS5PrepIdeal.main_arg6)
      ∧ r.2.mem ((c.tc : Thread Cert.ReferenceS5PrepIdeal.nD Cert.ReferenceS5PrepIdeal.τ).loc Cert.ReferenceS5PrepIdeal.main_arg7) = m ((c.tc : Thread Cert.ReferenceS5PrepIdeal.nD Cert.ReferenceS5PrepIdeal.τ).loc Cert.ReferenceS5PrepIdeal.main_arg7)
      ∧ r.2.mem ((c.tc : Thread Cert.ReferenceS5PrepIdeal.nD Cert.ReferenceS5PrepIdeal.τ).loc Cert.ReferenceS5PrepIdeal.main_arg8) = m ((c.tc : Thread Cert.ReferenceS5PrepIdeal.nD Cert.ReferenceS5PrepIdeal.τ).loc Cert.ReferenceS5PrepIdeal.main_arg8))
      ∧ r.2.sem = fun _ => 0)

def quiescent_KernelMixOutFwd [hKernelMixOutFwd : Cert.KernelMixOutFwd.Facts] : Prop :=
  ∀ (m : (ℓ : Loc Cert.KernelMixOutFwd.nD Cert.KernelMixOutFwd.τ Cert.KernelMixOutFwd.sig) → Buf (Elt Bits) ℓ) (g : Dev Cert.KernelMixOutFwd.nD → PrngReg), Pre_KernelMixOutFwd m →
    θ_run (Cert.KernelMixOutFwd.defs (F := Bits)) (onTc (τ := Cert.KernelMixOutFwd.τ) (Cert.KernelMixOutFwd.main (F := Bits))) ⟨m, fun _ => 0, g⟩ (fun r => (∀ c : Dev Cert.KernelMixOutFwd.nD,
      r.2.mem ((c.tc : Thread Cert.KernelMixOutFwd.nD Cert.KernelMixOutFwd.τ).loc Cert.KernelMixOutFwd.main_arg0) = m ((c.tc : Thread Cert.KernelMixOutFwd.nD Cert.KernelMixOutFwd.τ).loc Cert.KernelMixOutFwd.main_arg0)
      ∧ r.2.mem ((c.tc : Thread Cert.KernelMixOutFwd.nD Cert.KernelMixOutFwd.τ).loc Cert.KernelMixOutFwd.main_arg1) = m ((c.tc : Thread Cert.KernelMixOutFwd.nD Cert.KernelMixOutFwd.τ).loc Cert.KernelMixOutFwd.main_arg1)
      ∧ r.2.mem ((c.tc : Thread Cert.KernelMixOutFwd.nD Cert.KernelMixOutFwd.τ).loc Cert.KernelMixOutFwd.main_arg2) = m ((c.tc : Thread Cert.KernelMixOutFwd.nD Cert.KernelMixOutFwd.τ).loc Cert.KernelMixOutFwd.main_arg2)
      ∧ r.2.mem ((c.tc : Thread Cert.KernelMixOutFwd.nD Cert.KernelMixOutFwd.τ).loc Cert.KernelMixOutFwd.main_arg3) = m ((c.tc : Thread Cert.KernelMixOutFwd.nD Cert.KernelMixOutFwd.τ).loc Cert.KernelMixOutFwd.main_arg3)
      ∧ r.2.mem ((c.tc : Thread Cert.KernelMixOutFwd.nD Cert.KernelMixOutFwd.τ).loc Cert.KernelMixOutFwd.main_arg4) = m ((c.tc : Thread Cert.KernelMixOutFwd.nD Cert.KernelMixOutFwd.τ).loc Cert.KernelMixOutFwd.main_arg4)
      ∧ r.2.mem ((c.tc : Thread Cert.KernelMixOutFwd.nD Cert.KernelMixOutFwd.τ).loc Cert.KernelMixOutFwd.main_arg5) = m ((c.tc : Thread Cert.KernelMixOutFwd.nD Cert.KernelMixOutFwd.τ).loc Cert.KernelMixOutFwd.main_arg5)
      ∧ r.2.mem ((c.tc : Thread Cert.KernelMixOutFwd.nD Cert.KernelMixOutFwd.τ).loc Cert.KernelMixOutFwd.main_arg6) = m ((c.tc : Thread Cert.KernelMixOutFwd.nD Cert.KernelMixOutFwd.τ).loc Cert.KernelMixOutFwd.main_arg6)
      ∧ r.2.mem ((c.tc : Thread Cert.KernelMixOutFwd.nD Cert.KernelMixOutFwd.τ).loc Cert.KernelMixOutFwd.main_arg7) = m ((c.tc : Thread Cert.KernelMixOutFwd.nD Cert.KernelMixOutFwd.τ).loc Cert.KernelMixOutFwd.main_arg7)
      ∧ r.2.mem ((c.tc : Thread Cert.KernelMixOutFwd.nD Cert.KernelMixOutFwd.τ).loc Cert.KernelMixOutFwd.main_arg8) = m ((c.tc : Thread Cert.KernelMixOutFwd.nD Cert.KernelMixOutFwd.τ).loc Cert.KernelMixOutFwd.main_arg8)
      ∧ r.2.mem ((c.tc : Thread Cert.KernelMixOutFwd.nD Cert.KernelMixOutFwd.τ).loc Cert.KernelMixOutFwd.main_arg9) = m ((c.tc : Thread Cert.KernelMixOutFwd.nD Cert.KernelMixOutFwd.τ).loc Cert.KernelMixOutFwd.main_arg9)
      ∧ r.2.mem ((c.tc : Thread Cert.KernelMixOutFwd.nD Cert.KernelMixOutFwd.τ).loc Cert.KernelMixOutFwd.main_arg10) = m ((c.tc : Thread Cert.KernelMixOutFwd.nD Cert.KernelMixOutFwd.τ).loc Cert.KernelMixOutFwd.main_arg10))
      ∧ r.2.sem = fun _ => 0)

def quiescent_KernelMixOutFwdIdeal [hKernelMixOutFwdIdeal : Cert.KernelMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg), Pre_KernelMixOutFwdIdeal m →
    θ_run (Cert.KernelMixOutFwdIdeal.defs (F := Ideal)) (onTc (τ := Cert.KernelMixOutFwdIdeal.τ) (Cert.KernelMixOutFwdIdeal.main (F := Ideal))) ⟨m, fun _ => 0, g⟩ (fun r => (∀ c : Dev Cert.KernelMixOutFwdIdeal.nD,
      r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
      ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
      ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
      ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
      ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4)
      ∧ r.2.mem ((c.tc : Thread Cert.KernelMixOutFwdIdeal.nD Cert.KernelMixOutFwdIdeal.τ).loc Cert.KernelMixOutFwdIdeal.main_arg5) = m ((c.tc : Thread Cert.KernelMixOutFwdIdeal.nD Cert.KernelMixOutFwdIdeal.τ).loc Cert.KernelMixOutFwdIdeal.main_arg5)
      ∧ r.2.mem ((c.tc : Thread Cert.KernelMixOutFwdIdeal.nD Cert.KernelMixOutFwdIdeal.τ).loc Cert.KernelMixOutFwdIdeal.main_arg6) = m ((c.tc : Thread Cert.KernelMixOutFwdIdeal.nD Cert.KernelMixOutFwdIdeal.τ).loc Cert.KernelMixOutFwdIdeal.main_arg6)
      ∧ r.2.mem ((c.tc : Thread Cert.KernelMixOutFwdIdeal.nD Cert.KernelMixOutFwdIdeal.τ).loc Cert.KernelMixOutFwdIdeal.main_arg7) = m ((c.tc : Thread Cert.KernelMixOutFwdIdeal.nD Cert.KernelMixOutFwdIdeal.τ).loc Cert.KernelMixOutFwdIdeal.main_arg7)
      ∧ r.2.mem ((c.tc : Thread Cert.KernelMixOutFwdIdeal.nD Cert.KernelMixOutFwdIdeal.τ).loc Cert.KernelMixOutFwdIdeal.main_arg8) = m ((c.tc : Thread Cert.KernelMixOutFwdIdeal.nD Cert.KernelMixOutFwdIdeal.τ).loc Cert.KernelMixOutFwdIdeal.main_arg8)
      ∧ r.2.mem ((c.tc : Thread Cert.KernelMixOutFwdIdeal.nD Cert.KernelMixOutFwdIdeal.τ).loc Cert.KernelMixOutFwdIdeal.main_arg9) = m ((c.tc : Thread Cert.KernelMixOutFwdIdeal.nD Cert.KernelMixOutFwdIdeal.τ).loc Cert.KernelMixOutFwdIdeal.main_arg9)
      ∧ r.2.mem ((c.tc : Thread Cert.KernelMixOutFwdIdeal.nD Cert.KernelMixOutFwdIdeal.τ).loc Cert.KernelMixOutFwdIdeal.main_arg10) = m ((c.tc : Thread Cert.KernelMixOutFwdIdeal.nD Cert.KernelMixOutFwdIdeal.τ).loc Cert.KernelMixOutFwdIdeal.main_arg10))
      ∧ r.2.sem = fun _ => 0)

def quiescent_ReferenceMixOutFwdIdeal [hReferenceMixOutFwdIdeal : Cert.ReferenceMixOutFwdIdeal.Facts] : Prop :=
  ∀ (m : (ℓ : Loc Cert.ReferenceMixOutFwdIdeal.nD Cert.ReferenceMixOutFwdIdeal.τ Cert.ReferenceMixOutFwdIdeal.sig) → Buf (Elt Ideal) ℓ) (g : Dev Cert.ReferenceMixOutFwdIdeal.nD → PrngReg), Pre_ReferenceMixOutFwdIdeal m →
    θ_run (Cert.ReferenceMixOutFwdIdeal.defs (F := Ideal)) (onTc (τ := Cert.ReferenceMixOutFwdIdeal.τ) (Cert.ReferenceMixOutFwdIdeal.main (F := Ideal))) ⟨m, fun _ => 0, g⟩ (fun r => (∀ c : Dev Cert.ReferenceMixOutFwdIdeal.nD,
      r.2.mem ((c.tc : Thread Cert.ReferenceMixOutFwdIdeal.nD Cert.ReferenceMixOutFwdIdeal.τ).loc Cert.ReferenceMixOutFwdIdeal.main_arg0) = m ((c.tc : Thread Cert.ReferenceMixOutFwdIdeal.nD Cert.ReferenceMixOutFwdIdeal.τ).loc Cert.ReferenceMixOutFwdIdeal.main_arg0)
      ∧ r.2.mem ((c.tc : Thread Cert.ReferenceMixOutFwdIdeal.nD Cert.ReferenceMixOutFwdIdeal.τ).loc Cert.ReferenceMixOutFwdIdeal.main_arg1) = m ((c.tc : Thread Cert.ReferenceMixOutFwdIdeal.nD Cert.ReferenceMixOutFwdIdeal.τ).loc Cert.ReferenceMixOutFwdIdeal.main_arg1)
      ∧ r.2.mem ((c.tc : Thread Cert.ReferenceMixOutFwdIdeal.nD Cert.ReferenceMixOutFwdIdeal.τ).loc Cert.ReferenceMixOutFwdIdeal.main_arg2) = m ((c.tc : Thread Cert.ReferenceMixOutFwdIdeal.nD Cert.ReferenceMixOutFwdIdeal.τ).loc Cert.ReferenceMixOutFwdIdeal.main_arg2)
      ∧ r.2.mem ((c.tc : Thread Cert.ReferenceMixOutFwdIdeal.nD Cert.ReferenceMixOutFwdIdeal.τ).loc Cert.ReferenceMixOutFwdIdeal.main_arg3) = m ((c.tc : Thread Cert.ReferenceMixOutFwdIdeal.nD Cert.ReferenceMixOutFwdIdeal.τ).loc Cert.ReferenceMixOutFwdIdeal.main_arg3)
      ∧ r.2.mem ((c.tc : Thread Cert.ReferenceMixOutFwdIdeal.nD Cert.ReferenceMixOutFwdIdeal.τ).loc Cert.ReferenceMixOutFwdIdeal.main_arg4) = m ((c.tc : Thread Cert.ReferenceMixOutFwdIdeal.nD Cert.ReferenceMixOutFwdIdeal.τ).loc Cert.ReferenceMixOutFwdIdeal.main_arg4)
      ∧ r.2.mem ((c.tc : Thread Cert.ReferenceMixOutFwdIdeal.nD Cert.ReferenceMixOutFwdIdeal.τ).loc Cert.ReferenceMixOutFwdIdeal.main_arg5) = m ((c.tc : Thread Cert.ReferenceMixOutFwdIdeal.nD Cert.ReferenceMixOutFwdIdeal.τ).loc Cert.ReferenceMixOutFwdIdeal.main_arg5)
      ∧ r.2.mem ((c.tc : Thread Cert.ReferenceMixOutFwdIdeal.nD Cert.ReferenceMixOutFwdIdeal.τ).loc Cert.ReferenceMixOutFwdIdeal.main_arg6) = m ((c.tc : Thread Cert.ReferenceMixOutFwdIdeal.nD Cert.ReferenceMixOutFwdIdeal.τ).loc Cert.ReferenceMixOutFwdIdeal.main_arg6)
      ∧ r.2.mem ((c.tc : Thread Cert.ReferenceMixOutFwdIdeal.nD Cert.ReferenceMixOutFwdIdeal.τ).loc Cert.ReferenceMixOutFwdIdeal.main_arg7) = m ((c.tc : Thread Cert.ReferenceMixOutFwdIdeal.nD Cert.ReferenceMixOutFwdIdeal.τ).loc Cert.ReferenceMixOutFwdIdeal.main_arg7)
      ∧ r.2.mem ((c.tc : Thread Cert.ReferenceMixOutFwdIdeal.nD Cert.ReferenceMixOutFwdIdeal.τ).loc Cert.ReferenceMixOutFwdIdeal.main_arg8) = m ((c.tc : Thread Cert.ReferenceMixOutFwdIdeal.nD Cert.ReferenceMixOutFwdIdeal.τ).loc Cert.ReferenceMixOutFwdIdeal.main_arg8)
      ∧ r.2.mem ((c.tc : Thread Cert.ReferenceMixOutFwdIdeal.nD Cert.ReferenceMixOutFwdIdeal.τ).loc Cert.ReferenceMixOutFwdIdeal.main_arg9) = m ((c.tc : Thread Cert.ReferenceMixOutFwdIdeal.nD Cert.ReferenceMixOutFwdIdeal.τ).loc Cert.ReferenceMixOutFwdIdeal.main_arg9)
      ∧ r.2.mem ((c.tc : Thread Cert.ReferenceMixOutFwdIdeal.nD Cert.ReferenceMixOutFwdIdeal.τ).loc Cert.ReferenceMixOutFwdIdeal.main_arg10) = m ((c.tc : Thread Cert.ReferenceMixOutFwdIdeal.nD Cert.ReferenceMixOutFwdIdeal.τ).loc Cert.ReferenceMixOutFwdIdeal.main_arg10))
      ∧ r.2.sem = fun _ => 0)

def quiescent_KernelDnDecay [hKernelDnDecay : Cert.KernelDnDecay.Facts] : Prop :=
  ∀ (m : (ℓ : Loc Cert.KernelDnDecay.nD Cert.KernelDnDecay.τ Cert.KernelDnDecay.sig) → Buf (Elt Bits) ℓ) (g : Dev Cert.KernelDnDecay.nD → PrngReg), Pre_KernelDnDecay m →
    θ_run (Cert.KernelDnDecay.defs (F := Bits)) (onTc (τ := Cert.KernelDnDecay.τ) (Cert.KernelDnDecay.main (F := Bits))) ⟨m, fun _ => 0, g⟩ (fun r => (∀ c : Dev Cert.KernelDnDecay.nD,
      r.2.mem ((c.tc : Thread Cert.KernelDnDecay.nD Cert.KernelDnDecay.τ).loc Cert.KernelDnDecay.main_arg0) = m ((c.tc : Thread Cert.KernelDnDecay.nD Cert.KernelDnDecay.τ).loc Cert.KernelDnDecay.main_arg0)
      ∧ r.2.mem ((c.tc : Thread Cert.KernelDnDecay.nD Cert.KernelDnDecay.τ).loc Cert.KernelDnDecay.main_arg1) = m ((c.tc : Thread Cert.KernelDnDecay.nD Cert.KernelDnDecay.τ).loc Cert.KernelDnDecay.main_arg1)
      ∧ r.2.mem ((c.tc : Thread Cert.KernelDnDecay.nD Cert.KernelDnDecay.τ).loc Cert.KernelDnDecay.main_arg2) = m ((c.tc : Thread Cert.KernelDnDecay.nD Cert.KernelDnDecay.τ).loc Cert.KernelDnDecay.main_arg2)
      ∧ r.2.mem ((c.tc : Thread Cert.KernelDnDecay.nD Cert.KernelDnDecay.τ).loc Cert.KernelDnDecay.main_arg3) = m ((c.tc : Thread Cert.KernelDnDecay.nD Cert.KernelDnDecay.τ).loc Cert.KernelDnDecay.main_arg3)
      ∧ r.2.mem ((c.tc : Thread Cert.KernelDnDecay.nD Cert.KernelDnDecay.τ).loc Cert.KernelDnDecay.main_arg4) = m ((c.tc : Thread Cert.KernelDnDecay.nD Cert.KernelDnDecay.τ).loc Cert.KernelDnDecay.main_arg4)
      ∧ r.2.mem ((c.tc : Thread Cert.KernelDnDecay.nD Cert.KernelDnDecay.τ).loc Cert.KernelDnDecay.main_arg5) = m ((c.tc : Thread Cert.KernelDnDecay.nD Cert.KernelDnDecay.τ).loc Cert.KernelDnDecay.main_arg5)
      ∧ r.2.mem ((c.tc : Thread Cert.KernelDnDecay.nD Cert.KernelDnDecay.τ).loc Cert.KernelDnDecay.main_arg6) = m ((c.tc : Thread Cert.KernelDnDecay.nD Cert.KernelDnDecay.τ).loc Cert.KernelDnDecay.main_arg6)
      ∧ r.2.mem ((c.tc : Thread Cert.KernelDnDecay.nD Cert.KernelDnDecay.τ).loc Cert.KernelDnDecay.main_arg7) = m ((c.tc : Thread Cert.KernelDnDecay.nD Cert.KernelDnDecay.τ).loc Cert.KernelDnDecay.main_arg7)
      ∧ r.2.mem ((c.tc : Thread Cert.KernelDnDecay.nD Cert.KernelDnDecay.τ).loc Cert.KernelDnDecay.main_arg8) = m ((c.tc : Thread Cert.KernelDnDecay.nD Cert.KernelDnDecay.τ).loc Cert.KernelDnDecay.main_arg8)
      ∧ r.2.mem ((c.tc : Thread Cert.KernelDnDecay.nD Cert.KernelDnDecay.τ).loc Cert.KernelDnDecay.main_arg9) = m ((c.tc : Thread Cert.KernelDnDecay.nD Cert.KernelDnDecay.τ).loc Cert.KernelDnDecay.main_arg9)
      ∧ r.2.mem ((c.tc : Thread Cert.KernelDnDecay.nD Cert.KernelDnDecay.τ).loc Cert.KernelDnDecay.main_arg10) = m ((c.tc : Thread Cert.KernelDnDecay.nD Cert.KernelDnDecay.τ).loc Cert.KernelDnDecay.main_arg10))
      ∧ r.2.sem = fun _ => 0)

def quiescent_KernelDnDecayIdeal [hKernelDnDecayIdeal : Cert.KernelDnDecayIdeal.Facts] : Prop :=
  ∀ (m : (ℓ : Loc Cert.KernelDnDecayIdeal.nD Cert.KernelDnDecayIdeal.τ Cert.KernelDnDecayIdeal.sig) → Buf (Elt Ideal) ℓ) (g : Dev Cert.KernelDnDecayIdeal.nD → PrngReg), Pre_KernelDnDecayIdeal m →
    θ_run (Cert.KernelDnDecayIdeal.defs (F := Ideal)) (onTc (τ := Cert.KernelDnDecayIdeal.τ) (Cert.KernelDnDecayIdeal.main (F := Ideal))) ⟨m, fun _ => 0, g⟩ (fun r => (∀ c : Dev Cert.KernelDnDecayIdeal.nD,
      r.2.mem ((c.tc : Thread Cert.KernelDnDecayIdeal.nD Cert.KernelDnDecayIdeal.τ).loc Cert.KernelDnDecayIdeal.main_arg0) = m ((c.tc : Thread Cert.KernelDnDecayIdeal.nD Cert.KernelDnDecayIdeal.τ).loc Cert.KernelDnDecayIdeal.main_arg0)
      ∧ r.2.mem ((c.tc : Thread Cert.KernelDnDecayIdeal.nD Cert.KernelDnDecayIdeal.τ).loc Cert.KernelDnDecayIdeal.main_arg1) = m ((c.tc : Thread Cert.KernelDnDecayIdeal.nD Cert.KernelDnDecayIdeal.τ).loc Cert.KernelDnDecayIdeal.main_arg1)
      ∧ r.2.mem ((c.tc : Thread Cert.KernelDnDecayIdeal.nD Cert.KernelDnDecayIdeal.τ).loc Cert.KernelDnDecayIdeal.main_arg2) = m ((c.tc : Thread Cert.KernelDnDecayIdeal.nD Cert.KernelDnDecayIdeal.τ).loc Cert.KernelDnDecayIdeal.main_arg2)
      ∧ r.2.mem ((c.tc : Thread Cert.KernelDnDecayIdeal.nD Cert.KernelDnDecayIdeal.τ).loc Cert.KernelDnDecayIdeal.main_arg3) = m ((c.tc : Thread Cert.KernelDnDecayIdeal.nD Cert.KernelDnDecayIdeal.τ).loc Cert.KernelDnDecayIdeal.main_arg3)
      ∧ r.2.mem ((c.tc : Thread Cert.KernelDnDecayIdeal.nD Cert.KernelDnDecayIdeal.τ).loc Cert.KernelDnDecayIdeal.main_arg4) = m ((c.tc : Thread Cert.KernelDnDecayIdeal.nD Cert.KernelDnDecayIdeal.τ).loc Cert.KernelDnDecayIdeal.main_arg4)
      ∧ r.2.mem ((c.tc : Thread Cert.KernelDnDecayIdeal.nD Cert.KernelDnDecayIdeal.τ).loc Cert.KernelDnDecayIdeal.main_arg5) = m ((c.tc : Thread Cert.KernelDnDecayIdeal.nD Cert.KernelDnDecayIdeal.τ).loc Cert.KernelDnDecayIdeal.main_arg5)
      ∧ r.2.mem ((c.tc : Thread Cert.KernelDnDecayIdeal.nD Cert.KernelDnDecayIdeal.τ).loc Cert.KernelDnDecayIdeal.main_arg6) = m ((c.tc : Thread Cert.KernelDnDecayIdeal.nD Cert.KernelDnDecayIdeal.τ).loc Cert.KernelDnDecayIdeal.main_arg6)
      ∧ r.2.mem ((c.tc : Thread Cert.KernelDnDecayIdeal.nD Cert.KernelDnDecayIdeal.τ).loc Cert.KernelDnDecayIdeal.main_arg7) = m ((c.tc : Thread Cert.KernelDnDecayIdeal.nD Cert.KernelDnDecayIdeal.τ).loc Cert.KernelDnDecayIdeal.main_arg7)
      ∧ r.2.mem ((c.tc : Thread Cert.KernelDnDecayIdeal.nD Cert.KernelDnDecayIdeal.τ).loc Cert.KernelDnDecayIdeal.main_arg8) = m ((c.tc : Thread Cert.KernelDnDecayIdeal.nD Cert.KernelDnDecayIdeal.τ).loc Cert.KernelDnDecayIdeal.main_arg8)
      ∧ r.2.mem ((c.tc : Thread Cert.KernelDnDecayIdeal.nD Cert.KernelDnDecayIdeal.τ).loc Cert.KernelDnDecayIdeal.main_arg9) = m ((c.tc : Thread Cert.KernelDnDecayIdeal.nD Cert.KernelDnDecayIdeal.τ).loc Cert.KernelDnDecayIdeal.main_arg9)
      ∧ r.2.mem ((c.tc : Thread Cert.KernelDnDecayIdeal.nD Cert.KernelDnDecayIdeal.τ).loc Cert.KernelDnDecayIdeal.main_arg10) = m ((c.tc : Thread Cert.KernelDnDecayIdeal.nD Cert.KernelDnDecayIdeal.τ).loc Cert.KernelDnDecayIdeal.main_arg10))
      ∧ r.2.sem = fun _ => 0)

def quiescent_KernelDnDecayIdeal_pre_away [hKernelDnDecayIdeal : Cert.KernelDnDecayIdeal.Facts] [hPre_away : Cert.Pre_away.Facts] : Prop :=
  ∀ (m : (ℓ : Loc Cert.KernelDnDecayIdeal.nD Cert.KernelDnDecayIdeal.τ Cert.KernelDnDecayIdeal.sig) → Buf (Elt Ideal) ℓ) (g : Dev Cert.KernelDnDecayIdeal.nD → PrngReg), Pre_KernelDnDecayIdeal_away m →
    θ_run (Cert.KernelDnDecayIdeal.defs (F := Ideal)) (onTc (τ := Cert.KernelDnDecayIdeal.τ) (Cert.KernelDnDecayIdeal.main (F := Ideal))) ⟨m, fun _ => 0, g⟩ (fun r => (∀ c : Dev Cert.KernelDnDecayIdeal.nD,
      r.2.mem ((c.tc : Thread Cert.KernelDnDecayIdeal.nD Cert.KernelDnDecayIdeal.τ).loc Cert.KernelDnDecayIdeal.main_arg0) = m ((c.tc : Thread Cert.KernelDnDecayIdeal.nD Cert.KernelDnDecayIdeal.τ).loc Cert.KernelDnDecayIdeal.main_arg0)
      ∧ r.2.mem ((c.tc : Thread Cert.KernelDnDecayIdeal.nD Cert.KernelDnDecayIdeal.τ).loc Cert.KernelDnDecayIdeal.main_arg1) = m ((c.tc : Thread Cert.KernelDnDecayIdeal.nD Cert.KernelDnDecayIdeal.τ).loc Cert.KernelDnDecayIdeal.main_arg1)
      ∧ r.2.mem ((c.tc : Thread Cert.KernelDnDecayIdeal.nD Cert.KernelDnDecayIdeal.τ).loc Cert.KernelDnDecayIdeal.main_arg2) = m ((c.tc : Thread Cert.KernelDnDecayIdeal.nD Cert.KernelDnDecayIdeal.τ).loc Cert.KernelDnDecayIdeal.main_arg2)
      ∧ r.2.mem ((c.tc : Thread Cert.KernelDnDecayIdeal.nD Cert.KernelDnDecayIdeal.τ).loc Cert.KernelDnDecayIdeal.main_arg3) = m ((c.tc : Thread Cert.KernelDnDecayIdeal.nD Cert.KernelDnDecayIdeal.τ).loc Cert.KernelDnDecayIdeal.main_arg3)
      ∧ r.2.mem ((c.tc : Thread Cert.KernelDnDecayIdeal.nD Cert.KernelDnDecayIdeal.τ).loc Cert.KernelDnDecayIdeal.main_arg4) = m ((c.tc : Thread Cert.KernelDnDecayIdeal.nD Cert.KernelDnDecayIdeal.τ).loc Cert.KernelDnDecayIdeal.main_arg4)
      ∧ r.2.mem ((c.tc : Thread Cert.KernelDnDecayIdeal.nD Cert.KernelDnDecayIdeal.τ).loc Cert.KernelDnDecayIdeal.main_arg5) = m ((c.tc : Thread Cert.KernelDnDecayIdeal.nD Cert.KernelDnDecayIdeal.τ).loc Cert.KernelDnDecayIdeal.main_arg5)
      ∧ r.2.mem ((c.tc : Thread Cert.KernelDnDecayIdeal.nD Cert.KernelDnDecayIdeal.τ).loc Cert.KernelDnDecayIdeal.main_arg6) = m ((c.tc : Thread Cert.KernelDnDecayIdeal.nD Cert.KernelDnDecayIdeal.τ).loc Cert.KernelDnDecayIdeal.main_arg6)
      ∧ r.2.mem ((c.tc : Thread Cert.KernelDnDecayIdeal.nD Cert.KernelDnDecayIdeal.τ).loc Cert.KernelDnDecayIdeal.main_arg7) = m ((c.tc : Thread Cert.KernelDnDecayIdeal.nD Cert.KernelDnDecayIdeal.τ).loc Cert.KernelDnDecayIdeal.main_arg7)
      ∧ r.2.mem ((c.tc : Thread Cert.KernelDnDecayIdeal.nD Cert.KernelDnDecayIdeal.τ).loc Cert.KernelDnDecayIdeal.main_arg8) = m ((c.tc : Thread Cert.KernelDnDecayIdeal.nD Cert.KernelDnDecayIdeal.τ).loc Cert.KernelDnDecayIdeal.main_arg8)
      ∧ r.2.mem ((c.tc : Thread Cert.KernelDnDecayIdeal.nD Cert.KernelDnDecayIdeal.τ).loc Cert.KernelDnDecayIdeal.main_arg9) = m ((c.tc : Thread Cert.KernelDnDecayIdeal.nD Cert.KernelDnDecayIdeal.τ).loc Cert.KernelDnDecayIdeal.main_arg9)
      ∧ r.2.mem ((c.tc : Thread Cert.KernelDnDecayIdeal.nD Cert.KernelDnDecayIdeal.τ).loc Cert.KernelDnDecayIdeal.main_arg10) = m ((c.tc : Thread Cert.KernelDnDecayIdeal.nD Cert.KernelDnDecayIdeal.τ).loc Cert.KernelDnDecayIdeal.main_arg10))
      ∧ r.2.sem = fun _ => 0)

def quiescent_ReferenceDnDecayIdeal [hReferenceDnDecayIdeal : Cert.ReferenceDnDecayIdeal.Facts] : Prop :=
  ∀ (m : (ℓ : Loc Cert.ReferenceDnDecayIdeal.nD Cert.ReferenceDnDecayIdeal.τ Cert.ReferenceDnDecayIdeal.sig) → Buf (Elt Ideal) ℓ) (g : Dev Cert.ReferenceDnDecayIdeal.nD → PrngReg), Pre_ReferenceDnDecayIdeal m →
    θ_run (Cert.ReferenceDnDecayIdeal.defs (F := Ideal)) (onTc (τ := Cert.ReferenceDnDecayIdeal.τ) (Cert.ReferenceDnDecayIdeal.main (F := Ideal))) ⟨m, fun _ => 0, g⟩ (fun r => (∀ c : Dev Cert.ReferenceDnDecayIdeal.nD,
      r.2.mem ((c.tc : Thread Cert.ReferenceDnDecayIdeal.nD Cert.ReferenceDnDecayIdeal.τ).loc Cert.ReferenceDnDecayIdeal.main_arg0) = m ((c.tc : Thread Cert.ReferenceDnDecayIdeal.nD Cert.ReferenceDnDecayIdeal.τ).loc Cert.ReferenceDnDecayIdeal.main_arg0)
      ∧ r.2.mem ((c.tc : Thread Cert.ReferenceDnDecayIdeal.nD Cert.ReferenceDnDecayIdeal.τ).loc Cert.ReferenceDnDecayIdeal.main_arg1) = m ((c.tc : Thread Cert.ReferenceDnDecayIdeal.nD Cert.ReferenceDnDecayIdeal.τ).loc Cert.ReferenceDnDecayIdeal.main_arg1)
      ∧ r.2.mem ((c.tc : Thread Cert.ReferenceDnDecayIdeal.nD Cert.ReferenceDnDecayIdeal.τ).loc Cert.ReferenceDnDecayIdeal.main_arg2) = m ((c.tc : Thread Cert.ReferenceDnDecayIdeal.nD Cert.ReferenceDnDecayIdeal.τ).loc Cert.ReferenceDnDecayIdeal.main_arg2)
      ∧ r.2.mem ((c.tc : Thread Cert.ReferenceDnDecayIdeal.nD Cert.ReferenceDnDecayIdeal.τ).loc Cert.ReferenceDnDecayIdeal.main_arg3) = m ((c.tc : Thread Cert.ReferenceDnDecayIdeal.nD Cert.ReferenceDnDecayIdeal.τ).loc Cert.ReferenceDnDecayIdeal.main_arg3)
      ∧ r.2.mem ((c.tc : Thread Cert.ReferenceDnDecayIdeal.nD Cert.ReferenceDnDecayIdeal.τ).loc Cert.ReferenceDnDecayIdeal.main_arg4) = m ((c.tc : Thread Cert.ReferenceDnDecayIdeal.nD Cert.ReferenceDnDecayIdeal.τ).loc Cert.ReferenceDnDecayIdeal.main_arg4)
      ∧ r.2.mem ((c.tc : Thread Cert.ReferenceDnDecayIdeal.nD Cert.ReferenceDnDecayIdeal.τ).loc Cert.ReferenceDnDecayIdeal.main_arg5) = m ((c.tc : Thread Cert.ReferenceDnDecayIdeal.nD Cert.ReferenceDnDecayIdeal.τ).loc Cert.ReferenceDnDecayIdeal.main_arg5)
      ∧ r.2.mem ((c.tc : Thread Cert.ReferenceDnDecayIdeal.nD Cert.ReferenceDnDecayIdeal.τ).loc Cert.ReferenceDnDecayIdeal.main_arg6) = m ((c.tc : Thread Cert.ReferenceDnDecayIdeal.nD Cert.ReferenceDnDecayIdeal.τ).loc Cert.ReferenceDnDecayIdeal.main_arg6)
      ∧ r.2.mem ((c.tc : Thread Cert.ReferenceDnDecayIdeal.nD Cert.ReferenceDnDecayIdeal.τ).loc Cert.ReferenceDnDecayIdeal.main_arg7) = m ((c.tc : Thread Cert.ReferenceDnDecayIdeal.nD Cert.ReferenceDnDecayIdeal.τ).loc Cert.ReferenceDnDecayIdeal.main_arg7)
      ∧ r.2.mem ((c.tc : Thread Cert.ReferenceDnDecayIdeal.nD Cert.ReferenceDnDecayIdeal.τ).loc Cert.ReferenceDnDecayIdeal.main_arg8) = m ((c.tc : Thread Cert.ReferenceDnDecayIdeal.nD Cert.ReferenceDnDecayIdeal.τ).loc Cert.ReferenceDnDecayIdeal.main_arg8)
      ∧ r.2.mem ((c.tc : Thread Cert.ReferenceDnDecayIdeal.nD Cert.ReferenceDnDecayIdeal.τ).loc Cert.ReferenceDnDecayIdeal.main_arg9) = m ((c.tc : Thread Cert.ReferenceDnDecayIdeal.nD Cert.ReferenceDnDecayIdeal.τ).loc Cert.ReferenceDnDecayIdeal.main_arg9)
      ∧ r.2.mem ((c.tc : Thread Cert.ReferenceDnDecayIdeal.nD Cert.ReferenceDnDecayIdeal.τ).loc Cert.ReferenceDnDecayIdeal.main_arg10) = m ((c.tc : Thread Cert.ReferenceDnDecayIdeal.nD Cert.ReferenceDnDecayIdeal.τ).loc Cert.ReferenceDnDecayIdeal.main_arg10))
      ∧ r.2.sem = fun _ => 0)

def quiescent_ReferenceDnDecayIdeal_pre_away [hReferenceDnDecayIdeal : Cert.ReferenceDnDecayIdeal.Facts] [hPre_away : Cert.Pre_away.Facts] : Prop :=
  ∀ (m : (ℓ : Loc Cert.ReferenceDnDecayIdeal.nD Cert.ReferenceDnDecayIdeal.τ Cert.ReferenceDnDecayIdeal.sig) → Buf (Elt Ideal) ℓ) (g : Dev Cert.ReferenceDnDecayIdeal.nD → PrngReg), Pre_ReferenceDnDecayIdeal_away m →
    θ_run (Cert.ReferenceDnDecayIdeal.defs (F := Ideal)) (onTc (τ := Cert.ReferenceDnDecayIdeal.τ) (Cert.ReferenceDnDecayIdeal.main (F := Ideal))) ⟨m, fun _ => 0, g⟩ (fun r => (∀ c : Dev Cert.ReferenceDnDecayIdeal.nD,
      r.2.mem ((c.tc : Thread Cert.ReferenceDnDecayIdeal.nD Cert.ReferenceDnDecayIdeal.τ).loc Cert.ReferenceDnDecayIdeal.main_arg0) = m ((c.tc : Thread Cert.ReferenceDnDecayIdeal.nD Cert.ReferenceDnDecayIdeal.τ).loc Cert.ReferenceDnDecayIdeal.main_arg0)
      ∧ r.2.mem ((c.tc : Thread Cert.ReferenceDnDecayIdeal.nD Cert.ReferenceDnDecayIdeal.τ).loc Cert.ReferenceDnDecayIdeal.main_arg1) = m ((c.tc : Thread Cert.ReferenceDnDecayIdeal.nD Cert.ReferenceDnDecayIdeal.τ).loc Cert.ReferenceDnDecayIdeal.main_arg1)
      ∧ r.2.mem ((c.tc : Thread Cert.ReferenceDnDecayIdeal.nD Cert.ReferenceDnDecayIdeal.τ).loc Cert.ReferenceDnDecayIdeal.main_arg2) = m ((c.tc : Thread Cert.ReferenceDnDecayIdeal.nD Cert.ReferenceDnDecayIdeal.τ).loc Cert.ReferenceDnDecayIdeal.main_arg2)
      ∧ r.2.mem ((c.tc : Thread Cert.ReferenceDnDecayIdeal.nD Cert.ReferenceDnDecayIdeal.τ).loc Cert.ReferenceDnDecayIdeal.main_arg3) = m ((c.tc : Thread Cert.ReferenceDnDecayIdeal.nD Cert.ReferenceDnDecayIdeal.τ).loc Cert.ReferenceDnDecayIdeal.main_arg3)
      ∧ r.2.mem ((c.tc : Thread Cert.ReferenceDnDecayIdeal.nD Cert.ReferenceDnDecayIdeal.τ).loc Cert.ReferenceDnDecayIdeal.main_arg4) = m ((c.tc : Thread Cert.ReferenceDnDecayIdeal.nD Cert.ReferenceDnDecayIdeal.τ).loc Cert.ReferenceDnDecayIdeal.main_arg4)
      ∧ r.2.mem ((c.tc : Thread Cert.ReferenceDnDecayIdeal.nD Cert.ReferenceDnDecayIdeal.τ).loc Cert.ReferenceDnDecayIdeal.main_arg5) = m ((c.tc : Thread Cert.ReferenceDnDecayIdeal.nD Cert.ReferenceDnDecayIdeal.τ).loc Cert.ReferenceDnDecayIdeal.main_arg5)
      ∧ r.2.mem ((c.tc : Thread Cert.ReferenceDnDecayIdeal.nD Cert.ReferenceDnDecayIdeal.τ).loc Cert.ReferenceDnDecayIdeal.main_arg6) = m ((c.tc : Thread Cert.ReferenceDnDecayIdeal.nD Cert.ReferenceDnDecayIdeal.τ).loc Cert.ReferenceDnDecayIdeal.main_arg6)
      ∧ r.2.mem ((c.tc : Thread Cert.ReferenceDnDecayIdeal.nD Cert.ReferenceDnDecayIdeal.τ).loc Cert.ReferenceDnDecayIdeal.main_arg7) = m ((c.tc : Thread Cert.ReferenceDnDecayIdeal.nD Cert.ReferenceDnDecayIdeal.τ).loc Cert.ReferenceDnDecayIdeal.main_arg7)
      ∧ r.2.mem ((c.tc : Thread Cert.ReferenceDnDecayIdeal.nD Cert.ReferenceDnDecayIdeal.τ).loc Cert.ReferenceDnDecayIdeal.main_arg8) = m ((c.tc : Thread Cert.ReferenceDnDecayIdeal.nD Cert.ReferenceDnDecayIdeal.τ).loc Cert.ReferenceDnDecayIdeal.main_arg8)
      ∧ r.2.mem ((c.tc : Thread Cert.ReferenceDnDecayIdeal.nD Cert.ReferenceDnDecayIdeal.τ).loc Cert.ReferenceDnDecayIdeal.main_arg9) = m ((c.tc : Thread Cert.ReferenceDnDecayIdeal.nD Cert.ReferenceDnDecayIdeal.τ).loc Cert.ReferenceDnDecayIdeal.main_arg9)
      ∧ r.2.mem ((c.tc : Thread Cert.ReferenceDnDecayIdeal.nD Cert.ReferenceDnDecayIdeal.τ).loc Cert.ReferenceDnDecayIdeal.main_arg10) = m ((c.tc : Thread Cert.ReferenceDnDecayIdeal.nD Cert.ReferenceDnDecayIdeal.τ).loc Cert.ReferenceDnDecayIdeal.main_arg10))
      ∧ r.2.sem = fun _ => 0)

def quiescent_KernelDnConv [hKernelDnConv : Cert.KernelDnConv.Facts] : Prop :=
  ∀ (m : (ℓ : Loc Cert.KernelDnConv.nD Cert.KernelDnConv.τ Cert.KernelDnConv.sig) → Buf (Elt Bits) ℓ) (g : Dev Cert.KernelDnConv.nD → PrngReg), Pre_KernelDnConv m →
    θ_run (Cert.KernelDnConv.defs (F := Bits)) (onTc (τ := Cert.KernelDnConv.τ) (Cert.KernelDnConv.main (F := Bits))) ⟨m, fun _ => 0, g⟩ (fun r => (∀ c : Dev Cert.KernelDnConv.nD,
      r.2.mem ((c.tc : Thread Cert.KernelDnConv.nD Cert.KernelDnConv.τ).loc Cert.KernelDnConv.main_arg0) = m ((c.tc : Thread Cert.KernelDnConv.nD Cert.KernelDnConv.τ).loc Cert.KernelDnConv.main_arg0)
      ∧ r.2.mem ((c.tc : Thread Cert.KernelDnConv.nD Cert.KernelDnConv.τ).loc Cert.KernelDnConv.main_arg1) = m ((c.tc : Thread Cert.KernelDnConv.nD Cert.KernelDnConv.τ).loc Cert.KernelDnConv.main_arg1)
      ∧ r.2.mem ((c.tc : Thread Cert.KernelDnConv.nD Cert.KernelDnConv.τ).loc Cert.KernelDnConv.main_arg2) = m ((c.tc : Thread Cert.KernelDnConv.nD Cert.KernelDnConv.τ).loc Cert.KernelDnConv.main_arg2)
      ∧ r.2.mem ((c.tc : Thread Cert.KernelDnConv.nD Cert.KernelDnConv.τ).loc Cert.KernelDnConv.main_arg3) = m ((c.tc : Thread Cert.KernelDnConv.nD Cert.KernelDnConv.τ).loc Cert.KernelDnConv.main_arg3)
      ∧ r.2.mem ((c.tc : Thread Cert.KernelDnConv.nD Cert.KernelDnConv.τ).loc Cert.KernelDnConv.main_arg4) = m ((c.tc : Thread Cert.KernelDnConv.nD Cert.KernelDnConv.τ).loc Cert.KernelDnConv.main_arg4)
      ∧ r.2.mem ((c.tc : Thread Cert.KernelDnConv.nD Cert.KernelDnConv.τ).loc Cert.KernelDnConv.main_arg5) = m ((c.tc : Thread Cert.KernelDnConv.nD Cert.KernelDnConv.τ).loc Cert.KernelDnConv.main_arg5)
      ∧ r.2.mem ((c.tc : Thread Cert.KernelDnConv.nD Cert.KernelDnConv.τ).loc Cert.KernelDnConv.main_arg6) = m ((c.tc : Thread Cert.KernelDnConv.nD Cert.KernelDnConv.τ).loc Cert.KernelDnConv.main_arg6)
      ∧ r.2.mem ((c.tc : Thread Cert.KernelDnConv.nD Cert.KernelDnConv.τ).loc Cert.KernelDnConv.main_arg7) = m ((c.tc : Thread Cert.KernelDnConv.nD Cert.KernelDnConv.τ).loc Cert.KernelDnConv.main_arg7)
      ∧ r.2.mem ((c.tc : Thread Cert.KernelDnConv.nD Cert.KernelDnConv.τ).loc Cert.KernelDnConv.main_arg8) = m ((c.tc : Thread Cert.KernelDnConv.nD Cert.KernelDnConv.τ).loc Cert.KernelDnConv.main_arg8)
      ∧ r.2.mem ((c.tc : Thread Cert.KernelDnConv.nD Cert.KernelDnConv.τ).loc Cert.KernelDnConv.main_arg9) = m ((c.tc : Thread Cert.KernelDnConv.nD Cert.KernelDnConv.τ).loc Cert.KernelDnConv.main_arg9)
      ∧ r.2.mem ((c.tc : Thread Cert.KernelDnConv.nD Cert.KernelDnConv.τ).loc Cert.KernelDnConv.main_arg10) = m ((c.tc : Thread Cert.KernelDnConv.nD Cert.KernelDnConv.τ).loc Cert.KernelDnConv.main_arg10))
      ∧ r.2.sem = fun _ => 0)

def quiescent_KernelDnConvIdeal [hKernelDnConvIdeal : Cert.KernelDnConvIdeal.Facts] : Prop :=
  ∀ (m : (ℓ : Loc Cert.KernelDnConvIdeal.nD Cert.KernelDnConvIdeal.τ Cert.KernelDnConvIdeal.sig) → Buf (Elt Ideal) ℓ) (g : Dev Cert.KernelDnConvIdeal.nD → PrngReg), Pre_KernelDnConvIdeal m →
    θ_run (Cert.KernelDnConvIdeal.defs (F := Ideal)) (onTc (τ := Cert.KernelDnConvIdeal.τ) (Cert.KernelDnConvIdeal.main (F := Ideal))) ⟨m, fun _ => 0, g⟩ (fun r => (∀ c : Dev Cert.KernelDnConvIdeal.nD,
      r.2.mem ((c.tc : Thread Cert.KernelDnConvIdeal.nD Cert.KernelDnConvIdeal.τ).loc Cert.KernelDnConvIdeal.main_arg0) = m ((c.tc : Thread Cert.KernelDnConvIdeal.nD Cert.KernelDnConvIdeal.τ).loc Cert.KernelDnConvIdeal.main_arg0)
      ∧ r.2.mem ((c.tc : Thread Cert.KernelDnConvIdeal.nD Cert.KernelDnConvIdeal.τ).loc Cert.KernelDnConvIdeal.main_arg1) = m ((c.tc : Thread Cert.KernelDnConvIdeal.nD Cert.KernelDnConvIdeal.τ).loc Cert.KernelDnConvIdeal.main_arg1)
      ∧ r.2.mem ((c.tc : Thread Cert.KernelDnConvIdeal.nD Cert.KernelDnConvIdeal.τ).loc Cert.KernelDnConvIdeal.main_arg2) = m ((c.tc : Thread Cert.KernelDnConvIdeal.nD Cert.KernelDnConvIdeal.τ).loc Cert.KernelDnConvIdeal.main_arg2)
      ∧ r.2.mem ((c.tc : Thread Cert.KernelDnConvIdeal.nD Cert.KernelDnConvIdeal.τ).loc Cert.KernelDnConvIdeal.main_arg3) = m ((c.tc : Thread Cert.KernelDnConvIdeal.nD Cert.KernelDnConvIdeal.τ).loc Cert.KernelDnConvIdeal.main_arg3)
      ∧ r.2.mem ((c.tc : Thread Cert.KernelDnConvIdeal.nD Cert.KernelDnConvIdeal.τ).loc Cert.KernelDnConvIdeal.main_arg4) = m ((c.tc : Thread Cert.KernelDnConvIdeal.nD Cert.KernelDnConvIdeal.τ).loc Cert.KernelDnConvIdeal.main_arg4)
      ∧ r.2.mem ((c.tc : Thread Cert.KernelDnConvIdeal.nD Cert.KernelDnConvIdeal.τ).loc Cert.KernelDnConvIdeal.main_arg5) = m ((c.tc : Thread Cert.KernelDnConvIdeal.nD Cert.KernelDnConvIdeal.τ).loc Cert.KernelDnConvIdeal.main_arg5)
      ∧ r.2.mem ((c.tc : Thread Cert.KernelDnConvIdeal.nD Cert.KernelDnConvIdeal.τ).loc Cert.KernelDnConvIdeal.main_arg6) = m ((c.tc : Thread Cert.KernelDnConvIdeal.nD Cert.KernelDnConvIdeal.τ).loc Cert.KernelDnConvIdeal.main_arg6)
      ∧ r.2.mem ((c.tc : Thread Cert.KernelDnConvIdeal.nD Cert.KernelDnConvIdeal.τ).loc Cert.KernelDnConvIdeal.main_arg7) = m ((c.tc : Thread Cert.KernelDnConvIdeal.nD Cert.KernelDnConvIdeal.τ).loc Cert.KernelDnConvIdeal.main_arg7)
      ∧ r.2.mem ((c.tc : Thread Cert.KernelDnConvIdeal.nD Cert.KernelDnConvIdeal.τ).loc Cert.KernelDnConvIdeal.main_arg8) = m ((c.tc : Thread Cert.KernelDnConvIdeal.nD Cert.KernelDnConvIdeal.τ).loc Cert.KernelDnConvIdeal.main_arg8)
      ∧ r.2.mem ((c.tc : Thread Cert.KernelDnConvIdeal.nD Cert.KernelDnConvIdeal.τ).loc Cert.KernelDnConvIdeal.main_arg9) = m ((c.tc : Thread Cert.KernelDnConvIdeal.nD Cert.KernelDnConvIdeal.τ).loc Cert.KernelDnConvIdeal.main_arg9)
      ∧ r.2.mem ((c.tc : Thread Cert.KernelDnConvIdeal.nD Cert.KernelDnConvIdeal.τ).loc Cert.KernelDnConvIdeal.main_arg10) = m ((c.tc : Thread Cert.KernelDnConvIdeal.nD Cert.KernelDnConvIdeal.τ).loc Cert.KernelDnConvIdeal.main_arg10))
      ∧ r.2.sem = fun _ => 0)

def quiescent_KernelDnConvIdeal_pre_real_heads [hKernelDnConvIdeal : Cert.KernelDnConvIdeal.Facts] [hPre_real_heads : Cert.Pre_real_heads.Facts] : Prop :=
  ∀ (m : (ℓ : Loc Cert.KernelDnConvIdeal.nD Cert.KernelDnConvIdeal.τ Cert.KernelDnConvIdeal.sig) → Buf (Elt Ideal) ℓ) (g : Dev Cert.KernelDnConvIdeal.nD → PrngReg), Pre_KernelDnConvIdeal_real_heads m →
    θ_run (Cert.KernelDnConvIdeal.defs (F := Ideal)) (onTc (τ := Cert.KernelDnConvIdeal.τ) (Cert.KernelDnConvIdeal.main (F := Ideal))) ⟨m, fun _ => 0, g⟩ (fun r => (∀ c : Dev Cert.KernelDnConvIdeal.nD,
      r.2.mem ((c.tc : Thread Cert.KernelDnConvIdeal.nD Cert.KernelDnConvIdeal.τ).loc Cert.KernelDnConvIdeal.main_arg0) = m ((c.tc : Thread Cert.KernelDnConvIdeal.nD Cert.KernelDnConvIdeal.τ).loc Cert.KernelDnConvIdeal.main_arg0)
      ∧ r.2.mem ((c.tc : Thread Cert.KernelDnConvIdeal.nD Cert.KernelDnConvIdeal.τ).loc Cert.KernelDnConvIdeal.main_arg1) = m ((c.tc : Thread Cert.KernelDnConvIdeal.nD Cert.KernelDnConvIdeal.τ).loc Cert.KernelDnConvIdeal.main_arg1)
      ∧ r.2.mem ((c.tc : Thread Cert.KernelDnConvIdeal.nD Cert.KernelDnConvIdeal.τ).loc Cert.KernelDnConvIdeal.main_arg2) = m ((c.tc : Thread Cert.KernelDnConvIdeal.nD Cert.KernelDnConvIdeal.τ).loc Cert.KernelDnConvIdeal.main_arg2)
      ∧ r.2.mem ((c.tc : Thread Cert.KernelDnConvIdeal.nD Cert.KernelDnConvIdeal.τ).loc Cert.KernelDnConvIdeal.main_arg3) = m ((c.tc : Thread Cert.KernelDnConvIdeal.nD Cert.KernelDnConvIdeal.τ).loc Cert.KernelDnConvIdeal.main_arg3)
      ∧ r.2.mem ((c.tc : Thread Cert.KernelDnConvIdeal.nD Cert.KernelDnConvIdeal.τ).loc Cert.KernelDnConvIdeal.main_arg4) = m ((c.tc : Thread Cert.KernelDnConvIdeal.nD Cert.KernelDnConvIdeal.τ).loc Cert.KernelDnConvIdeal.main_arg4)
      ∧ r.2.mem ((c.tc : Thread Cert.KernelDnConvIdeal.nD Cert.KernelDnConvIdeal.τ).loc Cert.KernelDnConvIdeal.main_arg5) = m ((c.tc : Thread Cert.KernelDnConvIdeal.nD Cert.KernelDnConvIdeal.τ).loc Cert.KernelDnConvIdeal.main_arg5)
      ∧ r.2.mem ((c.tc : Thread Cert.KernelDnConvIdeal.nD Cert.KernelDnConvIdeal.τ).loc Cert.KernelDnConvIdeal.main_arg6) = m ((c.tc : Thread Cert.KernelDnConvIdeal.nD Cert.KernelDnConvIdeal.τ).loc Cert.KernelDnConvIdeal.main_arg6)
      ∧ r.2.mem ((c.tc : Thread Cert.KernelDnConvIdeal.nD Cert.KernelDnConvIdeal.τ).loc Cert.KernelDnConvIdeal.main_arg7) = m ((c.tc : Thread Cert.KernelDnConvIdeal.nD Cert.KernelDnConvIdeal.τ).loc Cert.KernelDnConvIdeal.main_arg7)
      ∧ r.2.mem ((c.tc : Thread Cert.KernelDnConvIdeal.nD Cert.KernelDnConvIdeal.τ).loc Cert.KernelDnConvIdeal.main_arg8) = m ((c.tc : Thread Cert.KernelDnConvIdeal.nD Cert.KernelDnConvIdeal.τ).loc Cert.KernelDnConvIdeal.main_arg8)
      ∧ r.2.mem ((c.tc : Thread Cert.KernelDnConvIdeal.nD Cert.KernelDnConvIdeal.τ).loc Cert.KernelDnConvIdeal.main_arg9) = m ((c.tc : Thread Cert.KernelDnConvIdeal.nD Cert.KernelDnConvIdeal.τ).loc Cert.KernelDnConvIdeal.main_arg9)
      ∧ r.2.mem ((c.tc : Thread Cert.KernelDnConvIdeal.nD Cert.KernelDnConvIdeal.τ).loc Cert.KernelDnConvIdeal.main_arg10) = m ((c.tc : Thread Cert.KernelDnConvIdeal.nD Cert.KernelDnConvIdeal.τ).loc Cert.KernelDnConvIdeal.main_arg10))
      ∧ r.2.sem = fun _ => 0)

def quiescent_ReferenceDnConvIdeal [hReferenceDnConvIdeal : Cert.ReferenceDnConvIdeal.Facts] : Prop :=
  ∀ (m : (ℓ : Loc Cert.ReferenceDnConvIdeal.nD Cert.ReferenceDnConvIdeal.τ Cert.ReferenceDnConvIdeal.sig) → Buf (Elt Ideal) ℓ) (g : Dev Cert.ReferenceDnConvIdeal.nD → PrngReg), Pre_ReferenceDnConvIdeal m →
    θ_run (Cert.ReferenceDnConvIdeal.defs (F := Ideal)) (onTc (τ := Cert.ReferenceDnConvIdeal.τ) (Cert.ReferenceDnConvIdeal.main (F := Ideal))) ⟨m, fun _ => 0, g⟩ (fun r => (∀ c : Dev Cert.ReferenceDnConvIdeal.nD,
      r.2.mem ((c.tc : Thread Cert.ReferenceDnConvIdeal.nD Cert.ReferenceDnConvIdeal.τ).loc Cert.ReferenceDnConvIdeal.main_arg0) = m ((c.tc : Thread Cert.ReferenceDnConvIdeal.nD Cert.ReferenceDnConvIdeal.τ).loc Cert.ReferenceDnConvIdeal.main_arg0)
      ∧ r.2.mem ((c.tc : Thread Cert.ReferenceDnConvIdeal.nD Cert.ReferenceDnConvIdeal.τ).loc Cert.ReferenceDnConvIdeal.main_arg1) = m ((c.tc : Thread Cert.ReferenceDnConvIdeal.nD Cert.ReferenceDnConvIdeal.τ).loc Cert.ReferenceDnConvIdeal.main_arg1)
      ∧ r.2.mem ((c.tc : Thread Cert.ReferenceDnConvIdeal.nD Cert.ReferenceDnConvIdeal.τ).loc Cert.ReferenceDnConvIdeal.main_arg2) = m ((c.tc : Thread Cert.ReferenceDnConvIdeal.nD Cert.ReferenceDnConvIdeal.τ).loc Cert.ReferenceDnConvIdeal.main_arg2)
      ∧ r.2.mem ((c.tc : Thread Cert.ReferenceDnConvIdeal.nD Cert.ReferenceDnConvIdeal.τ).loc Cert.ReferenceDnConvIdeal.main_arg3) = m ((c.tc : Thread Cert.ReferenceDnConvIdeal.nD Cert.ReferenceDnConvIdeal.τ).loc Cert.ReferenceDnConvIdeal.main_arg3)
      ∧ r.2.mem ((c.tc : Thread Cert.ReferenceDnConvIdeal.nD Cert.ReferenceDnConvIdeal.τ).loc Cert.ReferenceDnConvIdeal.main_arg4) = m ((c.tc : Thread Cert.ReferenceDnConvIdeal.nD Cert.ReferenceDnConvIdeal.τ).loc Cert.ReferenceDnConvIdeal.main_arg4)
      ∧ r.2.mem ((c.tc : Thread Cert.ReferenceDnConvIdeal.nD Cert.ReferenceDnConvIdeal.τ).loc Cert.ReferenceDnConvIdeal.main_arg5) = m ((c.tc : Thread Cert.ReferenceDnConvIdeal.nD Cert.ReferenceDnConvIdeal.τ).loc Cert.ReferenceDnConvIdeal.main_arg5)
      ∧ r.2.mem ((c.tc : Thread Cert.ReferenceDnConvIdeal.nD Cert.ReferenceDnConvIdeal.τ).loc Cert.ReferenceDnConvIdeal.main_arg6) = m ((c.tc : Thread Cert.ReferenceDnConvIdeal.nD Cert.ReferenceDnConvIdeal.τ).loc Cert.ReferenceDnConvIdeal.main_arg6)
      ∧ r.2.mem ((c.tc : Thread Cert.ReferenceDnConvIdeal.nD Cert.ReferenceDnConvIdeal.τ).loc Cert.ReferenceDnConvIdeal.main_arg7) = m ((c.tc : Thread Cert.ReferenceDnConvIdeal.nD Cert.ReferenceDnConvIdeal.τ).loc Cert.ReferenceDnConvIdeal.main_arg7)
      ∧ r.2.mem ((c.tc : Thread Cert.ReferenceDnConvIdeal.nD Cert.ReferenceDnConvIdeal.τ).loc Cert.ReferenceDnConvIdeal.main_arg8) = m ((c.tc : Thread Cert.ReferenceDnConvIdeal.nD Cert.ReferenceDnConvIdeal.τ).loc Cert.ReferenceDnConvIdeal.main_arg8)
      ∧ r.2.mem ((c.tc : Thread Cert.ReferenceDnConvIdeal.nD Cert.ReferenceDnConvIdeal.τ).loc Cert.ReferenceDnConvIdeal.main_arg9) = m ((c.tc : Thread Cert.ReferenceDnConvIdeal.nD Cert.ReferenceDnConvIdeal.τ).loc Cert.ReferenceDnConvIdeal.main_arg9)
      ∧ r.2.mem ((c.tc : Thread Cert.ReferenceDnConvIdeal.nD Cert.ReferenceDnConvIdeal.τ).loc Cert.ReferenceDnConvIdeal.main_arg10) = m ((c.tc : Thread Cert.ReferenceDnConvIdeal.nD Cert.ReferenceDnConvIdeal.τ).loc Cert.ReferenceDnConvIdeal.main_arg10))
      ∧ r.2.sem = fun _ => 0)

def quiescent_ReferenceDnConvIdeal_pre_real_heads [hReferenceDnConvIdeal : Cert.ReferenceDnConvIdeal.Facts] [hPre_real_heads : Cert.Pre_real_heads.Facts] : Prop :=
  ∀ (m : (ℓ : Loc Cert.ReferenceDnConvIdeal.nD Cert.ReferenceDnConvIdeal.τ Cert.ReferenceDnConvIdeal.sig) → Buf (Elt Ideal) ℓ) (g : Dev Cert.ReferenceDnConvIdeal.nD → PrngReg), Pre_ReferenceDnConvIdeal_real_heads m →
    θ_run (Cert.ReferenceDnConvIdeal.defs (F := Ideal)) (onTc (τ := Cert.ReferenceDnConvIdeal.τ) (Cert.ReferenceDnConvIdeal.main (F := Ideal))) ⟨m, fun _ => 0, g⟩ (fun r => (∀ c : Dev Cert.ReferenceDnConvIdeal.nD,
      r.2.mem ((c.tc : Thread Cert.ReferenceDnConvIdeal.nD Cert.ReferenceDnConvIdeal.τ).loc Cert.ReferenceDnConvIdeal.main_arg0) = m ((c.tc : Thread Cert.ReferenceDnConvIdeal.nD Cert.ReferenceDnConvIdeal.τ).loc Cert.ReferenceDnConvIdeal.main_arg0)
      ∧ r.2.mem ((c.tc : Thread Cert.ReferenceDnConvIdeal.nD Cert.ReferenceDnConvIdeal.τ).loc Cert.ReferenceDnConvIdeal.main_arg1) = m ((c.tc : Thread Cert.ReferenceDnConvIdeal.nD Cert.ReferenceDnConvIdeal.τ).loc Cert.ReferenceDnConvIdeal.main_arg1)
      ∧ r.2.mem ((c.tc : Thread Cert.ReferenceDnConvIdeal.nD Cert.ReferenceDnConvIdeal.τ).loc Cert.ReferenceDnConvIdeal.main_arg2) = m ((c.tc : Thread Cert.ReferenceDnConvIdeal.nD Cert.ReferenceDnConvIdeal.τ).loc Cert.ReferenceDnConvIdeal.main_arg2)
      ∧ r.2.mem ((c.tc : Thread Cert.ReferenceDnConvIdeal.nD Cert.ReferenceDnConvIdeal.τ).loc Cert.ReferenceDnConvIdeal.main_arg3) = m ((c.tc : Thread Cert.ReferenceDnConvIdeal.nD Cert.ReferenceDnConvIdeal.τ).loc Cert.ReferenceDnConvIdeal.main_arg3)
      ∧ r.2.mem ((c.tc : Thread Cert.ReferenceDnConvIdeal.nD Cert.ReferenceDnConvIdeal.τ).loc Cert.ReferenceDnConvIdeal.main_arg4) = m ((c.tc : Thread Cert.ReferenceDnConvIdeal.nD Cert.ReferenceDnConvIdeal.τ).loc Cert.ReferenceDnConvIdeal.main_arg4)
      ∧ r.2.mem ((c.tc : Thread Cert.ReferenceDnConvIdeal.nD Cert.ReferenceDnConvIdeal.τ).loc Cert.ReferenceDnConvIdeal.main_arg5) = m ((c.tc : Thread Cert.ReferenceDnConvIdeal.nD Cert.ReferenceDnConvIdeal.τ).loc Cert.ReferenceDnConvIdeal.main_arg5)
      ∧ r.2.mem ((c.tc : Thread Cert.ReferenceDnConvIdeal.nD Cert.ReferenceDnConvIdeal.τ).loc Cert.ReferenceDnConvIdeal.main_arg6) = m ((c.tc : Thread Cert.ReferenceDnConvIdeal.nD Cert.ReferenceDnConvIdeal.τ).loc Cert.ReferenceDnConvIdeal.main_arg6)
      ∧ r.2.mem ((c.tc : Thread Cert.ReferenceDnConvIdeal.nD Cert.ReferenceDnConvIdeal.τ).loc Cert.ReferenceDnConvIdeal.main_arg7) = m ((c.tc : Thread Cert.ReferenceDnConvIdeal.nD Cert.ReferenceDnConvIdeal.τ).loc Cert.ReferenceDnConvIdeal.main_arg7)
      ∧ r.2.mem ((c.tc : Thread Cert.ReferenceDnConvIdeal.nD Cert.ReferenceDnConvIdeal.τ).loc Cert.ReferenceDnConvIdeal.main_arg8) = m ((c.tc : Thread Cert.ReferenceDnConvIdeal.nD Cert.ReferenceDnConvIdeal.τ).loc Cert.ReferenceDnConvIdeal.main_arg8)
      ∧ r.2.mem ((c.tc : Thread Cert.ReferenceDnConvIdeal.nD Cert.ReferenceDnConvIdeal.τ).loc Cert.ReferenceDnConvIdeal.main_arg9) = m ((c.tc : Thread Cert.ReferenceDnConvIdeal.nD Cert.ReferenceDnConvIdeal.τ).loc Cert.ReferenceDnConvIdeal.main_arg9)
      ∧ r.2.mem ((c.tc : Thread Cert.ReferenceDnConvIdeal.nD Cert.ReferenceDnConvIdeal.τ).loc Cert.ReferenceDnConvIdeal.main_arg10) = m ((c.tc : Thread Cert.ReferenceDnConvIdeal.nD Cert.ReferenceDnConvIdeal.τ).loc Cert.ReferenceDnConvIdeal.main_arg10))
      ∧ r.2.sem = fun _ => 0)

def preserves_KernelDx_KernelDxIdeal : Prop :=
  True

def algebraic_KernelDxIdeal_ReferenceDxIdeal_pre_finite [hKernelDxIdeal : Cert.KernelDxIdeal.Facts] [hReferenceDxIdeal : Cert.ReferenceDxIdeal.Facts] [hPre_finite : Cert.Pre_finite.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)) →
    ∃ (v0 : (c : Dev Cert.KernelDxIdeal.nD) → Buf (Elt Ideal) ((c.tc : Thread Cert.KernelDxIdeal.nD Cert.KernelDxIdeal.τ).loc Cert.KernelDxIdeal.main_v30_0)) (v1 : (c : Dev Cert.KernelDxIdeal.nD) → Buf (Elt Ideal) ((c.tc : Thread Cert.KernelDxIdeal.nD Cert.KernelDxIdeal.τ).loc Cert.KernelDxIdeal.main_v30_1)) (v2 : (c : Dev Cert.KernelDxIdeal.nD) → Buf (Elt Ideal) ((c.tc : Thread Cert.KernelDxIdeal.nD Cert.KernelDxIdeal.τ).loc Cert.KernelDxIdeal.main_v30_2)) (v3 : (c : Dev Cert.KernelDxIdeal.nD) → Buf (Elt Ideal) ((c.tc : Thread Cert.KernelDxIdeal.nD Cert.KernelDxIdeal.τ).loc Cert.KernelDxIdeal.main_v30_3)) (v4 : (c : Dev Cert.KernelDxIdeal.nD) → Buf (Elt Ideal) ((c.tc : Thread Cert.KernelDxIdeal.nD Cert.KernelDxIdeal.τ).loc Cert.KernelDxIdeal.main_v30_4)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v30_0) = v0 c
          ∧ r.2.mem ((c.tc : Thread Cert.KernelDxIdeal.nD Cert.KernelDxIdeal.τ).loc Cert.KernelDxIdeal.main_v30_1) = v1 c
          ∧ r.2.mem ((c.tc : Thread Cert.KernelDxIdeal.nD Cert.KernelDxIdeal.τ).loc Cert.KernelDxIdeal.main_v30_2) = v2 c
          ∧ r.2.mem ((c.tc : Thread Cert.KernelDxIdeal.nD Cert.KernelDxIdeal.τ).loc Cert.KernelDxIdeal.main_v30_3) = v3 c
          ∧ r.2.mem ((c.tc : Thread Cert.KernelDxIdeal.nD Cert.KernelDxIdeal.τ).loc Cert.KernelDxIdeal.main_v30_4) = v4 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v54) = v0 c
          ∧ r.2.mem ((c.tc : Thread Cert.ReferenceDxIdeal.nD Cert.ReferenceDxIdeal.τ).loc Cert.ReferenceDxIdeal.main_v79) = v1 c
          ∧ r.2.mem ((c.tc : Thread Cert.ReferenceDxIdeal.nD Cert.ReferenceDxIdeal.τ).loc Cert.ReferenceDxIdeal.main_v82) = v2 c
          ∧ r.2.mem ((c.tc : Thread Cert.ReferenceDxIdeal.nD Cert.ReferenceDxIdeal.τ).loc Cert.ReferenceDxIdeal.main_v85) = v3 c
          ∧ r.2.mem ((c.tc : Thread Cert.ReferenceDxIdeal.nD Cert.ReferenceDxIdeal.τ).loc Cert.ReferenceDxIdeal.main_v88) = v4 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)
      ∧ m' ((c.tc : Thread Cert.ReferenceDwIdeal.nD Cert.ReferenceDwIdeal.τ).loc Cert.ReferenceDwIdeal.main_arg4) = m ((c.tc : Thread Cert.KernelDwIdeal.nD Cert.KernelDwIdeal.τ).loc Cert.KernelDwIdeal.main_arg4)
      ∧ m' ((c.tc : Thread Cert.ReferenceDwIdeal.nD Cert.ReferenceDwIdeal.τ).loc Cert.ReferenceDwIdeal.main_arg5) = m ((c.tc : Thread Cert.KernelDwIdeal.nD Cert.KernelDwIdeal.τ).loc Cert.KernelDwIdeal.main_arg5)) →
    ∃ (v0 : (c : Dev Cert.KernelDwIdeal.nD) → Buf (Elt Ideal) ((c.tc : Thread Cert.KernelDwIdeal.nD Cert.KernelDwIdeal.τ).loc Cert.KernelDwIdeal.main_v34_0)) (v1 : (c : Dev Cert.KernelDwIdeal.nD) → Buf (Elt Ideal) ((c.tc : Thread Cert.KernelDwIdeal.nD Cert.KernelDwIdeal.τ).loc Cert.KernelDwIdeal.main_v34_1)) (v2 : (c : Dev Cert.KernelDwIdeal.nD) → Buf (Elt Ideal) ((c.tc : Thread Cert.KernelDwIdeal.nD Cert.KernelDwIdeal.τ).loc Cert.KernelDwIdeal.main_v34_2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v34_0) = v0 c
          ∧ r.2.mem ((c.tc : Thread Cert.KernelDwIdeal.nD Cert.KernelDwIdeal.τ).loc Cert.KernelDwIdeal.main_v34_1) = v1 c
          ∧ r.2.mem ((c.tc : Thread Cert.KernelDwIdeal.nD Cert.KernelDwIdeal.τ).loc Cert.KernelDwIdeal.main_v34_2) = v2 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
          ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4)
          ∧ r.2.mem ((c.tc : Thread Cert.KernelDwIdeal.nD Cert.KernelDwIdeal.τ).loc Cert.KernelDwIdeal.main_arg5) = m ((c.tc : Thread Cert.KernelDwIdeal.nD Cert.KernelDwIdeal.τ).loc Cert.KernelDwIdeal.main_arg5))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v34) = v0 c
          ∧ r.2.mem ((c.tc : Thread Cert.ReferenceDwIdeal.nD Cert.ReferenceDwIdeal.τ).loc Cert.ReferenceDwIdeal.main_v36) = v1 c
          ∧ r.2.mem ((c.tc : Thread Cert.ReferenceDwIdeal.nD Cert.ReferenceDwIdeal.τ).loc Cert.ReferenceDwIdeal.main_v37) = v2 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3)
          ∧ r.2.mem ((c.tc : Thread Cert.ReferenceDwIdeal.nD Cert.ReferenceDwIdeal.τ).loc Cert.ReferenceDwIdeal.main_arg4) = m' ((c.tc : Thread Cert.ReferenceDwIdeal.nD Cert.ReferenceDwIdeal.τ).loc Cert.ReferenceDwIdeal.main_arg4)
          ∧ r.2.mem ((c.tc : Thread Cert.ReferenceDwIdeal.nD Cert.ReferenceDwIdeal.τ).loc Cert.ReferenceDwIdeal.main_arg5) = m' ((c.tc : Thread Cert.ReferenceDwIdeal.nD Cert.ReferenceDwIdeal.τ).loc Cert.ReferenceDwIdeal.main_arg5))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v9_0)) (v1 : (c : Dev Cert.KernelFwdIdeal.nD) → Buf (Elt Ideal) ((c.tc : Thread Cert.KernelFwdIdeal.nD Cert.KernelFwdIdeal.τ).loc Cert.KernelFwdIdeal.main_v9_1)) (v2 : (c : Dev Cert.KernelFwdIdeal.nD) → Buf (Elt Ideal) ((c.tc : Thread Cert.KernelFwdIdeal.nD Cert.KernelFwdIdeal.τ).loc Cert.KernelFwdIdeal.main_v9_2)) (v3 : (c : Dev Cert.KernelFwdIdeal.nD) → Buf (Elt Ideal) ((c.tc : Thread Cert.KernelFwdIdeal.nD Cert.KernelFwdIdeal.τ).loc Cert.KernelFwdIdeal.main_v9_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v9_0) = v0 c
          ∧ r.2.mem ((c.tc : Thread Cert.KernelFwdIdeal.nD Cert.KernelFwdIdeal.τ).loc Cert.KernelFwdIdeal.main_v9_1) = v1 c
          ∧ r.2.mem ((c.tc : Thread Cert.KernelFwdIdeal.nD Cert.KernelFwdIdeal.τ).loc Cert.KernelFwdIdeal.main_v9_2) = v2 c
          ∧ r.2.mem ((c.tc : Thread Cert.KernelFwdIdeal.nD Cert.KernelFwdIdeal.τ).loc Cert.KernelFwdIdeal.main_v9_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v33) = v0 c
          ∧ r.2.mem ((c.tc : Thread Cert.ReferenceFwdIdeal.nD Cert.ReferenceFwdIdeal.τ).loc Cert.ReferenceFwdIdeal.main_v34) = v1 c
          ∧ r.2.mem ((c.tc : Thread Cert.ReferenceFwdIdeal.nD Cert.ReferenceFwdIdeal.τ).loc Cert.ReferenceFwdIdeal.main_v38) = v2 c
          ∧ r.2.mem ((c.tc : Thread Cert.ReferenceFwdIdeal.nD Cert.ReferenceFwdIdeal.τ).loc Cert.ReferenceFwdIdeal.main_v42) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)
      ∧ m' ((c.tc : Thread Cert.ReferenceInprojIdeal.nD Cert.ReferenceInprojIdeal.τ).loc Cert.ReferenceInprojIdeal.main_arg4) = m ((c.tc : Thread Cert.KernelInprojIdeal.nD Cert.KernelInprojIdeal.τ).loc Cert.KernelInprojIdeal.main_arg4)
      ∧ m' ((c.tc : Thread Cert.ReferenceInprojIdeal.nD Cert.ReferenceInprojIdeal.τ).loc Cert.ReferenceInprojIdeal.main_arg5) = m ((c.tc : Thread Cert.KernelInprojIdeal.nD Cert.KernelInprojIdeal.τ).loc Cert.KernelInprojIdeal.main_arg5)
      ∧ m' ((c.tc : Thread Cert.ReferenceInprojIdeal.nD Cert.ReferenceInprojIdeal.τ).loc Cert.ReferenceInprojIdeal.main_arg6) = m ((c.tc : Thread Cert.KernelInprojIdeal.nD Cert.KernelInprojIdeal.τ).loc Cert.KernelInprojIdeal.main_arg6)
      ∧ m' ((c.tc : Thread Cert.ReferenceInprojIdeal.nD Cert.ReferenceInprojIdeal.τ).loc Cert.ReferenceInprojIdeal.main_arg7) = m ((c.tc : Thread Cert.KernelInprojIdeal.nD Cert.KernelInprojIdeal.τ).loc Cert.KernelInprojIdeal.main_arg7)
      ∧ m' ((c.tc : Thread Cert.ReferenceInprojIdeal.nD Cert.ReferenceInprojIdeal.τ).loc Cert.ReferenceInprojIdeal.main_arg8) = m ((c.tc : Thread Cert.KernelInprojIdeal.nD Cert.KernelInprojIdeal.τ).loc Cert.KernelInprojIdeal.main_arg8)
      ∧ m' ((c.tc : Thread Cert.ReferenceInprojIdeal.nD Cert.ReferenceInprojIdeal.τ).loc Cert.ReferenceInprojIdeal.main_arg9) = m ((c.tc : Thread Cert.KernelInprojIdeal.nD Cert.KernelInprojIdeal.τ).loc Cert.KernelInprojIdeal.main_arg9)
      ∧ m' ((c.tc : Thread Cert.ReferenceInprojIdeal.nD Cert.ReferenceInprojIdeal.τ).loc Cert.ReferenceInprojIdeal.main_arg10) = m ((c.tc : Thread Cert.KernelInprojIdeal.nD Cert.KernelInprojIdeal.τ).loc Cert.KernelInprojIdeal.main_arg10)
      ∧ m' ((c.tc : Thread Cert.ReferenceInprojIdeal.nD Cert.ReferenceInprojIdeal.τ).loc Cert.ReferenceInprojIdeal.main_arg11) = m ((c.tc : Thread Cert.KernelInprojIdeal.nD Cert.KernelInprojIdeal.τ).loc Cert.KernelInprojIdeal.main_arg11)) →
    ∃ (v0 : (c : Dev Cert.KernelInprojIdeal.nD) → Buf (Elt Ideal) ((c.tc : Thread Cert.KernelInprojIdeal.nD Cert.KernelInprojIdeal.τ).loc Cert.KernelInprojIdeal.main_v10_0)) (v1 : (c : Dev Cert.KernelInprojIdeal.nD) → Buf (Elt Ideal) ((c.tc : Thread Cert.KernelInprojIdeal.nD Cert.KernelInprojIdeal.τ).loc Cert.KernelInprojIdeal.main_v10_1)) (v2 : (c : Dev Cert.KernelInprojIdeal.nD) → Buf (Elt Ideal) ((c.tc : Thread Cert.KernelInprojIdeal.nD Cert.KernelInprojIdeal.τ).loc Cert.KernelInprojIdeal.main_v10_2)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v10_0) = v0 c
          ∧ r.2.mem ((c.tc : Thread Cert.KernelInprojIdeal.nD Cert.KernelInprojIdeal.τ).loc Cert.KernelInprojIdeal.main_v10_1) = v1 c
          ∧ r.2.mem ((c.tc : Thread Cert.KernelInprojIdeal.nD Cert.KernelInprojIdeal.τ).loc Cert.KernelInprojIdeal.main_v10_2) = v2 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
          ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
          ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
          ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6)
          ∧ r.2.mem ((c.tc : Thread Cert.KernelInprojIdeal.nD Cert.KernelInprojIdeal.τ).loc Cert.KernelInprojIdeal.main_arg7) = m ((c.tc : Thread Cert.KernelInprojIdeal.nD Cert.KernelInprojIdeal.τ).loc Cert.KernelInprojIdeal.main_arg7)
          ∧ r.2.mem ((c.tc : Thread Cert.KernelInprojIdeal.nD Cert.KernelInprojIdeal.τ).loc Cert.KernelInprojIdeal.main_arg8) = m ((c.tc : Thread Cert.KernelInprojIdeal.nD Cert.KernelInprojIdeal.τ).loc Cert.KernelInprojIdeal.main_arg8)
          ∧ r.2.mem ((c.tc : Thread Cert.KernelInprojIdeal.nD Cert.KernelInprojIdeal.τ).loc Cert.KernelInprojIdeal.main_arg9) = m ((c.tc : Thread Cert.KernelInprojIdeal.nD Cert.KernelInprojIdeal.τ).loc Cert.KernelInprojIdeal.main_arg9)
          ∧ r.2.mem ((c.tc : Thread Cert.KernelInprojIdeal.nD Cert.KernelInprojIdeal.τ).loc Cert.KernelInprojIdeal.main_arg10) = m ((c.tc : Thread Cert.KernelInprojIdeal.nD Cert.KernelInprojIdeal.τ).loc Cert.KernelInprojIdeal.main_arg10)
          ∧ r.2.mem ((c.tc : Thread Cert.KernelInprojIdeal.nD Cert.KernelInprojIdeal.τ).loc Cert.KernelInprojIdeal.main_arg11) = m ((c.tc : Thread Cert.KernelInprojIdeal.nD Cert.KernelInprojIdeal.τ).loc Cert.KernelInprojIdeal.main_arg11))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v91) = v0 c
          ∧ r.2.mem ((c.tc : Thread Cert.ReferenceInprojIdeal.nD Cert.ReferenceInprojIdeal.τ).loc Cert.ReferenceInprojIdeal.main_v92) = v1 c
          ∧ r.2.mem ((c.tc : Thread Cert.ReferenceInprojIdeal.nD Cert.ReferenceInprojIdeal.τ).loc Cert.ReferenceInprojIdeal.main_v97) = v2 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4)
          ∧ r.2.mem ((c.tc : Thread Cert.ReferenceInprojIdeal.nD Cert.ReferenceInprojIdeal.τ).loc Cert.ReferenceInprojIdeal.main_arg5) = m' ((c.tc : Thread Cert.ReferenceInprojIdeal.nD Cert.ReferenceInprojIdeal.τ).loc Cert.ReferenceInprojIdeal.main_arg5)
          ∧ r.2.mem ((c.tc : Thread Cert.ReferenceInprojIdeal.nD Cert.ReferenceInprojIdeal.τ).loc Cert.ReferenceInprojIdeal.main_arg6) = m' ((c.tc : Thread Cert.ReferenceInprojIdeal.nD Cert.ReferenceInprojIdeal.τ).loc Cert.ReferenceInprojIdeal.main_arg6)
          ∧ r.2.mem ((c.tc : Thread Cert.ReferenceInprojIdeal.nD Cert.ReferenceInprojIdeal.τ).loc Cert.ReferenceInprojIdeal.main_arg7) = m' ((c.tc : Thread Cert.ReferenceInprojIdeal.nD Cert.ReferenceInprojIdeal.τ).loc Cert.ReferenceInprojIdeal.main_arg7)
          ∧ r.2.mem ((c.tc : Thread Cert.ReferenceInprojIdeal.nD Cert.ReferenceInprojIdeal.τ).loc Cert.ReferenceInprojIdeal.main_arg8) = m' ((c.tc : Thread Cert.ReferenceInprojIdeal.nD Cert.ReferenceInprojIdeal.τ).loc Cert.ReferenceInprojIdeal.main_arg8)
          ∧ r.2.mem ((c.tc : Thread Cert.ReferenceInprojIdeal.nD Cert.ReferenceInprojIdeal.τ).loc Cert.ReferenceInprojIdeal.main_arg9) = m' ((c.tc : Thread Cert.ReferenceInprojIdeal.nD Cert.ReferenceInprojIdeal.τ).loc Cert.ReferenceInprojIdeal.main_arg9)
          ∧ r.2.mem ((c.tc : Thread Cert.ReferenceInprojIdeal.nD Cert.ReferenceInprojIdeal.τ).loc Cert.ReferenceInprojIdeal.main_arg10) = m' ((c.tc : Thread Cert.ReferenceInprojIdeal.nD Cert.ReferenceInprojIdeal.τ).loc Cert.ReferenceInprojIdeal.main_arg10)
          ∧ r.2.mem ((c.tc : Thread Cert.ReferenceInprojIdeal.nD Cert.ReferenceInprojIdeal.τ).loc Cert.ReferenceInprojIdeal.main_arg11) = m' ((c.tc : Thread Cert.ReferenceInprojIdeal.nD Cert.ReferenceInprojIdeal.τ).loc Cert.ReferenceInprojIdeal.main_arg11))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v2_0)) (v1 : (c : Dev Cert.KernelLossIdeal.nD) → Buf (Elt Ideal) ((c.tc : Thread Cert.KernelLossIdeal.nD Cert.KernelLossIdeal.τ).loc Cert.KernelLossIdeal.main_v2_1)) (v2 : (c : Dev Cert.KernelLossIdeal.nD) → Buf (Elt Ideal) ((c.tc : Thread Cert.KernelLossIdeal.nD Cert.KernelLossIdeal.τ).loc Cert.KernelLossIdeal.main_v2_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v2_0) = v0 c
          ∧ r.2.mem ((c.tc : Thread Cert.KernelLossIdeal.nD Cert.KernelLossIdeal.τ).loc Cert.KernelLossIdeal.main_v2_1) = v1 c
          ∧ r.2.mem ((c.tc : Thread Cert.KernelLossIdeal.nD Cert.KernelLossIdeal.τ).loc Cert.KernelLossIdeal.main_v2_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v53) = v0 c
          ∧ r.2.mem ((c.tc : Thread Cert.ReferenceLossIdeal.nD Cert.ReferenceLossIdeal.τ).loc Cert.ReferenceLossIdeal.main_v52) = v1 c
          ∧ r.2.mem ((c.tc : Thread Cert.ReferenceLossIdeal.nD Cert.ReferenceLossIdeal.τ).loc Cert.ReferenceLossIdeal.main_v54) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v4) = v1 c
          ∧ r.2.mem ((c.tc : Thread Cert.ReferenceAdamIdeal.nD Cert.ReferenceAdamIdeal.τ).loc Cert.ReferenceAdamIdeal.main_v10) = v2 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelInprojFwd_KernelInprojFwdIdeal : Prop :=
  True

def algebraic_KernelInprojFwdIdeal_ReferenceInprojFwdIdeal [hKernelInprojFwdIdeal : Cert.KernelInprojFwdIdeal.Facts] [hReferenceInprojFwdIdeal : Cert.ReferenceInprojFwdIdeal.Facts] : Prop :=
  ∀ (m : (ℓ : Loc Cert.KernelInprojFwdIdeal.nD Cert.KernelInprojFwdIdeal.τ Cert.KernelInprojFwdIdeal.sig) → Buf (Elt Ideal) ℓ) (g : Dev Cert.KernelInprojFwdIdeal.nD → PrngReg)
    (m' : (ℓ : Loc Cert.ReferenceInprojFwdIdeal.nD Cert.ReferenceInprojFwdIdeal.τ Cert.ReferenceInprojFwdIdeal.sig) → Buf (Elt Ideal) ℓ) (g' : Dev Cert.ReferenceInprojFwdIdeal.nD → PrngReg), Pre_KernelInprojFwdIdeal m →
    (∀ c : Dev Cert.KernelInprojFwdIdeal.nD,
      m' ((c.tc : Thread Cert.ReferenceInprojFwdIdeal.nD Cert.ReferenceInprojFwdIdeal.τ).loc Cert.ReferenceInprojFwdIdeal.main_arg0) = m ((c.tc : Thread Cert.KernelInprojFwdIdeal.nD Cert.KernelInprojFwdIdeal.τ).loc Cert.KernelInprojFwdIdeal.main_arg0)
      ∧ m' ((c.tc : Thread Cert.ReferenceInprojFwdIdeal.nD Cert.ReferenceInprojFwdIdeal.τ).loc Cert.ReferenceInprojFwdIdeal.main_arg1) = m ((c.tc : Thread Cert.KernelInprojFwdIdeal.nD Cert.KernelInprojFwdIdeal.τ).loc Cert.KernelInprojFwdIdeal.main_arg1)
      ∧ m' ((c.tc : Thread Cert.ReferenceInprojFwdIdeal.nD Cert.ReferenceInprojFwdIdeal.τ).loc Cert.ReferenceInprojFwdIdeal.main_arg2) = m ((c.tc : Thread Cert.KernelInprojFwdIdeal.nD Cert.KernelInprojFwdIdeal.τ).loc Cert.KernelInprojFwdIdeal.main_arg2)) →
    ∃ (v0 : (c : Dev Cert.KernelInprojFwdIdeal.nD) → Buf (Elt Ideal) ((c.tc : Thread Cert.KernelInprojFwdIdeal.nD Cert.KernelInprojFwdIdeal.τ).loc Cert.KernelInprojFwdIdeal.main_v8_0)) (v1 : (c : Dev Cert.KernelInprojFwdIdeal.nD) → Buf (Elt Ideal) ((c.tc : Thread Cert.KernelInprojFwdIdeal.nD Cert.KernelInprojFwdIdeal.τ).loc Cert.KernelInprojFwdIdeal.main_v8_1)) (v2 : (c : Dev Cert.KernelInprojFwdIdeal.nD) → Buf (Elt Ideal) ((c.tc : Thread Cert.KernelInprojFwdIdeal.nD Cert.KernelInprojFwdIdeal.τ).loc Cert.KernelInprojFwdIdeal.main_v8_2)) (v3 : (c : Dev Cert.KernelInprojFwdIdeal.nD) → Buf (Elt Ideal) ((c.tc : Thread Cert.KernelInprojFwdIdeal.nD Cert.KernelInprojFwdIdeal.τ).loc Cert.KernelInprojFwdIdeal.main_v8_3)) (v4 : (c : Dev Cert.KernelInprojFwdIdeal.nD) → Buf (Elt Ideal) ((c.tc : Thread Cert.KernelInprojFwdIdeal.nD Cert.KernelInprojFwdIdeal.τ).loc Cert.KernelInprojFwdIdeal.main_v8_4)) (v5 : (c : Dev Cert.KernelInprojFwdIdeal.nD) → Buf (Elt Ideal) ((c.tc : Thread Cert.KernelInprojFwdIdeal.nD Cert.KernelInprojFwdIdeal.τ).loc Cert.KernelInprojFwdIdeal.main_v8_5)) (v6 : (c : Dev Cert.KernelInprojFwdIdeal.nD) → Buf (Elt Ideal) ((c.tc : Thread Cert.KernelInprojFwdIdeal.nD Cert.KernelInprojFwdIdeal.τ).loc Cert.KernelInprojFwdIdeal.main_v8_6)),
      θ_run (Cert.KernelInprojFwdIdeal.defs (F := Ideal)) (onTc (τ := Cert.KernelInprojFwdIdeal.τ) (Cert.KernelInprojFwdIdeal.main (F := Ideal))) ⟨m, fun _ => 0, g⟩ (fun r => ∀ c : Dev Cert.KernelInprojFwdIdeal.nD,
          r.2.mem ((c.tc : Thread Cert.KernelInprojFwdIdeal.nD Cert.KernelInprojFwdIdeal.τ).loc Cert.KernelInprojFwdIdeal.main_v8_0) = v0 c
          ∧ r.2.mem ((c.tc : Thread Cert.KernelInprojFwdIdeal.nD Cert.KernelInprojFwdIdeal.τ).loc Cert.KernelInprojFwdIdeal.main_v8_1) = v1 c
          ∧ r.2.mem ((c.tc : Thread Cert.KernelInprojFwdIdeal.nD Cert.KernelInprojFwdIdeal.τ).loc Cert.KernelInprojFwdIdeal.main_v8_2) = v2 c
          ∧ r.2.mem ((c.tc : Thread Cert.KernelInprojFwdIdeal.nD Cert.KernelInprojFwdIdeal.τ).loc Cert.KernelInprojFwdIdeal.main_v8_3) = v3 c
          ∧ r.2.mem ((c.tc : Thread Cert.KernelInprojFwdIdeal.nD Cert.KernelInprojFwdIdeal.τ).loc Cert.KernelInprojFwdIdeal.main_v8_4) = v4 c
          ∧ r.2.mem ((c.tc : Thread Cert.KernelInprojFwdIdeal.nD Cert.KernelInprojFwdIdeal.τ).loc Cert.KernelInprojFwdIdeal.main_v8_5) = v5 c
          ∧ r.2.mem ((c.tc : Thread Cert.KernelInprojFwdIdeal.nD Cert.KernelInprojFwdIdeal.τ).loc Cert.KernelInprojFwdIdeal.main_v8_6) = v6 c
          ∧ r.2.mem ((c.tc : Thread Cert.KernelInprojFwdIdeal.nD Cert.KernelInprojFwdIdeal.τ).loc Cert.KernelInprojFwdIdeal.main_arg0) = m ((c.tc : Thread Cert.KernelInprojFwdIdeal.nD Cert.KernelInprojFwdIdeal.τ).loc Cert.KernelInprojFwdIdeal.main_arg0)
          ∧ r.2.mem ((c.tc : Thread Cert.KernelInprojFwdIdeal.nD Cert.KernelInprojFwdIdeal.τ).loc Cert.KernelInprojFwdIdeal.main_arg1) = m ((c.tc : Thread Cert.KernelInprojFwdIdeal.nD Cert.KernelInprojFwdIdeal.τ).loc Cert.KernelInprojFwdIdeal.main_arg1)
          ∧ r.2.mem ((c.tc : Thread Cert.KernelInprojFwdIdeal.nD Cert.KernelInprojFwdIdeal.τ).loc Cert.KernelInprojFwdIdeal.main_arg2) = m ((c.tc : Thread Cert.KernelInprojFwdIdeal.nD Cert.KernelInprojFwdIdeal.τ).loc Cert.KernelInprojFwdIdeal.main_arg2))
      ∧ θ_run (Cert.ReferenceInprojFwdIdeal.defs (F := Ideal)) (onTc (τ := Cert.ReferenceInprojFwdIdeal.τ) (Cert.ReferenceInprojFwdIdeal.main (F := Ideal))) ⟨m', fun _ => 0, g'⟩ (fun r => ∀ c : Dev Cert.ReferenceInprojFwdIdeal.nD,
          r.2.mem ((c.tc : Thread Cert.ReferenceInprojFwdIdeal.nD Cert.ReferenceInprojFwdIdeal.τ).loc Cert.ReferenceInprojFwdIdeal.main_v14) = v0 c
          ∧ r.2.mem ((c.tc : Thread Cert.ReferenceInprojFwdIdeal.nD Cert.ReferenceInprojFwdIdeal.τ).loc Cert.ReferenceInprojFwdIdeal.main_v15) = v1 c
          ∧ r.2.mem ((c.tc : Thread Cert.ReferenceInprojFwdIdeal.nD Cert.ReferenceInprojFwdIdeal.τ).loc Cert.ReferenceInprojFwdIdeal.main_v16) = v2 c
          ∧ r.2.mem ((c.tc : Thread Cert.ReferenceInprojFwdIdeal.nD Cert.ReferenceInprojFwdIdeal.τ).loc Cert.ReferenceInprojFwdIdeal.main_v17) = v3 c
          ∧ r.2.mem ((c.tc : Thread Cert.ReferenceInprojFwdIdeal.nD Cert.ReferenceInprojFwdIdeal.τ).loc Cert.ReferenceInprojFwdIdeal.main_v18) = v4 c
          ∧ r.2.mem ((c.tc : Thread Cert.ReferenceInprojFwdIdeal.nD Cert.ReferenceInprojFwdIdeal.τ).loc Cert.ReferenceInprojFwdIdeal.main_v21) = v5 c
          ∧ r.2.mem ((c.tc : Thread Cert.ReferenceInprojFwdIdeal.nD Cert.ReferenceInprojFwdIdeal.τ).loc Cert.ReferenceInprojFwdIdeal.main_v23) = v6 c
          ∧ r.2.mem ((c.tc : Thread Cert.ReferenceInprojFwdIdeal.nD Cert.ReferenceInprojFwdIdeal.τ).loc Cert.ReferenceInprojFwdIdeal.main_arg0) = m' ((c.tc : Thread Cert.ReferenceInprojFwdIdeal.nD Cert.ReferenceInprojFwdIdeal.τ).loc Cert.ReferenceInprojFwdIdeal.main_arg0)
          ∧ r.2.mem ((c.tc : Thread Cert.ReferenceInprojFwdIdeal.nD Cert.ReferenceInprojFwdIdeal.τ).loc Cert.ReferenceInprojFwdIdeal.main_arg1) = m' ((c.tc : Thread Cert.ReferenceInprojFwdIdeal.nD Cert.ReferenceInprojFwdIdeal.τ).loc Cert.ReferenceInprojFwdIdeal.main_arg1)
          ∧ r.2.mem ((c.tc : Thread Cert.ReferenceInprojFwdIdeal.nD Cert.ReferenceInprojFwdIdeal.τ).loc Cert.ReferenceInprojFwdIdeal.main_arg2) = m' ((c.tc : Thread Cert.ReferenceInprojFwdIdeal.nD Cert.ReferenceInprojFwdIdeal.τ).loc Cert.ReferenceInprojFwdIdeal.main_arg2))

def preserves_KernelAdamGate_KernelAdamGateIdeal : Prop :=
  True

def algebraic_KernelAdamGateIdeal_ReferenceAdamGateIdeal [hKernelAdamGateIdeal : Cert.KernelAdamGateIdeal.Facts] [hReferenceAdamGateIdeal : Cert.ReferenceAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg)
    (m' : (ℓ : Loc Cert.ReferenceAdamGateIdeal.nD Cert.ReferenceAdamGateIdeal.τ Cert.ReferenceAdamGateIdeal.sig) → Buf (Elt Ideal) ℓ) (g' : Dev Cert.ReferenceAdamGateIdeal.nD → PrngReg), Pre_KernelAdamGateIdeal m →
    (∀ c : Dev Cert.KernelAdamGateIdeal.nD,
      m' ((c.tc : Thread Cert.ReferenceAdamGateIdeal.nD Cert.ReferenceAdamGateIdeal.τ).loc Cert.ReferenceAdamGateIdeal.main_arg0) = m ((c.tc : Thread Cert.KernelAdamGateIdeal.nD Cert.KernelAdamGateIdeal.τ).loc Cert.KernelAdamGateIdeal.main_arg0)
      ∧ m' ((c.tc : Thread Cert.ReferenceAdamGateIdeal.nD Cert.ReferenceAdamGateIdeal.τ).loc Cert.ReferenceAdamGateIdeal.main_arg1) = m ((c.tc : Thread Cert.KernelAdamGateIdeal.nD Cert.KernelAdamGateIdeal.τ).loc Cert.KernelAdamGateIdeal.main_arg1)
      ∧ m' ((c.tc : Thread Cert.ReferenceAdamGateIdeal.nD Cert.ReferenceAdamGateIdeal.τ).loc Cert.ReferenceAdamGateIdeal.main_arg2) = m ((c.tc : Thread Cert.KernelAdamGateIdeal.nD Cert.KernelAdamGateIdeal.τ).loc Cert.KernelAdamGateIdeal.main_arg2)
      ∧ m' ((c.tc : Thread Cert.ReferenceAdamGateIdeal.nD Cert.ReferenceAdamGateIdeal.τ).loc Cert.ReferenceAdamGateIdeal.main_arg3) = m ((c.tc : Thread Cert.KernelAdamGateIdeal.nD Cert.KernelAdamGateIdeal.τ).loc Cert.KernelAdamGateIdeal.main_arg3)) →
    ∃ (v0 : (c : Dev Cert.KernelAdamGateIdeal.nD) → Buf (Elt Ideal) ((c.tc : Thread Cert.KernelAdamGateIdeal.nD Cert.KernelAdamGateIdeal.τ).loc Cert.KernelAdamGateIdeal.main_v0_0)) (v1 : (c : Dev Cert.KernelAdamGateIdeal.nD) → Buf (Elt Ideal) ((c.tc : Thread Cert.KernelAdamGateIdeal.nD Cert.KernelAdamGateIdeal.τ).loc Cert.KernelAdamGateIdeal.main_v0_1)) (v2 : (c : Dev Cert.KernelAdamGateIdeal.nD) → Buf (Elt Ideal) ((c.tc : Thread Cert.KernelAdamGateIdeal.nD Cert.KernelAdamGateIdeal.τ).loc Cert.KernelAdamGateIdeal.main_v0_2)),
      θ_run (Cert.KernelAdamGateIdeal.defs (F := Ideal)) (onTc (τ := Cert.KernelAdamGateIdeal.τ) (Cert.KernelAdamGateIdeal.main (F := Ideal))) ⟨m, fun _ => 0, g⟩ (fun r => ∀ c : Dev Cert.KernelAdamGateIdeal.nD,
          r.2.mem ((c.tc : Thread Cert.KernelAdamGateIdeal.nD Cert.KernelAdamGateIdeal.τ).loc Cert.KernelAdamGateIdeal.main_v0_0) = v0 c
          ∧ r.2.mem ((c.tc : Thread Cert.KernelAdamGateIdeal.nD Cert.KernelAdamGateIdeal.τ).loc Cert.KernelAdamGateIdeal.main_v0_1) = v1 c
          ∧ r.2.mem ((c.tc : Thread Cert.KernelAdamGateIdeal.nD Cert.KernelAdamGateIdeal.τ).loc Cert.KernelAdamGateIdeal.main_v0_2) = v2 c
          ∧ r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
          ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
          ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
          ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ θ_run (Cert.ReferenceAdamGateIdeal.defs (F := Ideal)) (onTc (τ := Cert.ReferenceAdamGateIdeal.τ) (Cert.ReferenceAdamGateIdeal.main (F := Ideal))) ⟨m', fun _ => 0, g'⟩ (fun r => ∀ c : Dev Cert.ReferenceAdamGateIdeal.nD,
          r.2.mem ((c.tc : Thread Cert.ReferenceAdamGateIdeal.nD Cert.ReferenceAdamGateIdeal.τ).loc Cert.ReferenceAdamGateIdeal.main_v23) = v0 c
          ∧ r.2.mem ((c.tc : Thread Cert.ReferenceAdamGateIdeal.nD Cert.ReferenceAdamGateIdeal.τ).loc Cert.ReferenceAdamGateIdeal.main_v4) = v1 c
          ∧ r.2.mem ((c.tc : Thread Cert.ReferenceAdamGateIdeal.nD Cert.ReferenceAdamGateIdeal.τ).loc Cert.ReferenceAdamGateIdeal.main_v10) = v2 c
          ∧ r.2.mem ((c.tc : Thread Cert.ReferenceAdamGateIdeal.nD Cert.ReferenceAdamGateIdeal.τ).loc Cert.ReferenceAdamGateIdeal.main_arg0) = m' ((c.tc : Thread Cert.ReferenceAdamGateIdeal.nD Cert.ReferenceAdamGateIdeal.τ).loc Cert.ReferenceAdamGateIdeal.main_arg0)
          ∧ r.2.mem ((c.tc : Thread Cert.ReferenceAdamGateIdeal.nD Cert.ReferenceAdamGateIdeal.τ).loc Cert.ReferenceAdamGateIdeal.main_arg1) = m' ((c.tc : Thread Cert.ReferenceAdamGateIdeal.nD Cert.ReferenceAdamGateIdeal.τ).loc Cert.ReferenceAdamGateIdeal.main_arg1)
          ∧ r.2.mem ((c.tc : Thread Cert.ReferenceAdamGateIdeal.nD Cert.ReferenceAdamGateIdeal.τ).loc Cert.ReferenceAdamGateIdeal.main_arg2) = m' ((c.tc : Thread Cert.ReferenceAdamGateIdeal.nD Cert.ReferenceAdamGateIdeal.τ).loc Cert.ReferenceAdamGateIdeal.main_arg2)
          ∧ r.2.mem ((c.tc : Thread Cert.ReferenceAdamGateIdeal.nD Cert.ReferenceAdamGateIdeal.τ).loc Cert.ReferenceAdamGateIdeal.main_arg3) = m' ((c.tc : Thread Cert.ReferenceAdamGateIdeal.nD Cert.ReferenceAdamGateIdeal.τ).loc Cert.ReferenceAdamGateIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamGlu_KernelAdamGluIdeal : Prop :=
  True

def algebraic_KernelAdamGluIdeal_ReferenceAdamGluIdeal [hKernelAdamGluIdeal : Cert.KernelAdamGluIdeal.Facts] [hReferenceAdamGluIdeal : Cert.ReferenceAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg)
    (m' : (ℓ : Loc Cert.ReferenceAdamGluIdeal.nD Cert.ReferenceAdamGluIdeal.τ Cert.ReferenceAdamGluIdeal.sig) → Buf (Elt Ideal) ℓ) (g' : Dev Cert.ReferenceAdamGluIdeal.nD → PrngReg), Pre_KernelAdamGluIdeal m →
    (∀ c : Dev Cert.KernelAdamGluIdeal.nD,
      m' ((c.tc : Thread Cert.ReferenceAdamGluIdeal.nD Cert.ReferenceAdamGluIdeal.τ).loc Cert.ReferenceAdamGluIdeal.main_arg0) = m ((c.tc : Thread Cert.KernelAdamGluIdeal.nD Cert.KernelAdamGluIdeal.τ).loc Cert.KernelAdamGluIdeal.main_arg0)
      ∧ m' ((c.tc : Thread Cert.ReferenceAdamGluIdeal.nD Cert.ReferenceAdamGluIdeal.τ).loc Cert.ReferenceAdamGluIdeal.main_arg1) = m ((c.tc : Thread Cert.KernelAdamGluIdeal.nD Cert.KernelAdamGluIdeal.τ).loc Cert.KernelAdamGluIdeal.main_arg1)
      ∧ m' ((c.tc : Thread Cert.ReferenceAdamGluIdeal.nD Cert.ReferenceAdamGluIdeal.τ).loc Cert.ReferenceAdamGluIdeal.main_arg2) = m ((c.tc : Thread Cert.KernelAdamGluIdeal.nD Cert.KernelAdamGluIdeal.τ).loc Cert.KernelAdamGluIdeal.main_arg2)
      ∧ m' ((c.tc : Thread Cert.ReferenceAdamGluIdeal.nD Cert.ReferenceAdamGluIdeal.τ).loc Cert.ReferenceAdamGluIdeal.main_arg3) = m ((c.tc : Thread Cert.KernelAdamGluIdeal.nD Cert.KernelAdamGluIdeal.τ).loc Cert.KernelAdamGluIdeal.main_arg3)) →
    ∃ (v0 : (c : Dev Cert.KernelAdamGluIdeal.nD) → Buf (Elt Ideal) ((c.tc : Thread Cert.KernelAdamGluIdeal.nD Cert.KernelAdamGluIdeal.τ).loc Cert.KernelAdamGluIdeal.main_v0_0)) (v1 : (c : Dev Cert.KernelAdamGluIdeal.nD) → Buf (Elt Ideal) ((c.tc : Thread Cert.KernelAdamGluIdeal.nD Cert.KernelAdamGluIdeal.τ).loc Cert.KernelAdamGluIdeal.main_v0_1)) (v2 : (c : Dev Cert.KernelAdamGluIdeal.nD) → Buf (Elt Ideal) ((c.tc : Thread Cert.KernelAdamGluIdeal.nD Cert.KernelAdamGluIdeal.τ).loc Cert.KernelAdamGluIdeal.main_v0_2)),
      θ_run (Cert.KernelAdamGluIdeal.defs (F := Ideal)) (onTc (τ := Cert.KernelAdamGluIdeal.τ) (Cert.KernelAdamGluIdeal.main (F := Ideal))) ⟨m, fun _ => 0, g⟩ (fun r => ∀ c : Dev Cert.KernelAdamGluIdeal.nD,
          r.2.mem ((c.tc : Thread Cert.KernelAdamGluIdeal.nD Cert.KernelAdamGluIdeal.τ).loc Cert.KernelAdamGluIdeal.main_v0_0) = v0 c
          ∧ r.2.mem ((c.tc : Thread Cert.KernelAdamGluIdeal.nD Cert.KernelAdamGluIdeal.τ).loc Cert.KernelAdamGluIdeal.main_v0_1) = v1 c
          ∧ r.2.mem ((c.tc : Thread Cert.KernelAdamGluIdeal.nD Cert.KernelAdamGluIdeal.τ).loc Cert.KernelAdamGluIdeal.main_v0_2) = v2 c
          ∧ r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
          ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
          ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
          ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ θ_run (Cert.ReferenceAdamGluIdeal.defs (F := Ideal)) (onTc (τ := Cert.ReferenceAdamGluIdeal.τ) (Cert.ReferenceAdamGluIdeal.main (F := Ideal))) ⟨m', fun _ => 0, g'⟩ (fun r => ∀ c : Dev Cert.ReferenceAdamGluIdeal.nD,
          r.2.mem ((c.tc : Thread Cert.ReferenceAdamGluIdeal.nD Cert.ReferenceAdamGluIdeal.τ).loc Cert.ReferenceAdamGluIdeal.main_v23) = v0 c
          ∧ r.2.mem ((c.tc : Thread Cert.ReferenceAdamGluIdeal.nD Cert.ReferenceAdamGluIdeal.τ).loc Cert.ReferenceAdamGluIdeal.main_v4) = v1 c
          ∧ r.2.mem ((c.tc : Thread Cert.ReferenceAdamGluIdeal.nD Cert.ReferenceAdamGluIdeal.τ).loc Cert.ReferenceAdamGluIdeal.main_v10) = v2 c
          ∧ r.2.mem ((c.tc : Thread Cert.ReferenceAdamGluIdeal.nD Cert.ReferenceAdamGluIdeal.τ).loc Cert.ReferenceAdamGluIdeal.main_arg0) = m' ((c.tc : Thread Cert.ReferenceAdamGluIdeal.nD Cert.ReferenceAdamGluIdeal.τ).loc Cert.ReferenceAdamGluIdeal.main_arg0)
          ∧ r.2.mem ((c.tc : Thread Cert.ReferenceAdamGluIdeal.nD Cert.ReferenceAdamGluIdeal.τ).loc Cert.ReferenceAdamGluIdeal.main_arg1) = m' ((c.tc : Thread Cert.ReferenceAdamGluIdeal.nD Cert.ReferenceAdamGluIdeal.τ).loc Cert.ReferenceAdamGluIdeal.main_arg1)
          ∧ r.2.mem ((c.tc : Thread Cert.ReferenceAdamGluIdeal.nD Cert.ReferenceAdamGluIdeal.τ).loc Cert.ReferenceAdamGluIdeal.main_arg2) = m' ((c.tc : Thread Cert.ReferenceAdamGluIdeal.nD Cert.ReferenceAdamGluIdeal.τ).loc Cert.ReferenceAdamGluIdeal.main_arg2)
          ∧ r.2.mem ((c.tc : Thread Cert.ReferenceAdamGluIdeal.nD Cert.ReferenceAdamGluIdeal.τ).loc Cert.ReferenceAdamGluIdeal.main_arg3) = m' ((c.tc : Thread Cert.ReferenceAdamGluIdeal.nD Cert.ReferenceAdamGluIdeal.τ).loc Cert.ReferenceAdamGluIdeal.main_arg3))

def preserves_KernelAdamMeta_KernelAdamMetaIdeal : Prop :=
  True

def algebraic_KernelAdamMetaIdeal_ReferenceAdamMetaIdeal [hKernelAdamMetaIdeal : Cert.KernelAdamMetaIdeal.Facts] [hReferenceAdamMetaIdeal : Cert.ReferenceAdamMetaIdeal.Facts] : Prop :=
  ∀ (m : (ℓ : Loc Cert.KernelAdamMetaIdeal.nD Cert.KernelAdamMetaIdeal.τ Cert.KernelAdamMetaIdeal.sig) → Buf (Elt Ideal) ℓ) (g : Dev Cert.KernelAdamMetaIdeal.nD → PrngReg)
    (m' : (ℓ : Loc Cert.ReferenceAdamMetaIdeal.nD Cert.ReferenceAdamMetaIdeal.τ Cert.ReferenceAdamMetaIdeal.sig) → Buf (Elt Ideal) ℓ) (g' : Dev Cert.ReferenceAdamMetaIdeal.nD → PrngReg), Pre_KernelAdamMetaIdeal m →
    (∀ c : Dev Cert.KernelAdamMetaIdeal.nD,
      m' ((c.tc : Thread Cert.ReferenceAdamMetaIdeal.nD Cert.ReferenceAdamMetaIdeal.τ).loc Cert.ReferenceAdamMetaIdeal.main_arg0) = m ((c.tc : Thread Cert.KernelAdamMetaIdeal.nD Cert.KernelAdamMetaIdeal.τ).loc Cert.KernelAdamMetaIdeal.main_arg0)
      ∧ m' ((c.tc : Thread Cert.ReferenceAdamMetaIdeal.nD Cert.ReferenceAdamMetaIdeal.τ).loc Cert.ReferenceAdamMetaIdeal.main_arg1) = m ((c.tc : Thread Cert.KernelAdamMetaIdeal.nD Cert.KernelAdamMetaIdeal.τ).loc Cert.KernelAdamMetaIdeal.main_arg1)
      ∧ m' ((c.tc : Thread Cert.ReferenceAdamMetaIdeal.nD Cert.ReferenceAdamMetaIdeal.τ).loc Cert.ReferenceAdamMetaIdeal.main_arg2) = m ((c.tc : Thread Cert.KernelAdamMetaIdeal.nD Cert.KernelAdamMetaIdeal.τ).loc Cert.KernelAdamMetaIdeal.main_arg2)
      ∧ m' ((c.tc : Thread Cert.ReferenceAdamMetaIdeal.nD Cert.ReferenceAdamMetaIdeal.τ).loc Cert.ReferenceAdamMetaIdeal.main_arg3) = m ((c.tc : Thread Cert.KernelAdamMetaIdeal.nD Cert.KernelAdamMetaIdeal.τ).loc Cert.KernelAdamMetaIdeal.main_arg3)) →
    ∃ (v0 : (c : Dev Cert.KernelAdamMetaIdeal.nD) → Buf (Elt Ideal) ((c.tc : Thread Cert.KernelAdamMetaIdeal.nD Cert.KernelAdamMetaIdeal.τ).loc Cert.KernelAdamMetaIdeal.main_v0_0)) (v1 : (c : Dev Cert.KernelAdamMetaIdeal.nD) → Buf (Elt Ideal) ((c.tc : Thread Cert.KernelAdamMetaIdeal.nD Cert.KernelAdamMetaIdeal.τ).loc Cert.KernelAdamMetaIdeal.main_v0_1)) (v2 : (c : Dev Cert.KernelAdamMetaIdeal.nD) → Buf (Elt Ideal) ((c.tc : Thread Cert.KernelAdamMetaIdeal.nD Cert.KernelAdamMetaIdeal.τ).loc Cert.KernelAdamMetaIdeal.main_v0_2)),
      θ_run (Cert.KernelAdamMetaIdeal.defs (F := Ideal)) (onTc (τ := Cert.KernelAdamMetaIdeal.τ) (Cert.KernelAdamMetaIdeal.main (F := Ideal))) ⟨m, fun _ => 0, g⟩ (fun r => ∀ c : Dev Cert.KernelAdamMetaIdeal.nD,
          r.2.mem ((c.tc : Thread Cert.KernelAdamMetaIdeal.nD Cert.KernelAdamMetaIdeal.τ).loc Cert.KernelAdamMetaIdeal.main_v0_0) = v0 c
          ∧ r.2.mem ((c.tc : Thread Cert.KernelAdamMetaIdeal.nD Cert.KernelAdamMetaIdeal.τ).loc Cert.KernelAdamMetaIdeal.main_v0_1) = v1 c
          ∧ r.2.mem ((c.tc : Thread Cert.KernelAdamMetaIdeal.nD Cert.KernelAdamMetaIdeal.τ).loc Cert.KernelAdamMetaIdeal.main_v0_2) = v2 c
          ∧ r.2.mem ((c.tc : Thread Cert.KernelAdamMetaIdeal.nD Cert.KernelAdamMetaIdeal.τ).loc Cert.KernelAdamMetaIdeal.main_arg0) = m ((c.tc : Thread Cert.KernelAdamMetaIdeal.nD Cert.KernelAdamMetaIdeal.τ).loc Cert.KernelAdamMetaIdeal.main_arg0)
          ∧ r.2.mem ((c.tc : Thread Cert.KernelAdamMetaIdeal.nD Cert.KernelAdamMetaIdeal.τ).loc Cert.KernelAdamMetaIdeal.main_arg1) = m ((c.tc : Thread Cert.KernelAdamMetaIdeal.nD Cert.KernelAdamMetaIdeal.τ).loc Cert.KernelAdamMetaIdeal.main_arg1)
          ∧ r.2.mem ((c.tc : Thread Cert.KernelAdamMetaIdeal.nD Cert.KernelAdamMetaIdeal.τ).loc Cert.KernelAdamMetaIdeal.main_arg2) = m ((c.tc : Thread Cert.KernelAdamMetaIdeal.nD Cert.KernelAdamMetaIdeal.τ).loc Cert.KernelAdamMetaIdeal.main_arg2)
          ∧ r.2.mem ((c.tc : Thread Cert.KernelAdamMetaIdeal.nD Cert.KernelAdamMetaIdeal.τ).loc Cert.KernelAdamMetaIdeal.main_arg3) = m ((c.tc : Thread Cert.KernelAdamMetaIdeal.nD Cert.KernelAdamMetaIdeal.τ).loc Cert.KernelAdamMetaIdeal.main_arg3))
      ∧ θ_run (Cert.ReferenceAdamMetaIdeal.defs (F := Ideal)) (onTc (τ := Cert.ReferenceAdamMetaIdeal.τ) (Cert.ReferenceAdamMetaIdeal.main (F := Ideal))) ⟨m', fun _ => 0, g'⟩ (fun r => ∀ c : Dev Cert.ReferenceAdamMetaIdeal.nD,
          r.2.mem ((c.tc : Thread Cert.ReferenceAdamMetaIdeal.nD Cert.ReferenceAdamMetaIdeal.τ).loc Cert.ReferenceAdamMetaIdeal.main_v23) = v0 c
          ∧ r.2.mem ((c.tc : Thread Cert.ReferenceAdamMetaIdeal.nD Cert.ReferenceAdamMetaIdeal.τ).loc Cert.ReferenceAdamMetaIdeal.main_v4) = v1 c
          ∧ r.2.mem ((c.tc : Thread Cert.ReferenceAdamMetaIdeal.nD Cert.ReferenceAdamMetaIdeal.τ).loc Cert.ReferenceAdamMetaIdeal.main_v10) = v2 c
          ∧ r.2.mem ((c.tc : Thread Cert.ReferenceAdamMetaIdeal.nD Cert.ReferenceAdamMetaIdeal.τ).loc Cert.ReferenceAdamMetaIdeal.main_arg0) = m' ((c.tc : Thread Cert.ReferenceAdamMetaIdeal.nD Cert.ReferenceAdamMetaIdeal.τ).loc Cert.ReferenceAdamMetaIdeal.main_arg0)
          ∧ r.2.mem ((c.tc : Thread Cert.ReferenceAdamMetaIdeal.nD Cert.ReferenceAdamMetaIdeal.τ).loc Cert.ReferenceAdamMetaIdeal.main_arg1) = m' ((c.tc : Thread Cert.ReferenceAdamMetaIdeal.nD Cert.ReferenceAdamMetaIdeal.τ).loc Cert.ReferenceAdamMetaIdeal.main_arg1)
          ∧ r.2.mem ((c.tc : Thread Cert.ReferenceAdamMetaIdeal.nD Cert.ReferenceAdamMetaIdeal.τ).loc Cert.ReferenceAdamMetaIdeal.main_arg2) = m' ((c.tc : Thread Cert.ReferenceAdamMetaIdeal.nD Cert.ReferenceAdamMetaIdeal.τ).loc Cert.ReferenceAdamMetaIdeal.main_arg2)
          ∧ r.2.mem ((c.tc : Thread Cert.ReferenceAdamMetaIdeal.nD Cert.ReferenceAdamMetaIdeal.τ).loc Cert.ReferenceAdamMetaIdeal.main_arg3) = m' ((c.tc : Thread Cert.ReferenceAdamMetaIdeal.nD Cert.ReferenceAdamMetaIdeal.τ).loc Cert.ReferenceAdamMetaIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v23) = v0 c
          ∧ r.2.mem ((c.tc : Thread Cert.ReferenceAdamConvIdeal.nD Cert.ReferenceAdamConvIdeal.τ).loc Cert.ReferenceAdamConvIdeal.main_v4) = v1 c
          ∧ r.2.mem ((c.tc : Thread Cert.ReferenceAdamConvIdeal.nD Cert.ReferenceAdamConvIdeal.τ).loc Cert.ReferenceAdamConvIdeal.main_v10) = v2 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamRest_KernelAdamRestIdeal : Prop :=
  True

def algebraic_KernelAdamRestIdeal_ReferenceAdamRestIdeal [hKernelAdamRestIdeal : Cert.KernelAdamRestIdeal.Facts] [hReferenceAdamRestIdeal : Cert.ReferenceAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg)
    (m' : (ℓ : Loc Cert.ReferenceAdamRestIdeal.nD Cert.ReferenceAdamRestIdeal.τ Cert.ReferenceAdamRestIdeal.sig) → Buf (Elt Ideal) ℓ) (g' : Dev Cert.ReferenceAdamRestIdeal.nD → PrngReg), Pre_KernelAdamRestIdeal m →
    (∀ c : Dev Cert.KernelAdamRestIdeal.nD,
      m' ((c.tc : Thread Cert.ReferenceAdamRestIdeal.nD Cert.ReferenceAdamRestIdeal.τ).loc Cert.ReferenceAdamRestIdeal.main_arg0) = m ((c.tc : Thread Cert.KernelAdamRestIdeal.nD Cert.KernelAdamRestIdeal.τ).loc Cert.KernelAdamRestIdeal.main_arg0)
      ∧ m' ((c.tc : Thread Cert.ReferenceAdamRestIdeal.nD Cert.ReferenceAdamRestIdeal.τ).loc Cert.ReferenceAdamRestIdeal.main_arg1) = m ((c.tc : Thread Cert.KernelAdamRestIdeal.nD Cert.KernelAdamRestIdeal.τ).loc Cert.KernelAdamRestIdeal.main_arg1)
      ∧ m' ((c.tc : Thread Cert.ReferenceAdamRestIdeal.nD Cert.ReferenceAdamRestIdeal.τ).loc Cert.ReferenceAdamRestIdeal.main_arg2) = m ((c.tc : Thread Cert.KernelAdamRestIdeal.nD Cert.KernelAdamRestIdeal.τ).loc Cert.KernelAdamRestIdeal.main_arg2)
      ∧ m' ((c.tc : Thread Cert.ReferenceAdamRestIdeal.nD Cert.ReferenceAdamRestIdeal.τ).loc Cert.ReferenceAdamRestIdeal.main_arg3) = m ((c.tc : Thread Cert.KernelAdamRestIdeal.nD Cert.KernelAdamRestIdeal.τ).loc Cert.KernelAdamRestIdeal.main_arg3)) →
    ∃ (v0 : (c : Dev Cert.KernelAdamRestIdeal.nD) → Buf (Elt Ideal) ((c.tc : Thread Cert.KernelAdamRestIdeal.nD Cert.KernelAdamRestIdeal.τ).loc Cert.KernelAdamRestIdeal.main_v0_0)) (v1 : (c : Dev Cert.KernelAdamRestIdeal.nD) → Buf (Elt Ideal) ((c.tc : Thread Cert.KernelAdamRestIdeal.nD Cert.KernelAdamRestIdeal.τ).loc Cert.KernelAdamRestIdeal.main_v0_1)) (v2 : (c : Dev Cert.KernelAdamRestIdeal.nD) → Buf (Elt Ideal) ((c.tc : Thread Cert.KernelAdamRestIdeal.nD Cert.KernelAdamRestIdeal.τ).loc Cert.KernelAdamRestIdeal.main_v0_2)),
      θ_run (Cert.KernelAdamRestIdeal.defs (F := Ideal)) (onTc (τ := Cert.KernelAdamRestIdeal.τ) (Cert.KernelAdamRestIdeal.main (F := Ideal))) ⟨m, fun _ => 0, g⟩ (fun r => ∀ c : Dev Cert.KernelAdamRestIdeal.nD,
          r.2.mem ((c.tc : Thread Cert.KernelAdamRestIdeal.nD Cert.KernelAdamRestIdeal.τ).loc Cert.KernelAdamRestIdeal.main_v0_0) = v0 c
          ∧ r.2.mem ((c.tc : Thread Cert.KernelAdamRestIdeal.nD Cert.KernelAdamRestIdeal.τ).loc Cert.KernelAdamRestIdeal.main_v0_1) = v1 c
          ∧ r.2.mem ((c.tc : Thread Cert.KernelAdamRestIdeal.nD Cert.KernelAdamRestIdeal.τ).loc Cert.KernelAdamRestIdeal.main_v0_2) = v2 c
          ∧ r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
          ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
          ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
          ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3))
      ∧ θ_run (Cert.ReferenceAdamRestIdeal.defs (F := Ideal)) (onTc (τ := Cert.ReferenceAdamRestIdeal.τ) (Cert.ReferenceAdamRestIdeal.main (F := Ideal))) ⟨m', fun _ => 0, g'⟩ (fun r => ∀ c : Dev Cert.ReferenceAdamRestIdeal.nD,
          r.2.mem ((c.tc : Thread Cert.ReferenceAdamRestIdeal.nD Cert.ReferenceAdamRestIdeal.τ).loc Cert.ReferenceAdamRestIdeal.main_v23) = v0 c
          ∧ r.2.mem ((c.tc : Thread Cert.ReferenceAdamRestIdeal.nD Cert.ReferenceAdamRestIdeal.τ).loc Cert.ReferenceAdamRestIdeal.main_v4) = v1 c
          ∧ r.2.mem ((c.tc : Thread Cert.ReferenceAdamRestIdeal.nD Cert.ReferenceAdamRestIdeal.τ).loc Cert.ReferenceAdamRestIdeal.main_v10) = v2 c
          ∧ r.2.mem ((c.tc : Thread Cert.ReferenceAdamRestIdeal.nD Cert.ReferenceAdamRestIdeal.τ).loc Cert.ReferenceAdamRestIdeal.main_arg0) = m' ((c.tc : Thread Cert.ReferenceAdamRestIdeal.nD Cert.ReferenceAdamRestIdeal.τ).loc Cert.ReferenceAdamRestIdeal.main_arg0)
          ∧ r.2.mem ((c.tc : Thread Cert.ReferenceAdamRestIdeal.nD Cert.ReferenceAdamRestIdeal.τ).loc Cert.ReferenceAdamRestIdeal.main_arg1) = m' ((c.tc : Thread Cert.ReferenceAdamRestIdeal.nD Cert.ReferenceAdamRestIdeal.τ).loc Cert.ReferenceAdamRestIdeal.main_arg1)
          ∧ r.2.mem ((c.tc : Thread Cert.ReferenceAdamRestIdeal.nD Cert.ReferenceAdamRestIdeal.τ).loc Cert.ReferenceAdamRestIdeal.main_arg2) = m' ((c.tc : Thread Cert.ReferenceAdamRestIdeal.nD Cert.ReferenceAdamRestIdeal.τ).loc Cert.ReferenceAdamRestIdeal.main_arg2)
          ∧ r.2.mem ((c.tc : Thread Cert.ReferenceAdamRestIdeal.nD Cert.ReferenceAdamRestIdeal.τ).loc Cert.ReferenceAdamRestIdeal.main_arg3) = m' ((c.tc : Thread Cert.ReferenceAdamRestIdeal.nD Cert.ReferenceAdamRestIdeal.τ).loc Cert.ReferenceAdamRestIdeal.main_arg3))

def preserves_KernelMixOut_KernelMixOutIdeal : Prop :=
  True

def algebraic_KernelMixOutIdeal_ReferenceMixOutIdeal [hKernelMixOutIdeal : Cert.KernelMixOutIdeal.Facts] [hReferenceMixOutIdeal : Cert.ReferenceMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)
      ∧ m' ((c.tc : Thread Cert.ReferenceMixOutIdeal.nD Cert.ReferenceMixOutIdeal.τ).loc Cert.ReferenceMixOutIdeal.main_arg3) = m ((c.tc : Thread Cert.KernelMixOutIdeal.nD Cert.KernelMixOutIdeal.τ).loc Cert.KernelMixOutIdeal.main_arg3)
      ∧ m' ((c.tc : Thread Cert.ReferenceMixOutIdeal.nD Cert.ReferenceMixOutIdeal.τ).loc Cert.ReferenceMixOutIdeal.main_arg4) = m ((c.tc : Thread Cert.KernelMixOutIdeal.nD Cert.KernelMixOutIdeal.τ).loc Cert.KernelMixOutIdeal.main_arg4)
      ∧ m' ((c.tc : Thread Cert.ReferenceMixOutIdeal.nD Cert.ReferenceMixOutIdeal.τ).loc Cert.ReferenceMixOutIdeal.main_arg5) = m ((c.tc : Thread Cert.KernelMixOutIdeal.nD Cert.KernelMixOutIdeal.τ).loc Cert.KernelMixOutIdeal.main_arg5)
      ∧ m' ((c.tc : Thread Cert.ReferenceMixOutIdeal.nD Cert.ReferenceMixOutIdeal.τ).loc Cert.ReferenceMixOutIdeal.main_arg6) = m ((c.tc : Thread Cert.KernelMixOutIdeal.nD Cert.KernelMixOutIdeal.τ).loc Cert.KernelMixOutIdeal.main_arg6)
      ∧ m' ((c.tc : Thread Cert.ReferenceMixOutIdeal.nD Cert.ReferenceMixOutIdeal.τ).loc Cert.ReferenceMixOutIdeal.main_arg7) = m ((c.tc : Thread Cert.KernelMixOutIdeal.nD Cert.KernelMixOutIdeal.τ).loc Cert.KernelMixOutIdeal.main_arg7)
      ∧ m' ((c.tc : Thread Cert.ReferenceMixOutIdeal.nD Cert.ReferenceMixOutIdeal.τ).loc Cert.ReferenceMixOutIdeal.main_arg8) = m ((c.tc : Thread Cert.KernelMixOutIdeal.nD Cert.KernelMixOutIdeal.τ).loc Cert.KernelMixOutIdeal.main_arg8)
      ∧ m' ((c.tc : Thread Cert.ReferenceMixOutIdeal.nD Cert.ReferenceMixOutIdeal.τ).loc Cert.ReferenceMixOutIdeal.main_arg9) = m ((c.tc : Thread Cert.KernelMixOutIdeal.nD Cert.KernelMixOutIdeal.τ).loc Cert.KernelMixOutIdeal.main_arg9)
      ∧ m' ((c.tc : Thread Cert.ReferenceMixOutIdeal.nD Cert.ReferenceMixOutIdeal.τ).loc Cert.ReferenceMixOutIdeal.main_arg10) = m ((c.tc : Thread Cert.KernelMixOutIdeal.nD Cert.KernelMixOutIdeal.τ).loc Cert.KernelMixOutIdeal.main_arg10)) →
    ∃ (v0 : (c : Dev Cert.KernelMixOutIdeal.nD) → Buf (Elt Ideal) ((c.tc : Thread Cert.KernelMixOutIdeal.nD Cert.KernelMixOutIdeal.τ).loc Cert.KernelMixOutIdeal.main_v5_4)) (v1 : (c : Dev Cert.KernelMixOutIdeal.nD) → Buf (Elt Ideal) ((c.tc : Thread Cert.KernelMixOutIdeal.nD Cert.KernelMixOutIdeal.τ).loc Cert.KernelMixOutIdeal.main_v5_5)) (v2 : (c : Dev Cert.KernelMixOutIdeal.nD) → Buf (Elt Ideal) ((c.tc : Thread Cert.KernelMixOutIdeal.nD Cert.KernelMixOutIdeal.τ).loc Cert.KernelMixOutIdeal.main_v5_6)) (v3 : (c : Dev Cert.KernelMixOutIdeal.nD) → Buf (Elt Ideal) ((c.tc : Thread Cert.KernelMixOutIdeal.nD Cert.KernelMixOutIdeal.τ).loc Cert.KernelMixOutIdeal.main_v5_7)) (v4 : (c : Dev Cert.KernelMixOutIdeal.nD) → Buf (Elt Ideal) ((c.tc : Thread Cert.KernelMixOutIdeal.nD Cert.KernelMixOutIdeal.τ).loc Cert.KernelMixOutIdeal.main_v5_8)) (v5 : (c : Dev Cert.KernelMixOutIdeal.nD) → Buf (Elt Ideal) ((c.tc : Thread Cert.KernelMixOutIdeal.nD Cert.KernelMixOutIdeal.τ).loc Cert.KernelMixOutIdeal.main_v5_9)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v5_4) = v0 c
          ∧ r.2.mem ((c.tc : Thread Cert.KernelMixOutIdeal.nD Cert.KernelMixOutIdeal.τ).loc Cert.KernelMixOutIdeal.main_v5_5) = v1 c
          ∧ r.2.mem ((c.tc : Thread Cert.KernelMixOutIdeal.nD Cert.KernelMixOutIdeal.τ).loc Cert.KernelMixOutIdeal.main_v5_6) = v2 c
          ∧ r.2.mem ((c.tc : Thread Cert.KernelMixOutIdeal.nD Cert.KernelMixOutIdeal.τ).loc Cert.KernelMixOutIdeal.main_v5_7) = v3 c
          ∧ r.2.mem ((c.tc : Thread Cert.KernelMixOutIdeal.nD Cert.KernelMixOutIdeal.τ).loc Cert.KernelMixOutIdeal.main_v5_8) = v4 c
          ∧ r.2.mem ((c.tc : Thread Cert.KernelMixOutIdeal.nD Cert.KernelMixOutIdeal.τ).loc Cert.KernelMixOutIdeal.main_v5_9) = v5 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
          ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
          ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7)
          ∧ r.2.mem ((c.tc : Thread Cert.KernelMixOutIdeal.nD Cert.KernelMixOutIdeal.τ).loc Cert.KernelMixOutIdeal.main_arg8) = m ((c.tc : Thread Cert.KernelMixOutIdeal.nD Cert.KernelMixOutIdeal.τ).loc Cert.KernelMixOutIdeal.main_arg8)
          ∧ r.2.mem ((c.tc : Thread Cert.KernelMixOutIdeal.nD Cert.KernelMixOutIdeal.τ).loc Cert.KernelMixOutIdeal.main_arg9) = m ((c.tc : Thread Cert.KernelMixOutIdeal.nD Cert.KernelMixOutIdeal.τ).loc Cert.KernelMixOutIdeal.main_arg9)
          ∧ r.2.mem ((c.tc : Thread Cert.KernelMixOutIdeal.nD Cert.KernelMixOutIdeal.τ).loc Cert.KernelMixOutIdeal.main_arg10) = m ((c.tc : Thread Cert.KernelMixOutIdeal.nD Cert.KernelMixOutIdeal.τ).loc Cert.KernelMixOutIdeal.main_arg10))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v188) = v0 c
          ∧ r.2.mem ((c.tc : Thread Cert.ReferenceMixOutIdeal.nD Cert.ReferenceMixOutIdeal.τ).loc Cert.ReferenceMixOutIdeal.main_v189) = v1 c
          ∧ r.2.mem ((c.tc : Thread Cert.ReferenceMixOutIdeal.nD Cert.ReferenceMixOutIdeal.τ).loc Cert.ReferenceMixOutIdeal.main_v125) = v2 c
          ∧ r.2.mem ((c.tc : Thread Cert.ReferenceMixOutIdeal.nD Cert.ReferenceMixOutIdeal.τ).loc Cert.ReferenceMixOutIdeal.main_v190) = v3 c
          ∧ r.2.mem ((c.tc : Thread Cert.ReferenceMixOutIdeal.nD Cert.ReferenceMixOutIdeal.τ).loc Cert.ReferenceMixOutIdeal.main_v191) = v4 c
          ∧ r.2.mem ((c.tc : Thread Cert.ReferenceMixOutIdeal.nD Cert.ReferenceMixOutIdeal.τ).loc Cert.ReferenceMixOutIdeal.main_v93) = v5 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5)
          ∧ r.2.mem ((c.tc : Thread Cert.ReferenceMixOutIdeal.nD Cert.ReferenceMixOutIdeal.τ).loc Cert.ReferenceMixOutIdeal.main_arg6) = m' ((c.tc : Thread Cert.ReferenceMixOutIdeal.nD Cert.ReferenceMixOutIdeal.τ).loc Cert.ReferenceMixOutIdeal.main_arg6)
          ∧ r.2.mem ((c.tc : Thread Cert.ReferenceMixOutIdeal.nD Cert.ReferenceMixOutIdeal.τ).loc Cert.ReferenceMixOutIdeal.main_arg7) = m' ((c.tc : Thread Cert.ReferenceMixOutIdeal.nD Cert.ReferenceMixOutIdeal.τ).loc Cert.ReferenceMixOutIdeal.main_arg7)
          ∧ r.2.mem ((c.tc : Thread Cert.ReferenceMixOutIdeal.nD Cert.ReferenceMixOutIdeal.τ).loc Cert.ReferenceMixOutIdeal.main_arg8) = m' ((c.tc : Thread Cert.ReferenceMixOutIdeal.nD Cert.ReferenceMixOutIdeal.τ).loc Cert.ReferenceMixOutIdeal.main_arg8)
          ∧ r.2.mem ((c.tc : Thread Cert.ReferenceMixOutIdeal.nD Cert.ReferenceMixOutIdeal.τ).loc Cert.ReferenceMixOutIdeal.main_arg9) = m' ((c.tc : Thread Cert.ReferenceMixOutIdeal.nD Cert.ReferenceMixOutIdeal.τ).loc Cert.ReferenceMixOutIdeal.main_arg9)
          ∧ r.2.mem ((c.tc : Thread Cert.ReferenceMixOutIdeal.nD Cert.ReferenceMixOutIdeal.τ).loc Cert.ReferenceMixOutIdeal.main_arg10) = m' ((c.tc : Thread Cert.ReferenceMixOutIdeal.nD Cert.ReferenceMixOutIdeal.τ).loc Cert.ReferenceMixOutIdeal.main_arg10))

def preserves_KernelS5Prep_KernelS5PrepIdeal : Prop :=
  True

def algebraic_KernelS5PrepIdeal_ReferenceS5PrepIdeal [hKernelS5PrepIdeal : Cert.KernelS5PrepIdeal.Facts] [hReferenceS5PrepIdeal : Cert.ReferenceS5PrepIdeal.Facts] : Prop :=
  ∀ (m : (ℓ : Loc Cert.KernelS5PrepIdeal.nD Cert.KernelS5PrepIdeal.τ Cert.KernelS5PrepIdeal.sig) → Buf (Elt Ideal) ℓ) (g : Dev Cert.KernelS5PrepIdeal.nD → PrngReg)
    (m' : (ℓ : Loc Cert.ReferenceS5PrepIdeal.nD Cert.ReferenceS5PrepIdeal.τ Cert.ReferenceS5PrepIdeal.sig) → Buf (Elt Ideal) ℓ) (g' : Dev Cert.ReferenceS5PrepIdeal.nD → PrngReg), Pre_KernelS5PrepIdeal m →
    (∀ c : Dev Cert.KernelS5PrepIdeal.nD,
      m' ((c.tc : Thread Cert.ReferenceS5PrepIdeal.nD Cert.ReferenceS5PrepIdeal.τ).loc Cert.ReferenceS5PrepIdeal.main_arg0) = m ((c.tc : Thread Cert.KernelS5PrepIdeal.nD Cert.KernelS5PrepIdeal.τ).loc Cert.KernelS5PrepIdeal.main_arg0)
      ∧ m' ((c.tc : Thread Cert.ReferenceS5PrepIdeal.nD Cert.ReferenceS5PrepIdeal.τ).loc Cert.ReferenceS5PrepIdeal.main_arg1) = m ((c.tc : Thread Cert.KernelS5PrepIdeal.nD Cert.KernelS5PrepIdeal.τ).loc Cert.KernelS5PrepIdeal.main_arg1)
      ∧ m' ((c.tc : Thread Cert.ReferenceS5PrepIdeal.nD Cert.ReferenceS5PrepIdeal.τ).loc Cert.ReferenceS5PrepIdeal.main_arg2) = m ((c.tc : Thread Cert.KernelS5PrepIdeal.nD Cert.KernelS5PrepIdeal.τ).loc Cert.KernelS5PrepIdeal.main_arg2)
      ∧ m' ((c.tc : Thread Cert.ReferenceS5PrepIdeal.nD Cert.ReferenceS5PrepIdeal.τ).loc Cert.ReferenceS5PrepIdeal.main_arg3) = m ((c.tc : Thread Cert.KernelS5PrepIdeal.nD Cert.KernelS5PrepIdeal.τ).loc Cert.KernelS5PrepIdeal.main_arg3)
      ∧ m' ((c.tc : Thread Cert.ReferenceS5PrepIdeal.nD Cert.ReferenceS5PrepIdeal.τ).loc Cert.ReferenceS5PrepIdeal.main_arg4) = m ((c.tc : Thread Cert.KernelS5PrepIdeal.nD Cert.KernelS5PrepIdeal.τ).loc Cert.KernelS5PrepIdeal.main_arg4)
      ∧ m' ((c.tc : Thread Cert.ReferenceS5PrepIdeal.nD Cert.ReferenceS5PrepIdeal.τ).loc Cert.ReferenceS5PrepIdeal.main_arg5) = m ((c.tc : Thread Cert.KernelS5PrepIdeal.nD Cert.KernelS5PrepIdeal.τ).loc Cert.KernelS5PrepIdeal.main_arg5)
      ∧ m' ((c.tc : Thread Cert.ReferenceS5PrepIdeal.nD Cert.ReferenceS5PrepIdeal.τ).loc Cert.ReferenceS5PrepIdeal.main_arg6) = m ((c.tc : Thread Cert.KernelS5PrepIdeal.nD Cert.KernelS5PrepIdeal.τ).loc Cert.KernelS5PrepIdeal.main_arg6)
      ∧ m' ((c.tc : Thread Cert.ReferenceS5PrepIdeal.nD Cert.ReferenceS5PrepIdeal.τ).loc Cert.ReferenceS5PrepIdeal.main_arg7) = m ((c.tc : Thread Cert.KernelS5PrepIdeal.nD Cert.KernelS5PrepIdeal.τ).loc Cert.KernelS5PrepIdeal.main_arg7)
      ∧ m' ((c.tc : Thread Cert.ReferenceS5PrepIdeal.nD Cert.ReferenceS5PrepIdeal.τ).loc Cert.ReferenceS5PrepIdeal.main_arg8) = m ((c.tc : Thread Cert.KernelS5PrepIdeal.nD Cert.KernelS5PrepIdeal.τ).loc Cert.KernelS5PrepIdeal.main_arg8)) →
    ∃ (v0 : (c : Dev Cert.KernelS5PrepIdeal.nD) → Buf (Elt Ideal) ((c.tc : Thread Cert.KernelS5PrepIdeal.nD Cert.KernelS5PrepIdeal.τ).loc Cert.KernelS5PrepIdeal.main_v5_0)) (v1 : (c : Dev Cert.KernelS5PrepIdeal.nD) → Buf (Elt Ideal) ((c.tc : Thread Cert.KernelS5PrepIdeal.nD Cert.KernelS5PrepIdeal.τ).loc Cert.KernelS5PrepIdeal.main_v5_1)) (v2 : (c : Dev Cert.KernelS5PrepIdeal.nD) → Buf (Elt Ideal) ((c.tc : Thread Cert.KernelS5PrepIdeal.nD Cert.KernelS5PrepIdeal.τ).loc Cert.KernelS5PrepIdeal.main_v5_2)) (v3 : (c : Dev Cert.KernelS5PrepIdeal.nD) → Buf (Elt Ideal) ((c.tc : Thread Cert.KernelS5PrepIdeal.nD Cert.KernelS5PrepIdeal.τ).loc Cert.KernelS5PrepIdeal.main_v5_3)) (v4 : (c : Dev Cert.KernelS5PrepIdeal.nD) → Buf (Elt Ideal) ((c.tc : Thread Cert.KernelS5PrepIdeal.nD Cert.KernelS5PrepIdeal.τ).loc Cert.KernelS5PrepIdeal.main_v5_4)),
      θ_run (Cert.KernelS5PrepIdeal.defs (F := Ideal)) (onTc (τ := Cert.KernelS5PrepIdeal.τ) (Cert.KernelS5PrepIdeal.main (F := Ideal))) ⟨m, fun _ => 0, g⟩ (fun r => ∀ c : Dev Cert.KernelS5PrepIdeal.nD,
          r.2.mem ((c.tc : Thread Cert.KernelS5PrepIdeal.nD Cert.KernelS5PrepIdeal.τ).loc Cert.KernelS5PrepIdeal.main_v5_0) = v0 c
          ∧ r.2.mem ((c.tc : Thread Cert.KernelS5PrepIdeal.nD Cert.KernelS5PrepIdeal.τ).loc Cert.KernelS5PrepIdeal.main_v5_1) = v1 c
          ∧ r.2.mem ((c.tc : Thread Cert.KernelS5PrepIdeal.nD Cert.KernelS5PrepIdeal.τ).loc Cert.KernelS5PrepIdeal.main_v5_2) = v2 c
          ∧ r.2.mem ((c.tc : Thread Cert.KernelS5PrepIdeal.nD Cert.KernelS5PrepIdeal.τ).loc Cert.KernelS5PrepIdeal.main_v5_3) = v3 c
          ∧ r.2.mem ((c.tc : Thread Cert.KernelS5PrepIdeal.nD Cert.KernelS5PrepIdeal.τ).loc Cert.KernelS5PrepIdeal.main_v5_4) = v4 c
          ∧ r.2.mem ((c.tc : Thread Cert.KernelS5PrepIdeal.nD Cert.KernelS5PrepIdeal.τ).loc Cert.KernelS5PrepIdeal.main_arg0) = m ((c.tc : Thread Cert.KernelS5PrepIdeal.nD Cert.KernelS5PrepIdeal.τ).loc Cert.KernelS5PrepIdeal.main_arg0)
          ∧ r.2.mem ((c.tc : Thread Cert.KernelS5PrepIdeal.nD Cert.KernelS5PrepIdeal.τ).loc Cert.KernelS5PrepIdeal.main_arg1) = m ((c.tc : Thread Cert.KernelS5PrepIdeal.nD Cert.KernelS5PrepIdeal.τ).loc Cert.KernelS5PrepIdeal.main_arg1)
          ∧ r.2.mem ((c.tc : Thread Cert.KernelS5PrepIdeal.nD Cert.KernelS5PrepIdeal.τ).loc Cert.KernelS5PrepIdeal.main_arg2) = m ((c.tc : Thread Cert.KernelS5PrepIdeal.nD Cert.KernelS5PrepIdeal.τ).loc Cert.KernelS5PrepIdeal.main_arg2)
          ∧ r.2.mem ((c.tc : Thread Cert.KernelS5PrepIdeal.nD Cert.KernelS5PrepIdeal.τ).loc Cert.KernelS5PrepIdeal.main_arg3) = m ((c.tc : Thread Cert.KernelS5PrepIdeal.nD Cert.KernelS5PrepIdeal.τ).loc Cert.KernelS5PrepIdeal.main_arg3)
          ∧ r.2.mem ((c.tc : Thread Cert.KernelS5PrepIdeal.nD Cert.KernelS5PrepIdeal.τ).loc Cert.KernelS5PrepIdeal.main_arg4) = m ((c.tc : Thread Cert.KernelS5PrepIdeal.nD Cert.KernelS5PrepIdeal.τ).loc Cert.KernelS5PrepIdeal.main_arg4)
          ∧ r.2.mem ((c.tc : Thread Cert.KernelS5PrepIdeal.nD Cert.KernelS5PrepIdeal.τ).loc Cert.KernelS5PrepIdeal.main_arg5) = m ((c.tc : Thread Cert.KernelS5PrepIdeal.nD Cert.KernelS5PrepIdeal.τ).loc Cert.KernelS5PrepIdeal.main_arg5)
          ∧ r.2.mem ((c.tc : Thread Cert.KernelS5PrepIdeal.nD Cert.KernelS5PrepIdeal.τ).loc Cert.KernelS5PrepIdeal.main_arg6) = m ((c.tc : Thread Cert.KernelS5PrepIdeal.nD Cert.KernelS5PrepIdeal.τ).loc Cert.KernelS5PrepIdeal.main_arg6)
          ∧ r.2.mem ((c.tc : Thread Cert.KernelS5PrepIdeal.nD Cert.KernelS5PrepIdeal.τ).loc Cert.KernelS5PrepIdeal.main_arg7) = m ((c.tc : Thread Cert.KernelS5PrepIdeal.nD Cert.KernelS5PrepIdeal.τ).loc Cert.KernelS5PrepIdeal.main_arg7)
          ∧ r.2.mem ((c.tc : Thread Cert.KernelS5PrepIdeal.nD Cert.KernelS5PrepIdeal.τ).loc Cert.KernelS5PrepIdeal.main_arg8) = m ((c.tc : Thread Cert.KernelS5PrepIdeal.nD Cert.KernelS5PrepIdeal.τ).loc Cert.KernelS5PrepIdeal.main_arg8))
      ∧ θ_run (Cert.ReferenceS5PrepIdeal.defs (F := Ideal)) (onTc (τ := Cert.ReferenceS5PrepIdeal.τ) (Cert.ReferenceS5PrepIdeal.main (F := Ideal))) ⟨m', fun _ => 0, g'⟩ (fun r => ∀ c : Dev Cert.ReferenceS5PrepIdeal.nD,
          r.2.mem ((c.tc : Thread Cert.ReferenceS5PrepIdeal.nD Cert.ReferenceS5PrepIdeal.τ).loc Cert.ReferenceS5PrepIdeal.main_v138) = v0 c
          ∧ r.2.mem ((c.tc : Thread Cert.ReferenceS5PrepIdeal.nD Cert.ReferenceS5PrepIdeal.τ).loc Cert.ReferenceS5PrepIdeal.main_v130) = v1 c
          ∧ r.2.mem ((c.tc : Thread Cert.ReferenceS5PrepIdeal.nD Cert.ReferenceS5PrepIdeal.τ).loc Cert.ReferenceS5PrepIdeal.main_v141) = v2 c
          ∧ r.2.mem ((c.tc : Thread Cert.ReferenceS5PrepIdeal.nD Cert.ReferenceS5PrepIdeal.τ).loc Cert.ReferenceS5PrepIdeal.main_v142) = v3 c
          ∧ r.2.mem ((c.tc : Thread Cert.ReferenceS5PrepIdeal.nD Cert.ReferenceS5PrepIdeal.τ).loc Cert.ReferenceS5PrepIdeal.main_v143) = v4 c
          ∧ r.2.mem ((c.tc : Thread Cert.ReferenceS5PrepIdeal.nD Cert.ReferenceS5PrepIdeal.τ).loc Cert.ReferenceS5PrepIdeal.main_arg0) = m' ((c.tc : Thread Cert.ReferenceS5PrepIdeal.nD Cert.ReferenceS5PrepIdeal.τ).loc Cert.ReferenceS5PrepIdeal.main_arg0)
          ∧ r.2.mem ((c.tc : Thread Cert.ReferenceS5PrepIdeal.nD Cert.ReferenceS5PrepIdeal.τ).loc Cert.ReferenceS5PrepIdeal.main_arg1) = m' ((c.tc : Thread Cert.ReferenceS5PrepIdeal.nD Cert.ReferenceS5PrepIdeal.τ).loc Cert.ReferenceS5PrepIdeal.main_arg1)
          ∧ r.2.mem ((c.tc : Thread Cert.ReferenceS5PrepIdeal.nD Cert.ReferenceS5PrepIdeal.τ).loc Cert.ReferenceS5PrepIdeal.main_arg2) = m' ((c.tc : Thread Cert.ReferenceS5PrepIdeal.nD Cert.ReferenceS5PrepIdeal.τ).loc Cert.ReferenceS5PrepIdeal.main_arg2)
          ∧ r.2.mem ((c.tc : Thread Cert.ReferenceS5PrepIdeal.nD Cert.ReferenceS5PrepIdeal.τ).loc Cert.ReferenceS5PrepIdeal.main_arg3) = m' ((c.tc : Thread Cert.ReferenceS5PrepIdeal.nD Cert.ReferenceS5PrepIdeal.τ).loc Cert.ReferenceS5PrepIdeal.main_arg3)
          ∧ r.2.mem ((c.tc : Thread Cert.ReferenceS5PrepIdeal.nD Cert.ReferenceS5PrepIdeal.τ).loc Cert.ReferenceS5PrepIdeal.main_arg4) = m' ((c.tc : Thread Cert.ReferenceS5PrepIdeal.nD Cert.ReferenceS5PrepIdeal.τ).loc Cert.ReferenceS5PrepIdeal.main_arg4)
          ∧ r.2.mem ((c.tc : Thread Cert.ReferenceS5PrepIdeal.nD Cert.ReferenceS5PrepIdeal.τ).loc Cert.ReferenceS5PrepIdeal.main_arg5) = m' ((c.tc : Thread Cert.ReferenceS5PrepIdeal.nD Cert.ReferenceS5PrepIdeal.τ).loc Cert.ReferenceS5PrepIdeal.main_arg5)
          ∧ r.2.mem ((c.tc : Thread Cert.ReferenceS5PrepIdeal.nD Cert.ReferenceS5PrepIdeal.τ).loc Cert.ReferenceS5PrepIdeal.main_arg6) = m' ((c.tc : Thread Cert.ReferenceS5PrepIdeal.nD Cert.ReferenceS5PrepIdeal.τ).loc Cert.ReferenceS5PrepIdeal.main_arg6)
          ∧ r.2.mem ((c.tc : Thread Cert.ReferenceS5PrepIdeal.nD Cert.ReferenceS5PrepIdeal.τ).loc Cert.ReferenceS5PrepIdeal.main_arg7) = m' ((c.tc : Thread Cert.ReferenceS5PrepIdeal.nD Cert.ReferenceS5PrepIdeal.τ).loc Cert.ReferenceS5PrepIdeal.main_arg7)
          ∧ r.2.mem ((c.tc : Thread Cert.ReferenceS5PrepIdeal.nD Cert.ReferenceS5PrepIdeal.τ).loc Cert.ReferenceS5PrepIdeal.main_arg8) = m' ((c.tc : Thread Cert.ReferenceS5PrepIdeal.nD Cert.ReferenceS5PrepIdeal.τ).loc Cert.ReferenceS5PrepIdeal.main_arg8))

def preserves_KernelMixOutFwd_KernelMixOutFwdIdeal : Prop :=
  True

def algebraic_KernelMixOutFwdIdeal_ReferenceMixOutFwdIdeal [hKernelMixOutFwdIdeal : Cert.KernelMixOutFwdIdeal.Facts] [hReferenceMixOutFwdIdeal : Cert.ReferenceMixOutFwdIdeal.Facts] : Prop :=
  ∀ (m : (ℓ : Loc Cert.KernelMixOutFwdIdeal.nD Cert.KernelMixOutFwdIdeal.τ Cert.KernelMixOutFwdIdeal.sig) → Buf (Elt Ideal) ℓ) (g : Dev Cert.KernelMixOutFwdIdeal.nD → PrngReg)
    (m' : (ℓ : Loc Cert.ReferenceMixOutFwdIdeal.nD Cert.ReferenceMixOutFwdIdeal.τ Cert.ReferenceMixOutFwdIdeal.sig) → Buf (Elt Ideal) ℓ) (g' : Dev Cert.ReferenceMixOutFwdIdeal.nD → PrngReg), Pre_KernelMixOutFwdIdeal m →
    (∀ c : Dev Cert.KernelMixOutFwdIdeal.nD,
      m' ((c.tc : Thread Cert.ReferenceMixOutFwdIdeal.nD Cert.ReferenceMixOutFwdIdeal.τ).loc Cert.ReferenceMixOutFwdIdeal.main_arg0) = m ((c.tc : Thread Cert.KernelMixOutFwdIdeal.nD Cert.KernelMixOutFwdIdeal.τ).loc Cert.KernelMixOutFwdIdeal.main_arg0)
      ∧ m' ((c.tc : Thread Cert.ReferenceMixOutFwdIdeal.nD Cert.ReferenceMixOutFwdIdeal.τ).loc Cert.ReferenceMixOutFwdIdeal.main_arg1) = m ((c.tc : Thread Cert.KernelMixOutFwdIdeal.nD Cert.KernelMixOutFwdIdeal.τ).loc Cert.KernelMixOutFwdIdeal.main_arg1)
      ∧ m' ((c.tc : Thread Cert.ReferenceMixOutFwdIdeal.nD Cert.ReferenceMixOutFwdIdeal.τ).loc Cert.ReferenceMixOutFwdIdeal.main_arg2) = m ((c.tc : Thread Cert.KernelMixOutFwdIdeal.nD Cert.KernelMixOutFwdIdeal.τ).loc Cert.KernelMixOutFwdIdeal.main_arg2)
      ∧ m' ((c.tc : Thread Cert.ReferenceMixOutFwdIdeal.nD Cert.ReferenceMixOutFwdIdeal.τ).loc Cert.ReferenceMixOutFwdIdeal.main_arg3) = m ((c.tc : Thread Cert.KernelMixOutFwdIdeal.nD Cert.KernelMixOutFwdIdeal.τ).loc Cert.KernelMixOutFwdIdeal.main_arg3)
      ∧ m' ((c.tc : Thread Cert.ReferenceMixOutFwdIdeal.nD Cert.ReferenceMixOutFwdIdeal.τ).loc Cert.ReferenceMixOutFwdIdeal.main_arg4) = m ((c.tc : Thread Cert.KernelMixOutFwdIdeal.nD Cert.KernelMixOutFwdIdeal.τ).loc Cert.KernelMixOutFwdIdeal.main_arg4)
      ∧ m' ((c.tc : Thread Cert.ReferenceMixOutFwdIdeal.nD Cert.ReferenceMixOutFwdIdeal.τ).loc Cert.ReferenceMixOutFwdIdeal.main_arg5) = m ((c.tc : Thread Cert.KernelMixOutFwdIdeal.nD Cert.KernelMixOutFwdIdeal.τ).loc Cert.KernelMixOutFwdIdeal.main_arg5)
      ∧ m' ((c.tc : Thread Cert.ReferenceMixOutFwdIdeal.nD Cert.ReferenceMixOutFwdIdeal.τ).loc Cert.ReferenceMixOutFwdIdeal.main_arg6) = m ((c.tc : Thread Cert.KernelMixOutFwdIdeal.nD Cert.KernelMixOutFwdIdeal.τ).loc Cert.KernelMixOutFwdIdeal.main_arg6)
      ∧ m' ((c.tc : Thread Cert.ReferenceMixOutFwdIdeal.nD Cert.ReferenceMixOutFwdIdeal.τ).loc Cert.ReferenceMixOutFwdIdeal.main_arg7) = m ((c.tc : Thread Cert.KernelMixOutFwdIdeal.nD Cert.KernelMixOutFwdIdeal.τ).loc Cert.KernelMixOutFwdIdeal.main_arg7)
      ∧ m' ((c.tc : Thread Cert.ReferenceMixOutFwdIdeal.nD Cert.ReferenceMixOutFwdIdeal.τ).loc Cert.ReferenceMixOutFwdIdeal.main_arg8) = m ((c.tc : Thread Cert.KernelMixOutFwdIdeal.nD Cert.KernelMixOutFwdIdeal.τ).loc Cert.KernelMixOutFwdIdeal.main_arg8)
      ∧ m' ((c.tc : Thread Cert.ReferenceMixOutFwdIdeal.nD Cert.ReferenceMixOutFwdIdeal.τ).loc Cert.ReferenceMixOutFwdIdeal.main_arg9) = m ((c.tc : Thread Cert.KernelMixOutFwdIdeal.nD Cert.KernelMixOutFwdIdeal.τ).loc Cert.KernelMixOutFwdIdeal.main_arg9)
      ∧ m' ((c.tc : Thread Cert.ReferenceMixOutFwdIdeal.nD Cert.ReferenceMixOutFwdIdeal.τ).loc Cert.ReferenceMixOutFwdIdeal.main_arg10) = m ((c.tc : Thread Cert.KernelMixOutFwdIdeal.nD Cert.KernelMixOutFwdIdeal.τ).loc Cert.KernelMixOutFwdIdeal.main_arg10)) →
    ∃ (v0 : (c : Dev Cert.KernelMixOutFwdIdeal.nD) → Buf (Elt Ideal) ((c.tc : Thread Cert.KernelMixOutFwdIdeal.nD Cert.KernelMixOutFwdIdeal.τ).loc Cert.KernelMixOutFwdIdeal.main_v5)),
      θ_run (Cert.KernelMixOutFwdIdeal.defs (F := Ideal)) (onTc (τ := Cert.KernelMixOutFwdIdeal.τ) (Cert.KernelMixOutFwdIdeal.main (F := Ideal))) ⟨m, fun _ => 0, g⟩ (fun r => ∀ c : Dev Cert.KernelMixOutFwdIdeal.nD,
          r.2.mem ((c.tc : Thread Cert.KernelMixOutFwdIdeal.nD Cert.KernelMixOutFwdIdeal.τ).loc Cert.KernelMixOutFwdIdeal.main_v5) = v0 c
          ∧ r.2.mem ((c.tc : Thread Cert.KernelMixOutFwdIdeal.nD Cert.KernelMixOutFwdIdeal.τ).loc Cert.KernelMixOutFwdIdeal.main_arg0) = m ((c.tc : Thread Cert.KernelMixOutFwdIdeal.nD Cert.KernelMixOutFwdIdeal.τ).loc Cert.KernelMixOutFwdIdeal.main_arg0)
          ∧ r.2.mem ((c.tc : Thread Cert.KernelMixOutFwdIdeal.nD Cert.KernelMixOutFwdIdeal.τ).loc Cert.KernelMixOutFwdIdeal.main_arg1) = m ((c.tc : Thread Cert.KernelMixOutFwdIdeal.nD Cert.KernelMixOutFwdIdeal.τ).loc Cert.KernelMixOutFwdIdeal.main_arg1)
          ∧ r.2.mem ((c.tc : Thread Cert.KernelMixOutFwdIdeal.nD Cert.KernelMixOutFwdIdeal.τ).loc Cert.KernelMixOutFwdIdeal.main_arg2) = m ((c.tc : Thread Cert.KernelMixOutFwdIdeal.nD Cert.KernelMixOutFwdIdeal.τ).loc Cert.KernelMixOutFwdIdeal.main_arg2)
          ∧ r.2.mem ((c.tc : Thread Cert.KernelMixOutFwdIdeal.nD Cert.KernelMixOutFwdIdeal.τ).loc Cert.KernelMixOutFwdIdeal.main_arg3) = m ((c.tc : Thread Cert.KernelMixOutFwdIdeal.nD Cert.KernelMixOutFwdIdeal.τ).loc Cert.KernelMixOutFwdIdeal.main_arg3)
          ∧ r.2.mem ((c.tc : Thread Cert.KernelMixOutFwdIdeal.nD Cert.KernelMixOutFwdIdeal.τ).loc Cert.KernelMixOutFwdIdeal.main_arg4) = m ((c.tc : Thread Cert.KernelMixOutFwdIdeal.nD Cert.KernelMixOutFwdIdeal.τ).loc Cert.KernelMixOutFwdIdeal.main_arg4)
          ∧ r.2.mem ((c.tc : Thread Cert.KernelMixOutFwdIdeal.nD Cert.KernelMixOutFwdIdeal.τ).loc Cert.KernelMixOutFwdIdeal.main_arg5) = m ((c.tc : Thread Cert.KernelMixOutFwdIdeal.nD Cert.KernelMixOutFwdIdeal.τ).loc Cert.KernelMixOutFwdIdeal.main_arg5)
          ∧ r.2.mem ((c.tc : Thread Cert.KernelMixOutFwdIdeal.nD Cert.KernelMixOutFwdIdeal.τ).loc Cert.KernelMixOutFwdIdeal.main_arg6) = m ((c.tc : Thread Cert.KernelMixOutFwdIdeal.nD Cert.KernelMixOutFwdIdeal.τ).loc Cert.KernelMixOutFwdIdeal.main_arg6)
          ∧ r.2.mem ((c.tc : Thread Cert.KernelMixOutFwdIdeal.nD Cert.KernelMixOutFwdIdeal.τ).loc Cert.KernelMixOutFwdIdeal.main_arg7) = m ((c.tc : Thread Cert.KernelMixOutFwdIdeal.nD Cert.KernelMixOutFwdIdeal.τ).loc Cert.KernelMixOutFwdIdeal.main_arg7)
          ∧ r.2.mem ((c.tc : Thread Cert.KernelMixOutFwdIdeal.nD Cert.KernelMixOutFwdIdeal.τ).loc Cert.KernelMixOutFwdIdeal.main_arg8) = m ((c.tc : Thread Cert.KernelMixOutFwdIdeal.nD Cert.KernelMixOutFwdIdeal.τ).loc Cert.KernelMixOutFwdIdeal.main_arg8)
          ∧ r.2.mem ((c.tc : Thread Cert.KernelMixOutFwdIdeal.nD Cert.KernelMixOutFwdIdeal.τ).loc Cert.KernelMixOutFwdIdeal.main_arg9) = m ((c.tc : Thread Cert.KernelMixOutFwdIdeal.nD Cert.KernelMixOutFwdIdeal.τ).loc Cert.KernelMixOutFwdIdeal.main_arg9)
          ∧ r.2.mem ((c.tc : Thread Cert.KernelMixOutFwdIdeal.nD Cert.KernelMixOutFwdIdeal.τ).loc Cert.KernelMixOutFwdIdeal.main_arg10) = m ((c.tc : Thread Cert.KernelMixOutFwdIdeal.nD Cert.KernelMixOutFwdIdeal.τ).loc Cert.KernelMixOutFwdIdeal.main_arg10))
      ∧ θ_run (Cert.ReferenceMixOutFwdIdeal.defs (F := Ideal)) (onTc (τ := Cert.ReferenceMixOutFwdIdeal.τ) (Cert.ReferenceMixOutFwdIdeal.main (F := Ideal))) ⟨m', fun _ => 0, g'⟩ (fun r => ∀ c : Dev Cert.ReferenceMixOutFwdIdeal.nD,
          r.2.mem ((c.tc : Thread Cert.ReferenceMixOutFwdIdeal.nD Cert.ReferenceMixOutFwdIdeal.τ).loc Cert.ReferenceMixOutFwdIdeal.main_v72) = v0 c
          ∧ r.2.mem ((c.tc : Thread Cert.ReferenceMixOutFwdIdeal.nD Cert.ReferenceMixOutFwdIdeal.τ).loc Cert.ReferenceMixOutFwdIdeal.main_arg0) = m' ((c.tc : Thread Cert.ReferenceMixOutFwdIdeal.nD Cert.ReferenceMixOutFwdIdeal.τ).loc Cert.ReferenceMixOutFwdIdeal.main_arg0)
          ∧ r.2.mem ((c.tc : Thread Cert.ReferenceMixOutFwdIdeal.nD Cert.ReferenceMixOutFwdIdeal.τ).loc Cert.ReferenceMixOutFwdIdeal.main_arg1) = m' ((c.tc : Thread Cert.ReferenceMixOutFwdIdeal.nD Cert.ReferenceMixOutFwdIdeal.τ).loc Cert.ReferenceMixOutFwdIdeal.main_arg1)
          ∧ r.2.mem ((c.tc : Thread Cert.ReferenceMixOutFwdIdeal.nD Cert.ReferenceMixOutFwdIdeal.τ).loc Cert.ReferenceMixOutFwdIdeal.main_arg2) = m' ((c.tc : Thread Cert.ReferenceMixOutFwdIdeal.nD Cert.ReferenceMixOutFwdIdeal.τ).loc Cert.ReferenceMixOutFwdIdeal.main_arg2)
          ∧ r.2.mem ((c.tc : Thread Cert.ReferenceMixOutFwdIdeal.nD Cert.ReferenceMixOutFwdIdeal.τ).loc Cert.ReferenceMixOutFwdIdeal.main_arg3) = m' ((c.tc : Thread Cert.ReferenceMixOutFwdIdeal.nD Cert.ReferenceMixOutFwdIdeal.τ).loc Cert.ReferenceMixOutFwdIdeal.main_arg3)
          ∧ r.2.mem ((c.tc : Thread Cert.ReferenceMixOutFwdIdeal.nD Cert.ReferenceMixOutFwdIdeal.τ).loc Cert.ReferenceMixOutFwdIdeal.main_arg4) = m' ((c.tc : Thread Cert.ReferenceMixOutFwdIdeal.nD Cert.ReferenceMixOutFwdIdeal.τ).loc Cert.ReferenceMixOutFwdIdeal.main_arg4)
          ∧ r.2.mem ((c.tc : Thread Cert.ReferenceMixOutFwdIdeal.nD Cert.ReferenceMixOutFwdIdeal.τ).loc Cert.ReferenceMixOutFwdIdeal.main_arg5) = m' ((c.tc : Thread Cert.ReferenceMixOutFwdIdeal.nD Cert.ReferenceMixOutFwdIdeal.τ).loc Cert.ReferenceMixOutFwdIdeal.main_arg5)
          ∧ r.2.mem ((c.tc : Thread Cert.ReferenceMixOutFwdIdeal.nD Cert.ReferenceMixOutFwdIdeal.τ).loc Cert.ReferenceMixOutFwdIdeal.main_arg6) = m' ((c.tc : Thread Cert.ReferenceMixOutFwdIdeal.nD Cert.ReferenceMixOutFwdIdeal.τ).loc Cert.ReferenceMixOutFwdIdeal.main_arg6)
          ∧ r.2.mem ((c.tc : Thread Cert.ReferenceMixOutFwdIdeal.nD Cert.ReferenceMixOutFwdIdeal.τ).loc Cert.ReferenceMixOutFwdIdeal.main_arg7) = m' ((c.tc : Thread Cert.ReferenceMixOutFwdIdeal.nD Cert.ReferenceMixOutFwdIdeal.τ).loc Cert.ReferenceMixOutFwdIdeal.main_arg7)
          ∧ r.2.mem ((c.tc : Thread Cert.ReferenceMixOutFwdIdeal.nD Cert.ReferenceMixOutFwdIdeal.τ).loc Cert.ReferenceMixOutFwdIdeal.main_arg8) = m' ((c.tc : Thread Cert.ReferenceMixOutFwdIdeal.nD Cert.ReferenceMixOutFwdIdeal.τ).loc Cert.ReferenceMixOutFwdIdeal.main_arg8)
          ∧ r.2.mem ((c.tc : Thread Cert.ReferenceMixOutFwdIdeal.nD Cert.ReferenceMixOutFwdIdeal.τ).loc Cert.ReferenceMixOutFwdIdeal.main_arg9) = m' ((c.tc : Thread Cert.ReferenceMixOutFwdIdeal.nD Cert.ReferenceMixOutFwdIdeal.τ).loc Cert.ReferenceMixOutFwdIdeal.main_arg9)
          ∧ r.2.mem ((c.tc : Thread Cert.ReferenceMixOutFwdIdeal.nD Cert.ReferenceMixOutFwdIdeal.τ).loc Cert.ReferenceMixOutFwdIdeal.main_arg10) = m' ((c.tc : Thread Cert.ReferenceMixOutFwdIdeal.nD Cert.ReferenceMixOutFwdIdeal.τ).loc Cert.ReferenceMixOutFwdIdeal.main_arg10))

def preserves_KernelDnDecay_KernelDnDecayIdeal : Prop :=
  True

def algebraic_KernelDnDecayIdeal_ReferenceDnDecayIdeal_pre_away [hKernelDnDecayIdeal : Cert.KernelDnDecayIdeal.Facts] [hReferenceDnDecayIdeal : Cert.ReferenceDnDecayIdeal.Facts] [hPre_away : Cert.Pre_away.Facts] : Prop :=
  ∀ (m : (ℓ : Loc Cert.KernelDnDecayIdeal.nD Cert.KernelDnDecayIdeal.τ Cert.KernelDnDecayIdeal.sig) → Buf (Elt Ideal) ℓ) (g : Dev Cert.KernelDnDecayIdeal.nD → PrngReg)
    (m' : (ℓ : Loc Cert.ReferenceDnDecayIdeal.nD Cert.ReferenceDnDecayIdeal.τ Cert.ReferenceDnDecayIdeal.sig) → Buf (Elt Ideal) ℓ) (g' : Dev Cert.ReferenceDnDecayIdeal.nD → PrngReg), Pre_KernelDnDecayIdeal_away m →
    (∀ c : Dev Cert.KernelDnDecayIdeal.nD,
      m' ((c.tc : Thread Cert.ReferenceDnDecayIdeal.nD Cert.ReferenceDnDecayIdeal.τ).loc Cert.ReferenceDnDecayIdeal.main_arg0) = m ((c.tc : Thread Cert.KernelDnDecayIdeal.nD Cert.KernelDnDecayIdeal.τ).loc Cert.KernelDnDecayIdeal.main_arg0)
      ∧ m' ((c.tc : Thread Cert.ReferenceDnDecayIdeal.nD Cert.ReferenceDnDecayIdeal.τ).loc Cert.ReferenceDnDecayIdeal.main_arg1) = m ((c.tc : Thread Cert.KernelDnDecayIdeal.nD Cert.KernelDnDecayIdeal.τ).loc Cert.KernelDnDecayIdeal.main_arg1)
      ∧ m' ((c.tc : Thread Cert.ReferenceDnDecayIdeal.nD Cert.ReferenceDnDecayIdeal.τ).loc Cert.ReferenceDnDecayIdeal.main_arg2) = m ((c.tc : Thread Cert.KernelDnDecayIdeal.nD Cert.KernelDnDecayIdeal.τ).loc Cert.KernelDnDecayIdeal.main_arg2)
      ∧ m' ((c.tc : Thread Cert.ReferenceDnDecayIdeal.nD Cert.ReferenceDnDecayIdeal.τ).loc Cert.ReferenceDnDecayIdeal.main_arg3) = m ((c.tc : Thread Cert.KernelDnDecayIdeal.nD Cert.KernelDnDecayIdeal.τ).loc Cert.KernelDnDecayIdeal.main_arg3)
      ∧ m' ((c.tc : Thread Cert.ReferenceDnDecayIdeal.nD Cert.ReferenceDnDecayIdeal.τ).loc Cert.ReferenceDnDecayIdeal.main_arg4) = m ((c.tc : Thread Cert.KernelDnDecayIdeal.nD Cert.KernelDnDecayIdeal.τ).loc Cert.KernelDnDecayIdeal.main_arg4)
      ∧ m' ((c.tc : Thread Cert.ReferenceDnDecayIdeal.nD Cert.ReferenceDnDecayIdeal.τ).loc Cert.ReferenceDnDecayIdeal.main_arg5) = m ((c.tc : Thread Cert.KernelDnDecayIdeal.nD Cert.KernelDnDecayIdeal.τ).loc Cert.KernelDnDecayIdeal.main_arg5)
      ∧ m' ((c.tc : Thread Cert.ReferenceDnDecayIdeal.nD Cert.ReferenceDnDecayIdeal.τ).loc Cert.ReferenceDnDecayIdeal.main_arg6) = m ((c.tc : Thread Cert.KernelDnDecayIdeal.nD Cert.KernelDnDecayIdeal.τ).loc Cert.KernelDnDecayIdeal.main_arg6)
      ∧ m' ((c.tc : Thread Cert.ReferenceDnDecayIdeal.nD Cert.ReferenceDnDecayIdeal.τ).loc Cert.ReferenceDnDecayIdeal.main_arg7) = m ((c.tc : Thread Cert.KernelDnDecayIdeal.nD Cert.KernelDnDecayIdeal.τ).loc Cert.KernelDnDecayIdeal.main_arg7)
      ∧ m' ((c.tc : Thread Cert.ReferenceDnDecayIdeal.nD Cert.ReferenceDnDecayIdeal.τ).loc Cert.ReferenceDnDecayIdeal.main_arg8) = m ((c.tc : Thread Cert.KernelDnDecayIdeal.nD Cert.KernelDnDecayIdeal.τ).loc Cert.KernelDnDecayIdeal.main_arg8)
      ∧ m' ((c.tc : Thread Cert.ReferenceDnDecayIdeal.nD Cert.ReferenceDnDecayIdeal.τ).loc Cert.ReferenceDnDecayIdeal.main_arg9) = m ((c.tc : Thread Cert.KernelDnDecayIdeal.nD Cert.KernelDnDecayIdeal.τ).loc Cert.KernelDnDecayIdeal.main_arg9)
      ∧ m' ((c.tc : Thread Cert.ReferenceDnDecayIdeal.nD Cert.ReferenceDnDecayIdeal.τ).loc Cert.ReferenceDnDecayIdeal.main_arg10) = m ((c.tc : Thread Cert.KernelDnDecayIdeal.nD Cert.KernelDnDecayIdeal.τ).loc Cert.KernelDnDecayIdeal.main_arg10)) →
    ∃ (v0 : (c : Dev Cert.KernelDnDecayIdeal.nD) → Buf (Elt Ideal) ((c.tc : Thread Cert.KernelDnDecayIdeal.nD Cert.KernelDnDecayIdeal.τ).loc Cert.KernelDnDecayIdeal.main_v9_3)),
      θ_run (Cert.KernelDnDecayIdeal.defs (F := Ideal)) (onTc (τ := Cert.KernelDnDecayIdeal.τ) (Cert.KernelDnDecayIdeal.main (F := Ideal))) ⟨m, fun _ => 0, g⟩ (fun r => ∀ c : Dev Cert.KernelDnDecayIdeal.nD,
          r.2.mem ((c.tc : Thread Cert.KernelDnDecayIdeal.nD Cert.KernelDnDecayIdeal.τ).loc Cert.KernelDnDecayIdeal.main_v9_3) = v0 c
          ∧ r.2.mem ((c.tc : Thread Cert.KernelDnDecayIdeal.nD Cert.KernelDnDecayIdeal.τ).loc Cert.KernelDnDecayIdeal.main_arg0) = m ((c.tc : Thread Cert.KernelDnDecayIdeal.nD Cert.KernelDnDecayIdeal.τ).loc Cert.KernelDnDecayIdeal.main_arg0)
          ∧ r.2.mem ((c.tc : Thread Cert.KernelDnDecayIdeal.nD Cert.KernelDnDecayIdeal.τ).loc Cert.KernelDnDecayIdeal.main_arg1) = m ((c.tc : Thread Cert.KernelDnDecayIdeal.nD Cert.KernelDnDecayIdeal.τ).loc Cert.KernelDnDecayIdeal.main_arg1)
          ∧ r.2.mem ((c.tc : Thread Cert.KernelDnDecayIdeal.nD Cert.KernelDnDecayIdeal.τ).loc Cert.KernelDnDecayIdeal.main_arg2) = m ((c.tc : Thread Cert.KernelDnDecayIdeal.nD Cert.KernelDnDecayIdeal.τ).loc Cert.KernelDnDecayIdeal.main_arg2)
          ∧ r.2.mem ((c.tc : Thread Cert.KernelDnDecayIdeal.nD Cert.KernelDnDecayIdeal.τ).loc Cert.KernelDnDecayIdeal.main_arg3) = m ((c.tc : Thread Cert.KernelDnDecayIdeal.nD Cert.KernelDnDecayIdeal.τ).loc Cert.KernelDnDecayIdeal.main_arg3)
          ∧ r.2.mem ((c.tc : Thread Cert.KernelDnDecayIdeal.nD Cert.KernelDnDecayIdeal.τ).loc Cert.KernelDnDecayIdeal.main_arg4) = m ((c.tc : Thread Cert.KernelDnDecayIdeal.nD Cert.KernelDnDecayIdeal.τ).loc Cert.KernelDnDecayIdeal.main_arg4)
          ∧ r.2.mem ((c.tc : Thread Cert.KernelDnDecayIdeal.nD Cert.KernelDnDecayIdeal.τ).loc Cert.KernelDnDecayIdeal.main_arg5) = m ((c.tc : Thread Cert.KernelDnDecayIdeal.nD Cert.KernelDnDecayIdeal.τ).loc Cert.KernelDnDecayIdeal.main_arg5)
          ∧ r.2.mem ((c.tc : Thread Cert.KernelDnDecayIdeal.nD Cert.KernelDnDecayIdeal.τ).loc Cert.KernelDnDecayIdeal.main_arg6) = m ((c.tc : Thread Cert.KernelDnDecayIdeal.nD Cert.KernelDnDecayIdeal.τ).loc Cert.KernelDnDecayIdeal.main_arg6)
          ∧ r.2.mem ((c.tc : Thread Cert.KernelDnDecayIdeal.nD Cert.KernelDnDecayIdeal.τ).loc Cert.KernelDnDecayIdeal.main_arg7) = m ((c.tc : Thread Cert.KernelDnDecayIdeal.nD Cert.KernelDnDecayIdeal.τ).loc Cert.KernelDnDecayIdeal.main_arg7)
          ∧ r.2.mem ((c.tc : Thread Cert.KernelDnDecayIdeal.nD Cert.KernelDnDecayIdeal.τ).loc Cert.KernelDnDecayIdeal.main_arg8) = m ((c.tc : Thread Cert.KernelDnDecayIdeal.nD Cert.KernelDnDecayIdeal.τ).loc Cert.KernelDnDecayIdeal.main_arg8)
          ∧ r.2.mem ((c.tc : Thread Cert.KernelDnDecayIdeal.nD Cert.KernelDnDecayIdeal.τ).loc Cert.KernelDnDecayIdeal.main_arg9) = m ((c.tc : Thread Cert.KernelDnDecayIdeal.nD Cert.KernelDnDecayIdeal.τ).loc Cert.KernelDnDecayIdeal.main_arg9)
          ∧ r.2.mem ((c.tc : Thread Cert.KernelDnDecayIdeal.nD Cert.KernelDnDecayIdeal.τ).loc Cert.KernelDnDecayIdeal.main_arg10) = m ((c.tc : Thread Cert.KernelDnDecayIdeal.nD Cert.KernelDnDecayIdeal.τ).loc Cert.KernelDnDecayIdeal.main_arg10))
      ∧ θ_run (Cert.ReferenceDnDecayIdeal.defs (F := Ideal)) (onTc (τ := Cert.ReferenceDnDecayIdeal.τ) (Cert.ReferenceDnDecayIdeal.main (F := Ideal))) ⟨m', fun _ => 0, g'⟩ (fun r => ∀ c : Dev Cert.ReferenceDnDecayIdeal.nD,
          r.2.mem ((c.tc : Thread Cert.ReferenceDnDecayIdeal.nD Cert.ReferenceDnDecayIdeal.τ).loc Cert.ReferenceDnDecayIdeal.main_v24) = v0 c
          ∧ r.2.mem ((c.tc : Thread Cert.ReferenceDnDecayIdeal.nD Cert.ReferenceDnDecayIdeal.τ).loc Cert.ReferenceDnDecayIdeal.main_arg0) = m' ((c.tc : Thread Cert.ReferenceDnDecayIdeal.nD Cert.ReferenceDnDecayIdeal.τ).loc Cert.ReferenceDnDecayIdeal.main_arg0)
          ∧ r.2.mem ((c.tc : Thread Cert.ReferenceDnDecayIdeal.nD Cert.ReferenceDnDecayIdeal.τ).loc Cert.ReferenceDnDecayIdeal.main_arg1) = m' ((c.tc : Thread Cert.ReferenceDnDecayIdeal.nD Cert.ReferenceDnDecayIdeal.τ).loc Cert.ReferenceDnDecayIdeal.main_arg1)
          ∧ r.2.mem ((c.tc : Thread Cert.ReferenceDnDecayIdeal.nD Cert.ReferenceDnDecayIdeal.τ).loc Cert.ReferenceDnDecayIdeal.main_arg2) = m' ((c.tc : Thread Cert.ReferenceDnDecayIdeal.nD Cert.ReferenceDnDecayIdeal.τ).loc Cert.ReferenceDnDecayIdeal.main_arg2)
          ∧ r.2.mem ((c.tc : Thread Cert.ReferenceDnDecayIdeal.nD Cert.ReferenceDnDecayIdeal.τ).loc Cert.ReferenceDnDecayIdeal.main_arg3) = m' ((c.tc : Thread Cert.ReferenceDnDecayIdeal.nD Cert.ReferenceDnDecayIdeal.τ).loc Cert.ReferenceDnDecayIdeal.main_arg3)
          ∧ r.2.mem ((c.tc : Thread Cert.ReferenceDnDecayIdeal.nD Cert.ReferenceDnDecayIdeal.τ).loc Cert.ReferenceDnDecayIdeal.main_arg4) = m' ((c.tc : Thread Cert.ReferenceDnDecayIdeal.nD Cert.ReferenceDnDecayIdeal.τ).loc Cert.ReferenceDnDecayIdeal.main_arg4)
          ∧ r.2.mem ((c.tc : Thread Cert.ReferenceDnDecayIdeal.nD Cert.ReferenceDnDecayIdeal.τ).loc Cert.ReferenceDnDecayIdeal.main_arg5) = m' ((c.tc : Thread Cert.ReferenceDnDecayIdeal.nD Cert.ReferenceDnDecayIdeal.τ).loc Cert.ReferenceDnDecayIdeal.main_arg5)
          ∧ r.2.mem ((c.tc : Thread Cert.ReferenceDnDecayIdeal.nD Cert.ReferenceDnDecayIdeal.τ).loc Cert.ReferenceDnDecayIdeal.main_arg6) = m' ((c.tc : Thread Cert.ReferenceDnDecayIdeal.nD Cert.ReferenceDnDecayIdeal.τ).loc Cert.ReferenceDnDecayIdeal.main_arg6)
          ∧ r.2.mem ((c.tc : Thread Cert.ReferenceDnDecayIdeal.nD Cert.ReferenceDnDecayIdeal.τ).loc Cert.ReferenceDnDecayIdeal.main_arg7) = m' ((c.tc : Thread Cert.ReferenceDnDecayIdeal.nD Cert.ReferenceDnDecayIdeal.τ).loc Cert.ReferenceDnDecayIdeal.main_arg7)
          ∧ r.2.mem ((c.tc : Thread Cert.ReferenceDnDecayIdeal.nD Cert.ReferenceDnDecayIdeal.τ).loc Cert.ReferenceDnDecayIdeal.main_arg8) = m' ((c.tc : Thread Cert.ReferenceDnDecayIdeal.nD Cert.ReferenceDnDecayIdeal.τ).loc Cert.ReferenceDnDecayIdeal.main_arg8)
          ∧ r.2.mem ((c.tc : Thread Cert.ReferenceDnDecayIdeal.nD Cert.ReferenceDnDecayIdeal.τ).loc Cert.ReferenceDnDecayIdeal.main_arg9) = m' ((c.tc : Thread Cert.ReferenceDnDecayIdeal.nD Cert.ReferenceDnDecayIdeal.τ).loc Cert.ReferenceDnDecayIdeal.main_arg9)
          ∧ r.2.mem ((c.tc : Thread Cert.ReferenceDnDecayIdeal.nD Cert.ReferenceDnDecayIdeal.τ).loc Cert.ReferenceDnDecayIdeal.main_arg10) = m' ((c.tc : Thread Cert.ReferenceDnDecayIdeal.nD Cert.ReferenceDnDecayIdeal.τ).loc Cert.ReferenceDnDecayIdeal.main_arg10))

def preserves_KernelDnConv_KernelDnConvIdeal : Prop :=
  True

def algebraic_KernelDnConvIdeal_ReferenceDnConvIdeal_pre_real_heads [hKernelDnConvIdeal : Cert.KernelDnConvIdeal.Facts] [hReferenceDnConvIdeal : Cert.ReferenceDnConvIdeal.Facts] [hPre_real_heads : Cert.Pre_real_heads.Facts] : Prop :=
  ∀ (m : (ℓ : Loc Cert.KernelDnConvIdeal.nD Cert.KernelDnConvIdeal.τ Cert.KernelDnConvIdeal.sig) → Buf (Elt Ideal) ℓ) (g : Dev Cert.KernelDnConvIdeal.nD → PrngReg)
    (m' : (ℓ : Loc Cert.ReferenceDnConvIdeal.nD Cert.ReferenceDnConvIdeal.τ Cert.ReferenceDnConvIdeal.sig) → Buf (Elt Ideal) ℓ) (g' : Dev Cert.ReferenceDnConvIdeal.nD → PrngReg), Pre_KernelDnConvIdeal_real_heads m →
    (∀ c : Dev Cert.KernelDnConvIdeal.nD,
      m' ((c.tc : Thread Cert.ReferenceDnConvIdeal.nD Cert.ReferenceDnConvIdeal.τ).loc Cert.ReferenceDnConvIdeal.main_arg0) = m ((c.tc : Thread Cert.KernelDnConvIdeal.nD Cert.KernelDnConvIdeal.τ).loc Cert.KernelDnConvIdeal.main_arg0)
      ∧ m' ((c.tc : Thread Cert.ReferenceDnConvIdeal.nD Cert.ReferenceDnConvIdeal.τ).loc Cert.ReferenceDnConvIdeal.main_arg1) = m ((c.tc : Thread Cert.KernelDnConvIdeal.nD Cert.KernelDnConvIdeal.τ).loc Cert.KernelDnConvIdeal.main_arg1)
      ∧ m' ((c.tc : Thread Cert.ReferenceDnConvIdeal.nD Cert.ReferenceDnConvIdeal.τ).loc Cert.ReferenceDnConvIdeal.main_arg2) = m ((c.tc : Thread Cert.KernelDnConvIdeal.nD Cert.KernelDnConvIdeal.τ).loc Cert.KernelDnConvIdeal.main_arg2)
      ∧ m' ((c.tc : Thread Cert.ReferenceDnConvIdeal.nD Cert.ReferenceDnConvIdeal.τ).loc Cert.ReferenceDnConvIdeal.main_arg3) = m ((c.tc : Thread Cert.KernelDnConvIdeal.nD Cert.KernelDnConvIdeal.τ).loc Cert.KernelDnConvIdeal.main_arg3)
      ∧ m' ((c.tc : Thread Cert.ReferenceDnConvIdeal.nD Cert.ReferenceDnConvIdeal.τ).loc Cert.ReferenceDnConvIdeal.main_arg4) = m ((c.tc : Thread Cert.KernelDnConvIdeal.nD Cert.KernelDnConvIdeal.τ).loc Cert.KernelDnConvIdeal.main_arg4)
      ∧ m' ((c.tc : Thread Cert.ReferenceDnConvIdeal.nD Cert.ReferenceDnConvIdeal.τ).loc Cert.ReferenceDnConvIdeal.main_arg5) = m ((c.tc : Thread Cert.KernelDnConvIdeal.nD Cert.KernelDnConvIdeal.τ).loc Cert.KernelDnConvIdeal.main_arg5)
      ∧ m' ((c.tc : Thread Cert.ReferenceDnConvIdeal.nD Cert.ReferenceDnConvIdeal.τ).loc Cert.ReferenceDnConvIdeal.main_arg6) = m ((c.tc : Thread Cert.KernelDnConvIdeal.nD Cert.KernelDnConvIdeal.τ).loc Cert.KernelDnConvIdeal.main_arg6)
      ∧ m' ((c.tc : Thread Cert.ReferenceDnConvIdeal.nD Cert.ReferenceDnConvIdeal.τ).loc Cert.ReferenceDnConvIdeal.main_arg7) = m ((c.tc : Thread Cert.KernelDnConvIdeal.nD Cert.KernelDnConvIdeal.τ).loc Cert.KernelDnConvIdeal.main_arg7)
      ∧ m' ((c.tc : Thread Cert.ReferenceDnConvIdeal.nD Cert.ReferenceDnConvIdeal.τ).loc Cert.ReferenceDnConvIdeal.main_arg8) = m ((c.tc : Thread Cert.KernelDnConvIdeal.nD Cert.KernelDnConvIdeal.τ).loc Cert.KernelDnConvIdeal.main_arg8)
      ∧ m' ((c.tc : Thread Cert.ReferenceDnConvIdeal.nD Cert.ReferenceDnConvIdeal.τ).loc Cert.ReferenceDnConvIdeal.main_arg9) = m ((c.tc : Thread Cert.KernelDnConvIdeal.nD Cert.KernelDnConvIdeal.τ).loc Cert.KernelDnConvIdeal.main_arg9)
      ∧ m' ((c.tc : Thread Cert.ReferenceDnConvIdeal.nD Cert.ReferenceDnConvIdeal.τ).loc Cert.ReferenceDnConvIdeal.main_arg10) = m ((c.tc : Thread Cert.KernelDnConvIdeal.nD Cert.KernelDnConvIdeal.τ).loc Cert.KernelDnConvIdeal.main_arg10)) →
    ∃ (v0 : (c : Dev Cert.KernelDnConvIdeal.nD) → Buf (Elt Ideal) ((c.tc : Thread Cert.KernelDnConvIdeal.nD Cert.KernelDnConvIdeal.τ).loc Cert.KernelDnConvIdeal.main_v9_2)),
      θ_run (Cert.KernelDnConvIdeal.defs (F := Ideal)) (onTc (τ := Cert.KernelDnConvIdeal.τ) (Cert.KernelDnConvIdeal.main (F := Ideal))) ⟨m, fun _ => 0, g⟩ (fun r => ∀ c : Dev Cert.KernelDnConvIdeal.nD,
          r.2.mem ((c.tc : Thread Cert.KernelDnConvIdeal.nD Cert.KernelDnConvIdeal.τ).loc Cert.KernelDnConvIdeal.main_v9_2) = v0 c
          ∧ r.2.mem ((c.tc : Thread Cert.KernelDnConvIdeal.nD Cert.KernelDnConvIdeal.τ).loc Cert.KernelDnConvIdeal.main_arg0) = m ((c.tc : Thread Cert.KernelDnConvIdeal.nD Cert.KernelDnConvIdeal.τ).loc Cert.KernelDnConvIdeal.main_arg0)
          ∧ r.2.mem ((c.tc : Thread Cert.KernelDnConvIdeal.nD Cert.KernelDnConvIdeal.τ).loc Cert.KernelDnConvIdeal.main_arg1) = m ((c.tc : Thread Cert.KernelDnConvIdeal.nD Cert.KernelDnConvIdeal.τ).loc Cert.KernelDnConvIdeal.main_arg1)
          ∧ r.2.mem ((c.tc : Thread Cert.KernelDnConvIdeal.nD Cert.KernelDnConvIdeal.τ).loc Cert.KernelDnConvIdeal.main_arg2) = m ((c.tc : Thread Cert.KernelDnConvIdeal.nD Cert.KernelDnConvIdeal.τ).loc Cert.KernelDnConvIdeal.main_arg2)
          ∧ r.2.mem ((c.tc : Thread Cert.KernelDnConvIdeal.nD Cert.KernelDnConvIdeal.τ).loc Cert.KernelDnConvIdeal.main_arg3) = m ((c.tc : Thread Cert.KernelDnConvIdeal.nD Cert.KernelDnConvIdeal.τ).loc Cert.KernelDnConvIdeal.main_arg3)
          ∧ r.2.mem ((c.tc : Thread Cert.KernelDnConvIdeal.nD Cert.KernelDnConvIdeal.τ).loc Cert.KernelDnConvIdeal.main_arg4) = m ((c.tc : Thread Cert.KernelDnConvIdeal.nD Cert.KernelDnConvIdeal.τ).loc Cert.KernelDnConvIdeal.main_arg4)
          ∧ r.2.mem ((c.tc : Thread Cert.KernelDnConvIdeal.nD Cert.KernelDnConvIdeal.τ).loc Cert.KernelDnConvIdeal.main_arg5) = m ((c.tc : Thread Cert.KernelDnConvIdeal.nD Cert.KernelDnConvIdeal.τ).loc Cert.KernelDnConvIdeal.main_arg5)
          ∧ r.2.mem ((c.tc : Thread Cert.KernelDnConvIdeal.nD Cert.KernelDnConvIdeal.τ).loc Cert.KernelDnConvIdeal.main_arg6) = m ((c.tc : Thread Cert.KernelDnConvIdeal.nD Cert.KernelDnConvIdeal.τ).loc Cert.KernelDnConvIdeal.main_arg6)
          ∧ r.2.mem ((c.tc : Thread Cert.KernelDnConvIdeal.nD Cert.KernelDnConvIdeal.τ).loc Cert.KernelDnConvIdeal.main_arg7) = m ((c.tc : Thread Cert.KernelDnConvIdeal.nD Cert.KernelDnConvIdeal.τ).loc Cert.KernelDnConvIdeal.main_arg7)
          ∧ r.2.mem ((c.tc : Thread Cert.KernelDnConvIdeal.nD Cert.KernelDnConvIdeal.τ).loc Cert.KernelDnConvIdeal.main_arg8) = m ((c.tc : Thread Cert.KernelDnConvIdeal.nD Cert.KernelDnConvIdeal.τ).loc Cert.KernelDnConvIdeal.main_arg8)
          ∧ r.2.mem ((c.tc : Thread Cert.KernelDnConvIdeal.nD Cert.KernelDnConvIdeal.τ).loc Cert.KernelDnConvIdeal.main_arg9) = m ((c.tc : Thread Cert.KernelDnConvIdeal.nD Cert.KernelDnConvIdeal.τ).loc Cert.KernelDnConvIdeal.main_arg9)
          ∧ r.2.mem ((c.tc : Thread Cert.KernelDnConvIdeal.nD Cert.KernelDnConvIdeal.τ).loc Cert.KernelDnConvIdeal.main_arg10) = m ((c.tc : Thread Cert.KernelDnConvIdeal.nD Cert.KernelDnConvIdeal.τ).loc Cert.KernelDnConvIdeal.main_arg10))
      ∧ θ_run (Cert.ReferenceDnConvIdeal.defs (F := Ideal)) (onTc (τ := Cert.ReferenceDnConvIdeal.τ) (Cert.ReferenceDnConvIdeal.main (F := Ideal))) ⟨m', fun _ => 0, g'⟩ (fun r => ∀ c : Dev Cert.ReferenceDnConvIdeal.nD,
          r.2.mem ((c.tc : Thread Cert.ReferenceDnConvIdeal.nD Cert.ReferenceDnConvIdeal.τ).loc Cert.ReferenceDnConvIdeal.main_v118) = v0 c
          ∧ r.2.mem ((c.tc : Thread Cert.ReferenceDnConvIdeal.nD Cert.ReferenceDnConvIdeal.τ).loc Cert.ReferenceDnConvIdeal.main_arg0) = m' ((c.tc : Thread Cert.ReferenceDnConvIdeal.nD Cert.ReferenceDnConvIdeal.τ).loc Cert.ReferenceDnConvIdeal.main_arg0)
          ∧ r.2.mem ((c.tc : Thread Cert.ReferenceDnConvIdeal.nD Cert.ReferenceDnConvIdeal.τ).loc Cert.ReferenceDnConvIdeal.main_arg1) = m' ((c.tc : Thread Cert.ReferenceDnConvIdeal.nD Cert.ReferenceDnConvIdeal.τ).loc Cert.ReferenceDnConvIdeal.main_arg1)
          ∧ r.2.mem ((c.tc : Thread Cert.ReferenceDnConvIdeal.nD Cert.ReferenceDnConvIdeal.τ).loc Cert.ReferenceDnConvIdeal.main_arg2) = m' ((c.tc : Thread Cert.ReferenceDnConvIdeal.nD Cert.ReferenceDnConvIdeal.τ).loc Cert.ReferenceDnConvIdeal.main_arg2)
          ∧ r.2.mem ((c.tc : Thread Cert.ReferenceDnConvIdeal.nD Cert.ReferenceDnConvIdeal.τ).loc Cert.ReferenceDnConvIdeal.main_arg3) = m' ((c.tc : Thread Cert.ReferenceDnConvIdeal.nD Cert.ReferenceDnConvIdeal.τ).loc Cert.ReferenceDnConvIdeal.main_arg3)
          ∧ r.2.mem ((c.tc : Thread Cert.ReferenceDnConvIdeal.nD Cert.ReferenceDnConvIdeal.τ).loc Cert.ReferenceDnConvIdeal.main_arg4) = m' ((c.tc : Thread Cert.ReferenceDnConvIdeal.nD Cert.ReferenceDnConvIdeal.τ).loc Cert.ReferenceDnConvIdeal.main_arg4)
          ∧ r.2.mem ((c.tc : Thread Cert.ReferenceDnConvIdeal.nD Cert.ReferenceDnConvIdeal.τ).loc Cert.ReferenceDnConvIdeal.main_arg5) = m' ((c.tc : Thread Cert.ReferenceDnConvIdeal.nD Cert.ReferenceDnConvIdeal.τ).loc Cert.ReferenceDnConvIdeal.main_arg5)
          ∧ r.2.mem ((c.tc : Thread Cert.ReferenceDnConvIdeal.nD Cert.ReferenceDnConvIdeal.τ).loc Cert.ReferenceDnConvIdeal.main_arg6) = m' ((c.tc : Thread Cert.ReferenceDnConvIdeal.nD Cert.ReferenceDnConvIdeal.τ).loc Cert.ReferenceDnConvIdeal.main_arg6)
          ∧ r.2.mem ((c.tc : Thread Cert.ReferenceDnConvIdeal.nD Cert.ReferenceDnConvIdeal.τ).loc Cert.ReferenceDnConvIdeal.main_arg7) = m' ((c.tc : Thread Cert.ReferenceDnConvIdeal.nD Cert.ReferenceDnConvIdeal.τ).loc Cert.ReferenceDnConvIdeal.main_arg7)
          ∧ r.2.mem ((c.tc : Thread Cert.ReferenceDnConvIdeal.nD Cert.ReferenceDnConvIdeal.τ).loc Cert.ReferenceDnConvIdeal.main_arg8) = m' ((c.tc : Thread Cert.ReferenceDnConvIdeal.nD Cert.ReferenceDnConvIdeal.τ).loc Cert.ReferenceDnConvIdeal.main_arg8)
          ∧ r.2.mem ((c.tc : Thread Cert.ReferenceDnConvIdeal.nD Cert.ReferenceDnConvIdeal.τ).loc Cert.ReferenceDnConvIdeal.main_arg9) = m' ((c.tc : Thread Cert.ReferenceDnConvIdeal.nD Cert.ReferenceDnConvIdeal.τ).loc Cert.ReferenceDnConvIdeal.main_arg9)
          ∧ r.2.mem ((c.tc : Thread Cert.ReferenceDnConvIdeal.nD Cert.ReferenceDnConvIdeal.τ).loc Cert.ReferenceDnConvIdeal.main_arg10) = m' ((c.tc : Thread Cert.ReferenceDnConvIdeal.nD Cert.ReferenceDnConvIdeal.τ).loc Cert.ReferenceDnConvIdeal.main_arg10))

def Claim : Prop :=
  ∃ (hKernelDx : Cert.KernelDx.Facts) (hKernelDxIdeal : Cert.KernelDxIdeal.Facts) (hReferenceDxIdeal : Cert.ReferenceDxIdeal.Facts) (hKernelDw : Cert.KernelDw.Facts) (hKernelDwIdeal : Cert.KernelDwIdeal.Facts) (hReferenceDwIdeal : Cert.ReferenceDwIdeal.Facts) (hKernelFwd : Cert.KernelFwd.Facts) (hKernelFwdIdeal : Cert.KernelFwdIdeal.Facts) (hReferenceFwdIdeal : Cert.ReferenceFwdIdeal.Facts) (hKernelInproj : Cert.KernelInproj.Facts) (hKernelInprojIdeal : Cert.KernelInprojIdeal.Facts) (hReferenceInprojIdeal : Cert.ReferenceInprojIdeal.Facts) (hKernelLoss : Cert.KernelLoss.Facts) (hKernelLossIdeal : Cert.KernelLossIdeal.Facts) (hReferenceLossIdeal : Cert.ReferenceLossIdeal.Facts) (hKernelAdam : Cert.KernelAdam.Facts) (hKernelAdamIdeal : Cert.KernelAdamIdeal.Facts) (hReferenceAdamIdeal : Cert.ReferenceAdamIdeal.Facts) (hKernelInprojFwd : Cert.KernelInprojFwd.Facts) (hKernelInprojFwdIdeal : Cert.KernelInprojFwdIdeal.Facts) (hReferenceInprojFwdIdeal : Cert.ReferenceInprojFwdIdeal.Facts) (hKernelAdamGate : Cert.KernelAdamGate.Facts) (hKernelAdamGateIdeal : Cert.KernelAdamGateIdeal.Facts) (hReferenceAdamGateIdeal : Cert.ReferenceAdamGateIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamGlu : Cert.KernelAdamGlu.Facts) (hKernelAdamGluIdeal : Cert.KernelAdamGluIdeal.Facts) (hReferenceAdamGluIdeal : Cert.ReferenceAdamGluIdeal.Facts) (hKernelAdamMeta : Cert.KernelAdamMeta.Facts) (hKernelAdamMetaIdeal : Cert.KernelAdamMetaIdeal.Facts) (hReferenceAdamMetaIdeal : Cert.ReferenceAdamMetaIdeal.Facts) (hKernelAdamConv : Cert.KernelAdamConv.Facts) (hKernelAdamConvIdeal : Cert.KernelAdamConvIdeal.Facts) (hReferenceAdamConvIdeal : Cert.ReferenceAdamConvIdeal.Facts) (hKernelAdamRest : Cert.KernelAdamRest.Facts) (hKernelAdamRestIdeal : Cert.KernelAdamRestIdeal.Facts) (hReferenceAdamRestIdeal : Cert.ReferenceAdamRestIdeal.Facts) (hKernelMixOut : Cert.KernelMixOut.Facts) (hKernelMixOutIdeal : Cert.KernelMixOutIdeal.Facts) (hReferenceMixOutIdeal : Cert.ReferenceMixOutIdeal.Facts) (hKernelS5Prep : Cert.KernelS5Prep.Facts) (hKernelS5PrepIdeal : Cert.KernelS5PrepIdeal.Facts) (hReferenceS5PrepIdeal : Cert.ReferenceS5PrepIdeal.Facts) (hKernelMixOutFwd : Cert.KernelMixOutFwd.Facts) (hKernelMixOutFwdIdeal : Cert.KernelMixOutFwdIdeal.Facts) (hReferenceMixOutFwdIdeal : Cert.ReferenceMixOutFwdIdeal.Facts) (hKernelDnDecay : Cert.KernelDnDecay.Facts) (hKernelDnDecayIdeal : Cert.KernelDnDecayIdeal.Facts) (hReferenceDnDecayIdeal : Cert.ReferenceDnDecayIdeal.Facts) (hKernelDnConv : Cert.KernelDnConv.Facts) (hKernelDnConvIdeal : Cert.KernelDnConvIdeal.Facts) (hReferenceDnConvIdeal : Cert.ReferenceDnConvIdeal.Facts) (hPre_finite : Cert.Pre_finite.Facts) (hPre_away : Cert.Pre_away.Facts) (hPre_real_heads : Cert.Pre_real_heads.Facts),
    quiescent_KernelDx (hKernelDx := hKernelDx)
    ∧ quiescent_KernelDxIdeal (hKernelDxIdeal := hKernelDxIdeal)
    ∧ quiescent_KernelDxIdeal_pre_finite (hKernelDxIdeal := hKernelDxIdeal) (hPre_finite := hPre_finite)
    ∧ quiescent_ReferenceDxIdeal (hReferenceDxIdeal := hReferenceDxIdeal)
    ∧ quiescent_ReferenceDxIdeal_pre_finite (hReferenceDxIdeal := hReferenceDxIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelInprojFwd (hKernelInprojFwd := hKernelInprojFwd)
    ∧ quiescent_KernelInprojFwdIdeal (hKernelInprojFwdIdeal := hKernelInprojFwdIdeal)
    ∧ quiescent_ReferenceInprojFwdIdeal (hReferenceInprojFwdIdeal := hReferenceInprojFwdIdeal)
    ∧ quiescent_KernelAdamGate (hKernelAdamGate := hKernelAdamGate)
    ∧ quiescent_KernelAdamGateIdeal (hKernelAdamGateIdeal := hKernelAdamGateIdeal)
    ∧ quiescent_ReferenceAdamGateIdeal (hReferenceAdamGateIdeal := hReferenceAdamGateIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamGlu (hKernelAdamGlu := hKernelAdamGlu)
    ∧ quiescent_KernelAdamGluIdeal (hKernelAdamGluIdeal := hKernelAdamGluIdeal)
    ∧ quiescent_ReferenceAdamGluIdeal (hReferenceAdamGluIdeal := hReferenceAdamGluIdeal)
    ∧ quiescent_KernelAdamMeta (hKernelAdamMeta := hKernelAdamMeta)
    ∧ quiescent_KernelAdamMetaIdeal (hKernelAdamMetaIdeal := hKernelAdamMetaIdeal)
    ∧ quiescent_ReferenceAdamMetaIdeal (hReferenceAdamMetaIdeal := hReferenceAdamMetaIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamRest (hKernelAdamRest := hKernelAdamRest)
    ∧ quiescent_KernelAdamRestIdeal (hKernelAdamRestIdeal := hKernelAdamRestIdeal)
    ∧ quiescent_ReferenceAdamRestIdeal (hReferenceAdamRestIdeal := hReferenceAdamRestIdeal)
    ∧ quiescent_KernelMixOut (hKernelMixOut := hKernelMixOut)
    ∧ quiescent_KernelMixOutIdeal (hKernelMixOutIdeal := hKernelMixOutIdeal)
    ∧ quiescent_ReferenceMixOutIdeal (hReferenceMixOutIdeal := hReferenceMixOutIdeal)
    ∧ quiescent_KernelS5Prep (hKernelS5Prep := hKernelS5Prep)
    ∧ quiescent_KernelS5PrepIdeal (hKernelS5PrepIdeal := hKernelS5PrepIdeal)
    ∧ quiescent_ReferenceS5PrepIdeal (hReferenceS5PrepIdeal := hReferenceS5PrepIdeal)
    ∧ quiescent_KernelMixOutFwd (hKernelMixOutFwd := hKernelMixOutFwd)
    ∧ quiescent_KernelMixOutFwdIdeal (hKernelMixOutFwdIdeal := hKernelMixOutFwdIdeal)
    ∧ quiescent_ReferenceMixOutFwdIdeal (hReferenceMixOutFwdIdeal := hReferenceMixOutFwdIdeal)
    ∧ quiescent_KernelDnDecay (hKernelDnDecay := hKernelDnDecay)
    ∧ quiescent_KernelDnDecayIdeal (hKernelDnDecayIdeal := hKernelDnDecayIdeal)
    ∧ quiescent_KernelDnDecayIdeal_pre_away (hKernelDnDecayIdeal := hKernelDnDecayIdeal) (hPre_away := hPre_away)
    ∧ quiescent_ReferenceDnDecayIdeal (hReferenceDnDecayIdeal := hReferenceDnDecayIdeal)
    ∧ quiescent_ReferenceDnDecayIdeal_pre_away (hReferenceDnDecayIdeal := hReferenceDnDecayIdeal) (hPre_away := hPre_away)
    ∧ quiescent_KernelDnConv (hKernelDnConv := hKernelDnConv)
    ∧ quiescent_KernelDnConvIdeal (hKernelDnConvIdeal := hKernelDnConvIdeal)
    ∧ quiescent_KernelDnConvIdeal_pre_real_heads (hKernelDnConvIdeal := hKernelDnConvIdeal) (hPre_real_heads := hPre_real_heads)
    ∧ quiescent_ReferenceDnConvIdeal (hReferenceDnConvIdeal := hReferenceDnConvIdeal)
    ∧ quiescent_ReferenceDnConvIdeal_pre_real_heads (hReferenceDnConvIdeal := hReferenceDnConvIdeal) (hPre_real_heads := hPre_real_heads)
    ∧ preserves_KernelDx_KernelDxIdeal
    ∧ algebraic_KernelDxIdeal_ReferenceDxIdeal_pre_finite (hKernelDxIdeal := hKernelDxIdeal) (hReferenceDxIdeal := hReferenceDxIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelInprojFwd_KernelInprojFwdIdeal
    ∧ algebraic_KernelInprojFwdIdeal_ReferenceInprojFwdIdeal (hKernelInprojFwdIdeal := hKernelInprojFwdIdeal) (hReferenceInprojFwdIdeal := hReferenceInprojFwdIdeal)
    ∧ preserves_KernelAdamGate_KernelAdamGateIdeal
    ∧ algebraic_KernelAdamGateIdeal_ReferenceAdamGateIdeal (hKernelAdamGateIdeal := hKernelAdamGateIdeal) (hReferenceAdamGateIdeal := hReferenceAdamGateIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamGlu_KernelAdamGluIdeal
    ∧ algebraic_KernelAdamGluIdeal_ReferenceAdamGluIdeal (hKernelAdamGluIdeal := hKernelAdamGluIdeal) (hReferenceAdamGluIdeal := hReferenceAdamGluIdeal)
    ∧ preserves_KernelAdamMeta_KernelAdamMetaIdeal
    ∧ algebraic_KernelAdamMetaIdeal_ReferenceAdamMetaIdeal (hKernelAdamMetaIdeal := hKernelAdamMetaIdeal) (hReferenceAdamMetaIdeal := hReferenceAdamMetaIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamRest_KernelAdamRestIdeal
    ∧ algebraic_KernelAdamRestIdeal_ReferenceAdamRestIdeal (hKernelAdamRestIdeal := hKernelAdamRestIdeal) (hReferenceAdamRestIdeal := hReferenceAdamRestIdeal)
    ∧ preserves_KernelMixOut_KernelMixOutIdeal
    ∧ algebraic_KernelMixOutIdeal_ReferenceMixOutIdeal (hKernelMixOutIdeal := hKernelMixOutIdeal) (hReferenceMixOutIdeal := hReferenceMixOutIdeal)
    ∧ preserves_KernelS5Prep_KernelS5PrepIdeal
    ∧ algebraic_KernelS5PrepIdeal_ReferenceS5PrepIdeal (hKernelS5PrepIdeal := hKernelS5PrepIdeal) (hReferenceS5PrepIdeal := hReferenceS5PrepIdeal)
    ∧ preserves_KernelMixOutFwd_KernelMixOutFwdIdeal
    ∧ algebraic_KernelMixOutFwdIdeal_ReferenceMixOutFwdIdeal (hKernelMixOutFwdIdeal := hKernelMixOutFwdIdeal) (hReferenceMixOutFwdIdeal := hReferenceMixOutFwdIdeal)
    ∧ preserves_KernelDnDecay_KernelDnDecayIdeal
    ∧ algebraic_KernelDnDecayIdeal_ReferenceDnDecayIdeal_pre_away (hKernelDnDecayIdeal := hKernelDnDecayIdeal) (hReferenceDnDecayIdeal := hReferenceDnDecayIdeal) (hPre_away := hPre_away)
    ∧ preserves_KernelDnConv_KernelDnConvIdeal
    ∧ algebraic_KernelDnConvIdeal_ReferenceDnConvIdeal_pre_real_heads (hKernelDnConvIdeal := hKernelDnConvIdeal) (hReferenceDnConvIdeal := hReferenceDnConvIdeal) (hPre_real_heads := hPre_real_heads)
-- ==== Pre_away.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S_ : Shape := ⟨0, ![]⟩
abbrev S1x4 : Shape := ⟨2, ![1, 4]⟩

class Facts : Prop where
  bcast_S_S16640x4 : S_.BroadcastsInDim S16640x4 (![] : Fin 0 → Fin S16640x4.rank)
  reducesTo_S16640x4_S_d0_1 : S16640x4.ReducesTo [0, 1] S_
  h_S_ : 0 < S_.numel
  bcast_S_S4 : S_.BroadcastsInDim S4 (![] : Fin 0 → Fin S4.rank)
  reducesTo_S4_S_d0 : S4.ReducesTo [0] S_
  bcast_S4_S1x4_1 : S4.BroadcastsInDim S1x4 (![1] : Fin 1 → Fin S1x4.rank)
  bcast_S1x4_S16640x4_0_1 : S1x4.BroadcastsInDim S16640x4 (![0, 1] : Fin 2 → Fin S16640x4.rank)

variable [Facts]

def fn_part1 {F : FTy → Type} [FloatOps F] (main_arg2 : FVec F S16640x4 .f32) (main_arg5 : FVec F S4 .f32) (main_v13 : IVec S_ 1) (main_v16 : IVec S16640x4 1) : IVec S_ 1 :=
  let main_c_5 : IVec S_ 1 := constantI S_ 1 1#1
  let main_v17 : IVec S_ 1 := (fun x v => Host.reduce IntOp.andi x v reducesTo_S16640x4_S_d0_1 h_S_) main_v16 main_c_5
  let main_v18 : IVec S_ 1 := andi main_v13 main_v17
  let main_v19 : FVec F S1x4 .f32 := broadcastInDim S1x4 ![1] bcast_S4_S1x4_1 main_arg5
  let main_v20 : FVec F S16640x4 .f32 := broadcastInDim S16640x4 ![0, 1] bcast_S1x4_S16640x4_0_1 main_v19
  let main_v21 : FVec F S16640x4 .f32 := addf main_arg2 main_v20
  let main_cst_6 : FVec F S_ .f32 := constant S_ .f32 0x00000000#32
  let main_v22 : FVec F S16640x4 .f32 := broadcastInDim S16640x4 ![] bcast_S_S16640x4 main_cst_6
  let main_v23 : IVec S16640x4 1 := cmpf .une main_v21 main_v22
  let main_c_7 : IVec S_ 1 := constantI S_ 1 1#1
  let main_v24 : IVec S_ 1 := (fun x v => Host.reduce IntOp.andi x v reducesTo_S16640x4_S_d0_1 h_S_) main_v23 main_c_7
  let main_v25 : IVec S_ 1 := andi main_v18 main_v24
  main_v25

def fn {F : FTy → Type} [FloatOps F] (main_arg0 : FVec F S16640x768 .f32) (main_arg1 : FVec F S16640x4 .f32) (main_arg2 : FVec F S16640x4 .f32) (main_arg3 : FVec F S4x768 .f32) (main_arg4 : FVec F S4 .f32) (main_arg5 : FVec F S4 .f32) (main_arg6 : FVec F S16640x256 .f32) (main_arg7 : FVec F S16640x256 .f32) (main_arg8 : FVec F S16640x256 .f32) (main_arg9 : FVec F S16640x4 .f32) (main_arg10 : FVec F S16640x4 .f32) : IVec S_ 1 :=
  let main_v0 : FVec F S16640x4 .f32 := Host.absf main_arg2
  let main_cst : FVec F S_ .f32 := constant S_ .f32 0x7F800000#32
  let main_v1 : FVec F S16640x4 .f32 := broadcastInDim S16640x4 ![] bcast_S_S16640x4 main_cst
  let main_v2 : IVec S16640x4 1 := cmpf .olt main_v0 main_v1
  let main_c : IVec S_ 1 := constantI S_ 1 1#1
  let main_v3 : IVec S_ 1 := (fun x v => Host.reduce IntOp.andi x v reducesTo_S16640x4_S_d0_1 h_S_) main_v2 main_c
  let main_v4 : FVec F S4 .f32 := Host.absf main_arg4
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg5
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S16640x4 .f32 := Host.absf main_arg10
  let main_cst_4 : FVec F S_ .f32 := constant S_ .f32 0x7F800000#32
  let main_v15 : FVec F S16640x4 .f32 := broadcastInDim S16640x4 ![] bcast_S_S16640x4 main_cst_4
  let main_v16 : IVec S16640x4 1 := cmpf .olt main_v14 main_v15
  fn_part1 (F := F) main_arg2 main_arg5 main_v13 main_v16
-- ==== Pre_finite.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg5 : FVec F S16640x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S16640x1024 .f32 := Host.absf main_arg5
  let main_cst_6 : FVec F S_ .f32 := constant S_ .f32 0x7F800000#32
  let main_v20 : FVec F S16640x1024 .f32 := broadcastInDim S16640x1024 ![] bcast_S_S16640x1024 main_cst_6
  let main_v21 : IVec S16640x1024 1 := cmpf .olt main_v19 main_v20
  let main_c_7 : IVec S_ 1 := constantI S_ 1 1#1
  let main_v22 : IVec S_ 1 := (fun x v => Host.reduce IntOp.andi x v reducesTo_S16640x1024_S_d0_1 h_S_) main_v21 main_c_7
  let main_v23 : IVec S_ 1 := andi main_v18 main_v22
  main_v23

def fn {F : FTy → Type} [FloatOps F] (main_arg0 : FVec F S16640x1024 .f32) (main_arg1 : FVec F S1024 .f32) (main_arg2 : FVec F S1024x2816 .f32) (main_arg3 : FVec F S1024x2816 .f32) (main_arg4 : FVec F S2816x1024 .f32) (main_arg5 : FVec F S16640x1024 .f32) : IVec S_ 1 :=
  let main_v0 : FVec F S16640x1024 .f32 := Host.absf main_arg0
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_c : IVec S_ 1 := constantI S_ 1 1#1
  let main_v3 : IVec S_ 1 := (fun x v => Host.reduce IntOp.andi x v reducesTo_S16640x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg5 main_v13 main_v16
-- ==== Pre_real_heads.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S_ : Shape := ⟨0, ![]⟩

class Facts : Prop where
  bcast_S_S16640x256 : S_.BroadcastsInDim S16640x256 (![] : Fin 0 → Fin S16640x256.rank)
  reducesTo_S16640x256_S_d0_1 : S16640x256.ReducesTo [0, 1] S_
  h_S_ : 0 < S_.numel

variable [Facts]

def fn {F : FTy → Type} [FloatOps F] (main_arg0 : FVec F S16640x768 .f32) (main_arg1 : FVec F S16640x4 .f32) (main_arg2 : FVec F S16640x4 .f32) (main_arg3 : FVec F S4x768 .f32) (main_arg4 : FVec F S4 .f32) (main_arg5 : FVec F S4 .f32) (main_arg6 : FVec F S16640x256 .f32) (main_arg7 : FVec F S16640x256 .f32) (main_arg8 : FVec F S16640x256 .f32) (main_arg9 : FVec F S16640x4 .f32) (main_arg10 : FVec F S16640x4 .f32) : IVec S_ 1 :=
  let main_v0 : FVec F S16640x256 .f32 := Host.absf main_arg6
  let main_cst : FVec F S_ .f32 := constant S_ .f32 0x7F800000#32
  let main_v1 : FVec F S16640x256 .f32 := broadcastInDim S16640x256 ![] bcast_S_S16640x256 main_cst
  let main_v2 : IVec S16640x256 1 := cmpf .olt main_v0 main_v1
  let main_c : IVec S_ 1 := constantI S_ 1 1#1
  let main_v3 : IVec S_ 1 := (fun x v => Host.reduce IntOp.andi x v reducesTo_S16640x256_S_d0_1 h_S_) main_v2 main_c
  let main_v4 : FVec F S16640x256 .f32 := Host.absf main_arg7
  let main_cst_0 : FVec F S_ .f32 := constant S_ .f32 0x7F800000#32
  let main_v5 : FVec F S16640x256 .f32 := broadcastInDim S16640x256 ![] bcast_S_S16640x256 main_cst_0
  let main_v6 : IVec S16640x256 1 := cmpf .olt main_v4 main_v5
  let main_c_1 : IVec S_ 1 := constantI S_ 1 1#1
  let main_v7 : IVec S_ 1 := (fun x v => Host.reduce IntOp.andi x v reducesTo_S16640x256_S_d0_1 h_S_) main_v6 main_c_1
  let main_v8 : IVec S_ 1 := andi main_v3 main_v7
  main_v8
-- ==== KernelDx.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩
abbrev S16640x4x704 : Shape := ⟨3, ![16640, 4, 704]⟩
abbrev S4x16640x704 : Shape := ⟨3, ![4, 16640, 704]⟩
abbrev S1024x4x704 : Shape := ⟨3, ![1024, 4, 704]⟩
abbrev S4x1024x704 : Shape := ⟨3, ![4, 1024, 704]⟩
abbrev S4x704x1024 : Shape := ⟨3, ![4, 704, 1024]⟩
abbrev S640x1024 : Shape := ⟨2, ![640, 1024]⟩
abbrev S1x1024x704 : Shape := ⟨3, ![1, 1024, 704]⟩
abbrev S1x704x1024 : Shape := ⟨3, ![1, 704, 1024]⟩
abbrev S1x640x704 : Shape := ⟨3, ![1, 640, 704]⟩
abbrev S640x704 : Shape := ⟨2, ![640, 704]⟩
abbrev S704x1024 : Shape := ⟨2, ![704, 1024]⟩
abbrev S1024x704 : Shape := ⟨2, ![1024, 704]⟩
abbrev S640 : Shape := ⟨1, ![640]⟩
abbrev S640x1 : Shape := ⟨2, ![640, 1]⟩

abbrev nBuf : Space → Nat
  | .hbm => 44
  | .vmem => 26
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S16640x1024, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S16640x1024, .f32⟩
  | .hbm, ⟨21, _⟩ => ⟨S16640x1024, .f32⟩
  | .hbm, ⟨22, _⟩ => ⟨S16640x2816, .f32⟩
  | .hbm, ⟨23, _⟩ => ⟨S16640x4x704, .f32⟩
  | .hbm, ⟨24, _⟩ => ⟨S4x16640x704, .f32⟩
  | .hbm, ⟨25, _⟩ => ⟨S4x16640x704, .bf16⟩
  | .hbm, ⟨26, _⟩ => ⟨S16640x2816, .f32⟩
  | .hbm, ⟨27, _⟩ => ⟨S16640x4x704, .f32⟩
  | .hbm, ⟨28, _⟩ => ⟨S4x16640x704, .f32⟩
  | .hbm, ⟨29, _⟩ => ⟨S4x16640x704, .bf16⟩
  | .hbm, ⟨30, _⟩ => ⟨S1x1024, .f32⟩
  | .hbm, ⟨31, _⟩ => ⟨S1024x4x704, .f32⟩
  | .hbm, ⟨32, _⟩ => ⟨S4x1024x704, .f32⟩
  | .hbm, ⟨33, _⟩ => ⟨S4x1024x704, .bf16⟩
  | .hbm, ⟨34, _⟩ => ⟨S1024x4x704, .f32⟩
  | .hbm, ⟨35, _⟩ => ⟨S4x1024x704, .f32⟩
  | .hbm, ⟨36, _⟩ => ⟨S4x1024x704, .bf16⟩
  | .hbm, ⟨37, _⟩ => ⟨S4x704x1024, .f32⟩
  | .hbm, ⟨38, _⟩ => ⟨S4x704x1024, .bf16⟩
  | .hbm, ⟨39, _⟩ => ⟨S16640x1024, .f32⟩
  | .hbm, ⟨40, _⟩ => ⟨S1x1024, .f32⟩
  | .hbm, ⟨41, _⟩ => ⟨S4x16640x704, .bf16⟩
  | .hbm, ⟨42, _⟩ => ⟨S4x16640x704, .bf16⟩
  | .hbm, ⟨43, _⟩ => ⟨S4x16640x704, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S640x1024, .f32⟩
  | .local _ .vmem, ⟨10, _⟩ => ⟨S640x1024, .f32⟩
  | .local _ .vmem, ⟨11, _⟩ => ⟨S1x640x704, .bf16⟩
  | .local _ .vmem, ⟨12, _⟩ => ⟨S1x640x704, .bf16⟩
  | .local _ .vmem, ⟨13, _⟩ => ⟨S1x640x704, .bf16⟩
  | .local _ .vmem, ⟨14, _⟩ => ⟨S1x640x704, .bf16⟩
  | .local _ .vmem, ⟨15, _⟩ => ⟨S640x1024, .f32⟩
  | .local _ .vmem, ⟨16, _⟩ => ⟨S640x1024, .f32⟩
  | .local _ .vmem, ⟨17, _⟩ => ⟨S1x1024, .f32⟩
  | .local _ .vmem, ⟨18, _⟩ => ⟨S1x640x704, .bf16⟩
  | .local _ .vmem, ⟨19, _⟩ => ⟨S1x640x704, .bf16⟩
  | .local _ .vmem, ⟨20, _⟩ => ⟨S1x640x704, .bf16⟩
  | .local _ .vmem, ⟨21, _⟩ => ⟨S1x640x704, .bf16⟩
  | .local _ .vmem, ⟨22, _⟩ => ⟨S1x640x704, .bf16⟩
  | .local _ .vmem, ⟨23, _⟩ => ⟨S1x640x704, .bf16⟩
  | .local _ .vmem, ⟨24, _⟩ => ⟨S640x1024, .f32⟩
  | .local _ .vmem, ⟨25, _⟩ => ⟨S640x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![26, 4], ![false, false]⟩

def k0_cond3 (i : grid0.Coords) : BitVec 1 :=
  let arg1 : BitVec 32 := BitVec.ofNat 32 (i 1).val
  let c3_i32 : BitVec 32 := 3#32
  let v62 : BitVec 1 := Scalar.cmpi .eq arg1 c3_i32
  let v63 : BitVec 32 := Scalar.extui v62
  let c0_i32_40 : BitVec 32 := 0#32
  let v64 : BitVec 1 := Scalar.cmpi .ne v63 c0_i32_40
  v64

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x640x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x640x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x640x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceDxIdeal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩
abbrev S16640x4x704 : Shape := ⟨3, ![16640, 4, 704]⟩
abbrev S4x16640x704 : Shape := ⟨3, ![4, 16640, 704]⟩

abbrev nBuf : Space → Nat
  | .hbm => 140
  | .vmem => 0
  | .smem => 0
  | _ => 0

abbrev hbmTy0_0 (i : Nat) : BufTy := match i % 128 with
  | 0 => ⟨S16640x1024, .f32⟩
  | 1 => ⟨S1024, .f32⟩
  | 2 => ⟨S1024x2816, .f32⟩
  | 3 => ⟨S1024x2816, .f32⟩
  | 4 => ⟨S2816x1024, .f32⟩
  | 5 => ⟨S16640x1024, .f32⟩
  | 6 => ⟨S16640x1024, .f32⟩
  | 7 => ⟨S_, .f32⟩
  | 8 => ⟨S16640, .f32⟩
  | 9 => ⟨S16640x1, .f32⟩
  | 10 => ⟨S_, .f32⟩
  | 11 => ⟨S16640x1, .f32⟩
  | 12 => ⟨S16640x1, .f32⟩
  | 13 => ⟨S_, .f32⟩
  | 14 => ⟨S16640x1, .f32⟩
  | 15 => ⟨S16640x1, .f32⟩
  | 16 => ⟨S16640x1, .f32⟩
  | 17 => ⟨S16640x1, .f32⟩
  | 18 => ⟨S_, .f32⟩
  | 19 => ⟨S16640x1, .f32⟩
  | 20 => ⟨S16640x1, .f32⟩
  | 21 => ⟨S16640x1024, .f32⟩
  | 22 => ⟨S16640x1024, .f32⟩
  | 23 => ⟨S1x1024, .f32⟩
  | 24 => ⟨S16640x1024, .f32⟩
  | 25 => ⟨S16640x1024, .f32⟩
  | 26 => ⟨S16640x2816, .f32⟩
  | 27 => ⟨S16640x2816, .f32⟩
  | 28 => ⟨S16640x2816, .f32⟩
  | 29 => ⟨S_, .f32⟩
  | 30 => ⟨S16640x2816, .f32⟩
  | 31 => ⟨S16640x2816, .f32⟩
  | 32 => ⟨S_, .f32⟩
  | 33 => ⟨S16640x2816, .f32⟩
  | 34 => ⟨S16640x2816, .f32⟩
  | 35 => ⟨S_, .f32⟩
  | 36 => ⟨S16640x2816, .f32⟩
  | 37 => ⟨S16640x2816, .f32⟩
  | 38 => ⟨S16640x2816, .f32⟩
  | 39 => ⟨S16640x2816, .f32⟩
  | 40 => ⟨S16640x2816, .f32⟩
  | 41 => ⟨S16640x2816, .f32⟩
  | 42 => ⟨S16640x1024, .f32⟩
  | 43 => ⟨S_, .f32⟩
  | 44 => ⟨S16640x1024, .f32⟩
  | 45 => ⟨S16640x1024, .f32⟩
  | 46 => ⟨S16640x1024, .f32⟩
  | 47 => ⟨S16640x1024, .f32⟩
  | 48 => ⟨S_, .f32⟩
  | 49 => ⟨S16640x1024, .f32⟩
  | 50 => ⟨S16640x1024, .f32⟩
  | 51 => ⟨S16640x2816, .f32⟩
  | 52 => ⟨S16640x2816, .f32⟩
  | 53 => ⟨S16640x2816, .f32⟩
  | 54 => ⟨S16640x1024, .f32⟩
  | 55 => ⟨S16640x2816, .f32⟩
  | 56 => ⟨S16640x2816, .f32⟩
  | 57 => ⟨S16640x2816, .f32⟩
  | 58 => ⟨S16640x2816, .f32⟩
  | 59 => ⟨S16640x1024, .f32⟩
  | 60 => ⟨S16640x1024, .f32⟩
  | 61 => ⟨S16640x1024, .f32⟩
  | 62 => ⟨S_, .f32⟩
  | 63 => ⟨S1024, .f32⟩
  | 64 => ⟨S1x1024, .f32⟩
  | 65 => ⟨S16640x1024, .f32⟩
  | 66 => ⟨S16640x1024, .f32⟩
  | 67 => ⟨S_, .f32⟩
  | 68 => ⟨S1024, .f32⟩
  | 69 => ⟨S16640x1024, .f32⟩
  | 70 => ⟨S_, .f32⟩
  | 71 => ⟨S16640, .f32⟩
  | 72 => ⟨S16640x1, .f32⟩
  | 73 => ⟨S16640x1024, .f32⟩
  | 74 => ⟨S16640x1024, .f32⟩
  | 75 => ⟨S16640x1024, .f32⟩
  | 76 => ⟨S16640x1, .f32⟩
  | 77 => ⟨S_, .f32⟩
  | 78 => ⟨S16640x1, .f32⟩
  | 79 => ⟨S16640x1, .f32⟩
  | 80 => ⟨S_, .f32⟩
  | 81 => ⟨S16640, .f32⟩
  | 82 => ⟨S16640x1024, .f32⟩
  | 83 => ⟨S16640x1024, .f32⟩
  | 84 => ⟨S16640x1024, .f32⟩
  | 85 => ⟨S16640x1024, .f32⟩
  | 86 => ⟨S16640x1024, .f32⟩
  | 87 => ⟨S16640x1024, .f32⟩
  | 88 => ⟨S_, .f32⟩
  | 89 => ⟨S16640, .f32⟩
  | 90 => ⟨S16640x1, .f32⟩
  | 91 => ⟨S_, .f32⟩
  | 92 => ⟨S16640x1, .f32⟩
  | 93 => ⟨S16640x1, .f32⟩
  | 94 => ⟨S_, .f32⟩
  | 95 => ⟨S16640x1, .f32⟩
  | 96 => ⟨S16640x1, .f32⟩
  | 97 => ⟨S16640x1, .f32⟩
  | 98 => ⟨S16640x1024, .f32⟩
  | 99 => ⟨S16640x1024, .f32⟩
  | 100 => ⟨S1x1024, .f32⟩
  | 101 => ⟨S16640x1024, .f32⟩
  | 102 => ⟨S16640x1024, .f32⟩
  | 103 => ⟨S16640x2816, .f32⟩
  | 104 => ⟨S16640x2816, .f32⟩
  | 105 => ⟨S16640x2816, .f32⟩
  | 106 => ⟨S16640x2816, .f32⟩
  | 107 => ⟨S_, .f32⟩
  | 108 => ⟨S16640x2816, .f32⟩
  | 109 => ⟨S16640x2816, .f32⟩
  | 110 => ⟨S_, .f32⟩
  | 111 => ⟨S16640x2816, .f32⟩
  | 112 => ⟨S16640x2816, .f32⟩
  | 113 => ⟨S_, .f32⟩
  | 114 => ⟨S16640x2816, .f32⟩
  | 115 => ⟨S16640x2816, .f32⟩
  | 116 => ⟨S16640x2816, .f32⟩
  | 117 => ⟨S16640x2816, .f32⟩
  | 118 => ⟨S16640x2816, .f32⟩
  | 119 => ⟨S_, .f32⟩
  | 120 => ⟨S16640x1024, .f32⟩
  | 121 => ⟨S16640x1024, .f32⟩
  | 122 => ⟨S1024x2816, .f32⟩
  | 123 => ⟨S16640x2816, .f32⟩
  | 124 => ⟨S16640x2816, .f32⟩
  | 125 => ⟨S16640x2816, .f32⟩
  | 126 => ⟨S16640x2816, .f32⟩
  | 127 => ⟨S16640x2816, .f32⟩
  | _ => ⟨S16640x1024, .f32⟩

abbrev hbmTy0_1 (i : Nat) : BufTy := match i % 128 with
  | 0 => ⟨S16640x2816, .f32⟩
  | 1 => ⟨S16640x2816, .f32⟩
  | 2 => ⟨S1x1024, .f32⟩
  | 3 => ⟨S16640x4x704, .f32⟩
  | 4 => ⟨S4x16640x704, .f32⟩
  | 5 => ⟨S4x16640x704, .bf16⟩
  | 6 => ⟨S16640x4x704, .f32⟩
  | 7 => ⟨S4x16640x704, .f32⟩
  | 8 => ⟨S4x16640x704, .bf16⟩
  | 9 => ⟨S16640x4x704, .f32⟩
  | 10 => ⟨S4x16640x704, .f32⟩
  | 11 => ⟨S4x16640x704, .bf16⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_cst_13 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩

abbrev nD : Nat := 1
abbrev τ : Topo := Topo.v7x

variable {F : FTy → Type} [FloatOps F]
-- ==== KernelDw.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩
abbrev S16640x4x704 : Shape := ⟨3, ![16640, 4, 704]⟩
abbrev S4x16640x704 : Shape := ⟨3, ![4, 16640, 704]⟩
abbrev S4x1024x704 : Shape := ⟨3, ![4, 1024, 704]⟩
abbrev S4x704x1024 : Shape := ⟨3, ![4, 704, 1024]⟩
abbrev S640x1024 : Shape := ⟨2, ![640, 1024]⟩
abbrev S1x640x704 : Shape := ⟨3, ![1, 640, 704]⟩
abbrev S1x1024x704 : Shape := ⟨3, ![1, 1024, 704]⟩
abbrev S1x704x1024 : Shape := ⟨3, ![1, 704, 1024]⟩
abbrev S1024x704 : Shape := ⟨2, ![1024, 704]⟩
abbrev S640x704 : Shape := ⟨2, ![640, 704]⟩
abbrev S704x1024 : Shape := ⟨2, ![704, 1024]⟩

abbrev nBuf : Space → Nat
  | .hbm => 62
  | .vmem => 16
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S16640x1024, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S16640x1024, .f32⟩
  | .hbm, ⟨21, _⟩ => ⟨S16640x1024, .f32⟩
  | .hbm, ⟨22, _⟩ => ⟨S16640x2816, .f32⟩
  | .hbm, ⟨23, _⟩ => ⟨S16640x2816, .f32⟩
  | .hbm, ⟨24, _⟩ => ⟨S16640x2816, .f32⟩
  | .hbm, ⟨25, _⟩ => ⟨S16640x2816, .f32⟩
  | .hbm, ⟨26, _⟩ => ⟨S_, .f32⟩
  | .hbm, ⟨27, _⟩ => ⟨S16640x2816, .f32⟩
  | .hbm, ⟨28, _⟩ => ⟨S16640x2816, .f32⟩
  | .hbm, ⟨29, _⟩ => ⟨S_, .f32⟩
  | .hbm, ⟨30, _⟩ => ⟨S16640x2816, .f32⟩
  | .hbm, ⟨31, _⟩ => ⟨S16640x2816, .f32⟩
  | .hbm, ⟨32, _⟩ => ⟨S_, .f32⟩
  | .hbm, ⟨33, _⟩ => ⟨S16640x2816, .f32⟩
  | .hbm, ⟨34, _⟩ => ⟨S16640x2816, .f32⟩
  | .hbm, ⟨35, _⟩ => ⟨S16640x2816, .f32⟩
  | .hbm, ⟨36, _⟩ => ⟨S16640x2816, .f32⟩
  | .hbm, ⟨37, _⟩ => ⟨S16640x2816, .f32⟩
  | .hbm, ⟨38, _⟩ => ⟨S_, .f32⟩
  | .hbm, ⟨39, _⟩ => ⟨S16640x1024, .f32⟩
  | .hbm, ⟨40, _⟩ => ⟨S16640x1024, .f32⟩
  | .hbm, ⟨41, _⟩ => ⟨S1024x2816, .f32⟩
  | .hbm, ⟨42, _⟩ => ⟨S16640x2816, .f32⟩
  | .hbm, ⟨43, _⟩ => ⟨S16640x2816, .f32⟩
  | .hbm, ⟨44, _⟩ => ⟨S16640x2816, .f32⟩
  | .hbm, ⟨45, _⟩ => ⟨S16640x2816, .f32⟩
  | .hbm, ⟨46, _⟩ => ⟨S16640x2816, .f32⟩
  | .hbm, ⟨47, _⟩ => ⟨S16640x2816, .f32⟩
  | .hbm, ⟨48, _⟩ => ⟨S16640x2816, .f32⟩
  | .hbm, ⟨49, _⟩ => ⟨S16640x1024, .bf16⟩
  | .hbm, ⟨50, _⟩ => ⟨S16640x4x704, .f32⟩
  | .hbm, ⟨51, _⟩ => ⟨S4x16640x704, .f32⟩
  | .hbm, ⟨52, _⟩ => ⟨S4x16640x704, .bf16⟩
  | .hbm, ⟨53, _⟩ => ⟨S16640x4x704, .f32⟩
  | .hbm, ⟨54, _⟩ => ⟨S4x16640x704, .f32⟩
  | .hbm, ⟨55, _⟩ => ⟨S4x16640x704, .bf16⟩
  | .hbm, ⟨56, _⟩ => ⟨S16640x4x704, .f32⟩
  | .hbm, ⟨57, _⟩ => ⟨S4x16640x704, .f32⟩
  | .hbm, ⟨58, _⟩ => ⟨S4x16640x704, .bf16⟩
  | .hbm, ⟨59, _⟩ => ⟨S4x1024x704, .f32⟩
  | .hbm, ⟨60, _⟩ => ⟨S4x1024x704, .f32⟩
  | .hbm, ⟨61, _⟩ => ⟨S4x704x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S1x640x704, .bf16⟩
  | .local _ .vmem, ⟨5, _⟩ => ⟨S1x640x704, .bf16⟩
  | .local _ .vmem, ⟨6, _⟩ => ⟨S1x640x704, .bf16⟩
  | .local _ .vmem, ⟨7, _⟩ => ⟨S1x640x704, .bf16⟩
  | .local _ .vmem, ⟨8, _⟩ => ⟨S1x640x704, .bf16⟩
  | .local _ .vmem, ⟨9, _⟩ => ⟨S1x640x704, .bf16⟩
  | .local _ .vmem, ⟨10, _⟩ => ⟨S1x1024x704, .f32⟩
  | .local _ .vmem, ⟨11, _⟩ => ⟨S1x1024x704, .f32⟩
  | .local _ .vmem, ⟨12, _⟩ => ⟨S1x1024x704, .f32⟩
  | .local _ .vmem, ⟨13, _⟩ => ⟨S1x1024x704, .f32⟩
  | .local _ .vmem, ⟨14, _⟩ => ⟨S1x704x1024, .f32⟩
  | .local _ .vmem, ⟨15, _⟩ => ⟨S1x704x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34_0 : Ref sig .tc := ⟨.hbm, 59, rfl⟩
abbrev main_v34_1 : Ref sig .tc := ⟨.hbm, 60, rfl⟩
abbrev main_v34_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceDwIdeal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S16640x1024, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S16640x1024, .f32⟩
  | .hbm, ⟨21, _⟩ => ⟨S16640x1024, .f32⟩
  | .hbm, ⟨22, _⟩ => ⟨S16640x2816, .f32⟩
  | .hbm, ⟨23, _⟩ => ⟨S16640x2816, .f32⟩
  | .hbm, ⟨24, _⟩ => ⟨S16640x2816, .f32⟩
  | .hbm, ⟨25, _⟩ => ⟨S_, .f32⟩
  | .hbm, ⟨26, _⟩ => ⟨S16640x2816, .f32⟩
  | .hbm, ⟨27, _⟩ => ⟨S16640x2816, .f32⟩
  | .hbm, ⟨28, _⟩ => ⟨S_, .f32⟩
  | .hbm, ⟨29, _⟩ => ⟨S16640x2816, .f32⟩
  | .hbm, ⟨30, _⟩ => ⟨S16640x2816, .f32⟩
  | .hbm, ⟨31, _⟩ => ⟨S_, .f32⟩
  | .hbm, ⟨32, _⟩ => ⟨S16640x2816, .f32⟩
  | .hbm, ⟨33, _⟩ => ⟨S16640x2816, .f32⟩
  | .hbm, ⟨34, _⟩ => ⟨S16640x2816, .f32⟩
  | .hbm, ⟨35, _⟩ => ⟨S16640x2816, .f32⟩
  | .hbm, ⟨36, _⟩ => ⟨S16640x2816, .f32⟩
  | .hbm, ⟨37, _⟩ => ⟨S16640x2816, .f32⟩
  | .hbm, ⟨38, _⟩ => ⟨S16640x1024, .f32⟩
  | .hbm, ⟨39, _⟩ => ⟨S_, .f32⟩
  | .hbm, ⟨40, _⟩ => ⟨S16640x1024, .f32⟩
  | .hbm, ⟨41, _⟩ => ⟨S16640x1024, .f32⟩
  | .hbm, ⟨42, _⟩ => ⟨S16640x1024, .f32⟩
  | .hbm, ⟨43, _⟩ => ⟨S_, .f32⟩
  | .hbm, ⟨44, _⟩ => ⟨S16640x1024, .f32⟩
  | .hbm, ⟨45, _⟩ => ⟨S16640x1024, .f32⟩
  | .hbm, ⟨46, _⟩ => ⟨S1024x2816, .f32⟩
  | .hbm, ⟨47, _⟩ => ⟨S2816x1024, .f32⟩
  | .hbm, ⟨48, _⟩ => ⟨S16640x2816, .f32⟩
  | .hbm, ⟨49, _⟩ => ⟨S16640x2816, .f32⟩
  | .hbm, ⟨50, _⟩ => ⟨S16640x2816, .f32⟩
  | .hbm, ⟨51, _⟩ => ⟨S2816x1024, .f32⟩
  | .hbm, ⟨52, _⟩ => ⟨S1024x2816, .f32⟩
  | .hbm, ⟨53, _⟩ => ⟨S16640x2816, .f32⟩
  | .hbm, ⟨54, _⟩ => ⟨S16640x2816, .f32⟩
  | .hbm, ⟨55, _⟩ => ⟨S16640x2816, .f32⟩
  | .hbm, ⟨56, _⟩ => ⟨S16640x2816, .f32⟩
  | .hbm, ⟨57, _⟩ => ⟨S2816x1024, .f32⟩
  | .hbm, ⟨58, _⟩ => ⟨S1024x2816, .f32⟩
  | .hbm, ⟨59, _⟩ => ⟨S1024x4x704, .f32⟩
  | .hbm, ⟨60, _⟩ => ⟨S4x1024x704, .f32⟩
  | .hbm, ⟨61, _⟩ => ⟨S1024x4x704, .f32⟩
  | .hbm, ⟨62, _⟩ => ⟨S4x1024x704, .f32⟩
  | .hbm, ⟨63, _⟩ => ⟨S4x704x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== KernelFwd.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x16640x704 : Shape := ⟨3, ![4, 16640, 704]⟩
abbrev S640x1024 : Shape := ⟨2, ![640, 1024]⟩
abbrev S1x1024x704 : Shape := ⟨3, ![1, 1024, 704]⟩
abbrev S1x704x1024 : Shape := ⟨3, ![1, 704, 1024]⟩
abbrev S1x640x704 : Shape := ⟨3, ![1, 640, 704]⟩
abbrev S640 : Shape := ⟨1, ![640]⟩
abbrev S640x1 : Shape := ⟨2, ![640, 1]⟩
abbrev S1024x704 : Shape := ⟨2, ![1024, 704]⟩
abbrev S640x704 : Shape := ⟨2, ![640, 704]⟩
abbrev S704x1024 : Shape := ⟨2, ![704, 1024]⟩

abbrev nBuf : Space → Nat
  | .hbm => 18
  | .vmem => 19
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S16640x1024, .f32⟩
  | .hbm, ⟨15, _⟩ => ⟨S16640x1024, .bf16⟩
  | .hbm, ⟨16, _⟩ => ⟨S4x16640x704, .bf16⟩
  | .hbm, ⟨17, _⟩ => ⟨S4x16640x704, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | .local _ .vmem, ⟨13, _⟩ => ⟨S1x640x704, .bf16⟩
  | .local _ .vmem, ⟨14, _⟩ => ⟨S1x640x704, .bf16⟩
  | .local _ .vmem, ⟨15, _⟩ => ⟨S1x640x704, .bf16⟩
  | .local _ .vmem, ⟨16, _⟩ => ⟨S1x640x704, .bf16⟩
  | .local _ .vmem, ⟨17, _⟩ => ⟨S640x1024, .bf16⟩
  | .local _ .vmem, ⟨18, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![26, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_26 : BitVec 32 := 0#32
  let v38 : BitVec 1 := Scalar.cmpi .ne v37 c0_i32_26
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x640x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFwdIdeal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩
abbrev S16640x4x704 : Shape := ⟨3, ![16640, 4, 704]⟩
abbrev S4x16640x704 : Shape := ⟨3, ![4, 16640, 704]⟩

abbrev nBuf : Space → Nat
  | .hbm => 63
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x1024, .f32⟩
  | .hbm, ⟨17, _⟩ => ⟨S16640x1024, .f32⟩
  | .hbm, ⟨18, _⟩ => ⟨S1x1024, .f32⟩
  | .hbm, ⟨19, _⟩ => ⟨S16640x1024, .f32⟩
  | .hbm, ⟨20, _⟩ => ⟨S16640x1024, .f32⟩
  | .hbm, ⟨21, _⟩ => ⟨S16640x1024, .f32⟩
  | .hbm, ⟨22, _⟩ => ⟨S_, .f32⟩
  | .hbm, ⟨23, _⟩ => ⟨S16640, .f32⟩
  | .hbm, ⟨24, _⟩ => ⟨S16640x1, .f32⟩
  | .hbm, ⟨25, _⟩ => ⟨S_, .f32⟩
  | .hbm, ⟨26, _⟩ => ⟨S16640x1, .f32⟩
  | .hbm, ⟨27, _⟩ => ⟨S16640x1, .f32⟩
  | .hbm, ⟨28, _⟩ => ⟨S_, .f32⟩
  | .hbm, ⟨29, _⟩ => ⟨S16640x1, .f32⟩
  | .hbm, ⟨30, _⟩ => ⟨S16640x1, .f32⟩
  | .hbm, ⟨31, _⟩ => ⟨S16640x1, .f32⟩
  | .hbm, ⟨32, _⟩ => ⟨S16640x1024, .f32⟩
  | .hbm, ⟨33, _⟩ => ⟨S16640x1024, .f32⟩
  | .hbm, ⟨34, _⟩ => ⟨S1x1024, .f32⟩
  | .hbm, ⟨35, _⟩ => ⟨S16640x1024, .f32⟩
  | .hbm, ⟨36, _⟩ => ⟨S16640x1024, .f32⟩
  | .hbm, ⟨37, _⟩ => ⟨S16640x2816, .f32⟩
  | .hbm, ⟨38, _⟩ => ⟨S16640x2816, .f32⟩
  | .hbm, ⟨39, _⟩ => ⟨S16640x2816, .f32⟩
  | .hbm, ⟨40, _⟩ => ⟨S_, .f32⟩
  | .hbm, ⟨41, _⟩ => ⟨S16640x2816, .f32⟩
  | .hbm, ⟨42, _⟩ => ⟨S16640x2816, .f32⟩
  | .hbm, ⟨43, _⟩ => ⟨S_, .f32⟩
  | .hbm, ⟨44, _⟩ => ⟨S16640x2816, .f32⟩
  | .hbm, ⟨45, _⟩ => ⟨S16640x2816, .f32⟩
  | .hbm, ⟨46, _⟩ => ⟨S16640x2816, .f32⟩
  | .hbm, ⟨47, _⟩ => ⟨S16640x2816, .f32⟩
  | .hbm, ⟨48, _⟩ => ⟨S16640x2816, .f32⟩
  | .hbm, ⟨49, _⟩ => ⟨S16640x1024, .f32⟩
  | .hbm, ⟨50, _⟩ => ⟨S_, .f32⟩
  | .hbm, ⟨51, _⟩ => ⟨S16640x1024, .f32⟩
  | .hbm, ⟨52, _⟩ => ⟨S16640x1024, .f32⟩
  | .hbm, ⟨53, _⟩ => ⟨S16640x1024, .f32⟩
  | .hbm, ⟨54, _⟩ => ⟨S16640x1024, .bf16⟩
  | .hbm, ⟨55, _⟩ => ⟨S16640x2816, .f32⟩
  | .hbm, ⟨56, _⟩ => ⟨S16640x4x704, .f32⟩
  | .hbm, ⟨57, _⟩ => ⟨S4x16640x704, .f32⟩
  | .hbm, ⟨58, _⟩ => ⟨S4x16640x704, .bf16⟩
  | .hbm, ⟨59, _⟩ => ⟨S16640x2816, .f32⟩
  | .hbm, ⟨60, _⟩ => ⟨S16640x4x704, .f32⟩
  | .hbm, ⟨61, _⟩ => ⟨S4x16640x704, .f32⟩
  | .hbm, ⟨62, _⟩ => ⟨S4x16640x704, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== KernelInproj.lean ====
abbrev S16640x1024 : Shape := ⟨2, ![16640, 1024]⟩
abbrev S1024 : Shape := ⟨1, ![1024]⟩
abbrev S1024x2312 : Shape := ⟨2, ![1024, 2312]⟩
abbrev S16640x256 : Shape := ⟨2, ![16640, 256]⟩
abbrev S4x16640x768 : Shape := ⟨3, ![4, 16640, 768]⟩
abbrev S16640x4 : Shape := ⟨2, ![16640, 4]⟩
abbrev S16640x512 : Shape := ⟨2, ![16640, 512]⟩
abbrev S16640x8 : Shape := ⟨2, ![16640, 8]⟩
abbrev S_ : Shape := ⟨0, ![]⟩
abbrev S16640x128 : Shape := ⟨2, ![16640, 128]⟩
abbrev S1x1024 : Shape := ⟨2, ![1, 1024]⟩
abbrev S1024x1792 : Shape := ⟨2, ![1024, 1792]⟩
abbrev S1024x512 : Shape := ⟨2, ![1024, 512]⟩
abbrev S1024x2304 : Shape := ⟨2, ![1024, 2304]⟩
abbrev S1024x8 : Shape := ⟨2, ![1024, 8]⟩
abbrev S1024x128 : Shape := ⟨2, ![1024, 128]⟩
abbrev S1024x2432 : Shape := ⟨2, ![1024, 2432]⟩
abbrev S320x1024 : Shape := ⟨2, ![320, 1024]⟩
abbrev S320x256 : Shape := ⟨2, ![320, 256]⟩
abbrev S4x320x768 : Shape := ⟨3, ![4, 320, 768]⟩
abbrev S4x8x768 : Shape := ⟨3, ![4, 8, 768]⟩
abbrev S320x512 : Shape := ⟨2, ![320, 512]⟩
abbrev S320x128 : Shape := ⟨2, ![320, 128]⟩
abbrev S320x1 : Shape := ⟨2, ![320, 1]⟩
abbrev S8x1 : Shape := ⟨2, ![8, 1]⟩
abbrev S1x320x768 : Shape := ⟨3, ![1, 320, 768]⟩
abbrev S320x768 : Shape := ⟨2, ![320, 768]⟩
abbrev S8x768 : Shape := ⟨2, ![8, 768]⟩
abbrev S1x8x768 : Shape := ⟨3, ![1, 8, 768]⟩
abbrev S312x768 : Shape := ⟨2, ![312, 768]⟩
abbrev S320x2432 : Shape := ⟨2, ![320, 2432]⟩
abbrev S320 : Shape := ⟨1, ![320]⟩

abbrev nBuf : Space → Nat
  | .hbm => 29
  | .vmem => 26
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2312, .f32⟩
  | .hbm, ⟨3, _⟩ => ⟨S16640x1024, .f32⟩
  | .hbm, ⟨4, _⟩ => ⟨S16640x256, .f32⟩
  | .hbm, ⟨5, _⟩ => ⟨S16640x256, .f32⟩
  | .hbm, ⟨6, _⟩ => ⟨S16640x256, .f32⟩
  | .hbm, ⟨7, _⟩ => ⟨S4x16640x768, .f32⟩
  | .hbm, ⟨8, _⟩ => ⟨S16640x256, .f32⟩
  | .hbm, ⟨9, _⟩ => ⟨S16640x4, .f32⟩
  | .hbm, ⟨10, _⟩ => ⟨S16640x4, .f32⟩
  | .hbm, ⟨11, _⟩ => ⟨S16640x512, .f32⟩
  | .hbm, ⟨12, _⟩ => ⟨S16640x8, .f32⟩
  | .hbm, ⟨13, _⟩ => ⟨S_, .i32⟩
  | .hbm, ⟨14, _⟩ => ⟨S_, .f32⟩
  | .hbm, ⟨15, _⟩ => ⟨S16640x128, .f32⟩
  | .hbm, ⟨16, _⟩ => ⟨S1x1024, .f32⟩
  | .hbm, ⟨17, _⟩ => ⟨S1024x1792, .f32⟩
  | .hbm, ⟨18, _⟩ => ⟨S1024x512, .f32⟩
  | .hbm, ⟨19, _⟩ => ⟨S1024x2304, .f32⟩
  | .hbm, ⟨20, _⟩ => ⟨S1024x8, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x2432, .f32⟩
  | .hbm, ⟨25, _⟩ => ⟨S1024x2432, .bf16⟩
  | .hbm, ⟨26, _⟩ => ⟨S16640x1024, .f32⟩
  | .hbm, ⟨27, _⟩ => ⟨S1x1024, .f32⟩
  | .hbm, ⟨28, _⟩ => ⟨S1024x2432, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1024x2432, .bf16⟩
  | .local _ .vmem, ⟨4, _⟩ => ⟨S320x1024, .f32⟩
  | .local _ .vmem, ⟨5, _⟩ => ⟨S320x1024, .f32⟩
  | .local _ .vmem, ⟨6, _⟩ => ⟨S320x256, .f32⟩
  | .local _ .vmem, ⟨7, _⟩ => ⟨S320x256, .f32⟩
  | .local _ .vmem, ⟨8, _⟩ => ⟨S320x256, .f32⟩
  | .local _ .vmem, ⟨9, _⟩ => ⟨S320x256, .f32⟩
  | .local _ .vmem, ⟨10, _⟩ => ⟨S320x256, .f32⟩
  | .local _ .vmem, ⟨11, _⟩ => ⟨S320x256, .f32⟩
  | .local _ .vmem, ⟨12, _⟩ => ⟨S4x320x768, .f32⟩
  | .local _ .vmem, ⟨13, _⟩ => ⟨S4x320x768, .f32⟩
  | .local _ .vmem, ⟨14, _⟩ => ⟨S4x8x768, .f32⟩
  | .local _ .vmem, ⟨15, _⟩ => ⟨S4x8x768, .f32⟩
  | .local _ .vmem, ⟨16, _⟩ => ⟨S320x256, .f32⟩
  | .local _ .vmem, ⟨17, _⟩ => ⟨S320x256, .f32⟩
  | .local _ .vmem, ⟨18, _⟩ => ⟨S320x512, .f32⟩
  | .local _ .vmem, ⟨19, _⟩ => ⟨S320x512, .f32⟩
  | .local _ .vmem, ⟨20, _⟩ => ⟨S320x128, .f32⟩
  | .local _ .vmem, ⟨21, _⟩ => ⟨S320x128, .f32⟩
  | .local _ .vmem, ⟨22, _⟩ => ⟨S320x1024, .f32⟩
  | .local _ .vmem, ⟨23, _⟩ => ⟨S320x1024, .f32⟩
  | .local _ .vmem, ⟨24, _⟩ => ⟨S1x1024, .f32⟩
  | .local _ .vmem, ⟨25, _⟩ => ⟨S1024x2432, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c2079_i32 : BitVec 32 := 2079#32
  let v2 : BitVec 32 := Scalar.minsi v1 c2079_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x320x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2432 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceInprojIdeal.lean ====
abbrev S16640x1024 : Shape := ⟨2, ![16640, 1024]⟩
abbrev S1024 : Shape := ⟨1, ![1024]⟩
abbrev S1024x2312 : Shape := ⟨2, ![1024, 2312]⟩
abbrev S16640x256 : Shape := ⟨2, ![16640, 256]⟩
abbrev S4x16640x768 : Shape := ⟨3, ![4, 16640, 768]⟩
abbrev S16640x4 : Shape := ⟨2, ![16640, 4]⟩
abbrev S16640x512 : Shape := ⟨2, ![16640, 512]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2312 : Shape := ⟨2, ![16640, 2312]⟩
abbrev S16640x768 : Shape := ⟨2, ![16640, 768]⟩
abbrev S0x768 : Shape := ⟨2, ![0, 768]⟩
abbrev S1x768 : Shape := ⟨2, ![1, 768]⟩
abbrev S16639x768 : Shape := ⟨2, ![16639, 768]⟩
abbrev S2x768 : Shape := ⟨2, ![2, 768]⟩
abbrev S16638x768 : Shape := ⟨2, ![16638, 768]⟩
abbrev S3x768 : Shape := ⟨2, ![3, 768]⟩
abbrev S16637x768 : Shape := ⟨2, ![16637, 768]⟩
abbrev S1x16640x768 : Shape := ⟨3, ![1, 16640, 768]⟩
abbrev S2312x1024 : Shape := ⟨2, ![2312, 1024]⟩
abbrev S1024x1792 : Shape := ⟨2, ![1024, 1792]⟩
abbrev S1024x512 : Shape := ⟨2, ![1024, 512]⟩
abbrev S1024x8 : Shape := ⟨2, ![1024, 8]⟩
abbrev S1024x120 : Shape := ⟨2, ![1024, 120]⟩
abbrev S1024x2432 : Shape := ⟨2, ![1024, 2432]⟩

abbrev nBuf : Space → Nat
  | .hbm => 131
  | .vmem => 0
  | .smem => 0
  | _ => 0

abbrev hbmTy0_0 (i : Nat) : BufTy := match i % 128 with
  | 0 => ⟨S16640x1024, .f32⟩
  | 1 => ⟨S1024, .f32⟩
  | 2 => ⟨S1024x2312, .f32⟩
  | 3 => ⟨S16640x1024, .f32⟩
  | 4 => ⟨S16640x256, .f32⟩
  | 5 => ⟨S16640x256, .f32⟩
  | 6 => ⟨S16640x256, .f32⟩
  | 7 => ⟨S4x16640x768, .f32⟩
  | 8 => ⟨S16640x256, .f32⟩
  | 9 => ⟨S16640x4, .f32⟩
  | 10 => ⟨S16640x4, .f32⟩
  | 11 => ⟨S16640x512, .f32⟩
  | 12 => ⟨S16640x1024, .f32⟩
  | 13 => ⟨S_, .f32⟩
  | 14 => ⟨S16640, .f32⟩
  | 15 => ⟨S16640x1, .f32⟩
  | 16 => ⟨S_, .f32⟩
  | 17 => ⟨S16640x1, .f32⟩
  | 18 => ⟨S16640x1, .f32⟩
  | 19 => ⟨S_, .f32⟩
  | 20 => ⟨S16640x1, .f32⟩
  | 21 => ⟨S16640x1, .f32⟩
  | 22 => ⟨S16640x1, .f32⟩
  | 23 => ⟨S16640x1, .f32⟩
  | 24 => ⟨S_, .f32⟩
  | 25 => ⟨S16640x1, .f32⟩
  | 26 => ⟨S16640x1, .f32⟩
  | 27 => ⟨S16640x1024, .f32⟩
  | 28 => ⟨S16640x1024, .f32⟩
  | 29 => ⟨S1x1024, .f32⟩
  | 30 => ⟨S16640x1024, .f32⟩
  | 31 => ⟨S16640x1024, .f32⟩
  | 32 => ⟨S16640x2312, .f32⟩
  | 33 => ⟨S16640x256, .f32⟩
  | 34 => ⟨S16640x256, .f32⟩
  | 35 => ⟨S16640x256, .f32⟩
  | 36 => ⟨S16640x768, .f32⟩
  | 37 => ⟨S16640x256, .f32⟩
  | 38 => ⟨S16640x4, .f32⟩
  | 39 => ⟨S16640x4, .f32⟩
  | 40 => ⟨S16640x512, .f32⟩
  | 41 => ⟨S_, .f32⟩
  | 42 => ⟨S0x768, .f32⟩
  | 43 => ⟨S16640x768, .f32⟩
  | 44 => ⟨S_, .f32⟩
  | 45 => ⟨S0x768, .f32⟩
  | 46 => ⟨S_, .f32⟩
  | 47 => ⟨S1x768, .f32⟩
  | 48 => ⟨S16639x768, .f32⟩
  | 49 => ⟨S16640x768, .f32⟩
  | 50 => ⟨S_, .f32⟩
  | 51 => ⟨S1x768, .f32⟩
  | 52 => ⟨S_, .f32⟩
  | 53 => ⟨S2x768, .f32⟩
  | 54 => ⟨S16638x768, .f32⟩
  | 55 => ⟨S16640x768, .f32⟩
  | 56 => ⟨S_, .f32⟩
  | 57 => ⟨S2x768, .f32⟩
  | 58 => ⟨S_, .f32⟩
  | 59 => ⟨S3x768, .f32⟩
  | 60 => ⟨S16637x768, .f32⟩
  | 61 => ⟨S16640x768, .f32⟩
  | 62 => ⟨S_, .f32⟩
  | 63 => ⟨S3x768, .f32⟩
  | 64 => ⟨S1x16640x768, .f32⟩
  | 65 => ⟨S1x16640x768, .f32⟩
  | 66 => ⟨S1x16640x768, .f32⟩
  | 67 => ⟨S1x16640x768, .f32⟩
  | 68 => ⟨S4x16640x768, .f32⟩
  | 69 => ⟨S1x16640x768, .f32⟩
  | 70 => ⟨S16640x768, .f32⟩
  | 71 => ⟨S1x16640x768, .f32⟩
  | 72 => ⟨S16640x768, .f32⟩
  | 73 => ⟨S1x16640x768, .f32⟩
  | 74 => ⟨S16640x768, .f32⟩
  | 75 => ⟨S1x16640x768, .f32⟩
  | 76 => ⟨S16640x768, .f32⟩
  | 77 => ⟨S3x768, .f32⟩
  | 78 => ⟨S16637x768, .f32⟩
  | 79 => ⟨S_, .f32⟩
  | 80 => ⟨S16640x768, .f32⟩
  | 81 => ⟨S2x768, .f32⟩
  | 82 => ⟨S16638x768, .f32⟩
  | 83 => ⟨S_, .f32⟩
  | 84 => ⟨S16640x768, .f32⟩
  | 85 => ⟨S16640x768, .f32⟩
  | 86 => ⟨S1x768, .f32⟩
  | 87 => ⟨S16639x768, .f32⟩
  | 88 => ⟨S_, .f32⟩
  | 89 => ⟨S16640x768, .f32⟩
  | 90 => ⟨S16640x768, .f32⟩
  | 91 => ⟨S0x768, .f32⟩
  | 92 => ⟨S16640x768, .f32⟩
  | 93 => ⟨S16640x768, .f32⟩
  | 94 => ⟨S16640x2312, .f32⟩
  | 95 => ⟨S2312x1024, .f32⟩
  | 96 => ⟨S1024x2312, .f32⟩
  | 97 => ⟨S16640x1024, .f32⟩
  | 98 => ⟨S16640x1024, .f32⟩
  | 99 => ⟨S_, .f32⟩
  | 100 => ⟨S1024, .f32⟩
  | 101 => ⟨S1x1024, .f32⟩
  | 102 => ⟨S16640x1024, .f32⟩
  | 103 => ⟨S16640x1024, .f32⟩
  | 104 => ⟨S_, .f32⟩
  | 105 => ⟨S1024, .f32⟩
  | 106 => ⟨S16640x1024, .f32⟩
  | 107 => ⟨S_, .f32⟩
  | 108 => ⟨S16640, .f32⟩
  | 109 => ⟨S16640x1, .f32⟩
  | 110 => ⟨S16640x1024, .f32⟩
  | 111 => ⟨S16640x1024, .f32⟩
  | 112 => ⟨S16640x1024, .f32⟩
  | 113 => ⟨S16640x1, .f32⟩
  | 114 => ⟨S_, .f32⟩
  | 115 => ⟨S16640x1, .f32⟩
  | 116 => ⟨S16640x1, .f32⟩
  | 117 => ⟨S_, .f32⟩
  | 118 => ⟨S16640, .f32⟩
  | 119 => ⟨S16640x1024, .f32⟩
  | 120 => ⟨S16640x1024, .f32⟩
  | 121 => ⟨S16640x1024, .f32⟩
  | 122 => ⟨S16640x1024, .f32⟩
  | 123 => ⟨S16640x1024, .f32⟩
  | 124 => ⟨S1x1024, .f32⟩
  | 125 => ⟨S1024x1792, .f32⟩
  | 126 => ⟨S1024x512, .f32⟩
  | 127 => ⟨S1024x8, .f32⟩
  | _ => ⟨S16640x1024, .f32⟩

abbrev hbmTy0_1 (i : Nat) : BufTy := match i % 128 with
  | 0 => ⟨S_, .f32⟩
  | 1 => ⟨S1024x120, .f32⟩
  | 2 => ⟨S1024x2432, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== KernelLoss.lean ====
abbrev S16640x1024 : Shape := ⟨2, ![16640, 1024]⟩
abbrev S1024 : Shape := ⟨1, ![1024]⟩
abbrev S16384x1024 : Shape := ⟨2, ![16384, 1024]⟩
abbrev S1x1024 : Shape := ⟨2, ![1, 1024]⟩
abbrev S_ : Shape := ⟨0, ![]⟩
abbrev S8x128 : Shape := ⟨2, ![8, 128]⟩
abbrev S640x1024 : Shape := ⟨2, ![640, 1024]⟩
abbrev S640x1 : Shape := ⟨2, ![640, 1]⟩
abbrev S640 : Shape := ⟨1, ![640]⟩
abbrev S1x640x1 : Shape := ⟨3, ![1, 640, 1]⟩
abbrev S1 : Shape := ⟨1, ![1]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S16640x1024, .f32⟩
  | .hbm, ⟨7, _⟩ => ⟨S8x128, .f32⟩
  | .hbm, ⟨8, _⟩ => ⟨S16640x1024, .f32⟩
  | .hbm, ⟨9, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | .local _ .vmem, ⟨6, _⟩ => ⟨S640x1024, .f32⟩
  | .local _ .vmem, ⟨7, _⟩ => ⟨S640x1024, .f32⟩
  | .local _ .vmem, ⟨8, _⟩ => ⟨S1x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S16640x1024 : Shape := ⟨2, ![16640, 1024]⟩
abbrev S1024 : Shape := ⟨1, ![1024]⟩
abbrev S16384x1024 : Shape := ⟨2, ![16384, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16384 : Shape := ⟨1, ![16384]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16384x1024, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S_, .f32⟩
  | .hbm, ⟨16, _⟩ => ⟨S16640x1, .f32⟩
  | .hbm, ⟨17, _⟩ => ⟨S16640x1, .f32⟩
  | .hbm, ⟨18, _⟩ => ⟨S16640x1024, .f32⟩
  | .hbm, ⟨19, _⟩ => ⟨S16640x1024, .f32⟩
  | .hbm, ⟨20, _⟩ => ⟨S1x1024, .f32⟩
  | .hbm, ⟨21, _⟩ => ⟨S16640x1024, .f32⟩
  | .hbm, ⟨22, _⟩ => ⟨S16640x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16640x1024, .f32⟩
  | .hbm, ⟨49, _⟩ => ⟨S16640x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16640x1024, .f32⟩
  | .hbm, ⟨54, _⟩ => ⟨S16640x1024, .f32⟩
  | .hbm, ⟨55, _⟩ => ⟨S_, .f32⟩
  | .hbm, ⟨56, _⟩ => ⟨S1024, .f32⟩
  | .hbm, ⟨57, _⟩ => ⟨S16640x1024, .f32⟩
  | .hbm, ⟨58, _⟩ => ⟨S_, .f32⟩
  | .hbm, ⟨59, _⟩ => ⟨S16640, .f32⟩
  | .hbm, ⟨60, _⟩ => ⟨S16640x1, .f32⟩
  | .hbm, ⟨61, _⟩ => ⟨S16640x1024, .f32⟩
  | .hbm, ⟨62, _⟩ => ⟨S16640x1024, .f32⟩
  | .hbm, ⟨63, _⟩ => ⟨S16640x1, .f32⟩
  | .hbm, ⟨64, _⟩ => ⟨S_, .f32⟩
  | .hbm, ⟨65, _⟩ => ⟨S16640x1, .f32⟩
  | .hbm, ⟨66, _⟩ => ⟨S16640x1, .f32⟩
  | .hbm, ⟨67, _⟩ => ⟨S_, .f32⟩
  | .hbm, ⟨68, _⟩ => ⟨S16640, .f32⟩
  | .hbm, ⟨69, _⟩ => ⟨S16640x1024, .f32⟩
  | .hbm, ⟨70, _⟩ => ⟨S16640x1024, .f32⟩
  | .hbm, ⟨71, _⟩ => ⟨S16640x1024, .f32⟩
  | .hbm, ⟨72, _⟩ => ⟨S16640x1024, .f32⟩
  | .hbm, ⟨73, _⟩ => ⟨S16640x1024, .f32⟩
  | .hbm, ⟨74, _⟩ => ⟨S8x128, .f32⟩
  | .hbm, ⟨75, _⟩ => ⟨S1x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== KernelAdam.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamIdeal.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelInprojFwd.lean ====
abbrev S16640x1024 : Shape := ⟨2, ![16640, 1024]⟩
abbrev S1024 : Shape := ⟨1, ![1024]⟩
abbrev S1024x2312 : Shape := ⟨2, ![1024, 2312]⟩
abbrev S1x1024 : Shape := ⟨2, ![1, 1024]⟩
abbrev S1024x1792 : Shape := ⟨2, ![1024, 1792]⟩
abbrev S1024x512 : Shape := ⟨2, ![1024, 512]⟩
abbrev S1024x2304 : Shape := ⟨2, ![1024, 2304]⟩
abbrev S1024x8 : Shape := ⟨2, ![1024, 8]⟩
abbrev S_ : Shape := ⟨0, ![]⟩
abbrev S1024x128 : Shape := ⟨2, ![1024, 128]⟩
abbrev S1024x2432 : Shape := ⟨2, ![1024, 2432]⟩
abbrev S16640x256 : Shape := ⟨2, ![16640, 256]⟩
abbrev S16640x768 : Shape := ⟨2, ![16640, 768]⟩
abbrev S16640x512 : Shape := ⟨2, ![16640, 512]⟩
abbrev S16640x128 : Shape := ⟨2, ![16640, 128]⟩
abbrev S640x1024 : Shape := ⟨2, ![640, 1024]⟩
abbrev S640x256 : Shape := ⟨2, ![640, 256]⟩
abbrev S640x768 : Shape := ⟨2, ![640, 768]⟩
abbrev S640x512 : Shape := ⟨2, ![640, 512]⟩
abbrev S640x128 : Shape := ⟨2, ![640, 128]⟩
abbrev S640 : Shape := ⟨1, ![640]⟩
abbrev S640x1 : Shape := ⟨2, ![640, 1]⟩
abbrev S640x2432 : Shape := ⟨2, ![640, 2432]⟩

abbrev nBuf : Space → Nat
  | .hbm => 20
  | .vmem => 18
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2312, .f32⟩
  | .hbm, ⟨3, _⟩ => ⟨S1x1024, .f32⟩
  | .hbm, ⟨4, _⟩ => ⟨S1024x1792, .f32⟩
  | .hbm, ⟨5, _⟩ => ⟨S1024x512, .f32⟩
  | .hbm, ⟨6, _⟩ => ⟨S1024x2304, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2432, .f32⟩
  | .hbm, ⟨12, _⟩ => ⟨S1024x2432, .bf16⟩
  | .hbm, ⟨13, _⟩ => ⟨S16640x256, .f32⟩
  | .hbm, ⟨14, _⟩ => ⟨S16640x256, .f32⟩
  | .hbm, ⟨15, _⟩ => ⟨S16640x256, .f32⟩
  | .hbm, ⟨16, _⟩ => ⟨S16640x768, .f32⟩
  | .hbm, ⟨17, _⟩ => ⟨S16640x256, .f32⟩
  | .hbm, ⟨18, _⟩ => ⟨S16640x512, .f32⟩
  | .hbm, ⟨19, _⟩ => ⟨S16640x128, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x2432, .bf16⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | .local _ .vmem, ⟨8, _⟩ => ⟨S640x256, .f32⟩
  | .local _ .vmem, ⟨9, _⟩ => ⟨S640x256, .f32⟩
  | .local _ .vmem, ⟨10, _⟩ => ⟨S640x768, .f32⟩
  | .local _ .vmem, ⟨11, _⟩ => ⟨S640x768, .f32⟩
  | .local _ .vmem, ⟨12, _⟩ => ⟨S640x256, .f32⟩
  | .local _ .vmem, ⟨13, _⟩ => ⟨S640x256, .f32⟩
  | .local _ .vmem, ⟨14, _⟩ => ⟨S640x512, .f32⟩
  | .local _ .vmem, ⟨15, _⟩ => ⟨S640x512, .f32⟩
  | .local _ .vmem, ⟨16, _⟩ => ⟨S640x128, .f32⟩
  | .local _ .vmem, ⟨17, _⟩ => ⟨S640x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceInprojFwdIdeal.lean ====
abbrev S16640x1024 : Shape := ⟨2, ![16640, 1024]⟩
abbrev S1024 : Shape := ⟨1, ![1024]⟩
abbrev S1024x2312 : Shape := ⟨2, ![1024, 2312]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2312 : Shape := ⟨2, ![16640, 2312]⟩
abbrev S16640x256 : Shape := ⟨2, ![16640, 256]⟩
abbrev S16640x768 : Shape := ⟨2, ![16640, 768]⟩
abbrev S16640x4 : Shape := ⟨2, ![16640, 4]⟩
abbrev S16640x512 : Shape := ⟨2, ![16640, 512]⟩
abbrev S16640x120 : Shape := ⟨2, ![16640, 120]⟩
abbrev S16640x128 : Shape := ⟨2, ![16640, 128]⟩

abbrev nBuf : Space → Nat
  | .hbm => 31
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2312, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S1x1024, .f32⟩
  | .hbm, ⟨17, _⟩ => ⟨S16640x1024, .f32⟩
  | .hbm, ⟨18, _⟩ => ⟨S16640x1024, .f32⟩
  | .hbm, ⟨19, _⟩ => ⟨S16640x2312, .f32⟩
  | .hbm, ⟨20, _⟩ => ⟨S16640x256, .f32⟩
  | .hbm, ⟨21, _⟩ => ⟨S16640x256, .f32⟩
  | .hbm, ⟨22, _⟩ => ⟨S16640x256, .f32⟩
  | .hbm, ⟨23, _⟩ => ⟨S16640x768, .f32⟩
  | .hbm, ⟨24, _⟩ => ⟨S16640x256, .f32⟩
  | .hbm, ⟨25, _⟩ => ⟨S16640x4, .f32⟩
  | .hbm, ⟨26, _⟩ => ⟨S16640x4, .f32⟩
  | .hbm, ⟨27, _⟩ => ⟨S16640x512, .f32⟩
  | .hbm, ⟨28, _⟩ => ⟨S_, .f32⟩
  | .hbm, ⟨29, _⟩ => ⟨S16640x120, .f32⟩
  | .hbm, ⟨30, _⟩ => ⟨S16640x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KernelAdamGate.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamGateIdeal.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamGateIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S2048x578 : Shape := ⟨2, ![2048, 578]⟩
abbrev S256x578 : Shape := ⟨2, ![256, 578]⟩

abbrev nBuf : Space → Nat
  | .hbm => 7
  | .vmem => 14
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S2048x578, .f32⟩
  | .hbm, ⟨5, _⟩ => ⟨S2048x578, .f32⟩
  | .hbm, ⟨6, _⟩ => ⟨S2048x578, .f32⟩
  | .local _ .vmem, ⟨0, _⟩ => ⟨S256x578, .f32⟩
  | .local _ .vmem, ⟨1, _⟩ => ⟨S256x578, .f32⟩
  | .local _ .vmem, ⟨2, _⟩ => ⟨S256x578, .f32⟩
  | .local _ .vmem, ⟨3, _⟩ => ⟨S256x578, .f32⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | _, _ => ⟨S2048x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x578 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamInIdeal.lean ====
abbrev S2048x578 : Shape := ⟨2, ![2048, 578]⟩
abbrev S256x578 : Shape := ⟨2, ![256, 578]⟩

abbrev nBuf : Space → Nat
  | .hbm => 7
  | .vmem => 14
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S2048x578, .f32⟩
  | .hbm, ⟨5, _⟩ => ⟨S2048x578, .f32⟩
  | .hbm, ⟨6, _⟩ => ⟨S2048x578, .f32⟩
  | .local _ .vmem, ⟨0, _⟩ => ⟨S256x578, .f32⟩
  | .local _ .vmem, ⟨1, _⟩ => ⟨S256x578, .f32⟩
  | .local _ .vmem, ⟨2, _⟩ => ⟨S256x578, .f32⟩
  | .local _ .vmem, ⟨3, _⟩ => ⟨S256x578, .f32⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | _, _ => ⟨S2048x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x578 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S2048x578 : Shape := ⟨2, ![2048, 578]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S_, .f32⟩
  | .hbm, ⟨5, _⟩ => ⟨S2048x578, .f32⟩
  | .hbm, ⟨6, _⟩ => ⟨S2048x578, .f32⟩
  | .hbm, ⟨7, _⟩ => ⟨S_, .f32⟩
  | .hbm, ⟨8, _⟩ => ⟨S2048x578, .f32⟩
  | .hbm, ⟨9, _⟩ => ⟨S2048x578, .f32⟩
  | .hbm, ⟨10, _⟩ => ⟨S2048x578, .f32⟩
  | .hbm, ⟨11, _⟩ => ⟨S_, .f32⟩
  | .hbm, ⟨12, _⟩ => ⟨S2048x578, .f32⟩
  | .hbm, ⟨13, _⟩ => ⟨S2048x578, .f32⟩
  | .hbm, ⟨14, _⟩ => ⟨S2048x578, .f32⟩
  | .hbm, ⟨15, _⟩ => ⟨S_, .f32⟩
  | .hbm, ⟨16, _⟩ => ⟨S2048x578, .f32⟩
  | .hbm, ⟨17, _⟩ => ⟨S2048x578, .f32⟩
  | .hbm, ⟨18, _⟩ => ⟨S2048x578, .f32⟩
  | .hbm, ⟨19, _⟩ => ⟨S_, .f32⟩
  | .hbm, ⟨20, _⟩ => ⟨S2048x578, .f32⟩
  | .hbm, ⟨21, _⟩ => ⟨S2048x578, .f32⟩
  | .hbm, ⟨22, _⟩ => ⟨S_, .f32⟩
  | .hbm, ⟨23, _⟩ => ⟨S2048x578, .f32⟩
  | .hbm, ⟨24, _⟩ => ⟨S2048x578, .f32⟩
  | .hbm, ⟨25, _⟩ => ⟨S2048x578, .f32⟩
  | .hbm, ⟨26, _⟩ => ⟨S_, .f32⟩
  | .hbm, ⟨27, _⟩ => ⟨S2048x578, .f32⟩
  | .hbm, ⟨28, _⟩ => ⟨S2048x578, .f32⟩
  | .hbm, ⟨29, _⟩ => ⟨S2048x578, .f32⟩
  | .hbm, ⟨30, _⟩ => ⟨S_, .f32⟩
  | .hbm, ⟨31, _⟩ => ⟨S2048x578, .f32⟩
  | .hbm, ⟨32, _⟩ => ⟨S2048x578, .f32⟩
  | .hbm, ⟨33, _⟩ => ⟨S2048x578, .f32⟩
  | .hbm, ⟨34, _⟩ => ⟨S_, .f32⟩
  | .hbm, ⟨35, _⟩ => ⟨S2048x578, .f32⟩
  | .hbm, ⟨36, _⟩ => ⟨S2048x578, .f32⟩
  | _, _ => ⟨S2048x578, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamOutIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamGlu.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamGluIdeal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamGluIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamMetaIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamMetaIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConv.lean ====
abbrev S8x192 : Shape := ⟨2, ![8, 192]⟩

abbrev nBuf : Space → Nat
  | .hbm => 7
  | .vmem => 7
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x192, .f32⟩
  | .hbm, ⟨4, _⟩ => ⟨S8x192, .f32⟩
  | .hbm, ⟨5, _⟩ => ⟨S8x192, .f32⟩
  | .hbm, ⟨6, _⟩ => ⟨S8x192, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | _, _ => ⟨S8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamConvIdeal.lean ====
abbrev S8x192 : Shape := ⟨2, ![8, 192]⟩

abbrev nBuf : Space → Nat
  | .hbm => 7
  | .vmem => 7
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x192, .f32⟩
  | .hbm, ⟨4, _⟩ => ⟨S8x192, .f32⟩
  | .hbm, ⟨5, _⟩ => ⟨S8x192, .f32⟩
  | .hbm, ⟨6, _⟩ => ⟨S8x192, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | _, _ => ⟨S8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamConvIdeal.lean ====
abbrev S8x192 : Shape := ⟨2, ![8, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x192, .f32⟩
  | .hbm, ⟨4, _⟩ => ⟨S_, .f32⟩
  | .hbm, ⟨5, _⟩ => ⟨S8x192, .f32⟩
  | .hbm, ⟨6, _⟩ => ⟨S8x192, .f32⟩
  | .hbm, ⟨7, _⟩ => ⟨S_, .f32⟩
  | .hbm, ⟨8, _⟩ => ⟨S8x192, .f32⟩
  | .hbm, ⟨9, _⟩ => ⟨S8x192, .f32⟩
  | .hbm, ⟨10, _⟩ => ⟨S8x192, .f32⟩
  | .hbm, ⟨11, _⟩ => ⟨S_, .f32⟩
  | .hbm, ⟨12, _⟩ => ⟨S8x192, .f32⟩
  | .hbm, ⟨13, _⟩ => ⟨S8x192, .f32⟩
  | .hbm, ⟨14, _⟩ => ⟨S8x192, .f32⟩
  | .hbm, ⟨15, _⟩ => ⟨S_, .f32⟩
  | .hbm, ⟨16, _⟩ => ⟨S8x192, .f32⟩
  | .hbm, ⟨17, _⟩ => ⟨S8x192, .f32⟩
  | .hbm, ⟨18, _⟩ => ⟨S8x192, .f32⟩
  | .hbm, ⟨19, _⟩ => ⟨S_, .f32⟩
  | .hbm, ⟨20, _⟩ => ⟨S8x192, .f32⟩
  | .hbm, ⟨21, _⟩ => ⟨S8x192, .f32⟩
  | .hbm, ⟨22, _⟩ => ⟨S_, .f32⟩
  | .hbm, ⟨23, _⟩ => ⟨S8x192, .f32⟩
  | .hbm, ⟨24, _⟩ => ⟨S8x192, .f32⟩
  | .hbm, ⟨25, _⟩ => ⟨S8x192, .f32⟩
  | .hbm, ⟨26, _⟩ => ⟨S_, .f32⟩
  | .hbm, ⟨27, _⟩ => ⟨S8x192, .f32⟩
  | .hbm, ⟨28, _⟩ => ⟨S8x192, .f32⟩
  | .hbm, ⟨29, _⟩ => ⟨S8x192, .f32⟩
  | .hbm, ⟨30, _⟩ => ⟨S_, .f32⟩
  | .hbm, ⟨31, _⟩ => ⟨S8x192, .f32⟩
  | .hbm, ⟨32, _⟩ => ⟨S8x192, .f32⟩
  | .hbm, ⟨33, _⟩ => ⟨S8x192, .f32⟩
  | .hbm, ⟨34, _⟩ => ⟨S_, .f32⟩
  | .hbm, ⟨35, _⟩ => ⟨S8x192, .f32⟩
  | .hbm, ⟨36, _⟩ => ⟨S8x192, .f32⟩
  | _, _ => ⟨S8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRest.lean ====
abbrev S384x1024 : Shape := ⟨2, ![384, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamRestIdeal.lean ====
abbrev S384x1024 : Shape := ⟨2, ![384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S_, .f32⟩
  | .hbm, ⟨5, _⟩ => ⟨S384x1024, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S_, .f32⟩
  | .hbm, ⟨12, _⟩ => ⟨S384x1024, .f32⟩
  | .hbm, ⟨13, _⟩ => ⟨S384x1024, .f32⟩
  | .hbm, ⟨14, _⟩ => ⟨S384x1024, .f32⟩
  | .hbm, ⟨15, _⟩ => ⟨S_, .f32⟩
  | .hbm, ⟨16, _⟩ => ⟨S384x1024, .f32⟩
  | .hbm, ⟨17, _⟩ => ⟨S384x1024, .f32⟩
  | .hbm, ⟨18, _⟩ => ⟨S384x1024, .f32⟩
  | .hbm, ⟨19, _⟩ => ⟨S_, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S384x1024, .f32⟩
  | .hbm, ⟨26, _⟩ => ⟨S_, .f32⟩
  | .hbm, ⟨27, _⟩ => ⟨S384x1024, .f32⟩
  | .hbm, ⟨28, _⟩ => ⟨S384x1024, .f32⟩
  | .hbm, ⟨29, _⟩ => ⟨S384x1024, .f32⟩
  | .hbm, ⟨30, _⟩ => ⟨S_, .f32⟩
  | .hbm, ⟨31, _⟩ => ⟨S384x1024, .f32⟩
  | .hbm, ⟨32, _⟩ => ⟨S384x1024, .f32⟩
  | .hbm, ⟨33, _⟩ => ⟨S384x1024, .f32⟩
  | .hbm, ⟨34, _⟩ => ⟨S_, .f32⟩
  | .hbm, ⟨35, _⟩ => ⟨S384x1024, .f32⟩
  | .hbm, ⟨36, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelMixOut.lean ====
abbrev S16640x256 : Shape := ⟨2, ![16640, 256]⟩
abbrev S16640x512 : Shape := ⟨2, ![16640, 512]⟩
abbrev S64 : Shape := ⟨1, ![64]⟩
abbrev S512x512 : Shape := ⟨2, ![512, 512]⟩
abbrev S512 : Shape := ⟨1, ![512]⟩
abbrev S1024x1024 : Shape := ⟨2, ![1024, 1024]⟩
abbrev S16640x1024 : Shape := ⟨2, ![16640, 1024]⟩
abbrev S1x64 : Shape := ⟨2, ![1, 64]⟩
abbrev S1x512 : Shape := ⟨2, ![1, 512]⟩
abbrev S640x1024 : Shape := ⟨2, ![640, 1024]⟩
abbrev S640x256 : Shape := ⟨2, ![640, 256]⟩
abbrev S640x512 : Shape := ⟨2, ![640, 512]⟩
abbrev S256x256 : Shape := ⟨2, ![256, 256]⟩
abbrev S64x256 : Shape := ⟨2, ![64, 256]⟩
abbrev S1x256 : Shape := ⟨2, ![1, 256]⟩
abbrev S640 : Shape := ⟨1, ![640]⟩
abbrev S640x1 : Shape := ⟨2, ![640, 1]⟩
abbrev S256 : Shape := ⟨1, ![256]⟩

abbrev nBuf : Space → Nat
  | .hbm => 26
  | .vmem => 30
  | .smem => 0
  | _ => 0

abbrev bufTy : (tb : Table) → Fin (tcTables nBuf tb) → BufTy
  | .hbm, ⟨0, _⟩ => ⟨S16640x256, .f32⟩
  | .hbm, ⟨1, _⟩ => ⟨S16640x256, .f32⟩
  | .hbm, ⟨2, _⟩ => ⟨S16640x256, .f32⟩
  | .hbm, ⟨3, _⟩ => ⟨S16640x512, .f32⟩
  | .hbm, ⟨4, _⟩ => ⟨S64, .f32⟩
  | .hbm, ⟨5, _⟩ => ⟨S64, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S16640x1024, .f32⟩
  | .hbm, ⟨11, _⟩ => ⟨S1x64, .f32⟩
  | .hbm, ⟨12, _⟩ => ⟨S1x64, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S16640x256, .f32⟩
  | .hbm, ⟨17, _⟩ => ⟨S16640x256, .f32⟩
  | .hbm, ⟨18, _⟩ => ⟨S16640x256, .f32⟩
  | .hbm, ⟨19, _⟩ => ⟨S16640x512, .f32⟩
  | .hbm, ⟨20, _⟩ => ⟨S1x64, .f32⟩
  | .hbm, ⟨21, _⟩ => ⟨S1x64, .f32⟩
  | .hbm, ⟨22, _⟩ => ⟨S512x512, .f32⟩
  | .hbm, ⟨23, _⟩ => ⟨S1x512, .f32⟩
  | .hbm, ⟨24, _⟩ => ⟨S1x512, .f32⟩
  | .hbm, ⟨25, _⟩ => ⟨S1024x1024, .f32⟩
  | .local _ .vmem, ⟨0, _⟩ => ⟨S640x1024, .f32⟩
  | .local _ .vmem, ⟨1, _⟩ => ⟨S640x1024, .f32⟩
  | .local _ .vmem, ⟨2, _⟩ => ⟨S640x256, .f32⟩
  | .local _ .vmem, ⟨3, _⟩ => ⟨S640x256, .f32⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | .local _ .vmem, ⟨8, _⟩ => ⟨S640x512, .f32⟩
  | .local _ .vmem, ⟨9, _⟩ => ⟨S640x512, .f32⟩
  | .local _ .vmem, ⟨10, _⟩ => ⟨S1x64, .f32⟩
  | .local _ .vmem, ⟨11, _⟩ => ⟨S1x64, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S640x256, .f32⟩
  | .local _ .vmem, ⟨17, _⟩ => ⟨S640x256, .f32⟩
  | .local _ .vmem, ⟨18, _⟩ => ⟨S640x256, .f32⟩
  | .local _ .vmem, ⟨19, _⟩ => ⟨S640x256, .f32⟩
  | .local _ .vmem, ⟨20, _⟩ => ⟨S640x256, .f32⟩
  | .local _ .vmem, ⟨21, _⟩ => ⟨S640x256, .f32⟩
  | .local _ .vmem, ⟨22, _⟩ => ⟨S640x512, .f32⟩
  | .local _ .vmem, ⟨23, _⟩ => ⟨S640x512, .f32⟩
  | .local _ .vmem, ⟨24, _⟩ => ⟨S1x64, .f32⟩
  | .local _ .vmem, ⟨25, _⟩ => ⟨S1x64, .f32⟩
  | .local _ .vmem, ⟨26, _⟩ => ⟨S512x512, .f32⟩
  | .local _ .vmem, ⟨27, _⟩ => ⟨S1x512, .f32⟩
  | .local _ .vmem, ⟨28, _⟩ => ⟨S1x512, .f32⟩
  | .local _ .vmem, ⟨29, _⟩ => ⟨S1024x1024, .f32⟩
  | _, _ => ⟨S16640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev main_v5_8 : Ref sig .tc := ⟨.hbm, 24, rfl⟩
abbrev main_v5_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S640x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceMixOutIdeal.lean ====
abbrev S16640x256 : Shape := ⟨2, ![16640, 256]⟩
abbrev S16640x512 : Shape := ⟨2, ![16640, 512]⟩
abbrev S64 : Shape := ⟨1, ![64]⟩
abbrev S512x512 : Shape := ⟨2, ![512, 512]⟩
abbrev S512 : Shape := ⟨1, ![512]⟩
abbrev S1024x1024 : Shape := ⟨2, ![1024, 1024]⟩
abbrev S16640x1024 : Shape := ⟨2, ![16640, 1024]⟩
abbrev S16640x4x64 : Shape := ⟨3, ![16640, 4, 64]⟩
abbrev S_ : Shape := ⟨0, ![]⟩
abbrev S16640x4 : Shape := ⟨2, ![16640, 4]⟩
abbrev S16640x4x1 : Shape := ⟨3, ![16640, 4, 1]⟩
abbrev S1x1x64 : Shape := ⟨3, ![1, 1, 64]⟩
abbrev S1x512 : Shape := ⟨2, ![1, 512]⟩
abbrev S16640 : Shape := ⟨1, ![16640]⟩
abbrev S16640x1 : Shape := ⟨2, ![16640, 1]⟩
abbrev S1x64 : Shape := ⟨2, ![1, 64]⟩

abbrev nBuf : Space → Nat
  | .hbm => 260
  | .vmem => 0
  | .smem => 0
  | _ => 0

abbrev hbmTy0_0 (i : Nat) : BufTy := match i % 128 with
  | 0 => ⟨S16640x256, .f32⟩
  | 1 => ⟨S16640x256, .f32⟩
  | 2 => ⟨S16640x256, .f32⟩
  | 3 => ⟨S16640x512, .f32⟩
  | 4 => ⟨S64, .f32⟩
  | 5 => ⟨S64, .f32⟩
  | 6 => ⟨S512x512, .f32⟩
  | 7 => ⟨S512, .f32⟩
  | 8 => ⟨S512, .f32⟩
  | 9 => ⟨S1024x1024, .f32⟩
  | 10 => ⟨S16640x1024, .f32⟩
  | 11 => ⟨S16640x4x64, .f32⟩
  | 12 => ⟨S16640x4x64, .f32⟩
  | 13 => ⟨S_, .f32⟩
  | 14 => ⟨S16640x4, .f32⟩
  | 15 => ⟨S16640x4x1, .f32⟩
  | 16 => ⟨S_, .f32⟩
  | 17 => ⟨S16640x4x1, .f32⟩
  | 18 => ⟨S16640x4x1, .f32⟩
  | 19 => ⟨S_, .f32⟩
  | 20 => ⟨S16640x4x1, .f32⟩
  | 21 => ⟨S16640x4x1, .f32⟩
  | 22 => ⟨S16640x4x1, .f32⟩
  | 23 => ⟨S16640x4x1, .f32⟩
  | 24 => ⟨S_, .f32⟩
  | 25 => ⟨S16640x4x1, .f32⟩
  | 26 => ⟨S16640x4x1, .f32⟩
  | 27 => ⟨S16640x4x64, .f32⟩
  | 28 => ⟨S16640x4x64, .f32⟩
  | 29 => ⟨S1x1x64, .f32⟩
  | 30 => ⟨S16640x4x64, .f32⟩
  | 31 => ⟨S16640x4x64, .f32⟩
  | 32 => ⟨S16640x256, .f32⟩
  | 33 => ⟨S16640x4x64, .f32⟩
  | 34 => ⟨S16640x4x64, .f32⟩
  | 35 => ⟨S_, .f32⟩
  | 36 => ⟨S16640x4, .f32⟩
  | 37 => ⟨S16640x4x1, .f32⟩
  | 38 => ⟨S_, .f32⟩
  | 39 => ⟨S16640x4x1, .f32⟩
  | 40 => ⟨S16640x4x1, .f32⟩
  | 41 => ⟨S_, .f32⟩
  | 42 => ⟨S16640x4x1, .f32⟩
  | 43 => ⟨S16640x4x1, .f32⟩
  | 44 => ⟨S16640x4x1, .f32⟩
  | 45 => ⟨S16640x4x1, .f32⟩
  | 46 => ⟨S_, .f32⟩
  | 47 => ⟨S16640x4x1, .f32⟩
  | 48 => ⟨S16640x4x1, .f32⟩
  | 49 => ⟨S16640x4x64, .f32⟩
  | 50 => ⟨S16640x4x64, .f32⟩
  | 51 => ⟨S1x1x64, .f32⟩
  | 52 => ⟨S16640x4x64, .f32⟩
  | 53 => ⟨S16640x4x64, .f32⟩
  | 54 => ⟨S16640x4x64, .f32⟩
  | 55 => ⟨S16640x4x64, .f32⟩
  | 56 => ⟨S16640x4x64, .f32⟩
  | 57 => ⟨S_, .f32⟩
  | 58 => ⟨S16640x4x64, .f32⟩
  | 59 => ⟨S16640x4x64, .f32⟩
  | 60 => ⟨S_, .f32⟩
  | 61 => ⟨S16640x4x64, .f32⟩
  | 62 => ⟨S16640x4x64, .f32⟩
  | 63 => ⟨S_, .f32⟩
  | 64 => ⟨S16640x4x64, .f32⟩
  | 65 => ⟨S16640x4x64, .f32⟩
  | 66 => ⟨S16640x4x64, .f32⟩
  | 67 => ⟨S16640x4x64, .f32⟩
  | 68 => ⟨S16640x4x64, .f32⟩
  | 69 => ⟨S16640x256, .f32⟩
  | 70 => ⟨S16640x512, .f32⟩
  | 71 => ⟨S16640x512, .f32⟩
  | 72 => ⟨S16640x512, .f32⟩
  | 73 => ⟨S_, .f32⟩
  | 74 => ⟨S16640x512, .f32⟩
  | 75 => ⟨S16640x512, .f32⟩
  | 76 => ⟨S_, .f32⟩
  | 77 => ⟨S16640x512, .f32⟩
  | 78 => ⟨S16640x512, .f32⟩
  | 79 => ⟨S16640x512, .f32⟩
  | 80 => ⟨S_, .f32⟩
  | 81 => ⟨S16640x512, .f32⟩
  | 82 => ⟨S16640x512, .f32⟩
  | 83 => ⟨S16640x512, .f32⟩
  | 84 => ⟨S_, .f32⟩
  | 85 => ⟨S16640x512, .f32⟩
  | 86 => ⟨S16640x512, .f32⟩
  | 87 => ⟨S_, .f32⟩
  | 88 => ⟨S16640x512, .f32⟩
  | 89 => ⟨S16640x512, .f32⟩
  | 90 => ⟨S16640x512, .f32⟩
  | 91 => ⟨S_, .f32⟩
  | 92 => ⟨S16640x512, .f32⟩
  | 93 => ⟨S16640x512, .f32⟩
  | 94 => ⟨S_, .f32⟩
  | 95 => ⟨S16640x512, .f32⟩
  | 96 => ⟨S16640x512, .f32⟩
  | 97 => ⟨S16640x512, .f32⟩
  | 98 => ⟨S16640x512, .f32⟩
  | 99 => ⟨S1x512, .f32⟩
  | 100 => ⟨S16640x512, .f32⟩
  | 101 => ⟨S16640x512, .f32⟩
  | 102 => ⟨S16640x512, .f32⟩
  | 103 => ⟨S16640x512, .f32⟩
  | 104 => ⟨S_, .f32⟩
  | 105 => ⟨S16640x512, .f32⟩
  | 106 => ⟨S16640x512, .f32⟩
  | 107 => ⟨S_, .f32⟩
  | 108 => ⟨S16640x512, .f32⟩
  | 109 => ⟨S16640x512, .f32⟩
  | 110 => ⟨S_, .f32⟩
  | 111 => ⟨S16640x512, .f32⟩
  | 112 => ⟨S16640x512, .f32⟩
  | 113 => ⟨S16640x512, .f32⟩
  | 114 => ⟨S16640x512, .f32⟩
  | 115 => ⟨S16640x512, .f32⟩
  | 116 => ⟨S_, .f32⟩
  | 117 => ⟨S16640, .f32⟩
  | 118 => ⟨S16640x1, .f32⟩
  | 119 => ⟨S_, .f32⟩
  | 120 => ⟨S16640x1, .f32⟩
  | 121 => ⟨S16640x1, .f32⟩
  | 122 => ⟨S_, .f32⟩
  | 123 => ⟨S16640x1, .f32⟩
  | 124 => ⟨S16640x1, .f32⟩
  | 125 => ⟨S16640x1, .f32⟩
  | 126 => ⟨S16640x1, .f32⟩
  | 127 => ⟨S_, .f32⟩
  | _ => ⟨S16640x256, .f32⟩

abbrev hbmTy0_1 (i : Nat) : BufTy := match i % 128 with
  | 0 => ⟨S16640x1, .f32⟩
  | 1 => ⟨S16640x1, .f32⟩
  | 2 => ⟨S16640x512, .f32⟩
  | 3 => ⟨S16640x512, .f32⟩
  | 4 => ⟨S1x512, .f32⟩
  | 5 => ⟨S16640x512, .f32⟩
  | 6 => ⟨S16640x512, .f32⟩
  | 7 => ⟨S16640x1024, .f32⟩
  | 8 => ⟨S16640x1024, .f32⟩
  | 9 => ⟨S1024x1024, .f32⟩
  | 10 => ⟨S1024x1024, .f32⟩
  | 11 => ⟨S16640x1024, .f32⟩
  | 12 => ⟨S16640x256, .f32⟩
  | 13 => ⟨S16640x256, .f32⟩
  | 14 => ⟨S16640x512, .f32⟩
  | 15 => ⟨S16640x512, .f32⟩
  | 16 => ⟨S_, .f32⟩
  | 17 => ⟨S512, .f32⟩
  | 18 => ⟨S1x512, .f32⟩
  | 19 => ⟨S16640x512, .f32⟩
  | 20 => ⟨S16640x512, .f32⟩
  | 21 => ⟨S_, .f32⟩
  | 22 => ⟨S512, .f32⟩
  | 23 => ⟨S16640x512, .f32⟩
  | 24 => ⟨S_, .f32⟩
  | 25 => ⟨S16640, .f32⟩
  | 26 => ⟨S16640x1, .f32⟩
  | 27 => ⟨S16640x512, .f32⟩
  | 28 => ⟨S16640x512, .f32⟩
  | 29 => ⟨S16640x1, .f32⟩
  | 30 => ⟨S_, .f32⟩
  | 31 => ⟨S16640x1, .f32⟩
  | 32 => ⟨S16640x1, .f32⟩
  | 33 => ⟨S_, .f32⟩
  | 34 => ⟨S16640, .f32⟩
  | 35 => ⟨S16640x512, .f32⟩
  | 36 => ⟨S16640x512, .f32⟩
  | 37 => ⟨S16640x512, .f32⟩
  | 38 => ⟨S16640x512, .f32⟩
  | 39 => ⟨S16640x512, .f32⟩
  | 40 => ⟨S16640x512, .f32⟩
  | 41 => ⟨S16640x512, .f32⟩
  | 42 => ⟨S16640x512, .f32⟩
  | 43 => ⟨S_, .f32⟩
  | 44 => ⟨S512, .f32⟩
  | 45 => ⟨S1x512, .f32⟩
  | 46 => ⟨S_, .f32⟩
  | 47 => ⟨S512, .f32⟩
  | 48 => ⟨S512x512, .f32⟩
  | 49 => ⟨S512x512, .f32⟩
  | 50 => ⟨S16640x512, .f32⟩
  | 51 => ⟨S16640x512, .f32⟩
  | 52 => ⟨S16640x512, .f32⟩
  | 53 => ⟨S16640x512, .f32⟩
  | 54 => ⟨S_, .f32⟩
  | 55 => ⟨S16640x512, .f32⟩
  | 56 => ⟨S16640x512, .f32⟩
  | 57 => ⟨S16640x512, .f32⟩
  | 58 => ⟨S_, .f32⟩
  | 59 => ⟨S16640x512, .f32⟩
  | 60 => ⟨S16640x512, .f32⟩
  | 61 => ⟨S16640x512, .f32⟩
  | 62 => ⟨S_, .f32⟩
  | 63 => ⟨S16640x512, .f32⟩
  | 64 => ⟨S16640x512, .f32⟩
  | 65 => ⟨S16640x512, .f32⟩
  | 66 => ⟨S16640x512, .f32⟩
  | 67 => ⟨S16640x4x64, .f32⟩
  | 68 => ⟨S16640x4x64, .f32⟩
  | 69 => ⟨S16640x4x64, .f32⟩
  | 70 => ⟨S16640x4x64, .f32⟩
  | 71 => ⟨S16640x4x64, .f32⟩
  | 72 => ⟨S16640x4x64, .f32⟩
  | 73 => ⟨S16640x4x64, .f32⟩
  | 74 => ⟨S16640x256, .f32⟩
  | 75 => ⟨S16640x4x64, .f32⟩
  | 76 => ⟨S_, .f32⟩
  | 77 => ⟨S64, .f32⟩
  | 78 => ⟨S1x1x64, .f32⟩
  | 79 => ⟨S16640x4x64, .f32⟩
  | 80 => ⟨S16640x4x64, .f32⟩
  | 81 => ⟨S_, .f32⟩
  | 82 => ⟨S64, .f32⟩
  | 83 => ⟨S16640x4x64, .f32⟩
  | 84 => ⟨S_, .f32⟩
  | 85 => ⟨S16640x4, .f32⟩
  | 86 => ⟨S16640x4x1, .f32⟩
  | 87 => ⟨S16640x4x64, .f32⟩
  | 88 => ⟨S16640x4x64, .f32⟩
  | 89 => ⟨S16640x4x1, .f32⟩
  | 90 => ⟨S_, .f32⟩
  | 91 => ⟨S16640x4x1, .f32⟩
  | 92 => ⟨S16640x4x1, .f32⟩
  | 93 => ⟨S_, .f32⟩
  | 94 => ⟨S16640x4, .f32⟩
  | 95 => ⟨S16640x4x64, .f32⟩
  | 96 => ⟨S16640x4x64, .f32⟩
  | 97 => ⟨S16640x4x64, .f32⟩
  | 98 => ⟨S16640x4x64, .f32⟩
  | 99 => ⟨S16640x4x64, .f32⟩
  | 100 => ⟨S16640x256, .f32⟩
  | 101 => ⟨S16640x4x64, .f32⟩
  | 102 => ⟨S16640x4x64, .f32⟩
  | 103 => ⟨S_, .f32⟩
  | 104 => ⟨S64, .f32⟩
  | 105 => ⟨S1x1x64, .f32⟩
  | 106 => ⟨S16640x4x64, .f32⟩
  | 107 => ⟨S16640x4x64, .f32⟩
  | 108 => ⟨S_, .f32⟩
  | 109 => ⟨S64, .f32⟩
  | 110 => ⟨S16640x4x64, .f32⟩
  | 111 => ⟨S_, .f32⟩
  | 112 => ⟨S16640x4, .f32⟩
  | 113 => ⟨S16640x4x1, .f32⟩
  | 114 => ⟨S16640x4x64, .f32⟩
  | 115 => ⟨S16640x4x64, .f32⟩
  | 116 => ⟨S16640x4x1, .f32⟩
  | 117 => ⟨S_, .f32⟩
  | 118 => ⟨S16640x4x1, .f32⟩
  | 119 => ⟨S16640x4x1, .f32⟩
  | 120 => ⟨S_, .f32⟩
  | 121 => ⟨S16640x4, .f32⟩
  | 122 => ⟨S16640x4x64, .f32⟩
  | 123 => ⟨S16640x4x64, .f32⟩
  | 124 => ⟨S16640x4x64, .f32⟩
  | 125 => ⟨S16640x4x64, .f32⟩
  | 126 => ⟨S16640x4x64, .f32⟩
  | 127 => ⟨S16640x256, .f32⟩
  | _ => ⟨S16640x256, .f32⟩

abbrev hbmTy0_2 (i : Nat) : BufTy := match i % 128 with
  | 0 => ⟨S1x64, .f32⟩
  | 1 => ⟨S1x64, .f32⟩
  | 2 => ⟨S1x512, .f32⟩
  | 3 => ⟨S1x512, .f32⟩
  | _ => ⟨S16640x256, .f32⟩

abbrev hbmTy (i : Nat) : BufTy := match i / 128 with
  | 0 => hbmTy0_0 i
  | 1 => hbmTy0_1 i
  | 2 => hbmTy0_2 i
  | _ => ⟨S16640x256, .f32⟩

abbrev bufTy : (tb : Table) → Fin (tcTables nBuf tb) → BufTy
  | .hbm, ⟨i, _⟩ => hbmTy i
  | _, _ => ⟨S16640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v36_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v36_1 : Ref sig .tc := ⟨.hbm, 66, rfl⟩
abbrev main_v36_0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_cst_16 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_cst_18 : Ref sig .tc := ⟨.hbm, 119, rfl⟩
abbrev main_v77 : Ref sig .tc := ⟨.hbm, 120, rfl⟩
abbrev main_v78 : Ref sig .tc := ⟨.hbm, 121, rfl⟩
abbrev main_cst_19 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_22 : Ref sig .tc := ⟨.hbm, 149, rfl⟩
abbrev main_v103 : Ref sig .tc := ⟨.hbm, 150, rfl⟩
abbrev main_v104 : Ref sig .tc := ⟨.hbm, 151, rfl⟩
abbrev main_cst_23 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_cst_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_26 : Ref sig .tc := ⟨.hbm, 171, rfl⟩
abbrev main_v121 : Ref sig .tc := ⟨.hbm, 172, rfl⟩
abbrev main_v122 : Ref sig .tc := ⟨.hbm, 173, rfl⟩
abbrev main_cst_27 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_28 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_29 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call1_v0 : Ref sig .tc := ⟨.hbm, 198, rfl⟩
abbrev main_call1_v1 : Ref sig .tc := ⟨.hbm, 199, rfl⟩
abbrev main_call1_v2 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_31 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_32 : Ref sig .tc := ⟨.hbm, 209, rfl⟩
abbrev main_v150 : Ref sig .tc := ⟨.hbm, 210, rfl⟩
abbrev main_v151 : Ref sig .tc := ⟨.hbm, 211, rfl⟩
abbrev main_cst_33 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_34 : Ref sig .tc := ⟨.hbm, 218, rfl⟩
abbrev main_v157 : Ref sig .tc := ⟨.hbm, 219, rfl⟩
abbrev main_v158 : Ref sig .tc := ⟨.hbm, 220, rfl⟩
abbrev main_cst_35 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_36 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_37 : Ref sig .tc := ⟨.hbm, 236, rfl⟩
abbrev main_v172 : Ref sig .tc := ⟨.hbm, 237, rfl⟩
abbrev main_v173 : Ref sig .tc := ⟨.hbm, 238, rfl⟩
abbrev main_cst_38 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_39 : Ref sig .tc := ⟨.hbm, 245, rfl⟩
abbrev main_v179 : Ref sig .tc := ⟨.hbm, 246, rfl⟩
abbrev main_v180 : Ref sig .tc := ⟨.hbm, 247, rfl⟩
abbrev main_cst_40 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩

abbrev nD : Nat := 1
abbrev τ : Topo := Topo.v7x

variable {F : FTy → Type} [FloatOps F]
-- ==== KernelS5Prep.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1, .f32⟩
  | .hbm, ⟨10, _⟩ => ⟨S32x16x64, .f32⟩
  | .hbm, ⟨11, _⟩ => ⟨S32x16x64, .f32⟩
  | .hbm, ⟨12, _⟩ => ⟨S32x16x64, .f32⟩
  | .hbm, ⟨13, _⟩ => ⟨S32x16x64, .f32⟩
  | .hbm, ⟨14, _⟩ => ⟨S32x64, .f32⟩
  | .hbm, ⟨15, _⟩ => ⟨S32x64, .f32⟩
  | .hbm, ⟨16, _⟩ => ⟨S32x1, .f32⟩
  | .hbm, ⟨17, _⟩ => ⟨S32x16x64, .f32⟩
  | .hbm, ⟨18, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceS5PrepIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 167
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64x1, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S_, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S_, .f32⟩
  | 67 => ⟨S32x64, .f32⟩
  | 68 => ⟨S32x64x1, .f32⟩
  | 69 => ⟨S32x64x16, .f32⟩
  | 70 => ⟨S32x64x16, .f32⟩
  | 71 => ⟨S32x64x16, .f32⟩
  | 72 => ⟨S_, .f32⟩
  | 73 => ⟨S32x64, .f32⟩
  | 74 => ⟨S32x64x1, .f32⟩
  | 75 => ⟨S32x64x16, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S_, .f32⟩
  | 82 => ⟨S32x64, .f32⟩
  | 83 => ⟨S32x64x1, .f32⟩
  | 84 => ⟨S32x64x1, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S32x64x1, .f32⟩
  | 93 => ⟨S_, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S_, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S_, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S_, .f32⟩
  | 18 => ⟨S32, .f32⟩
  | 19 => ⟨S32x1, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x1, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32, .f32⟩
  | 36 => ⟨S32x1, .f32⟩
  | 37 => ⟨S32x16x64, .f32⟩
  | 38 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩

abbrev nD : Nat := 1
abbrev τ : Topo := Topo.v7x

variable {F : FTy → Type} [FloatOps F]
-- ==== KernelMixOutFwd.lean ====
abbrev S16640x1024 : Shape := ⟨2, ![16640, 1024]⟩
abbrev S16640x256 : Shape := ⟨2, ![16640, 256]⟩
abbrev S16640x512 : Shape := ⟨2, ![16640, 512]⟩
abbrev S64 : Shape := ⟨1, ![64]⟩
abbrev S512x512 : Shape := ⟨2, ![512, 512]⟩
abbrev S512 : Shape := ⟨1, ![512]⟩
abbrev S1024x1024 : Shape := ⟨2, ![1024, 1024]⟩
abbrev S1x64 : Shape := ⟨2, ![1, 64]⟩
abbrev S1x512 : Shape := ⟨2, ![1, 512]⟩
abbrev S640x1024 : Shape := ⟨2, ![640, 1024]⟩
abbrev S640x256 : Shape := ⟨2, ![640, 256]⟩
abbrev S640x512 : Shape := ⟨2, ![640, 512]⟩
abbrev S256x256 : Shape := ⟨2, ![256, 256]⟩
abbrev S64x256 : Shape := ⟨2, ![64, 256]⟩
abbrev S1x256 : Shape := ⟨2, ![1, 256]⟩
abbrev S640 : Shape := ⟨1, ![640]⟩
abbrev S640x1 : Shape := ⟨2, ![640, 1]⟩

abbrev nBuf : Space → Nat
  | .hbm => 17
  | .vmem => 18
  | .smem => 0
  | _ => 0

abbrev bufTy : (tb : Table) → Fin (tcTables nBuf tb) → BufTy
  | .hbm, ⟨0, _⟩ => ⟨S16640x1024, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x512, .f32⟩
  | .hbm, ⟨5, _⟩ => ⟨S64, .f32⟩
  | .hbm, ⟨6, _⟩ => ⟨S64, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S1x64, .f32⟩
  | .hbm, ⟨12, _⟩ => ⟨S1x64, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x256, .f32⟩
  | .local _ .vmem, ⟨3, _⟩ => ⟨S640x256, .f32⟩
  | .local _ .vmem, ⟨4, _⟩ => ⟨S640x256, .f32⟩
  | .local _ .vmem, ⟨5, _⟩ => ⟨S640x256, .f32⟩
  | .local _ .vmem, ⟨6, _⟩ => ⟨S640x256, .f32⟩
  | .local _ .vmem, ⟨7, _⟩ => ⟨S640x256, .f32⟩
  | .local _ .vmem, ⟨8, _⟩ => ⟨S640x512, .f32⟩
  | .local _ .vmem, ⟨9, _⟩ => ⟨S640x512, .f32⟩
  | .local _ .vmem, ⟨10, _⟩ => ⟨S1x64, .f32⟩
  | .local _ .vmem, ⟨11, _⟩ => ⟨S1x64, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S640x1024, .f32⟩
  | .local _ .vmem, ⟨17, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMixOutFwdIdeal.lean ====
abbrev S16640x1024 : Shape := ⟨2, ![16640, 1024]⟩
abbrev S16640x256 : Shape := ⟨2, ![16640, 256]⟩
abbrev S16640x512 : Shape := ⟨2, ![16640, 512]⟩
abbrev S64 : Shape := ⟨1, ![64]⟩
abbrev S512x512 : Shape := ⟨2, ![512, 512]⟩
abbrev S512 : Shape := ⟨1, ![512]⟩
abbrev S1024x1024 : Shape := ⟨2, ![1024, 1024]⟩
abbrev S16640x4x64 : Shape := ⟨3, ![16640, 4, 64]⟩
abbrev S_ : Shape := ⟨0, ![]⟩
abbrev S16640x4 : Shape := ⟨2, ![16640, 4]⟩
abbrev S16640x4x1 : Shape := ⟨3, ![16640, 4, 1]⟩
abbrev S1x1x64 : Shape := ⟨3, ![1, 1, 64]⟩
abbrev S1x512 : Shape := ⟨2, ![1, 512]⟩
abbrev S16640 : Shape := ⟨1, ![16640]⟩
abbrev S16640x1 : Shape := ⟨2, ![16640, 1]⟩

abbrev nBuf : Space → Nat
  | .hbm => 107
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x512, .f32⟩
  | .hbm, ⟨5, _⟩ => ⟨S64, .f32⟩
  | .hbm, ⟨6, _⟩ => ⟨S64, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S16640x4x64, .f32⟩
  | .hbm, ⟨12, _⟩ => ⟨S16640x4x64, .f32⟩
  | .hbm, ⟨13, _⟩ => ⟨S_, .f32⟩
  | .hbm, ⟨14, _⟩ => ⟨S16640x4, .f32⟩
  | .hbm, ⟨15, _⟩ => ⟨S16640x4x1, .f32⟩
  | .hbm, ⟨16, _⟩ => ⟨S_, .f32⟩
  | .hbm, ⟨17, _⟩ => ⟨S16640x4x1, .f32⟩
  | .hbm, ⟨18, _⟩ => ⟨S16640x4x1, .f32⟩
  | .hbm, ⟨19, _⟩ => ⟨S_, .f32⟩
  | .hbm, ⟨20, _⟩ => ⟨S16640x4x1, .f32⟩
  | .hbm, ⟨21, _⟩ => ⟨S16640x4x1, .f32⟩
  | .hbm, ⟨22, _⟩ => ⟨S16640x4x1, .f32⟩
  | .hbm, ⟨23, _⟩ => ⟨S16640x4x64, .f32⟩
  | .hbm, ⟨24, _⟩ => ⟨S16640x4x64, .f32⟩
  | .hbm, ⟨25, _⟩ => ⟨S1x1x64, .f32⟩
  | .hbm, ⟨26, _⟩ => ⟨S16640x4x64, .f32⟩
  | .hbm, ⟨27, _⟩ => ⟨S16640x4x64, .f32⟩
  | .hbm, ⟨28, _⟩ => ⟨S16640x256, .f32⟩
  | .hbm, ⟨29, _⟩ => ⟨S16640x4x64, .f32⟩
  | .hbm, ⟨30, _⟩ => ⟨S16640x4x64, .f32⟩
  | .hbm, ⟨31, _⟩ => ⟨S_, .f32⟩
  | .hbm, ⟨32, _⟩ => ⟨S16640x4, .f32⟩
  | .hbm, ⟨33, _⟩ => ⟨S16640x4x1, .f32⟩
  | .hbm, ⟨34, _⟩ => ⟨S_, .f32⟩
  | .hbm, ⟨35, _⟩ => ⟨S16640x4x1, .f32⟩
  | .hbm, ⟨36, _⟩ => ⟨S16640x4x1, .f32⟩
  | .hbm, ⟨37, _⟩ => ⟨S_, .f32⟩
  | .hbm, ⟨38, _⟩ => ⟨S16640x4x1, .f32⟩
  | .hbm, ⟨39, _⟩ => ⟨S16640x4x1, .f32⟩
  | .hbm, ⟨40, _⟩ => ⟨S16640x4x1, .f32⟩
  | .hbm, ⟨41, _⟩ => ⟨S16640x4x64, .f32⟩
  | .hbm, ⟨42, _⟩ => ⟨S16640x4x64, .f32⟩
  | .hbm, ⟨43, _⟩ => ⟨S1x1x64, .f32⟩
  | .hbm, ⟨44, _⟩ => ⟨S16640x4x64, .f32⟩
  | .hbm, ⟨45, _⟩ => ⟨S16640x4x64, .f32⟩
  | .hbm, ⟨46, _⟩ => ⟨S16640x4x64, .f32⟩
  | .hbm, ⟨47, _⟩ => ⟨S16640x4x64, .f32⟩
  | .hbm, ⟨48, _⟩ => ⟨S16640x4x64, .f32⟩
  | .hbm, ⟨49, _⟩ => ⟨S_, .f32⟩
  | .hbm, ⟨50, _⟩ => ⟨S16640x4x64, .f32⟩
  | .hbm, ⟨51, _⟩ => ⟨S16640x4x64, .f32⟩
  | .hbm, ⟨52, _⟩ => ⟨S_, .f32⟩
  | .hbm, ⟨53, _⟩ => ⟨S16640x4x64, .f32⟩
  | .hbm, ⟨54, _⟩ => ⟨S16640x4x64, .f32⟩
  | .hbm, ⟨55, _⟩ => ⟨S16640x4x64, .f32⟩
  | .hbm, ⟨56, _⟩ => ⟨S16640x4x64, .f32⟩
  | .hbm, ⟨57, _⟩ => ⟨S16640x256, .f32⟩
  | .hbm, ⟨58, _⟩ => ⟨S16640x512, .f32⟩
  | .hbm, ⟨59, _⟩ => ⟨S16640x512, .f32⟩
  | .hbm, ⟨60, _⟩ => ⟨S_, .f32⟩
  | .hbm, ⟨61, _⟩ => ⟨S16640x512, .f32⟩
  | .hbm, ⟨62, _⟩ => ⟨S16640x512, .f32⟩
  | .hbm, ⟨63, _⟩ => ⟨S16640x512, .f32⟩
  | .hbm, ⟨64, _⟩ => ⟨S_, .f32⟩
  | .hbm, ⟨65, _⟩ => ⟨S16640x512, .f32⟩
  | .hbm, ⟨66, _⟩ => ⟨S16640x512, .f32⟩
  | .hbm, ⟨67, _⟩ => ⟨S16640x512, .f32⟩
  | .hbm, ⟨68, _⟩ => ⟨S_, .f32⟩
  | .hbm, ⟨69, _⟩ => ⟨S16640x512, .f32⟩
  | .hbm, ⟨70, _⟩ => ⟨S16640x512, .f32⟩
  | .hbm, ⟨71, _⟩ => ⟨S_, .f32⟩
  | .hbm, ⟨72, _⟩ => ⟨S16640x512, .f32⟩
  | .hbm, ⟨73, _⟩ => ⟨S16640x512, .f32⟩
  | .hbm, ⟨74, _⟩ => ⟨S16640x512, .f32⟩
  | .hbm, ⟨75, _⟩ => ⟨S16640x512, .f32⟩
  | .hbm, ⟨76, _⟩ => ⟨S1x512, .f32⟩
  | .hbm, ⟨77, _⟩ => ⟨S16640x512, .f32⟩
  | .hbm, ⟨78, _⟩ => ⟨S16640x512, .f32⟩
  | .hbm, ⟨79, _⟩ => ⟨S16640x512, .f32⟩
  | .hbm, ⟨80, _⟩ => ⟨S16640x512, .f32⟩
  | .hbm, ⟨81, _⟩ => ⟨S_, .f32⟩
  | .hbm, ⟨82, _⟩ => ⟨S16640x512, .f32⟩
  | .hbm, ⟨83, _⟩ => ⟨S16640x512, .f32⟩
  | .hbm, ⟨84, _⟩ => ⟨S_, .f32⟩
  | .hbm, ⟨85, _⟩ => ⟨S16640x512, .f32⟩
  | .hbm, ⟨86, _⟩ => ⟨S16640x512, .f32⟩
  | .hbm, ⟨87, _⟩ => ⟨S16640x512, .f32⟩
  | .hbm, ⟨88, _⟩ => ⟨S16640x512, .f32⟩
  | .hbm, ⟨89, _⟩ => ⟨S_, .f32⟩
  | .hbm, ⟨90, _⟩ => ⟨S16640, .f32⟩
  | .hbm, ⟨91, _⟩ => ⟨S16640x1, .f32⟩
  | .hbm, ⟨92, _⟩ => ⟨S_, .f32⟩
  | .hbm, ⟨93, _⟩ => ⟨S16640x1, .f32⟩
  | .hbm, ⟨94, _⟩ => ⟨S16640x1, .f32⟩
  | .hbm, ⟨95, _⟩ => ⟨S_, .f32⟩
  | .hbm, ⟨96, _⟩ => ⟨S16640x1, .f32⟩
  | .hbm, ⟨97, _⟩ => ⟨S16640x1, .f32⟩
  | .hbm, ⟨98, _⟩ => ⟨S16640x1, .f32⟩
  | .hbm, ⟨99, _⟩ => ⟨S16640x512, .f32⟩
  | .hbm, ⟨100, _⟩ => ⟨S16640x512, .f32⟩
  | .hbm, ⟨101, _⟩ => ⟨S1x512, .f32⟩
  | .hbm, ⟨102, _⟩ => ⟨S16640x512, .f32⟩
  | .hbm, ⟨103, _⟩ => ⟨S16640x512, .f32⟩
  | .hbm, ⟨104, _⟩ => ⟨S16640x1024, .f32⟩
  | .hbm, ⟨105, _⟩ => ⟨S16640x1024, .f32⟩
  | .hbm, ⟨106, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== KernelDnDecay.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S1x4 : Shape := ⟨2, ![1, 4]⟩
abbrev S2x4 : Shape := ⟨2, ![2, 4]⟩
abbrev S_ : Shape := ⟨0, ![]⟩
abbrev S8x128 : Shape := ⟨2, ![8, 128]⟩
abbrev S16640x8 : Shape := ⟨2, ![16640, 8]⟩
abbrev S16640x128 : Shape := ⟨2, ![16640, 128]⟩
abbrev S8x768 : Shape := ⟨2, ![8, 768]⟩
abbrev S4x16640x768 : Shape := ⟨3, ![4, 16640, 768]⟩
abbrev S320x768 : Shape := ⟨2, ![320, 768]⟩
abbrev S320x128 : Shape := ⟨2, ![320, 128]⟩
abbrev S320x256 : Shape := ⟨2, ![320, 256]⟩
abbrev S4x320x768 : Shape := ⟨3, ![4, 320, 768]⟩
abbrev S320x1 : Shape := ⟨2, ![320, 1]⟩
abbrev S1x768 : Shape := ⟨2, ![1, 768]⟩
abbrev S256x256 : Shape := ⟨2, ![256, 256]⟩
abbrev S1x128 : Shape := ⟨2, ![1, 128]⟩
abbrev S128 : Shape := ⟨1, ![128]⟩
abbrev S2x128 : Shape := ⟨2, ![2, 128]⟩
abbrev S6x128 : Shape := ⟨2, ![6, 128]⟩
abbrev S7x128 : Shape := ⟨2, ![7, 128]⟩
abbrev S320x512 : Shape := ⟨2, ![320, 512]⟩
abbrev S768 : Shape := ⟨1, ![768]⟩
abbrev S7x768 : Shape := ⟨2, ![7, 768]⟩
abbrev S2x768 : Shape := ⟨2, ![2, 768]⟩
abbrev S6x768 : Shape := ⟨2, ![6, 768]⟩
abbrev S3x768 : Shape := ⟨2, ![3, 768]⟩
abbrev S5x768 : Shape := ⟨2, ![5, 768]⟩
abbrev S1x320x768 : Shape := ⟨3, ![1, 320, 768]⟩

abbrev nBuf : Space → Nat
  | .hbm => 32
  | .vmem => 22
  | .smem => 0
  | _ => 0

abbrev bufTy : (tb : Table) → Fin (tcTables nBuf tb) → BufTy
  | .hbm, ⟨0, _⟩ => ⟨S16640x768, .f32⟩
  | .hbm, ⟨1, _⟩ => ⟨S16640x4, .f32⟩
  | .hbm, ⟨2, _⟩ => ⟨S16640x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S16640x256, .f32⟩
  | .hbm, ⟨7, _⟩ => ⟨S16640x256, .f32⟩
  | .hbm, ⟨8, _⟩ => ⟨S16640x256, .f32⟩
  | .hbm, ⟨9, _⟩ => ⟨S16640x4, .f32⟩
  | .hbm, ⟨10, _⟩ => ⟨S16640x4, .f32⟩
  | .hbm, ⟨11, _⟩ => ⟨S1x4, .f32⟩
  | .hbm, ⟨12, _⟩ => ⟨S1x4, .f32⟩
  | .hbm, ⟨13, _⟩ => ⟨S2x4, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S16640x8, .f32⟩
  | .hbm, ⟨18, _⟩ => ⟨S_, .i32⟩
  | .hbm, ⟨19, _⟩ => ⟨S_, .f32⟩
  | .hbm, ⟨20, _⟩ => ⟨S16640x128, .f32⟩
  | .hbm, ⟨21, _⟩ => ⟨S_, .i32⟩
  | .hbm, ⟨22, _⟩ => ⟨S_, .f32⟩
  | .hbm, ⟨23, _⟩ => ⟨S8x768, .f32⟩
  | .hbm, ⟨24, _⟩ => ⟨S16640x8, .f32⟩
  | .hbm, ⟨25, _⟩ => ⟨S_, .i32⟩
  | .hbm, ⟨26, _⟩ => ⟨S_, .f32⟩
  | .hbm, ⟨27, _⟩ => ⟨S16640x128, .f32⟩
  | .hbm, ⟨28, _⟩ => ⟨S4x16640x768, .f32⟩
  | .hbm, ⟨29, _⟩ => ⟨S16640x128, .f32⟩
  | .hbm, ⟨30, _⟩ => ⟨S8x768, .f32⟩
  | .hbm, ⟨31, _⟩ => ⟨S8x128, .f32⟩
  | .local _ .vmem, ⟨0, _⟩ => ⟨S320x768, .f32⟩
  | .local _ .vmem, ⟨1, _⟩ => ⟨S320x768, .f32⟩
  | .local _ .vmem, ⟨2, _⟩ => ⟨S320x768, .f32⟩
  | .local _ .vmem, ⟨3, _⟩ => ⟨S320x768, .f32⟩
  | .local _ .vmem, ⟨4, _⟩ => ⟨S320x128, .f32⟩
  | .local _ .vmem, ⟨5, _⟩ => ⟨S320x128, .f32⟩
  | .local _ .vmem, ⟨6, _⟩ => ⟨S8x768, .f32⟩
  | .local _ .vmem, ⟨7, _⟩ => ⟨S8x128, .f32⟩
  | .local _ .vmem, ⟨8, _⟩ => ⟨S320x256, .f32⟩
  | .local _ .vmem, ⟨9, _⟩ => ⟨S320x256, .f32⟩
  | .local _ .vmem, ⟨10, _⟩ => ⟨S320x256, .f32⟩
  | .local _ .vmem, ⟨11, _⟩ => ⟨S320x256, .f32⟩
  | .local _ .vmem, ⟨12, _⟩ => ⟨S320x256, .f32⟩
  | .local _ .vmem, ⟨13, _⟩ => ⟨S320x256, .f32⟩
  | .local _ .vmem, ⟨14, _⟩ => ⟨S320x128, .f32⟩
  | .local _ .vmem, ⟨15, _⟩ => ⟨S320x128, .f32⟩
  | .local _ .vmem, ⟨16, _⟩ => ⟨S4x320x768, .f32⟩
  | .local _ .vmem, ⟨17, _⟩ => ⟨S4x320x768, .f32⟩
  | .local _ .vmem, ⟨18, _⟩ => ⟨S320x128, .f32⟩
  | .local _ .vmem, ⟨19, _⟩ => ⟨S320x128, .f32⟩
  | .local _ .vmem, ⟨20, _⟩ => ⟨S8x768, .f32⟩
  | .local _ .vmem, ⟨21, _⟩ => ⟨S8x128, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x320x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceDnDecayIdeal.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S1x4 : Shape := ⟨2, ![1, 4]⟩
abbrev S_ : Shape := ⟨0, ![]⟩
abbrev S2x4 : Shape := ⟨2, ![2, 4]⟩
abbrev S8x128 : Shape := ⟨2, ![8, 128]⟩

abbrev nBuf : Space → Nat
  | .hbm => 87
  | .vmem => 0
  | .smem => 0
  | _ => 0

abbrev bufTy : (tb : Table) → Fin (tcTables nBuf tb) → BufTy
  | .hbm, ⟨0, _⟩ => ⟨S16640x768, .f32⟩
  | .hbm, ⟨1, _⟩ => ⟨S16640x4, .f32⟩
  | .hbm, ⟨2, _⟩ => ⟨S16640x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S16640x256, .f32⟩
  | .hbm, ⟨7, _⟩ => ⟨S16640x256, .f32⟩
  | .hbm, ⟨8, _⟩ => ⟨S16640x256, .f32⟩
  | .hbm, ⟨9, _⟩ => ⟨S16640x4, .f32⟩
  | .hbm, ⟨10, _⟩ => ⟨S16640x4, .f32⟩
  | .hbm, ⟨11, _⟩ => ⟨S4, .f32⟩
  | .hbm, ⟨12, _⟩ => ⟨S4, .f32⟩
  | .hbm, ⟨13, _⟩ => ⟨S1x4, .f32⟩
  | .hbm, ⟨14, _⟩ => ⟨S16640x4, .f32⟩
  | .hbm, ⟨15, _⟩ => ⟨S16640x4, .f32⟩
  | .hbm, ⟨16, _⟩ => ⟨S_, .f32⟩
  | .hbm, ⟨17, _⟩ => ⟨S16640x4, .f32⟩
  | .hbm, ⟨18, _⟩ => ⟨S16640x4, .f32⟩
  | .hbm, ⟨19, _⟩ => ⟨S16640x4, .f32⟩
  | .hbm, ⟨20, _⟩ => ⟨S16640x4, .f32⟩
  | .hbm, ⟨21, _⟩ => ⟨S16640x4, .i1⟩
  | .hbm, ⟨22, _⟩ => ⟨S16640x4, .f32⟩
  | .hbm, ⟨23, _⟩ => ⟨S16640x4, .f32⟩
  | .hbm, ⟨24, _⟩ => ⟨S16640x4, .f32⟩
  | .hbm, ⟨25, _⟩ => ⟨S16640x4, .f32⟩
  | .hbm, ⟨26, _⟩ => ⟨S16640x4, .f32⟩
  | .hbm, ⟨27, _⟩ => ⟨S16640x4, .f32⟩
  | .hbm, ⟨28, _⟩ => ⟨S16640x4, .f32⟩
  | .hbm, ⟨29, _⟩ => ⟨S16640x4, .f32⟩
  | .hbm, ⟨30, _⟩ => ⟨S_, .f32⟩
  | .hbm, ⟨31, _⟩ => ⟨S16640x4, .f32⟩
  | .hbm, ⟨32, _⟩ => ⟨S16640x4, .i1⟩
  | .hbm, ⟨33, _⟩ => ⟨S_, .f32⟩
  | .hbm, ⟨34, _⟩ => ⟨S16640x4, .f32⟩
  | .hbm, ⟨35, _⟩ => ⟨S16640x4, .f32⟩
  | .hbm, ⟨36, _⟩ => ⟨S_, .f32⟩
  | .hbm, ⟨37, _⟩ => ⟨S16640x4, .f32⟩
  | .hbm, ⟨38, _⟩ => ⟨S16640x4, .i1⟩
  | .hbm, ⟨39, _⟩ => ⟨S_, .f32⟩
  | .hbm, ⟨40, _⟩ => ⟨S16640x4, .f32⟩
  | .hbm, ⟨41, _⟩ => ⟨S16640x4, .f32⟩
  | .hbm, ⟨42, _⟩ => ⟨S16640x4, .f32⟩
  | .hbm, ⟨43, _⟩ => ⟨S16640x4, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16640x4, .f32⟩
  | .hbm, ⟨52, _⟩ => ⟨S16640x4, .i1⟩
  | .hbm, ⟨53, _⟩ => ⟨S_, .f32⟩
  | .hbm, ⟨54, _⟩ => ⟨S16640x4, .f32⟩
  | .hbm, ⟨55, _⟩ => ⟨S16640x4, .f32⟩
  | .hbm, ⟨56, _⟩ => ⟨S16640x4, .f32⟩
  | .hbm, ⟨57, _⟩ => ⟨S16640x4, .f32⟩
  | .hbm, ⟨58, _⟩ => ⟨S16640x4, .f32⟩
  | .hbm, ⟨59, _⟩ => ⟨S_, .f32⟩
  | .hbm, ⟨60, _⟩ => ⟨S16640x4, .f32⟩
  | .hbm, ⟨61, _⟩ => ⟨S16640x4, .f32⟩
  | .hbm, ⟨62, _⟩ => ⟨S1x4, .f32⟩
  | .hbm, ⟨63, _⟩ => ⟨S16640x4, .f32⟩
  | .hbm, ⟨64, _⟩ => ⟨S16640x4, .f32⟩
  | .hbm, ⟨65, _⟩ => ⟨S16640x4, .f32⟩
  | .hbm, ⟨66, _⟩ => ⟨S16640x4, .f32⟩
  | .hbm, ⟨67, _⟩ => ⟨S16640x4, .f32⟩
  | .hbm, ⟨68, _⟩ => ⟨S_, .f32⟩
  | .hbm, ⟨69, _⟩ => ⟨S4, .f32⟩
  | .hbm, ⟨70, _⟩ => ⟨S1x4, .f32⟩
  | .hbm, ⟨71, _⟩ => ⟨S_, .f32⟩
  | .hbm, ⟨72, _⟩ => ⟨S4, .f32⟩
  | .hbm, ⟨73, _⟩ => ⟨S16640x4, .f32⟩
  | .hbm, ⟨74, _⟩ => ⟨S_, .f32⟩
  | .hbm, ⟨75, _⟩ => ⟨S4, .f32⟩
  | .hbm, ⟨76, _⟩ => ⟨S1x4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S1x4, .f32⟩
  | .hbm, ⟨82, _⟩ => ⟨S1x4, .f32⟩
  | .hbm, ⟨83, _⟩ => ⟨S2x4, .f32⟩
  | .hbm, ⟨84, _⟩ => ⟨S_, .i32⟩
  | .hbm, ⟨85, _⟩ => ⟨S_, .f32⟩
  | .hbm, ⟨86, _⟩ => ⟨S8x128, .f32⟩
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v5_0 : Ref sig .tc := ⟨.hbm, 29, rfl⟩
abbrev main_call0_cst_0 : Ref sig .tc := ⟨.hbm, 30, rfl⟩
abbrev main_call0_v13 : Ref sig .tc := ⟨.hbm, 31, rfl⟩
abbrev main_call0_v14 : Ref sig .tc := ⟨.hbm, 32, rfl⟩
abbrev main_call0_cst_1 : Ref sig .tc := ⟨.hbm, 33, rfl⟩
abbrev main_call0_v15 : Ref sig .tc := ⟨.hbm, 34, rfl⟩
abbrev main_call0_v16 : Ref sig .tc := ⟨.hbm, 35, rfl⟩
abbrev main_call0_cst_2 : Ref sig .tc := ⟨.hbm, 36, rfl⟩
abbrev main_call0_v17 : Ref sig .tc := ⟨.hbm, 37, rfl⟩
abbrev main_call0_v18 : Ref sig .tc := ⟨.hbm, 38, rfl⟩
abbrev main_call0_cst_3 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_v5_1 : Ref sig .tc := ⟨.hbm, 43, rfl⟩
abbrev main_call0_cst_4 : Ref sig .tc := ⟨.hbm, 44, rfl⟩
abbrev main_call0_cst_5 : Ref sig .tc := ⟨.hbm, 45, rfl⟩
abbrev main_call0_v23 : Ref sig .tc := ⟨.hbm, 46, rfl⟩
abbrev main_call0_cst_6 : Ref sig .tc := ⟨.hbm, 47, rfl⟩
abbrev main_call0_cst_7 : Ref sig .tc := ⟨.hbm, 48, rfl⟩
abbrev main_call0_v24 : Ref sig .tc := ⟨.hbm, 49, rfl⟩
abbrev main_call0_cst_8 : Ref sig .tc := ⟨.hbm, 50, rfl⟩
abbrev main_call0_v25 : Ref sig .tc := ⟨.hbm, 51, rfl⟩
abbrev main_call0_v26 : Ref sig .tc := ⟨.hbm, 52, rfl⟩
abbrev main_call0_cst_9 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_cst_10 : Ref sig .tc := ⟨.hbm, 59, rfl⟩
abbrev main_call0_v32 : Ref sig .tc := ⟨.hbm, 60, rfl⟩
abbrev main_v5_2 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_cst_0 : Ref sig .tc := ⟨.hbm, 71, rfl⟩
abbrev main_v14 : Ref sig .tc := ⟨.hbm, 72, rfl⟩
abbrev main_v15 : Ref sig .tc := ⟨.hbm, 73, rfl⟩
abbrev main_cst_1 : Ref sig .tc := ⟨.hbm, 74, rfl⟩
abbrev main_v16 : Ref sig .tc := ⟨.hbm, 75, rfl⟩
abbrev main_v17 : Ref sig .tc := ⟨.hbm, 76, rfl⟩
abbrev main_cst_2 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_c : Ref sig .tc := ⟨.hbm, 84, rfl⟩
abbrev main_call2_v0 : Ref sig .tc := ⟨.hbm, 85, rfl⟩
abbrev main_v24 : Ref sig .tc := ⟨.hbm, 86, rfl⟩

abbrev nD : Nat := 1
abbrev τ : Topo := Topo.v7x

variable {F : FTy → Type} [FloatOps F]
-- ==== KernelDnConv.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S1x4 : Shape := ⟨2, ![1, 4]⟩
abbrev S2x4 : Shape := ⟨2, ![2, 4]⟩
abbrev S_ : Shape := ⟨0, ![]⟩
abbrev S8x128 : Shape := ⟨2, ![8, 128]⟩
abbrev S16640x8 : Shape := ⟨2, ![16640, 8]⟩
abbrev S16640x128 : Shape := ⟨2, ![16640, 128]⟩
abbrev S8x768 : Shape := ⟨2, ![8, 768]⟩
abbrev S4x16640x768 : Shape := ⟨3, ![4, 16640, 768]⟩
abbrev S320x768 : Shape := ⟨2, ![320, 768]⟩
abbrev S320x128 : Shape := ⟨2, ![320, 128]⟩
abbrev S320x256 : Shape := ⟨2, ![320, 256]⟩
abbrev S4x320x768 : Shape := ⟨3, ![4, 320, 768]⟩
abbrev S320x1 : Shape := ⟨2, ![320, 1]⟩
abbrev S1x768 : Shape := ⟨2, ![1, 768]⟩
abbrev S256x256 : Shape := ⟨2, ![256, 256]⟩
abbrev S1x128 : Shape := ⟨2, ![1, 128]⟩
abbrev S128 : Shape := ⟨1, ![128]⟩
abbrev S2x128 : Shape := ⟨2, ![2, 128]⟩
abbrev S6x128 : Shape := ⟨2, ![6, 128]⟩
abbrev S7x128 : Shape := ⟨2, ![7, 128]⟩
abbrev S320x512 : Shape := ⟨2, ![320, 512]⟩
abbrev S768 : Shape := ⟨1, ![768]⟩
abbrev S7x768 : Shape := ⟨2, ![7, 768]⟩
abbrev S2x768 : Shape := ⟨2, ![2, 768]⟩
abbrev S6x768 : Shape := ⟨2, ![6, 768]⟩
abbrev S3x768 : Shape := ⟨2, ![3, 768]⟩
abbrev S5x768 : Shape := ⟨2, ![5, 768]⟩
abbrev S1x320x768 : Shape := ⟨3, ![1, 320, 768]⟩

abbrev nBuf : Space → Nat
  | .hbm => 32
  | .vmem => 22
  | .smem => 0
  | _ => 0

abbrev bufTy : (tb : Table) → Fin (tcTables nBuf tb) → BufTy
  | .hbm, ⟨0, _⟩ => ⟨S16640x768, .f32⟩
  | .hbm, ⟨1, _⟩ => ⟨S16640x4, .f32⟩
  | .hbm, ⟨2, _⟩ => ⟨S16640x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S16640x256, .f32⟩
  | .hbm, ⟨7, _⟩ => ⟨S16640x256, .f32⟩
  | .hbm, ⟨8, _⟩ => ⟨S16640x256, .f32⟩
  | .hbm, ⟨9, _⟩ => ⟨S16640x4, .f32⟩
  | .hbm, ⟨10, _⟩ => ⟨S16640x4, .f32⟩
  | .hbm, ⟨11, _⟩ => ⟨S1x4, .f32⟩
  | .hbm, ⟨12, _⟩ => ⟨S1x4, .f32⟩
  | .hbm, ⟨13, _⟩ => ⟨S2x4, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S16640x8, .f32⟩
  | .hbm, ⟨18, _⟩ => ⟨S_, .i32⟩
  | .hbm, ⟨19, _⟩ => ⟨S_, .f32⟩
  | .hbm, ⟨20, _⟩ => ⟨S16640x128, .f32⟩
  | .hbm, ⟨21, _⟩ => ⟨S_, .i32⟩
  | .hbm, ⟨22, _⟩ => ⟨S_, .f32⟩
  | .hbm, ⟨23, _⟩ => ⟨S8x768, .f32⟩
  | .hbm, ⟨24, _⟩ => ⟨S16640x8, .f32⟩
  | .hbm, ⟨25, _⟩ => ⟨S_, .i32⟩
  | .hbm, ⟨26, _⟩ => ⟨S_, .f32⟩
  | .hbm, ⟨27, _⟩ => ⟨S16640x128, .f32⟩
  | .hbm, ⟨28, _⟩ => ⟨S4x16640x768, .f32⟩
  | .hbm, ⟨29, _⟩ => ⟨S16640x128, .f32⟩
  | .hbm, ⟨30, _⟩ => ⟨S8x768, .f32⟩
  | .hbm, ⟨31, _⟩ => ⟨S8x128, .f32⟩
  | .local _ .vmem, ⟨0, _⟩ => ⟨S320x768, .f32⟩
  | .local _ .vmem, ⟨1, _⟩ => ⟨S320x768, .f32⟩
  | .local _ .vmem, ⟨2, _⟩ => ⟨S320x768, .f32⟩
  | .local _ .vmem, ⟨3, _⟩ => ⟨S320x768, .f32⟩
  | .local _ .vmem, ⟨4, _⟩ => ⟨S320x128, .f32⟩
  | .local _ .vmem, ⟨5, _⟩ => ⟨S320x128, .f32⟩
  | .local _ .vmem, ⟨6, _⟩ => ⟨S8x768, .f32⟩
  | .local _ .vmem, ⟨7, _⟩ => ⟨S8x128, .f32⟩
  | .local _ .vmem, ⟨8, _⟩ => ⟨S320x256, .f32⟩
  | .local _ .vmem, ⟨9, _⟩ => ⟨S320x256, .f32⟩
  | .local _ .vmem, ⟨10, _⟩ => ⟨S320x256, .f32⟩
  | .local _ .vmem, ⟨11, _⟩ => ⟨S320x256, .f32⟩
  | .local _ .vmem, ⟨12, _⟩ => ⟨S320x256, .f32⟩
  | .local _ .vmem, ⟨13, _⟩ => ⟨S320x256, .f32⟩
  | .local _ .vmem, ⟨14, _⟩ => ⟨S320x128, .f32⟩
  | .local _ .vmem, ⟨15, _⟩ => ⟨S320x128, .f32⟩
  | .local _ .vmem, ⟨16, _⟩ => ⟨S4x320x768, .f32⟩
  | .local _ .vmem, ⟨17, _⟩ => ⟨S4x320x768, .f32⟩
  | .local _ .vmem, ⟨18, _⟩ => ⟨S320x128, .f32⟩
  | .local _ .vmem, ⟨19, _⟩ => ⟨S320x128, .f32⟩
  | .local _ .vmem, ⟨20, _⟩ => ⟨S8x768, .f32⟩
  | .local _ .vmem, ⟨21, _⟩ => ⟨S8x128, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x320x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceDnConvIdeal.lean ====
abbrev S16640x768 : Shape := ⟨2, ![16640, 768]⟩
abbrev S16640x4 : Shape := ⟨2, ![16640, 4]⟩
abbrev S4x768 : Shape := ⟨2, ![4, 768]⟩
abbrev S4 : Shape := ⟨1, ![4]⟩
abbrev S16640x256 : Shape := ⟨2, ![16640, 256]⟩
abbrev S_ : Shape := ⟨0, ![]⟩
abbrev S16643x768 : Shape := ⟨2, ![16643, 768]⟩
abbrev S1x768 : Shape := ⟨2, ![1, 768]⟩
abbrev S768 : Shape := ⟨1, ![768]⟩
abbrev S16640x4x64 : Shape := ⟨3, ![16640, 4, 64]⟩
abbrev S16640x4x1 : Shape := ⟨3, ![16640, 4, 1]⟩
abbrev S8x768 : Shape := ⟨2, ![8, 768]⟩

abbrev nBuf : Space → Nat
  | .hbm => 172
  | .vmem => 0
  | .smem => 0
  | _ => 0

abbrev hbmTy0_0 (i : Nat) : BufTy := match i % 128 with
  | 0 => ⟨S16640x768, .f32⟩
  | 1 => ⟨S16640x4, .f32⟩
  | 2 => ⟨S16640x4, .f32⟩
  | 3 => ⟨S4x768, .f32⟩
  | 4 => ⟨S4, .f32⟩
  | 5 => ⟨S4, .f32⟩
  | 6 => ⟨S16640x256, .f32⟩
  | 7 => ⟨S16640x256, .f32⟩
  | 8 => ⟨S16640x256, .f32⟩
  | 9 => ⟨S16640x4, .f32⟩
  | 10 => ⟨S16640x4, .f32⟩
  | 11 => ⟨S_, .i32⟩
  | 12 => ⟨S_, .f32⟩
  | 13 => ⟨S16643x768, .f32⟩
  | 14 => ⟨S1x768, .f32⟩
  | 15 => ⟨S768, .f32⟩
  | 16 => ⟨S16640x768, .f32⟩
  | 17 => ⟨S1x768, .f32⟩
  | 18 => ⟨S16640x768, .f32⟩
  | 19 => ⟨S16640x768, .f32⟩
  | 20 => ⟨S_, .f32⟩
  | 21 => ⟨S16640x768, .f32⟩
  | 22 => ⟨S16640x768, .f32⟩
  | 23 => ⟨S1x768, .f32⟩
  | 24 => ⟨S768, .f32⟩
  | 25 => ⟨S16640x768, .f32⟩
  | 26 => ⟨S1x768, .f32⟩
  | 27 => ⟨S16640x768, .f32⟩
  | 28 => ⟨S16640x768, .f32⟩
  | 29 => ⟨S16640x768, .f32⟩
  | 30 => ⟨S1x768, .f32⟩
  | 31 => ⟨S768, .f32⟩
  | 32 => ⟨S16640x768, .f32⟩
  | 33 => ⟨S1x768, .f32⟩
  | 34 => ⟨S16640x768, .f32⟩
  | 35 => ⟨S16640x768, .f32⟩
  | 36 => ⟨S16640x768, .f32⟩
  | 37 => ⟨S1x768, .f32⟩
  | 38 => ⟨S768, .f32⟩
  | 39 => ⟨S16640x768, .f32⟩
  | 40 => ⟨S1x768, .f32⟩
  | 41 => ⟨S16640x768, .f32⟩
  | 42 => ⟨S16640x768, .f32⟩
  | 43 => ⟨S16640x768, .f32⟩
  | 44 => ⟨S16640x768, .f32⟩
  | 45 => ⟨S16640x768, .f32⟩
  | 46 => ⟨S_, .f32⟩
  | 47 => ⟨S16640x768, .f32⟩
  | 48 => ⟨S16640x768, .f32⟩
  | 49 => ⟨S_, .f32⟩
  | 50 => ⟨S16640x768, .f32⟩
  | 51 => ⟨S16640x768, .f32⟩
  | 52 => ⟨S_, .f32⟩
  | 53 => ⟨S16640x768, .f32⟩
  | 54 => ⟨S16640x768, .f32⟩
  | 55 => ⟨S16640x768, .f32⟩
  | 56 => ⟨S16640x768, .f32⟩
  | 57 => ⟨S16640x256, .f32⟩
  | 58 => ⟨S16640x256, .f32⟩
  | 59 => ⟨S16640x256, .f32⟩
  | 60 => ⟨S16640x4x64, .f32⟩
  | 61 => ⟨S16640x4x64, .f32⟩
  | 62 => ⟨S16640x4x64, .f32⟩
  | 63 => ⟨S16640x4x64, .f32⟩
  | 64 => ⟨S_, .f32⟩
  | 65 => ⟨S16640x4, .f32⟩
  | 66 => ⟨S16640x4x1, .f32⟩
  | 67 => ⟨S_, .f32⟩
  | 68 => ⟨S16640x4x1, .f32⟩
  | 69 => ⟨S16640x4x1, .f32⟩
  | 70 => ⟨S16640x4x1, .f32⟩
  | 71 => ⟨S16640x4x1, .f32⟩
  | 72 => ⟨S_, .f32⟩
  | 73 => ⟨S16640x4x1, .f32⟩
  | 74 => ⟨S16640x4x1, .f32⟩
  | 75 => ⟨S16640x4x64, .f32⟩
  | 76 => ⟨S16640x4x64, .f32⟩
  | 77 => ⟨S16640x4x64, .f32⟩
  | 78 => ⟨S_, .f32⟩
  | 79 => ⟨S16640x4, .f32⟩
  | 80 => ⟨S16640x4x1, .f32⟩
  | 81 => ⟨S_, .f32⟩
  | 82 => ⟨S16640x4x1, .f32⟩
  | 83 => ⟨S16640x4x1, .f32⟩
  | 84 => ⟨S16640x4x1, .f32⟩
  | 85 => ⟨S16640x4x1, .f32⟩
  | 86 => ⟨S_, .f32⟩
  | 87 => ⟨S16640x4x1, .f32⟩
  | 88 => ⟨S16640x4x1, .f32⟩
  | 89 => ⟨S16640x4x64, .f32⟩
  | 90 => ⟨S16640x4x64, .f32⟩
  | 91 => ⟨S16640x4x64, .f32⟩
  | 92 => ⟨S16640x4x64, .f32⟩
  | 93 => ⟨S16640x4x64, .f32⟩
  | 94 => ⟨S16640x4x64, .f32⟩
  | 95 => ⟨S_, .f32⟩
  | 96 => ⟨S16640x4, .f32⟩
  | 97 => ⟨S16640x4x1, .f32⟩
  | 98 => ⟨S16640x4x64, .f32⟩
  | 99 => ⟨S16640x4x64, .f32⟩
  | 100 => ⟨S16640x4x1, .f32⟩
  | 101 => ⟨S_, .f32⟩
  | 102 => ⟨S16640x4, .f32⟩
  | 103 => ⟨S16640x4x64, .f32⟩
  | 104 => ⟨S16640x4x64, .f32⟩
  | 105 => ⟨S16640x4x64, .f32⟩
  | 106 => ⟨S16640x4x64, .f32⟩
  | 107 => ⟨S16640x4x64, .f32⟩
  | 108 => ⟨S16640x4x64, .f32⟩
  | 109 => ⟨S_, .f32⟩
  | 110 => ⟨S16640x4, .f32⟩
  | 111 => ⟨S16640x4x1, .f32⟩
  | 112 => ⟨S16640x4x64, .f32⟩
  | 113 => ⟨S16640x4x64, .f32⟩
  | 114 => ⟨S16640x4x1, .f32⟩
  | 115 => ⟨S_, .f32⟩
  | 116 => ⟨S16640x4, .f32⟩
  | 117 => ⟨S16640x4x64, .f32⟩
  | 118 => ⟨S16640x4x64, .f32⟩
  | 119 => ⟨S16640x4x64, .f32⟩
  | 120 => ⟨S16640x4x64, .f32⟩
  | 121 => ⟨S16640x4x64, .f32⟩
  | 122 => ⟨S16640x256, .f32⟩
  | 123 => ⟨S16640x256, .f32⟩
  | 124 => ⟨S16640x256, .f32⟩
  | 125 => ⟨S16640x768, .f32⟩
  | 126 => ⟨S16640x768, .f32⟩
  | 127 => ⟨S16640x768, .f32⟩
  | _ => ⟨S16640x768, .f32⟩

abbrev hbmTy0_1 (i : Nat) : BufTy := match i % 128 with
  | 0 => ⟨S16640x768, .f32⟩
  | 1 => ⟨S16640x768, .f32⟩
  | 2 => ⟨S16640x768, .f32⟩
  | 3 => ⟨S_, .f32⟩
  | 4 => ⟨S768, .f32⟩
  | 5 => ⟨S1x768, .f32⟩
  | 6 => ⟨S_, .f32⟩
  | 7 => ⟨S768, .f32⟩
  | 8 => ⟨S1x768, .f32⟩
  | 9 => ⟨S_, .f32⟩
  | 10 => ⟨S4x768, .f32⟩
  | 11 => ⟨S16640x768, .f32⟩
  | 12 => ⟨S_, .f32⟩
  | 13 => ⟨S768, .f32⟩
  | 14 => ⟨S1x768, .f32⟩
  | 15 => ⟨S_, .f32⟩
  | 16 => ⟨S768, .f32⟩
  | 17 => ⟨S1x768, .f32⟩
  | 18 => ⟨S_, .f32⟩
  | 19 => ⟨S4x768, .f32⟩
  | 20 => ⟨S4x768, .f32⟩
  | 21 => ⟨S16640x768, .f32⟩
  | 22 => ⟨S_, .f32⟩
  | 23 => ⟨S768, .f32⟩
  | 24 => ⟨S1x768, .f32⟩
  | 25 => ⟨S_, .f32⟩
  | 26 => ⟨S768, .f32⟩
  | 27 => ⟨S1x768, .f32⟩
  | 28 => ⟨S_, .f32⟩
  | 29 => ⟨S4x768, .f32⟩
  | 30 => ⟨S4x768, .f32⟩
  | 31 => ⟨S16640x768, .f32⟩
  | 32 => ⟨S_, .f32⟩
  | 33 => ⟨S768, .f32⟩
  | 34 => ⟨S1x768, .f32⟩
  | 35 => ⟨S_, .f32⟩
  | 36 => ⟨S768, .f32⟩
  | 37 => ⟨S1x768, .f32⟩
  | 38 => ⟨S_, .f32⟩
  | 39 => ⟨S4x768, .f32⟩
  | 40 => ⟨S4x768, .f32⟩
  | 41 => ⟨S_, .i32⟩
  | 42 => ⟨S_, .f32⟩
  | 43 => ⟨S8x768, .f32⟩
  | _ => ⟨S16640x768, .f32⟩

abbrev hbmTy (i : Nat) : BufTy := match i / 128 with
  | 0 => hbmTy0_0 i
  | 1 => hbmTy0_1 i
  | _ => ⟨S16640x768, .f32⟩

abbrev bufTy : (tb : Table) → Fin (tcTables nBuf tb) → BufTy
  | .hbm, ⟨i, _⟩ => hbmTy i
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_v30_2 : Ref sig .tc := ⟨.hbm, 51, rfl⟩
abbrev main_call1_cst_1 : Ref sig .tc := ⟨.hbm, 52, rfl⟩
abbrev main_call1_v6 : Ref sig .tc := ⟨.hbm, 53, rfl⟩
abbrev main_call1_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_0 : Ref sig .tc := ⟨.hbm, 64, rfl⟩
abbrev main_v38 : Ref sig .tc := ⟨.hbm, 65, rfl⟩
abbrev main_v39 : Ref sig .tc := ⟨.hbm, 66, rfl⟩
abbrev main_cst_1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_cst_4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_6 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_7 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_8 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_9 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v90 : Ref sig .tc := ⟨.hbm, 129, rfl⟩
abbrev main_v91 : Ref sig .tc := ⟨.hbm, 130, rfl⟩
abbrev main_cst_10 : Ref sig .tc := ⟨.hbm, 131, rfl⟩
abbrev main_v92 : Ref sig .tc := ⟨.hbm, 132, rfl⟩
abbrev main_v93 : Ref sig .tc := ⟨.hbm, 133, rfl⟩
abbrev main_cst_11 : Ref sig .tc := ⟨.hbm, 134, rfl⟩
abbrev main_v94 : Ref sig .tc := ⟨.hbm, 135, rfl⟩
abbrev main_v95 : Ref sig .tc := ⟨.hbm, 136, rfl⟩
abbrev main_cst_12 : Ref sig .tc := ⟨.hbm, 137, rfl⟩
abbrev main_v96 : Ref sig .tc := ⟨.hbm, 138, rfl⟩
abbrev main_v97 : Ref sig .tc := ⟨.hbm, 139, rfl⟩
abbrev main_cst_13 : Ref sig .tc := ⟨.hbm, 140, rfl⟩
abbrev main_v98 : Ref sig .tc := ⟨.hbm, 141, rfl⟩
abbrev main_v99 : Ref sig .tc := ⟨.hbm, 142, rfl⟩
abbrev main_cst_14 : Ref sig .tc := ⟨.hbm, 143, rfl⟩
abbrev main_v100 : Ref sig .tc := ⟨.hbm, 144, rfl⟩
abbrev main_v101 : Ref sig .tc := ⟨.hbm, 145, rfl⟩
abbrev main_cst_15 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_16 : Ref sig .tc := ⟨.hbm, 150, rfl⟩
abbrev main_v105 : Ref sig .tc := ⟨.hbm, 151, rfl⟩
abbrev main_v106 : Ref sig .tc := ⟨.hbm, 152, rfl⟩
abbrev main_cst_17 : Ref sig .tc := ⟨.hbm, 153, rfl⟩
abbrev main_v107 : Ref sig .tc := ⟨.hbm, 154, rfl⟩
abbrev main_v108 : Ref sig .tc := ⟨.hbm, 155, rfl⟩
abbrev main_cst_18 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_19 : Ref sig .tc := ⟨.hbm, 160, rfl⟩
abbrev main_v112 : Ref sig .tc := ⟨.hbm, 161, rfl⟩
abbrev main_v113 : Ref sig .tc := ⟨.hbm, 162, rfl⟩
abbrev main_cst_20 : Ref sig .tc := ⟨.hbm, 163, rfl⟩
abbrev main_v114 : Ref sig .tc := ⟨.hbm, 164, rfl⟩
abbrev main_v115 : Ref sig .tc := ⟨.hbm, 165, rfl⟩
abbrev main_cst_21 : Ref sig .tc := ⟨.hbm, 166, rfl⟩
abbrev main_v116 : Ref sig .tc := ⟨.hbm, 167, rfl⟩
abbrev main_v117 : Ref sig .tc := ⟨.hbm, 168, rfl⟩
abbrev main_c_22 : Ref sig .tc := ⟨.hbm, 169, rfl⟩
abbrev main_call3_v0 : Ref sig .tc := ⟨.hbm, 170, rfl⟩
abbrev main_v118 : Ref sig .tc := ⟨.hbm, 171, rfl⟩

abbrev nD : Nat := 1
abbrev τ : Topo := Topo.v7x

variable {F : FTy → Type} [FloatOps F]
-- ==== Proof.DxHost.lean ====
module

public import proofs.«01_k».proof.Proof.Gen.KernelDxIdeal.Frame.Runs
public import proofs.«01_k».proof.Proof.Gen.ReferenceDxIdeal.Read
public import Idealize.ShloMosaic.Lib.Pointwise
public import Idealize.ShloMosaic.Lib.StableHlo.ReadAt

/-! The arrays that the launch of the input gradient reads, at an index: the arguments, and the two products that
the forward pass saved, laid out by column chunks. -/

@[expose] public section

set_option maxRecDepth 16384

noncomputable section

namespace Cert.DxHost

open Idealize.ShloMosaic Idealize.ShloMosaic.TcCoe Idealize.SL.Sem Cert.KernelDxIdeal Cert.KernelDxIdeal.Gen
open Cert.ReferenceDxIdeal.Read

variable (m : (ℓ : Loc nD τ sig) → Buf (Elt Ideal) ℓ) (c : Dev nD)

abbrev a0 : (⟨S16640x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x2816, .f32⟩ : BufTy).Contents (Elt Ideal) := m ((c : Thread nD τ).loc main_arg2)
abbrev a3 : (⟨S1024x2816, .f32⟩ : BufTy).Contents (Elt Ideal) := m ((c : Thread nD τ).loc main_arg3)
abbrev a4 : (⟨S2816x1024, .f32⟩ : BufTy).Contents (Elt Ideal) := m ((c : Thread nD τ).loc main_arg4)
abbrev a5 : (⟨S16640x1024, .f32⟩ : BufTy).Contents (Elt Ideal) := m ((c : Thread nD τ).loc main_arg5)

/-- The column of an array of 2816 columns that chunk `j` has at its place `f`. -/
abbrev col (j : Fin 4) (f : Fin 704) : Fin 2816 := ⟨j.val * 704 + f.val, by omega⟩

/-- An array of token rows laid out column block by column block, as the launch takes it. -/
def columns (x : FVec Ideal S16640x2816 .f32) : FVec Ideal S4x16640x704 .bf16 :=
  truncf .bf16 (transpose S4x16640x704 [1, 0, 2] (shapeCast S16640x4x704 x shapeCasts_S16640x2816_S16640x4x704)
    transposes_S16640x4x704_S4x16640x704_1_0_2) bitsLt_bf16_f32

theorem columns_apply (x : FVec Ideal S16640x2816 .f32) (j : Fin 4) (r : Fin 16640) (f : Fin 704) :
    columns x (ix3 j r f) = x (ix2 r (col j f)) := by
  pointwise [columns]

theorem V_gate : V m c main_v16 = columns (val_main_v16 (F := Ideal) (a0 m c) (a1 m c) (a2 m c)) := by
  unfold V columns
  after_reads_simp
  rfl

theorem V_up : V m c main_v20 = columns (val_main_v18 (F := Ideal) (a0 m c) (a1 m c) (a3 m c)) := by
  unfold V columns
  after_reads_simp
  rfl

theorem V_gain (d : Fin 1024) : (V m c main_v21 : S1x1024.Idx → EReal) (ix2 0 d) = a1 m c (ix1 d) := by
  unfold V
  after_reads_simp
  pointwise

theorem V_wg (j : Fin 4) (d : Fin 1024) (f : Fin 704) : (V m c main_v24 : S4x1024x704.Idx → EReal) (ix3 j d f)
    = a2 m c (ix2 d (col j f)) := by
  unfold V
  after_reads_simp
  pointwise

theorem V_wu (j : Fin 4) (d : Fin 1024) (f : Fin 704) : (V m c main_v27 : S4x1024x704.Idx → EReal) (ix3 j d f)
    = a3 m c (ix2 d (col j f)) := by
  unfold V
  after_reads_simp
  pointwise

theorem V_wd (j : Fin 4) (f : Fin 704) (d : Fin 1024) : (V m c main_v29 : S4x704x1024.Idx → EReal) (ix3 j f d)
    = a4 m c (ix2 (col j f) d) := by
  unfold V
  after_reads_simp
  pointwise

end Cert.DxHost

end
-- ==== Proof.Tiles.lean ====
/-
  Sums over tiles: a sum over the points of a run, of sums over one tile's rows, is the sum over all the rows.
-/
module

public import Mathlib.Algebra.BigOperators.Fin
public import Mathlib.Algebra.BigOperators.Intervals
public import Idealize.ShloMosaic.Lib.Pipeline.Value

@[expose] public section

namespace Cert.Tiles

/-- `n` tiles of `b` rows each, summed tile by tile, are the first `b * n` rows. -/
theorem sum_range_tiles {M : Type*} [AddCommMonoid M] (b n : ℕ) (f : ℕ → M) :
    ∑ s ∈ Finset.range n, ∑ k ∈ Finset.range b, f (b * s + k) = ∑ r ∈ Finset.range (b * n), f r := by
  induction n with
  | zero => simp
  | succ n ih => rw [Finset.sum_range_succ, ih, Nat.mul_succ, Finset.sum_range_add]

/-- The same with the rows of a tile, and all the rows, as `Fin`. -/
theorem sum_tiles {M : Type*} [AddCommMonoid M] {b n N : ℕ} (hN : b * n = N) (f : ℕ → M) :
    ∑ s ∈ Finset.range n, ∑ k : Fin b, f (b * s + k) = ∑ r : Fin N, f r := by
  subst hN
  rw [Fin.sum_univ_eq_sum_range, ← sum_range_tiles]
  exact Finset.sum_congr rfl fun s _ => Fin.sum_univ_eq_sum_range (fun k => f (b * s + k)) b

open Idealize.ShloMosaic

/-- An output accumulated over a run of `e + 1` points, whose reset leaves the first tile's sum at `i` and whose later
    points each add their tile's, holds at the run's end the sum over all the rows. -/
theorem accAt_tiles {N : ℕ} {ι β : Type*} [AddCommMonoid β] (a : (n : ℕ) → n < N → ι → β)
    (g : (n : ℕ) → n < N → (ι → β) → ι → β) (i : ι) (F : ℕ → β) {b e w W : ℕ} (hW : w * (e + 1) = W)
    (ha : ∀ h : b < N, a b h i = ∑ k : Fin w, F k)
    (hg : ∀ (s : ℕ) (_ : s < e) (h : b + (s + 1) < N) (acc : ι → β),
      g (b + (s + 1)) h acc i = acc i + ∑ k : Fin w, F (w * (s + 1) + k))
    (h : b + e < N) : Pipeline.accAt a g b e h i = ∑ r : Fin W, F r := by
  have key : ∀ n (_ : n ≤ e) (hb : b + n < N),
      Pipeline.accAt a g b n hb i = ∑ s ∈ Finset.range (n + 1), ∑ k : Fin w, F (w * s + k) := by
    intro n
    induction n with
    | zero =>
      intro _ hb
      rw [Pipeline.accAt_zero, Finset.sum_range_one, ha]
      simp
    | succ n ih =>
      intro hn hb
      rw [Pipeline.accAt_succ, Finset.sum_range_succ, hg n (by omega), ih (by omega) (by omega)]
  rw [key e le_rfl h, sum_tiles hW F]

end Cert.Tiles

end
-- ==== Proof.DxPoint.lean ====
module

public import proofs.«01_k».proof.Proof.Gen.KernelDxIdeal.Value
public import proofs.«01_k».proof.Proof.DxHost
public import proofs.«01_k».proof.Proof.Tiles
public import Idealize.ShloMosaic.Lib.Pipeline.ValueKit.Point
public import Idealize.ShloMosaic.Lib.Pipeline.ReadBack

/-! One grid point of the input gradient's launch: its outputs and scratch as terms over the blocks it reads,
and each of these terms at an index. -/

@[expose] public section

set_option maxRecDepth 16384

noncomputable section

namespace Cert.DxPoint

open Idealize.ShloMosaic Idealize.ShloMosaic.TcCoe Idealize.SL.Sem Cert.KernelDxIdeal Cert.KernelDxIdeal.Gen Cert.KernelDxIdeal.Value
open Cert.DxHost

variable (m : (ℓ : Loc nD τ sig) → Buf (Elt Ideal) ℓ) (c : Dev nD)

/-- What a point leaves: the five output blocks, then the two scratch arrays. -/
abbrev St : Type := Vec Ideal S640x1024 .f32 × Vec Ideal S1x1024 .f32 × Vec Ideal S1x640x704 .bf16 × Vec Ideal S1x640x704 .bf16 × Vec Ideal S1x640x704 .bf16 × Vec Ideal S640x1024 .f32 × Vec Ideal S640x1024 .bf16

variable {m c}
variable (t : Fin cfg0.N) (acc : St)

abbrev Rows : Type := S640x1024.Idx → EReal
abbrev Row : Type := S1x1024.Idx → EReal
abbrev Cols : Type := S1x640x704.Idx → EReal
abbrev WIn : Type := S1x1024x704.Idx → EReal
abbrev WOut : Type := S1x704x1024.Idx → EReal

/-- The blocks a point computes from its chunk of the products `gate` and `up`, the cotangent tile `dout` of its
tokens and its chunk of the weights. -/
def dGate (gate up : Cols) (dout : Rows) (wd : WOut) : Cols :=
  k0_pay17 (F := Ideal) (k0_pay14 (F := Ideal) gate up dout wd) (k0_pay15 (F := Ideal) gate)

def dUp (gate : Cols) (dout : Rows) (wd : WOut) : Cols := k0_pay18 (F := Ideal) (k0_pay13 (F := Ideal) gate dout wd)

def act (gate up : Cols) : Cols := k0_pay19 (F := Ideal) (k0_pay9 (F := Ideal) up) (k0_pay11 (F := Ideal) gate)

def dxn (gate up : Cols) (dout : Rows) (wd : WOut) (wg wu : WIn) (x : Rows) : Rows :=
  k0_pay20 (F := Ideal) (k0_pay13 (F := Ideal) gate dout wd) (k0_pay14 (F := Ideal) gate up dout wd)
    (k0_pay15 (F := Ideal) gate) x wg wu

/-- The cotangent tile that the first chunk of a token tile stores. -/
def dout0 (dy : Rows) : Rows := k0_pay7 (F := Ideal) dy

/-- The input gradient of a tile of tokens, and the tile's part of the gain's gradient. -/
def dIn (h : Rows) (g : Row) (x dy : Rows) : Rows := k0_pay4 (F := Ideal) h g x dy
def dGain (h x : Rows) : Row := k0_pay3 (F := Ideal) h x

variable (m c) in
/-- The state after a point, from the state before it. -/
def next (first0 first last : Prop) [Decidable first0] [Decidable first] [Decidable last] : St :=
  let dout : Rows := if first then dout0 (iblk m c 5 t) else acc.2.2.2.2.2.2
  let x : Rows := dxn (iblk m c 6 t) (iblk m c 7 t) dout (iblk m c 4 t) (iblk m c 2 t) (iblk m c 3 t)
    (if first then k0_pay6 (F := Ideal) else acc.2.2.2.2.2.1)
  let gn : Row := if first0 then k0_pay5 (F := Ideal) else acc.2.1
  (if last then dIn (iblk m c 0 t) (iblk m c 1 t) x (iblk m c 5 t) else acc.1,
   if last then k0_pay21 (F := Ideal) (dGain (iblk m c 0 t) x) gn else gn,
   dGate (iblk m c 6 t) (iblk m c 7 t) dout (iblk m c 4 t), dUp (iblk m c 6 t) dout (iblk m c 4 t),
   act (iblk m c 6 t) (iblk m c 7 t), x, dout)

/-- All but the first output, which only the last chunk of a token tile stores. -/
theorem st2 :
    (stAt0 m c t.val t.isLt acc).2 = (next m c t acc (t.val % 104 = 0) (t.val % 4 = 0) (t.val % 4 = 3)).2 := by
  by_cases h1 : t.val % 4 = 0
  · have h2 : ¬t.val % 4 = 3 := by omega
    by_cases h0 : t.val % 104 = 0
    · rw [stAt0_A m c t acc h0 h1 h2]
      frame_out
      simp only [next, h0, h1, if_true, if_false]
      rfl
    · rw [stAt0_D m c t acc h0 h1 h2]
      frame_out
      simp only [next, h0, h1, if_true, if_false]
      rfl
  · have h0 : ¬t.val % 104 = 0 := by omega
    by_cases h2 : t.val % 4 = 3
    · rw [stAt0_C m c t acc h0 h1 h2]
      frame_out
      simp only [next, h0, h1, h2, if_true, if_false, Memref.IsWhole.read_unread, read_unread_whole, sout0_C_1]
      rfl
    · rw [stAt0_B m c t acc h0 h1 h2]
      frame_out
      simp only [next, h0, h1, h2, if_true, if_false, Memref.IsWhole.read_unread, read_unread_whole, sout0_B_1]
      rfl

/-- The first output, at the last chunk. -/
theorem st1 (h2 : t.val % 4 = 3) :
    (stAt0 m c t.val t.isLt acc).1 = (next m c t acc (t.val % 104 = 0) (t.val % 4 = 0) (t.val % 4 = 3)).1 := by
  have h1 : ¬t.val % 4 = 0 := by omega
  have h0 : ¬t.val % 104 = 0 := by omega
  rw [stAt0_C m c t acc h0 h1 h2]
  frame_out
  simp only [next, h0, h1, h2, if_true, if_false, Memref.IsWhole.read_unread, read_unread_whole, sout0_C_1]
  rfl

/-! The same terms at an index. -/

/-- The logistic function as the kernel spells it. -/
def sg (x : EReal) : EReal := Ideal.div 1 (1 + Ideal.exp (0 - x))

abbrev half : EReal := Ideal.ofBits .f32 0x3F000000#32
abbrev width : EReal := Ideal.ofBits .f32 0x44800000#32
abbrev eps : EReal := Ideal.ofBits .f32 0x358637BD#32
abbrev mhalf : EReal := Ideal.ofBits .f32 0xBF000000#32

theorem dout0_apply (dy : Rows) (k : Fin 640) (d : Fin 1024) : dout0 dy (ix2 k d) = half * dy (ix2 k d) := by
  unfold dout0
  unfold_payloads
  pointwise

theorem dUp_apply (gate : Cols) (dout : Rows) (wd : WOut) (k : Fin 640) (f : Fin 704) : dUp gate dout wd (ix3 0 k f) =
    (∑ x, dout (ix2 k x) * wd (ix3 0 f x)) * (gate (ix3 0 k f) * sg (gate (ix3 0 k f))) := by
  unfold dUp
  unfold_payloads
  pointwise [sg]

theorem dGate_apply (gate up : Cols) (dout : Rows) (wd : WOut) (k : Fin 640) (f : Fin 704) :
    dGate gate up dout wd (ix3 0 k f) =
      (∑ x, dout (ix2 k x) * wd (ix3 0 f x)) * up (ix3 0 k f) * sg (gate (ix3 0 k f))
        * (1 + gate (ix3 0 k f) * (1 - sg (gate (ix3 0 k f)))) := by
  unfold dGate
  unfold_payloads
  pointwise [sg]

theorem act_apply (gate up : Cols) (k : Fin 640) (f : Fin 704) : act gate up (ix3 0 k f) =
    gate (ix3 0 k f) * sg (gate (ix3 0 k f)) * up (ix3 0 k f) := by
  unfold act
  unfold_payloads
  pointwise [sg]

theorem dxn_apply (gate up : Cols) (dout : Rows) (wd : WOut) (wg wu : WIn) (x : Rows) (k : Fin 640) (d : Fin 1024) :
    dxn gate up dout wd wg wu x (ix2 k d) = x (ix2 k d)
      + (∑ f, dGate gate up dout wd (ix3 0 k f) * wg (ix3 0 d f) + ∑ f, dUp gate dout wd (ix3 0 k f) * wu (ix3 0 d f)) := by
  simp only [dGate_apply, dUp_apply]
  unfold dxn
  unfold_payloads
  pointwise [sg]

theorem pay5_apply (d : Fin 1024) : k0_pay5 (F := Ideal) (ix2 0 d) = (0 : EReal) := by
  unfold_payloads
  pointwise

theorem pay6_apply (k : Fin 640) (d : Fin 1024) : k0_pay6 (F := Ideal) (ix2 k d) = (0 : EReal) := by
  unfold_payloads
  pointwise

/-- The mean of squares, padded, of a row; and its inverse square root. -/
def ms (h : Fin 1024 → EReal) : EReal := Ideal.div (∑ x, h x * h x) width + eps
def rs (h : Fin 1024 → EReal) : EReal := Ideal.rsqrt (ms h)

/-- The part of a row's gradient that comes through its norm. -/
def via (h g x : Fin 1024 → EReal) : EReal :=
  Ideal.div ((∑ e, h e * (x e * g e)) * (mhalf * Ideal.div (rs h) (ms h))) width

theorem dGain_apply (h x : Rows) (d : Fin 1024) :
    dGain h x (ix2 0 d) = ∑ k, h (ix2 k d) * rs (fun e => h (ix2 k e)) * x (ix2 k d) := by
  unfold dGain
  unfold_payloads
  pointwise [rs, ms]

theorem dIn_apply (h : Rows) (g : Row) (x dy : Rows) (k : Fin 640) (d : Fin 1024) :
    dIn h g x dy (ix2 k d) = dy (ix2 k d) + (x (ix2 k d) * g (ix2 0 d) * rs (fun e => h (ix2 k e))
        + h (ix2 k d) * via (fun e => h (ix2 k e)) (fun e => g (ix2 0 e)) (fun e => x (ix2 k e))
        + via (fun e => h (ix2 k e)) (fun e => g (ix2 0 e)) (fun e => x (ix2 k e)) * h (ix2 k d)) := by
  unfold dIn
  unfold_payloads
  pointwise [via, rs, ms, Finset.univ_unique, Finset.sum_singleton]

theorem pay21_apply (x y : Row) (d : Fin 1024) :
    k0_pay21 (F := Ideal) x y (ix2 0 d) = (y (ix2 0 d) + x (ix2 0 d) : EReal) := by
  unfold_payloads
  pointwise

end Cert.DxPoint

end
-- ==== Proof.DxValue.lean ====
module

public import proofs.«01_k».proof.Proof.DxPoint

/-! What the launch of the input gradient leaves. Point `n` of the grid is column chunk `n % 4` of token tile
`n / 4`: the chunks of a tile add up to the gradient of the normed rows, and the last chunk takes it through the
norm and adds the tile's part of the gain's gradient to what the tiles before it left. -/

@[expose] public section

set_option maxRecDepth 16384

noncomputable section

namespace Cert.DxValue

open Idealize.ShloMosaic Idealize.ShloMosaic.TcCoe Idealize.SL.Sem Cert.KernelDxIdeal Cert.KernelDxIdeal.Gen Cert.KernelDxIdeal.Value
open Cert.DxHost Cert.DxPoint Cert.ReferenceDxIdeal.Read

variable (m : (ℓ : Loc nD τ sig) → Buf (Elt Ideal) ℓ) (c : Dev nD)

/-! The mathematics at a token row and a column. -/

abbrev gt : S16640x2816.Idx → EReal := val_main_v16 (F := Ideal) (a0 m c) (a1 m c) (a2 m c)
abbrev un : S16640x2816.Idx → EReal := val_main_v18 (F := Ideal) (a0 m c) (a1 m c) (a3 m c)

/-- A row of the input, and the gain as a row. -/
abbrev hrow (r : Fin 16640) : Fin 1024 → EReal := fun e => a0 m c (ix2 r e)
abbrev gain : Fin 1024 → EReal := fun e => a1 m c (ix1 e)

/-- The cotangent of the activation, and those of its two factors. -/
def dact (r : Fin 16640) (f : Fin 2816) : EReal := ∑ x : Fin 1024, (half * a5 m c (ix2 r x)) * a4 m c (ix2 f x)
def gUp (r : Fin 16640) (f : Fin 2816) : EReal := dact m c r f * (gt m c (ix2 r f) * sg (gt m c (ix2 r f)))
def gGate (r : Fin 16640) (f : Fin 2816) : EReal :=
  dact m c r f * un m c (ix2 r f) * sg (gt m c (ix2 r f)) * (1 + gt m c (ix2 r f) * (1 - sg (gt m c (ix2 r f))))
def gAct (r : Fin 16640) (f : Fin 2816) : EReal := gt m c (ix2 r f) * sg (gt m c (ix2 r f)) * un m c (ix2 r f)

/-- The cotangent of the normed rows. -/
def gXn (r : Fin 16640) (d : Fin 1024) : EReal :=
  ∑ f : Fin 2816, gGate m c r f * a2 m c (ix2 d f) + ∑ f : Fin 2816, gUp m c r f * a3 m c (ix2 d f)

/-- The gradients of the input and of the gain. -/
def gIn (r : Fin 16640) (d : Fin 1024) : EReal :=
  a5 m c (ix2 r d) + (gXn m c r d * gain m c d * rs (hrow m c r)
    + a0 m c (ix2 r d) * via (hrow m c r) (gain m c) (gXn m c r)
    + via (hrow m c r) (gain m c) (gXn m c r) * a0 m c (ix2 r d))
def gGain (d : Fin 1024) : EReal := ∑ r : Fin 16640, a0 m c (ix2 r d) * rs (hrow m c r) * gXn m c r d

/-! The blocks of a point. -/

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![t.val / 4, 0] := (by decide +kernel : ∀ t : Fin grid0.N, _)
theorem idx6 : ∀ t : Fin cfg0.N, win0_6.index t = ![t.val % 4, t.val / 4, 0] := (by decide +kernel : ∀ t : Fin grid0.N, _)
theorem idx7 : ∀ t : Fin cfg0.N, win0_7.index t = ![t.val % 4, t.val / 4, 0] := (by decide +kernel : ∀ t : Fin grid0.N, _)

theorem lt104 (t : Fin cfg0.N) : t.val < 104 := lt_of_lt_of_eq t.isLt N_0

/-- The token row of a point's tile at place `k`, and the column of its chunk at place `f`. -/
abbrev row (t : Fin cfg0.N) (k : Fin 640) : Fin 16640 := ⟨640 * (t.val / 4) + k.val, by have := lt104 t; omega⟩
abbrev ch (t : Fin cfg0.N) : Fin 4 := ⟨t.val % 4, by omega⟩

variable (t : Fin cfg0.N)

abbrev hB : Rows := iblk m c 0 t
abbrev gB : Row := iblk m c 1 t
abbrev wgB : WIn := iblk m c 2 t
abbrev wuB : WIn := iblk m c 3 t
abbrev wdB : WOut := iblk m c 4 t
abbrev dyB : Rows := iblk m c 5 t
abbrev gateB : Cols := iblk m c 6 t
abbrev upB : Cols := iblk m c 7 t

variable {m c}

theorem hB_apply (k : Fin 640) (d : Fin 1024) : hB m c t (ix2 k d) = a0 m c (ix2 (row t k) d) := by
  have e : V m c main_arg0 = a0 m c := V_main_arg0 m c
  rw [← e]
  blk_ext [iblk, idx0]

theorem gB_apply (d : Fin 1024) : gB m c t (ix2 0 d) = a1 m c (ix1 d) := by
  rw [← V_gain m c d]
  blk_ext [iblk, idx1]

theorem wgB_apply (d : Fin 1024) (f : Fin 704) : wgB m c t (ix3 0 d f) = a2 m c (ix2 d (col (ch t) f)) := by
  rw [← V_wg m c (ch t) d f]
  blk_ext [iblk, idx2]

theorem wuB_apply (d : Fin 1024) (f : Fin 704) : wuB m c t (ix3 0 d f) = a3 m c (ix2 d (col (ch t) f)) := by
  rw [← V_wu m c (ch t) d f]
  blk_ext [iblk, idx3]

theorem wdB_apply (f : Fin 704) (d : Fin 1024) : wdB m c t (ix3 0 f d) = a4 m c (ix2 (col (ch t) f) d) := by
  rw [← V_wd m c (ch t) f d]
  blk_ext [iblk, idx4]

theorem dyB_apply (k : Fin 640) (d : Fin 1024) : dyB m c t (ix2 k d) = a5 m c (ix2 (row t k) d) := by
  have e : V m c main_arg5 = a5 m c := V_main_arg5 m c
  rw [← e]
  blk_ext [iblk, idx5]

theorem gateB_apply (k : Fin 640) (f : Fin 704) : gateB m c t (ix3 0 k f) = gt m c (ix2 (row t k) (col (ch t) f)) := by
  have e : (V m c main_v16 : S4x16640x704.Idx → EReal) (ix3 (ch t) (row t k) f) = gt m c (ix2 (row t k) (col (ch t) f)) := by
    rw [V_gate]; exact columns_apply _ _ _ _
  rw [← e]
  blk_ext [iblk, idx6]

theorem upB_apply (k : Fin 640) (f : Fin 704) : upB m c t (ix3 0 k f) = un m c (ix2 (row t k) (col (ch t) f)) := by
  have e : (V m c main_v20 : S4x16640x704.Idx → EReal) (ix3 (ch t) (row t k) f) = un m c (ix2 (row t k) (col (ch t) f)) := by
    rw [V_up]; exact columns_apply _ _ _ _
  rw [← e]
  blk_ext [iblk, idx7]

/-! What a point computes, given the cotangent tile of its tokens. -/

/-- `dout` holds half the cotangent at the rows of the point. -/
def IsDout (dout : Rows) : Prop := ∀ (k : Fin 640) (d : Fin 1024), dout (ix2 k d) = half * a5 m c (ix2 (row t k) d)

theorem isDout0 : IsDout (m := m) (c := c) t (dout0 (iblk m c 5 t)) := fun k d =>
  (dout0_apply _ k d).trans (congrArg _ (dyB_apply t k d))

section
variable {t} {dout : Rows} (hd : IsDout (m := m) (c := c) t dout)
include hd

theorem dact_at (k : Fin 640) (f : Fin 704) :
    ∑ x, dout (ix2 k x) * wdB m c t (ix3 0 f x) = dact m c (row t k) (col (ch t) f) :=
  Finset.sum_congr rfl fun x _ => by rw [hd, wdB_apply]

theorem dUp_at (k : Fin 640) (f : Fin 704) :
    dUp (gateB m c t) dout (wdB m c t) (ix3 0 k f) = gUp m c (row t k) (col (ch t) f) := by
  rw [dUp_apply, dact_at hd, gateB_apply]; rfl

theorem dGate_at (k : Fin 640) (f : Fin 704) :
    dGate (gateB m c t) (upB m c t) dout (wdB m c t) (ix3 0 k f) = gGate m c (row t k) (col (ch t) f) := by
  rw [dGate_apply, dact_at hd, gateB_apply, upB_apply]; rfl

theorem dxn_at (x : Rows) (k : Fin 640) (d : Fin 1024) :
    dxn (gateB m c t) (upB m c t) dout (wdB m c t) (wgB m c t) (wuB m c t) x (ix2 k d) = x (ix2 k d)
      + (∑ f, gGate m c (row t k) (col (ch t) f) * a2 m c (ix2 d (col (ch t) f))
        + ∑ f, gUp m c (row t k) (col (ch t) f) * a3 m c (ix2 d (col (ch t) f))) := by
  rw [dxn_apply]
  simp only [dGate_at hd, dUp_at hd, wgB_apply, wuB_apply]

end

/-! The state after each point. -/

/-- The tile's columns up to and with those of chunk `j`, as the sums that the chunks add. -/
def partXn (r : Fin 16640) (d : Fin 1024) (n : ℕ) : EReal :=
  ∑ j ∈ Finset.range n, if h : j < 4 then
    (∑ f, gGate m c r (col ⟨j, h⟩ f) * a2 m c (ix2 d (col ⟨j, h⟩ f)) + ∑ f, gUp m c r (col ⟨j, h⟩ f) * a3 m c (ix2 d (col ⟨j, h⟩ f)))
  else 0

theorem dout_inv (n : ℕ) (h : n < cfg0.N) : IsDout (m := m) (c := c) ⟨n, h⟩ (outsAt0 m c n h).2.2.2.2.2.2 := by
  induction n with
  | zero =>
    have q := congrArg (fun p => p.2.2.2.2.2) (st2 (m := m) (c := c) ⟨0, h⟩ junk0)
    rw [outsAt0_zero]
    dsimp only [next] at q
    rw [q, if_pos (by rfl)]
    exact isDout0 _
  | succ n ih =>
    have q := congrArg (fun p => p.2.2.2.2.2) (st2 (m := m) (c := c) ⟨n + 1, h⟩ (outsAt0 m c n (Nat.lt_of_succ_lt h)))
    rw [outsAt0_succ]
    dsimp only [next] at q
    rw [q]
    split
    · exact isDout0 _
    · rename_i hn
      intro k d
      refine (ih _ k d).trans ?_
      have e : row (⟨n, Nat.lt_of_succ_lt h⟩ : Fin cfg0.N) k = row (⟨n + 1, h⟩ : Fin cfg0.N) k := by
        apply Fin.ext; dsimp only; omega
      rw [e]

theorem gate_at (n : ℕ) (h : n < cfg0.N) (k : Fin 640) (f : Fin 704) :
    (outsAt0 m c n h).2.2.1 (ix3 0 k f) = gGate m c (row ⟨n, h⟩ k) (col (ch ⟨n, h⟩) f) := by
  have e : (outsAt0 m c n h).2.2.1 = dGate (gateB m c ⟨n, h⟩) (upB m c ⟨n, h⟩) (outsAt0 m c n h).2.2.2.2.2.2 (wdB m c ⟨n, h⟩) := by
    cases n with
    | zero => rw [outsAt0_zero, st2 (m := m) (c := c) ⟨0, h⟩ junk0]; rfl
    | succ n => rw [outsAt0_succ, st2 (m := m) (c := c) ⟨n + 1, h⟩ (outsAt0 m c n _)]; rfl
  rw [e]
  exact dGate_at (dout_inv n h) k f

theorem up_at (n : ℕ) (h : n < cfg0.N) (k : Fin 640) (f : Fin 704) :
    (outsAt0 m c n h).2.2.2.1 (ix3 0 k f) = gUp m c (row ⟨n, h⟩ k) (col (ch ⟨n, h⟩) f) := by
  have e : (outsAt0 m c n h).2.2.2.1 = dUp (gateB m c ⟨n, h⟩) (outsAt0 m c n h).2.2.2.2.2.2 (wdB m c ⟨n, h⟩) := by
    cases n with
    | zero => rw [outsAt0_zero, st2 (m := m) (c := c) ⟨0, h⟩ junk0]; rfl
    | succ n => rw [outsAt0_succ, st2 (m := m) (c := c) ⟨n + 1, h⟩ (outsAt0 m c n _)]; rfl
  rw [e]
  exact dUp_at (dout_inv n h) k f

theorem act_at (n : ℕ) (h : n < cfg0.N) (k : Fin 640) (f : Fin 704) :
    (outsAt0 m c n h).2.2.2.2.1 (ix3 0 k f) = gAct m c (row ⟨n, h⟩ k) (col (ch ⟨n, h⟩) f) := by
  have e : (outsAt0 m c n h).2.2.2.2.1 = act (gateB m c ⟨n, h⟩) (upB m c ⟨n, h⟩) := by
    cases n with
    | zero => rw [outsAt0_zero, st2 (m := m) (c := c) ⟨0, h⟩ junk0]; rfl
    | succ n => rw [outsAt0_succ, st2 (m := m) (c := c) ⟨n + 1, h⟩ (outsAt0 m c n _)]; rfl
  rw [e, act_apply, gateB_apply, upB_apply]
  rfl

/-- The sums of the chunks so far. -/
theorem xn_inv (n : ℕ) (h : n < cfg0.N) (k : Fin 640) (d : Fin 1024) :
    (outsAt0 m c n h).2.2.2.2.2.1 (ix2 k d) = partXn (m := m) (c := c) (row ⟨n, h⟩ k) d (n % 4 + 1) := by
  induction n with
  | zero =>
    have e : (outsAt0 m c 0 h).2.2.2.2.2.1 = dxn (gateB m c ⟨0, h⟩) (upB m c ⟨0, h⟩) (outsAt0 m c 0 h).2.2.2.2.2.2
        (wdB m c ⟨0, h⟩) (wgB m c ⟨0, h⟩) (wuB m c ⟨0, h⟩) (k0_pay6 (F := Ideal)) := by
      rw [outsAt0_zero, st2 (m := m) (c := c) ⟨0, h⟩ junk0]; rfl
    rw [e, dxn_at (dout_inv 0 h), pay6_apply, zero_add]
    unfold partXn
    rw [show 0 % 4 + 1 = 1 from rfl, Finset.sum_range_one, dif_pos (by omega)]
    rfl
  | succ n ih =>
    have e : (outsAt0 m c (n + 1) h).2.2.2.2.2.1 = dxn (gateB m c ⟨n + 1, h⟩) (upB m c ⟨n + 1, h⟩)
        (outsAt0 m c (n + 1) h).2.2.2.2.2.2 (wdB m c ⟨n + 1, h⟩) (wgB m c ⟨n + 1, h⟩) (wuB m c ⟨n + 1, h⟩)
        (if (n + 1) % 4 = 0 then k0_pay6 (F := Ideal) else (outsAt0 m c n (Nat.lt_of_succ_lt h)).2.2.2.2.2.1) := by
      rw [outsAt0_succ, st2 (m := m) (c := c) ⟨n + 1, h⟩ (outsAt0 m c n _)]; rfl
    rw [e, dxn_at (dout_inv (n + 1) h)]
    have last : ∀ j (hj : j = (n + 1) % 4) (r : Fin 16640), partXn (m := m) (c := c) r d (j + 1) = partXn (m := m) (c := c) r d j
        + (∑ f, gGate m c r (col (ch (⟨n + 1, h⟩ : Fin cfg0.N)) f) * a2 m c (ix2 d (col (ch (⟨n + 1, h⟩ : Fin cfg0.N)) f))
          + ∑ f, gUp m c r (col (ch (⟨n + 1, h⟩ : Fin cfg0.N)) f) * a3 m c (ix2 d (col (ch (⟨n + 1, h⟩ : Fin cfg0.N)) f))) := by
      rintro j rfl r
      unfold partXn
      rw [Finset.sum_range_succ, dif_pos (by omega)]
    rw [last _ rfl]
    congr 1
    split
    · rename_i hn
      rw [pay6_apply, hn]
      rfl
    · rename_i hn
      rw [ih]
      have e : row (⟨n, Nat.lt_of_succ_lt h⟩ : Fin cfg0.N) k = row (⟨n + 1, h⟩ : Fin cfg0.N) k := by
        apply Fin.ext; dsimp only; omega
      rw [e, show n % 4 + 1 = (n + 1) % 4 by omega]

/-- All four chunks are all the columns. -/
theorem partXn_all (r : Fin 16640) (d : Fin 1024) : partXn (m := m) (c := c) r d 4 = gXn m c r d := by
  have key : ∀ A : Fin 2816 → EReal, ∑ j ∈ Finset.range 4, (if h : j < 4 then ∑ f, A (col ⟨j, h⟩ f) else 0) = ∑ f, A f := by
    intro A
    have q := Cert.Tiles.sum_tiles (b := 704) (n := 4) (N := 2816) (by norm_num) (fun n => if h : n < 2816 then A ⟨n, h⟩ else 0)
    refine Eq.trans (Finset.sum_congr rfl fun j hj => ?_) (q.trans (Finset.sum_congr rfl fun f _ => dif_pos f.isLt))
    have hj' := Finset.mem_range.mp hj
    rw [dif_pos hj']
    refine Finset.sum_congr rfl fun f _ => ?_
    rw [dif_pos (by omega)]
    exact congrArg A (Fin.ext (by dsimp only; omega))
  unfold gXn
  rw [← key (fun f => gGate m c r f * a2 m c (ix2 d f)), ← key (fun f => gUp m c r f * a3 m c (ix2 d f)), ← Finset.sum_add_distrib]
  refine Finset.sum_congr rfl fun j hj => ?_
  have hj' := Finset.mem_range.mp hj
  simp only [dif_pos hj']

theorem xn_at (n : ℕ) (h : n < cfg0.N) (h3 : n % 4 = 3) (k : Fin 640) (d : Fin 1024) :
    (outsAt0 m c n h).2.2.2.2.2.1 (ix2 k d) = gXn m c (row ⟨n, h⟩ k) d := by
  rw [xn_inv, h3, partXn_all]

theorem in_at (n : ℕ) (h : n < cfg0.N) (h3 : n % 4 = 3) (k : Fin 640) (d : Fin 1024) :
    (outsAt0 m c n h).1 (ix2 k d) = gIn m c (row ⟨n, h⟩ k) d := by
  have e : (outsAt0 m c n h).1 = dIn (hB m c ⟨n, h⟩) (gB m c ⟨n, h⟩) (outsAt0 m c n h).2.2.2.2.2.1 (dyB m c ⟨n, h⟩) := by
    cases n with
    | zero => omega
    | succ n =>
      rw [outsAt0_succ, st1 (m := m) (c := c) ⟨n + 1, h⟩ (outsAt0 m c n _) h3, st2 (m := m) (c := c) ⟨n + 1, h⟩ (outsAt0 m c n _)]
      exact if_pos h3
  rw [e, dIn_apply]
  simp only [xn_at n h h3, hB_apply, gB_apply, dyB_apply]
  rfl

/-- The gain's gradient over the tiles so far. -/
theorem gain_inv (n : ℕ) (h : n < cfg0.N) (d : Fin 1024) :
    (outsAt0 m c n h).2.1 (ix2 0 d) = ∑ s ∈ Finset.range ((n + 1) / 4), ∑ k : Fin 640,
      if h : 640 * s + k.val < 16640 then a0 m c (ix2 ⟨_, h⟩ d) * rs (hrow m c ⟨_, h⟩) * gXn m c ⟨_, h⟩ d else 0 := by
  induction n with
  | zero =>
    have e : (outsAt0 m c 0 h).2.1 = k0_pay5 (F := Ideal) := by
      rw [outsAt0_zero, st2 (m := m) (c := c) ⟨0, h⟩ junk0]; rfl
    rw [e, pay5_apply]
    rfl
  | succ n ih =>
    have hN : n + 1 < 104 := lt104 ⟨n + 1, h⟩
    have e : (outsAt0 m c (n + 1) h).2.1 = if (n + 1) % 4 = 3 then
        k0_pay21 (F := Ideal) (dGain (hB m c ⟨n + 1, h⟩) (outsAt0 m c (n + 1) h).2.2.2.2.2.1) (outsAt0 m c n (Nat.lt_of_succ_lt h)).2.1
        else (outsAt0 m c n (Nat.lt_of_succ_lt h)).2.1 := by
      rw [outsAt0_succ, st2 (m := m) (c := c) ⟨n + 1, h⟩ (outsAt0 m c n _)]
      dsimp only [next]
      rw [if_neg (show ¬(n + 1) % 104 = 0 by omega)]
    rw [e]
    split
    · rename_i h3
      rw [pay21_apply, ih, show (n + 1 + 1) / 4 = (n + 1) / 4 + 1 by omega, Finset.sum_range_succ, dGain_apply]
      congr 1
      refine Finset.sum_congr rfl fun k _ => ?_
      rw [dif_pos (by omega)]
      simp only [xn_at (n + 1) h h3, hB_apply]
    · rename_i h3
      rw [ih, show (n + 1 + 1) / 4 = (n + 1) / 4 by omega]

theorem gain_at (h : 103 < cfg0.N) (d : Fin 1024) : (outsAt0 m c 103 h).2.1 (ix2 0 d) = gGain m c d := by
  rw [gain_inv]
  refine (Cert.Tiles.sum_tiles (b := 640) (n := 26) (N := 16640) (by norm_num)
    (fun r => if h : r < 16640 then a0 m c (ix2 ⟨r, h⟩ d) * rs (hrow m c ⟨r, h⟩) * gXn m c ⟨r, h⟩ d else 0)).trans ?_
  exact Finset.sum_congr rfl fun r _ => dif_pos r.isLt

/-! The result arrays. -/

theorem G9_apply (d : Fin 1024) : G9 m c (ix2 0 d) = gGain m c d := by
  have h : 103 < cfg0.N := lt_of_lt_of_eq (by decide) N_0.symm
  rw [G9_last, ← outsAt0_sweep (m := m) c 103 h]
  exact gain_at h d

theorem G8_apply (r : Fin 16640) (d : Fin 1024) : G8 m c (ix2 r d) = gIn m c r d := by
  have hN : cfg0.N = 104 := N_0
  have hp : pt8Of (ix2 r d) = 4 * (r.val / 640) + 3 := by
    show 4 * (1 * (r.val / 640 - 0) + 1 * (d.val / 1024 - 0)) + 3 = _
    omega
  have hl : loc8Of (ix2 r d) = ix2 ⟨r.val % 640, Nat.mod_lt _ (by norm_num)⟩ d := by
    funext a; apply Fin.ext
    match a with
    | ⟨0, _⟩ => show r.val % 640 = r.val % 640; rfl
    | ⟨1, _⟩ => show d.val % 1024 = d.val; omega
  have h : 4 * (r.val / 640) + 3 < cfg0.N := by omega
  have e : ∀ n l (h' : n < cfg0.N), n = 4 * (r.val / 640) + 3 → l = ix2 ⟨r.val % 640, Nat.mod_lt _ (by norm_num)⟩ d →
      (Pipeline.accAt (fun n h => stAt0 m c n h junk0) (stAt0 m c) 0 n (by omega)).1 l
        = (outsAt0 m c (4 * (r.val / 640) + 3) h).1 (ix2 ⟨r.val % 640, Nat.mod_lt _ (by norm_num)⟩ d) := by
    rintro _ _ h' rfl rfl; rw [← outsAt0_sweep (m := m) c _ h]
  refine ((dif_pos (by rw [hp]; exact h)).trans (e _ _ (by rw [hp]; exact h) hp hl)).trans ?_
  rw [in_at _ h (by omega)]
  exact congrArg (fun r => gIn m c r d) (Fin.ext (by dsimp only; omega))

theorem G10_apply (j : Fin 4) (r : Fin 16640) (f : Fin 704) : G10 m c (ix3 j r f) = gGate m c r (col j f) := by
  have hN : cfg0.N = 104 := N_0
  have hp : pt10Of (ix3 j r f) = 4 * (r.val / 640) + j.val := by
    show 1 * (j.val / 1 - 0) + 4 * (r.val / 640 - 0) + 104 * (f.val / 704 - 0) = _
    omega
  have hl : loc10Of (ix3 j r f) = ix3 0 ⟨r.val % 640, Nat.mod_lt _ (by norm_num)⟩ f := by
    funext a; apply Fin.ext
    match a with
    | ⟨0, _⟩ => show j.val % 1 = 0; omega
    | ⟨1, _⟩ => show r.val % 640 = r.val % 640; rfl
    | ⟨2, _⟩ => show f.val % 704 = f.val; omega
  have h : 4 * (r.val / 640) + j.val < cfg0.N := by omega
  have e : ∀ n l (h' : n < cfg0.N), n = 4 * (r.val / 640) + j.val → l = ix3 0 ⟨r.val % 640, Nat.mod_lt _ (by norm_num)⟩ f →
      (Pipeline.accAt (fun n h => stAt0 m c n h junk0) (stAt0 m c) 0 n (by omega)).2.2.1 l
        = (outsAt0 m c (4 * (r.val / 640) + j.val) h).2.2.1 (ix3 0 ⟨r.val % 640, Nat.mod_lt _ (by norm_num)⟩ f) := by
    rintro _ _ h' rfl rfl; rw [← outsAt0_sweep (m := m) c _ h]
  refine ((dif_pos (by rw [hp]; exact h)).trans (e _ _ (by rw [hp]; exact h) hp hl)).trans ?_
  rw [gate_at _ h]
  have er : row (⟨4 * (r.val / 640) + j.val, h⟩ : Fin cfg0.N) ⟨r.val % 640, Nat.mod_lt _ (by norm_num)⟩ = r := by
    apply Fin.ext; dsimp only; omega
  have ej : ch (⟨4 * (r.val / 640) + j.val, h⟩ : Fin cfg0.N) = j := by
    apply Fin.ext; dsimp only; omega
  rw [er, ej]

theorem G11_apply (j : Fin 4) (r : Fin 16640) (f : Fin 704) : G11 m c (ix3 j r f) = gUp m c r (col j f) := by
  have hN : cfg0.N = 104 := N_0
  have hp : pt11Of (ix3 j r f) = 4 * (r.val / 640) + j.val := by
    show 1 * (j.val / 1 - 0) + 4 * (r.val / 640 - 0) + 104 * (f.val / 704 - 0) = _
    omega
  have hl : loc11Of (ix3 j r f) = ix3 0 ⟨r.val % 640, Nat.mod_lt _ (by norm_num)⟩ f := by
    funext a; apply Fin.ext
    match a with
    | ⟨0, _⟩ => show j.val % 1 = 0; omega
    | ⟨1, _⟩ => show r.val % 640 = r.val % 640; rfl
    | ⟨2, _⟩ => show f.val % 704 = f.val; omega
  have h : 4 * (r.val / 640) + j.val < cfg0.N := by omega
  have e : ∀ n l (h' : n < cfg0.N), n = 4 * (r.val / 640) + j.val → l = ix3 0 ⟨r.val % 640, Nat.mod_lt _ (by norm_num)⟩ f →
      (Pipeline.accAt (fun n h => stAt0 m c n h junk0) (stAt0 m c) 0 n (by omega)).2.2.2.1 l
        = (outsAt0 m c (4 * (r.val / 640) + j.val) h).2.2.2.1 (ix3 0 ⟨r.val % 640, Nat.mod_lt _ (by norm_num)⟩ f) := by
    rintro _ _ h' rfl rfl; rw [← outsAt0_sweep (m := m) c _ h]
  refine ((dif_pos (by rw [hp]; exact h)).trans (e _ _ (by rw [hp]; exact h) hp hl)).trans ?_
  rw [up_at _ h]
  have er : row (⟨4 * (r.val / 640) + j.val, h⟩ : Fin cfg0.N) ⟨r.val % 640, Nat.mod_lt _ (by norm_num)⟩ = r := by
    apply Fin.ext; dsimp only; omega
  have ej : ch (⟨4 * (r.val / 640) + j.val, h⟩ : Fin cfg0.N) = j := by
    apply Fin.ext; dsimp only; omega
  rw [er, ej]

theorem G12_apply (j : Fin 4) (r : Fin 16640) (f : Fin 704) : G12 m c (ix3 j r f) = gAct m c r (col j f) := by
  have hN : cfg0.N = 104 := N_0
  have hp : pt12Of (ix3 j r f) = 4 * (r.val / 640) + j.val := by
    show 1 * (j.val / 1 - 0) + 4 * (r.val / 640 - 0) + 104 * (f.val / 704 - 0) = _
    omega
  have hl : loc12Of (ix3 j r f) = ix3 0 ⟨r.val % 640, Nat.mod_lt _ (by norm_num)⟩ f := by
    funext a; apply Fin.ext
    match a with
    | ⟨0, _⟩ => show j.val % 1 = 0; omega
    | ⟨1, _⟩ => show r.val % 640 = r.val % 640; rfl
    | ⟨2, _⟩ => show f.val % 704 = f.val; omega
  have h : 4 * (r.val / 640) + j.val < cfg0.N := by omega
  have e : ∀ n l (h' : n < cfg0.N), n = 4 * (r.val / 640) + j.val → l = ix3 0 ⟨r.val % 640, Nat.mod_lt _ (by norm_num)⟩ f →
      (Pipeline.accAt (fun n h => stAt0 m c n h junk0) (stAt0 m c) 0 n (by omega)).2.2.2.2.1 l
        = (outsAt0 m c (4 * (r.val / 640) + j.val) h).2.2.2.2.1 (ix3 0 ⟨r.val % 640, Nat.mod_lt _ (by norm_num)⟩ f) := by
    rintro _ _ h' rfl rfl; rw [← outsAt0_sweep (m := m) c _ h]
  refine ((dif_pos (by rw [hp]; exact h)).trans (e _ _ (by rw [hp]; exact h) hp hl)).trans ?_
  rw [act_at _ h]
  have er : row (⟨4 * (r.val / 640) + j.val, h⟩ : Fin cfg0.N) ⟨r.val % 640, Nat.mod_lt _ (by norm_num)⟩ = r := by
    apply Fin.ext; dsimp only; omega
  have ej : ch (⟨4 * (r.val / 640) + j.val, h⟩ : Fin cfg0.N) = j := by
    apply Fin.ext; dsimp only; omega
  rw [er, ej]

end Cert.DxValue

end
-- ==== Proof.Reals.lean ====
module

public import Idealize.ShloMosaic.PureOps.Ideal
public import Idealize.ShloMosaic.Lib.IdealHost
public import Mathlib.Data.EReal.Operations
public import Mathlib.Data.EReal.Inv

/-! Extended reals that are real numbers, and the operations of a norm and of a logistic gate on them. -/

@[expose] public section

namespace Cert.Reals

open Idealize.ShloMosaic

/-- `x` is neither infinity. -/
def IsReal (x : EReal) : Prop := ∃ r : ℝ, x = r

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Less than infinity in magnitude is being real. -/
theorem isReal_of_abs_lt (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x with
  | bot => simp [Ideal.cmp] at h
  | top => simp [Ideal.cmp] at h
  | coe r => exact ⟨r, rfl⟩

theorem half_eq : Ideal.ofBits .f32 0x3F000000#32 = ((1 / 2 : ℝ) : EReal) := by
  simp [Ideal.ofBits, Ideal.ieee, -EReal.coe_mul]
  norm_num

theorem width_eq : Ideal.ofBits .f32 0x44800000#32 = ((1024 : ℝ) : EReal) := by
  simp [Ideal.ofBits, Ideal.ieee, -EReal.coe_mul]
  norm_num

theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- The inverse square root of a padded mean of squares of reals is real. -/
theorem isReal_rsqrt_ms {ι : Type*} [Fintype ι] (h : ι → EReal) (hr : ∀ i, IsReal (h i)) :
    IsReal (Ideal.rsqrt (Ideal.div (∑ i, h i * h i) (Ideal.ofBits .f32 0x44800000#32) + Ideal.ofBits .f32 0x358637BD#32)) := by
  choose r hr using hr
  obtain ⟨e, he, e_eq⟩ := eps_pos
  have hs : ∑ i, h i * h i = ((∑ i, r i * r i : ℝ) : EReal) := by
    simp only [hr, ← EReal.coe_mul]
    exact (map_sum (⟨⟨Real.toEReal, EReal.coe_zero⟩, EReal.coe_add⟩ : ℝ →+ EReal) _ _).symm
  have h0 : 0 ≤ ∑ i, r i * r i := Finset.sum_nonneg fun i _ => mul_self_nonneg _
  have hm : Ideal.div (∑ i, h i * h i) (Ideal.ofBits .f32 0x44800000#32) + Ideal.ofBits .f32 0x358637BD#32
      = (((∑ i, r i * r i) * (1024 : ℝ)⁻¹ + e : ℝ) : EReal) := by
    rw [hs, width_eq, e_eq, Ideal.div, if_neg (by norm_num), ← EReal.coe_inv, ← EReal.coe_mul, ← EReal.coe_add]
  rw [hm]
  have hp : 0 < (∑ i, r i * r i) * (1024 : ℝ)⁻¹ + e := by positivity
  exact ⟨_, by rw [Ideal.rsqrt_coe, if_neg (not_lt.mpr hp.le), if_neg hp.ne']⟩

/-- The derivative of `x · σ(x)` times a real cotangent, in the two forms: one product, and a sum of two. -/
theorem silu_cotangent {d : EReal} (hd : IsReal d) (x : EReal) (s : EReal → EReal)
    (hs : ∀ x, s x = Ideal.div 1 (1 + Ideal.exp (-x))) :
    d * s x + x * d * (s x * (1 - s x)) = d * s x * (1 + x * (1 - s x)) := by
  obtain ⟨d, rfl⟩ := hd
  induction x with
  | bot => rw [hs, ← Ideal.logistic, Ideal.logistic_bot]; simp
  | top =>
    have h1 : (1 : EReal) - 1 = 0 := by rw [← EReal.coe_one, ← EReal.coe_sub, sub_self, EReal.coe_zero]
    rw [hs, ← Ideal.logistic, Ideal.logistic_top, h1]; simp
  | coe x =>
    have h : ∃ q : ℝ, s x = q := ⟨_, by rw [hs, ← Ideal.logistic, Ideal.logistic_coe]⟩
    obtain ⟨q, h⟩ := h
    rw [h, ← EReal.coe_one]
    simp only [← EReal.coe_sub, ← EReal.coe_mul, ← EReal.coe_add]
    congr 1
    ring

end Cert.Reals

end
-- ==== Proof.DxRef.lean ====
module

public import proofs.«01_k».proof.Proof.DxValue
public import proofs.«01_k».proof.Proof.Reals

/-! The reference's input gradient at an index, in the terms of `Cert.DxValue`. The cotangent of the gate is the one
place where the two spell a value differently, and there the two agree because the cotangent of the activation is a
real number. -/

@[expose] public section

set_option maxRecDepth 16384

noncomputable section

namespace Cert.DxRef

open Idealize.ShloMosaic Idealize.ShloMosaic.TcCoe Idealize.SL.Sem Cert.KernelDxIdeal Cert.KernelDxIdeal.Gen
open Cert.DxHost Cert.DxPoint Cert.DxValue Cert.Reals Cert.ReferenceDxIdeal.Read

section
variable (x0 : FVec Ideal S16640x1024 .f32) (x1 : FVec Ideal S1024 .f32) (x2 : FVec Ideal S1024x2816 .f32) (x3 : FVec Ideal S1024x2816 .f32) (x4 : FVec Ideal S2816x1024 .f32) (x5 : FVec Ideal S16640x1024 .f32)

theorem sg_ref (r : Fin 16640) (f : Fin 2816) :
    val_main_v17_2 (F := Ideal) x0 x1 x2 (ix2 r f) = sg (val_main_v16 (F := Ideal) x0 x1 x2 (ix2 r f)) := by
  pointwise [sg, zero_sub, val_main_v17_2, val_main_call0_v4, val_main_call0_v3, val_main_call0_v2, val_main_call0_v1, val_main_call0_v0, val_main_call0_cst, val_main_call0_cst_0]

theorem dact_ref (r : Fin 16640) (f : Fin 2816) :
    val_main_v27 (F := Ideal) x4 x5 (ix2 r f) = ∑ x : Fin 1024, half * x5 (ix2 r x) * x4 (ix2 f x) := by
  pointwise [val_main_v27, val_main_v26, val_main_v25, val_main_cst_4, val_main_v24]

theorem dact_ref' (r : Fin 16640) (f : Fin 2816) :
    val_main_v75 (F := Ideal) x4 x5 (ix2 r f) = val_main_v27 (F := Ideal) x4 x5 (ix2 r f) := by
  rw [dact_ref]
  pointwise [val_main_v75, val_main_v74, val_main_v73, val_main_v72, val_main_cst_13]

theorem gate_ref (r : Fin 16640) (f : Fin 2816) : val_main_v31 (F := Ideal) x0 x1 x2 x3 x4 x5 (ix2 r f) =
    val_main_v27 (F := Ideal) x4 x5 (ix2 r f) * val_main_v18 (F := Ideal) x0 x1 x3 (ix2 r f) * val_main_v17_2 (F := Ideal) x0 x1 x2 (ix2 r f)
      + val_main_v16 (F := Ideal) x0 x1 x2 (ix2 r f) * (val_main_v27 (F := Ideal) x4 x5 (ix2 r f) * val_main_v18 (F := Ideal) x0 x1 x3 (ix2 r f))
        * (val_main_v17_2 (F := Ideal) x0 x1 x2 (ix2 r f) * (1 - val_main_v17_2 (F := Ideal) x0 x1 x2 (ix2 r f))) := by
  pointwise [val_main_v31, val_main_call1_v1, val_main_call1_v2, val_main_call1_v0, val_main_v29, val_main_v17_1, val_main_call0_v7, val_main_call0_v6, val_main_call0_cst_1]

/-- The reference's own layout of the gate's cotangent, at an index of it. -/
theorem gate_cols (j : Fin 4) (r : Fin 16640) (f : Fin 704) :
    val_main_v82 (F := Ideal) x0 x1 x2 x3 x4 x5 (ix3 j r f) = val_main_v31 (F := Ideal) x0 x1 x2 x3 x4 x5 (ix2 r (col j f)) := by
  have e : val_main_v82 (F := Ideal) x0 x1 x2 x3 x4 x5 (ix3 j r f) = val_main_v78 (F := Ideal) x0 x1 x2 x3 x4 x5 (ix2 r (col j f)) := by
    pointwise [val_main_v82, val_main_v81, val_main_v80]
  rw [e, gate_ref]
  have s : val_main_v70_2 (F := Ideal) x0 x1 x2 = val_main_v17_2 (F := Ideal) x0 x1 x2 := rfl
  have g : val_main_v68 (F := Ideal) x0 x1 x2 = val_main_v16 (F := Ideal) x0 x1 x2 := rfl
  have u : val_main_v69 (F := Ideal) x0 x1 x3 = val_main_v18 (F := Ideal) x0 x1 x3 := rfl
  rw [← dact_ref', ← s, ← g, ← u]
  pointwise [val_main_v78, val_main_call3_v1, val_main_call3_v2, val_main_call3_v0, val_main_v77, val_main_v70_1, val_main_call2_v7, val_main_call2_v6, val_main_call2_cst_1]

theorem up_ref (r : Fin 16640) (f : Fin 2816) : val_main_v28 (F := Ideal) x0 x1 x2 x4 x5 (ix2 r f) =
    val_main_v27 (F := Ideal) x4 x5 (ix2 r f) * (val_main_v16 (F := Ideal) x0 x1 x2 (ix2 r f) * val_main_v17_2 (F := Ideal) x0 x1 x2 (ix2 r f)) := by
  refine Eq.trans ?_ (mul_comm (G := EReal) _ _)
  pointwise [val_main_v28, val_main_v17_0]

theorem up_cols (j : Fin 4) (r : Fin 16640) (f : Fin 704) :
    val_main_v85 (F := Ideal) x0 x1 x2 x4 x5 (ix3 j r f) = val_main_v28 (F := Ideal) x0 x1 x2 x4 x5 (ix2 r (col j f)) := by
  have s : val_main_v70_0 (F := Ideal) x0 x1 x2 = val_main_v17_0 (F := Ideal) x0 x1 x2 := rfl
  have e : val_main_v28 (F := Ideal) x0 x1 x2 x4 x5 (ix2 r (col j f)) =
      val_main_v17_0 (F := Ideal) x0 x1 x2 (ix2 r (col j f)) * val_main_v27 (F := Ideal) x4 x5 (ix2 r (col j f)) := by
    pointwise [val_main_v28]
  rw [e, ← dact_ref', ← s]
  pointwise [val_main_v85, val_main_v84, val_main_v83, val_main_v76]

theorem act_cols (j : Fin 4) (r : Fin 16640) (f : Fin 704) : val_main_v88 (F := Ideal) x0 x1 x2 x3 (ix3 j r f) =
    val_main_v16 (F := Ideal) x0 x1 x2 (ix2 r (col j f)) * val_main_v17_2 (F := Ideal) x0 x1 x2 (ix2 r (col j f))
      * val_main_v18 (F := Ideal) x0 x1 x3 (ix2 r (col j f)) := by
  have s : val_main_v70_2 (F := Ideal) x0 x1 x2 = val_main_v17_2 (F := Ideal) x0 x1 x2 := rfl
  have g : val_main_v68 (F := Ideal) x0 x1 x2 = val_main_v16 (F := Ideal) x0 x1 x2 := rfl
  have u : val_main_v69 (F := Ideal) x0 x1 x3 = val_main_v18 (F := Ideal) x0 x1 x3 := rfl
  rw [← s, ← g, ← u]
  pointwise [val_main_v88, val_main_v87, val_main_v86, val_main_v71, val_main_v70_0]

theorem xn_ref (r : Fin 16640) (d : Fin 1024) : val_main_v33 (F := Ideal) x0 x1 x2 x3 x4 x5 (ix2 r d) =
    ∑ f : Fin 2816, val_main_v28 (F := Ideal) x0 x1 x2 x4 x5 (ix2 r f) * x3 (ix2 d f)
      + ∑ f : Fin 2816, val_main_v31 (F := Ideal) x0 x1 x2 x3 x4 x5 (ix2 r f) * x2 (ix2 d f) := by
  pointwise [val_main_v33, val_main_v32, val_main_v30]

theorem ms_ref (r : Fin 16640) : val_main_v6 (F := Ideal) x0 (ix2 r 0) = ms (fun e => x0 (ix2 r e)) := by
  pointwise [ms, val_main_v6, val_main_v5, val_main_v4, val_main_v3, val_main_v2, val_main_v1, val_main_v0, val_main_cst, val_main_cst_0, val_main_cst_1]

theorem rs_ref (r : Fin 16640) : val_main_v7 (F := Ideal) x0 (ix2 r 0) = rs (fun e => x0 (ix2 r e)) := by
  unfold rs
  rw [← ms_ref]
  pointwise [val_main_v7]

theorem gain_ref (d : Fin 1024) : val_main_v79 (F := Ideal) x0 x1 x2 x3 x4 x5 (ix2 0 d) =
    ∑ r : Fin 16640, x0 (ix2 r d) * val_main_v7 (F := Ideal) x0 (ix2 r 0) * val_main_v33 (F := Ideal) x0 x1 x2 x3 x4 x5 (ix2 r d) := by
  pointwise [Finset.univ_unique, Finset.sum_singleton, val_main_v79, val_main_v39, val_main_v36, val_main_v35, val_main_v34, val_main_cst_5, val_main_cst_6, val_main_v12, val_main_v11]

/-- What reaches a row through its norm. -/
theorem via_ref (r : Fin 16640) : val_main_v49 (F := Ideal) x0 x1 x2 x3 x4 x5 (ix1 r) =
    via (fun e => x0 (ix2 r e)) (fun e => x1 (ix1 e)) (fun e => val_main_v33 (F := Ideal) x0 x1 x2 x3 x4 x5 (ix2 r e)) := by
  unfold via
  rw [← rs_ref, ← ms_ref]
  pointwise [Finset.univ_unique, Finset.sum_singleton, Fin.default_eq_zero, mhalf, width, val_main_v49, val_main_v48, val_main_v47, val_main_v46, val_main_v42, val_main_v41, val_main_v40, val_main_v38, val_main_v37, val_main_v13, val_main_v10, val_main_v9, val_main_v8, val_main_cst_7, val_main_cst_8, val_main_cst_9, val_main_cst_2]

theorem in_ref (r : Fin 16640) (d : Fin 1024) : val_main_v54 (F := Ideal) x0 x1 x2 x3 x4 x5 (ix2 r d) =
    x5 (ix2 r d) + val_main_v33 (F := Ideal) x0 x1 x2 x3 x4 x5 (ix2 r d) * x1 (ix1 d) * val_main_v7 (F := Ideal) x0 (ix2 r 0)
      + x0 (ix2 r d) * val_main_v49 (F := Ideal) x0 x1 x2 x3 x4 x5 (ix1 r)
      + val_main_v49 (F := Ideal) x0 x1 x2 x3 x4 x5 (ix1 r) * x0 (ix2 r d) := by
  pointwise [val_main_v54, val_main_v53, val_main_v52, val_main_v51, val_main_v50, val_main_v45, val_main_v44, val_main_v43, val_main_v38, val_main_v37, val_main_v13]

/-! The cotangent of the activation is real where the arguments are. -/

theorem isReal_un (h0 : ∀ r d, IsReal (x0 (ix2 r d))) (h1 : ∀ d, IsReal (x1 (ix1 d))) (h3 : ∀ d f, IsReal (x3 (ix2 d f)))
    (r : Fin 16640) (f : Fin 2816) : IsReal (val_main_v18 (F := Ideal) x0 x1 x3 (ix2 r f)) := by
  have e : val_main_v18 (F := Ideal) x0 x1 x3 (ix2 r f) =
      ∑ d : Fin 1024, x0 (ix2 r d) * val_main_v7 (F := Ideal) x0 (ix2 r 0) * x1 (ix1 d) * x3 (ix2 d f) := by
    pointwise [val_main_v18, val_main_v15, val_main_v14, val_main_v13, val_main_v12, val_main_v11]
  rw [e]
  refine IsReal.sum _ _ fun d _ => ((IsReal.mul (h0 r d) ?_).mul (h1 d)).mul (h3 d f)
  rw [rs_ref]
  exact isReal_rsqrt_ms _ fun e => h0 r e

theorem isReal_dact (h4 : ∀ f d, IsReal (x4 (ix2 f d))) (h5 : ∀ r d, IsReal (x5 (ix2 r d)))
    (r : Fin 16640) (f : Fin 2816) : IsReal (val_main_v27 (F := Ideal) x4 x5 (ix2 r f)) := by
  rw [dact_ref]
  exact IsReal.sum _ _ fun d _ => (IsReal.mul ⟨_, half_eq⟩ (h5 r d)).mul (h4 f d)

end

end Cert.DxRef

end
-- ==== Proof.DxFinite.lean ====
module

public import proofs.«01_k».proof.Defs
public import proofs.«01_k».proof.Proof.Reals
public import Idealize.ShloMosaic.Lib.ReduceAll
public import Idealize.ShloMosaic.Lib.Pointwise

/-! The precondition, read: every entry of the five arrays it names is a real number. -/

@[expose] public section

set_option maxRecDepth 16384

noncomputable section

namespace Cert.DxFinite

open Idealize.ShloMosaic Cert.Pre_finite Cert.Reals

/-- The side conditions of the precondition's program. -/
theorem facts : Cert.Pre_finite.Facts where
  bcast_S_S16640x1024 := by decide
  reducesTo_S16640x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

attribute [local instance] facts

theorem and_one {a b : BitVec 1} (h : IntOp.andi a b = 1#1) : a = 1#1 ∧ b = 1#1 := by
  revert a b; decide

theorem real_of_fn (x0 : FVec Ideal S16640x1024 .f32) (x1 : FVec Ideal S1024 .f32) (x2 x3 : FVec Ideal S1024x2816 .f32)
    (x4 : FVec Ideal S2816x1024 .f32) (x5 : FVec Ideal S16640x1024 .f32) (h : fn (F := Ideal) x0 x1 x2 x3 x4 x5 = fun _ => 1#1) :
    (∀ i, IsReal (x0 i)) ∧ (∀ i, IsReal (x1 i)) ∧ (∀ i, IsReal (x3 i)) ∧ (∀ i, IsReal (x4 i)) ∧ ∀ i, IsReal (x5 i) := by
  have e := congrFun h fun k => k.elim0
  unfold fn fn_part1 at e
  obtain ⟨e, h5⟩ := and_one e
  obtain ⟨e, h4⟩ := and_one e
  obtain ⟨e, h3⟩ := and_one e
  obtain ⟨h0, h1⟩ := and_one e
  have : Subsingleton S_.Idx := ⟨fun i j => funext fun k => k.elim0⟩
  exact ⟨fun i => isReal_of_abs_lt _ (Host.reduce_andi_all _ _ _ _ _ h0 i), fun i => isReal_of_abs_lt _ (Host.reduce_andi_all _ _ _ _ _ h1 i),
    fun i => isReal_of_abs_lt _ (Host.reduce_andi_all _ _ _ _ _ h3 i), fun i => isReal_of_abs_lt _ (Host.reduce_andi_all _ _ _ _ _ h4 i),
    fun i => isReal_of_abs_lt _ (Host.reduce_andi_all _ _ _ _ _ h5 i)⟩

end Cert.DxFinite

end
-- ==== Proof.DxAlgebra.lean ====
module

public import proofs.«01_k».proof.Defs
public import proofs.«01_k».proof.Proof.Gen.ReferenceDxIdeal.Run
public import proofs.«01_k».proof.Proof.DxRef
public import proofs.«01_k».proof.Proof.DxFinite

/-! The five results of the feed-forward block's input gradient are the reference's, on finite arguments. -/

@[expose] public section

set_option maxRecDepth 16384

noncomputable section

namespace Cert.DxAlgebra

open Idealize.ShloMosaic Idealize.ShloMosaic.TcCoe Idealize.SL.Sem Cert.KernelDxIdeal Cert.KernelDxIdeal.Gen Cert.KernelDxIdeal.Value
open Cert.DxHost Cert.DxPoint Cert.DxValue Cert.Reals Cert.DxRef Cert.ReferenceDxIdeal.Read

variable (m : (ℓ : Loc nD τ sig) → Buf (Elt Ideal) ℓ) (c : Dev nD)

theorem dact_eq (r : Fin 16640) (f : Fin 2816) : dact m c r f = val_main_v27 (F := Ideal) (a4 m c) (a5 m c) (ix2 r f) :=
  (dact_ref (a4 m c) (a5 m c) r f).symm

theorem up_eq (r : Fin 16640) (f : Fin 2816) :
    gUp m c r f = val_main_v28 (F := Ideal) (a0 m c) (a1 m c) (a2 m c) (a4 m c) (a5 m c) (ix2 r f) := by
  rw [up_ref, sg_ref, ← dact_eq]; rfl

theorem act_eq (j : Fin 4) (r : Fin 16640) (f : Fin 704) :
    gAct m c r (col j f) = val_main_v88 (F := Ideal) (a0 m c) (a1 m c) (a2 m c) (a3 m c) (ix3 j r f) := by
  rw [act_cols, sg_ref]; rfl

/-- Finite arguments: what the precondition says of the arrays that matter. -/
structure Finite : Prop where
  h0 : ∀ i, IsReal (a0 m c i)
  h1 : ∀ i, IsReal (a1 m c i)
  h3 : ∀ i, IsReal (a3 m c i)
  h4 : ∀ i, IsReal (a4 m c i)
  h5 : ∀ i, IsReal (a5 m c i)

variable {m c} (hf : Finite m c)
include hf

theorem gate_eq (r : Fin 16640) (f : Fin 2816) :
    gGate m c r f = val_main_v31 (F := Ideal) (a0 m c) (a1 m c) (a2 m c) (a3 m c) (a4 m c) (a5 m c) (ix2 r f) := by
  rw [gate_ref, sg_ref, ← dact_eq]
  have hd : IsReal (dact m c r f * un m c (ix2 r f)) := by
    rw [dact_eq]
    exact (isReal_dact _ _ (fun f d => hf.h4 _) (fun r d => hf.h5 _) r f).mul
      (isReal_un _ _ _ (fun r d => hf.h0 _) (fun d => hf.h1 _) (fun d f => hf.h3 _) r f)
  exact (silu_cotangent hd (gt m c (ix2 r f)) sg fun x => by unfold sg; rw [zero_sub]).symm

theorem xn_eq (r : Fin 16640) (d : Fin 1024) :
    gXn m c r d = val_main_v33 (F := Ideal) (a0 m c) (a1 m c) (a2 m c) (a3 m c) (a4 m c) (a5 m c) (ix2 r d) := by
  rw [xn_ref]
  simp only [← up_eq, ← gate_eq hf]
  exact add_comm (G := EReal) _ _

theorem gain_eq (d : Fin 1024) :
    gGain m c d = val_main_v79 (F := Ideal) (a0 m c) (a1 m c) (a2 m c) (a3 m c) (a4 m c) (a5 m c) (ix2 0 d) := by
  rw [gain_ref]
  simp only [← xn_eq hf, rs_ref]
  rfl

theorem in_eq (r : Fin 16640) (d : Fin 1024) :
    gIn m c r d = val_main_v54 (F := Ideal) (a0 m c) (a1 m c) (a2 m c) (a3 m c) (a4 m c) (a5 m c) (ix2 r d) := by
  rw [in_ref, via_ref, rs_ref]
  simp only [← xn_eq hf]
  exact (add_assoc (G := EReal) _ _ _).symm.trans (congrArg (· + _) (add_assoc (G := EReal) _ _ _).symm)

omit hf

theorem algebraic : Cert.algebraic_KernelDxIdeal_ReferenceDxIdeal_pre_finite (hKernelDxIdeal := Cert.KernelDxIdeal.Gen.facts)
    (hReferenceDxIdeal := Cert.ReferenceDxIdeal.Gen.facts) (hPre_finite := Cert.DxFinite.facts) := by
  intro m g m' g' hpre hargs
  refine ⟨fun c => G8 m c, fun c => G9 m c, fun c => G10 m c, fun c => G11 m c, fun c => G12 m c,
    Cert.KernelDxIdeal.Value.run m g, ?_⟩
  refine (θ_run _ _ _).mono (fun r h c => ?_) (Cert.ReferenceDxIdeal.Value.run m' g')
  obtain ⟨h0, h1, h2, h3, h4, k⟩ := h c
  obtain ⟨e0, e1, e2, e3, e4, e5⟩ := hargs c
  obtain ⟨f0, f1, f3, f4, f5⟩ := Cert.DxFinite.real_of_fn _ _ _ _ _ _ (hpre c)
  have hf : Finite m c := ⟨f0, f1, f3, f4, f5⟩
  refine ⟨h0.trans ?_, h1.trans ?_, h2.trans ?_, h3.trans ?_, h4.trans ?_, k⟩
  · rw [val_main_v54_eq, e0, e1, e2, e3, e4, e5]
    funext i
    obtain ⟨r, d, rfl⟩ : ∃ (r : Fin 16640) (d : Fin 1024), i = ix2 r d := ⟨i 0, i 1, eq_ix2 i⟩
    exact ((G8_apply r d).trans (in_eq hf r d)).symm
  · rw [val_main_v79_eq, e0, e1, e2, e3, e4, e5]
    funext i
    obtain ⟨z, d, rfl⟩ : ∃ (z : Fin 1) (d : Fin 1024), i = ix2 z d := ⟨i 0, i 1, eq_ix2 i⟩
    obtain rfl : z = 0 := Subsingleton.elim _ _
    exact ((G9_apply d).trans (gain_eq hf d)).symm
  · rw [val_main_v82_eq, e0, e1, e2, e3, e4, e5]
    funext i
    obtain ⟨j, r, f, rfl⟩ : ∃ (j : Fin 4) (r : Fin 16640) (f : Fin 704), i = ix3 j r f := ⟨i 0, i 1, i 2, eq_ix3 i⟩
    exact ((G10_apply j r f).trans ((gate_eq hf r _).trans (gate_cols _ _ _ _ _ _ j r f).symm)).symm
  · rw [e0, e1, e2, e4, e5]
    funext i
    obtain ⟨j, r, f, rfl⟩ : ∃ (j : Fin 4) (r : Fin 16640) (f : Fin 704), i = ix3 j r f := ⟨i 0, i 1, i 2, eq_ix3 i⟩
    exact ((G11_apply j r f).trans ((up_eq m c r _).trans (up_cols _ _ _ _ _ j r f).symm)).symm
  · rw [e0, e1, e2, e3]
    funext i
    obtain ⟨j, r, f, rfl⟩ : ∃ (j : Fin 4) (r : Fin 16640) (f : Fin 704), i = ix3 j r f := ⟨i 0, i 1, i 2, eq_ix3 i⟩
    exact ((G12_apply j r f).trans (act_eq m c j r f)).symm

end Cert.DxAlgebra

end
-- ==== Proof.DwHost.lean ====
module

public import proofs.«01_k».proof.Proof.Gen.KernelDwIdeal.Frame.Runs
public import proofs.«01_k».proof.Proof.Gen.ReferenceDwIdeal.Read
public import Idealize.ShloMosaic.Lib.Pointwise
public import Idealize.ShloMosaic.Lib.StableHlo.ReadAt

/-! The arrays that the launch of the weight gradients reads, as functions of the program's arguments. Each is one
of the plain terms that the reference computes too, laid out by column chunks. -/

@[expose] public section

set_option maxRecDepth 16384

noncomputable section

namespace Cert.DwHost

open Idealize.ShloMosaic Idealize.ShloMosaic.TcCoe Idealize.SL.Sem Cert.KernelDwIdeal Cert.KernelDwIdeal.Gen

variable (m : (ℓ : Loc nD τ sig) → Buf (Elt Ideal) ℓ) (c : Dev nD)

abbrev a0 : (⟨S16640x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x2816, .f32⟩ : BufTy).Contents (Elt Ideal) := m ((c : Thread nD τ).loc main_arg2)
abbrev a3 : (⟨S1024x2816, .f32⟩ : BufTy).Contents (Elt Ideal) := m ((c : Thread nD τ).loc main_arg3)
abbrev a4 : (⟨S2816x1024, .f32⟩ : BufTy).Contents (Elt Ideal) := m ((c : Thread nD τ).loc main_arg4)
abbrev a5 : (⟨S16640x1024, .f32⟩ : BufTy).Contents (Elt Ideal) := m ((c : Thread nD τ).loc main_arg5)

theorem V_xn (r : Fin 16640) (d : Fin 1024) : (V m c main_v24 : S16640x1024.Idx → EReal) (ix2 r d)
    = Cert.ReferenceDwIdeal.Read.val_main_v12 (F := Ideal) (a0 m c) (a1 m c) (ix2 r d) := by
  unfold V
  after_reads_simp
  rfl

theorem dact_eq : Host.dotGeneral (F := Ideal) (φ₂ := .f32) dot_S16640x1024_S1024x2816_S16640x2816_1_0_0_1_n_n none
      (mulf (broadcastInDim S16640x1024 ![] bcast_S_S16640x1024 (constant S_ .f32 0x3F000000#32)) (a5 m c))
      (transpose (α := Ideal .f32) S1024x2816 [1, 0] (a4 m c) transposes_S2816x1024_S1024x2816_1_0)
    = Cert.ReferenceDwIdeal.Read.val_main_v25 (F := Ideal) (a4 m c) (a5 m c) := by
  funext i
  idx_vars i
  pointwise [Cert.ReferenceDwIdeal.Read.val_main_v25, Cert.ReferenceDwIdeal.Read.val_main_v22, Cert.ReferenceDwIdeal.Read.val_main_v21, Cert.ReferenceDwIdeal.Read.val_main_cst_3]

/-- An array of token rows laid out column block by column block, as the launch takes it. -/
def columns (x : FVec Ideal S16640x2816 .f32) : FVec Ideal S4x16640x704 .bf16 :=
  truncf .bf16 (transpose S4x16640x704 [1, 0, 2] (shapeCast S16640x4x704 x shapeCasts_S16640x2816_S16640x4x704)
    transposes_S16640x4x704_S4x16640x704_1_0_2) bitsLt_bf16_f32

theorem columns_apply (x : FVec Ideal S16640x2816 .f32) (j : Fin 4) (r : Fin 16640) (f : Fin 704) :
    columns x (ix3 j r f) = x (ix2 r ⟨j.val * 704 + f.val, by omega⟩) := by
  pointwise [columns]

theorem V_act : V m c main_v33 = columns
    (Cert.ReferenceDwIdeal.Read.val_main_v16 (F := Ideal) (a0 m c) (a1 m c) (a2 m c) (a3 m c)) := by
  unfold V
  after_reads_simp
  simp only [StableHlo.TRef.toBuf, StableHlo.TRef.ofBuf, cast_eq]
  clean_types
  unfold columns
  rfl

theorem V_dup : V m c main_v30 = columns
    (Cert.ReferenceDwIdeal.Read.val_main_v26 (F := Ideal) (a0 m c) (a1 m c) (a2 m c) (a4 m c) (a5 m c)) := by
  unfold V Cert.ReferenceDwIdeal.Read.val_main_v26
  rw [← dact_eq]
  after_reads_simp
  simp only [StableHlo.TRef.toBuf, StableHlo.TRef.ofBuf, cast_eq]
  clean_types
  unfold columns
  rfl

theorem V_dgate : V m c main_v27 = columns
    (Cert.ReferenceDwIdeal.Read.val_main_v30 (F := Ideal) (a0 m c) (a1 m c) (a2 m c) (a3 m c) (a4 m c) (a5 m c)) := by
  unfold V Cert.ReferenceDwIdeal.Read.val_main_v30 Cert.ReferenceDwIdeal.Read.val_main_call1_v1 Cert.ReferenceDwIdeal.Read.val_main_call1_v2 Cert.ReferenceDwIdeal.Read.val_main_call1_v0 Cert.ReferenceDwIdeal.Read.val_main_v27
  rw [← dact_eq]
  after_reads_simp
  simp only [StableHlo.TRef.toBuf, StableHlo.TRef.ofBuf, cast_eq]
  clean_types
  unfold columns
  rfl

end Cert.DwHost

end
-- ==== Proof.DwValue.lean ====
module

public import proofs.«01_k».proof.Proof.Gen.KernelDwIdeal.Value
public import proofs.«01_k».proof.Proof.DwHost
public import proofs.«01_k».proof.Proof.Tiles
public import Idealize.ShloMosaic.Lib.Pipeline.ValueKit.Point

/-! What the launch of the weight gradients leaves. Every grid point adds the product of a tile of tokens to a
chunk of one gradient, the first tile of a chunk on top of zero; over the twenty-six tiles this is the sum over
all the tokens. -/

@[expose] public section

set_option maxRecDepth 16384

noncomputable section

namespace Cert.DwValue

open Idealize.ShloMosaic Idealize.ShloMosaic.TcCoe Idealize.SL.Sem Cert.KernelDwIdeal Cert.KernelDwIdeal.Gen Cert.KernelDwIdeal.Value
open Cert.DwHost

variable (m : (ℓ : Loc nD τ sig) → Buf (Elt Ideal) ℓ) (c : Dev nD)

/-- The printed index maps, decided over the grid: point `t` is column block `t / 26` and token tile `t % 26`. -/
theorem idx0 : ∀ t : Fin cfg0.N, win0_0.index t = ![t.val % 26, 0] := (by decide +kernel : ∀ t : Fin grid0.N, _)
theorem idx1 : ∀ t : Fin cfg0.N, win0_1.index t = ![t.val % 26, 0] := (by decide +kernel : ∀ t : Fin grid0.N, _)
theorem idx2 : ∀ t : Fin cfg0.N, win0_2.index t = ![t.val / 26, t.val % 26, 0] := (by decide +kernel : ∀ t : Fin grid0.N, _)
theorem idx3 : ∀ t : Fin cfg0.N, win0_3.index t = ![t.val / 26, t.val % 26, 0] := (by decide +kernel : ∀ t : Fin grid0.N, _)
theorem idx4 : ∀ t : Fin cfg0.N, win0_4.index t = ![t.val / 26, t.val % 26, 0] := (by decide +kernel : ∀ t : Fin grid0.N, _)

/-! The arrays the launch takes, and their blocks at a point. -/

abbrev xn : S16640x1024.Idx → EReal := V m c main_v24
abbrev dy : S16640x1024.Idx → EReal := V m c main_arg5
abbrev dgate : S4x16640x704.Idx → EReal := V m c main_v27
abbrev dup : S4x16640x704.Idx → EReal := V m c main_v30
abbrev act : S4x16640x704.Idx → EReal := V m c main_v33
abbrev xnB (n : ℕ) (h : n < cfg0.N) : S640x1024.Idx → EReal := iblk m c 0 ⟨n, h⟩
abbrev dyB (n : ℕ) (h : n < cfg0.N) : S640x1024.Idx → EReal := iblk m c 1 ⟨n, h⟩
abbrev dgateB (n : ℕ) (h : n < cfg0.N) : S1x640x704.Idx → EReal := iblk m c 2 ⟨n, h⟩
abbrev dupB (n : ℕ) (h : n < cfg0.N) : S1x640x704.Idx → EReal := iblk m c 3 ⟨n, h⟩
abbrev actB (n : ℕ) (h : n < cfg0.N) : S1x640x704.Idx → EReal := iblk m c 4 ⟨n, h⟩

variable {m c}

theorem xnB_apply (j : Fin 4) (s : ℕ) (hs : s < 26) (k : Fin 640) (d : Fin 1024) (h : 26 * j.val + s < cfg0.N) :
    xnB m c (26 * j.val + s) h (ix2 k d) = xn m c (ix2 ⟨640 * s + k.val, by omega⟩ d) := by
  blk_ext [iblk, idx0]

theorem dyB_apply (j : Fin 4) (s : ℕ) (hs : s < 26) (k : Fin 640) (d : Fin 1024) (h : 26 * j.val + s < cfg0.N) :
    dyB m c (26 * j.val + s) h (ix2 k d) = dy m c (ix2 ⟨640 * s + k.val, by omega⟩ d) := by
  blk_ext [iblk, idx1]

theorem dgateB_apply (j : Fin 4) (s : ℕ) (hs : s < 26) (k : Fin 640) (f : Fin 704) (h : 26 * j.val + s < cfg0.N) :
    dgateB m c (26 * j.val + s) h (ix3 0 k f) = dgate m c (ix3 j ⟨640 * s + k.val, by omega⟩ f) := by
  blk_ext [iblk, idx2]

theorem dupB_apply (j : Fin 4) (s : ℕ) (hs : s < 26) (k : Fin 640) (f : Fin 704) (h : 26 * j.val + s < cfg0.N) :
    dupB m c (26 * j.val + s) h (ix3 0 k f) = dup m c (ix3 j ⟨640 * s + k.val, by omega⟩ f) := by
  blk_ext [iblk, idx3]

theorem actB_apply (j : Fin 4) (s : ℕ) (hs : s < 26) (k : Fin 640) (f : Fin 704) (h : 26 * j.val + s < cfg0.N) :
    actB m c (26 * j.val + s) h (ix3 0 k f) = act m c (ix3 j ⟨640 * s + k.val, by omega⟩ f) := by
  blk_ext [iblk, idx4]

/-! What one point leaves in each output, at an index. -/

theorem reset5_apply (n : ℕ) (h : n < cfg0.N) (d : Fin 1024) (f : Fin 704) :
    reset5 m c n h (ix3 0 d f) = ∑ k : Fin 640, xnB m c n h (ix2 k d) * dgateB m c n h (ix3 0 k f) := by
  unfold reset5
  unfold_payloads
  pointwise

theorem step5_apply (n : ℕ) (h : n < cfg0.N) (acc : Vec Ideal S1x1024x704 .f32) (d : Fin 1024) (f : Fin 704) :
    step5 m c n h acc (ix3 0 d f) = acc (ix3 0 d f) + ∑ k : Fin 640, xnB m c n h (ix2 k d) * dgateB m c n h (ix3 0 k f) := by
  unfold step5
  unfold_payloads
  pointwise

theorem reset6_apply (n : ℕ) (h : n < cfg0.N) (d : Fin 1024) (f : Fin 704) :
    reset6 m c n h (ix3 0 d f) = ∑ k : Fin 640, xnB m c n h (ix2 k d) * dupB m c n h (ix3 0 k f) := by
  unfold reset6
  unfold_payloads
  pointwise

theorem step6_apply (n : ℕ) (h : n < cfg0.N) (acc : Vec Ideal S1x1024x704 .f32) (d : Fin 1024) (f : Fin 704) :
    step6 m c n h acc (ix3 0 d f) = acc (ix3 0 d f) + ∑ k : Fin 640, xnB m c n h (ix2 k d) * dupB m c n h (ix3 0 k f) := by
  unfold step6
  unfold_payloads
  pointwise

theorem reset7_apply (n : ℕ) (h : n < cfg0.N) (f : Fin 704) (d : Fin 1024) :
    reset7 m c n h (ix3 0 f d) = ∑ k : Fin 640, actB m c n h (ix3 0 k f) * (Ideal.ofBits .f32 0x3F000000#32 * dyB m c n h (ix2 k d)) := by
  unfold reset7
  unfold_payloads
  pointwise

theorem step7_apply (n : ℕ) (h : n < cfg0.N) (acc : Vec Ideal S1x704x1024 .f32) (f : Fin 704) (d : Fin 1024) :
    step7 m c n h acc (ix3 0 f d) = acc (ix3 0 f d) + ∑ k : Fin 640, actB m c n h (ix3 0 k f) * (Ideal.ofBits .f32 0x3F000000#32 * dyB m c n h (ix2 k d)) := by
  unfold step7
  unfold_payloads
  pointwise

/-! What each result array holds: the sum over all the tokens. -/

theorem G5_apply (j : Fin 4) (d : Fin 1024) (f : Fin 704) :
    G5 m c (ix3 j d f) = ∑ r : Fin 16640, xn m c (ix2 r d) * dgate m c (ix3 j r f) := by
  have hN : cfg0.N = 104 := N_0
  have hr : run5Of (ix3 j d f) = j.val := by
    show 1 * (j.val / 1 - 0) + 1 * (d.val / 1024 - 0) + 1 * (f.val / 704 - 0) = j.val
    omega
  have hl : loc5Of (ix3 j d f) = ix3 0 d f := by
    funext a; apply Fin.ext
    match a with
    | ⟨0, _⟩ => show j.val % 1 = 0; omega
    | ⟨1, _⟩ => show d.val % 1024 = d.val; omega
    | ⟨2, _⟩ => show f.val % 704 = f.val; omega
  have h : 26 * j.val + 25 < cfg0.N := by omega
  have e : ∀ n l (h' : 26 * n + 25 < cfg0.N), n = j.val → l = ix3 0 d f →
      Pipeline.accAt (reset5 m c) (step5 m c) (26 * n) 25 h' l = Pipeline.accAt (reset5 m c) (step5 m c) (26 * j.val) 25 h (ix3 0 d f) := by
    rintro _ _ h' rfl rfl; rfl
  have h' : 26 * run5Of (ix3 j d f) + 25 < cfg0.N := by rw [hr]; exact h
  refine ((dif_pos h').trans (e _ _ h' hr hl)).trans ?_
  refine (Cert.Tiles.accAt_tiles (β := EReal) (ι := S1x1024x704.Idx) (reset5 m c) (step5 m c) (ix3 0 d f)
    (fun r => if h : r < 16640 then xn m c (ix2 ⟨r, h⟩ d) * dgate m c (ix3 j ⟨r, h⟩ f) else 0) (w := 640) (W := 16640) (by norm_num)
    (fun hb => ?_) (fun s hs hb acc => ?_) h).trans ?_
  · refine (reset5_apply _ hb d f).trans (Finset.sum_congr rfl fun k _ => ?_)
    rw [dif_pos (by omega)]
    have q := xnB_apply (m := m) (c := c) j 0 (by omega) k d hb
    have q' := dgateB_apply (m := m) (c := c) j 0 (by omega) k f hb
    simp only [Nat.mul_zero, Nat.zero_add, Nat.add_zero] at q q'
    rw [q, q']
  · refine (step5_apply _ hb acc d f).trans (congrArg _ (Finset.sum_congr rfl fun k _ => ?_))
    rw [dif_pos (by omega)]
    rw [xnB_apply j (s + 1) (by omega) k d hb, dgateB_apply j (s + 1) (by omega) k f hb]
  · exact Finset.sum_congr rfl fun r _ => dif_pos r.isLt

theorem G6_apply (j : Fin 4) (d : Fin 1024) (f : Fin 704) :
    G6 m c (ix3 j d f) = ∑ r : Fin 16640, xn m c (ix2 r d) * dup m c (ix3 j r f) := by
  have hN : cfg0.N = 104 := N_0
  have hr : run6Of (ix3 j d f) = j.val := by
    show 1 * (j.val / 1 - 0) + 1 * (d.val / 1024 - 0) + 1 * (f.val / 704 - 0) = j.val
    omega
  have hl : loc6Of (ix3 j d f) = ix3 0 d f := by
    funext a; apply Fin.ext
    match a with
    | ⟨0, _⟩ => show j.val % 1 = 0; omega
    | ⟨1, _⟩ => show d.val % 1024 = d.val; omega
    | ⟨2, _⟩ => show f.val % 704 = f.val; omega
  have h : 26 * j.val + 25 < cfg0.N := by omega
  have e : ∀ n l (h' : 26 * n + 25 < cfg0.N), n = j.val → l = ix3 0 d f →
      Pipeline.accAt (reset6 m c) (step6 m c) (26 * n) 25 h' l = Pipeline.accAt (reset6 m c) (step6 m c) (26 * j.val) 25 h (ix3 0 d f) := by
    rintro _ _ h' rfl rfl; rfl
  have h' : 26 * run6Of (ix3 j d f) + 25 < cfg0.N := by rw [hr]; exact h
  refine ((dif_pos h').trans (e _ _ h' hr hl)).trans ?_
  refine (Cert.Tiles.accAt_tiles (β := EReal) (ι := S1x1024x704.Idx) (reset6 m c) (step6 m c) (ix3 0 d f)
    (fun r => if h : r < 16640 then xn m c (ix2 ⟨r, h⟩ d) * dup m c (ix3 j ⟨r, h⟩ f) else 0) (w := 640) (W := 16640) (by norm_num)
    (fun hb => ?_) (fun s hs hb acc => ?_) h).trans ?_
  · refine (reset6_apply _ hb d f).trans (Finset.sum_congr rfl fun k _ => ?_)
    rw [dif_pos (by omega)]
    have q := xnB_apply (m := m) (c := c) j 0 (by omega) k d hb
    have q' := dupB_apply (m := m) (c := c) j 0 (by omega) k f hb
    simp only [Nat.mul_zero, Nat.zero_add, Nat.add_zero] at q q'
    rw [q, q']
  · refine (step6_apply _ hb acc d f).trans (congrArg _ (Finset.sum_congr rfl fun k _ => ?_))
    rw [dif_pos (by omega)]
    rw [xnB_apply j (s + 1) (by omega) k d hb, dupB_apply j (s + 1) (by omega) k f hb]
  · exact Finset.sum_congr rfl fun r _ => dif_pos r.isLt

theorem G7_apply (j : Fin 4) (f : Fin 704) (d : Fin 1024) :
    G7 m c (ix3 j f d) = ∑ r : Fin 16640, act m c (ix3 j r f) * (Ideal.ofBits .f32 0x3F000000#32 * dy m c (ix2 r d)) := by
  have hN : cfg0.N = 104 := N_0
  have hr : run7Of (ix3 j f d) = j.val := by
    show 1 * (j.val / 1 - 0) + 1 * (f.val / 704 - 0) + 1 * (d.val / 1024 - 0) = j.val
    omega
  have hl : loc7Of (ix3 j f d) = ix3 0 f d := by
    funext a; apply Fin.ext
    match a with
    | ⟨0, _⟩ => show j.val % 1 = 0; omega
    | ⟨1, _⟩ => show f.val % 704 = f.val; omega
    | ⟨2, _⟩ => show d.val % 1024 = d.val; omega
  have h : 26 * j.val + 25 < cfg0.N := by omega
  have e : ∀ n l (h' : 26 * n + 25 < cfg0.N), n = j.val → l = ix3 0 f d →
      Pipeline.accAt (reset7 m c) (step7 m c) (26 * n) 25 h' l = Pipeline.accAt (reset7 m c) (step7 m c) (26 * j.val) 25 h (ix3 0 f d) := by
    rintro _ _ h' rfl rfl; rfl
  have h' : 26 * run7Of (ix3 j f d) + 25 < cfg0.N := by rw [hr]; exact h
  refine ((dif_pos h').trans (e _ _ h' hr hl)).trans ?_
  refine (Cert.Tiles.accAt_tiles (β := EReal) (ι := S1x704x1024.Idx) (reset7 m c) (step7 m c) (ix3 0 f d)
    (fun r => if h : r < 16640 then act m c (ix3 j ⟨r, h⟩ f) * (Ideal.ofBits .f32 0x3F000000#32 * dy m c (ix2 ⟨r, h⟩ d)) else 0) (w := 640) (W := 16640) (by norm_num)
    (fun hb => ?_) (fun s hs hb acc => ?_) h).trans ?_
  · refine (reset7_apply _ hb f d).trans (Finset.sum_congr rfl fun k _ => ?_)
    rw [dif_pos (by omega)]
    have q := actB_apply (m := m) (c := c) j 0 (by omega) k f hb
    have q' := dyB_apply (m := m) (c := c) j 0 (by omega) k d hb
    simp only [Nat.mul_zero, Nat.zero_add, Nat.add_zero] at q q'
    rw [q, q']
  · refine (step7_apply _ hb acc f d).trans (congrArg _ (Finset.sum_congr rfl fun k _ => ?_))
    rw [dif_pos (by omega)]
    rw [actB_apply j (s + 1) (by omega) k f hb, dyB_apply j (s + 1) (by omega) k d hb]
  · exact Finset.sum_congr rfl fun r _ => dif_pos r.isLt

end Cert.DwValue

end
-- ==== Proof.DwAlgebra.lean ====
module

public import proofs.«01_k».proof.Proof.DwValue
public import proofs.«01_k».proof.Defs

/-! The launch's gradients equal the reference's: both are the same sum over the tokens, the factors in the
other order. -/

@[expose] public section

set_option maxRecDepth 16384

noncomputable section

namespace Cert.DwAlgebra

open Idealize.ShloMosaic Idealize.ShloMosaic.TcCoe Idealize.SL.Sem Cert.KernelDwIdeal Cert.KernelDwIdeal.Gen Cert.KernelDwIdeal.Value
open Cert.DwHost Cert.DwValue Cert.ReferenceDwIdeal.Read

variable (m : (ℓ : Loc nD τ sig) → Buf (Elt Ideal) ℓ) (c : Dev nD)

/-- The reference's gradient of the gate weight at an index: a sum over the tokens. -/
theorem dwg_ref (x0 : FVec Ideal S16640x1024 .f32) (x1 : FVec Ideal S1024 .f32) (x2 : FVec Ideal S1024x2816 .f32) (x3 : FVec Ideal S1024x2816 .f32) (x4 : FVec Ideal S2816x1024 .f32) (x5 : FVec Ideal S16640x1024 .f32) (j : Fin 4) (d : Fin 1024) (f : Fin 704) :
    val_main_v34 (F := Ideal) x0 x1 x2 x3 x4 x5 (ix3 j d f) = ∑ r : Fin 16640, val_main_v30 (F := Ideal) x0 x1 x2 x3 x4 x5 (ix2 r ⟨j.val * 704 + f.val, by omega⟩) * val_main_v12 (F := Ideal) x0 x1 (ix2 r d) := by
  pointwise [val_main_v34, val_main_v33, val_main_v32, val_main_v31]

theorem dwg_eq : G5 m c = val_main_v34 (F := Ideal) (a0 m c) (a1 m c) (a2 m c) (a3 m c) (a4 m c) (a5 m c) := by
  funext i
  obtain ⟨j, d, f, rfl⟩ : ∃ (j : Fin 4) (d : Fin 1024) (f : Fin 704), i = ix3 j d f := ⟨i 0, i 1, i 2, eq_ix3 i⟩
  refine (G5_apply j d f).trans (Eq.trans ?_ (dwg_ref ..).symm)
  refine @Finset.sum_congr (Fin 16640) EReal _ _ _ _ _ rfl fun r _ => ?_
  have e : dgate m c (ix3 j r f) = _ := (congrFun (V_dgate m c) _).trans (columns_apply _ j r f)
  rw [e, show xn m c (ix2 r d) = _ from V_xn m c r d]
  exact mul_comm (G := EReal) _ _

/-- The reference's gradient of the up weight at an index: a sum over the tokens. -/
theorem dwu_ref (x0 : FVec Ideal S16640x1024 .f32) (x1 : FVec Ideal S1024 .f32) (x2 : FVec Ideal S1024x2816 .f32) (x4 : FVec Ideal S2816x1024 .f32) (x5 : FVec Ideal S16640x1024 .f32) (j : Fin 4) (d : Fin 1024) (f : Fin 704) :
    val_main_v36 (F := Ideal) x0 x1 x2 x4 x5 (ix3 j d f) = ∑ r : Fin 16640, val_main_v26 (F := Ideal) x0 x1 x2 x4 x5 (ix2 r ⟨j.val * 704 + f.val, by omega⟩) * val_main_v12 (F := Ideal) x0 x1 (ix2 r d) := by
  pointwise [val_main_v36, val_main_v35, val_main_v29, val_main_v28]

theorem dwu_eq : G6 m c = val_main_v36 (F := Ideal) (a0 m c) (a1 m c) (a2 m c) (a4 m c) (a5 m c) := by
  funext i
  obtain ⟨j, d, f, rfl⟩ : ∃ (j : Fin 4) (d : Fin 1024) (f : Fin 704), i = ix3 j d f := ⟨i 0, i 1, i 2, eq_ix3 i⟩
  refine (G6_apply j d f).trans (Eq.trans ?_ (dwu_ref ..).symm)
  refine @Finset.sum_congr (Fin 16640) EReal _ _ _ _ _ rfl fun r _ => ?_
  have e : dup m c (ix3 j r f) = _ := (congrFun (V_dup m c) _).trans (columns_apply _ j r f)
  rw [e, show xn m c (ix2 r d) = _ from V_xn m c r d]
  exact mul_comm (G := EReal) _ _

/-- The reference's gradient of the down weight at an index: a sum over the tokens. -/
theorem dwd_ref (x0 : FVec Ideal S16640x1024 .f32) (x1 : FVec Ideal S1024 .f32) (x2 : FVec Ideal S1024x2816 .f32) (x3 : FVec Ideal S1024x2816 .f32) (x5 : FVec Ideal S16640x1024 .f32) (j : Fin 4) (f : Fin 704) (d : Fin 1024) :
    val_main_v37 (F := Ideal) x0 x1 x2 x3 x5 (ix3 j f d) = ∑ r : Fin 16640, Ideal.ofBits .f32 0x3F000000#32 * x5 (ix2 r d) * val_main_v16 (F := Ideal) x0 x1 x2 x3 (ix2 r ⟨j.val * 704 + f.val, by omega⟩) := by
  pointwise [val_main_v37, val_main_v24, val_main_v23, val_main_v22, val_main_v21, val_main_cst_3]

theorem dwd_eq : G7 m c = val_main_v37 (F := Ideal) (a0 m c) (a1 m c) (a2 m c) (a3 m c) (a5 m c) := by
  funext i
  obtain ⟨j, f, d, rfl⟩ : ∃ (j : Fin 4) (f : Fin 704) (d : Fin 1024), i = ix3 j f d := ⟨i 0, i 1, i 2, eq_ix3 i⟩
  refine (G7_apply j f d).trans (Eq.trans ?_ (dwd_ref ..).symm)
  refine @Finset.sum_congr (Fin 16640) EReal _ _ _ _ _ rfl fun r _ => ?_
  have e : act m c (ix3 j r f) = _ := (congrFun (V_act m c) _).trans (columns_apply _ j r f)
  rw [e, show dy m c = _ from V_main_arg5 m c]
  exact mul_comm (G := EReal) _ _

theorem algebraic : Cert.algebraic_KernelDwIdeal_ReferenceDwIdeal (hKernelDwIdeal := Cert.KernelDwIdeal.Gen.facts)
    (hReferenceDwIdeal := Cert.ReferenceDwIdeal.Gen.facts) := by
  intro m g m' g' _ hargs
  refine ⟨fun c => G5 m c, fun c => G6 m c, fun c => G7 m c, Cert.KernelDwIdeal.Value.run m g, ?_⟩
  refine (θ_run _ _ _).mono (fun r h c => ?_) (Cert.ReferenceDwIdeal.Value.run m' g')
  obtain ⟨h0, h1, h2, k⟩ := h c
  obtain ⟨e0, e1, e2, e3, e4, e5⟩ := hargs c
  refine ⟨h0.trans ?_, h1.trans ?_, h2.trans ?_, k⟩
  · rw [val_main_v34_eq, e0, e1, e2, e3, e4, e5]; exact (dwg_eq m c).symm
  · rw [e0, e1, e2, e4, e5]; exact (dwu_eq m c).symm
  · rw [e0, e1, e2, e3, e5]; exact (dwd_eq m c).symm

end Cert.DwAlgebra

end
-- ==== Proof.FwdPoint.lean ====
module

public import proofs.«01_k».proof.Proof.Gen.KernelFwdIdeal.Value
public import proofs.«01_k».proof.Proof.Gen.ReferenceFwdIdeal.Read
public import proofs.«01_k».proof.Proof.Tiles
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The forward launch: the arrays it reads at an index, and one grid point of it. A point's outputs and scratch are
terms over the blocks that it reads; each of these terms is then taken at an index. -/

@[expose] public section

set_option maxRecDepth 16384

noncomputable section

namespace Cert.FwdPoint

open Idealize.ShloMosaic Idealize.ShloMosaic.TcCoe Idealize.SL.Sem Cert.KernelFwdIdeal Cert.KernelFwdIdeal.Gen Cert.KernelFwdIdeal.Value

variable (m : (ℓ : Loc nD τ sig) → Buf (Elt Ideal) ℓ) (c : Dev nD)

abbrev a0 : (⟨S16640x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x2816, .f32⟩ : BufTy).Contents (Elt Ideal) := m ((c : Thread nD τ).loc main_arg2)
abbrev a3 : (⟨S1024x2816, .f32⟩ : BufTy).Contents (Elt Ideal) := m ((c : Thread nD τ).loc main_arg3)
abbrev a4 : (⟨S2816x1024, .f32⟩ : BufTy).Contents (Elt Ideal) := m ((c : Thread nD τ).loc main_arg4)

/-- The column of 2816 that chunk `j` has at its place `f`. -/
abbrev col (j : Fin 4) (f : Fin 704) : Fin 2816 := ⟨j.val * 704 + f.val, by omega⟩

theorem V_gain (d : Fin 1024) : (V m c main_v0 : S1x1024.Idx → EReal) (ix2 0 d) = a1 m c (ix1 d) := by
  unfold V
  after_reads_simp
  pointwise

theorem V_wg (j : Fin 4) (d : Fin 1024) (f : Fin 704) : (V m c main_v3 : S4x1024x704.Idx → EReal) (ix3 j d f)
    = a2 m c (ix2 d (col j f)) := by
  unfold V
  after_reads_simp
  pointwise

theorem V_wu (j : Fin 4) (d : Fin 1024) (f : Fin 704) : (V m c main_v6 : S4x1024x704.Idx → EReal) (ix3 j d f)
    = a3 m c (ix2 d (col j f)) := by
  unfold V
  after_reads_simp
  pointwise

theorem V_wd (j : Fin 4) (f : Fin 704) (d : Fin 1024) : (V m c main_v8 : S4x704x1024.Idx → EReal) (ix3 j f d)
    = a4 m c (ix2 (col j f) d) := by
  unfold V
  after_reads_simp
  pointwise

/-! One point. -/

/-- What a point leaves: the four output blocks, then the two scratch arrays. -/
abbrev St : Type := Vec Ideal S640x1024 .f32 × Vec Ideal S640x1024 .bf16 × Vec Ideal S1x640x704 .bf16 × Vec Ideal S1x640x704 .bf16 × Vec Ideal S640x1024 .bf16 × Vec Ideal S640x1024 .f32

abbrev Rows : Type := S640x1024.Idx → EReal
abbrev Row : Type := S1x1024.Idx → EReal
abbrev Cols : Type := S1x640x704.Idx → EReal
abbrev WIn : Type := S1x1024x704.Idx → EReal
abbrev WOut : Type := S1x704x1024.Idx → EReal

/-- The normed rows that the first chunk of a token tile stores. -/
def normed (h : Rows) (g : Row) : Rows := k0_pay3 (F := Ideal) h g

/-- A chunk of the two products, and what the chunk adds to the block's sum. -/
def gate (x : Rows) (wg : WIn) : Cols := k0_pay7 (F := Ideal) x wg
def up (x : Rows) (wu : WIn) : Cols := k0_pay8 (F := Ideal) x wu
def plus (x : Rows) (wg wu : WIn) (wd : WOut) (acc : Rows) : Rows :=
  k0_pay1 (F := Ideal) acc (k0_pay9 (F := Ideal) x wg wu) wd

/-- The block with its residual. -/
def out (h acc : Rows) : Rows := k0_pay2 (F := Ideal) h acc

variable {m c}
variable (t : Fin cfg0.N) (acc : St)

variable (m c) in
/-- The state after a point, from the state before it. -/
def next (first last : Prop) [Decidable first] [Decidable last] : St :=
  let x : Rows := if first then normed (iblk m c 0 t) (iblk m c 1 t) else acc.2.2.2.2.1
  let y : Rows := plus x (iblk m c 2 t) (iblk m c 3 t) (iblk m c 4 t) (if first then k0_pay4 (F := Ideal) else acc.2.2.2.2.2)
  (if last then out (iblk m c 0 t) y else acc.1, if last then x else acc.2.1,
   gate x (iblk m c 2 t), up x (iblk m c 3 t), x, y)

/-- All but the first two outputs, which only the last chunk of a token tile stores. -/
theorem st3 : (stAt0 m c t.val t.isLt acc).2.2 = (next m c t acc (t.val % 4 = 0) (t.val % 4 = 3)).2.2 := by
  by_cases h0 : t.val % 4 = 0
  · have h1 : ¬t.val % 4 = 3 := by omega
    rw [stAt0_A m c t acc h0 h1]
    frame_out
    simp only [next, h0, if_true]
    rfl
  · by_cases h1 : t.val % 4 = 3
    · rw [stAt0_C m c t acc h0 h1]
      frame_out
      simp only [next, h0, h1, if_true, if_false, Memref.IsWhole.read_unread, read_unread_whole, sout0_C_0]
      rfl
    · rw [stAt0_B m c t acc h0 h1]
      frame_out
      simp only [next, h0, h1, if_false, Memref.IsWhole.read_unread, read_unread_whole, sout0_B_0]
      rfl

/-- The first two outputs, at the last chunk. -/
theorem st1 (h1 : t.val % 4 = 3) :
    (stAt0 m c t.val t.isLt acc).1 = (next m c t acc (t.val % 4 = 0) (t.val % 4 = 3)).1 := by
  have h0 : ¬t.val % 4 = 0 := by omega
  rw [stAt0_C m c t acc h0 h1]
  frame_out
  simp only [next, h0, h1, if_true, if_false, Memref.IsWhole.read_unread, read_unread_whole]
  rfl

theorem st2 (h1 : t.val % 4 = 3) :
    (stAt0 m c t.val t.isLt acc).2.1 = (next m c t acc (t.val % 4 = 0) (t.val % 4 = 3)).2.1 := by
  have h0 : ¬t.val % 4 = 0 := by omega
  rw [stAt0_C m c t acc h0 h1]
  frame_out
  simp only [next, h0, h1, if_true, if_false, Memref.IsWhole.read_unread, read_unread_whole]
  try rfl

/-! The same terms at an index. -/

/-- The logistic function as the kernel spells it. -/
def sg (x : EReal) : EReal := Ideal.div 1 (1 + Ideal.exp (0 - x))

/-- The inverse square root of a row's padded mean of squares. -/
def rs (h : Fin 1024 → EReal) : EReal :=
  Ideal.rsqrt (Ideal.div (∑ x, h x * h x) (Ideal.ofBits .f32 0x44800000#32) + Ideal.ofBits .f32 0x358637BD#32)

theorem normed_apply (h : Rows) (g : Row) (k : Fin 640) (d : Fin 1024) :
    normed h g (ix2 k d) = h (ix2 k d) * rs (fun e => h (ix2 k e)) * g (ix2 0 d) := by
  unfold normed
  unfold_payloads
  pointwise [rs]

theorem gate_apply (x : Rows) (wg : WIn) (k : Fin 640) (f : Fin 704) :
    gate x wg (ix3 0 k f) = ∑ d, x (ix2 k d) * wg (ix3 0 d f) := by
  unfold gate
  unfold_payloads
  pointwise

theorem up_apply (x : Rows) (wu : WIn) (k : Fin 640) (f : Fin 704) :
    up x wu (ix3 0 k f) = ∑ d, x (ix2 k d) * wu (ix3 0 d f) := by
  unfold up
  unfold_payloads
  pointwise

theorem plus_apply (x : Rows) (wg wu : WIn) (wd : WOut) (y : Rows) (k : Fin 640) (d : Fin 1024) :
    plus x wg wu wd y (ix2 k d) = y (ix2 k d)
      + ∑ f, gate x wg (ix3 0 k f) * sg (gate x wg (ix3 0 k f)) * up x wu (ix3 0 k f) * wd (ix3 0 f d) := by
  simp only [gate_apply, up_apply]
  unfold plus
  unfold_payloads
  pointwise [sg]

theorem pay4_apply (k : Fin 640) (d : Fin 1024) : k0_pay4 (F := Ideal) (ix2 k d) = (0 : EReal) := by
  unfold_payloads
  pointwise

theorem out_apply (h y : Rows) (k : Fin 640) (d : Fin 1024) :
    out h y (ix2 k d) = h (ix2 k d) + Ideal.ofBits .f32 0x3F000000#32 * y (ix2 k d) := by
  unfold out
  unfold_payloads
  pointwise

end Cert.FwdPoint

end
-- ==== Proof.FwdValue.lean ====
module

public import proofs.«01_k».proof.Proof.FwdPoint

/-! What the forward launch leaves. Point `n` of the grid is column chunk `n % 4` of token tile `n / 4`: the first
chunk norms the tile's rows, every chunk stores its part of the two products and adds its part of the block to the
tile's sum, and the last chunk adds the residual. -/

@[expose] public section

set_option maxRecDepth 16384

noncomputable section

namespace Cert.FwdValue

open Idealize.ShloMosaic Idealize.ShloMosaic.TcCoe Idealize.SL.Sem Cert.KernelFwdIdeal Cert.KernelFwdIdeal.Gen Cert.KernelFwdIdeal.Value
open Cert.FwdPoint

variable (m : (ℓ : Loc nD τ sig) → Buf (Elt Ideal) ℓ) (c : Dev nD)

/-! The mathematics at a token row and a column. -/

def xn (r : Fin 16640) (d : Fin 1024) : EReal := a0 m c (ix2 r d) * rs (fun e => a0 m c (ix2 r e)) * a1 m c (ix1 d)
def gt (r : Fin 16640) (f : Fin 2816) : EReal := ∑ d : Fin 1024, xn m c r d * a2 m c (ix2 d f)
def un (r : Fin 16640) (f : Fin 2816) : EReal := ∑ d : Fin 1024, xn m c r d * a3 m c (ix2 d f)
def term (r : Fin 16640) (d : Fin 1024) (f : Fin 2816) : EReal :=
  gt m c r f * sg (gt m c r f) * un m c r f * a4 m c (ix2 f d)
def total (r : Fin 16640) (d : Fin 1024) : EReal :=
  a0 m c (ix2 r d) + Ideal.ofBits .f32 0x3F000000#32 * ∑ f : Fin 2816, term m c r d f

/-! Which block each window is at. -/

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4, 0, 0] := (by decide +kernel : ∀ t : Fin grid0.N, _)
theorem idx4 : ∀ t : Fin cfg0.N, win0_4.index t = ![t.val % 4, 0, 0] := (by decide +kernel : ∀ t : Fin grid0.N, _)

theorem lt104 (t : Fin cfg0.N) : t.val < 104 := lt_of_lt_of_eq t.isLt N_0

/-- The token row that a point has at its place `k`, and its column chunk. -/
abbrev row (t : Fin cfg0.N) (k : Fin 640) : Fin 16640 := ⟨640 * (t.val / 4) + k.val, by have := lt104 t; omega⟩
abbrev ch (t : Fin cfg0.N) : Fin 4 := ⟨t.val % 4, by omega⟩

variable (t : Fin cfg0.N)

abbrev hB : Rows := iblk m c 0 t
abbrev gB : Row := iblk m c 1 t
abbrev wgB : WIn := iblk m c 2 t
abbrev wuB : WIn := iblk m c 3 t
abbrev wdB : WOut := iblk m c 4 t

variable {m c}

theorem hB_apply (k : Fin 640) (d : Fin 1024) : hB m c t (ix2 k d) = a0 m c (ix2 (row t k) d) := by
  have e : V m c main_arg0 = a0 m c := V_main_arg0 m c
  rw [← e]
  blk_ext [iblk, idx0]

theorem gB_apply (d : Fin 1024) : gB m c t (ix2 0 d) = a1 m c (ix1 d) := by
  rw [← V_gain m c d]
  blk_ext [iblk, idx1]

theorem wgB_apply (d : Fin 1024) (f : Fin 704) : wgB m c t (ix3 0 d f) = a2 m c (ix2 d (col (ch t) f)) := by
  rw [← V_wg m c (ch t) d f]
  blk_ext [iblk, idx2]

theorem wuB_apply (d : Fin 1024) (f : Fin 704) : wuB m c t (ix3 0 d f) = a3 m c (ix2 d (col (ch t) f)) := by
  rw [← V_wu m c (ch t) d f]
  blk_ext [iblk, idx3]

theorem wdB_apply (f : Fin 704) (d : Fin 1024) : wdB m c t (ix3 0 f d) = a4 m c (ix2 (col (ch t) f) d) := by
  rw [← V_wd m c (ch t) f d]
  blk_ext [iblk, idx4]

/-! What a point computes, given the normed rows of its tokens. -/

/-- `x` holds the normed rows of the point. -/
def IsNormed (x : Rows) : Prop := ∀ (k : Fin 640) (d : Fin 1024), x (ix2 k d) = xn m c (row t k) d

theorem isNormed0 : IsNormed (m := m) (c := c) t (normed (iblk m c 0 t) (iblk m c 1 t)) := fun k d => by
  refine (normed_apply (hB m c t) (gB m c t) k d).trans ?_
  simp only [hB_apply, gB_apply]
  rfl

section
variable {t} {x : Rows} (hx : IsNormed (m := m) (c := c) t x)
include hx

theorem gate_at' (k : Fin 640) (f : Fin 704) : gate x (wgB m c t) (ix3 0 k f) = gt m c (row t k) (col (ch t) f) := by
  rw [gate_apply]
  exact Finset.sum_congr rfl fun d _ => by rw [hx, wgB_apply]

theorem up_at' (k : Fin 640) (f : Fin 704) : up x (wuB m c t) (ix3 0 k f) = un m c (row t k) (col (ch t) f) := by
  rw [up_apply]
  exact Finset.sum_congr rfl fun d _ => by rw [hx, wuB_apply]

theorem plus_at (y : Rows) (k : Fin 640) (d : Fin 1024) :
    plus x (wgB m c t) (wuB m c t) (wdB m c t) y (ix2 k d) = y (ix2 k d) + ∑ f, term m c (row t k) d (col (ch t) f) := by
  rw [plus_apply]
  simp only [gate_at' hx, up_at' hx, wdB_apply]
  rfl

end

/-! The state after each point. -/

theorem normed_inv (n : ℕ) (h : n < cfg0.N) : IsNormed (m := m) (c := c) ⟨n, h⟩ (outsAt0 m c n h).2.2.2.2.1 := by
  induction n with
  | zero =>
    have q := congrArg (fun p => p.2.2.1) (st3 (m := m) (c := c) ⟨0, h⟩ junk0)
    rw [outsAt0_zero]
    dsimp only [next] at q
    rw [q, if_pos (by rfl)]
    exact isNormed0 _
  | succ n ih =>
    have q := congrArg (fun p => p.2.2.1) (st3 (m := m) (c := c) ⟨n + 1, h⟩ (outsAt0 m c n (Nat.lt_of_succ_lt h)))
    rw [outsAt0_succ]
    dsimp only [next] at q
    rw [q]
    split
    · exact isNormed0 _
    · rename_i hn
      intro k d
      refine (ih _ k d).trans ?_
      have e : row (⟨n, Nat.lt_of_succ_lt h⟩ : Fin cfg0.N) k = row (⟨n + 1, h⟩ : Fin cfg0.N) k := by
        apply Fin.ext; dsimp only; omega
      rw [e]

theorem gate_at (n : ℕ) (h : n < cfg0.N) (k : Fin 640) (f : Fin 704) :
    (outsAt0 m c n h).2.2.1 (ix3 0 k f) = gt m c (row ⟨n, h⟩ k) (col (ch ⟨n, h⟩) f) := by
  have e : (outsAt0 m c n h).2.2.1 = gate (outsAt0 m c n h).2.2.2.2.1 (wgB m c ⟨n, h⟩) := by
    cases n with
    | zero => rw [outsAt0_zero, st3 (m := m) (c := c) ⟨0, h⟩ junk0]; rfl
    | succ n => rw [outsAt0_succ, st3 (m := m) (c := c) ⟨n + 1, h⟩ (outsAt0 m c n _)]; rfl
  rw [e]
  exact gate_at' (normed_inv n h) k f

theorem up_at (n : ℕ) (h : n < cfg0.N) (k : Fin 640) (f : Fin 704) :
    (outsAt0 m c n h).2.2.2.1 (ix3 0 k f) = un m c (row ⟨n, h⟩ k) (col (ch ⟨n, h⟩) f) := by
  have e : (outsAt0 m c n h).2.2.2.1 = up (outsAt0 m c n h).2.2.2.2.1 (wuB m c ⟨n, h⟩) := by
    cases n with
    | zero => rw [outsAt0_zero, st3 (m := m) (c := c) ⟨0, h⟩ junk0]; rfl
    | succ n => rw [outsAt0_succ, st3 (m := m) (c := c) ⟨n + 1, h⟩ (outsAt0 m c n _)]; rfl
  rw [e]
  exact up_at' (normed_inv n h) k f

/-- The first `n` chunks of a row's sum. -/
def part (r : Fin 16640) (d : Fin 1024) (n : ℕ) : EReal :=
  ∑ j ∈ Finset.range n, if h : j < 4 then ∑ f, term m c r d (col ⟨j, h⟩ f) else 0

theorem sum_inv (n : ℕ) (h : n < cfg0.N) (k : Fin 640) (d : Fin 1024) :
    (outsAt0 m c n h).2.2.2.2.2 (ix2 k d) = part (m := m) (c := c) (row ⟨n, h⟩ k) d (n % 4 + 1) := by
  induction n with
  | zero =>
    have e : (outsAt0 m c 0 h).2.2.2.2.2 = plus (outsAt0 m c 0 h).2.2.2.2.1 (wgB m c ⟨0, h⟩) (wuB m c ⟨0, h⟩) (wdB m c ⟨0, h⟩)
        (k0_pay4 (F := Ideal)) := by
      rw [outsAt0_zero, st3 (m := m) (c := c) ⟨0, h⟩ junk0]; rfl
    rw [e, plus_at (normed_inv 0 h), pay4_apply, zero_add]
    unfold part
    rw [show 0 % 4 + 1 = 1 from rfl, Finset.sum_range_one, dif_pos (by omega)]
    rfl
  | succ n ih =>
    have e : (outsAt0 m c (n + 1) h).2.2.2.2.2 = plus (outsAt0 m c (n + 1) h).2.2.2.2.1 (wgB m c ⟨n + 1, h⟩)
        (wuB m c ⟨n + 1, h⟩) (wdB m c ⟨n + 1, h⟩)
        (if (n + 1) % 4 = 0 then k0_pay4 (F := Ideal) else (outsAt0 m c n (Nat.lt_of_succ_lt h)).2.2.2.2.2) := by
      rw [outsAt0_succ, st3 (m := m) (c := c) ⟨n + 1, h⟩ (outsAt0 m c n _)]; rfl
    rw [e, plus_at (normed_inv (n + 1) h)]
    have last : ∀ j (hj : j = (n + 1) % 4) (r : Fin 16640), part (m := m) (c := c) r d (j + 1) = part (m := m) (c := c) r d j
        + ∑ f, term m c r d (col (ch (⟨n + 1, h⟩ : Fin cfg0.N)) f) := by
      rintro j rfl r
      unfold part
      rw [Finset.sum_range_succ, dif_pos (by omega)]
    rw [last _ rfl]
    congr 1
    split
    · rename_i hn
      rw [pay4_apply, hn]
      rfl
    · rename_i hn
      rw [ih]
      have e : row (⟨n, Nat.lt_of_succ_lt h⟩ : Fin cfg0.N) k = row (⟨n + 1, h⟩ : Fin cfg0.N) k := by
        apply Fin.ext; dsimp only; omega
      rw [e, show n % 4 + 1 = (n + 1) % 4 by omega]

/-- All four chunks are all the columns. -/
theorem part_all (r : Fin 16640) (d : Fin 1024) : part (m := m) (c := c) r d 4 = ∑ f, term m c r d f := by
  have q := Cert.Tiles.sum_tiles (b := 704) (n := 4) (N := 2816) (by norm_num)
    (fun n => if h : n < 2816 then term m c r d ⟨n, h⟩ else 0)
  refine Eq.trans (Finset.sum_congr rfl fun j hj => ?_) (q.trans (Finset.sum_congr rfl fun f _ => dif_pos f.isLt))
  have hj' := Finset.mem_range.mp hj
  rw [dif_pos hj']
  refine Finset.sum_congr rfl fun f _ => ?_
  rw [dif_pos (by omega)]
  exact congrArg (term m c r d) (Fin.ext (by dsimp only; omega))

theorem out_at (n : ℕ) (h : n < cfg0.N) (h3 : n % 4 = 3) (k : Fin 640) (d : Fin 1024) :
    (outsAt0 m c n h).1 (ix2 k d) = total m c (row ⟨n, h⟩ k) d := by
  have e : (outsAt0 m c n h).1 = out (hB m c ⟨n, h⟩) (outsAt0 m c n h).2.2.2.2.2 := by
    cases n with
    | zero => omega
    | succ n =>
      rw [outsAt0_succ, st1 (m := m) (c := c) ⟨n + 1, h⟩ (outsAt0 m c n _) h3, st3 (m := m) (c := c) ⟨n + 1, h⟩ (outsAt0 m c n _)]
      dsimp only [next]
      rw [if_pos h3]
  rw [e, out_apply, hB_apply, sum_inv, h3, part_all]
  rfl

theorem normed_at (n : ℕ) (h : n < cfg0.N) (h3 : n % 4 = 3) (k : Fin 640) (d : Fin 1024) :
    (outsAt0 m c n h).2.1 (ix2 k d) = xn m c (row ⟨n, h⟩ k) d := by
  have e : (outsAt0 m c n h).2.1 = (outsAt0 m c n h).2.2.2.2.1 := by
    cases n with
    | zero => omega
    | succ n =>
      rw [outsAt0_succ, st2 (m := m) (c := c) ⟨n + 1, h⟩ (outsAt0 m c n _) h3, st3 (m := m) (c := c) ⟨n + 1, h⟩ (outsAt0 m c n _)]
      dsimp only [next]
      rw [if_pos h3]
  rw [e]
  exact normed_inv n h k d

/-! The four results. -/

theorem G5_apply (r : Fin 16640) (d : Fin 1024) : G5 m c (ix2 r d) = total m c r d := by
  have hN : cfg0.N = 104 := N_0
  have hp : pt5Of (ix2 r d) = 4 * (r.val / 640) + 3 := by
    show 4 * (1 * (r.val / 640 - 0) + 1 * (d.val / 1024 - 0)) + 3 = _
    omega
  have hl : loc5Of (ix2 r d) = ix2 ⟨r.val % 640, Nat.mod_lt _ (by norm_num)⟩ d := by
    funext a; apply Fin.ext
    match a with
    | ⟨0, _⟩ => show r.val % 640 = r.val % 640; rfl
    | ⟨1, _⟩ => show d.val % 1024 = d.val; omega
  have h : 4 * (r.val / 640) + 3 < cfg0.N := by omega
  have e : ∀ n l (h' : n < cfg0.N), n = 4 * (r.val / 640) + 3 → l = ix2 ⟨r.val % 640, Nat.mod_lt _ (by norm_num)⟩ d →
      (Pipeline.accAt (fun n h => stAt0 m c n h junk0) (stAt0 m c) 0 n (by omega)).1 l
        = (outsAt0 m c (4 * (r.val / 640) + 3) h).1 (ix2 ⟨r.val % 640, Nat.mod_lt _ (by norm_num)⟩ d) := by
    rintro _ _ h' rfl rfl; rw [← outsAt0_sweep (m := m) c _ h]
  refine ((dif_pos (by rw [hp]; exact h)).trans (e _ _ (by rw [hp]; exact h) hp hl)).trans ?_
  rw [out_at _ h (by omega)]
  exact congrArg (fun r => total m c r d) (Fin.ext (by dsimp only; omega))

theorem G6_apply (r : Fin 16640) (d : Fin 1024) : G6 m c (ix2 r d) = xn m c r d := by
  have hN : cfg0.N = 104 := N_0
  have hp : pt6Of (ix2 r d) = 4 * (r.val / 640) + 3 := by
    show 4 * (1 * (r.val / 640 - 0) + 1 * (d.val / 1024 - 0)) + 3 = _
    omega
  have hl : loc6Of (ix2 r d) = ix2 ⟨r.val % 640, Nat.mod_lt _ (by norm_num)⟩ d := by
    funext a; apply Fin.ext
    match a with
    | ⟨0, _⟩ => show r.val % 640 = r.val % 640; rfl
    | ⟨1, _⟩ => show d.val % 1024 = d.val; omega
  have h : 4 * (r.val / 640) + 3 < cfg0.N := by omega
  have e : ∀ n l (h' : n < cfg0.N), n = 4 * (r.val / 640) + 3 → l = ix2 ⟨r.val % 640, Nat.mod_lt _ (by norm_num)⟩ d →
      (Pipeline.accAt (fun n h => stAt0 m c n h junk0) (stAt0 m c) 0 n (by omega)).2.1 l
        = (outsAt0 m c (4 * (r.val / 640) + 3) h).2.1 (ix2 ⟨r.val % 640, Nat.mod_lt _ (by norm_num)⟩ d) := by
    rintro _ _ h' rfl rfl; rw [← outsAt0_sweep (m := m) c _ h]
  refine ((dif_pos (by rw [hp]; exact h)).trans (e _ _ (by rw [hp]; exact h) hp hl)).trans ?_
  rw [normed_at _ h (by omega)]
  exact congrArg (fun r => xn m c r d) (Fin.ext (by dsimp only; omega))

theorem G7_apply (j : Fin 4) (r : Fin 16640) (f : Fin 704) : G7 m c (ix3 j r f) = gt m c r (col j f) := by
  have hN : cfg0.N = 104 := N_0
  have hp : pt7Of (ix3 j r f) = 4 * (r.val / 640) + j.val := by
    show 1 * (j.val / 1 - 0) + 4 * (r.val / 640 - 0) + 104 * (f.val / 704 - 0) = _
    omega
  have hl : loc7Of (ix3 j r f) = ix3 0 ⟨r.val % 640, Nat.mod_lt _ (by norm_num)⟩ f := by
    funext a; apply Fin.ext
    match a with
    | ⟨0, _⟩ => show j.val % 1 = 0; omega
    | ⟨1, _⟩ => show r.val % 640 = r.val % 640; rfl
    | ⟨2, _⟩ => show f.val % 704 = f.val; omega
  have h : 4 * (r.val / 640) + j.val < cfg0.N := by omega
  have e : ∀ n l (h' : n < cfg0.N), n = 4 * (r.val / 640) + j.val → l = ix3 0 ⟨r.val % 640, Nat.mod_lt _ (by norm_num)⟩ f →
      (Pipeline.accAt (fun n h => stAt0 m c n h junk0) (stAt0 m c) 0 n (by omega)).2.2.1 l
        = (outsAt0 m c (4 * (r.val / 640) + j.val) h).2.2.1 (ix3 0 ⟨r.val % 640, Nat.mod_lt _ (by norm_num)⟩ f) := by
    rintro _ _ h' rfl rfl; rw [← outsAt0_sweep (m := m) c _ h]
  refine ((dif_pos (by rw [hp]; exact h)).trans (e _ _ (by rw [hp]; exact h) hp hl)).trans ?_
  rw [gate_at _ h]
  have er : row (⟨4 * (r.val / 640) + j.val, h⟩ : Fin cfg0.N) ⟨r.val % 640, Nat.mod_lt _ (by norm_num)⟩ = r := by
    apply Fin.ext; dsimp only; omega
  have ej : ch (⟨4 * (r.val / 640) + j.val, h⟩ : Fin cfg0.N) = j := by
    apply Fin.ext; dsimp only; omega
  rw [er, ej]

theorem G8_apply (j : Fin 4) (r : Fin 16640) (f : Fin 704) : G8 m c (ix3 j r f) = un m c r (col j f) := by
  have hN : cfg0.N = 104 := N_0
  have hp : pt8Of (ix3 j r f) = 4 * (r.val / 640) + j.val := by
    show 1 * (j.val / 1 - 0) + 4 * (r.val / 640 - 0) + 104 * (f.val / 704 - 0) = _
    omega
  have hl : loc8Of (ix3 j r f) = ix3 0 ⟨r.val % 640, Nat.mod_lt _ (by norm_num)⟩ f := by
    funext a; apply Fin.ext
    match a with
    | ⟨0, _⟩ => show j.val % 1 = 0; omega
    | ⟨1, _⟩ => show r.val % 640 = r.val % 640; rfl
    | ⟨2, _⟩ => show f.val % 704 = f.val; omega
  have h : 4 * (r.val / 640) + j.val < cfg0.N := by omega
  have e : ∀ n l (h' : n < cfg0.N), n = 4 * (r.val / 640) + j.val → l = ix3 0 ⟨r.val % 640, Nat.mod_lt _ (by norm_num)⟩ f →
      (Pipeline.accAt (fun n h => stAt0 m c n h junk0) (stAt0 m c) 0 n (by omega)).2.2.2.1 l
        = (outsAt0 m c (4 * (r.val / 640) + j.val) h).2.2.2.1 (ix3 0 ⟨r.val % 640, Nat.mod_lt _ (by norm_num)⟩ f) := by
    rintro _ _ h' rfl rfl; rw [← outsAt0_sweep (m := m) c _ h]
  refine ((dif_pos (by rw [hp]; exact h)).trans (e _ _ (by rw [hp]; exact h) hp hl)).trans ?_
  rw [up_at _ h]
  have er : row (⟨4 * (r.val / 640) + j.val, h⟩ : Fin cfg0.N) ⟨r.val % 640, Nat.mod_lt _ (by norm_num)⟩ = r := by
    apply Fin.ext; dsimp only; omega
  have ej : ch (⟨4 * (r.val / 640) + j.val, h⟩ : Fin cfg0.N) = j := by
    apply Fin.ext; dsimp only; omega
  rw [er, ej]

end Cert.FwdValue

end
-- ==== Proof.FwdAlgebra.lean ====
module

public import proofs.«01_k».proof.Defs
public import proofs.«01_k».proof.Proof.Gen.ReferenceFwdIdeal.Run
public import proofs.«01_k».proof.Proof.FwdValue

/-! The four results of the feed-forward block's forward launch are the reference's. -/

@[expose] public section

set_option maxRecDepth 16384

noncomputable section

namespace Cert.FwdAlgebra

open Idealize.ShloMosaic Idealize.ShloMosaic.TcCoe Idealize.SL.Sem Cert.KernelFwdIdeal Cert.KernelFwdIdeal.Gen Cert.KernelFwdIdeal.Value
open Cert.FwdPoint Cert.FwdValue Cert.ReferenceFwdIdeal.Read

variable (m : (ℓ : Loc nD τ sig) → Buf (Elt Ideal) ℓ) (c : Dev nD)

theorem xn_eq (r : Fin 16640) (d : Fin 1024) :
    xn m c r d = val_main_v12 (F := Ideal) (a0 m c) (a1 m c) (ix2 r d) := by
  pointwise [xn, rs, val_main_v12, val_main_v11, val_main_v10, val_main_v9, val_main_v8, val_main_v7, val_main_v6, val_main_v5, val_main_v4, val_main_v3, val_main_v2, val_main_v1, val_main_v0, val_main_cst, val_main_cst_0, val_main_cst_1]

/-- The second copy of the normed rows in the reference. -/
theorem xn_again (x0 : FVec Ideal S16640x1024 .f32) (x1 : FVec Ideal S1024 .f32) :
    val_main_v25 (F := Ideal) x0 x1 = val_main_v12 (F := Ideal) x0 x1 := rfl

theorem gt_eq (r : Fin 16640) (f : Fin 2816) :
    gt m c r f = val_main_v26 (F := Ideal) (a0 m c) (a1 m c) (a2 m c) (ix2 r f) := by
  unfold gt
  simp only [xn_eq]
  pointwise [val_main_v26, xn_again]

theorem un_eq (r : Fin 16640) (f : Fin 2816) :
    un m c r f = val_main_v28 (F := Ideal) (a0 m c) (a1 m c) (a3 m c) (ix2 r f) := by
  unfold un
  simp only [xn_eq]
  pointwise [val_main_v28, xn_again]

theorem total_eq (r : Fin 16640) (d : Fin 1024) :
    total m c r d = val_main_v33 (F := Ideal) (a0 m c) (a1 m c) (a2 m c) (a3 m c) (a4 m c) (ix2 r d) := by
  unfold total term
  simp only [gt_eq, un_eq]
  pointwise [sg, zero_sub, val_main_v33, val_main_v32, val_main_v31, val_main_cst_5, val_main_v30, val_main_v29, val_main_v27, val_main_call0_v5, val_main_call0_v4, val_main_call0_v3, val_main_call0_v2, val_main_call0_v1, val_main_call0_v0, val_main_call0_cst, val_main_call0_cst_0]

theorem algebraic : Cert.algebraic_KernelFwdIdeal_ReferenceFwdIdeal (hKernelFwdIdeal := Cert.KernelFwdIdeal.Gen.facts)
    (hReferenceFwdIdeal := Cert.ReferenceFwdIdeal.Gen.facts) := by
  intro m g m' g' _ hargs
  refine ⟨fun c => G5 m c, fun c => G6 m c, fun c => G7 m c, fun c => G8 m c, Cert.KernelFwdIdeal.Value.run m g, ?_⟩
  refine (θ_run _ _ _).mono (fun r h c => ?_) (Cert.ReferenceFwdIdeal.Value.run m' g')
  obtain ⟨h0, h1, h2, h3, k⟩ := h c
  obtain ⟨e0, e1, e2, e3, e4⟩ := hargs c
  refine ⟨h0.trans ?_, h1.trans ?_, h2.trans ?_, h3.trans ?_, k⟩
  · rw [val_main_v33_eq, e0, e1, e2, e3, e4]
    funext i
    obtain ⟨r, d, rfl⟩ : ∃ (r : Fin 16640) (d : Fin 1024), i = ix2 r d := ⟨i 0, i 1, eq_ix2 i⟩
    exact ((G5_apply r d).trans (total_eq m c r d)).symm
  · rw [val_main_v34_eq, e0, e1]
    funext i
    obtain ⟨r, d, rfl⟩ : ∃ (r : Fin 16640) (d : Fin 1024), i = ix2 r d := ⟨i 0, i 1, eq_ix2 i⟩
    refine ((G6_apply r d).trans ((xn_eq m c r d).trans ?_)).symm
    pointwise [val_main_v34]
  · rw [val_main_v38_eq, e0, e1, e2]
    funext i
    obtain ⟨j, r, f, rfl⟩ : ∃ (j : Fin 4) (r : Fin 16640) (f : Fin 704), i = ix3 j r f := ⟨i 0, i 1, i 2, eq_ix3 i⟩
    refine ((G7_apply j r f).trans ((gt_eq m c r _).trans ?_)).symm
    have e : val_main_v35 (F := Ideal) (a0 m c) (a1 m c) (a2 m c) = val_main_v26 (F := Ideal) (a0 m c) (a1 m c) (a2 m c) := rfl
    rw [← e]
    pointwise [val_main_v38, val_main_v37, val_main_v36]
  · rw [val_main_v42_eq, e0, e1, e3]
    funext i
    obtain ⟨j, r, f, rfl⟩ : ∃ (j : Fin 4) (r : Fin 16640) (f : Fin 704), i = ix3 j r f := ⟨i 0, i 1, i 2, eq_ix3 i⟩
    refine ((G8_apply j r f).trans ((un_eq m c r _).trans ?_)).symm
    have e : val_main_v39 (F := Ideal) (a0 m c) (a1 m c) (a3 m c) = val_main_v28 (F := Ideal) (a0 m c) (a1 m c) (a3 m c) := rfl
    rw [← e]
    pointwise [val_main_v42, val_main_v41, val_main_v40]

end Cert.FwdAlgebra

end
-- ==== Proof.InprojPoint.lean ====
module

public import proofs.«01_k».proof.Proof.Gen.KernelInprojIdeal.Value
public import proofs.«01_k».proof.Proof.Tiles
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The input projection's backward launch: the arrays it reads at an index, and one grid point of it. -/

@[expose] public section

set_option maxRecDepth 16384

noncomputable section

namespace Cert.InprojPoint

open Idealize.ShloMosaic Idealize.ShloMosaic.TcCoe Idealize.SL.Sem Cert.KernelInprojIdeal Cert.KernelInprojIdeal.Gen Cert.KernelInprojIdeal.Value

variable (m : (ℓ : Loc nD τ sig) → Buf (Elt Ideal) ℓ) (c : Dev nD)
variable (t : Fin cfg0.N)

abbrev a0 : (⟨S16640x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x2312, .f32⟩ : BufTy).Contents (Elt Ideal) := m ((c : Thread nD τ).loc main_arg2)
abbrev a3 : (⟨S16640x1024, .f32⟩ : BufTy).Contents (Elt Ideal) := m ((c : Thread nD τ).loc main_arg3)
abbrev a4 : (⟨S16640x256, .f32⟩ : BufTy).Contents (Elt Ideal) := m ((c : Thread nD τ).loc main_arg4)
abbrev a5 : (⟨S16640x256, .f32⟩ : BufTy).Contents (Elt Ideal) := m ((c : Thread nD τ).loc main_arg5)
abbrev a6 : (⟨S16640x256, .f32⟩ : BufTy).Contents (Elt Ideal) := m ((c : Thread nD τ).loc main_arg6)
abbrev a7 : (⟨S4x16640x768, .f32⟩ : BufTy).Contents (Elt Ideal) := m ((c : Thread nD τ).loc main_arg7)
abbrev a8 : (⟨S16640x256, .f32⟩ : BufTy).Contents (Elt Ideal) := m ((c : Thread nD τ).loc main_arg8)
abbrev a9 : (⟨S16640x4, .f32⟩ : BufTy).Contents (Elt Ideal) := m ((c : Thread nD τ).loc main_arg9)
abbrev a10 : (⟨S16640x4, .f32⟩ : BufTy).Contents (Elt Ideal) := m ((c : Thread nD τ).loc main_arg10)
abbrev a11 : (⟨S16640x512, .f32⟩ : BufTy).Contents (Elt Ideal) := m ((c : Thread nD τ).loc main_arg11)

/-! One point. -/

abbrev Rows : Type := S320x1024.Idx → EReal
abbrev Row : Type := S1x1024.Idx → EReal
abbrev Weights : Type := S1024x2432.Idx → EReal
abbrev Packed : Type := S320x2432.Idx → EReal
abbrev Heads : Type := S320x256.Idx → EReal
abbrev Delays : Type := S4x320x768.Idx → EReal
abbrev Tails : Type := S4x8x768.Idx → EReal
abbrev Wide : Type := S320x512.Idx → EReal
abbrev Lanes : Type := S320x128.Idx → EReal

/-- The packed cotangent of a tile's projection. -/
def proj (more : EReal) (q k v : Heads) (x : Delays) (n : Tails) (z : Heads) (u : Wide) (ba : Lanes) : Packed :=
  k0_pay15 (F := Ideal)
    (k0_pay12 (F := Ideal) (iota Kind.tc S320x1 32 [0] iota_S320x1_d0_w32)
      (k0_pay7 (F := Ideal) (View.ld (Val := Elt Ideal) (S := S4x320x768) (e' := .f32) x (Rect.unit ![0, 0, 0] ![1, 320, 768] inb_S4x320x768_S1x320x768_0_0_0))
        (View.ld (Val := Elt Ideal) (S := S4x320x768) (e' := .f32) x (Rect.unit ![1, 0, 0] ![1, 320, 768] inb_S4x320x768_S1x320x768_1_0_0)))
      k0_pay9
      (k0_pay10 (F := Ideal) (View.ld (Val := Elt Ideal) (S := S4x320x768) (e' := .f32) x (Rect.unit ![2, 0, 0] ![1, 320, 768] inb_S4x320x768_S1x320x768_2_0_0)))
      (View.ld (Val := Elt Ideal) (S := S4x320x768) (e' := .f32) x (Rect.unit ![3, 0, 0] ![1, 320, 768] inb_S4x320x768_S1x320x768_3_0_0)))
    (k0_pay13 (F := Ideal) (iota Kind.tc S320x1 32 [0] iota_S320x1_d0_w32)
      (k0_pay7 (F := Ideal) (View.ld (Val := Elt Ideal) (S := S4x320x768) (e' := .f32) x (Rect.unit ![0, 0, 0] ![1, 320, 768] inb_S4x320x768_S1x320x768_0_0_0))
        (View.ld (Val := Elt Ideal) (S := S4x320x768) (e' := .f32) x (Rect.unit ![1, 0, 0] ![1, 320, 768] inb_S4x320x768_S1x320x768_1_0_0)))
      k0_pay9
      (k0_pay10 (F := Ideal) (View.ld (Val := Elt Ideal) (S := S4x320x768) (e' := .f32) x (Rect.unit ![2, 0, 0] ![1, 320, 768] inb_S4x320x768_S1x320x768_2_0_0)))
      (View.ld (Val := Elt Ideal) (S := S4x320x768) (e' := .f32) x (Rect.unit ![3, 0, 0] ![1, 320, 768] inb_S4x320x768_S1x320x768_3_0_0)))
    (k0_pay14 (F := Ideal) (iota Kind.tc S8x1 32 [0] iota_S8x1_d0_w32) more
      (k0_pay8 (F := Ideal) (View.ld (Val := Elt Ideal) (S := S4x8x768) (e' := .f32) n (Rect.unit ![1, 0, 0] ![1, 8, 768] inb_S4x8x768_S1x8x768_1_0_0)))
      (View.ld (Val := Elt Ideal) (S := S4x8x768) (e' := .f32) n (Rect.unit ![2, 0, 0] ![1, 8, 768] inb_S4x8x768_S1x8x768_2_0_0))
      (View.ld (Val := Elt Ideal) (S := S4x8x768) (e' := .f32) n (Rect.unit ![3, 0, 0] ![1, 8, 768] inb_S4x8x768_S1x8x768_3_0_0)))
    q k v z u ba

/-- The normed rows of a tile, and the two sums over its rows that it adds to the weights' gradients. -/
def normed (h : Rows) (g : Row) : Rows := k0_pay21 (F := Ideal) h g
def plusW (p : Packed) (h : Rows) (g : Row) (acc : Weights) : Weights := k0_pay1 (F := Ideal) p (normed h g) acc

theorem more_eq : k0_pay6 (F := Ideal) (grid0.coords t) = (if t.val < 51 then 1 else 0 : EReal) := by
  have e : ∀ t : Fin cfg0.N, (grid0.coords t 0).val = t.val := (by decide +kernel : ∀ t : Fin grid0.N, _)
  unfold_payloads
  rw [e]
  have b : ∀ t : Fin cfg0.N, (Scalar.extui (Scalar.cmpi .slt (BitVec.ofNat 32 t.val) 51#32) : BitVec 32).toInt = if t.val < 51 then 1 else 0 :=
    (by decide +kernel : ∀ t : Fin grid0.N, _)
  pointwise
  rw [b]
  split <;> simp

/-! The four delayed copies' cotangents, put back in place: three of them read rows below, the last rows of a tile
from the first rows of the next one. -/

theorem sel1 {α : Type} (a b : α) : Scalar.select 1#1 a b = a := if_pos rfl
theorem sel0 {α : Type} (a b : α) : Scalar.select 0#1 a b = b := if_neg (by decide)

theorem pay7_apply (v w : S1x320x768.Idx → EReal) (r : Fin 320) (f : Fin 768) :
    k0_pay7 (F := Ideal) v w (ix2 r f) = v (ix3 0 r f) + if h : r.val + 1 < 320 then w (ix3 0 ⟨r.val + 1, h⟩ f) else 0 := by
  have b : ∀ r : Fin 320, IntOp.cmpi .slt (BitVec.ofNat 32 r.val) 319#32 = if r.val < 319 then 1#1 else 0#1 := by decide +kernel
  unfold k0_pay7
  pointwise
  rw [b]
  by_cases h : r.val < 319
  · have e : (⟨(r.val + 320 - 319) % 320, by omega⟩ : Fin 320) = ⟨r.val + 1, by omega⟩ := Fin.ext (by show _ % 320 = r.val + 1; omega)
    rw [if_pos h, dif_pos (by omega), sel1, e]
  · rw [if_neg h, dif_neg (by omega), sel0]

theorem pay8_apply (v : S1x8x768.Idx → EReal) (r : Fin 8) (f : Fin 768) :
    k0_pay8 (F := Ideal) v (ix2 r f) = if h : 7 ≤ r.val then v (ix3 0 ⟨r.val - 7, by omega⟩ f) else 0 := by
  have b : ∀ r : Fin 8, IntOp.cmpi .sge (BitVec.ofNat 32 r.val) 7#32 = if 7 ≤ r.val then 1#1 else 0#1 := by decide +kernel
  unfold k0_pay8
  pointwise
  rw [b]
  by_cases h : 7 ≤ r.val
  · have e : (⟨(r.val + 8 - 7) % 8, by omega⟩ : Fin 8) = ⟨r.val - 7, by omega⟩ := Fin.ext (by show _ % 8 = r.val - 7; omega)
    rw [if_pos h, dif_pos h, sel1, e]
  · rw [if_neg h, dif_neg h, sel0]

theorem pay11_apply (s v : S320x768.Idx → EReal) (w : S1x320x768.Idx → EReal) (r : Fin 320) (f : Fin 768) :
    k0_pay11 (F := Ideal) (iota Kind.tc S320x1 32 [0] iota_S320x1_d0_w32) s k0_pay9 v w (ix2 r f)
      = s (ix2 r f) + (if h : r.val + 2 < 320 then v (ix2 ⟨r.val + 2, h⟩ f) else 0)
        + if h : r.val + 3 < 320 then w (ix3 0 ⟨r.val + 3, h⟩ f) else 0 := by
  have b2 : ∀ r : Fin 320, IntOp.cmpi .slt (BitVec.ofNat 32 r.val) 318#32 = if r.val < 318 then 1#1 else 0#1 := by decide +kernel
  have b3 : ∀ r : Fin 320, IntOp.cmpi .slt (BitVec.ofNat 32 r.val) 317#32 = if r.val < 317 then 1#1 else 0#1 := by decide +kernel
  unfold k0_pay11 k0_pay9
  pointwise
  rw [b2, b3]
  congr 1
  · congr 1
    by_cases h : r.val < 318
    · have e : (⟨(r.val + 320 - 318) % 320, by omega⟩ : Fin 320) = ⟨r.val + 2, by omega⟩ := Fin.ext (by show _ % 320 = r.val + 2; omega)
      rw [if_pos h, dif_pos (by omega), sel1, e]
    · rw [if_neg h, dif_neg (by omega), sel0]
  · by_cases h : r.val < 317
    · have e : (⟨(r.val + 320 - 317) % 320, by omega⟩ : Fin 320) = ⟨r.val + 3, by omega⟩ := Fin.ext (by show _ % 320 = r.val + 3; omega)
      rw [if_pos h, dif_pos (by omega), sel1, e]
    · rw [if_neg h, dif_neg (by omega), sel0]

theorem pay14_apply (more : EReal) (s : S8x768.Idx → EReal) (v w : S1x8x768.Idx → EReal) (r : Fin 8) (f : Fin 768) :
    k0_pay14 (F := Ideal) (iota Kind.tc S8x1 32 [0] iota_S8x1_d0_w32) more s v w (ix2 r f)
      = more * (s (ix2 r f) + (if h : 6 ≤ r.val then v (ix3 0 ⟨r.val - 6, by omega⟩ f) else 0)
        + if h : 5 ≤ r.val then w (ix3 0 ⟨r.val - 5, by omega⟩ f) else 0) := by
  have b2 : ∀ r : Fin 8, IntOp.cmpi .sge (BitVec.ofNat 32 r.val) 6#32 = if 6 ≤ r.val then 1#1 else 0#1 := by decide +kernel
  have b3 : ∀ r : Fin 8, IntOp.cmpi .sge (BitVec.ofNat 32 r.val) 5#32 = if 5 ≤ r.val then 1#1 else 0#1 := by decide +kernel
  unfold k0_pay14
  pointwise
  rw [b2, b3]
  congr 2
  · congr 1
    by_cases h : 6 ≤ r.val
    · have e : (⟨(r.val + 8 - 6) % 8, by omega⟩ : Fin 8) = ⟨r.val - 6, by omega⟩ := Fin.ext (by show _ % 8 = r.val - 6; omega)
      rw [if_pos h, dif_pos h, sel1, e]
    · rw [if_neg h, dif_neg h, sel0]
  · by_cases h : 5 ≤ r.val
    · have e : (⟨(r.val + 8 - 5) % 8, by omega⟩ : Fin 8) = ⟨r.val - 5, by omega⟩ := Fin.ext (by show _ % 8 = r.val - 5; omega)
      rw [if_pos h, dif_pos h, sel1, e]
    · rw [if_neg h, dif_neg h, sel0]

/-- Copy `s` of the cotangents as seen from row `r`: `s` rows below, in the next tile past the end of this one. -/
def below (more : EReal) (x : Delays) (n : Tails) (s : Fin 4) (r : Fin 320) (f : Fin 768) : EReal :=
  if h : r.val + s.val < 320 then x (ix3 s ⟨r.val + s.val, h⟩ f)
  else more * n (ix3 s ⟨r.val + s.val - 320, by omega⟩ f)

section
variable (more : EReal) (q k v : Heads) (x : Delays) (n : Tails) (z : Heads) (u : Wide) (ba : Lanes) (r : Fin 320)
variable (A : S312x768.Idx → EReal) (B C : S8x768.Idx → EReal)

theorem pay15_q (f : Fin 256) : k0_pay15 (F := Ideal) A B C q k v z u ba (ix2 r ⟨f.val, by omega⟩) = q (ix2 r f) := by
  unfold k0_pay15
  generalize hb : shapeCast S320x128 _ shapeCasts_S320x128_S320x128 = ba'
  pointwise

theorem proj_q (f : Fin 256) : proj more q k v x n z u ba (ix2 r ⟨f.val, by omega⟩) = q (ix2 r f) :=
  pay15_q q k v z u ba r _ _ _ f

theorem pay15_k (f : Fin 256) : k0_pay15 (F := Ideal) A B C q k v z u ba (ix2 r ⟨256 + f.val, by omega⟩) = k (ix2 r f) := by
  unfold k0_pay15
  generalize hb : shapeCast S320x128 _ shapeCasts_S320x128_S320x128 = ba'
  pointwise

theorem proj_k (f : Fin 256) : proj more q k v x n z u ba (ix2 r ⟨256 + f.val, by omega⟩) = k (ix2 r f) :=
  pay15_k q k v z u ba r _ _ _ f

theorem pay15_v (f : Fin 256) : k0_pay15 (F := Ideal) A B C q k v z u ba (ix2 r ⟨512 + f.val, by omega⟩) = v (ix2 r f) := by
  unfold k0_pay15
  generalize hb : shapeCast S320x128 _ shapeCasts_S320x128_S320x128 = ba'
  pointwise
  rw [dif_neg (by omega), dif_neg (by omega), dif_pos (by omega)]
  exact congrArg v (congrArg (ix2 r) (Fin.ext (by show 512 + f.val - 256 - 256 = f.val; omega)))

theorem proj_v (f : Fin 256) : proj more q k v x n z u ba (ix2 r ⟨512 + f.val, by omega⟩) = v (ix2 r f) :=
  pay15_v q k v z u ba r _ _ _ f

theorem pay15_z (f : Fin 256) : k0_pay15 (F := Ideal) A B C q k v z u ba (ix2 r ⟨1536 + f.val, by omega⟩) = z (ix2 r f) := by
  unfold k0_pay15
  generalize hb : shapeCast S320x128 _ shapeCasts_S320x128_S320x128 = ba'
  pointwise
  rw [dif_neg (by omega), dif_neg (by omega), dif_neg (by omega), dif_neg (by omega), dif_pos (by omega)]
  exact congrArg z (congrArg (ix2 r) (Fin.ext (by show 1536 + f.val - 256 - 256 - 256 - 768 = f.val; omega)))

theorem proj_z (f : Fin 256) : proj more q k v x n z u ba (ix2 r ⟨1536 + f.val, by omega⟩) = z (ix2 r f) :=
  pay15_z q k v z u ba r _ _ _ f

theorem pay15_u (f : Fin 512) : k0_pay15 (F := Ideal) A B C q k v z u ba (ix2 r ⟨1792 + f.val, by omega⟩) = u (ix2 r f) := by
  unfold k0_pay15
  generalize hb : shapeCast S320x128 _ shapeCasts_S320x128_S320x128 = ba'
  pointwise
  rw [dif_neg (by omega), dif_neg (by omega), dif_neg (by omega), dif_neg (by omega), dif_neg (by omega), dif_pos (by omega)]
  exact congrArg u (congrArg (ix2 r) (Fin.ext (by show 1792 + f.val - 256 - 256 - 256 - 768 - 256 = f.val; omega)))

theorem proj_u (f : Fin 512) : proj more q k v x n z u ba (ix2 r ⟨1792 + f.val, by omega⟩) = u (ix2 r f) :=
  pay15_u q k v z u ba r _ _ _ f

theorem pay15_ba (f : Fin 128) : k0_pay15 (F := Ideal) A B C q k v z u ba (ix2 r ⟨2304 + f.val, by omega⟩) = ba (ix2 r f) := by
  unfold k0_pay15
  generalize hb : shapeCast S320x128 _ shapeCasts_S320x128_S320x128 = ba'
  pointwise
  rw [dif_neg (by omega), dif_neg (by omega), dif_neg (by omega), dif_neg (by omega), dif_neg (by omega), dif_neg (by omega)]
  obtain rfl : ba' = ba := hb.symm.trans (shapeCast_id _ _)
  exact congrArg _ (congrArg (ix2 r) (Fin.ext (by show 2304 + f.val - 256 - 256 - 256 - 768 - 256 - 512 = f.val; omega)))

theorem proj_ba (f : Fin 128) : proj more q k v x n z u ba (ix2 r ⟨2304 + f.val, by omega⟩) = ba (ix2 r f) :=
  pay15_ba q k v z u ba r _ _ _ f

theorem pay15_mid (f : Fin 768) : k0_pay15 (F := Ideal) A B C q k v z u ba (ix2 r ⟨768 + f.val, by omega⟩)
    = if h : r.val < 312 then A (ix2 ⟨r.val, h⟩ f)
      else B (ix2 ⟨r.val - 312, by omega⟩ f) + C (ix2 ⟨r.val - 312, by omega⟩ f) := by
  have e : (⟨768 + f.val - 256 - 256 - 256, by omega⟩ : Fin 768) = f := Fin.ext (by show 768 + f.val - 256 - 256 - 256 = f.val; omega)
  unfold k0_pay15
  generalize hb : shapeCast S320x128 _ shapeCasts_S320x128_S320x128 = ba'
  pointwise
  rw [dif_neg (by omega), dif_neg (by omega), dif_neg (by omega), dif_pos (by omega)]
  simp only [e]

theorem ld_x (s : Fin 4) (h : _) (r : Fin 320) (f : Fin 768) :
    View.ld (Val := Elt Ideal) (S := S4x320x768) (e' := .f32) x (Rect.unit ![s.val, 0, 0] ![1, 320, 768] h) (ix3 0 r f) = x (ix3 s r f) := by
  pointwise

theorem ld_n (s : Fin 4) (h : _) (r : Fin 8) (f : Fin 768) :
    View.ld (Val := Elt Ideal) (S := S4x8x768) (e' := .f32) n (Rect.unit ![s.val, 0, 0] ![1, 8, 768] h) (ix3 0 r f) = n (ix3 s r f) := by
  pointwise

theorem pay12_apply (s v : S320x768.Idx → EReal) (w : S1x320x768.Idx → EReal) (r : Fin 312) (f : Fin 768) :
    k0_pay12 (F := Ideal) (iota Kind.tc S320x1 32 [0] iota_S320x1_d0_w32) s k0_pay9 v w (ix2 r f)
      = k0_pay11 (F := Ideal) (iota Kind.tc S320x1 32 [0] iota_S320x1_d0_w32) s k0_pay9 v w (ix2 ⟨r.val, by omega⟩ f) := by
  unfold k0_pay12
  pointwise

theorem pay13_apply (s v : S320x768.Idx → EReal) (w : S1x320x768.Idx → EReal) (r : Fin 8) (f : Fin 768) :
    k0_pay13 (F := Ideal) (iota Kind.tc S320x1 32 [0] iota_S320x1_d0_w32) s k0_pay9 v w (ix2 r f)
      = k0_pay11 (F := Ideal) (iota Kind.tc S320x1 32 [0] iota_S320x1_d0_w32) s k0_pay9 v w (ix2 ⟨312 + r.val, by omega⟩ f) := by
  unfold k0_pay13
  pointwise

theorem pay10_apply (v : S1x320x768.Idx → EReal) (r : Fin 320) (f : Fin 768) :
    k0_pay10 (F := Ideal) v (ix2 r f) = v (ix3 0 r f) := by
  unfold k0_pay10
  pointwise

theorem proj_mid (hm : more = 0 ∨ more = 1) (f : Fin 768) : proj more q k v x n z u ba (ix2 r ⟨768 + f.val, by omega⟩)
    = x (ix3 0 r f) + below more x n 1 r f + below more x n 2 r f + below more x n 3 r f := by
  unfold proj
  rw [pay15_mid]
  by_cases h : r.val < 312
  · have h1 : r.val + 1 < 320 := by omega
    have h2 : r.val + 2 < 320 := by omega
    have h3 : r.val + 3 < 320 := by omega
    rw [dif_pos h, pay12_apply, pay11_apply, pay7_apply, dif_pos h1, dif_pos h2, dif_pos h3, pay10_apply]
    unfold below
    rw [dif_pos (show r.val + (1 : Fin 4).val < 320 from h1), dif_pos (show r.val + (2 : Fin 4).val < 320 from h2), dif_pos (show r.val + (3 : Fin 4).val < 320 from h3)]
    pointwise
  · rw [dif_neg h, pay13_apply, pay11_apply, pay7_apply, pay14_apply, pay8_apply]
    simp only [pay10_apply]
    unfold below
    have hr : ∀ r' : Fin 8, 312 + r'.val < 320 := fun r' => by omega
    obtain ⟨r', rfl⟩ : ∃ r' : Fin 8, r = ⟨312 + r'.val, hr r'⟩ := ⟨⟨r.val - 312, by omega⟩, Fin.ext (by show r.val = 312 + (r.val - 312); omega)⟩
    rcases hm with rfl | rfl
    · fin_cases r' <;> pointwise <;> simp only [zero_mul, mul_zero, one_mul, zero_add, add_zero, add_assoc]
    · fin_cases r' <;> pointwise <;> simp only [zero_mul, mul_zero, one_mul, zero_add, add_zero, add_assoc]

/-! The rest of a point. -/

/-- The cotangent of the normed rows. -/
def dxn (w : Weights) : Rows := k0_pay22 (F := Ideal)
    (k0_pay12 (F := Ideal) (iota Kind.tc S320x1 32 [0] iota_S320x1_d0_w32)
      (k0_pay7 (F := Ideal) (View.ld (Val := Elt Ideal) (S := S4x320x768) (e' := .f32) x (Rect.unit ![0, 0, 0] ![1, 320, 768] inb_S4x320x768_S1x320x768_0_0_0))
        (View.ld (Val := Elt Ideal) (S := S4x320x768) (e' := .f32) x (Rect.unit ![1, 0, 0] ![1, 320, 768] inb_S4x320x768_S1x320x768_1_0_0)))
      k0_pay9
      (k0_pay10 (F := Ideal) (View.ld (Val := Elt Ideal) (S := S4x320x768) (e' := .f32) x (Rect.unit ![2, 0, 0] ![1, 320, 768] inb_S4x320x768_S1x320x768_2_0_0)))
      (View.ld (Val := Elt Ideal) (S := S4x320x768) (e' := .f32) x (Rect.unit ![3, 0, 0] ![1, 320, 768] inb_S4x320x768_S1x320x768_3_0_0)))
    (k0_pay13 (F := Ideal) (iota Kind.tc S320x1 32 [0] iota_S320x1_d0_w32)
      (k0_pay7 (F := Ideal) (View.ld (Val := Elt Ideal) (S := S4x320x768) (e' := .f32) x (Rect.unit ![0, 0, 0] ![1, 320, 768] inb_S4x320x768_S1x320x768_0_0_0))
        (View.ld (Val := Elt Ideal) (S := S4x320x768) (e' := .f32) x (Rect.unit ![1, 0, 0] ![1, 320, 768] inb_S4x320x768_S1x320x768_1_0_0)))
      k0_pay9
      (k0_pay10 (F := Ideal) (View.ld (Val := Elt Ideal) (S := S4x320x768) (e' := .f32) x (Rect.unit ![2, 0, 0] ![1, 320, 768] inb_S4x320x768_S1x320x768_2_0_0)))
      (View.ld (Val := Elt Ideal) (S := S4x320x768) (e' := .f32) x (Rect.unit ![3, 0, 0] ![1, 320, 768] inb_S4x320x768_S1x320x768_3_0_0)))
    (k0_pay14 (F := Ideal) (iota Kind.tc S8x1 32 [0] iota_S8x1_d0_w32) more
      (k0_pay8 (F := Ideal) (View.ld (Val := Elt Ideal) (S := S4x8x768) (e' := .f32) n (Rect.unit ![1, 0, 0] ![1, 8, 768] inb_S4x8x768_S1x8x768_1_0_0)))
      (View.ld (Val := Elt Ideal) (S := S4x8x768) (e' := .f32) n (Rect.unit ![2, 0, 0] ![1, 8, 768] inb_S4x8x768_S1x8x768_2_0_0))
      (View.ld (Val := Elt Ideal) (S := S4x8x768) (e' := .f32) n (Rect.unit ![3, 0, 0] ![1, 8, 768] inb_S4x8x768_S1x8x768_3_0_0)))
    q k v z u ba w

theorem dxn_apply (w : Weights) (d : Fin 1024) : dxn more q k v x n z u ba w (ix2 r d)
    = ∑ j, proj more q k v x n z u ba (ix2 r j) * w (ix2 d j) := by
  unfold dxn k0_pay22
  pointwise
  rfl

end

/-- The gradient of the rows, from the cotangent `y` of the normed rows. -/
def rows (h : Rows) (g : Row) (y dres : Rows) : Rows :=
  k0_pay2 (F := Ideal) h (k0_pay18 (F := Ideal) h) (k0_pay19 (F := Ideal) h) y (k0_pay24 (F := Ideal) g) dres

/-- The padded mean of a row's squares. -/
def ms (h : Fin 1024 → EReal) : EReal :=
  Ideal.div (∑ x, h x * h x) (Ideal.ofBits .f32 0x44800000#32) + Ideal.ofBits .f32 0x358637BD#32

/-- What each of the two factors of a row's squares contributes to its gradient, less the row itself. -/
def pull (h y : Fin 1024 → EReal) : EReal :=
  Ideal.div ((∑ x, h x * y x) * (Ideal.ofBits .f32 0xBF000000#32 * Ideal.div (Ideal.rsqrt (ms h)) (ms h)))
    (Ideal.ofBits .f32 0x44800000#32)

theorem normed_apply (h : Rows) (g : Row) (k : Fin 320) (d : Fin 1024) :
    normed h g (ix2 k d) = h (ix2 k d) * Ideal.rsqrt (ms fun e => h (ix2 k e)) * g (ix2 0 d) := by
  unfold normed
  unfold_payloads
  pointwise [ms]

theorem plusW_apply (p : Packed) (h : Rows) (g : Row) (acc : Weights) (d : Fin 1024) (j : Fin 2432) :
    plusW p h g acc (ix2 d j) = acc (ix2 d j) + ∑ k, normed h g (ix2 k d) * p (ix2 k j) := by
  unfold plusW k0_pay1
  pointwise

theorem rows_apply (h : Rows) (g : Row) (y dres : Rows) (k : Fin 320) (d : Fin 1024) :
    rows h g y dres (ix2 k d) = dres (ix2 k d) + (y (ix2 k d) * g (ix2 0 d) * Ideal.rsqrt (ms fun e => h (ix2 k e))
      + h (ix2 k d) * pull (fun e => h (ix2 k e)) (fun e => y (ix2 k e) * g (ix2 0 e))
      + pull (fun e => h (ix2 k e)) (fun e => y (ix2 k e) * g (ix2 0 e)) * h (ix2 k d)) := by
  unfold rows
  unfold_payloads
  pointwise [ms, pull, Finset.univ_unique, Finset.sum_singleton, Fin.default_eq_zero]

abbrev more (t : Fin cfg0.N) : EReal := k0_pay6 (F := Ideal) (grid0.coords t)
abbrev projB : Packed := proj (more t) (iblk m c 4 t) (iblk m c 5 t) (iblk m c 6 t) (iblk m c 7 t) (iblk m c 8 t) (iblk m c 9 t) (iblk m c 10 t) (iblk m c 11 t)
abbrev dxnB : Rows := dxn (more t) (iblk m c 4 t) (iblk m c 5 t) (iblk m c 6 t) (iblk m c 7 t) (iblk m c 8 t) (iblk m c 9 t) (iblk m c 10 t) (iblk m c 11 t) (iblk m c 2 t)

theorem outs_rows : (outsAt0 m c t.val t.isLt).1 = rows (iblk m c 0 t) (iblk m c 1 t) (dxnB m c t) (iblk m c 3 t) := by
  by_cases h0 : t.val % 52 = 0
  · rw [outsAt0_A m c t h0]
    frame_out
    rfl
  · rw [outsAt0_B m c t h0]
    frame_out
    rfl

theorem outs_weights_first (h0 : t.val % 52 = 0) :
    (outsAt0 m c t.val t.isLt).2.2 = plusW (projB m c t) (iblk m c 0 t) (iblk m c 1 t) (k0_pay5 (F := Ideal)) := by
  rw [outsAt0_A m c t h0]
  frame_out
  rfl

theorem outs_weights (h0 : ¬t.val % 52 = 0) : (outsAt0 m c t.val t.isLt).2.2
    = plusW (projB m c t) (iblk m c 0 t) (iblk m c 1 t) (outsAt0 m c (t.val - 1) (by omega)).2.2 := by
  rw [outsAt0_B m c t h0]
  frame_out
  rfl

/-- A point's sum over its rows for the gain. -/
def gain : Row := k0_pay23 (F := Ideal) (k0_pay12 (F := Ideal) (iota Kind.tc S320x1 32 [0] iota_S320x1_d0_w32)
      (k0_pay7 (F := Ideal) (View.ld (Val := Elt Ideal) (S := S4x320x768) (e' := .f32) (iblk m c 7 t) (Rect.unit ![0, 0, 0] ![1, 320, 768] inb_S4x320x768_S1x320x768_0_0_0))
        (View.ld (Val := Elt Ideal) (S := S4x320x768) (e' := .f32) (iblk m c 7 t) (Rect.unit ![1, 0, 0] ![1, 320, 768] inb_S4x320x768_S1x320x768_1_0_0)))
      k0_pay9
      (k0_pay10 (F := Ideal) (View.ld (Val := Elt Ideal) (S := S4x320x768) (e' := .f32) (iblk m c 7 t) (Rect.unit ![2, 0, 0] ![1, 320, 768] inb_S4x320x768_S1x320x768_2_0_0)))
      (View.ld (Val := Elt Ideal) (S := S4x320x768) (e' := .f32) (iblk m c 7 t) (Rect.unit ![3, 0, 0] ![1, 320, 768] inb_S4x320x768_S1x320x768_3_0_0)))
    (k0_pay13 (F := Ideal) (iota Kind.tc S320x1 32 [0] iota_S320x1_d0_w32)
      (k0_pay7 (F := Ideal) (View.ld (Val := Elt Ideal) (S := S4x320x768) (e' := .f32) (iblk m c 7 t) (Rect.unit ![0, 0, 0] ![1, 320, 768] inb_S4x320x768_S1x320x768_0_0_0))
        (View.ld (Val := Elt Ideal) (S := S4x320x768) (e' := .f32) (iblk m c 7 t) (Rect.unit ![1, 0, 0] ![1, 320, 768] inb_S4x320x768_S1x320x768_1_0_0)))
      k0_pay9
      (k0_pay10 (F := Ideal) (View.ld (Val := Elt Ideal) (S := S4x320x768) (e' := .f32) (iblk m c 7 t) (Rect.unit ![2, 0, 0] ![1, 320, 768] inb_S4x320x768_S1x320x768_2_0_0)))
      (View.ld (Val := Elt Ideal) (S := S4x320x768) (e' := .f32) (iblk m c 7 t) (Rect.unit ![3, 0, 0] ![1, 320, 768] inb_S4x320x768_S1x320x768_3_0_0)))
    (k0_pay14 (F := Ideal) (iota Kind.tc S8x1 32 [0] iota_S8x1_d0_w32) (more t)
      (k0_pay8 (F := Ideal) (View.ld (Val := Elt Ideal) (S := S4x8x768) (e' := .f32) (iblk m c 8 t) (Rect.unit ![1, 0, 0] ![1, 8, 768] inb_S4x8x768_S1x8x768_1_0_0)))
      (View.ld (Val := Elt Ideal) (S := S4x8x768) (e' := .f32) (iblk m c 8 t) (Rect.unit ![2, 0, 0] ![1, 8, 768] inb_S4x8x768_S1x8x768_2_0_0))
      (View.ld (Val := Elt Ideal) (S := S4x8x768) (e' := .f32) (iblk m c 8 t) (Rect.unit ![3, 0, 0] ![1, 8, 768] inb_S4x8x768_S1x8x768_3_0_0)))
    (iblk m c 4 t) (iblk m c 5 t) (iblk m c 6 t) (iblk m c 9 t) (iblk m c 10 t) (iblk m c 11 t) (iblk m c 0 t) (iblk m c 2 t)

abbrev hB : Rows := iblk m c 0 t

theorem gain_apply (d : Fin 1024) : gain m c t (ix2 0 d)
    = ∑ k, hB m c t (ix2 k d) * Ideal.rsqrt (ms fun e => hB m c t (ix2 k e)) * dxnB m c t (ix2 k d) := by
  unfold gain k0_pay23 k0_pay20 k0_pay18 k0_pay17
  pointwise [ms]
  rfl

theorem outs_gain_first (h0 : t.val % 52 = 0) : (outsAt0 m c t.val t.isLt).2.1
    = k0_pay3 (F := Ideal) (gain m c t) (k0_pay4 (F := Ideal)) := by
  rw [outsAt0_A m c t h0]
  frame_out
  rfl

theorem outs_gain (h0 : ¬t.val % 52 = 0) : (outsAt0 m c t.val t.isLt).2.1
    = k0_pay3 (F := Ideal) (gain m c t) (outsAt0 m c (t.val - 1) (by omega)).2.1 := by
  rw [outsAt0_B m c t h0]
  frame_out
  rfl

theorem pay3_apply (y acc : Row) (d : Fin 1024) : k0_pay3 (F := Ideal) y acc (ix2 0 d) = acc (ix2 0 d) + y (ix2 0 d) := by
  unfold_payloads
  pointwise

theorem pay4_apply (d : Fin 1024) : k0_pay4 (F := Ideal) (ix2 0 d) = (0 : EReal) := by
  unfold_payloads
  pointwise

theorem pay5_apply (d : Fin 1024) (j : Fin 2432) : k0_pay5 (F := Ideal) (ix2 d j) = (0 : EReal) := by
  unfold_payloads
  pointwise

end Cert.InprojPoint

end
-- ==== Proof.InprojRef.lean ====
module

public import proofs.«01_k».proof.Proof.Gen.ReferenceInprojIdeal.Read
public import Idealize.ShloMosaic.Lib.Pointwise
public import Idealize.ShloMosaic.Lib.StableHlo.ReadAt

/-! The input projection's gradient as the reference writes it, each of its arrays at an index. -/

@[expose] public section

set_option maxRecDepth 16384

noncomputable section

namespace Cert.InprojRef

open Idealize.ShloMosaic Idealize.ShloMosaic.TcCoe Idealize.SL.Sem Cert.ReferenceInprojIdeal Cert.ReferenceInprojIdeal.Gen Cert.ReferenceInprojIdeal.Read

variable (x0 x3 : S16640x1024.Idx → EReal) (x1 : S1024.Idx → EReal) (x2 : S1024x2312.Idx → EReal)
  (x4 x5 x6 x8 : S16640x256.Idx → EReal) (x7 : S4x16640x768.Idx → EReal) (x9 x10 : S16640x4.Idx → EReal) (x11 : S16640x512.Idx → EReal)

/-- The cotangent of the projection. -/
def cot : S16640x2312.Idx → EReal := val_main_v67 (F := Ideal) x4 x5 x6 x7 x8 x9 x10 x11

/-- Copy `s` of the cotangents `s` rows below, nothing past the end. -/
def after (s : Fin 4) (r : Fin 16640) (f : Fin 768) : EReal :=
  if h : r.val + s.val < 16640 then x7 (ix3 s ⟨r.val + s.val, h⟩ f) else 0

theorem after_eq (s : Fin 4) (n : ℕ) (hn : n + s.val = 16640) (r : Fin 16640) (f : Fin 768) :
    (if h : r.val < n then x7 (ix3 s ⟨s.val + r.val, by omega⟩ f) else 0) = after x7 s r f := by
  unfold after
  by_cases h : r.val < n
  · rw [dif_pos h, dif_pos (by omega)]
    exact congrArg x7 (congrArg (fun k => ix3 s k f) (Fin.ext (Nat.add_comm _ _)))
  · rw [dif_neg h, dif_neg (by omega)]

theorem mid_apply (r : Fin 16640) (f : Fin 768) : val_main_v66 (F := Ideal) x7 (ix2 r f)
    = x7 (ix3 0 r f) + after x7 1 r f + after x7 2 r f + after x7 3 r f := by
  have e1 : (if h : r.val < 16639 then x7 (ix3 1 ⟨1 + r.val, by omega⟩ f) else 0) = after x7 1 r f := after_eq x7 1 16639 rfl r f
  have e2 : (if h : r.val < 16638 then x7 (ix3 2 ⟨2 + r.val, by omega⟩ f) else 0) = after x7 2 r f := after_eq x7 2 16638 rfl r f
  have e3 : (if h : r.val < 16637 then x7 (ix3 3 ⟨3 + r.val, by omega⟩ f) else 0) = after x7 3 r f := after_eq x7 3 16637 rfl r f
  pointwise [val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49, val_main_v48,
    val_main_v47, val_main_v46, val_main_v45, val_main_cst_11, val_main_cst_12, val_main_cst_13]
  rw [e1, e2, e3]
  ac_rfl

theorem cot_x4 (r : Fin 16640) (f : Fin 256) : cot x4 x5 x6 x8 x7 x9 x10 x11 (ix2 r ⟨f.val, by omega⟩) = x4 (ix2 r f) := by
  unfold cot val_main_v67
  pointwise

theorem cot_x5 (r : Fin 16640) (f : Fin 256) : cot x4 x5 x6 x8 x7 x9 x10 x11 (ix2 r ⟨256 + f.val, by omega⟩) = x5 (ix2 r f) := by
  unfold cot val_main_v67
  pointwise

theorem cot_x6 (r : Fin 16640) (f : Fin 256) : cot x4 x5 x6 x8 x7 x9 x10 x11 (ix2 r ⟨512 + f.val, by omega⟩) = x6 (ix2 r f) := by
  unfold cot val_main_v67
  pointwise
  rw [dif_neg (by omega), dif_neg (by omega), dif_pos (by omega)]
  exact congrArg _ (congrArg (ix2 r) (Fin.ext (by show 512 + f.val - 256 - 256 = f.val; omega)))

theorem cot_x8 (r : Fin 16640) (f : Fin 256) : cot x4 x5 x6 x8 x7 x9 x10 x11 (ix2 r ⟨1536 + f.val, by omega⟩) = x8 (ix2 r f) := by
  unfold cot val_main_v67
  pointwise
  rw [dif_neg (by omega), dif_neg (by omega), dif_neg (by omega), dif_neg (by omega), dif_pos (by omega)]
  exact congrArg _ (congrArg (ix2 r) (Fin.ext (by show 1536 + f.val - 256 - 256 - 256 - 768 = f.val; omega)))

theorem cot_x9 (r : Fin 16640) (f : Fin 4) : cot x4 x5 x6 x8 x7 x9 x10 x11 (ix2 r ⟨1792 + f.val, by omega⟩) = x9 (ix2 r f) := by
  unfold cot val_main_v67
  pointwise
  rw [dif_neg (by omega), dif_neg (by omega), dif_neg (by omega), dif_neg (by omega), dif_neg (by omega), dif_pos (by omega)]
  exact congrArg _ (congrArg (ix2 r) (Fin.ext (by show 1792 + f.val - 256 - 256 - 256 - 768 - 256 = f.val; omega)))

theorem cot_x10 (r : Fin 16640) (f : Fin 4) : cot x4 x5 x6 x8 x7 x9 x10 x11 (ix2 r ⟨1796 + f.val, by omega⟩) = x10 (ix2 r f) := by
  unfold cot val_main_v67
  pointwise
  rw [dif_neg (by omega), dif_neg (by omega), dif_neg (by omega), dif_neg (by omega), dif_neg (by omega), dif_neg (by omega), dif_pos (by omega)]
  exact congrArg _ (congrArg (ix2 r) (Fin.ext (by show 1796 + f.val - 256 - 256 - 256 - 768 - 256 - 4 = f.val; omega)))

theorem cot_x11 (r : Fin 16640) (f : Fin 512) : cot x4 x5 x6 x8 x7 x9 x10 x11 (ix2 r ⟨1800 + f.val, by omega⟩) = x11 (ix2 r f) := by
  unfold cot val_main_v67
  pointwise
  rw [dif_neg (by omega), dif_neg (by omega), dif_neg (by omega), dif_neg (by omega), dif_neg (by omega), dif_neg (by omega), dif_neg (by omega)]
  exact congrArg _ (congrArg (ix2 r) (Fin.ext (by show 1800 + f.val - 256 - 256 - 256 - 768 - 256 - 4 - 4 = f.val; omega)))

theorem cot_mid (r : Fin 16640) (f : Fin 768) : cot x4 x5 x6 x8 x7 x9 x10 x11 (ix2 r ⟨768 + f.val, by omega⟩)
    = x7 (ix3 0 r f) + after x7 1 r f + after x7 2 r f + after x7 3 r f := by
  have e : (⟨768 + f.val - 256 - 256 - 256, by omega⟩ : Fin 768) = f := Fin.ext (by show 768 + f.val - 256 - 256 - 256 = f.val; omega)
  unfold cot val_main_v67
  pointwise
  rw [dif_neg (by omega), dif_neg (by omega), dif_neg (by omega), dif_pos (by omega), e, mid_apply]

/-- The padded mean of a row's squares. -/
def ms (h : Fin 1024 → EReal) : EReal :=
  Ideal.div (∑ x, h x * h x) (Ideal.ofBits .f32 0x44800000#32) + Ideal.ofBits .f32 0x358637BD#32

/-- The cotangent of the normed rows, through the weights. -/
def dxn (r : Fin 16640) (d : Fin 1024) : EReal := ∑ j, cot x4 x5 x6 x8 x7 x9 x10 x11 (ix2 r j) * x2 (ix2 d j)

theorem v70_apply (r : Fin 16640) (d : Fin 1024) : val_main_v70 (F := Ideal) x2 x4 x5 x6 x7 x8 x9 x10 x11 (ix2 r d)
    = dxn x2 x4 x5 x6 x8 x7 x9 x10 x11 r d := by
  unfold val_main_v70 dxn cot
  pointwise

/-- What each of the two factors of a row's squares contributes to its gradient, less the row itself. -/
def pull (h y : Fin 1024 → EReal) : EReal :=
  Ideal.div ((∑ x, h x * y x) * (Ideal.ofBits .f32 0xBF000000#32 * Ideal.div (Ideal.rsqrt (ms h)) (ms h)))
    (Ideal.ofBits .f32 0x44800000#32)

theorem v92_apply (d : Fin 1024) : val_main_v92 (F := Ideal) x0 x2 x4 x5 x6 x7 x8 x9 x10 x11 (ix2 0 d)
    = ∑ r, x0 (ix2 r d) * Ideal.rsqrt (ms fun e => x0 (ix2 r e)) * dxn x2 x4 x5 x6 x8 x7 x9 x10 x11 r d := by
  pointwise [Finset.univ_unique, Finset.sum_singleton, val_main_cst_14, val_main_v92, val_main_v76, val_main_v73, val_main_v72, val_main_v71, val_main_v75, val_main_v12, val_main_v11, val_main_v8, val_main_v7, val_main_v6, val_main_v5,
    val_main_v4, val_main_v3, val_main_v2, val_main_v1, val_main_v0, v70_apply, ms, val_main_cst, val_main_cst_0, val_main_cst_1, val_main_cst_15]

theorem v91_apply (r : Fin 16640) (d : Fin 1024) : val_main_v91 (F := Ideal) x0 x1 x2 x3 x4 x5 x6 x7 x8 x9 x10 x11 (ix2 r d)
    = x3 (ix2 r d) + dxn x2 x4 x5 x6 x8 x7 x9 x10 x11 r d * x1 (ix1 d) * Ideal.rsqrt (ms fun e => x0 (ix2 r e))
      + x0 (ix2 r d) * pull (fun e => x0 (ix2 r e)) (fun e => dxn x2 x4 x5 x6 x8 x7 x9 x10 x11 r e * x1 (ix1 e))
      + pull (fun e => x0 (ix2 r e)) (fun e => dxn x2 x4 x5 x6 x8 x7 x9 x10 x11 r e * x1 (ix1 e)) * x0 (ix2 r d) := by
  pointwise [Finset.univ_unique, Finset.sum_singleton, Fin.default_eq_zero, pull, val_main_v13,
    val_main_v91, val_main_v90, val_main_v89, val_main_v88, val_main_v87, val_main_v86, val_main_v85, val_main_v84, val_main_v83, val_main_v82,
    val_main_v81, val_main_v80, val_main_v79, val_main_v78, val_main_v77, val_main_v76, val_main_v75, val_main_v74, val_main_v10, val_main_v9,
    val_main_v12, val_main_v11, val_main_v8, val_main_v7, val_main_v6, val_main_v5,
    val_main_v4, val_main_v3, val_main_v2, val_main_v1, val_main_v0, v70_apply, ms, val_main_cst, val_main_cst_0, val_main_cst_1, val_main_cst_2,
    val_main_cst_16, val_main_cst_17, val_main_cst_18]

/-- The normed rows. -/
def xn (r : Fin 16640) (d : Fin 1024) : EReal := x0 (ix2 r d) * Ideal.rsqrt (ms fun e => x0 (ix2 r e)) * x1 (ix1 d)

/-- The gradient of the weights. -/
def dw (d : Fin 1024) (j : Fin 2312) : EReal := ∑ r, xn x0 x1 r d * cot x4 x5 x6 x8 x7 x9 x10 x11 (ix2 r j)

theorem v69_apply (d : Fin 1024) (j : Fin 2312) : val_main_v69 (F := Ideal) x0 x1 x4 x5 x6 x7 x8 x9 x10 x11 (ix2 d j)
    = dw x0 x1 x4 x5 x6 x8 x7 x9 x10 x11 d j := by
  unfold dw xn cot
  pointwise [val_main_v69, val_main_v68, val_main_v15, val_main_v14, val_main_v13, val_main_v12, val_main_v11, val_main_v8, val_main_v7, val_main_v6, val_main_v5,
    val_main_v4, val_main_v3, val_main_v2, val_main_v1, val_main_v0, ms, val_main_cst, val_main_cst_0, val_main_cst_1]
  exact Finset.sum_congr rfl fun r _ => mul_comm _ _

/-- An array's columns in the launch's order, zero in the padding. -/
def packed {ι : Type} (d : ι) (j : Fin 2432) (w : ι → Fin 2312 → EReal) : EReal :=
  if h : j.val < 1792 then w d ⟨j.val, by omega⟩
  else if h : j.val < 2304 then w d ⟨j.val + 8, by omega⟩
  else if h : j.val < 2312 then w d ⟨j.val - 512, by omega⟩ else 0

theorem v97_apply (d : Fin 1024) (j : Fin 2432) : val_main_v97 (F := Ideal) x0 x1 x4 x5 x6 x7 x8 x9 x10 x11 (ix2 d j)
    = packed d j (dw x0 x1 x4 x5 x6 x8 x7 x9 x10 x11) := by
  unfold packed
  pointwise [val_main_v97, val_main_v96, val_main_v95, val_main_v94, val_main_v93, v69_apply, val_main_cst_19]
  by_cases h : j.val < 1792
  · rw [dif_pos h, dif_pos h]
  · rw [dif_neg h, dif_neg h]
    by_cases h2 : j.val < 2304
    · rw [dif_pos (by omega), dif_pos h2]
      exact congrArg _ (Fin.ext (by show 1800 + (j.val - 1792) = j.val + 8; omega))
    · rw [dif_neg (by omega), dif_neg h2]
      by_cases h3 : j.val < 2312
      · rw [dif_pos (by omega), dif_pos h3]
        exact congrArg _ (Fin.ext (by show 1792 + (j.val - 1792 - 512) = j.val - 512; omega))
      · rw [dif_neg (by omega), dif_neg h3]

end Cert.InprojRef

end
-- ==== Proof.InprojValue.lean ====
module

public import proofs.«01_k».proof.Proof.InprojPoint
public import proofs.«01_k».proof.Proof.InprojRef
public import Idealize.ShloMosaic.Lib.Pipeline.ValueKit.Acc

/-! What the launch of the input projection's gradient leaves. A point is a tile of 320 token rows: it gathers the
cotangent of the projection, takes it through the weights and the norm, and adds its rows' part of the two sums. -/

@[expose] public section

set_option maxRecDepth 16384

noncomputable section

namespace Cert.InprojValue

open Idealize.ShloMosaic Idealize.ShloMosaic.TcCoe Idealize.SL.Sem Cert.KernelInprojIdeal Cert.KernelInprojIdeal.Gen Cert.KernelInprojIdeal.Value
open Cert.InprojPoint
open Cert.InprojRef (packed)

/-! Columns in the launch's order. -/

/-- The column that place `j` of the launch's order holds. -/
def place (j : Fin 2312) : Fin 2312 :=
  if h : j.val < 1792 then j else if h : j.val < 2304 then ⟨j.val + 8, by omega⟩ else ⟨j.val - 512, by omega⟩

/-- The place of a column. -/
def unplace (j : Fin 2312) : Fin 2312 :=
  if h : j.val < 1792 then j else if h : j.val < 1800 then ⟨j.val + 512, by omega⟩ else ⟨j.val - 8, by omega⟩

theorem place_val (j : Fin 2312) : (place j).val = if j.val < 1792 then j.val else if j.val < 2304 then j.val + 8 else j.val - 512 := by
  unfold place
  split_ifs <;> rfl

theorem unplace_val (j : Fin 2312) : (unplace j).val = if j.val < 1792 then j.val else if j.val < 1800 then j.val + 512 else j.val - 8 := by
  unfold unplace
  split_ifs <;> rfl

theorem unplace_place (j : Fin 2312) : unplace (place j) = j := by
  apply Fin.ext
  rw [unplace_val, place_val]
  split_ifs <;> omega

theorem place_unplace (j : Fin 2312) : place (unplace j) = j := by
  apply Fin.ext
  rw [place_val, unplace_val]
  split_ifs <;> omega

def places : Fin 2312 ≃ Fin 2312 := ⟨place, unplace, unplace_place, place_unplace⟩

theorem packed_of_lt {ι : Type} (d : ι) (j : Fin 2312) (w : ι → Fin 2312 → EReal) :
    packed d (Fin.castAdd 120 j) w = w d (place j) := by
  unfold packed place
  have e : (Fin.castAdd 120 j).val = j.val := rfl
  simp only [e]
  split_ifs
  · rfl
  · rfl
  · rfl
  · omega

theorem packed_of_ge {ι : Type} (d : ι) (j : Fin 120) (w : ι → Fin 2312 → EReal) :
    packed d (Fin.natAdd 2312 j) w = 0 := by
  unfold packed
  have e : (Fin.natAdd 2312 j).val = 2312 + j.val := rfl
  simp only [e]
  rw [dif_neg (by omega), dif_neg (by omega), dif_neg (by omega)]

/-- A sum over the places of two arrays is the sum over the columns. -/
theorem sum_packed {ι κ : Type} (r : ι) (d : κ) (f : ι → Fin 2312 → EReal) (g : κ → Fin 2312 → EReal) :
    ∑ j : Fin 2432, packed r j f * packed d j g = ∑ j : Fin 2312, f r j * g d j := by
  rw [show (∑ j : Fin 2432, packed r j f * packed d j g) = ∑ j : Fin (2312 + 120), packed r j f * packed d j g from rfl, Fin.sum_univ_add]
  simp only [packed_of_lt, packed_of_ge, mul_zero, Finset.sum_const_zero, add_zero]
  exact Equiv.sum_comp places (fun j => f r j * g d j)

variable (m : (ℓ : Loc nD τ sig) → Buf (Elt Ideal) ℓ) (c : Dev nD)

/-! The arrays the host prepares. -/

theorem V_gain (d : Fin 1024) : (V m c main_v2 : S1x1024.Idx → EReal) (ix2 0 d) = a1 m c (ix1 d) := by
  unfold V
  after_reads_simp
  pointwise

/-- The weights as the launch takes them. -/
def packW (w : FVec Ideal S1024x2312 .f32) : FVec Ideal S1024x2432 .bf16 :=
  truncf .bf16 (concatenate S1024x2432 1 [⟨S1024x2304, concatenate S1024x2304 1 [⟨S1024x1792, extractStridedSlice S1024x1792 ![0, 0] w slices_S1024x2312_S1024x1792_0_0⟩,
      ⟨S1024x512, extractStridedSlice S1024x512 ![0, 1800] w slices_S1024x2312_S1024x512_0_1800⟩] concatenates_S1024x1792_S1024x512_S1024x2304_d1⟩,
    ⟨S1024x128, pad S1024x128 ![0, 0] ![0, 120] ![0, 0] (extractStridedSlice S1024x8 ![0, 1792] w slices_S1024x2312_S1024x8_0_1792)
      (sitofp .f32 (constantI S_ 32 0#32)) pads_S1024x8_S1024x128_000_01200 h_S_⟩] concatenates_S1024x2304_S1024x128_S1024x2432_d1) bitsLt_bf16_f32

theorem packW_apply (w : FVec Ideal S1024x2312 .f32) (d : Fin 1024) (j : Fin 2432) :
    packW w (ix2 d j) = packed d j (fun d j => w (ix2 d j)) := by
  have z : (FloatOps.sitofp (F := Ideal) .f32 0#32 : EReal) = 0 := by
    show (((0#32 : BitVec 32).toInt : ℝ) : EReal) = 0
    norm_num
  unfold packW packed
  pointwise
  rw [z]
  by_cases h : j.val < 1792
  · have h2 : j.val < 2304 := by omega
    simp only [h, h2, dif_pos]
  · by_cases h2 : j.val < 2304
    · have e : (⟨1800 + (j.val - 1792), by omega⟩ : Fin 2312) = ⟨j.val + 8, by omega⟩ := Fin.ext (by dsimp only; omega)
      simp only [h, h2, dif_pos, dif_neg, not_false_eq_true, e]
    · by_cases h3 : j.val < 2312
      · have h8 : j.val - 2304 < 8 := by omega
        have e : (⟨1792 + (j.val - 2304), by omega⟩ : Fin 2312) = ⟨j.val - 512, by omega⟩ := Fin.ext (by dsimp only; omega)
        simp only [h, h2, h3, h8, dif_pos, dif_neg, not_false_eq_true, e]
      · have h8 : ¬ j.val - 2304 < 8 := by omega
        simp only [h, h2, h3, h8, dif_neg, not_false_eq_true]

theorem V_w' : V m c main_v9 = packW (a2 m c) := by
  unfold V
  after_reads_simp
  rfl

theorem V_w (d : Fin 1024) (j : Fin 2432) : (V m c main_v9 : S1024x2432.Idx → EReal) (ix2 d j)
    = packed d j (fun d j => a2 m c (ix2 d j)) := by
  rw [V_w']
  exact packW_apply _ d j

theorem V_ba (r : Fin 16640) (j : Fin 128) : (V m c main_v1 : S16640x128.Idx → EReal) (ix2 r j)
    = if h : j.val < 4 then a9 m c (ix2 r ⟨j.val, h⟩) else if h : j.val < 8 then a10 m c (ix2 r ⟨j.val - 4, by omega⟩) else 0 := by
  unfold V
  after_reads_simp
  simp only [StableHlo.TRef.toBuf, StableHlo.TRef.ofBuf, cast_eq]
  clean_types
  pointwise
  after_reads_simp
  pointwise
  have z : (FloatOps.sitofp (F := Ideal) .f32 0#32 : EReal) = 0 := by
    show (((0#32 : BitVec 32).toInt : ℝ) : EReal) = 0
    norm_num
  rw [z]
  by_cases h : j.val < 4
  · rw [dif_pos (by omega), dif_pos h, dif_pos h]
  · by_cases h8 : j.val < 8
    · rw [dif_pos h8, dif_neg h, dif_neg h, dif_pos h8]
    · rw [dif_neg h8, dif_neg h, dif_neg h8]

/-! Which block each window is at. -/

theorem idx0 : ∀ t : Fin cfg0.N, win0_0.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx7 : ∀ t : Fin cfg0.N, win0_7.index t = ![0, t.val, 0] := (by decide +kernel : ∀ t : Fin grid0.N, _)
theorem idx8 : ∀ t : Fin cfg0.N, win0_8.index t = ![0, min (40 * (t.val + 1)) 2079, 0] := (by decide +kernel : ∀ t : Fin grid0.N, _)
theorem idx12 : ∀ t : Fin cfg0.N, win0_12.index t = ![t.val, 0] := (by decide +kernel : ∀ t : Fin grid0.N, _)

theorem lt52 (t : Fin cfg0.N) : t.val < 52 := lt_of_lt_of_eq t.isLt N_0

/-- The token row that a point has at its place `k`. -/
abbrev row (t : Fin cfg0.N) (k : Fin 320) : Fin 16640 := ⟨320 * t.val + k.val, by have := lt52 t; omega⟩

variable (t : Fin cfg0.N)

abbrev gB : Row := iblk m c 1 t
abbrev wB : Weights := iblk m c 2 t
abbrev dresB : Rows := iblk m c 3 t
abbrev qB : Heads := iblk m c 4 t
abbrev kB : Heads := iblk m c 5 t
abbrev vB : Heads := iblk m c 6 t
abbrev xB : Delays := iblk m c 7 t
abbrev nB : Tails := iblk m c 8 t
abbrev zB : Heads := iblk m c 9 t
abbrev uB : Wide := iblk m c 10 t
abbrev baB : Lanes := iblk m c 11 t

variable {m c}

theorem hB_apply (k : Fin 320) (f : Fin 1024) : hB m c t (ix2 k f) = a0 m c (ix2 (row t k) f) := by
  have e : V m c main_arg0 = a0 m c := V_main_arg0 m c
  rw [← e]
  blk_ext [iblk, idx0]

theorem dresB_apply (k : Fin 320) (f : Fin 1024) : dresB m c t (ix2 k f) = a3 m c (ix2 (row t k) f) := by
  have e : V m c main_arg3 = a3 m c := V_main_arg3 m c
  rw [← e]
  blk_ext [iblk, idx3]

theorem qB_apply (k : Fin 320) (f : Fin 256) : qB m c t (ix2 k f) = a4 m c (ix2 (row t k) f) := by
  have e : V m c main_arg4 = a4 m c := V_main_arg4 m c
  rw [← e]
  blk_ext [iblk, idx4]

theorem kB_apply (k : Fin 320) (f : Fin 256) : kB m c t (ix2 k f) = a5 m c (ix2 (row t k) f) := by
  have e : V m c main_arg5 = a5 m c := V_main_arg5 m c
  rw [← e]
  blk_ext [iblk, idx5]

theorem vB_apply (k : Fin 320) (f : Fin 256) : vB m c t (ix2 k f) = a6 m c (ix2 (row t k) f) := by
  have e : V m c main_arg6 = a6 m c := V_main_arg6 m c
  rw [← e]
  blk_ext [iblk, idx6]

theorem zB_apply (k : Fin 320) (f : Fin 256) : zB m c t (ix2 k f) = a8 m c (ix2 (row t k) f) := by
  have e : V m c main_arg8 = a8 m c := V_main_arg8 m c
  rw [← e]
  blk_ext [iblk, idx9]

theorem uB_apply (k : Fin 320) (f : Fin 512) : uB m c t (ix2 k f) = a11 m c (ix2 (row t k) f) := by
  have e : V m c main_arg11 = a11 m c := V_main_arg11 m c
  rw [← e]
  blk_ext [iblk, idx10]

theorem gB_apply (d : Fin 1024) : gB m c t (ix2 0 d) = a1 m c (ix1 d) := by
  rw [← V_gain m c d]
  blk_ext [iblk, idx1]

theorem wB_apply (d : Fin 1024) (j : Fin 2432) : wB m c t (ix2 d j) = packed d j (fun d j => a2 m c (ix2 d j)) := by
  rw [← V_w m c d j]
  blk_ext [iblk, idx2]

theorem baB_apply (k : Fin 320) (j : Fin 128) : baB m c t (ix2 k j) = (V m c main_v1 : S16640x128.Idx → EReal) (ix2 (row t k) j) := by
  blk_ext [iblk, idx11]

theorem xB_apply (s : Fin 4) (k : Fin 320) (f : Fin 768) : xB m c t (ix3 s k f) = a7 m c (ix3 s (row t k) f) := by
  have e : V m c main_arg7 = a7 m c := V_main_arg7 m c
  rw [← e]
  blk_ext [iblk, idx7]

theorem nB_apply (h : t.val < 51) (s : Fin 4) (k : Fin 8) (f : Fin 768) :
    nB m c t (ix3 s k f) = a7 m c (ix3 s ⟨320 * (t.val + 1) + k.val, by omega⟩ f) := by
  have e : V m c main_arg7 = a7 m c := V_main_arg7 m c
  rw [← e]
  blk_ext [iblk, idx8]

/-! The gathered cotangent. -/

/-- The cotangent of the projection, of the arguments. -/
abbrev cot (m : (ℓ : Loc nD τ sig) → Buf (Elt Ideal) ℓ) (c : Dev nD) (r : Fin 16640) (j : Fin 2312) : EReal :=
  Cert.InprojRef.cot (a4 m c) (a5 m c) (a6 m c) (a8 m c) (a7 m c) (a9 m c) (a10 m c) (a11 m c) (ix2 r j)

theorem below_eq (s : Fin 4) (k : Fin 320) (f : Fin 768) :
    below (more t) (xB m c t) (nB m c t) s k f = Cert.InprojRef.after (a7 m c) s (row t k) f := by
  have := lt52 t
  unfold below Cert.InprojRef.after
  by_cases h : k.val + s.val < 320
  · rw [dif_pos h, dif_pos (by show 320 * t.val + k.val + s.val < 16640; omega), xB_apply]
    exact congrArg (a7 m c) (congrArg (fun r => ix3 s r f) (Fin.ext (by show 320 * t.val + (k.val + s.val) = 320 * t.val + k.val + s.val; omega)))
  · have q : more t = if t.val < 51 then 1 else 0 := more_eq t
    rw [dif_neg h, q]
    by_cases ht : t.val < 51
    · rw [if_pos ht, one_mul, dif_pos (by show 320 * t.val + k.val + s.val < 16640; omega), nB_apply t ht]
      exact congrArg (a7 m c) (congrArg (fun r => ix3 s r f) (Fin.ext (by show 320 * (t.val + 1) + (k.val + s.val - 320) = 320 * t.val + k.val + s.val; omega)))
    · rw [if_neg ht, zero_mul, dif_neg (by show ¬ (320 * t.val + k.val + s.val < 16640); omega)]

theorem more_cases : more t = 0 ∨ more t = 1 := by
  have q : more t = if t.val < 51 then 1 else 0 := more_eq t
  rw [q]
  by_cases ht : t.val < 51
  · rw [if_pos ht]; exact Or.inr rfl
  · rw [if_neg ht]; exact Or.inl rfl

theorem packed_low {ι : Type} (d : ι) (j : ℕ) (h : j < 1792) (w : ι → Fin 2312 → EReal) : packed d ⟨j, by omega⟩ w = w d ⟨j, by omega⟩ := dif_pos h

theorem packed_wide {ι : Type} (d : ι) (f : Fin 512) (w : ι → Fin 2312 → EReal) : packed d ⟨1792 + f.val, by omega⟩ w = w d ⟨1800 + f.val, by omega⟩ :=
  (dif_neg (by show ¬ (1792 + f.val < 1792); omega)).trans ((dif_pos (by show 1792 + f.val < 2304; omega)).trans (congrArg (w d) (Fin.ext (by show 1792 + f.val + 8 = 1800 + f.val; omega))))

theorem packed_lanes {ι : Type} (d : ι) (f : Fin 128) (w : ι → Fin 2312 → EReal) : packed d ⟨2304 + f.val, by omega⟩ w = if h : f.val < 8 then w d ⟨1792 + f.val, by omega⟩ else 0 := by
  unfold packed
  rw [dif_neg (by show ¬ (2304 + f.val < 1792); omega), dif_neg (by show ¬ (2304 + f.val < 2304); omega)]
  by_cases h : f.val < 8
  · rw [dif_pos (show 2304 + f.val < 2312 by omega), dif_pos h]
    exact congrArg (w d) (Fin.ext (by show 2304 + f.val - 512 = 1792 + f.val; omega))
  · rw [dif_neg (show ¬ (2304 + f.val < 2312) by omega), dif_neg h]

theorem projB_apply (k : Fin 320) (j : Fin 2432) : projB m c t (ix2 k j) = packed (row t k) j (cot m c) := by
  obtain ⟨j, hj⟩ := j
  by_cases h0 : j < 256
  · obtain ⟨f, rfl⟩ : ∃ f : Fin 256, j = f.val := ⟨⟨j, by omega⟩, rfl⟩
    rw [packed_low _ _ (by omega)]
    exact ((proj_q (more t) (iblk m c 4 t) (iblk m c 5 t) (iblk m c 6 t) (iblk m c 7 t) (iblk m c 8 t) (iblk m c 9 t) (iblk m c 10 t) (iblk m c 11 t) k f).trans (qB_apply t k f)).trans (Cert.InprojRef.cot_x4 (a4 m c) (a5 m c) (a6 m c) (a8 m c) (a7 m c) (a9 m c) (a10 m c) (a11 m c) (row t k) f).symm
  by_cases h256 : j < 512
  · obtain ⟨f, rfl⟩ : ∃ f : Fin 256, j = 256 + f.val := ⟨⟨j - 256, by omega⟩, by show j = 256 + (j - 256); omega⟩
    rw [packed_low _ _ (by omega)]
    exact ((proj_k (more t) (iblk m c 4 t) (iblk m c 5 t) (iblk m c 6 t) (iblk m c 7 t) (iblk m c 8 t) (iblk m c 9 t) (iblk m c 10 t) (iblk m c 11 t) k f).trans (kB_apply t k f)).trans (Cert.InprojRef.cot_x5 (a4 m c) (a5 m c) (a6 m c) (a8 m c) (a7 m c) (a9 m c) (a10 m c) (a11 m c) (row t k) f).symm
  by_cases h512 : j < 768
  · obtain ⟨f, rfl⟩ : ∃ f : Fin 256, j = 512 + f.val := ⟨⟨j - 512, by omega⟩, by show j = 512 + (j - 512); omega⟩
    rw [packed_low _ _ (by omega)]
    exact ((proj_v (more t) (iblk m c 4 t) (iblk m c 5 t) (iblk m c 6 t) (iblk m c 7 t) (iblk m c 8 t) (iblk m c 9 t) (iblk m c 10 t) (iblk m c 11 t) k f).trans (vB_apply t k f)).trans (Cert.InprojRef.cot_x6 (a4 m c) (a5 m c) (a6 m c) (a8 m c) (a7 m c) (a9 m c) (a10 m c) (a11 m c) (row t k) f).symm
  by_cases h768 : j < 1536
  · obtain ⟨f, rfl⟩ : ∃ f : Fin 768, j = 768 + f.val := ⟨⟨j - 768, by omega⟩, by show j = 768 + (j - 768); omega⟩
    rw [packed_low _ _ (by omega)]
    refine ((proj_mid (more t) (iblk m c 4 t) (iblk m c 5 t) (iblk m c 6 t) (iblk m c 7 t) (iblk m c 8 t) (iblk m c 9 t) (iblk m c 10 t) (iblk m c 11 t) k (more_cases t) f).trans ?_).trans (Cert.InprojRef.cot_mid (a4 m c) (a5 m c) (a6 m c) (a8 m c) (a7 m c) (a9 m c) (a10 m c) (a11 m c) (row t k) f).symm
    exact congrArg₂ (· + ·) (congrArg₂ (· + ·) (congrArg₂ (· + ·) (xB_apply t 0 k f) (below_eq t 1 k f)) (below_eq t 2 k f)) (below_eq t 3 k f)
  by_cases h1536 : j < 1792
  · obtain ⟨f, rfl⟩ : ∃ f : Fin 256, j = 1536 + f.val := ⟨⟨j - 1536, by omega⟩, by show j = 1536 + (j - 1536); omega⟩
    rw [packed_low _ _ (by omega)]
    exact ((proj_z (more t) (iblk m c 4 t) (iblk m c 5 t) (iblk m c 6 t) (iblk m c 7 t) (iblk m c 8 t) (iblk m c 9 t) (iblk m c 10 t) (iblk m c 11 t) k f).trans (zB_apply t k f)).trans (Cert.InprojRef.cot_x8 (a4 m c) (a5 m c) (a6 m c) (a8 m c) (a7 m c) (a9 m c) (a10 m c) (a11 m c) (row t k) f).symm
  by_cases h1792 : j < 2304
  · obtain ⟨f, rfl⟩ : ∃ f : Fin 512, j = 1792 + f.val := ⟨⟨j - 1792, by omega⟩, by show j = 1792 + (j - 1792); omega⟩
    rw [packed_wide]
    exact ((proj_u (more t) (iblk m c 4 t) (iblk m c 5 t) (iblk m c 6 t) (iblk m c 7 t) (iblk m c 8 t) (iblk m c 9 t) (iblk m c 10 t) (iblk m c 11 t) k f).trans (uB_apply t k f)).trans (Cert.InprojRef.cot_x11 (a4 m c) (a5 m c) (a6 m c) (a8 m c) (a7 m c) (a9 m c) (a10 m c) (a11 m c) (row t k) f).symm
  obtain ⟨f, rfl⟩ : ∃ f : Fin 128, j = 2304 + f.val := ⟨⟨j - 2304, by omega⟩, by show j = 2304 + (j - 2304); omega⟩
  rw [packed_lanes]
  refine ((proj_ba (more t) (iblk m c 4 t) (iblk m c 5 t) (iblk m c 6 t) (iblk m c 7 t) (iblk m c 8 t) (iblk m c 9 t) (iblk m c 10 t) (iblk m c 11 t) k f).trans ((baB_apply t k f).trans (V_ba m c (row t k) f))).trans ?_
  by_cases h4 : f.val < 4
  · rw [dif_pos h4, dif_pos (by omega)]
    exact (Cert.InprojRef.cot_x9 (a4 m c) (a5 m c) (a6 m c) (a8 m c) (a7 m c) (a9 m c) (a10 m c) (a11 m c) (row t k) ⟨f.val, h4⟩).symm
  · by_cases h8 : f.val < 8
    · rw [dif_neg h4, dif_pos h8, dif_pos h8]
      refine (Cert.InprojRef.cot_x10 (a4 m c) (a5 m c) (a6 m c) (a8 m c) (a7 m c) (a9 m c) (a10 m c) (a11 m c) (row t k) ⟨f.val - 4, by omega⟩).symm.trans ?_
      exact congrArg (cot m c (row t k)) (Fin.ext (by show 1796 + (f.val - 4) = 1792 + f.val; omega))
    · rw [dif_neg h4, dif_neg h8, dif_neg h8]

theorem dxnB_apply (k : Fin 320) (d : Fin 1024) : dxnB m c t (ix2 k d)
    = Cert.InprojRef.dxn (a2 m c) (a4 m c) (a5 m c) (a6 m c) (a8 m c) (a7 m c) (a9 m c) (a10 m c) (a11 m c) (row t k) d := by
  refine (dxn_apply ..).trans ?_
  refine (Finset.sum_congr rfl fun j _ => congrArg₂ (· * ·) (projB_apply t k j) (wB_apply t d j)).trans ?_
  exact sum_packed (row t k) d (cot m c) _

/-! The three results. -/

variable (m c)

/-- The gradient of the rows. -/
def dh (r : Fin 16640) (d : Fin 1024) : EReal :=
  a3 m c (ix2 r d) + Cert.InprojRef.dxn (a2 m c) (a4 m c) (a5 m c) (a6 m c) (a8 m c) (a7 m c) (a9 m c) (a10 m c) (a11 m c) r d * a1 m c (ix1 d) * Ideal.rsqrt (Cert.InprojRef.ms fun e => a0 m c (ix2 r e))
    + a0 m c (ix2 r d) * Cert.InprojRef.pull (fun e => a0 m c (ix2 r e)) (fun e => Cert.InprojRef.dxn (a2 m c) (a4 m c) (a5 m c) (a6 m c) (a8 m c) (a7 m c) (a9 m c) (a10 m c) (a11 m c) r e * a1 m c (ix1 e))
    + Cert.InprojRef.pull (fun e => a0 m c (ix2 r e)) (fun e => Cert.InprojRef.dxn (a2 m c) (a4 m c) (a5 m c) (a6 m c) (a8 m c) (a7 m c) (a9 m c) (a10 m c) (a11 m c) r e * a1 m c (ix1 e)) * a0 m c (ix2 r d)

/-- A row's part of the gain's gradient, and of the weights'. -/
def dgTerm (d : Fin 1024) (r : Fin 16640) : EReal :=
  a0 m c (ix2 r d) * Ideal.rsqrt (Cert.InprojRef.ms fun e => a0 m c (ix2 r e)) * Cert.InprojRef.dxn (a2 m c) (a4 m c) (a5 m c) (a6 m c) (a8 m c) (a7 m c) (a9 m c) (a10 m c) (a11 m c) r d
def dwTerm (d : Fin 1024) (j : Fin 2432) (r : Fin 16640) : EReal :=
  Cert.InprojRef.xn (a0 m c) (a1 m c) r d * packed r j (cot m c)

variable {m c}

theorem rows_at (k : Fin 320) (d : Fin 1024) :
    (outsAt0 m c t.val t.isLt).1 (ix2 k d) = dh m c (row t k) d := by
  rw [outs_rows]
  refine (rows_apply (hB m c t) (gB m c t) (dxnB m c t) (dresB m c t) k d).trans ?_
  simp only [hB_apply, gB_apply, dxnB_apply, dresB_apply]
  unfold dh
  rw [← add_assoc, ← add_assoc]
  rfl

theorem final12 : (dats m 0 c).arrAt 12 cfg0.N = fun i : S16640x1024.Idx => dh m c (i 0) (i 1) := by
  refine (dats m 0 c).arrAt_eq_of_covers 12 _ (by decide +kernel) fun t hf y => ?_
  blk_simp
  rw [after0_12]
  obtain ⟨k, d, rfl⟩ : ∃ (k : Fin 320) (d : Fin 1024), y = ix2 k d := ⟨y 0, y 1, eq_ix2 y⟩
  refine (rows_at t k d).trans (congrArg₂ (dh m c) (Fin.ext ?_) (Fin.ext ?_))
  · blk_simp [idx12]
    show 320 * t.val + k.val = _
    omega
  · blk_simp [idx12]

theorem gain_at (d : Fin 1024) : gain m c t (ix2 0 d) = ∑ k, dgTerm m c d (row t k) := by
  rw [gain_apply]
  simp only [hB_apply, dxnB_apply]
  rfl

/-- The sum over the tiles of the sums over a tile's rows. -/
theorem sum_rows (f : Fin 16640 → EReal) : ∑ t : Fin cfg0.N, ∑ k, f (row t k) = ∑ r, f r := by
  have e := Cert.Tiles.sum_tiles (b := 320) (n := 52) (N := 16640) (by norm_num) (fun r => if h : r < 16640 then f ⟨r, h⟩ else 0)
  rw [← Fin.sum_univ_eq_sum_range (fun s => ∑ k : Fin 320, if h : 320 * s + k.val < 16640 then f ⟨320 * s + k.val, h⟩ else 0) 52] at e
  refine Eq.trans ?_ (e.trans (Finset.sum_congr rfl fun r _ => dif_pos r.isLt))
  show ∑ t : Fin 52, _ = _
  refine Finset.sum_congr rfl fun t _ => Finset.sum_congr rfl fun k _ => ?_
  rw [dif_pos (by omega)]

theorem gain_last (d : Fin 1024) (t : Fin cfg0.N) (ht : t.val + 1 = cfg0.N) :
    (outsAt0 m c t.val t.isLt).2.1 (ix2 0 d) = ∑ r, dgTerm m c d r := by
  have q := Pipeline.eq_sum_fin_of_reset_step_last (M := EReal) (fun n h => (outsAt0 m c n h).2.1 (ix2 0 d)) 52 0 (fun t => ∑ k, dgTerm m c d (row t k))
    (fun t h => by rw [outs_gain_first m c t h, pay3_apply, pay4_apply, gain_at])
    (fun t h => by rw [outs_gain m c t h, pay3_apply, gain_at]) (by decide) t ht
  rw [q, sum_rows, zero_add]

theorem weights_last (d : Fin 1024) (j : Fin 2432) (t : Fin cfg0.N) (ht : t.val + 1 = cfg0.N) :
    (outsAt0 m c t.val t.isLt).2.2 (ix2 d j) = ∑ r, dwTerm m c d j r := by
  have n : ∀ (t : Fin cfg0.N), (∑ k, normed (hB m c t) (gB m c t) (ix2 k d) * projB m c t (ix2 k j)) = ∑ k, dwTerm m c d j (row t k) := fun t => by
    refine Finset.sum_congr rfl fun k _ => ?_
    rw [normed_apply, projB_apply]
    simp only [hB_apply, gB_apply]
    rfl
  have q := Pipeline.eq_sum_fin_of_reset_step_last (M := EReal) (fun n h => (outsAt0 m c n h).2.2 (ix2 d j)) 52 0 (fun t => ∑ k, dwTerm m c d j (row t k))
    (fun t h => by rw [outs_weights_first m c t h]; exact (plusW_apply _ (hB m c t) (gB m c t) _ d j).trans (congrArg₂ (· + ·) (pay5_apply _ _) (n t)))
    (fun t h => by rw [outs_weights m c t h]; exact (plusW_apply _ (hB m c t) (gB m c t) _ d j).trans (congrArg _ (n t))) (by decide) t ht
  rw [q, sum_rows, zero_add]

/-- The last point. -/
abbrev last : Fin cfg0.N := ⟨51, by decide⟩

theorem final13 : (dats m 0 c).arrAt 13 cfg0.N = fun i : S1x1024.Idx => ∑ r, dgTerm m c (i 1) r := by
  refine (dats m 0 c).arrAt_eq_of_after_last 13 last (by decide +kernel) _ fun j => ?_
  blk_simp
  rw [after0_13]
  obtain ⟨d, rfl⟩ : ∃ d : Fin 1024, j = ix2 0 d := ⟨j 1, (eq_ix2 j).trans (congrArg (fun a => ix2 a (j 1)) (Subsingleton.elim _ _))⟩
  exact gain_last d last (by decide)

theorem final14 : (dats m 0 c).arrAt 14 cfg0.N = fun i : S1024x2432.Idx => ∑ r, dwTerm m c (i 0) (i 1) r := by
  refine (dats m 0 c).arrAt_eq_of_after_last 14 last (by decide +kernel) _ fun j => ?_
  blk_simp
  rw [after0_14]
  obtain ⟨d, j, rfl⟩ : ∃ (d : Fin 1024) (k : Fin 2432), j = ix2 d k := ⟨j 0, j 1, eq_ix2 j⟩
  exact weights_last d j last (by decide)

end Cert.InprojValue

end
-- ==== Proof.InprojAlgebra.lean ====
module

public import proofs.«01_k».proof.Defs
public import proofs.«01_k».proof.Proof.Gen.ReferenceInprojIdeal.Run
public import proofs.«01_k».proof.Proof.InprojValue

/-! The three results of the input projection's gradient are the reference's. -/

@[expose] public section

set_option maxRecDepth 16384

noncomputable section

namespace Cert.InprojAlgebra

open Idealize.ShloMosaic Idealize.ShloMosaic.TcCoe Idealize.SL.Sem Cert.KernelInprojIdeal Cert.KernelInprojIdeal.Gen Cert.KernelInprojIdeal.Value
open Cert.InprojPoint Cert.InprojValue Cert.ReferenceInprojIdeal.Read

variable (m : (ℓ : Loc nD τ sig) → Buf (Elt Ideal) ℓ) (c : Dev nD)

/-- The sum over the rows of the columns in the launch's order is the sums in that order. -/
theorem sum_dwTerm (d : Fin 1024) (j : Fin 2432) : ∑ r, dwTerm m c d j r
    = Cert.InprojRef.packed d j (Cert.InprojRef.dw (a0 m c) (a1 m c) (a4 m c) (a5 m c) (a6 m c) (a8 m c) (a7 m c) (a9 m c) (a10 m c) (a11 m c)) := by
  unfold dwTerm Cert.InprojRef.packed
  by_cases h : j.val < 1792
  · simp only [h, dif_pos]
    rfl
  · by_cases h2 : j.val < 2304
    · simp only [h, h2, dif_pos, dif_neg, not_false_eq_true]
      rfl
    · by_cases h3 : j.val < 2312
      · simp only [h, h2, h3, dif_pos, dif_neg, not_false_eq_true]
        rfl
      · simp only [h, h2, h3, dif_neg, not_false_eq_true, mul_zero, Finset.sum_const_zero]

theorem algebraic : Cert.algebraic_KernelInprojIdeal_ReferenceInprojIdeal (hKernelInprojIdeal := Cert.KernelInprojIdeal.Gen.facts)
    (hReferenceInprojIdeal := Cert.ReferenceInprojIdeal.Gen.facts) := by
  intro m g m' g' _ hargs
  refine ⟨_, _, _, Cert.KernelInprojIdeal.Value.run_blocks m g, ?_⟩
  refine (θ_run _ _ _).mono (fun r h c => ?_) (Cert.ReferenceInprojIdeal.Value.run m' g')
  obtain ⟨h0, h1, h2, k⟩ := h c
  obtain ⟨e0, e1, e2, e3, e4, e5, e6, e7, e8, e9, e10, e11⟩ := hargs c
  refine ⟨h0.trans ?_, h1.trans ?_, h2.trans ?_, k⟩
  · rw [val_main_v91_eq, e0, e1, e2, e3, e4, e5, e6, e7, e8, e9, e10, e11, final12]
    funext i
    obtain ⟨r, d, rfl⟩ : ∃ (r : Fin 16640) (d : Fin 1024), i = ix2 r d := ⟨i 0, i 1, eq_ix2 i⟩
    exact Cert.InprojRef.v91_apply ..
  · rw [val_main_v92_eq, e0, e2, e4, e5, e6, e7, e8, e9, e10, e11, final13]
    funext i
    obtain ⟨d, rfl⟩ : ∃ d : Fin 1024, i = ix2 0 d := ⟨i 1, (eq_ix2 i).trans (congrArg (fun a => ix2 a (i 1)) (Subsingleton.elim _ _))⟩
    exact Cert.InprojRef.v92_apply ..
  · rw [val_main_v97_eq, e0, e1, e4, e5, e6, e7, e8, e9, e10, e11, final14]
    funext i
    obtain ⟨d, j, rfl⟩ : ∃ (d : Fin 1024) (j : Fin 2432), i = ix2 d j := ⟨i 0, i 1, eq_ix2 i⟩
    exact (Cert.InprojRef.v97_apply ..).trans (sum_dwTerm m c d j).symm

end Cert.InprojAlgebra

end
-- ==== Proof.LossPoint.lean ====
module

public import proofs.«01_k».proof.Proof.Gen.KernelLossIdeal.Value
public import proofs.«01_k».proof.Proof.Tiles
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The loss launch: the arrays it reads at an index, and one grid point of it. -/

@[expose] public section

set_option maxRecDepth 16384

noncomputable section

namespace Cert.LossPoint

open Idealize.ShloMosaic Idealize.ShloMosaic.TcCoe Idealize.SL.Sem Cert.KernelLossIdeal Cert.KernelLossIdeal.Gen Cert.KernelLossIdeal.Value

variable (m : (ℓ : Loc nD τ sig) → Buf (Elt Ideal) ℓ) (c : Dev nD)
variable (t : Fin cfg0.N)

abbrev a0 : (⟨S16640x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S16384x1024, .f32⟩ : BufTy).Contents (Elt Ideal) := m ((c : Thread nD τ).loc main_arg2)

abbrev Rows : Type := S640x1024.Idx → EReal
abbrev Row : Type := S1x1024.Idx → EReal
abbrev Lanes : Type := S8x128.Idx → EReal

/-! The host's part. -/

theorem V_gain (d : Fin 1024) : (V m c main_v0 : S1x1024.Idx → EReal) (ix2 0 d) = a1 m c (ix1 d) := by
  unfold V
  after_reads_simp
  pointwise

theorem V_target (r : Fin 16640) (d : Fin 1024) (h : 16 ≤ r.val) (h' : r.val < 16400) :
    (V m c main_v1 : S16640x1024.Idx → EReal) (ix2 r d) = a2 m c (ix2 ⟨r.val - 16, by omega⟩ d) := by
  unfold V
  after_reads_simp
  simp only [StableHlo.TRef.toBuf, StableHlo.TRef.ofBuf, cast_eq]
  clean_types
  pointwise
  rw [dif_pos (by omega)]

/-! One point. -/

/-- The mask of the rows that have a target. -/
def mask (r : ℕ) : EReal := if 16 ≤ r ∧ r < 16400 then 1 else 0

theorem mask_eq (t : Fin cfg0.N) (k : Fin 640) :
    (FloatOps.sitofp (F := Ideal) .f32 (BitVec.setWidth 32 (IntOp.andi
        (IntOp.cmpi .sge (IntOp.addi (Scalar.muli (BitVec.ofNat 32 t.val) 640#32) (BitVec.ofNat 32 k.val)) 16#32)
        (IntOp.cmpi .slt (IntOp.addi (Scalar.muli (BitVec.ofNat 32 t.val) 640#32) (BitVec.ofNat 32 k.val)) 16400#32))) : EReal)
      = mask (640 * t.val + k.val) := by
  have b : ∀ (t : Fin cfg0.N) (k : Fin 640), (BitVec.setWidth 32 (IntOp.andi
        (IntOp.cmpi .sge (IntOp.addi (Scalar.muli (BitVec.ofNat 32 t.val) 640#32) (BitVec.ofNat 32 k.val)) 16#32)
        (IntOp.cmpi .slt (IntOp.addi (Scalar.muli (BitVec.ofNat 32 t.val) 640#32) (BitVec.ofNat 32 k.val)) 16400#32))).toInt
      = if 16 ≤ 640 * t.val + k.val ∧ 640 * t.val + k.val < 16400 then 1 else 0 :=
    (by decide +kernel : ∀ (t : Fin grid0.N) (k : Fin 640), _)
  show (((BitVec.setWidth 32 _).toInt : ℝ) : EReal) = _
  rw [b]
  unfold mask
  split <;> norm_num

/-- The padded mean of a row's squares. -/
def ms (h : Fin 1024 → EReal) : EReal :=
  Ideal.div (∑ x, h x * h x) (Ideal.ofBits .f32 0x44800000#32) + Ideal.ofBits .f32 0x358637BD#32

/-- What each of the two factors of a row's squares contributes to its gradient, less the row itself. -/
def pull (h y : Fin 1024 → EReal) : EReal :=
  Ideal.div ((∑ x, h x * y x) * (Ideal.ofBits .f32 0xBF000000#32 * Ideal.div (Ideal.rsqrt (ms h)) (ms h)))
    (Ideal.ofBits .f32 0x44800000#32)

abbrev hB : Rows := iblk m c 0 t
abbrev gB : Row := iblk m c 1 t
abbrev tB : Rows := iblk m c 2 t

/-- A tile's masked errors. -/
def errB : Rows := k0_pay12 (F := Ideal) (grid0.coords t) (iblk m c 0 t) (iblk m c 1 t) (iblk m c 2 t)

theorem errB_apply (k : Fin 640) (d : Fin 1024) : errB m c t (ix2 k d)
    = (hB m c t (ix2 k d) * Ideal.rsqrt (ms fun e => hB m c t (ix2 k e)) * gB m c t (ix2 0 d) - tB m c t (ix2 k d)) * mask (640 * t.val + k.val) := by
  have e : ∀ t : Fin cfg0.N, (grid0.coords t 0).val = t.val := (by decide +kernel : ∀ t : Fin grid0.N, _)
  unfold errB k0_pay12 k0_pay7 k0_pay11 k0_pay9 k0_pay8
  rw [e]
  pointwise [ms]
  rw [mask_eq]

/-- The rows' gradient, from the errors `y`. -/
def rows (h : Rows) (g : Row) (y : Rows) : Rows := k0_pay3 (F := Ideal) h (k0_pay7 (F := Ideal) g) (k0_pay9 (F := Ideal) h) (k0_pay10 (F := Ideal) h) y

theorem rows_apply (h : Rows) (g : Row) (y : Rows) (k : Fin 640) (d : Fin 1024) :
    rows h g y (ix2 k d) = y (ix2 k d) * Ideal.ofBits .f32 0x3A800000#32 * g (ix2 0 d) * Ideal.rsqrt (ms fun e => h (ix2 k e))
      + h (ix2 k d) * pull (fun e => h (ix2 k e)) (fun e => y (ix2 k e) * Ideal.ofBits .f32 0x3A800000#32 * g (ix2 0 e))
      + pull (fun e => h (ix2 k e)) (fun e => y (ix2 k e) * Ideal.ofBits .f32 0x3A800000#32 * g (ix2 0 e)) * h (ix2 k d) := by
  unfold rows
  unfold_payloads
  pointwise [ms, pull, Finset.univ_unique, Finset.sum_singleton, Fin.default_eq_zero]

/-- The gain's gradient and the loss, with a tile's part added. -/
def gain (h y : Rows) (acc : Row) : Row := k0_pay4 (F := Ideal) (k0_pay11 (F := Ideal) h) y acc

theorem gain_apply (h y : Rows) (acc : Row) (d : Fin 1024) : gain h y acc (ix2 0 d)
    = acc (ix2 0 d) + ∑ k, h (ix2 k d) * Ideal.rsqrt (ms fun e => h (ix2 k e)) * (y (ix2 k d) * Ideal.ofBits .f32 0x3A800000#32) := by
  unfold gain
  unfold_payloads
  pointwise [ms]

def loss (y : Rows) (acc : Lanes) : Lanes := k0_pay1 (F := Ideal) (k0_pay13 (F := Ideal) acc) (mulf (F := Ideal) (φ := .f32) y y)

theorem loss_apply (y : Rows) (acc : Lanes) (i : Fin 8) (j : Fin 128) : loss y acc (ix2 i j)
    = acc (ix2 i j) + Ideal.ofBits .f32 0x3F000000#32 * ∑ k, Ideal.div (∑ d, y (ix2 k d) * y (ix2 k d)) (Ideal.ofBits .f32 0x44800000#32) := by
  unfold loss k0_pay1 k0_pay13
  pointwise [Finset.univ_unique, Finset.sum_singleton, Fin.default_eq_zero]

theorem pay5_apply (i : Fin 8) (j : Fin 128) : k0_pay5 (F := Ideal) (ix2 i j) = (0 : EReal) := by
  unfold_payloads
  pointwise

theorem pay6_apply (d : Fin 1024) : k0_pay6 (F := Ideal) (ix2 0 d) = (0 : EReal) := by
  unfold_payloads
  pointwise

theorem outs_rows : (outsAt0 m c t.val t.isLt).2.1 = rows (iblk m c 0 t) (iblk m c 1 t) (errB m c t) := by
  by_cases h0 : t.val % 26 = 0
  · rw [outsAt0_A m c t h0]
    frame_out
    rfl
  · rw [outsAt0_B m c t h0]
    frame_out
    rfl

theorem outs_loss_first (h0 : t.val % 26 = 0) : (outsAt0 m c t.val t.isLt).1 = loss (errB m c t) (k0_pay5 (F := Ideal)) := by
  rw [outsAt0_A m c t h0]
  frame_out
  rfl

theorem outs_loss (h0 : ¬t.val % 26 = 0) : (outsAt0 m c t.val t.isLt).1 = loss (errB m c t) (outsAt0 m c (t.val - 1) (by omega)).1 := by
  rw [outsAt0_B m c t h0]
  frame_out
  rfl

theorem outs_gain_first (h0 : t.val % 26 = 0) : (outsAt0 m c t.val t.isLt).2.2 = gain (iblk m c 0 t) (errB m c t) (k0_pay6 (F := Ideal)) := by
  rw [outsAt0_A m c t h0]
  frame_out
  rfl

theorem outs_gain (h0 : ¬t.val % 26 = 0) :
    (outsAt0 m c t.val t.isLt).2.2 = gain (iblk m c 0 t) (errB m c t) (outsAt0 m c (t.val - 1) (by omega)).2.2 := by
  rw [outsAt0_B m c t h0]
  frame_out
  rfl

end Cert.LossPoint

end
-- ==== Proof.LossRef.lean ====
module

public import proofs.«01_k».proof.Proof.Gen.ReferenceLossIdeal.Read
public import Idealize.ShloMosaic.Lib.Pointwise
public import Idealize.ShloMosaic.Lib.StableHlo.ReadAt

/-! The loss and its gradient as the reference writes them, each array at an index. -/

@[expose] public section

set_option maxRecDepth 16384

noncomputable section

namespace Cert.LossRef

open Idealize.ShloMosaic Idealize.ShloMosaic.TcCoe Idealize.SL.Sem Cert.ReferenceLossIdeal Cert.ReferenceLossIdeal.Gen Cert.ReferenceLossIdeal.Read

variable (x0 : S16640x1024.Idx → EReal) (x1 : S1024.Idx → EReal) (x2 : S16384x1024.Idx → EReal)

/-- The padded mean of a row's squares. -/
def ms (h : Fin 1024 → EReal) : EReal :=
  Ideal.div (∑ x, h x * h x) (Ideal.ofBits .f32 0x44800000#32) + Ideal.ofBits .f32 0x358637BD#32

/-- The normed rows. -/
def xn (r : Fin 16640) (d : Fin 1024) : EReal := x0 (ix2 r d) * Ideal.rsqrt (ms fun e => x0 (ix2 r e)) * x1 (ix1 d)

/-- The row that a target's row is compared with. -/
abbrev token (r : Fin 16384) : Fin 16640 := ⟨r.val + 16, by omega⟩

/-- A target's row, subtracted from the row it is compared with. -/
def diff (r : Fin 16384) (d : Fin 1024) : EReal := xn x0 x1 (token r) d - x2 (ix2 r d)

/-- The same for every row: nothing where no target is. -/
def err (r : Fin 16640) (d : Fin 1024) : EReal :=
  if h : 16 ≤ r.val ∧ r.val < 16400 then diff x0 x1 x2 ⟨r.val - 16, by omega⟩ d else 0

/-- The cotangent of the normed rows. -/
def dy (r : Fin 16640) (d : Fin 1024) : EReal := err x0 x1 x2 r d * Ideal.ofBits .f32 0x3A800000#32

theorem scale_eq (e : EReal) : Ideal.div (Ideal.ofBits .f32 0x3F000000#32) (Ideal.ofBits .f32 0x44800000#32)
    * (Ideal.ofBits .f32 0x40000000#32 * e) = e * Ideal.ofBits .f32 0x3A800000#32 := by
  have h : Ideal.ofBits .f32 0x3F000000#32 = ((1/2 : ℝ) : EReal) := by simp [Ideal.ofBits, Ideal.ieee, -EReal.coe_mul]; norm_num
  have w : Ideal.ofBits .f32 0x44800000#32 = ((1024 : ℝ) : EReal) := by simp [Ideal.ofBits, Ideal.ieee, -EReal.coe_mul]; norm_num
  have t : Ideal.ofBits .f32 0x40000000#32 = ((2 : ℝ) : EReal) := by simp [Ideal.ofBits, Ideal.ieee, -EReal.coe_mul]; norm_num
  have i : Ideal.ofBits .f32 0x3A800000#32 = ((1/1024 : ℝ) : EReal) := by simp [Ideal.ofBits, Ideal.ieee, -EReal.coe_mul]; norm_num
  rw [h, w, t, i, Ideal.div_coe (by norm_num), ← mul_assoc, ← EReal.coe_mul, ← EReal.coe_mul, mul_comm]
  congr 2
  norm_num

theorem v15_apply (r : Fin 16640) (d : Fin 1024) : val_main_v15 (F := Ideal) x0 x1 (ix2 r d) = xn x0 x1 r d := by
  unfold xn
  pointwise [val_main_v15, val_main_v14, val_main_v13, val_main_v12, val_main_v11, val_main_v7, val_main_v6, val_main_v5,
    val_main_v4, val_main_v3, val_main_v2, val_main_v1, val_main_v0, ms, val_main_cst, val_main_cst_0, val_main_cst_1]

theorem v17_apply (r : Fin 16384) (d : Fin 1024) : val_main_v17 (F := Ideal) x0 x1 x2 (ix2 r d) = diff x0 x1 x2 r d := by
  have e : (⟨16 + r.val, by omega⟩ : Fin 16640) = token r := Fin.ext (Nat.add_comm _ _)
  unfold diff
  pointwise [val_main_v17, val_main_v16, v15_apply]
  rw [e]

theorem v32_apply (r : Fin 16640) (d : Fin 1024) : val_main_v32 (F := Ideal) x0 x1 x2 (ix2 r d) = dy x0 x1 x2 r d := by
  unfold dy err
  pointwise [val_main_v32, val_main_v31, val_main_v30, val_main_v29, val_main_v28, val_main_v27, val_main_v26, val_main_v20, val_main_v19,
    v17_apply, val_main_cst_3, val_main_cst_8, val_main_cst_9, val_main_cst_10, val_main_cst_11]
  by_cases h : 16 ≤ r.val ∧ r.val < 16400
  · rw [dif_pos (by omega), dif_pos h, scale_eq]
  · rw [dif_neg (by omega), dif_neg h, zero_mul]

/-- What each of the two factors of a row's squares contributes to its gradient, less the row itself. -/
def pull (h y : Fin 1024 → EReal) : EReal :=
  Ideal.div ((∑ x, h x * y x) * (Ideal.ofBits .f32 0xBF000000#32 * Ideal.div (Ideal.rsqrt (ms h)) (ms h)))
    (Ideal.ofBits .f32 0x44800000#32)

theorem v54_apply (d : Fin 1024) : val_main_v54 (F := Ideal) x0 x1 x2 (ix2 0 d)
    = ∑ r, x0 (ix2 r d) * Ideal.rsqrt (ms fun e => x0 (ix2 r e)) * dy x0 x1 x2 r d := by
  pointwise [Finset.univ_unique, Finset.sum_singleton, val_main_v54, val_main_v38, val_main_v35, val_main_v34, val_main_v33, val_main_v12, val_main_v11,
    val_main_v7, val_main_v6, val_main_v5, val_main_v4, val_main_v3, val_main_v2, val_main_v1, val_main_v0, v32_apply, ms, val_main_cst, val_main_cst_0,
    val_main_cst_1, val_main_cst_12, val_main_cst_13]

theorem v52_apply (r : Fin 16640) (d : Fin 1024) : val_main_v52 (F := Ideal) x0 x1 x2 (ix2 r d)
    = dy x0 x1 x2 r d * x1 (ix1 d) * Ideal.rsqrt (ms fun e => x0 (ix2 r e))
      + x0 (ix2 r d) * pull (fun e => x0 (ix2 r e)) (fun e => dy x0 x1 x2 r e * x1 (ix1 e))
      + pull (fun e => x0 (ix2 r e)) (fun e => dy x0 x1 x2 r e * x1 (ix1 e)) * x0 (ix2 r d) := by
  pointwise [Finset.univ_unique, Finset.sum_singleton, Fin.default_eq_zero, pull, val_main_v13, val_main_v52, val_main_v51, val_main_v50, val_main_v49,
    val_main_v48, val_main_v47, val_main_v46, val_main_v45, val_main_v44, val_main_v43, val_main_v42, val_main_v41, val_main_v40, val_main_v39,
    val_main_v37, val_main_v36, val_main_v10, val_main_v9, val_main_v8, val_main_v7, val_main_v6, val_main_v5,
    val_main_v4, val_main_v3, val_main_v2, val_main_v1, val_main_v0, v32_apply, ms, val_main_cst, val_main_cst_0, val_main_cst_1, val_main_cst_2,
    val_main_cst_14, val_main_cst_15, val_main_cst_16]

theorem v53_apply (i : Fin 8) (j : Fin 128) : val_main_v53 (F := Ideal) x0 x1 x2 (ix2 i j)
    = Ideal.ofBits .f32 0x3F000000#32 * ∑ r, Ideal.div (∑ d, diff x0 x1 x2 r d * diff x0 x1 x2 r d) (Ideal.ofBits .f32 0x44800000#32) := by
  pointwise [val_main_v53, val_main_v25, val_main_v24, val_main_v23, val_main_v22, val_main_v21, val_main_v18, v17_apply, val_main_cst_4,
    val_main_cst_5, val_main_cst_6, val_main_cst_7]

end Cert.LossRef

end
-- ==== Proof.LossValue.lean ====
module

public import proofs.«01_k».proof.Proof.LossPoint
public import proofs.«01_k».proof.Proof.LossRef
public import Idealize.ShloMosaic.Lib.Pipeline.ValueKit.Acc

/-! The loss launch's three results after the run, as the reference writes them. -/

@[expose] public section

set_option maxRecDepth 16384

noncomputable section

namespace Cert.LossValue

open Idealize.ShloMosaic Idealize.ShloMosaic.TcCoe Idealize.SL.Sem Cert.KernelLossIdeal Cert.KernelLossIdeal.Gen Cert.KernelLossIdeal.Value
open Cert.LossPoint

variable {m : (ℓ : Loc nD τ sig) → Buf (Elt Ideal) ℓ} {c : Dev nD}
variable (t : Fin cfg0.N)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![t.val, 0] := (by decide +kernel : ∀ t : Fin grid0.N, _)

theorem lt26 (t : Fin cfg0.N) : t.val < 26 := lt_of_lt_of_eq t.isLt N_0

/-- The row of the array at row `k` of tile `t`. -/
abbrev row (t : Fin cfg0.N) (k : Fin 640) : Fin 16640 := ⟨640 * t.val + k.val, by have := lt26 t; omega⟩

theorem hB_apply (k : Fin 640) (f : Fin 1024) : hB m c t (ix2 k f) = a0 m c (ix2 (row t k) f) := by
  have e : V m c main_arg0 = a0 m c := V_main_arg0 m c
  rw [← e]
  blk_ext [iblk, idx0]

theorem gB_apply (d : Fin 1024) : gB m c t (ix2 0 d) = a1 m c (ix1 d) := by
  rw [← V_gain m c d]
  blk_ext [iblk, idx1]

theorem tB_apply (k : Fin 640) (d : Fin 1024) : tB m c t (ix2 k d) = (V m c main_v1 : S16640x1024.Idx → EReal) (ix2 (row t k) d) := by
  blk_ext [iblk, idx2]

theorem err_at (k : Fin 640) (d : Fin 1024) : errB m c t (ix2 k d) = Cert.LossRef.err (a0 m c) (a1 m c) (a2 m c) (row t k) d := by
  rw [errB_apply]
  unfold Cert.LossRef.err mask
  by_cases h : 16 ≤ (row t k).val ∧ (row t k).val < 16400
  · have e : Cert.LossRef.token ⟨(row t k).val - 16, by omega⟩ = row t k := Fin.ext (Nat.sub_add_cancel h.1)
    rw [dif_pos h, if_pos h, mul_one, tB_apply, V_target m c (row t k) d h.1 h.2]
    unfold Cert.LossRef.diff Cert.LossRef.xn
    simp only [hB_apply, gB_apply, e]
    rfl
  · rw [dif_neg h, if_neg h, mul_zero]

variable (m c)

/-- The gradient of the rows. -/
def dh (r : Fin 16640) (d : Fin 1024) : EReal :=
  Cert.LossRef.dy (a0 m c) (a1 m c) (a2 m c) r d * a1 m c (ix1 d) * Ideal.rsqrt (Cert.LossRef.ms fun e => a0 m c (ix2 r e))
    + a0 m c (ix2 r d) * Cert.LossRef.pull (fun e => a0 m c (ix2 r e)) (fun e => Cert.LossRef.dy (a0 m c) (a1 m c) (a2 m c) r e * a1 m c (ix1 e))
    + Cert.LossRef.pull (fun e => a0 m c (ix2 r e)) (fun e => Cert.LossRef.dy (a0 m c) (a1 m c) (a2 m c) r e * a1 m c (ix1 e)) * a0 m c (ix2 r d)

/-- A row's part of the gain's gradient. -/
def dgTerm (d : Fin 1024) (r : Fin 16640) : EReal :=
  a0 m c (ix2 r d) * Ideal.rsqrt (Cert.LossRef.ms fun e => a0 m c (ix2 r e)) * Cert.LossRef.dy (a0 m c) (a1 m c) (a2 m c) r d

/-- A row's mean squared error. -/
def sq (r : Fin 16640) : EReal :=
  Ideal.div (∑ d, Cert.LossRef.err (a0 m c) (a1 m c) (a2 m c) r d * Cert.LossRef.err (a0 m c) (a1 m c) (a2 m c) r d) (Ideal.ofBits .f32 0x44800000#32)

abbrev half : EReal := Ideal.ofBits .f32 0x3F000000#32

variable {m c}

theorem rows_at (k : Fin 640) (d : Fin 1024) :
    (outsAt0 m c t.val t.isLt).2.1 (ix2 k d) = dh m c (row t k) d := by
  rw [outs_rows]
  refine (rows_apply (hB m c t) (gB m c t) (errB m c t) k d).trans ?_
  simp only [hB_apply, gB_apply, err_at]
  rfl

theorem final4 : (dats m 0 c).arrAt 4 cfg0.N = fun i : S16640x1024.Idx => dh m c (i 0) (i 1) := by
  refine (dats m 0 c).arrAt_eq_of_covers 4 _ (by decide +kernel) fun t hf y => ?_
  blk_simp
  rw [after0_4]
  obtain ⟨k, d, rfl⟩ : ∃ (k : Fin 640) (d : Fin 1024), y = ix2 k d := ⟨y 0, y 1, eq_ix2 y⟩
  refine (rows_at t k d).trans (congrArg₂ (dh m c) (Fin.ext ?_) (Fin.ext ?_))
  · blk_simp [idx4]
    show 640 * t.val + k.val = _
    omega
  · blk_simp [idx4]

/-- The sum over the tiles of the sums over a tile's rows. -/
theorem sum_rows (f : Fin 16640 → EReal) : ∑ t : Fin cfg0.N, ∑ k, f (row t k) = ∑ r, f r := by
  have e := Cert.Tiles.sum_tiles (b := 640) (n := 26) (N := 16640) (by norm_num) (fun r => if h : r < 16640 then f ⟨r, h⟩ else 0)
  rw [← Fin.sum_univ_eq_sum_range (fun s => ∑ k : Fin 640, if h : 640 * s + k.val < 16640 then f ⟨640 * s + k.val, h⟩ else 0) 26] at e
  refine Eq.trans ?_ (e.trans (Finset.sum_congr rfl fun r _ => dif_pos r.isLt))
  show ∑ t : Fin 26, _ = _
  refine Finset.sum_congr rfl fun t _ => Finset.sum_congr rfl fun k _ => ?_
  rw [dif_pos (by omega)]

theorem gain_last (d : Fin 1024) (t : Fin cfg0.N) (ht : t.val + 1 = cfg0.N) :
    (outsAt0 m c t.val t.isLt).2.2 (ix2 0 d) = ∑ r, dgTerm m c d r := by
  have n : ∀ (t : Fin cfg0.N) (acc : Row), gain (iblk m c 0 t) (errB m c t) acc (ix2 0 d) = acc (ix2 0 d) + ∑ k, dgTerm m c d (row t k) := fun t acc => by
    refine (gain_apply (hB m c t) (errB m c t) acc d).trans (congrArg _ (Finset.sum_congr rfl fun k _ => ?_))
    simp only [hB_apply, err_at]
    rfl
  have q := Pipeline.eq_sum_fin_of_reset_step_last (M := EReal) (fun n h => (outsAt0 m c n h).2.2 (ix2 0 d)) 26 0 (fun t => ∑ k, dgTerm m c d (row t k))
    (fun t h => by rw [outs_gain_first m c t h, n, pay6_apply])
    (fun t h => by rw [outs_gain m c t h, n]) (by decide) t ht
  rw [q, sum_rows, zero_add]

theorem half_add (a b : EReal) : half * (a + b) = half * a + half * b := by
  have h : half = ((1/2 : ℝ) : EReal) := by
    unfold half
    simp [Ideal.ofBits, Ideal.ieee, -EReal.coe_mul]
    norm_num
  rw [h]
  exact EReal.left_distrib_of_nonneg_of_ne_top (by norm_cast; norm_num) (EReal.coe_ne_top _) a b

theorem half_sum {ι : Type} (s : Finset ι) (f : ι → EReal) : half * ∑ i ∈ s, f i = ∑ i ∈ s, half * f i := by
  classical
  induction s using Finset.induction_on with
  | empty => simp
  | insert i s hi ih => rw [Finset.sum_insert hi, Finset.sum_insert hi, half_add, ih]

theorem loss_last (i : Fin 8) (j : Fin 128) (t : Fin cfg0.N) (ht : t.val + 1 = cfg0.N) :
    (outsAt0 m c t.val t.isLt).1 (ix2 i j) = half * ∑ r, sq m c r := by
  have n : ∀ (t : Fin cfg0.N) (acc : Lanes), loss (errB m c t) acc (ix2 i j) = acc (ix2 i j) + ∑ k, half * sq m c (row t k) := fun t acc => by
    refine (loss_apply (errB m c t) acc i j).trans (congrArg _ ?_)
    rw [← half_sum]
    simp only [err_at]
    rfl
  have q := Pipeline.eq_sum_fin_of_reset_step_last (M := EReal) (fun n h => (outsAt0 m c n h).1 (ix2 i j)) 26 0 (fun t => ∑ k, half * sq m c (row t k))
    (fun t h => by rw [outs_loss_first m c t h, n, pay5_apply])
    (fun t h => by rw [outs_loss m c t h, n]) (by decide) t ht
  rw [q, sum_rows (fun r => half * sq m c r), zero_add, half_sum]

/-- The last point. -/
abbrev last : Fin cfg0.N := ⟨25, by decide⟩

theorem final5 : (dats m 0 c).arrAt 5 cfg0.N = fun i : S1x1024.Idx => ∑ r, dgTerm m c (i 1) r := by
  refine (dats m 0 c).arrAt_eq_of_after_last 5 last (by decide +kernel) _ fun j => ?_
  blk_simp
  rw [after0_5]
  obtain ⟨d, rfl⟩ : ∃ d : Fin 1024, j = ix2 0 d := ⟨j 1, (eq_ix2 j).trans (congrArg (fun a => ix2 a (j 1)) (Subsingleton.elim _ _))⟩
  exact gain_last d last (by decide)

theorem final3 : (dats m 0 c).arrAt 3 cfg0.N = fun _ : S8x128.Idx => half * ∑ r, sq m c r := by
  refine (dats m 0 c).arrAt_eq_of_after_last 3 last (by decide +kernel) _ fun j => ?_
  blk_simp
  rw [after0_3]
  obtain ⟨i, j, rfl⟩ : ∃ (i : Fin 8) (k : Fin 128), j = ix2 i k := ⟨j 0, j 1, eq_ix2 j⟩
  exact loss_last i j last (by decide)

/-- The rows without a target add nothing. -/
theorem sum_sq : ∑ r, sq m c r = ∑ r, Ideal.div (∑ d, Cert.LossRef.diff (a0 m c) (a1 m c) (a2 m c) r d * Cert.LossRef.diff (a0 m c) (a1 m c) (a2 m c) r d)
    (Ideal.ofBits .f32 0x44800000#32) := by
  have w : Ideal.ofBits .f32 0x44800000#32 = ((1024 : ℝ) : EReal) := by simp [Ideal.ofBits, Ideal.ieee, -EReal.coe_mul]; norm_num
  have z : ∀ r : Fin 16640, ¬(16 ≤ r.val ∧ r.val < 16400) → sq m c r = 0 := fun r h => by
    unfold sq Cert.LossRef.err
    rw [w]
    simp only [dif_neg h, mul_zero, Finset.sum_const_zero]
    rw [Ideal.div_coe (by norm_num), zero_mul]
  symm
  refine Finset.sum_bij_ne_zero (fun r _ _ => Cert.LossRef.token r) (fun _ _ _ => Finset.mem_univ _) (fun a _ _ b _ _ h => ?_) (fun r _ hr => ?_) (fun r _ _ => ?_)
  · have := congrArg Fin.val h
    exact Fin.ext (Nat.add_right_cancel this)
  · have h : 16 ≤ r.val ∧ r.val < 16400 := by
      by_contra h
      exact hr (z r h)
    have e : Cert.LossRef.token ⟨r.val - 16, by omega⟩ = r := Fin.ext (Nat.sub_add_cancel h.1)
    refine ⟨⟨r.val - 16, by omega⟩, Finset.mem_univ _, fun q => hr ?_, e⟩
    rw [← q]
    unfold sq Cert.LossRef.err
    simp only [h, and_self, dif_pos]
  · have h : 16 ≤ (Cert.LossRef.token r).val ∧ (Cert.LossRef.token r).val < 16400 := ⟨by show 16 ≤ r.val + 16; omega, by show r.val + 16 < 16400; omega⟩
    have e : (⟨(Cert.LossRef.token r).val - 16, by omega⟩ : Fin 16384) = r := Fin.ext (Nat.add_sub_cancel _ _)
    unfold sq Cert.LossRef.err
    simp only [h, and_self, dif_pos, e]

end Cert.LossValue

end
-- ==== Proof.LossAlgebra.lean ====
module

public import proofs.«01_k».proof.Defs
public import proofs.«01_k».proof.Proof.Gen.ReferenceLossIdeal.Run
public import proofs.«01_k».proof.Proof.LossValue

/-! The loss, and its gradients in the rows and in the gain, are the reference's. -/

@[expose] public section

set_option maxRecDepth 16384

noncomputable section

namespace Cert.LossAlgebra

open Idealize.ShloMosaic Idealize.ShloMosaic.TcCoe Idealize.SL.Sem Cert.KernelLossIdeal Cert.KernelLossIdeal.Gen Cert.KernelLossIdeal.Value
open Cert.LossPoint Cert.LossValue Cert.ReferenceLossIdeal.Read

theorem algebraic : Cert.algebraic_KernelLossIdeal_ReferenceLossIdeal (hKernelLossIdeal := Cert.KernelLossIdeal.Gen.facts)
    (hReferenceLossIdeal := Cert.ReferenceLossIdeal.Gen.facts) := by
  intro m g m' g' _ hargs
  refine ⟨_, _, _, Cert.KernelLossIdeal.Value.run_blocks m g, ?_⟩
  refine (θ_run _ _ _).mono (fun r h c => ?_) (Cert.ReferenceLossIdeal.Value.run m' g')
  obtain ⟨h0, h1, h2, k⟩ := h c
  obtain ⟨e0, e1, e2⟩ := hargs c
  refine ⟨h0.trans ?_, h1.trans ?_, h2.trans ?_, k⟩
  · rw [val_main_v53_eq, e0, e1, e2, final3]
    funext i
    obtain ⟨i, j, rfl⟩ : ∃ (r : Fin 8) (d : Fin 128), i = ix2 r d := ⟨i 0, i 1, eq_ix2 i⟩
    exact (Cert.LossRef.v53_apply ..).trans (congrArg _ sum_sq.symm)
  · rw [val_main_v52_eq, e0, e1, e2, final4]
    funext i
    obtain ⟨r, d, rfl⟩ : ∃ (r : Fin 16640) (d : Fin 1024), i = ix2 r d := ⟨i 0, i 1, eq_ix2 i⟩
    exact Cert.LossRef.v52_apply ..
  · rw [val_main_v54_eq, e0, e1, e2, final5]
    funext i
    obtain ⟨d, rfl⟩ : ∃ d : Fin 1024, i = ix2 0 d := ⟨i 1, (eq_ix2 i).trans (congrArg (fun a => ix2 a (i 1)) (Subsingleton.elim _ _))⟩
    exact Cert.LossRef.v54_apply ..

end Cert.LossAlgebra

end
-- ==== Proof.AdamAlgebra.lean ====
module

public import proofs.«01_k».proof.Defs
public import proofs.«01_k».proof.Proof.Gen.KernelAdamIdeal.Value
public import proofs.«01_k».proof.Proof.Gen.ReferenceAdamIdeal.Run
public import proofs.«01_k».proof.Proof.Gen.ReferenceAdamIdeal.Read
public import Idealize.ShloMosaic.Lib.Pointwise

/-! The optimiser's three results are the reference's, element by element. -/

@[expose] public section

set_option maxRecDepth 16384

noncomputable section

namespace Cert.AdamAlgebra

open Idealize.ShloMosaic Idealize.ShloMosaic.TcCoe Idealize.SL.Sem Cert.KernelAdamIdeal Cert.KernelAdamIdeal.Gen Cert.KernelAdamIdeal.Value
open Cert.ReferenceAdamIdeal.Read

variable (w g m v : S1408x1024.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamIdeal_ReferenceAdamIdeal (hKernelAdamIdeal := Cert.KernelAdamIdeal.Gen.facts)
    (hReferenceAdamIdeal := Cert.ReferenceAdamIdeal.Gen.facts) := by
  intro m g m' g' _ hargs
  refine ⟨_, _, _, Cert.KernelAdamIdeal.Value.run m g, ?_⟩
  refine (θ_run _ _ _).mono (fun r h c => ?_) (Cert.ReferenceAdamIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamAlgebra

end
-- ==== Proof.InprojFwdAlgebra.lean ====
module

public import proofs.«01_k».proof.Defs
public import proofs.«01_k».proof.Proof.Gen.KernelInprojFwdIdeal.Value
public import proofs.«01_k».proof.Proof.Gen.ReferenceInprojFwdIdeal.Run
public import proofs.«01_k».proof.Proof.Gen.ReferenceInprojFwdIdeal.Read
public import proofs.«01_k».proof.Proof.InprojValue

/-! The input projection: the launch's seven results are the reference's. -/

@[expose] public section

set_option maxRecDepth 16384

noncomputable section

namespace Cert.InprojFwdAlgebra

open Idealize.ShloMosaic Idealize.ShloMosaic.TcCoe Idealize.SL.Sem Cert.KernelInprojFwdIdeal Cert.KernelInprojFwdIdeal.Gen Cert.KernelInprojFwdIdeal.Value
open Cert.ReferenceInprojFwdIdeal.Read
open Cert.InprojRef (packed ms)
open Cert.InprojValue (packW packW_apply packed_low packed_wide packed_lanes)

/-! The reference's product. -/

section
variable (x0 : S16640x1024.Idx → EReal) (x1 : S1024.Idx → EReal) (x2 : S1024x2312.Idx → EReal)

/-- The normed rows' product with the weights. -/
def prod (r : Fin 16640) (j : Fin 2312) : EReal :=
  ∑ d : Fin 1024, x0 (ix2 r d) * Ideal.rsqrt (ms fun e => x0 (ix2 r e)) * x1 (ix1 d) * x2 (ix2 d j)

theorem v13_apply (r : Fin 16640) (j : Fin 2312) : val_main_v13 (F := Ideal) x0 x1 x2 (ix2 r j) = prod x0 x1 x2 r j := by
  unfold prod
  pointwise [val_main_v13, val_main_v12, val_main_v11, val_main_v10, val_main_v9, val_main_v8, val_main_v7, val_main_v6, val_main_v5,
    val_main_v4, val_main_v3, val_main_v2, val_main_v1, val_main_v0, ms, val_main_cst, val_main_cst_0, val_main_cst_1]

theorem ref_q (r : Fin 16640) (f : Fin 256) : val_main_v14 (F := Ideal) x0 x1 x2 (ix2 r f) = prod x0 x1 x2 r ⟨f.val, by omega⟩ := by
  pointwise [val_main_v14, v13_apply]

theorem ref_k (r : Fin 16640) (f : Fin 256) : val_main_v15 (F := Ideal) x0 x1 x2 (ix2 r f) = prod x0 x1 x2 r ⟨256 + f.val, by omega⟩ := by
  pointwise [val_main_v15, v13_apply]

theorem ref_v (r : Fin 16640) (f : Fin 256) : val_main_v16 (F := Ideal) x0 x1 x2 (ix2 r f) = prod x0 x1 x2 r ⟨512 + f.val, by omega⟩ := by
  pointwise [val_main_v16, v13_apply]

theorem ref_x (r : Fin 16640) (f : Fin 768) : val_main_v17 (F := Ideal) x0 x1 x2 (ix2 r f) = prod x0 x1 x2 r ⟨768 + f.val, by omega⟩ := by
  pointwise [val_main_v17, v13_apply]

theorem ref_z (r : Fin 16640) (f : Fin 256) : val_main_v18 (F := Ideal) x0 x1 x2 (ix2 r f) = prod x0 x1 x2 r ⟨1536 + f.val, by omega⟩ := by
  pointwise [val_main_v18, v13_apply]

theorem ref_u (r : Fin 16640) (f : Fin 512) : val_main_v21 (F := Ideal) x0 x1 x2 (ix2 r f) = prod x0 x1 x2 r ⟨1800 + f.val, by omega⟩ := by
  pointwise [val_main_v21, v13_apply]

/-- The last block of columns, eight of the weights' and then zeros. -/
def lanes (r : Fin 16640) (f : Fin 128) : EReal := if h : f.val < 8 then prod x0 x1 x2 r ⟨1792 + f.val, by omega⟩ else 0

theorem ref_ba (r : Fin 16640) (f : Fin 128) : val_main_v23 (F := Ideal) x0 x1 x2 (ix2 r f)
    = lanes x0 x1 x2 r f := by
  unfold lanes
  pointwise [val_main_v23, val_main_v22, val_main_v20, val_main_v19, v13_apply, val_main_cst_2]
  by_cases h : f.val < 4
  · rw [dif_pos h, dif_pos (by omega)]
  · by_cases h8 : f.val < 8
    · rw [dif_neg h, dif_pos (by omega), dif_pos h8]
      exact congrArg _ (Fin.ext (by show 1796 + (f.val - 4) = 1792 + f.val; omega))
    · rw [dif_neg h, dif_neg (by omega), dif_neg h8]

end

/-! The launch. -/

variable {m : (ℓ : Loc nD τ sig) → Buf (Elt Ideal) ℓ} {c : Dev nD}
variable (t : Fin cfg0.N)

abbrev a0 (m : (ℓ : Loc nD τ sig) → Buf (Elt Ideal) ℓ) (c : Dev nD) : (⟨S16640x1024, .f32⟩ : BufTy).Contents (Elt Ideal) := m ((c : Thread nD τ).loc main_arg0)
abbrev a1 (m : (ℓ : Loc nD τ sig) → Buf (Elt Ideal) ℓ) (c : Dev nD) : (⟨S1024, .f32⟩ : BufTy).Contents (Elt Ideal) := m ((c : Thread nD τ).loc main_arg1)
abbrev a2 (m : (ℓ : Loc nD τ sig) → Buf (Elt Ideal) ℓ) (c : Dev nD) : (⟨S1024x2312, .f32⟩ : BufTy).Contents (Elt Ideal) := m ((c : Thread nD τ).loc main_arg2)

theorem V_gain (d : Fin 1024) : (V m c main_v0 : S1x1024.Idx → EReal) (ix2 0 d) = a1 m c (ix1 d) := by
  unfold V
  after_reads_simp
  pointwise

theorem V_w' : V m c main_v7 = packW (a2 m c) := by
  unfold V
  after_reads_simp
  rfl

theorem V_w (d : Fin 1024) (j : Fin 2432) : (V m c main_v7 : S1024x2432.Idx → EReal) (ix2 d j)
    = packed d j (fun d j => a2 m c (ix2 d j)) := by
  rw [V_w']
  exact packW_apply _ d j

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

/-- The row of the array at row `k` of tile `t`. -/
abbrev row (t : Fin cfg0.N) (k : Fin 640) : Fin 16640 := ⟨640 * t.val + k.val, by have : t.val < 26 := lt_of_lt_of_eq t.isLt N_0; omega⟩

abbrev hB (m : (ℓ : Loc nD τ sig) → Buf (Elt Ideal) ℓ) (c : Dev nD) (t : Fin cfg0.N) : S640x1024.Idx → EReal := iblk m c 0 t
abbrev gB (m : (ℓ : Loc nD τ sig) → Buf (Elt Ideal) ℓ) (c : Dev nD) (t : Fin cfg0.N) : S1x1024.Idx → EReal := iblk m c 1 t
abbrev wB (m : (ℓ : Loc nD τ sig) → Buf (Elt Ideal) ℓ) (c : Dev nD) (t : Fin cfg0.N) : S1024x2432.Idx → EReal := iblk m c 2 t

theorem hB_apply (k : Fin 640) (f : Fin 1024) : hB m c t (ix2 k f) = a0 m c (ix2 (row t k) f) := by
  have e : V m c main_arg0 = a0 m c := V_main_arg0 m c
  rw [← e]
  blk_ext [iblk, idx0]

theorem gB_apply (d : Fin 1024) : gB m c t (ix2 0 d) = a1 m c (ix1 d) := by
  rw [← V_gain (m := m) (c := c) d]
  blk_ext [iblk, idx1]

theorem wB_apply (d : Fin 1024) (j : Fin 2432) : wB m c t (ix2 d j) = packed d j (fun d j => a2 m c (ix2 d j)) := by
  rw [← V_w (m := m) (c := c) d j]
  blk_ext [iblk, idx2]

/-- A tile's product, in the launch's order of the columns. -/
abbrev prodB (m : (ℓ : Loc nD τ sig) → Buf (Elt Ideal) ℓ) (c : Dev nD) (t : Fin cfg0.N) : S640x2432.Idx → EReal :=
  k0_pay2 (F := Ideal) (hB m c t) (gB m c t) (wB m c t)

theorem pay2_apply (h : S640x1024.Idx → EReal) (g : S1x1024.Idx → EReal) (w : S1024x2432.Idx → EReal) (k : Fin 640) (j : Fin 2432) :
    k0_pay2 (F := Ideal) h g w (ix2 k j)
      = ∑ d : Fin 1024, h (ix2 k d) * Ideal.rsqrt (ms fun e => h (ix2 k e)) * g (ix2 0 d) * w (ix2 d j) := by
  unfold k0_pay2
  pointwise [ms]

theorem prodB_apply (k : Fin 640) (j : Fin 2432) : prodB m c t (ix2 k j)
    = ∑ d : Fin 1024, a0 m c (ix2 (row t k) d) * Ideal.rsqrt (ms fun e => a0 m c (ix2 (row t k) e)) * a1 m c (ix1 d) * packed d j (fun d j => a2 m c (ix2 d j)) := by
  refine (pay2_apply _ _ _ _ _).trans ?_
  simp only [hB_apply, gB_apply, wB_apply]

theorem at3 (k : Fin 640) (f : Fin 256) : k0_pay3 (F := Ideal) (hB m c t) (gB m c t) (wB m c t) (ix2 k f)
    = prod (a0 m c) (a1 m c) (a2 m c) (row t k) ⟨f.val, by omega⟩ := by
  refine Eq.trans (b := prodB m c t (ix2 k ⟨f.val, by omega⟩)) ?_ ?_
  · unfold k0_pay3
    pointwise
  · rw [prodB_apply]
    exact Finset.sum_congr rfl fun d _ => congrArg _ (packed_low _ _ (by omega) _)

theorem final3 : (dats m 0 c).arrAt 3 cfg0.N = fun i : S16640x256.Idx => prod (a0 m c) (a1 m c) (a2 m c) (i 0) ⟨(i 1).val, by have : (i 1).val < 256 := (i 1).isLt; omega⟩ := by
  refine (dats m 0 c).arrAt_eq_of_covers 3 _ (by decide +kernel) fun t hf y => ?_
  blk_simp
  rw [after0_3]
  obtain ⟨k, f, rfl⟩ : ∃ (k : Fin 640) (d : Fin 256), y = ix2 k d := ⟨y 0, y 1, eq_ix2 y⟩
  unfold out0_3
  frame_out
  refine (at3 t k f).trans (congrArg₂ (prod (a0 m c) (a1 m c) (a2 m c)) (Fin.ext ?_) (Fin.ext ?_))
  · blk_simp [idx3]
    show 640 * t.val + k.val = _
    omega
  · blk_simp [idx3]

theorem at4 (k : Fin 640) (f : Fin 256) : k0_pay4 (F := Ideal) (hB m c t) (gB m c t) (wB m c t) (ix2 k f)
    = prod (a0 m c) (a1 m c) (a2 m c) (row t k) ⟨256 + f.val, by omega⟩ := by
  refine Eq.trans (b := prodB m c t (ix2 k ⟨256 + f.val, by omega⟩)) ?_ ?_
  · unfold k0_pay4
    pointwise
  · rw [prodB_apply]
    exact Finset.sum_congr rfl fun d _ => congrArg _ (packed_low _ _ (by omega) _)

theorem final4 : (dats m 0 c).arrAt 4 cfg0.N = fun i : S16640x256.Idx => prod (a0 m c) (a1 m c) (a2 m c) (i 0) ⟨256 + (i 1).val, by have : (i 1).val < 256 := (i 1).isLt; omega⟩ := by
  refine (dats m 0 c).arrAt_eq_of_covers 4 _ (by decide +kernel) fun t hf y => ?_
  blk_simp
  rw [after0_4]
  obtain ⟨k, f, rfl⟩ : ∃ (k : Fin 640) (d : Fin 256), y = ix2 k d := ⟨y 0, y 1, eq_ix2 y⟩
  unfold out0_4
  frame_out
  refine (at4 t k f).trans (congrArg₂ (prod (a0 m c) (a1 m c) (a2 m c)) (Fin.ext ?_) (Fin.ext ?_))
  · blk_simp [idx4]
    show 640 * t.val + k.val = _
    omega
  · blk_simp [idx4]

theorem at5 (k : Fin 640) (f : Fin 256) : k0_pay5 (F := Ideal) (hB m c t) (gB m c t) (wB m c t) (ix2 k f)
    = prod (a0 m c) (a1 m c) (a2 m c) (row t k) ⟨512 + f.val, by omega⟩ := by
  refine Eq.trans (b := prodB m c t (ix2 k ⟨512 + f.val, by omega⟩)) ?_ ?_
  · unfold k0_pay5
    pointwise
  · rw [prodB_apply]
    exact Finset.sum_congr rfl fun d _ => congrArg _ (packed_low _ _ (by omega) _)

theorem final5 : (dats m 0 c).arrAt 5 cfg0.N = fun i : S16640x256.Idx => prod (a0 m c) (a1 m c) (a2 m c) (i 0) ⟨512 + (i 1).val, by have : (i 1).val < 256 := (i 1).isLt; omega⟩ := by
  refine (dats m 0 c).arrAt_eq_of_covers 5 _ (by decide +kernel) fun t hf y => ?_
  blk_simp
  rw [after0_5]
  obtain ⟨k, f, rfl⟩ : ∃ (k : Fin 640) (d : Fin 256), y = ix2 k d := ⟨y 0, y 1, eq_ix2 y⟩
  unfold out0_5
  frame_out
  refine (at5 t k f).trans (congrArg₂ (prod (a0 m c) (a1 m c) (a2 m c)) (Fin.ext ?_) (Fin.ext ?_))
  · blk_simp [idx5]
    show 640 * t.val + k.val = _
    omega
  · blk_simp [idx5]

theorem at6 (k : Fin 640) (f : Fin 768) : k0_pay6 (F := Ideal) (hB m c t) (gB m c t) (wB m c t) (ix2 k f)
    = prod (a0 m c) (a1 m c) (a2 m c) (row t k) ⟨768 + f.val, by omega⟩ := by
  refine Eq.trans (b := prodB m c t (ix2 k ⟨768 + f.val, by omega⟩)) ?_ ?_
  · unfold k0_pay6
    pointwise
  · rw [prodB_apply]
    exact Finset.sum_congr rfl fun d _ => congrArg _ (packed_low _ _ (by omega) _)

theorem final6 : (dats m 0 c).arrAt 6 cfg0.N = fun i : S16640x768.Idx => prod (a0 m c) (a1 m c) (a2 m c) (i 0) ⟨768 + (i 1).val, by have : (i 1).val < 768 := (i 1).isLt; omega⟩ := by
  refine (dats m 0 c).arrAt_eq_of_covers 6 _ (by decide +kernel) fun t hf y => ?_
  blk_simp
  rw [after0_6]
  obtain ⟨k, f, rfl⟩ : ∃ (k : Fin 640) (d : Fin 768), y = ix2 k d := ⟨y 0, y 1, eq_ix2 y⟩
  unfold out0_6
  frame_out
  refine (at6 t k f).trans (congrArg₂ (prod (a0 m c) (a1 m c) (a2 m c)) (Fin.ext ?_) (Fin.ext ?_))
  · blk_simp [idx6]
    show 640 * t.val + k.val = _
    omega
  · blk_simp [idx6]

theorem at7 (k : Fin 640) (f : Fin 256) : k0_pay7 (F := Ideal) (hB m c t) (gB m c t) (wB m c t) (ix2 k f)
    = prod (a0 m c) (a1 m c) (a2 m c) (row t k) ⟨1536 + f.val, by omega⟩ := by
  refine Eq.trans (b := prodB m c t (ix2 k ⟨1536 + f.val, by omega⟩)) ?_ ?_
  · unfold k0_pay7
    pointwise
  · rw [prodB_apply]
    exact Finset.sum_congr rfl fun d _ => congrArg _ (packed_low _ _ (by omega) _)

theorem final7 : (dats m 0 c).arrAt 7 cfg0.N = fun i : S16640x256.Idx => prod (a0 m c) (a1 m c) (a2 m c) (i 0) ⟨1536 + (i 1).val, by have : (i 1).val < 256 := (i 1).isLt; omega⟩ := by
  refine (dats m 0 c).arrAt_eq_of_covers 7 _ (by decide +kernel) fun t hf y => ?_
  blk_simp
  rw [after0_7]
  obtain ⟨k, f, rfl⟩ : ∃ (k : Fin 640) (d : Fin 256), y = ix2 k d := ⟨y 0, y 1, eq_ix2 y⟩
  unfold out0_7
  frame_out
  refine (at7 t k f).trans (congrArg₂ (prod (a0 m c) (a1 m c) (a2 m c)) (Fin.ext ?_) (Fin.ext ?_))
  · blk_simp [idx7]
    show 640 * t.val + k.val = _
    omega
  · blk_simp [idx7]

theorem at8 (k : Fin 640) (f : Fin 512) : k0_pay8 (F := Ideal) (hB m c t) (gB m c t) (wB m c t) (ix2 k f)
    = prod (a0 m c) (a1 m c) (a2 m c) (row t k) ⟨1800 + f.val, by omega⟩ := by
  refine Eq.trans (b := prodB m c t (ix2 k ⟨1792 + f.val, by omega⟩)) ?_ ?_
  · unfold k0_pay8
    pointwise
  · rw [prodB_apply]
    exact Finset.sum_congr rfl fun d _ => congrArg _ (packed_wide _ _ _)

theorem final8 : (dats m 0 c).arrAt 8 cfg0.N = fun i : S16640x512.Idx => prod (a0 m c) (a1 m c) (a2 m c) (i 0) ⟨1800 + (i 1).val, by have : (i 1).val < 512 := (i 1).isLt; omega⟩ := by
  refine (dats m 0 c).arrAt_eq_of_covers 8 _ (by decide +kernel) fun t hf y => ?_
  blk_simp
  rw [after0_8]
  obtain ⟨k, f, rfl⟩ : ∃ (k : Fin 640) (d : Fin 512), y = ix2 k d := ⟨y 0, y 1, eq_ix2 y⟩
  unfold out0_8
  frame_out
  refine (at8 t k f).trans (congrArg₂ (prod (a0 m c) (a1 m c) (a2 m c)) (Fin.ext ?_) (Fin.ext ?_))
  · blk_simp [idx8]
    show 640 * t.val + k.val = _
    omega
  · blk_simp [idx8]

theorem at9 (k : Fin 640) (f : Fin 128) : k0_pay1 (F := Ideal) (prodB m c t) (ix2 k f)
    = lanes (a0 m c) (a1 m c) (a2 m c) (row t k) f := by
  unfold lanes
  refine Eq.trans (b := prodB m c t (ix2 k ⟨2304 + f.val, by omega⟩)) ?_ ?_
  · unfold k0_pay1
    pointwise
  · rw [prodB_apply]
    simp only [packed_lanes]
    by_cases h : f.val < 8
    · simp only [h, dif_pos]
      rfl
    · simp only [h, dif_neg, not_false_eq_true, mul_zero, Finset.sum_const_zero]

theorem final9 : (dats m 0 c).arrAt 9 cfg0.N = fun i : S16640x128.Idx => lanes (a0 m c) (a1 m c) (a2 m c) (i 0) (i 1) := by
  refine (dats m 0 c).arrAt_eq_of_covers 9 _ (by decide +kernel) fun t hf y => ?_
  blk_simp
  rw [after0_9]
  obtain ⟨k, f, rfl⟩ : ∃ (k : Fin 640) (d : Fin 128), y = ix2 k d := ⟨y 0, y 1, eq_ix2 y⟩
  unfold out0_9
  frame_out
  refine (at9 t k f).trans (congrArg₂ (lanes (a0 m c) (a1 m c) (a2 m c)) (Fin.ext ?_) (Fin.ext ?_))
  · blk_simp [idx9]
    show 640 * t.val + k.val = _
    omega
  · blk_simp [idx9]

theorem algebraic : Cert.algebraic_KernelInprojFwdIdeal_ReferenceInprojFwdIdeal (hKernelInprojFwdIdeal := Cert.KernelInprojFwdIdeal.Gen.facts)
    (hReferenceInprojFwdIdeal := Cert.ReferenceInprojFwdIdeal.Gen.facts) := by
  intro m g m' g' _ hargs
  refine ⟨_, _, _, _, _, _, _, Cert.KernelInprojFwdIdeal.Value.run_blocks m g, ?_⟩
  refine (θ_run _ _ _).mono (fun r h c => ?_) (Cert.ReferenceInprojFwdIdeal.Value.run m' g')
  obtain ⟨h0, h1, h2, h3, h4, h5, h6, k⟩ := h c
  obtain ⟨e0, e1, e2⟩ := hargs c
  refine ⟨h0.trans ?_, h1.trans ?_, h2.trans ?_, h3.trans ?_, h4.trans ?_, h5.trans ?_, h6.trans ?_, k⟩
  · rw [val_main_v14_eq, e0, e1, e2, final3]
    funext i
    obtain ⟨r, f, rfl⟩ : ∃ (r : Fin 16640) (f : Fin 256), i = ix2 r f := ⟨i 0, i 1, eq_ix2 i⟩
    exact ref_q ..
  · rw [val_main_v15_eq, e0, e1, e2, final4]
    funext i
    obtain ⟨r, f, rfl⟩ : ∃ (r : Fin 16640) (f : Fin 256), i = ix2 r f := ⟨i 0, i 1, eq_ix2 i⟩
    exact ref_k ..
  · rw [val_main_v16_eq, e0, e1, e2, final5]
    funext i
    obtain ⟨r, f, rfl⟩ : ∃ (r : Fin 16640) (f : Fin 256), i = ix2 r f := ⟨i 0, i 1, eq_ix2 i⟩
    exact ref_v ..
  · rw [val_main_v17_eq, e0, e1, e2, final6]
    funext i
    obtain ⟨r, f, rfl⟩ : ∃ (r : Fin 16640) (f : Fin 768), i = ix2 r f := ⟨i 0, i 1, eq_ix2 i⟩
    exact ref_x ..
  · rw [val_main_v18_eq, e0, e1, e2, final7]
    funext i
    obtain ⟨r, f, rfl⟩ : ∃ (r : Fin 16640) (f : Fin 256), i = ix2 r f := ⟨i 0, i 1, eq_ix2 i⟩
    exact ref_z ..
  · rw [val_main_v21_eq, e0, e1, e2, final8]
    funext i
    obtain ⟨r, f, rfl⟩ : ∃ (r : Fin 16640) (f : Fin 512), i = ix2 r f := ⟨i 0, i 1, eq_ix2 i⟩
    exact ref_u ..
  · rw [val_main_v23_eq, e0, e1, e2, final9]
    funext i
    obtain ⟨r, f, rfl⟩ : ∃ (r : Fin 16640) (f : Fin 128), i = ix2 r f := ⟨i 0, i 1, eq_ix2 i⟩
    exact ref_ba ..

end Cert.InprojFwdAlgebra

end
-- ==== Proof.AdamGateAlgebra.lean ====
module

public import proofs.«01_k».proof.Defs
public import proofs.«01_k».proof.Proof.Gen.KernelAdamGateIdeal.Value
public import proofs.«01_k».proof.Proof.Gen.ReferenceAdamGateIdeal.Run
public import proofs.«01_k».proof.Proof.Gen.ReferenceAdamGateIdeal.Read
public import Idealize.ShloMosaic.Lib.Pointwise

/-! The optimiser's three results are the reference's, element by element. -/

@[expose] public section

set_option maxRecDepth 16384

noncomputable section

namespace Cert.AdamGateAlgebra

open Idealize.ShloMosaic Idealize.ShloMosaic.TcCoe Idealize.SL.Sem Cert.KernelAdamGateIdeal Cert.KernelAdamGateIdeal.Gen Cert.KernelAdamGateIdeal.Value
open Cert.ReferenceAdamGateIdeal.Read

variable (w g m v : S2048x704.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamGateIdeal_ReferenceAdamGateIdeal (hKernelAdamGateIdeal := Cert.KernelAdamGateIdeal.Gen.facts)
    (hReferenceAdamGateIdeal := Cert.ReferenceAdamGateIdeal.Gen.facts) := by
  intro m g m' g' _ hargs
  refine ⟨_, _, _, Cert.KernelAdamGateIdeal.Value.run m g, ?_⟩
  refine (θ_run _ _ _).mono (fun r h c => ?_) (Cert.ReferenceAdamGateIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamGateAlgebra

end
-- ==== Proof.AdamInAlgebra.lean ====
module

public import proofs.«01_k».proof.Defs
public import proofs.«01_k».proof.Proof.Gen.KernelAdamInIdeal.Value
public import proofs.«01_k».proof.Proof.Gen.ReferenceAdamInIdeal.Run
public import proofs.«01_k».proof.Proof.Gen.ReferenceAdamInIdeal.Read
public import Idealize.ShloMosaic.Lib.Pointwise

/-! The optimiser's three results are the reference's, element by element. -/

@[expose] public section

set_option maxRecDepth 16384

noncomputable section

namespace Cert.AdamInAlgebra

open Idealize.ShloMosaic Idealize.ShloMosaic.TcCoe Idealize.SL.Sem Cert.KernelAdamInIdeal Cert.KernelAdamInIdeal.Gen Cert.KernelAdamInIdeal.Value
open Cert.ReferenceAdamInIdeal.Read

variable (w g m v : S2048x578.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamInIdeal_ReferenceAdamInIdeal (hKernelAdamInIdeal := Cert.KernelAdamInIdeal.Gen.facts)
    (hReferenceAdamInIdeal := Cert.ReferenceAdamInIdeal.Gen.facts) := by
  intro m g m' g' _ hargs
  refine ⟨_, _, _, Cert.KernelAdamInIdeal.Value.run m g, ?_⟩
  refine (θ_run _ _ _).mono (fun r h c => ?_) (Cert.ReferenceAdamInIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamInAlgebra

end
-- ==== Proof.AdamOutAlgebra.lean ====
module

public import proofs.«01_k».proof.Defs
public import proofs.«01_k».proof.Proof.Gen.KernelAdamOutIdeal.Value
public import proofs.«01_k».proof.Proof.Gen.ReferenceAdamOutIdeal.Run
public import proofs.«01_k».proof.Proof.Gen.ReferenceAdamOutIdeal.Read
public import Idealize.ShloMosaic.Lib.Pointwise

/-! The optimiser's three results are the reference's, element by element. -/

@[expose] public section

set_option maxRecDepth 16384

noncomputable section

namespace Cert.AdamOutAlgebra

open Idealize.ShloMosaic Idealize.ShloMosaic.TcCoe Idealize.SL.Sem Cert.KernelAdamOutIdeal Cert.KernelAdamOutIdeal.Gen Cert.KernelAdamOutIdeal.Value
open Cert.ReferenceAdamOutIdeal.Read

variable (w g m v : S512x1024.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamOutIdeal_ReferenceAdamOutIdeal (hKernelAdamOutIdeal := Cert.KernelAdamOutIdeal.Gen.facts)
    (hReferenceAdamOutIdeal := Cert.ReferenceAdamOutIdeal.Gen.facts) := by
  intro m g m' g' _ hargs
  refine ⟨_, _, _, Cert.KernelAdamOutIdeal.Value.run m g, ?_⟩
  refine (θ_run _ _ _).mono (fun r h c => ?_) (Cert.ReferenceAdamOutIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamOutAlgebra

end
-- ==== Proof.AdamGluAlgebra.lean ====
module

public import proofs.«01_k».proof.Defs
public import proofs.«01_k».proof.Proof.Gen.KernelAdamGluIdeal.Value
public import proofs.«01_k».proof.Proof.Gen.ReferenceAdamGluIdeal.Run
public import proofs.«01_k».proof.Proof.Gen.ReferenceAdamGluIdeal.Read
public import Idealize.ShloMosaic.Lib.Pointwise

/-! The optimiser's three results are the reference's, element by element. -/

@[expose] public section

set_option maxRecDepth 16384

noncomputable section

namespace Cert.AdamGluAlgebra

open Idealize.ShloMosaic Idealize.ShloMosaic.TcCoe Idealize.SL.Sem Cert.KernelAdamGluIdeal Cert.KernelAdamGluIdeal.Gen Cert.KernelAdamGluIdeal.Value
open Cert.ReferenceAdamGluIdeal.Read

variable (w g m v : S256x512.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamGluIdeal_ReferenceAdamGluIdeal (hKernelAdamGluIdeal := Cert.KernelAdamGluIdeal.Gen.facts)
    (hReferenceAdamGluIdeal := Cert.ReferenceAdamGluIdeal.Gen.facts) := by
  intro m g m' g' _ hargs
  refine ⟨_, _, _, Cert.KernelAdamGluIdeal.Value.run m g, ?_⟩
  refine (θ_run _ _ _).mono (fun r h c => ?_) (Cert.ReferenceAdamGluIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamGluAlgebra

end
-- ==== Proof.AdamMetaAlgebra.lean ====
module

public import proofs.«01_k».proof.Defs
public import proofs.«01_k».proof.Proof.Gen.KernelAdamMetaIdeal.Value
public import proofs.«01_k».proof.Proof.Gen.ReferenceAdamMetaIdeal.Run
public import proofs.«01_k».proof.Proof.Gen.ReferenceAdamMetaIdeal.Read
public import Idealize.ShloMosaic.Lib.Pointwise

/-! The optimiser's three results are the reference's, element by element. -/

@[expose] public section

set_option maxRecDepth 16384

noncomputable section

namespace Cert.AdamMetaAlgebra

open Idealize.ShloMosaic Idealize.ShloMosaic.TcCoe Idealize.SL.Sem Cert.KernelAdamMetaIdeal Cert.KernelAdamMetaIdeal.Gen Cert.KernelAdamMetaIdeal.Value
open Cert.ReferenceAdamMetaIdeal.Read

variable (w g m v : S16x256.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamMetaIdeal_ReferenceAdamMetaIdeal (hKernelAdamMetaIdeal := Cert.KernelAdamMetaIdeal.Gen.facts)
    (hReferenceAdamMetaIdeal := Cert.ReferenceAdamMetaIdeal.Gen.facts) := by
  intro m g m' g' _ hargs
  refine ⟨_, _, _, Cert.KernelAdamMetaIdeal.Value.run m g, ?_⟩
  refine (θ_run _ _ _).mono (fun r h c => ?_) (Cert.ReferenceAdamMetaIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamMetaAlgebra

end
-- ==== Proof.AdamConvAlgebra.lean ====
module

public import proofs.«01_k».proof.Defs
public import proofs.«01_k».proof.Proof.Gen.KernelAdamConvIdeal.Value
public import proofs.«01_k».proof.Proof.Gen.ReferenceAdamConvIdeal.Run
public import proofs.«01_k».proof.Proof.Gen.ReferenceAdamConvIdeal.Read
public import Idealize.ShloMosaic.Lib.Pointwise

/-! The optimiser's three results are the reference's, element by element. -/

@[expose] public section

set_option maxRecDepth 16384

noncomputable section

namespace Cert.AdamConvAlgebra

open Idealize.ShloMosaic Idealize.ShloMosaic.TcCoe Idealize.SL.Sem Cert.KernelAdamConvIdeal Cert.KernelAdamConvIdeal.Gen Cert.KernelAdamConvIdeal.Value
open Cert.ReferenceAdamConvIdeal.Read

variable (w g m v : S8x192.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamConvIdeal_ReferenceAdamConvIdeal (hKernelAdamConvIdeal := Cert.KernelAdamConvIdeal.Gen.facts)
    (hReferenceAdamConvIdeal := Cert.ReferenceAdamConvIdeal.Gen.facts) := by
  intro m g m' g' _ hargs
  refine ⟨_, _, _, Cert.KernelAdamConvIdeal.Value.run m g, ?_⟩
  refine (θ_run _ _ _).mono (fun r h c => ?_) (Cert.ReferenceAdamConvIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamConvAlgebra

end
-- ==== Proof.AdamRestAlgebra.lean ====
module

public import proofs.«01_k».proof.Defs
public import proofs.«01_k».proof.Proof.Gen.KernelAdamRestIdeal.Value
public import proofs.«01_k».proof.Proof.Gen.ReferenceAdamRestIdeal.Run
public import proofs.«01_k».proof.Proof.Gen.ReferenceAdamRestIdeal.Read
public import Idealize.ShloMosaic.Lib.Pointwise

/-! The optimiser's three results are the reference's, element by element. -/

@[expose] public section

set_option maxRecDepth 16384

noncomputable section

namespace Cert.AdamRestAlgebra

open Idealize.ShloMosaic Idealize.ShloMosaic.TcCoe Idealize.SL.Sem Cert.KernelAdamRestIdeal Cert.KernelAdamRestIdeal.Gen Cert.KernelAdamRestIdeal.Value
open Cert.ReferenceAdamRestIdeal.Read

variable (w g m v : S384x1024.Idx → EReal)

theorem moment1 : val_main_v4 (F := Ideal) g m = G5 (F := Ideal) g m := by
  funext i
  idx_vars i
  pointwise [G5, val_main_v4, val_main_v3, val_main_v2, val_main_v1, val_main_v0, val_main_cst, val_main_cst_0]

theorem moment2 : val_main_v10 (F := Ideal) g v = G6 (F := Ideal) g v := by
  funext i
  idx_vars i
  pointwise [G6, val_main_v10, val_main_v9, val_main_v8, val_main_v7, val_main_v6, val_main_v5, val_main_cst_1, val_main_cst_2]

theorem step : val_main_v23 (F := Ideal) w g m v = G4 (F := Ideal) g m v w := by
  funext i
  idx_vars i
  pointwise [G4, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6, val_main_cst_7]

theorem algebraic : Cert.algebraic_KernelAdamRestIdeal_ReferenceAdamRestIdeal (hKernelAdamRestIdeal := Cert.KernelAdamRestIdeal.Gen.facts)
    (hReferenceAdamRestIdeal := Cert.ReferenceAdamRestIdeal.Gen.facts) := by
  intro m g m' g' _ hargs
  refine ⟨_, _, _, Cert.KernelAdamRestIdeal.Value.run m g, ?_⟩
  refine (θ_run _ _ _).mono (fun r h c => ?_) (Cert.ReferenceAdamRestIdeal.Value.run m' g')
  obtain ⟨h0, h1, h2, k⟩ := h c
  obtain ⟨e0, e1, e2, e3⟩ := hargs c
  refine ⟨h0.trans ?_, h1.trans ?_, h2.trans ?_, k⟩
  · rw [val_main_v23_eq, e0, e1, e2, e3]
    exact step ..
  · rw [val_main_v4_eq, e1, e2]
    exact moment1 ..
  · rw [val_main_v10_eq, e1, e3]
    exact moment2 ..

end Cert.AdamRestAlgebra

end
-- ==== Proof.MixOutRows.lean ====
module

public import proofs.«01_k».proof.Proof.Reals
public import Idealize.ShloMosaic.Lib.Pointwise

/-! The mixer's output block on one token row: the norm of each head, the gate, the gated linear unit with its norm, the
product with the output weights, and what the gradients of the six weights take from the row. -/

@[expose] public section

set_option maxRecDepth 16384

noncomputable section

namespace Cert.MixOutRows

open Idealize.ShloMosaic

/-! Heads: 256 columns are four heads of 64. -/

/-- Column `d` of head `a`. -/
abbrev col (a : Fin 4) (d : Fin 64) : Fin 256 := ⟨a.val * 64 + d.val, by omega⟩

/-- The head of a column, and its place in the head. -/
abbrev head (k : Fin 256) : Fin 4 := ⟨k.val / 64, by omega⟩
abbrev lane (k : Fin 256) : Fin 64 := ⟨k.val % 64, by omega⟩

theorem head_col (a : Fin 4) (d : Fin 64) : head (col a d) = a := Fin.ext (by show (a.val * 64 + d.val) / 64 = a.val; omega)
theorem lane_col (a : Fin 4) (d : Fin 64) : lane (col a d) = d := Fin.ext (by show (a.val * 64 + d.val) % 64 = d.val; omega)
theorem col_head_lane (k : Fin 256) : col (head k) (lane k) = k := Fin.ext (by show k.val / 64 * 64 + k.val % 64 = k.val; omega)

/-- Columns as pairs of a head and a place. -/
def pairs : Fin 4 × Fin 64 ≃ Fin 256 :=
  ⟨fun p => col p.1 p.2, fun k => (head k, lane k), fun p => Prod.ext (head_col ..) (lane_col ..), col_head_lane⟩

theorem sum_cols (f : Fin 256 → EReal) : ∑ k, f k = ∑ a, ∑ d, f (col a d) :=
  (Equiv.sum_comp pairs f).symm.trans (Fintype.sum_prod_type _)

/-- A product with the mask of a head's columns is the sum over that head. -/
theorem sum_head (f : Fin 256 → EReal) (k : Fin 256) :
    ∑ i : Fin 256, f i * (if i.val / 64 = k.val / 64 then 1 else 0) = ∑ d, f (col (head k) d) := by
  rw [sum_cols]
  refine (Finset.sum_eq_single (head k) (fun a _ h => ?_) (fun h => absurd (Finset.mem_univ _) h)).trans ?_
  · refine Finset.sum_eq_zero fun d _ => ?_
    have n : ¬ ((a.val * 64 + d.val) / 64 = k.val / 64) := fun e => h (Fin.ext (by show a.val = k.val / 64; omega))
    rw [if_neg n, mul_zero]
  · refine Finset.sum_congr rfl fun d _ => ?_
    rw [if_pos (by show (k.val / 64 * 64 + d.val) / 64 = k.val / 64; omega), mul_one]

/-- A product with the mask of a place is the sum over the heads there. -/
theorem sum_lane (f : Fin 256 → EReal) (d : Fin 64) :
    ∑ k : Fin 256, f k * (if k.val % 64 = d.val then 1 else 0) = ∑ a, f (col a d) := by
  rw [sum_cols]
  refine Finset.sum_congr rfl fun a _ => ?_
  refine (Finset.sum_eq_single d (fun e _ h => ?_) (fun h => absurd (Finset.mem_univ _) h)).trans ?_
  · have n : ¬ ((a.val * 64 + e.val) % 64 = d.val) := fun q => h (Fin.ext (by omega))
    rw [if_neg n, mul_zero]
  · rw [if_pos (by show (a.val * 64 + d.val) % 64 = d.val; omega), mul_one]

/-- A gain spread over the heads by the mask of places. -/
theorem spread (g : Fin 64 → EReal) (k : Fin 256) : ∑ d : Fin 64, g d * (if k.val % 64 = d.val then 1 else 0) = g (lane k) := by
  refine (Finset.sum_eq_single (lane k) (fun e _ h => ?_) (fun h => absurd (Finset.mem_univ _) h)).trans ?_
  · rw [if_neg (fun q => h (Fin.ext q.symm)), mul_zero]
  · rw [if_pos rfl, mul_one]

/-! The row. -/

/-- The mean square of a head, with the norm's epsilon. -/
def ms (o : Fin 256 → EReal) (k : Fin 256) : EReal :=
  (∑ d, o (col (head k) d) * o (col (head k) d)) * Ideal.ofBits .f32 0x3C800000#32 + Ideal.ofBits .f32 0x358637BD#32

/-- The row with each head normed. -/
def nrm (o : Fin 256 → EReal) (k : Fin 256) : EReal := o k * Ideal.rsqrt (ms o k)

/-- The logistic function, the gate and the tanh form of the smooth linear unit. -/
def sg (x : EReal) : EReal := Ideal.div 1 (1 + Ideal.exp (-x))
def sil (x : EReal) : EReal := x * sg x
def gel (x : EReal) : EReal :=
  Ideal.ofBits .f32 0x3F000000#32 * x * (1 + Ideal.tanh (Ideal.ofBits .f32 0x3F4C422A#32 * (x + Ideal.ofBits .f32 0x3D372713#32 * x * x * x)))

/-- The gated linear unit's input and output. -/
def pre (y : Fin 512 → EReal) (w : Fin 512 → Fin 512 → EReal) (b : Fin 512 → EReal) (j : Fin 512) : EReal := (∑ f, gel (y f) * w f j) + b j
def glu (y : Fin 512 → EReal) (w : Fin 512 → Fin 512 → EReal) (b : Fin 512 → EReal) (j : Fin 512) : EReal := gel (y j) * sg (pre y w b j)

/-- The norm of a row of 512. -/
def ms5 (u : Fin 512 → EReal) : EReal := Ideal.div (∑ j, u j * u j) (Ideal.ofBits .f32 0x44000000#32) + Ideal.ofBits .f32 0x358637BD#32
def nrm5 (u : Fin 512 → EReal) (j : Fin 512) : EReal := u j * Ideal.rsqrt (ms5 u)

/-- The norm's cotangent. -/
def pull (u dd : Fin 512 → EReal) : EReal :=
  Ideal.div ((∑ j, u j * dd j) * (Ideal.ofBits .f32 0xBF000000#32 * Ideal.div (Ideal.rsqrt (ms5 u)) (ms5 u))) (Ideal.ofBits .f32 0x44000000#32)
def back (u dd : Fin 512 → EReal) (j : Fin 512) : EReal := dd j * Ideal.rsqrt (ms5 u) + u j * pull u dd + pull u dd * u j

/-- The cotangent of the mixed row. -/
def dmix (dh : Fin 1024 → EReal) (w : Fin 1024 → Fin 1024 → EReal) (j : Fin 1024) : EReal := ∑ e, dh e * w j e

/-- The mixed row: the two normed and gated parts, and the third. -/
def mixed (osb odn z : Fin 256 → EReal) (gsb gdn : Fin 64 → EReal) (u g5 : Fin 512 → EReal) (i : Fin 1024) : EReal :=
  if h : i.val < 256 then nrm osb ⟨i.val, h⟩ * gsb (lane ⟨i.val, h⟩)
  else if h : i.val < 512 then nrm odn ⟨i.val - 256, by omega⟩ * gdn (lane ⟨i.val - 256, by omega⟩) * sil (z ⟨i.val - 256, by omega⟩)
  else nrm5 u ⟨i.val - 512, by omega⟩ * g5 ⟨i.val - 512, by omega⟩

/-- The cotangent of the gated linear unit's input. -/
def dpre (y : Fin 512 → EReal) (w : Fin 512 → Fin 512 → EReal) (b g5 dm : Fin 512 → EReal) (j : Fin 512) : EReal :=
  gel (y j) * back (glu y w b) (fun j => dm j * g5 j) j * (sg (pre y w b j) * (1 - sg (pre y w b j)))

/-! Two spellings of one value. -/

/-- The derivative of the logistic function, from the exponential. -/
theorem sg_deriv (x : EReal) : Ideal.div 1 ((1 + Ideal.exp (-x)) * (1 + Ideal.exp (-x))) * Ideal.exp (-x) = sg x * (1 - sg x) := by
  unfold sg
  induction x using EReal.rec with
  | bot =>
    have h : (1 : EReal) + ⊤ = ⊤ := by rfl
    have t : (⊤ : EReal) * ⊤ = ⊤ := by rfl
    have z : Ideal.div 1 ⊤ = 0 := by simp [Ideal.div]
    rw [EReal.neg_bot, Ideal.exp_top, h, t, z, zero_mul, zero_mul]
  | top =>
    have o : Ideal.div 1 1 = 1 := by
      have q := Ideal.div_coe (y := 1) one_ne_zero 1
      simpa using q
    have s : (1 : EReal) - 1 = 0 := by
      rw [← EReal.coe_one, ← EReal.coe_sub, sub_self, EReal.coe_zero]
    rw [EReal.neg_top, Ideal.exp_bot, add_zero, mul_one, o, mul_zero, s, mul_zero]
  | coe r =>
    have p : 0 < Real.exp (-r) := Real.exp_pos _
    have n : (1 + Real.exp (-r)) ≠ 0 := by positivity
    rw [← EReal.coe_neg, Ideal.exp_coe, ← EReal.coe_one, ← EReal.coe_add, ← EReal.coe_mul, Ideal.div_coe (mul_ne_zero n n), Ideal.div_coe n,
      ← EReal.coe_mul, ← EReal.coe_mul, ← EReal.coe_mul, ← EReal.coe_sub, ← EReal.coe_mul]
    congr 1
    field_simp
    ring

theorem dpre_eq (g e q s : EReal) (h : q * e = s) : 0 - (0 - g * q) * e = g * s := by
  rw [zero_sub, zero_sub, EReal.neg_mul, neg_neg, mul_assoc, h]

theorem div64 (x : EReal) : Ideal.div x (Ideal.ofBits .f32 0x42800000#32) = x * Ideal.ofBits .f32 0x3C800000#32 := by
  have a : Ideal.ofBits .f32 0x42800000#32 = ((64 : ℝ) : EReal) := by
    simp [Ideal.ofBits, Ideal.ieee, -EReal.coe_mul]; norm_num
  have b : Ideal.ofBits .f32 0x3C800000#32 = ((1 / 64 : ℝ) : EReal) := by
    simp [Ideal.ofBits, Ideal.ieee, -EReal.coe_mul]; norm_num
  rw [a, b]
  exact Ideal.div_coe (by norm_num : (64 : ℝ) ≠ 0) x

end Cert.MixOutRows

end
-- ==== Proof.MixOutRef.lean ====
module

public import proofs.«01_k».proof.Proof.Gen.ReferenceMixOutIdeal.Read
public import proofs.«01_k».proof.Proof.MixOutRows
public import Idealize.ShloMosaic.Lib.Pointwise
public import Idealize.ShloMosaic.Lib.StableHlo.ReadAt

/-! The gradients of the mixer's output block as the reference writes them, each at an index. -/

@[expose] public section

set_option maxRecDepth 16384

noncomputable section

namespace Cert.MixOutRef

open Idealize.ShloMosaic Idealize.ShloMosaic.TcCoe Idealize.SL.Sem Cert.ReferenceMixOutIdeal Cert.ReferenceMixOutIdeal.Gen Cert.ReferenceMixOutIdeal.Read

open Cert.MixOutRows

variable (x0 x1 x2 : S16640x256.Idx → EReal) (x3 : S16640x512.Idx → EReal) (x4 x5 : S64.Idx → EReal)
  (x6 : S512x512.Idx → EReal) (x7 x8 : S512.Idx → EReal) (x9 : S1024x1024.Idx → EReal) (x10 : S16640x1024.Idx → EReal)

theorem rsqrt_sb (r : Fin 16640) (a : Fin 4) (d : Fin 64) :
    val_main_v8 (F := Ideal) x0 (ix3 r a 0) = Ideal.rsqrt (ms (fun k => x0 (ix2 r k)) (col a d)) := by
  unfold ms
  rw [head_col, ← div64]
  pointwise [val_main_v8, val_main_v7, val_main_v6, val_main_v5, val_main_v4, val_main_v3, val_main_v2, val_main_v1, val_main_v0,
    val_main_cst, val_main_cst_0, val_main_cst_1]

theorem rsqrt_dn (r : Fin 16640) (a : Fin 4) (d : Fin 64) :
    val_main_v26 (F := Ideal) x1 (ix3 r a 0) = Ideal.rsqrt (ms (fun k => x1 (ix2 r k)) (col a d)) := by
  unfold ms
  rw [head_col, ← div64]
  pointwise [val_main_v26, val_main_v25, val_main_v24, val_main_v23, val_main_v22, val_main_v21, val_main_v20, val_main_v19, val_main_v18,
    val_main_cst_3, val_main_cst_4, val_main_cst_5]

theorem nrm_sb (r : Fin 16640) (a : Fin 4) (d : Fin 64) :
    val_main_v13 (F := Ideal) x0 (ix3 r a d) = nrm (fun k => x0 (ix2 r k)) (col a d) := by
  unfold nrm
  pointwise [val_main_v13, val_main_v12, val_main_v0, rsqrt_sb x0 r a d]

theorem nrm_dn (r : Fin 16640) (a : Fin 4) (d : Fin 64) :
    val_main_v31 (F := Ideal) x1 (ix3 r a d) = nrm (fun k => x1 (ix2 r k)) (col a d) := by
  unfold nrm
  pointwise [val_main_v31, val_main_v30, val_main_v18, rsqrt_dn x1 r a d]

theorem sil_z (r : Fin 16640) (a : Fin 4) (d : Fin 64) :
    val_main_v36_0 (F := Ideal) x2 (ix3 r a d) = sil (x2 (ix2 r (col a d))) := by
  unfold sil sg
  pointwise [val_main_v36_0, val_main_v36_2, val_main_call0_v4, val_main_call0_v3, val_main_call0_v2, val_main_call0_v1, val_main_call0_v0,
    val_main_call0_cst, val_main_call0_cst_0, val_main_v35]

theorem gel_y (r : Fin 16640) (j : Fin 512) : val_main_v59 (F := Ideal) x3 (ix2 r j) = gel (x3 (ix2 r j)) := by
  have e (x : EReal) : Ideal.ofBits .f32 0x3D372713#32 * x * x * x = Ideal.ofBits .f32 0x3D372713#32 * (x * x * x) := by ac_rfl
  have q (a b c : EReal) : a * b * c = b * (a * c) := by ac_rfl
  unfold gel
  rw [e, q]
  pointwise [val_main_v59, val_main_v58, val_main_v57, val_main_v56, val_main_v55, val_main_v49, val_main_v48, val_main_v47, val_main_v46,
    val_main_v45, val_main_v44, val_main_v40, val_main_v39, val_main_cst_8, val_main_cst_9, val_main_cst_12, val_main_cst_13]

theorem sg_pre (r : Fin 16640) (j : Fin 512) : val_main_v69 (F := Ideal) x3 x6 x7 (ix2 r j)
    = sg (pre (fun k => x3 (ix2 r k)) (fun f k => x6 (ix2 f k)) (fun k => x7 (ix1 k)) j) := by
  unfold sg pre
  pointwise [val_main_v69, val_main_v68, val_main_v67, val_main_v66, val_main_v65, val_main_v64, val_main_v63, val_main_v62, val_main_v61,
    val_main_v60, gel_y, val_main_cst_14, val_main_cst_15]

theorem glu_y (r : Fin 16640) (j : Fin 512) : val_main_v73 (F := Ideal) x3 x6 x7 (ix2 r j)
    = glu (fun k => x3 (ix2 r k)) (fun f k => x6 (ix2 f k)) (fun k => x7 (ix1 k)) j := by
  unfold glu
  pointwise [val_main_v73, gel_y, sg_pre]

theorem ms_glu (r : Fin 16640) : val_main_v80 (F := Ideal) x3 x6 x7 (ix2 r 0)
    = ms5 (glu (fun k => x3 (ix2 r k)) (fun f k => x6 (ix2 f k)) (fun k => x7 (ix1 k))) := by
  unfold ms5
  pointwise [val_main_v80, val_main_v79, val_main_v78, val_main_v77, val_main_v76, val_main_v75, val_main_v74, glu_y, val_main_cst_17,
    val_main_cst_18, val_main_cst_19]

theorem nrm_glu (r : Fin 16640) (j : Fin 512) : val_main_v86 (F := Ideal) x3 x6 x7 (ix2 r j)
    = nrm5 (glu (fun k => x3 (ix2 r k)) (fun f k => x6 (ix2 f k)) (fun k => x7 (ix1 k))) j := by
  unfold nrm5
  pointwise [val_main_v86, val_main_v85, val_main_v81, ms_glu, glu_y]

theorem dmix_apply (r : Fin 16640) (j : Fin 1024) : val_main_v94 (F := Ideal) x9 x10 (ix2 r j)
    = dmix (fun k => x10 (ix2 r k)) (fun f k => x9 (ix2 f k)) j := by
  unfold dmix
  pointwise [val_main_v94]

theorem back_apply (r : Fin 16640) (j : Fin 512) : val_main_v117 (F := Ideal) x3 x6 x7 x8 x9 x10 (ix2 r j)
    = back (glu (fun k => x3 (ix2 r k)) (fun f k => x6 (ix2 f k)) (fun k => x7 (ix1 k)))
      (fun j => dmix (fun k => x10 (ix2 r k)) (fun f k => x9 (ix2 f k)) ⟨512 + j.val, by omega⟩ * x8 (ix1 j)) j := by
  unfold back pull
  pointwise [val_main_v117, val_main_v116, val_main_v115, val_main_v114, val_main_v113, val_main_v112, val_main_v111, val_main_v110,
    val_main_v109, val_main_v108, val_main_v107, val_main_v106, val_main_v105, val_main_v104, val_main_v102, val_main_v101, val_main_v97,
    val_main_v87, val_main_v84, val_main_v83, val_main_v82, val_main_v81, dmix_apply, ms_glu, glu_y, val_main_cst_20,
    val_main_cst_23, val_main_cst_24, val_main_cst_25, Finset.univ_unique, Finset.sum_singleton, Fin.default_eq_zero]

theorem dpre_apply (r : Fin 16640) (j : Fin 512) : val_main_v120 (F := Ideal) x3 x6 x7 x8 x9 x10 (ix2 r j)
    = dpre (fun k => x3 (ix2 r k)) (fun f k => x6 (ix2 f k)) (fun k => x7 (ix1 k)) (fun k => x8 (ix1 k))
      (fun j => dmix (fun k => x10 (ix2 r k)) (fun f k => x9 (ix2 f k)) ⟨512 + j.val, by omega⟩) j := by
  unfold dpre
  pointwise [val_main_v120, val_main_v118, val_main_v72, val_main_v71, val_main_v70, val_main_cst_16, gel_y, sg_pre, back_apply]

theorem mixed_apply (r : Fin 16640) (i : Fin 1024) : val_main_v90 (F := Ideal) x0 x1 x2 x3 x4 x5 x6 x7 x8 (ix2 r i)
    = mixed (fun k => x0 (ix2 r k)) (fun k => x1 (ix2 r k)) (fun k => x2 (ix2 r k)) (fun k => x4 (ix1 k)) (fun k => x5 (ix1 k))
      (glu (fun k => x3 (ix2 r k)) (fun f k => x6 (ix2 f k)) (fun k => x7 (ix1 k))) (fun k => x8 (ix1 k)) i := by
  unfold mixed
  pointwise [val_main_v90]
  by_cases h : i.val < 256
  · rw [dif_pos h, dif_pos h]
    have e := col_head_lane ⟨i.val, h⟩
    have n := nrm_sb x0 r (head ⟨i.val, h⟩) (lane ⟨i.val, h⟩)
    rw [e] at n
    refine Eq.trans ?_ (congrArg (· * _) n)
    pointwise [val_main_v17, val_main_v16, val_main_v15, val_main_v14]
  · rw [dif_neg h, dif_neg h]
    by_cases h' : i.val < 512
    · rw [dif_pos h', dif_pos (by omega)]
      have e := col_head_lane ⟨i.val - 256, by omega⟩
      have n := nrm_dn x1 r (head ⟨i.val - 256, by omega⟩) (lane ⟨i.val - 256, by omega⟩)
      have z := sil_z x2 r (head ⟨i.val - 256, by omega⟩) (lane ⟨i.val - 256, by omega⟩)
      rw [e] at n z
      rw [← n, ← z]
      pointwise [val_main_v38, val_main_v37, val_main_v34, val_main_v33, val_main_v32]
    · rw [dif_neg h', dif_neg (by omega)]
      rw [← nrm_glu x3 x6 x7 r ⟨i.val - 512, by omega⟩]
      have q : (⟨i.val - 256 - 256, by omega⟩ : Fin 512) = ⟨i.val - 512, by omega⟩ := Fin.ext (by show i.val - 256 - 256 = i.val - 512; omega)
      pointwise [val_main_v89, val_main_v88, val_main_v87]
      rw [q]

/-- A sum over the first two of three axes. -/
theorem reduce01 {n0 n1 n2 : ℕ} (h : (⟨3, ![n0, n1, n2]⟩ : Shape).ReducesTo [0, 1] ⟨1, ![n2]⟩) (v : (⟨3, ![n0, n1, n2]⟩ : Shape).Idx → EReal)
    (init : EReal) (d : Fin n2) : Ideal.hostReduceAdd h v init (ix1 d) = init + ∑ r : Fin n0, ∑ a : Fin n1, v (ix3 r a d) := by
  have e (r : Fin n0) (a : Fin n1) (c : Fin n2) : h.drop (ix3 r a c) = ix1 d ↔ c = d := by
    constructor
    · intro q
      exact Fin.ext (congrArg Fin.val (congrFun q 0))
    · rintro rfl
      funext b
      apply Fin.ext
      match b with
      | ⟨0, _⟩ => rfl
  unfold Ideal.hostReduceAdd
  rw [Finset.sum_filter, sum_idx3]
  refine congrArg _ (Finset.sum_congr rfl fun r _ => Finset.sum_congr rfl fun a _ => ?_)
  rw [Finset.sum_congr rfl fun c _ => if_congr (e r a c) rfl rfl, Finset.sum_ite_eq' Finset.univ d]
  exact if_pos (Finset.mem_univ d)

/-! The six results. -/

theorem gsb_apply (d : Fin 64) : val_main_v188 (F := Ideal) x0 x9 x10 (ix2 0 d)
    = ∑ r : Fin 16640, ∑ a : Fin 4, nrm (fun k => x0 (ix2 r k)) (col a d)
      * dmix (fun k => x10 (ix2 r k)) (fun f k => x9 (ix2 f k)) ⟨(col a d).val, by omega⟩ := by
  pointwise [val_main_v188, val_main_v172, val_main_v169, val_main_v168, val_main_v167, val_main_v166, val_main_v95, nrm_sb, dmix_apply,
    val_main_cst_36, val_main_cst_37, reduce01, Finset.univ_unique, Finset.sum_singleton, Fin.default_eq_zero]

theorem gdn_apply (d : Fin 64) : val_main_v189 (F := Ideal) x1 x2 x9 x10 (ix2 0 d)
    = ∑ r : Fin 16640, ∑ a : Fin 4, nrm (fun k => x1 (ix2 r k)) (col a d)
      * (dmix (fun k => x10 (ix2 r k)) (fun f k => x9 (ix2 f k)) ⟨256 + (col a d).val, by omega⟩ * sil (x2 (ix2 r (col a d)))) := by
  pointwise [val_main_v189, val_main_v150, val_main_v147, val_main_v146, val_main_v145, val_main_v142, val_main_v140, val_main_v96, nrm_dn, sil_z,
    dmix_apply, val_main_cst_31, val_main_cst_32, reduce01, Finset.univ_unique, Finset.sum_singleton, Fin.default_eq_zero]

theorem g5_apply (j : Fin 512) : val_main_v191 (F := Ideal) x3 x6 x7 x9 x10 (ix2 0 j)
    = ∑ r : Fin 16640, nrm5 (glu (fun k => x3 (ix2 r k)) (fun f k => x6 (ix2 f k)) (fun k => x7 (ix1 k))) j
      * dmix (fun k => x10 (ix2 r k)) (fun f k => x9 (ix2 f k)) ⟨512 + j.val, by omega⟩ := by
  pointwise [val_main_v191, val_main_v103, val_main_v100, val_main_v99, val_main_v98, val_main_v97, nrm_glu, dmix_apply,
    val_main_cst_21, val_main_cst_22, Finset.univ_unique, Finset.sum_singleton, Fin.default_eq_zero]

theorem bg_apply (j : Fin 512) : val_main_v190 (F := Ideal) x3 x6 x7 x8 x9 x10 (ix2 0 j)
    = ∑ r : Fin 16640, dpre (fun k => x3 (ix2 r k)) (fun f k => x6 (ix2 f k)) (fun k => x7 (ix1 k)) (fun k => x8 (ix1 k))
      (fun j => dmix (fun k => x10 (ix2 r k)) (fun f k => x9 (ix2 f k)) ⟨512 + j.val, by omega⟩) j := by
  pointwise [val_main_v190, val_main_v123, val_main_v122, val_main_v121, dpre_apply,
    val_main_cst_26, val_main_cst_27, Finset.univ_unique, Finset.sum_singleton, Fin.default_eq_zero]

theorem wg_apply (f j : Fin 512) : val_main_v125 (F := Ideal) x3 x6 x7 x8 x9 x10 (ix2 f j)
    = ∑ r : Fin 16640, gel (x3 (ix2 r f)) * dpre (fun k => x3 (ix2 r k)) (fun f k => x6 (ix2 f k)) (fun k => x7 (ix1 k)) (fun k => x8 (ix1 k))
      (fun j => dmix (fun k => x10 (ix2 r k)) (fun f k => x9 (ix2 f k)) ⟨512 + j.val, by omega⟩) j := by
  pointwise [val_main_v125, val_main_v124, dpre_apply, gel_y]
  exact Finset.sum_congr rfl fun r _ => mul_comm _ _

theorem wo_apply (i j : Fin 1024) : val_main_v93 (F := Ideal) x0 x1 x2 x3 x4 x5 x6 x7 x8 x10 (ix2 i j)
    = ∑ r : Fin 16640, mixed (fun k => x0 (ix2 r k)) (fun k => x1 (ix2 r k)) (fun k => x2 (ix2 r k)) (fun k => x4 (ix1 k)) (fun k => x5 (ix1 k))
      (glu (fun k => x3 (ix2 r k)) (fun f k => x6 (ix2 f k)) (fun k => x7 (ix1 k))) (fun k => x8 (ix1 k)) i * x10 (ix2 r j) := by
  pointwise [val_main_v93, val_main_v92, mixed_apply]
  exact Finset.sum_congr rfl fun r _ => mul_comm _ _

end Cert.MixOutRef

end
-- ==== Proof.MixOutPoint.lean ====
module

public import proofs.«01_k».proof.Proof.Gen.KernelMixOutIdeal.Value
public import proofs.«01_k».proof.Proof.Tiles
public import proofs.«01_k».proof.Proof.MixOutRows
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The backward launch of the mixer's output block: one grid point of it. -/

@[expose] public section

set_option maxRecDepth 16384

noncomputable section

namespace Cert.MixOutPoint

open Idealize.ShloMosaic Idealize.ShloMosaic.TcCoe Idealize.SL.Sem Cert.KernelMixOutIdeal Cert.KernelMixOutIdeal.Gen Cert.KernelMixOutIdeal.Value

open Cert.MixOutRows

variable (m : (ℓ : Loc nD τ sig) → Buf (Elt Ideal) ℓ) (c : Dev nD)
variable (t : Fin cfg0.N)

abbrev a0 : (⟨S16640x256, .f32⟩ : BufTy).Contents (Elt Ideal) := m ((c : Thread nD τ).loc main_arg0)
abbrev a1 : (⟨S16640x256, .f32⟩ : BufTy).Contents (Elt Ideal) := m ((c : Thread nD τ).loc main_arg1)
abbrev a2 : (⟨S16640x256, .f32⟩ : BufTy).Contents (Elt Ideal) := m ((c : Thread nD τ).loc main_arg2)
abbrev a3 : (⟨S16640x512, .f32⟩ : BufTy).Contents (Elt Ideal) := m ((c : Thread nD τ).loc main_arg3)
abbrev a4 : (⟨S64, .f32⟩ : BufTy).Contents (Elt Ideal) := m ((c : Thread nD τ).loc main_arg4)
abbrev a5 : (⟨S64, .f32⟩ : BufTy).Contents (Elt Ideal) := m ((c : Thread nD τ).loc main_arg5)
abbrev a6 : (⟨S512x512, .f32⟩ : BufTy).Contents (Elt Ideal) := m ((c : Thread nD τ).loc main_arg6)
abbrev a7 : (⟨S512, .f32⟩ : BufTy).Contents (Elt Ideal) := m ((c : Thread nD τ).loc main_arg7)
abbrev a8 : (⟨S512, .f32⟩ : BufTy).Contents (Elt Ideal) := m ((c : Thread nD τ).loc main_arg8)
abbrev a9 : (⟨S1024x1024, .f32⟩ : BufTy).Contents (Elt Ideal) := m ((c : Thread nD τ).loc main_arg9)
abbrev a10 : (⟨S16640x1024, .f32⟩ : BufTy).Contents (Elt Ideal) := m ((c : Thread nD τ).loc main_arg10)

abbrev Heads : Type := S640x256.Idx → EReal
abbrev Wide : Type := S640x512.Idx → EReal
abbrev Rows : Type := S640x1024.Idx → EReal
abbrev Gain : Type := S1x64.Idx → EReal
abbrev Bias : Type := S1x512.Idx → EReal
abbrev Glu : Type := S512x512.Idx → EReal
abbrev Out : Type := S1024x1024.Idx → EReal

/-! The two masks: columns of one head, and columns at one place of their heads. -/

def heads : S256x256.Idx → EReal :=
  k0_pay18 (F := Ideal) (iota .tc S256x256 32 [0] iota_S256x256_d0_w32) 64#32 (k0_pay16) (k0_pay17)

abbrev sel : BitVec 32 := Scalar.select (Scalar.cmpi .eq 64#32 0#32) 1#32 64#32

def lanes : S64x256.Idx → EReal := k0_pay22 (F := Ideal) sel k0_pay19 k0_pay20 k0_pay21 0#32

theorem heads_apply (i k : Fin 256) : heads (ix2 i k) = if i.val / 64 = k.val / 64 then 1 else 0 := by
  have b : ∀ i : Fin 256, Scalar.select
      (IntOp.andi (IntOp.cmpi .ne (IntOp.subi (BitVec.setWidth 32 (IntOp.cmpi .sgt (BitVec.ofNat 32 i.val) 0#32))
          (BitVec.setWidth 32 (IntOp.cmpi .slt (BitVec.ofNat 32 i.val) 0#32)))
          (Scalar.subi (Scalar.extui (Scalar.cmpi .sgt 64#32 0#32)) (Scalar.extui (Scalar.cmpi .slt 64#32 0#32))))
        (IntOp.cmpi .ne (IntOp.remsi .vector (BitVec.ofNat 32 i.val) 64#32) 0#32))
      (IntOp.subi (IntOp.divsi .vector (BitVec.ofNat 32 i.val) 64#32) 1#32)
      (IntOp.divsi .vector (BitVec.ofNat 32 i.val) 64#32) = BitVec.ofNat 32 (head i).val := by decide +kernel
  have q : ∀ a b : Fin 4, (BitVec.setWidth 32 (IntOp.cmpi .eq (BitVec.ofNat 32 a.val) (BitVec.ofNat 32 b.val))).toInt
    = if a.val = b.val then 1 else 0 := by decide +kernel
  unfold heads
  unfold_payloads
  pointwise
  rw [b, b]
  show (((BitVec.setWidth 32 _).toInt : ℝ) : EReal) = _
  rw [q]
  split <;> norm_num

theorem lanes_apply (d : Fin 64) (k : Fin 256) : lanes (ix2 d k) = if k.val % 64 = d.val then 1 else 0 := by
  have b : ∀ k : Fin 256, Scalar.select
      (IntOp.andi (IntOp.xori (IntOp.cmpi .slt (IntOp.remsi .vector (BitVec.ofNat 32 k.val) sel) 0#32) (Scalar.cmpi .slt sel 0#32))
        (IntOp.cmpi .ne (IntOp.remsi .vector (BitVec.ofNat 32 k.val) sel) 0#32))
      (IntOp.addi (IntOp.remsi .vector (BitVec.ofNat 32 k.val) sel) sel)
      (IntOp.remsi .vector (BitVec.ofNat 32 k.val) sel) = BitVec.ofNat 32 (lane k).val := by decide +kernel
  have q : ∀ a b : Fin 64, (BitVec.setWidth 32 (IntOp.cmpi .eq (BitVec.ofNat 32 a.val) (BitVec.ofNat 32 b.val))).toInt
    = if a.val = b.val then 1 else 0 := by decide +kernel
  unfold lanes
  unfold_payloads
  pointwise
  rw [b]
  show (((BitVec.setWidth 32 _).toInt : ℝ) : EReal) = _
  rw [q]
  split <;> norm_num

/-! The normed heads, and the gains over them. -/

variable (o z : Heads) (y : Wide) (dh : Rows) (g : Gain) (wg : Glu) (bg g5 : Bias) (wo : Out) (r : Fin 640)

theorem pay26_apply (k : Fin 256) : k0_pay26 (F := Ideal) o heads (ix2 r k) = nrm (fun k => o (ix2 r k)) k := by
  unfold nrm ms k0_pay26 k0_pay24 k0_pay23
  pointwise [heads_apply, sum_head]

theorem pay32_apply (k : Fin 256) : k0_pay32 (F := Ideal) o heads (ix2 r k) = nrm (fun k => o (ix2 r k)) k := by
  unfold nrm ms k0_pay32 k0_pay30 k0_pay29
  pointwise [heads_apply, sum_head]

theorem pay27_apply (k : Fin 256) : k0_pay27 (F := Ideal) (k0_pay12 (F := Ideal) g) sel k0_pay19 k0_pay20 k0_pay21 0#32 (ix2 0 k) = g (ix2 0 (lane k)) := by
  have e : k0_pay22 (F := Ideal) sel k0_pay19 k0_pay20 k0_pay21 0#32 = lanes := rfl
  unfold k0_pay27 k0_pay12
  rw [e]
  pointwise [lanes_apply, spread]

theorem pay33_apply (k : Fin 256) : k0_pay33 (F := Ideal) (k0_pay13 (F := Ideal) g) sel k0_pay19 k0_pay20 k0_pay21 0#32 (ix2 0 k) = g (ix2 0 (lane k)) := by
  have e : k0_pay22 (F := Ideal) sel k0_pay19 k0_pay20 k0_pay21 0#32 = lanes := rfl
  unfold k0_pay33 k0_pay13
  rw [e]
  pointwise [lanes_apply, spread]

def part0 : Heads := k0_pay28 (F := Ideal) o (k0_pay12 (F := Ideal) g) heads sel k0_pay19 k0_pay20 k0_pay21 0#32
def part1' : Heads := k0_pay34 (F := Ideal) o (k0_pay13 (F := Ideal) g) heads sel k0_pay19 k0_pay20 k0_pay21 0#32
def gate : Heads := k0_pay39 (F := Ideal) z (k0_pay37 (F := Ideal) z)
def part1 : Heads := k0_pay40 (F := Ideal) z (part1' o g) (k0_pay37 (F := Ideal) z)

theorem part0_apply (k : Fin 256) : part0 o g (ix2 r k) = nrm (fun k => o (ix2 r k)) k * g (ix2 0 (lane k)) := by
  unfold part0 k0_pay28
  pointwise [pay26_apply, pay27_apply]

theorem part1'_apply (k : Fin 256) : part1' o g (ix2 r k) = nrm (fun k => o (ix2 r k)) k * g (ix2 0 (lane k)) := by
  unfold part1' k0_pay34
  pointwise [pay32_apply, pay33_apply]

theorem gate_apply (k : Fin 256) : gate z (ix2 r k) = sil (z (ix2 r k)) := by
  unfold gate sil sg k0_pay39 k0_pay37 k0_pay36 k0_pay35
  pointwise [zero_sub]

theorem part1_apply (k : Fin 256) : part1 o z g (ix2 r k) = nrm (fun k => o (ix2 r k)) k * g (ix2 0 (lane k)) * sil (z (ix2 r k)) := by
  have e : k0_pay39 (F := Ideal) z (k0_pay37 (F := Ideal) z) = gate z := rfl
  unfold part1 k0_pay40
  rw [e]
  pointwise [part1'_apply, gate_apply]

/-! The gated linear unit. -/

def gl : Wide := k0_pay52 (F := Ideal) y wg (k0_pay14 (F := Ideal) bg)
def ex : Wide := k0_pay48 (F := Ideal) y wg (k0_pay14 (F := Ideal) bg)
def sq : Wide := k0_pay51 (F := Ideal) y wg (k0_pay14 (F := Ideal) bg)
def sm : S640x1.Idx → EReal := k0_pay53 (F := Ideal) y wg (k0_pay14 (F := Ideal) bg)

/-- Row `r`'s gated linear unit. -/
abbrev u : Fin 512 → EReal := glu (fun k => y (ix2 r k)) (fun f k => wg (ix2 f k)) (fun k => bg (ix2 0 k))
abbrev p : Fin 512 → EReal := pre (fun k => y (ix2 r k)) (fun f k => wg (ix2 f k)) (fun k => bg (ix2 0 k))
abbrev dm : Fin 1024 → EReal := dmix (fun k => dh (ix2 r k)) (fun f k => wo (ix2 f k))

theorem pay47_apply (j : Fin 512) : k0_pay47 (F := Ideal) y (ix2 r j) = gel (y (ix2 r j)) := by
  unfold gel k0_pay47 k0_pay46 k0_pay41 k0_pay44 k0_pay43 k0_pay42
  pointwise

theorem ex_apply (j : Fin 512) : ex y wg bg (ix2 r j) = Ideal.exp (-p y wg bg r j) := by
  unfold p pre ex k0_pay48 k0_pay14
  pointwise [pay47_apply, zero_sub]

theorem sq_apply (j : Fin 512) : sq y wg bg (ix2 r j)
    = Ideal.div 1 ((1 + Ideal.exp (-p y wg bg r j)) * (1 + Ideal.exp (-p y wg bg r j))) := by
  have e := ex_apply y wg bg r j
  unfold ex at e
  unfold sq k0_pay51 k0_pay49
  pointwise [e]

theorem gl_apply (j : Fin 512) : gl y wg bg (ix2 r j) = u y wg bg r j := by
  have e := ex_apply y wg bg r j
  unfold ex at e
  unfold u glu sg gl k0_pay52 k0_pay50 k0_pay49
  pointwise [e, pay47_apply]

theorem sm_apply : k0_pay55 (F := Ideal) (sm y wg bg) k0_pay54 (ix2 r 0) = ms5 (u y wg bg r) := by
  have e := gl_apply y wg bg r
  unfold gl at e
  unfold ms5 sm k0_pay55 k0_pay54 k0_pay53
  pointwise [e]

theorem pay57_apply (j : Fin 512) : k0_pay57 (F := Ideal) (gl y wg bg) (sm y wg bg) k0_pay54 (ix2 r j) = nrm5 (u y wg bg r) j := by
  unfold nrm5 k0_pay57 k0_pay56
  pointwise [sm_apply, gl_apply]

/-! The cotangents. -/

theorem pay59_apply (j : Fin 1024) : k0_pay59 (F := Ideal) dh wo (ix2 r j) = dm dh wo r j := by
  unfold dm dmix k0_pay59
  pointwise

theorem pay60_apply (k : Fin 256) : k0_pay60 (F := Ideal) dh wo (ix2 r k) = dm dh wo r ⟨k.val, by omega⟩ := by
  unfold k0_pay60
  pointwise [pay59_apply]

theorem pay61_apply (k : Fin 256) : k0_pay61 (F := Ideal) dh wo (ix2 r k) = dm dh wo r ⟨256 + k.val, by omega⟩ := by
  unfold k0_pay61
  pointwise [pay59_apply]

theorem pay62_apply (k : Fin 512) : k0_pay62 (F := Ideal) dh wo (ix2 r k) = dm dh wo r ⟨512 + k.val, by omega⟩ := by
  unfold k0_pay62
  pointwise [pay59_apply]

theorem pay64_apply (k : Fin 512) : k0_pay64 (F := Ideal) (k0_pay15 (F := Ideal) g5) dh wo (ix2 r k) = dm dh wo r ⟨512 + k.val, by omega⟩ * g5 (ix2 0 k) := by
  unfold k0_pay64 k0_pay15
  pointwise [pay62_apply]

abbrev dd : Fin 512 → EReal := fun j => dm dh wo r ⟨512 + j.val, by omega⟩ * g5 (ix2 0 j)

theorem pay65_apply (j : Fin 512) : k0_pay65 (F := Ideal) (k0_pay15 (F := Ideal) g5) (gl y wg bg) (sm y wg bg) k0_pay54 dh wo (ix2 r j)
    = pull (u y wg bg r) (dd dh g5 wo r) := by
  unfold pull dd k0_pay65 k0_pay56
  pointwise [pay64_apply, gl_apply, sm_apply, Finset.univ_unique, Finset.sum_singleton, Fin.default_eq_zero]

def one : Wide := k0_pay66 (F := Ideal) (k0_pay15 (F := Ideal) g5) (gl y wg bg) (sm y wg bg) k0_pay54 dh wo
def two : Wide := k0_pay67 (F := Ideal) (k0_pay15 (F := Ideal) g5) (gl y wg bg) (sm y wg bg) k0_pay54 dh wo

theorem back_apply (j : Fin 512) : one y dh wg bg g5 wo (ix2 r j) + two y dh wg bg g5 wo (ix2 r j) = back (u y wg bg r) (dd dh g5 wo r) j := by
  unfold back one two k0_pay66 k0_pay67 k0_pay56
  pointwise [pay64_apply, pay65_apply, gl_apply, sm_apply]

abbrev dp : Fin 512 → EReal := dpre (fun k => y (ix2 r k)) (fun f k => wg (ix2 f k)) (fun k => bg (ix2 0 k)) (fun k => g5 (ix2 0 k))
  (fun j => dm dh wo r ⟨512 + j.val, by omega⟩)

theorem pay69_apply (j : Fin 512) : k0_pay69 (F := Ideal) (k0_pay47 (F := Ideal) y) (ex y wg bg) (sq y wg bg) (one y dh wg bg g5 wo) (two y dh wg bg g5 wo) (ix2 r j)
    = dp y dh wg bg g5 wo r j := by
  unfold dp dpre k0_pay69 k0_pay68
  pointwise [back_apply, pay47_apply, sq_apply, ex_apply]
  exact dpre_eq _ _ _ _ (sg_deriv _)

/-! What a tile adds to each of the six results. -/

def tgsb : Gain := k0_pay81 (F := Ideal) lanes (k0_pay26 (F := Ideal) o heads) (k0_pay60 (F := Ideal) dh wo)
def tgdn : Gain := k0_pay79 (F := Ideal) lanes (k0_pay32 (F := Ideal) o heads) (k0_pay74 (F := Ideal) (gate z) (k0_pay61 (F := Ideal) dh wo))
def twg : Glu := k0_pay71 (F := Ideal) (k0_pay47 (F := Ideal) y) (ex y wg bg) (sq y wg bg) (one y dh wg bg g5 wo) (two y dh wg bg g5 wo)
def tbg : Bias := k0_pay70 (F := Ideal) (k0_pay47 (F := Ideal) y) (ex y wg bg) (sq y wg bg) (one y dh wg bg g5 wo) (two y dh wg bg g5 wo)
def tg5 : Bias := k0_pay63 (F := Ideal) (gl y wg bg) (sm y wg bg) k0_pay54 dh wo
def two' (o1 o2 : Heads) (g1 g2 : Gain) (acc : Out) : Out :=
  k0_pay58 (F := Ideal) (k0_pay15 (F := Ideal) g5) (part0 o1 g1) (part1 o2 z g2) (gl y wg bg) (sm y wg bg) k0_pay54 dh acc

theorem tgsb_apply (d : Fin 64) : tgsb o dh wo (ix2 0 d) = ∑ r, ∑ a, nrm (fun k => o (ix2 r k)) (col a d) * dm dh wo r ⟨(col a d).val, by omega⟩ := by
  unfold tgsb k0_pay81
  pointwise [pay26_apply, pay60_apply, lanes_apply, sum_lane]
  rw [Finset.sum_comm]

theorem tgdn_apply (d : Fin 64) : tgdn o z dh wo (ix2 0 d)
    = ∑ r, ∑ a, nrm (fun k => o (ix2 r k)) (col a d) * (dm dh wo r ⟨256 + (col a d).val, by omega⟩ * sil (z (ix2 r (col a d)))) := by
  unfold tgdn k0_pay79 k0_pay74
  pointwise [pay32_apply, pay61_apply, gate_apply, lanes_apply, sum_lane]
  rw [Finset.sum_comm]

theorem twg_apply (f j : Fin 512) : twg y dh wg bg g5 wo (ix2 f j) = ∑ r, gel (y (ix2 r f)) * dp y dh wg bg g5 wo r j := by
  unfold twg k0_pay71
  pointwise [pay69_apply, pay47_apply]

theorem tbg_apply (j : Fin 512) : tbg y dh wg bg g5 wo (ix2 0 j) = ∑ r, dp y dh wg bg g5 wo r j := by
  unfold tbg k0_pay70
  pointwise [pay69_apply]

theorem tg5_apply (j : Fin 512) : tg5 y dh wg bg wo (ix2 0 j) = ∑ r, nrm5 (u y wg bg r) j * dm dh wo r ⟨512 + j.val, by omega⟩ := by
  unfold tg5 k0_pay63
  pointwise [pay57_apply, pay62_apply]

theorem two'_apply (o1 o2 : Heads) (g1 g2 : Gain) (acc : Out) (i j : Fin 1024) : two' z y dh wg bg g5 o1 o2 g1 g2 acc (ix2 i j)
    = acc (ix2 i j) + ∑ r, mixed (fun k => o1 (ix2 r k)) (fun k => o2 (ix2 r k)) (fun k => z (ix2 r k)) (fun k => g1 (ix2 0 k)) (fun k => g2 (ix2 0 k))
      (u y wg bg r) (fun k => g5 (ix2 0 k)) i * dh (ix2 r j) := by
  unfold two' k0_pay58 k0_pay15
  pointwise [part0_apply, part1_apply, pay57_apply]
  refine congrArg _ (Finset.sum_congr rfl fun r _ => congrArg (· * _) ?_)
  unfold mixed
  by_cases h : i.val < 256
  · rw [dif_pos h, dif_pos h]
  · rw [dif_neg h, dif_neg h]
    by_cases h' : i.val < 512
    · rw [dif_pos h', dif_pos (by omega)]
    · have q : (⟨i.val - 256 - 256, by omega⟩ : Fin 512) = ⟨i.val - 512, by omega⟩ := Fin.ext (by show i.val - 256 - 256 = i.val - 512; omega)
      rw [dif_neg h', dif_neg (by omega), q]

/-! The point's outputs. -/

abbrev dhB : Rows := iblk m c 0 t
abbrev sbB : Heads := iblk m c 1 t
abbrev dnB : Heads := iblk m c 2 t
abbrev zB : Heads := iblk m c 3 t
abbrev yB : Wide := iblk m c 4 t
abbrev gsbB : Gain := iblk m c 5 t
abbrev gdnB : Gain := iblk m c 6 t
abbrev wgB : Glu := iblk m c 7 t
abbrev bgB : Bias := iblk m c 8 t
abbrev g5B : Bias := iblk m c 9 t
abbrev woB : Out := iblk m c 10 t

theorem outs_gsb_first (h0 : t.val % 26 = 0) : (outsAt0 m c t.val t.isLt).2.2.2.2.1
    = k0_pay1 (F := Ideal) (tgsb (sbB m c t) (dhB m c t) (woB m c t)) (k0_pay6 (F := Ideal)) := by
  rw [outsAt0_A m c t h0]
  frame_out
  rfl

theorem outs_gsb (h0 : ¬t.val % 26 = 0) : (outsAt0 m c t.val t.isLt).2.2.2.2.1
    = k0_pay1 (F := Ideal) (tgsb (sbB m c t) (dhB m c t) (woB m c t)) (outsAt0 m c (t.val - 1) (by omega)).2.2.2.2.1 := by
  rw [outsAt0_B m c t h0]
  frame_out
  rfl

theorem outs_gdn_first (h0 : t.val % 26 = 0) : (outsAt0 m c t.val t.isLt).2.2.2.2.2.1
    = k0_pay2 (F := Ideal) (tgdn (dnB m c t) (zB m c t) (dhB m c t) (woB m c t)) (k0_pay7 (F := Ideal)) := by
  rw [outsAt0_A m c t h0]
  frame_out
  rfl

theorem outs_gdn (h0 : ¬t.val % 26 = 0) : (outsAt0 m c t.val t.isLt).2.2.2.2.2.1
    = k0_pay2 (F := Ideal) (tgdn (dnB m c t) (zB m c t) (dhB m c t) (woB m c t)) (outsAt0 m c (t.val - 1) (by omega)).2.2.2.2.2.1 := by
  rw [outsAt0_B m c t h0]
  frame_out
  rfl

theorem outs_wg_first (h0 : t.val % 26 = 0) : (outsAt0 m c t.val t.isLt).2.2.2.2.2.2.1
    = k0_pay3 (F := Ideal) (twg (yB m c t) (dhB m c t) (wgB m c t) (bgB m c t) (g5B m c t) (woB m c t)) (k0_pay8 (F := Ideal)) := by
  rw [outsAt0_A m c t h0]
  frame_out
  rfl

theorem outs_wg (h0 : ¬t.val % 26 = 0) : (outsAt0 m c t.val t.isLt).2.2.2.2.2.2.1
    = k0_pay3 (F := Ideal) (twg (yB m c t) (dhB m c t) (wgB m c t) (bgB m c t) (g5B m c t) (woB m c t)) (outsAt0 m c (t.val - 1) (by omega)).2.2.2.2.2.2.1 := by
  rw [outsAt0_B m c t h0]
  frame_out
  rfl

theorem outs_bg_first (h0 : t.val % 26 = 0) : (outsAt0 m c t.val t.isLt).2.2.2.2.2.2.2.1
    = k0_pay4 (F := Ideal) (tbg (yB m c t) (dhB m c t) (wgB m c t) (bgB m c t) (g5B m c t) (woB m c t)) (k0_pay9 (F := Ideal)) := by
  rw [outsAt0_A m c t h0]
  frame_out
  rfl

theorem outs_bg (h0 : ¬t.val % 26 = 0) : (outsAt0 m c t.val t.isLt).2.2.2.2.2.2.2.1
    = k0_pay4 (F := Ideal) (tbg (yB m c t) (dhB m c t) (wgB m c t) (bgB m c t) (g5B m c t) (woB m c t)) (outsAt0 m c (t.val - 1) (by omega)).2.2.2.2.2.2.2.1 := by
  rw [outsAt0_B m c t h0]
  frame_out
  rfl

theorem outs_g5_first (h0 : t.val % 26 = 0) : (outsAt0 m c t.val t.isLt).2.2.2.2.2.2.2.2.1
    = k0_pay5 (F := Ideal) (tg5 (yB m c t) (dhB m c t) (wgB m c t) (bgB m c t) (woB m c t)) (k0_pay10 (F := Ideal)) := by
  rw [outsAt0_A m c t h0]
  frame_out
  rfl

theorem outs_g5 (h0 : ¬t.val % 26 = 0) : (outsAt0 m c t.val t.isLt).2.2.2.2.2.2.2.2.1
    = k0_pay5 (F := Ideal) (tg5 (yB m c t) (dhB m c t) (wgB m c t) (bgB m c t) (woB m c t)) (outsAt0 m c (t.val - 1) (by omega)).2.2.2.2.2.2.2.2.1 := by
  rw [outsAt0_B m c t h0]
  frame_out
  rfl

theorem outs_wo_first (h0 : t.val % 26 = 0) : (outsAt0 m c t.val t.isLt).2.2.2.2.2.2.2.2.2
    = two' (zB m c t) (yB m c t) (dhB m c t) (wgB m c t) (bgB m c t) (g5B m c t) (sbB m c t) (dnB m c t) (gsbB m c t) (gdnB m c t) (k0_pay11 (F := Ideal)) := by
  rw [outsAt0_A m c t h0]
  frame_out
  rfl

theorem outs_wo (h0 : ¬t.val % 26 = 0) : (outsAt0 m c t.val t.isLt).2.2.2.2.2.2.2.2.2
    = two' (zB m c t) (yB m c t) (dhB m c t) (wgB m c t) (bgB m c t) (g5B m c t) (sbB m c t) (dnB m c t) (gsbB m c t) (gdnB m c t) (outsAt0 m c (t.val - 1) (by omega)).2.2.2.2.2.2.2.2.2 := by
  rw [outsAt0_B m c t h0]
  frame_out
  rfl

/-! An accumulator's step, and its zero. -/

theorem pay1_apply (v acc : Gain) (d : Fin 64) : k0_pay1 (F := Ideal) v acc (ix2 0 d) = acc (ix2 0 d) + v (ix2 0 d) := by
  unfold_payloads
  pointwise

theorem pay2_apply (v acc : Gain) (d : Fin 64) : k0_pay2 (F := Ideal) v acc (ix2 0 d) = acc (ix2 0 d) + v (ix2 0 d) := by
  unfold_payloads
  pointwise

theorem pay3_apply (v acc : Glu) (f j : Fin 512) : k0_pay3 (F := Ideal) v acc (ix2 f j) = acc (ix2 f j) + v (ix2 f j) := by
  unfold_payloads
  pointwise

theorem pay4_apply (v acc : Bias) (j : Fin 512) : k0_pay4 (F := Ideal) v acc (ix2 0 j) = acc (ix2 0 j) + v (ix2 0 j) := by
  unfold_payloads
  pointwise

theorem pay5_apply (v acc : Bias) (j : Fin 512) : k0_pay5 (F := Ideal) v acc (ix2 0 j) = acc (ix2 0 j) + v (ix2 0 j) := by
  unfold_payloads
  pointwise

theorem pay6_apply (i : S1x64.Idx) : k0_pay6 (F := Ideal) i = (0 : EReal) := by
  unfold_payloads
  pointwise

theorem pay7_apply (i : S1x64.Idx) : k0_pay7 (F := Ideal) i = (0 : EReal) := by
  unfold_payloads
  pointwise

theorem pay8_apply (i : S512x512.Idx) : k0_pay8 (F := Ideal) i = (0 : EReal) := by
  unfold_payloads
  pointwise

theorem pay9_apply (i : S1x512.Idx) : k0_pay9 (F := Ideal) i = (0 : EReal) := by
  unfold_payloads
  pointwise

theorem pay10_apply (i : S1x512.Idx) : k0_pay10 (F := Ideal) i = (0 : EReal) := by
  unfold_payloads
  pointwise

theorem pay11_apply (i : S1024x1024.Idx) : k0_pay11 (F := Ideal) i = (0 : EReal) := by
  unfold_payloads
  pointwise

end Cert.MixOutPoint

end
-- ==== Proof.MixOutValue.lean ====
module

public import proofs.«01_k».proof.Proof.MixOutPoint
public import Idealize.ShloMosaic.Lib.Pipeline.ValueKit.Acc

/-! The backward launch of the mixer's output block: its six results, of its arguments. -/

@[expose] public section

set_option maxRecDepth 16384

noncomputable section

namespace Cert.MixOutValue

open Idealize.ShloMosaic Idealize.ShloMosaic.TcCoe Idealize.SL.Sem Cert.KernelMixOutIdeal Cert.KernelMixOutIdeal.Gen Cert.KernelMixOutIdeal.Value
open Cert.MixOutPoint Cert.MixOutRows

variable (m : (ℓ : Loc nD τ sig) → Buf (Elt Ideal) ℓ) (c : Dev nD)

/-! The arrays the host prepares. -/

theorem V_gsb (d : Fin 64) : (V m c main_v0 : S1x64.Idx → EReal) (ix2 0 d) = a4 m c (ix1 d) := by
  unfold V
  after_reads_simp
  pointwise

theorem V_gdn (d : Fin 64) : (V m c main_v1 : S1x64.Idx → EReal) (ix2 0 d) = a5 m c (ix1 d) := by
  unfold V
  after_reads_simp
  pointwise

theorem V_bg (j : Fin 512) : (V m c main_v2 : S1x512.Idx → EReal) (ix2 0 j) = a7 m c (ix1 j) := by
  unfold V
  after_reads_simp
  pointwise

theorem V_g5 (j : Fin 512) : (V m c main_v3 : S1x512.Idx → EReal) (ix2 0 j) = a8 m c (ix1 j) := by
  unfold V
  after_reads_simp
  pointwise

theorem V_wo (i j : Fin 1024) : (V m c main_v4 : S1024x1024.Idx → EReal) (ix2 i j) = a9 m c (ix2 i j) := by
  unfold V
  after_reads_simp
  pointwise

/-! Which block each window is at. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem lt26 (t : Fin cfg0.N) : t.val < 26 := lt_of_lt_of_eq t.isLt N_0

/-- The token row that a point has at its place `k`. -/
abbrev row (t : Fin cfg0.N) (k : Fin 640) : Fin 16640 := ⟨640 * t.val + k.val, by have := lt26 t; omega⟩

variable (t : Fin cfg0.N)

variable {m c}

theorem dhB_apply (k : Fin 640) (f : Fin 1024) : dhB m c t (ix2 k f) = a10 m c (ix2 (row t k) f) := by
  have e : V m c main_arg10 = a10 m c := V_main_arg10 m c
  rw [← e]
  blk_ext [iblk, idx0]

theorem sbB_apply (k : Fin 640) (f : Fin 256) : sbB m c t (ix2 k f) = a0 m c (ix2 (row t k) f) := by
  have e : V m c main_arg0 = a0 m c := V_main_arg0 m c
  rw [← e]
  blk_ext [iblk, idx1]

theorem dnB_apply (k : Fin 640) (f : Fin 256) : dnB m c t (ix2 k f) = a1 m c (ix2 (row t k) f) := by
  have e : V m c main_arg1 = a1 m c := V_main_arg1 m c
  rw [← e]
  blk_ext [iblk, idx2]

theorem zB_apply (k : Fin 640) (f : Fin 256) : zB m c t (ix2 k f) = a2 m c (ix2 (row t k) f) := by
  have e : V m c main_arg2 = a2 m c := V_main_arg2 m c
  rw [← e]
  blk_ext [iblk, idx3]

theorem yB_apply (k : Fin 640) (f : Fin 512) : yB m c t (ix2 k f) = a3 m c (ix2 (row t k) f) := by
  have e : V m c main_arg3 = a3 m c := V_main_arg3 m c
  rw [← e]
  blk_ext [iblk, idx4]

theorem gsbB_apply (d : Fin 64) : gsbB m c t (ix2 0 d) = a4 m c (ix1 d) := by
  rw [← V_gsb m c d]
  blk_ext [iblk, idx5]

theorem gdnB_apply (d : Fin 64) : gdnB m c t (ix2 0 d) = a5 m c (ix1 d) := by
  rw [← V_gdn m c d]
  blk_ext [iblk, idx6]

theorem bgB_apply (d : Fin 512) : bgB m c t (ix2 0 d) = a7 m c (ix1 d) := by
  rw [← V_bg m c d]
  blk_ext [iblk, idx8]

theorem g5B_apply (d : Fin 512) : g5B m c t (ix2 0 d) = a8 m c (ix1 d) := by
  rw [← V_g5 m c d]
  blk_ext [iblk, idx9]

theorem wgB_apply (f j : Fin 512) : wgB m c t (ix2 f j) = a6 m c (ix2 f j) := by
  have e : V m c main_arg6 = a6 m c := V_main_arg6 m c
  rw [← e]
  blk_ext [iblk, idx7]

theorem woB_apply (i j : Fin 1024) : woB m c t (ix2 i j) = a9 m c (ix2 i j) := by
  rw [← V_wo m c i j]
  blk_ext [iblk, idx10]

/-! What one token row gives to each of the six sums. -/

variable (m c)

/-- The row's gated linear unit, the cotangent of its mixed row, and that of the unit's input. -/
abbrev uR (r : Fin 16640) : Fin 512 → EReal := glu (fun k => a3 m c (ix2 r k)) (fun f k => a6 m c (ix2 f k)) (fun k => a7 m c (ix1 k))
abbrev dmR (r : Fin 16640) : Fin 1024 → EReal := dmix (fun k => a10 m c (ix2 r k)) (fun f k => a9 m c (ix2 f k))
abbrev dpR (r : Fin 16640) : Fin 512 → EReal := dpre (fun k => a3 m c (ix2 r k)) (fun f k => a6 m c (ix2 f k)) (fun k => a7 m c (ix1 k)) (fun k => a8 m c (ix1 k))
  (fun j => dmR m c r ⟨512 + j.val, by omega⟩)

def gsbTerm (d : Fin 64) (r : Fin 16640) : EReal := ∑ a, nrm (fun k => a0 m c (ix2 r k)) (col a d) * dmR m c r ⟨(col a d).val, by omega⟩
def gdnTerm (d : Fin 64) (r : Fin 16640) : EReal :=
  ∑ a, nrm (fun k => a1 m c (ix2 r k)) (col a d) * (dmR m c r ⟨256 + (col a d).val, by omega⟩ * sil (a2 m c (ix2 r (col a d))))
def wgTerm (f j : Fin 512) (r : Fin 16640) : EReal := gel (a3 m c (ix2 r f)) * dpR m c r j
def bgTerm (j : Fin 512) (r : Fin 16640) : EReal := dpR m c r j
def g5Term (j : Fin 512) (r : Fin 16640) : EReal := nrm5 (uR m c r) j * dmR m c r ⟨512 + j.val, by omega⟩
def woTerm (i j : Fin 1024) (r : Fin 16640) : EReal :=
  mixed (fun k => a0 m c (ix2 r k)) (fun k => a1 m c (ix2 r k)) (fun k => a2 m c (ix2 r k)) (fun k => a4 m c (ix1 k)) (fun k => a5 m c (ix1 k))
    (uR m c r) (fun k => a8 m c (ix1 k)) i * a10 m c (ix2 r j)

variable {m c}

theorem u_row (k : Fin 640) : u (yB m c t) (wgB m c t) (bgB m c t) k = uR m c (row t k) := by
  unfold u uR
  simp only [yB_apply, wgB_apply, bgB_apply]

theorem dm_row (k : Fin 640) : dm (dhB m c t) (woB m c t) k = dmR m c (row t k) := by
  unfold dm dmR
  simp only [dhB_apply, woB_apply]

theorem dp_row (k : Fin 640) : dp (yB m c t) (dhB m c t) (wgB m c t) (bgB m c t) (g5B m c t) (woB m c t) k = dpR m c (row t k) := by
  unfold dp dpR
  rw [dm_row]
  simp only [yB_apply, wgB_apply, bgB_apply, g5B_apply]

theorem gsb_at (d : Fin 64) : tgsb (sbB m c t) (dhB m c t) (woB m c t) (ix2 0 d) = ∑ k, gsbTerm m c d (row t k) := by
  rw [tgsb_apply]
  refine Finset.sum_congr rfl fun k _ => ?_
  simp only [dm_row, sbB_apply]
  rfl

theorem gdn_at (d : Fin 64) : tgdn (dnB m c t) (zB m c t) (dhB m c t) (woB m c t) (ix2 0 d) = ∑ k, gdnTerm m c d (row t k) := by
  rw [tgdn_apply]
  refine Finset.sum_congr rfl fun k _ => ?_
  simp only [dm_row, dnB_apply, zB_apply]
  rfl

theorem wg_at (f j : Fin 512) : twg (yB m c t) (dhB m c t) (wgB m c t) (bgB m c t) (g5B m c t) (woB m c t) (ix2 f j) = ∑ k, wgTerm m c f j (row t k) := by
  rw [twg_apply]
  refine Finset.sum_congr rfl fun k _ => ?_
  rw [dp_row, yB_apply]
  rfl

theorem bg_at (j : Fin 512) : tbg (yB m c t) (dhB m c t) (wgB m c t) (bgB m c t) (g5B m c t) (woB m c t) (ix2 0 j) = ∑ k, bgTerm m c j (row t k) := by
  rw [tbg_apply]
  refine Finset.sum_congr rfl fun k _ => ?_
  rw [dp_row]
  rfl

theorem g5_at (j : Fin 512) : tg5 (yB m c t) (dhB m c t) (wgB m c t) (bgB m c t) (woB m c t) (ix2 0 j) = ∑ k, g5Term m c j (row t k) := by
  rw [tg5_apply]
  refine Finset.sum_congr rfl fun k _ => ?_
  rw [u_row, dm_row]
  rfl

theorem wo_at (i j : Fin 1024) (acc : Out) :
    two' (zB m c t) (yB m c t) (dhB m c t) (wgB m c t) (bgB m c t) (g5B m c t) (sbB m c t) (dnB m c t) (gsbB m c t) (gdnB m c t) acc (ix2 i j)
      = acc (ix2 i j) + ∑ k, woTerm m c i j (row t k) := by
  rw [two'_apply]
  refine congrArg _ (Finset.sum_congr rfl fun k _ => ?_)
  rw [u_row]
  simp only [sbB_apply, dnB_apply, zB_apply, gsbB_apply, gdnB_apply, g5B_apply, dhB_apply]
  rfl

/-- The sum over the tiles of the sums over a tile's rows. -/
theorem sum_rows (f : Fin 16640 → EReal) : ∑ t : Fin cfg0.N, ∑ k, f (row t k) = ∑ r, f r := by
  have e := Cert.Tiles.sum_tiles (b := 640) (n := 26) (N := 16640) (by norm_num) (fun r => if h : r < 16640 then f ⟨r, h⟩ else 0)
  rw [← Fin.sum_univ_eq_sum_range (fun s => ∑ k : Fin 640, if h : 640 * s + k.val < 16640 then f ⟨640 * s + k.val, h⟩ else 0) 26] at e
  refine Eq.trans ?_ (e.trans (Finset.sum_congr rfl fun r _ => dif_pos r.isLt))
  show ∑ t : Fin 26, _ = _
  refine Finset.sum_congr rfl fun t _ => Finset.sum_congr rfl fun k _ => ?_
  rw [dif_pos (by omega)]

/-! The six results. -/

/-- The last point. -/
abbrev last : Fin cfg0.N := ⟨25, by decide⟩

theorem gsb_last (d : Fin 64) (t : Fin cfg0.N) (ht : t.val + 1 = cfg0.N) :
    (outsAt0 m c t.val t.isLt).2.2.2.2.1 (ix2 0 d) = ∑ r, gsbTerm m c d r := by
  have q := Pipeline.eq_sum_fin_of_reset_step_last (M := EReal) (fun n h => (outsAt0 m c n h).2.2.2.2.1 (ix2 0 d)) 26 0 (fun t => ∑ k, gsbTerm m c d (row t k))
    (fun t h => by rw [outs_gsb_first m c t h, pay1_apply, pay6_apply, gsb_at])
    (fun t h => by rw [outs_gsb m c t h, pay1_apply, gsb_at]) (by decide) t ht
  rw [q, sum_rows, zero_add]

theorem final15 : (dats m 0 c).arrAt 15 cfg0.N = fun i : S1x64.Idx => ∑ r, gsbTerm m c (i 1) r := by
  refine (dats m 0 c).arrAt_eq_of_after_last 15 last (by decide +kernel) _ fun j => ?_
  blk_simp
  rw [after0_15]
  obtain ⟨d, rfl⟩ : ∃ d : Fin 64, j = ix2 0 d := ⟨j 1, (eq_ix2 j).trans (congrArg (fun a => ix2 a (j 1)) (Subsingleton.elim _ _))⟩
  exact gsb_last d last (by decide)

theorem gdn_last (d : Fin 64) (t : Fin cfg0.N) (ht : t.val + 1 = cfg0.N) :
    (outsAt0 m c t.val t.isLt).2.2.2.2.2.1 (ix2 0 d) = ∑ r, gdnTerm m c d r := by
  have q := Pipeline.eq_sum_fin_of_reset_step_last (M := EReal) (fun n h => (outsAt0 m c n h).2.2.2.2.2.1 (ix2 0 d)) 26 0 (fun t => ∑ k, gdnTerm m c d (row t k))
    (fun t h => by rw [outs_gdn_first m c t h, pay2_apply, pay7_apply, gdn_at])
    (fun t h => by rw [outs_gdn m c t h, pay2_apply, gdn_at]) (by decide) t ht
  rw [q, sum_rows, zero_add]

theorem final16 : (dats m 0 c).arrAt 16 cfg0.N = fun i : S1x64.Idx => ∑ r, gdnTerm m c (i 1) r := by
  refine (dats m 0 c).arrAt_eq_of_after_last 16 last (by decide +kernel) _ fun j => ?_
  blk_simp
  rw [after0_16]
  obtain ⟨d, rfl⟩ : ∃ d : Fin 64, j = ix2 0 d := ⟨j 1, (eq_ix2 j).trans (congrArg (fun a => ix2 a (j 1)) (Subsingleton.elim _ _))⟩
  exact gdn_last d last (by decide)

theorem wg_last (f j : Fin 512) (t : Fin cfg0.N) (ht : t.val + 1 = cfg0.N) :
    (outsAt0 m c t.val t.isLt).2.2.2.2.2.2.1 (ix2 f j) = ∑ r, wgTerm m c f j r := by
  have q := Pipeline.eq_sum_fin_of_reset_step_last (M := EReal) (fun n h => (outsAt0 m c n h).2.2.2.2.2.2.1 (ix2 f j)) 26 0 (fun t => ∑ k, wgTerm m c f j (row t k))
    (fun t h => by rw [outs_wg_first m c t h, pay3_apply, pay8_apply, wg_at])
    (fun t h => by rw [outs_wg m c t h, pay3_apply, wg_at]) (by decide) t ht
  rw [q, sum_rows, zero_add]

theorem final17 : (dats m 0 c).arrAt 17 cfg0.N = fun i : S512x512.Idx => ∑ r, wgTerm m c (i 0) (i 1) r := by
  refine (dats m 0 c).arrAt_eq_of_after_last 17 last (by decide +kernel) _ fun j => ?_
  blk_simp
  rw [after0_17]
  obtain ⟨d, k, rfl⟩ : ∃ d k : Fin 512, j = ix2 d k := ⟨j 0, j 1, eq_ix2 j⟩
  exact wg_last d k last (by decide)

theorem bg_last (j : Fin 512) (t : Fin cfg0.N) (ht : t.val + 1 = cfg0.N) :
    (outsAt0 m c t.val t.isLt).2.2.2.2.2.2.2.1 (ix2 0 j) = ∑ r, bgTerm m c j r := by
  have q := Pipeline.eq_sum_fin_of_reset_step_last (M := EReal) (fun n h => (outsAt0 m c n h).2.2.2.2.2.2.2.1 (ix2 0 j)) 26 0 (fun t => ∑ k, bgTerm m c j (row t k))
    (fun t h => by rw [outs_bg_first m c t h, pay4_apply, pay9_apply, bg_at])
    (fun t h => by rw [outs_bg m c t h, pay4_apply, bg_at]) (by decide) t ht
  rw [q, sum_rows, zero_add]

theorem final18 : (dats m 0 c).arrAt 18 cfg0.N = fun i : S1x512.Idx => ∑ r, bgTerm m c (i 1) r := by
  refine (dats m 0 c).arrAt_eq_of_after_last 18 last (by decide +kernel) _ fun j => ?_
  blk_simp
  rw [after0_18]
  obtain ⟨d, rfl⟩ : ∃ d : Fin 512, j = ix2 0 d := ⟨j 1, (eq_ix2 j).trans (congrArg (fun a => ix2 a (j 1)) (Subsingleton.elim _ _))⟩
  exact bg_last d last (by decide)

theorem g5_last (j : Fin 512) (t : Fin cfg0.N) (ht : t.val + 1 = cfg0.N) :
    (outsAt0 m c t.val t.isLt).2.2.2.2.2.2.2.2.1 (ix2 0 j) = ∑ r, g5Term m c j r := by
  have q := Pipeline.eq_sum_fin_of_reset_step_last (M := EReal) (fun n h => (outsAt0 m c n h).2.2.2.2.2.2.2.2.1 (ix2 0 j)) 26 0 (fun t => ∑ k, g5Term m c j (row t k))
    (fun t h => by rw [outs_g5_first m c t h, pay5_apply, pay10_apply, g5_at])
    (fun t h => by rw [outs_g5 m c t h, pay5_apply, g5_at]) (by decide) t ht
  rw [q, sum_rows, zero_add]

theorem final19 : (dats m 0 c).arrAt 19 cfg0.N = fun i : S1x512.Idx => ∑ r, g5Term m c (i 1) r := by
  refine (dats m 0 c).arrAt_eq_of_after_last 19 last (by decide +kernel) _ fun j => ?_
  blk_simp
  rw [after0_19]
  obtain ⟨d, rfl⟩ : ∃ d : Fin 512, j = ix2 0 d := ⟨j 1, (eq_ix2 j).trans (congrArg (fun a => ix2 a (j 1)) (Subsingleton.elim _ _))⟩
  exact g5_last d last (by decide)

theorem wo_last (i j : Fin 1024) (t : Fin cfg0.N) (ht : t.val + 1 = cfg0.N) :
    (outsAt0 m c t.val t.isLt).2.2.2.2.2.2.2.2.2 (ix2 i j) = ∑ r, woTerm m c i j r := by
  have q := Pipeline.eq_sum_fin_of_reset_step_last (M := EReal) (fun n h => (outsAt0 m c n h).2.2.2.2.2.2.2.2.2 (ix2 i j)) 26 0 (fun t => ∑ k, woTerm m c i j (row t k))
    (fun t h => by rw [outs_wo_first m c t h, wo_at, pay11_apply])
    (fun t h => by rw [outs_wo m c t h, wo_at]) (by decide) t ht
  rw [q, sum_rows, zero_add]

theorem final20 : (dats m 0 c).arrAt 20 cfg0.N = fun i : S1024x1024.Idx => ∑ r, woTerm m c (i 0) (i 1) r := by
  refine (dats m 0 c).arrAt_eq_of_after_last 20 last (by decide +kernel) _ fun j => ?_
  blk_simp
  rw [after0_20]
  obtain ⟨d, k, rfl⟩ : ∃ d k : Fin 1024, j = ix2 d k := ⟨j 0, j 1, eq_ix2 j⟩
  exact wo_last d k last (by decide)

end Cert.MixOutValue

end
-- ==== Proof.MixOutAlgebra.lean ====
module

public import proofs.«01_k».proof.Defs
public import proofs.«01_k».proof.Proof.Gen.ReferenceMixOutIdeal.Run
public import proofs.«01_k».proof.Proof.MixOutRef
public import proofs.«01_k».proof.Proof.MixOutValue

/-! The six gradients of the mixer's output block are the reference's. -/

@[expose] public section

set_option maxRecDepth 16384

noncomputable section

namespace Cert.MixOutAlgebra

open Idealize.ShloMosaic Idealize.ShloMosaic.TcCoe Idealize.SL.Sem Cert.KernelMixOutIdeal Cert.KernelMixOutIdeal.Gen Cert.KernelMixOutIdeal.Value
open Cert.MixOutPoint Cert.MixOutValue Cert.ReferenceMixOutIdeal.Read

theorem algebraic : Cert.algebraic_KernelMixOutIdeal_ReferenceMixOutIdeal (hKernelMixOutIdeal := Cert.KernelMixOutIdeal.Gen.facts)
    (hReferenceMixOutIdeal := Cert.ReferenceMixOutIdeal.Gen.facts) := by
  intro m g m' g' _ hargs
  refine ⟨fun c => (dats m 0 c).arrAt 15 cfg0.N, fun c => (dats m 0 c).arrAt 16 cfg0.N, fun c => (dats m 0 c).arrAt 17 cfg0.N,
    fun c => (dats m 0 c).arrAt 18 cfg0.N, fun c => (dats m 0 c).arrAt 19 cfg0.N, fun c => (dats m 0 c).arrAt 20 cfg0.N,
    (θ_run _ _ _).mono (fun r h c => (h c).2.2.2.2) (Cert.KernelMixOutIdeal.Value.run_blocks m g), ?_⟩
  refine (θ_run _ _ _).mono (fun r h c => ?_) (Cert.ReferenceMixOutIdeal.Value.run m' g')
  obtain ⟨h0, h1, h2, h3, h4, h5, k⟩ := h c
  obtain ⟨e0, e1, e2, e3, e4, e5, e6, e7, e8, e9, e10⟩ := hargs c
  replace e0 : StableHlo.launchContents m' c (Proc.devRef .tc Cert.ReferenceMixOutIdeal.main_arg0) = a0 m c := e0
  replace e1 : StableHlo.launchContents m' c (Proc.devRef .tc Cert.ReferenceMixOutIdeal.main_arg1) = a1 m c := e1
  replace e2 : StableHlo.launchContents m' c (Proc.devRef .tc Cert.ReferenceMixOutIdeal.main_arg2) = a2 m c := e2
  replace e3 : StableHlo.launchContents m' c (Proc.devRef .tc Cert.ReferenceMixOutIdeal.main_arg3) = a3 m c := e3
  replace e4 : StableHlo.launchContents m' c (Proc.devRef .tc Cert.ReferenceMixOutIdeal.main_arg4) = a4 m c := e4
  replace e5 : StableHlo.launchContents m' c (Proc.devRef .tc Cert.ReferenceMixOutIdeal.main_arg5) = a5 m c := e5
  replace e6 : StableHlo.launchContents m' c (Proc.devRef .tc Cert.ReferenceMixOutIdeal.main_arg6) = a6 m c := e6
  replace e7 : StableHlo.launchContents m' c (Proc.devRef .tc Cert.ReferenceMixOutIdeal.main_arg7) = a7 m c := e7
  replace e8 : StableHlo.launchContents m' c (Proc.devRef .tc Cert.ReferenceMixOutIdeal.main_arg8) = a8 m c := e8
  replace e9 : StableHlo.launchContents m' c (Proc.devRef .tc Cert.ReferenceMixOutIdeal.main_arg9) = a9 m c := e9
  replace e10 : StableHlo.launchContents m' c (Proc.devRef .tc Cert.ReferenceMixOutIdeal.main_arg10) = a10 m c := e10
  refine ⟨h0.trans ?_, h1.trans ?_, h2.trans ?_, h3.trans ?_, h4.trans ?_, h5.trans ?_, k⟩
  · rw [val_main_v188_eq, e0, e9, e10]
    refine Eq.trans ?_ (final15 (m := m) (c := c)).symm
    funext i
    obtain ⟨d, rfl⟩ : ∃ d : Fin 64, i = ix2 0 d := ⟨i 1, (eq_ix2 i).trans (congrArg (fun a => ix2 a (i 1)) (Subsingleton.elim _ _))⟩
    exact Cert.MixOutRef.gsb_apply ..
  · rw [val_main_v189_eq, e1, e2, e9, e10]
    refine Eq.trans ?_ (final16 (m := m) (c := c)).symm
    funext i
    obtain ⟨d, rfl⟩ : ∃ d : Fin 64, i = ix2 0 d := ⟨i 1, (eq_ix2 i).trans (congrArg (fun a => ix2 a (i 1)) (Subsingleton.elim _ _))⟩
    exact Cert.MixOutRef.gdn_apply ..
  · rw [val_main_v125_eq, e3, e6, e7, e8, e9, e10]
    refine Eq.trans ?_ (final17 (m := m) (c := c)).symm
    funext i
    obtain ⟨d, j, rfl⟩ : ∃ d j : Fin 512, i = ix2 d j := ⟨i 0, i 1, eq_ix2 i⟩
    exact Cert.MixOutRef.wg_apply ..
  · rw [val_main_v190_eq, e3, e6, e7, e8, e9, e10]
    refine Eq.trans ?_ (final18 (m := m) (c := c)).symm
    funext i
    obtain ⟨d, rfl⟩ : ∃ d : Fin 512, i = ix2 0 d := ⟨i 1, (eq_ix2 i).trans (congrArg (fun a => ix2 a (i 1)) (Subsingleton.elim _ _))⟩
    exact Cert.MixOutRef.bg_apply ..
  · rw [val_main_v191_eq, e3, e6, e7, e9, e10]
    refine Eq.trans ?_ (final19 (m := m) (c := c)).symm
    funext i
    obtain ⟨d, rfl⟩ : ∃ d : Fin 512, i = ix2 0 d := ⟨i 1, (eq_ix2 i).trans (congrArg (fun a => ix2 a (i 1)) (Subsingleton.elim _ _))⟩
    exact Cert.MixOutRef.g5_apply ..
  · rw [val_main_v93_eq, e0, e1, e2, e3, e4, e5, e6, e7, e8, e10]
    refine Eq.trans ?_ (final20 (m := m) (c := c)).symm
    funext i
    obtain ⟨d, j, rfl⟩ : ∃ d j : Fin 1024, i = ix2 d j := ⟨i 0, i 1, eq_ix2 i⟩
    exact Cert.MixOutRef.wo_apply ..

end Cert.MixOutAlgebra

end
-- ==== Proof.S5PrepRows.lean ====
module

public import Idealize.ShloMosaic.Lib.Pointwise

/-! The discretised coefficients of one state of the state space block, and the derivatives through them. -/

@[expose] public section

set_option maxRecDepth 16384

noncomputable section

namespace Cert.S5PrepRows

open Idealize.ShloMosaic

/-! A state has the coefficient `a + i b` and the step `d`; `x + i y` is the cotangent of its decay and `P`, `Q` those of the two
parts of its gain (`P` of the imaginary part, `Q` of the real one). -/

variable (a b d x y P Q : EReal)

/-- The modulus of the decay. -/
def size : EReal := Ideal.exp (a * d)

/-- The real part of the decay. -/
def re : EReal := size a d * Ideal.cos (b * d)

/-- The imaginary part of the decay. -/
def im : EReal := size a d * Ideal.sin (b * d)

/-- The square of the coefficient's modulus. -/
def sqmod : EReal := a * a + b * b

/-- The gain's real part before the division. -/
def numRe : EReal := (re a b d - 1) * a + im a b d * b

/-- The gain's imaginary part before the division. -/
def numIm : EReal := im a b d * a - (re a b d - 1) * b

def gainRe : EReal := Ideal.div (numRe a b d) (sqmod a b)

def gainIm : EReal := Ideal.div (numIm a b d) (sqmod a b)

/-- The cotangent that reaches the squared modulus. -/
def dNorm : EReal := -(P * Ideal.div 1 (sqmod a b * sqmod a b) * numIm a b d) + -(Q * Ideal.div 1 (sqmod a b * sqmod a b) * numRe a b d)

/-- The cotangent that reaches the decay's imaginary part. -/
def dIm : EReal := y + Ideal.div P (sqmod a b) * a + Ideal.div Q (sqmod a b) * b

/-- The cotangent that reaches the decay's real part. -/
def dRe : EReal := x + -Ideal.div P (sqmod a b) * b + Ideal.div Q (sqmod a b) * a

/-- The cotangent of the angle, through the sine. -/
def dSin : EReal := size a d * dIm a b y P Q * Ideal.cos (b * d)

/-- The cotangent of the angle, through the cosine. -/
def dCos : EReal := -(size a d * dRe a b x P Q) * Ideal.sin (b * d)

/-- The cotangent of the exponent. -/
def dExp : EReal := (dIm a b y P Q * Ideal.sin (b * d) + dRe a b x P Q * Ideal.cos (b * d)) * size a d

/-- The gradient of the coefficient's real part. -/
def gradRe : EReal := im a b d * Ideal.div P (sqmod a b) + (re a b d - 1) * Ideal.div Q (sqmod a b) + a * dNorm a b d P Q + dNorm a b d P Q * a
  + dExp a b d x y P Q * d

/-- The gradient of the coefficient's imaginary part. -/
def gradIm : EReal := (re a b d - 1) * -Ideal.div P (sqmod a b) + im a b d * Ideal.div Q (sqmod a b) + b * dNorm a b d P Q + dNorm a b d P Q * b
  + dSin a b d y P Q * d + dCos a b d x P Q * d

/-- The cotangent of the gain's imaginary part: `br`, `bi` are the row of the input matrix and `cr`, `ci` the cotangents of its product. -/
def ctIm (br bi cr ci : Fin 16 → EReal) : EReal := (∑ k : Fin 16, ci k * br k) + ∑ k : Fin 16, -cr k * bi k

/-- The cotangent of the gain's real part. -/
def ctRe (br bi cr ci : Fin 16 → EReal) : EReal := (∑ k : Fin 16, ci k * bi k) + ∑ k : Fin 16, cr k * br k

end Cert.S5PrepRows

end
-- ==== Proof.S5PrepPoint.lean ====
module

public import proofs.«01_k».proof.Proof.Gen.KernelS5PrepIdeal.Frame
public import Idealize.ShloMosaic.Lib.Pipeline.Value
public import proofs.«01_k».proof.Proof.S5PrepRows
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The launch's gradients of the discretised coefficients, state by state. -/

@[expose] public section

set_option maxRecDepth 16384

noncomputable section

namespace Cert.S5PrepPoint

open Idealize.ShloMosaic Idealize.ShloMosaic.TcCoe Idealize.SL.Sem Cert.KernelS5PrepIdeal Cert.KernelS5PrepIdeal.Gen

open Cert.S5PrepRows

theorem pay3_apply (v4 : S32x16x64.Idx → EReal) (g : Fin 32) (k : Fin 16) (n : Fin 64) : k0_pay3 (F := Ideal) v4 (ix3 g k n) = v4 (ix3 g k n) := by
  unfold k0_pay3
  pointwise

theorem pay4_apply (v6 : S32x16x64.Idx → EReal) (g : Fin 32) (k : Fin 16) (n : Fin 64) : k0_pay4 (F := Ideal) v6 (ix3 g k n) = v6 (ix3 g k n) := by
  unfold k0_pay4
  pointwise

theorem pay25_apply (v47 : S32x16x64.Idx → EReal) (g : Fin 32) (k : Fin 16) (n : Fin 64) : k0_pay25 (F := Ideal) v47 (ix3 g k n) = v47 (ix3 g k n) := by
  unfold k0_pay25
  pointwise

theorem pay26_apply (v49 : S32x16x64.Idx → EReal) (g : Fin 32) (k : Fin 16) (n : Fin 64) : k0_pay26 (F := Ideal) v49 (ix3 g k n) = v49 (ix3 g k n) := by
  unfold k0_pay26
  pointwise

theorem pay27_apply (v47 : S32x16x64.Idx → EReal) (g : Fin 32) (k : Fin 16) (n : Fin 64) : k0_pay27 (F := Ideal) v47 (ix3 g k n) = -v47 (ix3 g k n) := by
  unfold k0_pay27
  pointwise [pay25_apply, zero_sub]

theorem pay5_apply (v2 : S32x1.Idx → EReal) (g : Fin 32) : k0_pay5 (F := Ideal) v2 (ix2 g 0) = Ideal.exp (v2 (ix2 g 0)) := by
  unfold k0_pay5
  pointwise

theorem pay6_apply (v0 : S32x64.Idx → EReal) (v2 : S32x1.Idx → EReal) (g : Fin 32) (n : Fin 64) : k0_pay6 (F := Ideal) v0 v2 (ix2 g n) = size (v0 (ix2 g n)) (Ideal.exp (v2 (ix2 g 0))) := by
  unfold k0_pay6 size
  pointwise [pay5_apply]

theorem pay7_apply (v1 : S32x64.Idx → EReal) (v2 : S32x1.Idx → EReal) (g : Fin 32) (n : Fin 64) : k0_pay7 (F := Ideal) v1 v2 (ix2 g n) = v1 (ix2 g n) * (Ideal.exp (v2 (ix2 g 0))) := by
  unfold k0_pay7
  pointwise [pay5_apply]

theorem pay11_apply (v1 : S32x64.Idx → EReal) (v2 : S32x1.Idx → EReal) (g : Fin 32) (n : Fin 64) : k0_pay11 (F := Ideal) v1 v2 (ix2 g n) = v1 (ix2 g n) * (Ideal.exp (v2 (ix2 g 0))) := by
  unfold k0_pay11
  pointwise [pay5_apply]

theorem pay8_apply (v1 : S32x64.Idx → EReal) (v2 : S32x1.Idx → EReal) (g : Fin 32) (n : Fin 64) : k0_pay8 (F := Ideal) v1 v2 (ix2 g n) = Ideal.cos (v1 (ix2 g n) * (Ideal.exp (v2 (ix2 g 0)))) := by
  unfold k0_pay8
  pointwise [pay7_apply]

theorem pay9_apply (v1 : S32x64.Idx → EReal) (v2 : S32x1.Idx → EReal) (g : Fin 32) (n : Fin 64) : k0_pay9 (F := Ideal) v1 v2 (ix2 g n) = Ideal.sin (v1 (ix2 g n) * (Ideal.exp (v2 (ix2 g 0)))) := by
  unfold k0_pay9
  pointwise [pay7_apply]

theorem pay12_apply (v1 : S32x64.Idx → EReal) (v2 : S32x1.Idx → EReal) (g : Fin 32) (n : Fin 64) : k0_pay12 (F := Ideal) v1 v2 (ix2 g n) = Ideal.sin (v1 (ix2 g n) * (Ideal.exp (v2 (ix2 g 0)))) := by
  unfold k0_pay12
  pointwise [pay11_apply]

theorem pay13_apply (v1 : S32x64.Idx → EReal) (v2 : S32x1.Idx → EReal) (g : Fin 32) (n : Fin 64) : k0_pay13 (F := Ideal) v1 v2 (ix2 g n) = Ideal.cos (v1 (ix2 g n) * (Ideal.exp (v2 (ix2 g 0)))) := by
  unfold k0_pay13
  pointwise [pay11_apply]

theorem pay10_apply (v0 : S32x64.Idx → EReal) (v1 : S32x64.Idx → EReal) (v2 : S32x1.Idx → EReal) (g : Fin 32) (n : Fin 64) : k0_pay10 (F := Ideal) v0 v1 v2 (ix2 g n) = re (v0 (ix2 g n)) (v1 (ix2 g n)) (Ideal.exp (v2 (ix2 g 0))) := by
  unfold k0_pay10 re
  pointwise [pay6_apply, pay8_apply]

theorem pay14_apply (v0 : S32x64.Idx → EReal) (v1 : S32x64.Idx → EReal) (v2 : S32x1.Idx → EReal) (g : Fin 32) (n : Fin 64) : k0_pay14 (F := Ideal) v0 v1 v2 (ix2 g n) = im (v0 (ix2 g n)) (v1 (ix2 g n)) (Ideal.exp (v2 (ix2 g 0))) := by
  unfold k0_pay14 im
  pointwise [pay6_apply, pay12_apply]

theorem pay15_apply (v0 : S32x64.Idx → EReal) (v1 : S32x64.Idx → EReal) (g : Fin 32) (n : Fin 64) : k0_pay15 (F := Ideal) v0 v1 (ix2 g n) = sqmod (v0 (ix2 g n)) (v1 (ix2 g n)) := by
  unfold k0_pay15 sqmod
  pointwise

theorem pay16_apply (v0 : S32x64.Idx → EReal) (v1 : S32x64.Idx → EReal) (v2 : S32x1.Idx → EReal) (g : Fin 32) (n : Fin 64) : k0_pay16 (F := Ideal) v0 v1 v2 (ix2 g n) = re (v0 (ix2 g n)) (v1 (ix2 g n)) (Ideal.exp (v2 (ix2 g 0))) - 1 := by
  unfold k0_pay16
  pointwise [pay10_apply]

theorem pay19_apply (v0 : S32x64.Idx → EReal) (v1 : S32x64.Idx → EReal) (v2 : S32x1.Idx → EReal) (g : Fin 32) (n : Fin 64) : k0_pay19 (F := Ideal) v0 v1 v2 (ix2 g n) = re (v0 (ix2 g n)) (v1 (ix2 g n)) (Ideal.exp (v2 (ix2 g 0))) - 1 := by
  unfold k0_pay19
  pointwise [pay10_apply]

theorem pay17_apply (v0 : S32x64.Idx → EReal) (v1 : S32x64.Idx → EReal) (v2 : S32x1.Idx → EReal) (g : Fin 32) (n : Fin 64) : k0_pay17 (F := Ideal) v0 v1 v2 (ix2 g n) = numRe (v0 (ix2 g n)) (v1 (ix2 g n)) (Ideal.exp (v2 (ix2 g 0))) := by
  unfold k0_pay17 numRe
  pointwise [pay16_apply, pay14_apply]

theorem pay20_apply (v0 : S32x64.Idx → EReal) (v1 : S32x64.Idx → EReal) (v2 : S32x1.Idx → EReal) (g : Fin 32) (n : Fin 64) : k0_pay20 (F := Ideal) v0 v1 v2 (ix2 g n) = numIm (v0 (ix2 g n)) (v1 (ix2 g n)) (Ideal.exp (v2 (ix2 g 0))) := by
  unfold k0_pay20 numIm
  pointwise [pay19_apply, pay14_apply]

theorem pay18_apply (v0 : S32x64.Idx → EReal) (v1 : S32x64.Idx → EReal) (g : Fin 32) (n : Fin 64) : k0_pay18 (F := Ideal) v0 v1 (ix2 g n) = Ideal.div 1 (sqmod (v0 (ix2 g n)) (v1 (ix2 g n)) * sqmod (v0 (ix2 g n)) (v1 (ix2 g n))) := by
  unfold k0_pay18
  pointwise [pay15_apply]

theorem pay22_apply (v0 : S32x64.Idx → EReal) (v1 : S32x64.Idx → EReal) (g : Fin 32) (n : Fin 64) : k0_pay22 (F := Ideal) v0 v1 (ix2 g n) = Ideal.div 1 (sqmod (v0 (ix2 g n)) (v1 (ix2 g n)) * sqmod (v0 (ix2 g n)) (v1 (ix2 g n))) := by
  unfold k0_pay22
  pointwise [pay15_apply]

theorem pay21_apply (v0 : S32x64.Idx → EReal) (v1 : S32x64.Idx → EReal) (v2 : S32x1.Idx → EReal) (g : Fin 32) (n : Fin 64) : k0_pay21 (F := Ideal) v0 v1 v2 (ix2 g n) = gainIm (v0 (ix2 g n)) (v1 (ix2 g n)) (Ideal.exp (v2 (ix2 g 0))) := by
  unfold k0_pay21 gainIm
  pointwise [pay20_apply, pay15_apply]

theorem pay23_apply (v0 : S32x64.Idx → EReal) (v1 : S32x64.Idx → EReal) (v2 : S32x1.Idx → EReal) (g : Fin 32) (n : Fin 64) : k0_pay23 (F := Ideal) v0 v1 v2 (ix3 g 0 n) = gainRe (v0 (ix2 g n)) (v1 (ix2 g n)) (Ideal.exp (v2 (ix2 g 0))) := by
  unfold k0_pay23 gainRe
  pointwise [pay17_apply, pay15_apply]

theorem pay24_apply (v39 : S32x64.Idx → EReal) (g : Fin 32) (n : Fin 64) : k0_pay24 (F := Ideal) v39 (ix3 g 0 n) = v39 (ix2 g n) := by
  unfold k0_pay24
  pointwise

theorem pay28_apply (v39 : S32x64.Idx → EReal) (v43 : S32x1x64.Idx → EReal) (v47 : S32x16x64.Idx → EReal) (v49 : S32x16x64.Idx → EReal) (g : Fin 32) (k : Fin 16) (n : Fin 64) : k0_pay28 (F := Ideal) v39 v43 v47 v49 (ix3 g k n) = v43 (ix3 g 0 n) * v49 (ix3 g k n) + v39 (ix2 g n) * -v47 (ix3 g k n) := by
  unfold k0_pay28
  pointwise [pay24_apply, pay26_apply, pay27_apply]

theorem pay29_apply (v39 : S32x64.Idx → EReal) (v43 : S32x1x64.Idx → EReal) (v47 : S32x16x64.Idx → EReal) (v49 : S32x16x64.Idx → EReal) (g : Fin 32) (k : Fin 16) (n : Fin 64) : k0_pay29 (F := Ideal) v39 v43 v47 v49 (ix3 g k n) = v39 (ix2 g n) * v49 (ix3 g k n) + v43 (ix3 g 0 n) * v47 (ix3 g k n) := by
  unfold k0_pay29
  pointwise [pay24_apply, pay26_apply, pay25_apply]

theorem pay30_apply (v5 : S32x16x64.Idx → EReal) (v7 : S32x16x64.Idx → EReal) (v47 : S32x16x64.Idx → EReal) (v49 : S32x16x64.Idx → EReal) (g : Fin 32) (n : Fin 64) : k0_pay30 (F := Ideal) v5 v7 v47 v49 (ix2 g n) = ctIm (fun k => v5 (ix3 g k n)) (fun k => v7 (ix3 g k n)) (fun k => v47 (ix3 g k n)) (fun k => v49 (ix3 g k n)) := by
  unfold k0_pay30 ctIm
  pointwise [pay26_apply, pay27_apply, Finset.univ_unique, Finset.sum_singleton, Fin.default_eq_zero]

theorem pay31_apply (v5 : S32x16x64.Idx → EReal) (v7 : S32x16x64.Idx → EReal) (v47 : S32x16x64.Idx → EReal) (v49 : S32x16x64.Idx → EReal) (g : Fin 32) (n : Fin 64) : k0_pay31 (F := Ideal) v5 v7 v47 v49 (ix2 g n) = ctRe (fun k => v5 (ix3 g k n)) (fun k => v7 (ix3 g k n)) (fun k => v47 (ix3 g k n)) (fun k => v49 (ix3 g k n)) := by
  unfold k0_pay31 ctRe
  pointwise [pay26_apply, pay25_apply, Finset.univ_unique, Finset.sum_singleton, Fin.default_eq_zero]

theorem pay32_apply (v5 : S32x16x64.Idx → EReal) (v7 : S32x16x64.Idx → EReal) (v38 : S32x64.Idx → EReal) (v42 : S32x64.Idx → EReal) (v47 : S32x16x64.Idx → EReal) (v49 : S32x16x64.Idx → EReal) (g : Fin 32) (n : Fin 64) : k0_pay32 (F := Ideal) v5 v7 v38 v42 v47 v49 (ix2 g n) = -(ctIm (fun k => v5 (ix3 g k n)) (fun k => v7 (ix3 g k n)) (fun k => v47 (ix3 g k n)) (fun k => v49 (ix3 g k n)) * v42 (ix2 g n) * v38 (ix2 g n)) := by
  unfold k0_pay32
  pointwise [pay30_apply, zero_sub]

theorem pay33_apply (v5 : S32x16x64.Idx → EReal) (v7 : S32x16x64.Idx → EReal) (v24 : S32x64.Idx → EReal) (v47 : S32x16x64.Idx → EReal) (v49 : S32x16x64.Idx → EReal) (g : Fin 32) (n : Fin 64) : k0_pay33 (F := Ideal) v5 v7 v24 v47 v49 (ix2 g n) = Ideal.div (ctIm (fun k => v5 (ix3 g k n)) (fun k => v7 (ix3 g k n)) (fun k => v47 (ix3 g k n)) (fun k => v49 (ix3 g k n))) (v24 (ix2 g n)) := by
  unfold k0_pay33
  pointwise [pay30_apply]

theorem pay34_apply  (g : Fin 32) (n : Fin 64) : k0_pay34 (F := Ideal)  (ix2 g n) = 0 := by
  unfold k0_pay34
  pointwise

theorem pay35_apply (v83 : S32x64.Idx → EReal) (v84 : S32x64.Idx → EReal) (g : Fin 32) (n : Fin 64) : k0_pay35 (F := Ideal) v83 v84 (ix2 g n) = v84 (ix2 g n) - v83 (ix2 g n) := by
  unfold k0_pay35
  pointwise

theorem pay36_apply (v29 : S32x64.Idx → EReal) (v33 : S32x64.Idx → EReal) (v78 : S32x64.Idx → EReal) (v82 : S32x64.Idx → EReal) (g : Fin 32) (n : Fin 64) : k0_pay36 (F := Ideal) v29 v33 v78 v82 (ix2 g n) = v82 (ix2 g n) + -(v78 (ix2 g n) * v33 (ix2 g n) * v29 (ix2 g n)) := by
  unfold k0_pay36
  pointwise [zero_sub]

theorem pay37_apply (v24 : S32x64.Idx → EReal) (v78 : S32x64.Idx → EReal) (g : Fin 32) (n : Fin 64) : k0_pay37 (F := Ideal) v24 v78 (ix2 g n) = Ideal.div (v78 (ix2 g n)) (v24 (ix2 g n)) := by
  unfold k0_pay37
  pointwise

theorem pay38_apply (v0 : S32x64.Idx → EReal) (v1 : S32x64.Idx → EReal) (v24 : S32x64.Idx → EReal) (v46 : S32x64.Idx → EReal) (v78 : S32x64.Idx → EReal) (v83 : S32x64.Idx → EReal) (g : Fin 32) (n : Fin 64) : k0_pay38 (F := Ideal) v0 v1 v24 v46 v78 v83 (ix2 g n) = v46 (ix2 g n) + v83 (ix2 g n) * v0 (ix2 g n) + Ideal.div (v78 (ix2 g n)) (v24 (ix2 g n)) * v1 (ix2 g n) := by
  unfold k0_pay38
  pointwise [pay37_apply]

theorem pay39_apply (v0 : S32x64.Idx → EReal) (v1 : S32x64.Idx → EReal) (v24 : S32x64.Idx → EReal) (v45 : S32x64.Idx → EReal) (v78 : S32x64.Idx → EReal) (v83 : S32x64.Idx → EReal) (v84 : S32x64.Idx → EReal) (g : Fin 32) (n : Fin 64) : k0_pay39 (F := Ideal) v0 v1 v24 v45 v78 v83 v84 (ix2 g n) = v45 (ix2 g n) + (v84 (ix2 g n) - v83 (ix2 g n)) * v1 (ix2 g n) + Ideal.div (v78 (ix2 g n)) (v24 (ix2 g n)) * v0 (ix2 g n) := by
  unfold k0_pay39
  pointwise [pay37_apply, pay35_apply]

theorem pay40_apply (v0 : S32x64.Idx → EReal) (v21 : S32x64.Idx → EReal) (v24 : S32x64.Idx → EReal) (v26 : S32x64.Idx → EReal) (v29 : S32x64.Idx → EReal) (v33 : S32x64.Idx → EReal) (v78 : S32x64.Idx → EReal) (v82 : S32x64.Idx → EReal) (v83 : S32x64.Idx → EReal) (g : Fin 32) (n : Fin 64) : k0_pay40 (F := Ideal) v0 v21 v24 v26 v29 v33 v78 v82 v83 (ix2 g n) = v21 (ix2 g n) * v83 (ix2 g n) + v26 (ix2 g n) * Ideal.div (v78 (ix2 g n)) (v24 (ix2 g n)) + v0 (ix2 g n) * (v82 (ix2 g n) + -(v78 (ix2 g n) * v33 (ix2 g n) * v29 (ix2 g n))) + (v82 (ix2 g n) + -(v78 (ix2 g n) * v33 (ix2 g n) * v29 (ix2 g n))) * v0 (ix2 g n) := by
  unfold k0_pay40
  pointwise [pay36_apply, pay37_apply]

theorem pay41_apply (v0 : S32x64.Idx → EReal) (v1 : S32x64.Idx → EReal) (v11 : S32x64.Idx → EReal) (v20 : S32x64.Idx → EReal) (v24 : S32x64.Idx → EReal) (v46 : S32x64.Idx → EReal) (v78 : S32x64.Idx → EReal) (v83 : S32x64.Idx → EReal) (g : Fin 32) (n : Fin 64) : k0_pay41 (F := Ideal) v0 v1 v11 v20 v24 v46 v78 v83 (ix2 g n) = (v11 (ix2 g n) * (v46 (ix2 g n) + v83 (ix2 g n) * v0 (ix2 g n) + Ideal.div (v78 (ix2 g n)) (v24 (ix2 g n)) * v1 (ix2 g n)) * v20 (ix2 g n)) := by
  unfold k0_pay41
  pointwise [pay38_apply]

theorem pay42_apply (v0 : S32x64.Idx → EReal) (v1 : S32x64.Idx → EReal) (v11 : S32x64.Idx → EReal) (v15 : S32x64.Idx → EReal) (v24 : S32x64.Idx → EReal) (v45 : S32x64.Idx → EReal) (v78 : S32x64.Idx → EReal) (v83 : S32x64.Idx → EReal) (v84 : S32x64.Idx → EReal) (g : Fin 32) (n : Fin 64) : k0_pay42 (F := Ideal) v0 v1 v11 v15 v24 v45 v78 v83 v84 (ix2 g n) = (-(v11 (ix2 g n) * (v45 (ix2 g n) + (v84 (ix2 g n) - v83 (ix2 g n)) * v1 (ix2 g n) + Ideal.div (v78 (ix2 g n)) (v24 (ix2 g n)) * v0 (ix2 g n))) * v15 (ix2 g n)) := by
  unfold k0_pay42
  pointwise [pay39_apply, zero_sub]

theorem pay43_apply (v0 : S32x64.Idx → EReal) (v1 : S32x64.Idx → EReal) (v11 : S32x64.Idx → EReal) (v15 : S32x64.Idx → EReal) (v20 : S32x64.Idx → EReal) (v24 : S32x64.Idx → EReal) (v45 : S32x64.Idx → EReal) (v46 : S32x64.Idx → EReal) (v78 : S32x64.Idx → EReal) (v83 : S32x64.Idx → EReal) (v84 : S32x64.Idx → EReal) (g : Fin 32) : k0_pay43 (F := Ideal) v0 v1 v11 v15 v20 v24 v45 v46 v78 v83 v84 (ix2 g 0) = (∑ n : Fin 64, v1 (ix2 g n) * (v11 (ix2 g n) * (v46 (ix2 g n) + v83 (ix2 g n) * v0 (ix2 g n) + Ideal.div (v78 (ix2 g n)) (v24 (ix2 g n)) * v1 (ix2 g n)) * v20 (ix2 g n))) + ∑ n : Fin 64, v1 (ix2 g n) * (-(v11 (ix2 g n) * (v45 (ix2 g n) + (v84 (ix2 g n) - v83 (ix2 g n)) * v1 (ix2 g n) + Ideal.div (v78 (ix2 g n)) (v24 (ix2 g n)) * v0 (ix2 g n))) * v15 (ix2 g n)) := by
  unfold k0_pay43
  pointwise [pay41_apply, pay42_apply]

theorem pay44_apply (v0 : S32x64.Idx → EReal) (v1 : S32x64.Idx → EReal) (v8 : S32x1.Idx → EReal) (v11 : S32x64.Idx → EReal) (v15 : S32x64.Idx → EReal) (v20 : S32x64.Idx → EReal) (v21 : S32x64.Idx → EReal) (v24 : S32x64.Idx → EReal) (v29 : S32x64.Idx → EReal) (v33 : S32x64.Idx → EReal) (v36 : S32x64.Idx → EReal) (v45 : S32x64.Idx → EReal) (v46 : S32x64.Idx → EReal) (v78 : S32x64.Idx → EReal) (v82 : S32x64.Idx → EReal) (v83 : S32x64.Idx → EReal) (v84 : S32x64.Idx → EReal) (g : Fin 32) (n : Fin 64) : k0_pay44 (F := Ideal) v0 v1 v8 v11 v15 v20 v21 v24 v29 v33 v36 v45 v46 v78 v82 v83 v84 (ix2 g n) = v36 (ix2 g n) * (v84 (ix2 g n) - v83 (ix2 g n)) + v21 (ix2 g n) * Ideal.div (v78 (ix2 g n)) (v24 (ix2 g n)) + v1 (ix2 g n) * (v82 (ix2 g n) + -(v78 (ix2 g n) * v33 (ix2 g n) * v29 (ix2 g n))) + (v82 (ix2 g n) + -(v78 (ix2 g n) * v33 (ix2 g n) * v29 (ix2 g n))) * v1 (ix2 g n) + (v11 (ix2 g n) * (v46 (ix2 g n) + v83 (ix2 g n) * v0 (ix2 g n) + Ideal.div (v78 (ix2 g n)) (v24 (ix2 g n)) * v1 (ix2 g n)) * v20 (ix2 g n)) * v8 (ix2 g 0) + (-(v11 (ix2 g n) * (v45 (ix2 g n) + (v84 (ix2 g n) - v83 (ix2 g n)) * v1 (ix2 g n) + Ideal.div (v78 (ix2 g n)) (v24 (ix2 g n)) * v0 (ix2 g n))) * v15 (ix2 g n)) * v8 (ix2 g 0) := by
  unfold k0_pay44
  pointwise [pay35_apply, pay36_apply, pay37_apply, pay41_apply, pay42_apply]

theorem pay45_apply (v0 : S32x64.Idx → EReal) (v1 : S32x64.Idx → EReal) (v11 : S32x64.Idx → EReal) (v14 : S32x64.Idx → EReal) (v19 : S32x64.Idx → EReal) (v24 : S32x64.Idx → EReal) (v45 : S32x64.Idx → EReal) (v46 : S32x64.Idx → EReal) (v78 : S32x64.Idx → EReal) (v83 : S32x64.Idx → EReal) (v84 : S32x64.Idx → EReal) (g : Fin 32) (n : Fin 64) : k0_pay45 (F := Ideal) v0 v1 v11 v14 v19 v24 v45 v46 v78 v83 v84 (ix2 g n) = (((v46 (ix2 g n) + v83 (ix2 g n) * v0 (ix2 g n) + Ideal.div (v78 (ix2 g n)) (v24 (ix2 g n)) * v1 (ix2 g n)) * v19 (ix2 g n) + (v45 (ix2 g n) + (v84 (ix2 g n) - v83 (ix2 g n)) * v1 (ix2 g n) + Ideal.div (v78 (ix2 g n)) (v24 (ix2 g n)) * v0 (ix2 g n)) * v14 (ix2 g n)) * v11 (ix2 g n)) := by
  unfold k0_pay45
  pointwise [pay38_apply, pay39_apply]

theorem pay46_apply (v0 : S32x64.Idx → EReal) (v1 : S32x64.Idx → EReal) (v11 : S32x64.Idx → EReal) (v14 : S32x64.Idx → EReal) (v19 : S32x64.Idx → EReal) (v24 : S32x64.Idx → EReal) (v45 : S32x64.Idx → EReal) (v46 : S32x64.Idx → EReal) (v78 : S32x64.Idx → EReal) (v83 : S32x64.Idx → EReal) (v84 : S32x64.Idx → EReal) (g : Fin 32) : k0_pay46 (F := Ideal) v0 v1 v11 v14 v19 v24 v45 v46 v78 v83 v84 (ix2 g 0) = ∑ n : Fin 64, v0 (ix2 g n) * (((v46 (ix2 g n) + v83 (ix2 g n) * v0 (ix2 g n) + Ideal.div (v78 (ix2 g n)) (v24 (ix2 g n)) * v1 (ix2 g n)) * v19 (ix2 g n) + (v45 (ix2 g n) + (v84 (ix2 g n) - v83 (ix2 g n)) * v1 (ix2 g n) + Ideal.div (v78 (ix2 g n)) (v24 (ix2 g n)) * v0 (ix2 g n)) * v14 (ix2 g n)) * v11 (ix2 g n)) := by
  unfold k0_pay46
  pointwise [pay45_apply]

theorem pay1_apply (v8 : S32x1.Idx → EReal) (v113 : S32x64.Idx → EReal) (v136 : S32x64.Idx → EReal) (g : Fin 32) (n : Fin 64) : k0_pay1 (F := Ideal) v8 v113 v136 (ix2 g n) = v113 (ix2 g n) + v136 (ix2 g n) * v8 (ix2 g 0) := by
  unfold k0_pay1
  pointwise

theorem pay2_apply (v8 : S32x1.Idx → EReal) (v132 : S32x1.Idx → EReal) (v139 : S32x1.Idx → EReal) (g : Fin 32) : k0_pay2 (F := Ideal) v8 v132 v139 (ix2 g 0) = (v132 (ix2 g 0) + v139 (ix2 g 0)) * v8 (ix2 g 0) := by
  unfold k0_pay2
  pointwise

variable (x0 x1 : S32x64.Idx → EReal) (x2 : S32x1.Idx → EReal) (x3 x4 : S32x16x64.Idx → EReal) (x5 x6 : S32x64.Idx → EReal)
  (x7 x8 : S32x16x64.Idx → EReal)

theorem out9_apply (g : Fin 32) (n : Fin 64) : out0_9 (F := Ideal) x0 x1 x2 x3 x4 x5 x6 x7 x8 (ix2 g n)
    = gradRe (x0 (ix2 g n)) (x1 (ix2 g n)) (Ideal.exp (x2 (ix2 g 0))) (x5 (ix2 g n)) (x6 (ix2 g n)) (ctIm (fun k => x3 (ix3 g k n)) (fun k => x4 (ix3 g k n)) (fun k => x7 (ix3 g k n)) (fun k => x8 (ix3 g k n))) (ctRe (fun k => x3 (ix3 g k n)) (fun k => x4 (ix3 g k n)) (fun k => x7 (ix3 g k n)) (fun k => x8 (ix3 g k n))) := by
  unfold_out out0_9
  frame_out
  simp only [pay1_apply, pay40_apply, pay45_apply, pay3_apply, pay4_apply, pay5_apply, pay6_apply, pay14_apply, pay15_apply, pay17_apply, pay18_apply, pay20_apply, pay22_apply, pay31_apply, pay32_apply, pay33_apply, pay34_apply, pay8_apply, pay9_apply, pay12_apply, pay13_apply, pay16_apply, pay19_apply, zero_sub]
  simp only [gradRe, dNorm, dExp, dIm, dRe]

theorem out10_apply (g : Fin 32) (n : Fin 64) : out0_10 (F := Ideal) x0 x1 x2 x3 x4 x5 x6 x7 x8 (ix2 g n)
    = gradIm (x0 (ix2 g n)) (x1 (ix2 g n)) (Ideal.exp (x2 (ix2 g 0))) (x5 (ix2 g n)) (x6 (ix2 g n)) (ctIm (fun k => x3 (ix3 g k n)) (fun k => x4 (ix3 g k n)) (fun k => x7 (ix3 g k n)) (fun k => x8 (ix3 g k n))) (ctRe (fun k => x3 (ix3 g k n)) (fun k => x4 (ix3 g k n)) (fun k => x7 (ix3 g k n)) (fun k => x8 (ix3 g k n))) := by
  unfold_out out0_10
  frame_out
  simp only [pay44_apply, pay3_apply, pay4_apply, pay5_apply, pay6_apply, pay14_apply, pay15_apply, pay17_apply, pay18_apply, pay20_apply, pay22_apply, pay31_apply, pay32_apply, pay33_apply, pay34_apply, pay8_apply, pay9_apply, pay12_apply, pay13_apply, pay16_apply, pay19_apply, zero_sub]
  simp only [gradIm, dNorm, dSin, dCos, dIm, dRe]

theorem out11_apply (g : Fin 32) : out0_11 (F := Ideal) x0 x1 x2 x3 x4 x5 x6 x7 x8 (ix2 g 0)
    = ((∑ n : Fin 64, x1 (ix2 g n) * dSin (x0 (ix2 g n)) (x1 (ix2 g n)) (Ideal.exp (x2 (ix2 g 0))) (x6 (ix2 g n)) (ctIm (fun k => x3 (ix3 g k n)) (fun k => x4 (ix3 g k n)) (fun k => x7 (ix3 g k n)) (fun k => x8 (ix3 g k n))) (ctRe (fun k => x3 (ix3 g k n)) (fun k => x4 (ix3 g k n)) (fun k => x7 (ix3 g k n)) (fun k => x8 (ix3 g k n)))) + (∑ n : Fin 64, x1 (ix2 g n) * dCos (x0 (ix2 g n)) (x1 (ix2 g n)) (Ideal.exp (x2 (ix2 g 0))) (x5 (ix2 g n)) (ctIm (fun k => x3 (ix3 g k n)) (fun k => x4 (ix3 g k n)) (fun k => x7 (ix3 g k n)) (fun k => x8 (ix3 g k n))) (ctRe (fun k => x3 (ix3 g k n)) (fun k => x4 (ix3 g k n)) (fun k => x7 (ix3 g k n)) (fun k => x8 (ix3 g k n))))
      + ∑ n : Fin 64, x0 (ix2 g n) * dExp (x0 (ix2 g n)) (x1 (ix2 g n)) (Ideal.exp (x2 (ix2 g 0))) (x5 (ix2 g n)) (x6 (ix2 g n)) (ctIm (fun k => x3 (ix3 g k n)) (fun k => x4 (ix3 g k n)) (fun k => x7 (ix3 g k n)) (fun k => x8 (ix3 g k n))) (ctRe (fun k => x3 (ix3 g k n)) (fun k => x4 (ix3 g k n)) (fun k => x7 (ix3 g k n)) (fun k => x8 (ix3 g k n)))) * (Ideal.exp (x2 (ix2 g 0))) := by
  unfold_out out0_11
  frame_out
  simp only [pay2_apply, pay43_apply, pay46_apply, pay3_apply, pay4_apply, pay5_apply, pay6_apply, pay14_apply, pay15_apply, pay17_apply, pay18_apply, pay20_apply, pay22_apply, pay31_apply, pay32_apply, pay33_apply, pay34_apply, pay8_apply, pay9_apply, pay12_apply, pay13_apply, pay16_apply, pay19_apply, zero_sub]
  simp only [dSin, dCos, dExp, dIm, dRe]

theorem out12_apply (g : Fin 32) (k : Fin 16) (n : Fin 64) : out0_12 (F := Ideal) x0 x1 x2 x3 x4 x5 x6 x7 x8 (ix3 g k n)
    = gainIm (x0 (ix2 g n)) (x1 (ix2 g n)) (Ideal.exp (x2 (ix2 g 0))) * x8 (ix3 g k n) + gainRe (x0 (ix2 g n)) (x1 (ix2 g n)) (Ideal.exp (x2 (ix2 g 0))) * x7 (ix3 g k n) := by
  unfold_out out0_12
  frame_out
  simp only [pay29_apply, pay21_apply, pay23_apply, zero_sub]

theorem out13_apply (g : Fin 32) (k : Fin 16) (n : Fin 64) : out0_13 (F := Ideal) x0 x1 x2 x3 x4 x5 x6 x7 x8 (ix3 g k n)
    = gainRe (x0 (ix2 g n)) (x1 (ix2 g n)) (Ideal.exp (x2 (ix2 g 0))) * x8 (ix3 g k n) + gainIm (x0 (ix2 g n)) (x1 (ix2 g n)) (Ideal.exp (x2 (ix2 g 0))) * -x7 (ix3 g k n) := by
  unfold_out out0_13
  frame_out
  simp only [pay28_apply, pay21_apply, pay23_apply, zero_sub]

end Cert.S5PrepPoint

end
-- ==== Proof.S5PrepRef.lean ====
module

public import proofs.«01_k».proof.Proof.Gen.ReferenceS5PrepIdeal.Read
public import proofs.«01_k».proof.Proof.S5PrepRows
public import Idealize.ShloMosaic.Lib.Pointwise
public import Idealize.ShloMosaic.Lib.StableHlo.ReadAt

/-! The reference's gradients of the discretised coefficients, state by state. -/

@[expose] public section

set_option maxRecDepth 16384

noncomputable section

namespace Cert.S5PrepRef

open Idealize.ShloMosaic Idealize.ShloMosaic.TcCoe Cert.ReferenceS5PrepIdeal Cert.ReferenceS5PrepIdeal.Read

open Cert.S5PrepRows

variable (x0 x1 : S32x64.Idx → EReal) (x2 : S32.Idx → EReal) (x3 x4 : S32x64x16.Idx → EReal) (x5 x6 : S32x64.Idx → EReal)
  (x7 x8 : S32x64x16.Idx → EReal)

theorem size_apply (g : Fin 32) (n : Fin 64) : val_main_v4 (F := Ideal) x0 x2 (ix2 g n) = size (x0 (ix2 g n)) (Ideal.exp (x2 (ix1 g))) := by
  unfold size
  pointwise [val_main_v4, val_main_v3, val_main_v2, val_main_v1, val_main_v0]

theorem cos_apply (g : Fin 32) (n : Fin 64) : val_main_v7 (F := Ideal) x1 x2 (ix2 g n) = Ideal.cos (x1 (ix2 g n) * (Ideal.exp (x2 (ix1 g)))) := by
  pointwise [val_main_v7, val_main_v6, val_main_v5, val_main_v1, val_main_v0]

theorem sin_apply (g : Fin 32) (n : Fin 64) : val_main_v8 (F := Ideal) x1 x2 (ix2 g n) = Ideal.sin (x1 (ix2 g n) * (Ideal.exp (x2 (ix1 g)))) := by
  pointwise [val_main_v8, val_main_v6, val_main_v5, val_main_v1, val_main_v0]

theorem sin'_apply (g : Fin 32) (n : Fin 64) : val_main_v12 (F := Ideal) x1 x2 (ix2 g n) = Ideal.sin (x1 (ix2 g n) * (Ideal.exp (x2 (ix1 g)))) := by
  pointwise [val_main_v12, val_main_v11, val_main_v10, val_main_v1, val_main_v0]

theorem cos'_apply (g : Fin 32) (n : Fin 64) : val_main_v13 (F := Ideal) x1 x2 (ix2 g n) = Ideal.cos (x1 (ix2 g n) * (Ideal.exp (x2 (ix1 g)))) := by
  pointwise [val_main_v13, val_main_v11, val_main_v10, val_main_v1, val_main_v0]

theorem re_apply (g : Fin 32) (n : Fin 64) : val_main_v9 (F := Ideal) x0 x1 x2 (ix2 g n) = re (x0 (ix2 g n)) (x1 (ix2 g n)) (Ideal.exp (x2 (ix1 g))) := by
  unfold re
  pointwise [val_main_v9, size_apply, cos_apply]

theorem im_apply (g : Fin 32) (n : Fin 64) : val_main_v14 (F := Ideal) x0 x1 x2 (ix2 g n) = im (x0 (ix2 g n)) (x1 (ix2 g n)) (Ideal.exp (x2 (ix1 g))) := by
  unfold im
  pointwise [val_main_v14, size_apply, sin'_apply]

theorem norm_apply (g : Fin 32) (n : Fin 64) : val_main_v17 (F := Ideal) x0 x1 (ix2 g n) = sqmod (x0 (ix2 g n)) (x1 (ix2 g n)) := by
  unfold sqmod
  pointwise [val_main_v17, val_main_v16, val_main_v15]

theorem numRe_apply (g : Fin 32) (n : Fin 64) : val_main_v22 (F := Ideal) x0 x1 x2 (ix2 g n) = numRe (x0 (ix2 g n)) (x1 (ix2 g n)) (Ideal.exp (x2 (ix1 g))) := by
  unfold numRe
  pointwise [val_main_v22, val_main_v21, val_main_v20, val_main_v19, val_main_v18, val_main_cst, re_apply, im_apply]

theorem numIm_apply (g : Fin 32) (n : Fin 64) : val_main_v32 (F := Ideal) x0 x1 x2 (ix2 g n) = numIm (x0 (ix2 g n)) (x1 (ix2 g n)) (Ideal.exp (x2 (ix1 g))) := by
  unfold numIm
  pointwise [val_main_v32, val_main_v31, val_main_v30, val_main_v29, val_main_v28, val_main_cst_1, re_apply, im_apply]

theorem gainRe_apply (g : Fin 32) (n : Fin 64) : val_main_v23 (F := Ideal) x0 x1 x2 (ix2 g n) = gainRe (x0 (ix2 g n)) (x1 (ix2 g n)) (Ideal.exp (x2 (ix1 g))) := by
  unfold gainRe
  pointwise [val_main_v23, norm_apply, numRe_apply]

theorem gainIm_apply (g : Fin 32) (n : Fin 64) : val_main_v33 (F := Ideal) x0 x1 x2 (ix2 g n) = gainIm (x0 (ix2 g n)) (x1 (ix2 g n)) (Ideal.exp (x2 (ix1 g))) := by
  unfold gainIm
  pointwise [val_main_v33, norm_apply, numIm_apply]

theorem ctIm_apply (g : Fin 32) (n : Fin 64) : val_main_v76 (F := Ideal) x3 x4 x7 x8 (ix2 g n) = ctIm (fun k => x3 (ix3 g n k)) (fun k => x4 (ix3 g n k)) (fun k => x7 (ix3 g n k)) (fun k => x8 (ix3 g n k)) := by
  unfold ctIm
  pointwise [val_main_v76, val_main_v68, val_main_v67, val_main_v66, val_main_v65, val_main_v61, val_main_v54, val_main_v53, val_main_v52, val_main_v49, val_main_cst_7, val_main_cst_3, val_main_cst_5, Finset.univ_unique, Finset.sum_singleton, Fin.default_eq_zero]

theorem ctRe_apply (g : Fin 32) (n : Fin 64) : val_main_v88 (F := Ideal) x3 x4 x7 x8 (ix2 g n) = ctRe (fun k => x3 (ix3 g n k)) (fun k => x4 (ix3 g n k)) (fun k => x7 (ix3 g n k)) (fun k => x8 (ix3 g n k)) := by
  unfold ctRe
  pointwise [val_main_v88, val_main_v75, val_main_v74, val_main_v73, val_main_v72, val_main_v60, val_main_v59, val_main_v58, val_main_v57, val_main_v48, val_main_cst_8, val_main_cst_4, val_main_cst_6, Finset.univ_unique, Finset.sum_singleton, Fin.default_eq_zero]

theorem dNorm_apply (g : Fin 32) (n : Fin 64) : val_main_v92 (F := Ideal) x0 x1 x2 x3 x4 x7 x8 (ix2 g n) = dNorm (x0 (ix2 g n)) (x1 (ix2 g n)) (Ideal.exp (x2 (ix1 g))) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dNorm
  pointwise [val_main_v92, val_main_v91, val_main_v90, val_main_v89, val_main_v79, val_main_v78, val_main_v77, val_main_v36, val_main_v35, val_main_v34, val_main_v26, val_main_v25, val_main_v24, val_main_cst_2, val_main_cst_0, norm_apply, numRe_apply, numIm_apply, ctIm_apply, ctRe_apply]

theorem dIm_apply (g : Fin 32) (n : Fin 64) : val_main_v97 (F := Ideal) x0 x1 x3 x4 x6 x7 x8 (ix2 g n) = dIm (x0 (ix2 g n)) (x1 (ix2 g n)) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dIm
  pointwise [val_main_v97, val_main_v96, val_main_v93, val_main_v87, val_main_v86, val_main_v80, norm_apply, ctIm_apply, ctRe_apply]

theorem dRe_apply (g : Fin 32) (n : Fin 64) : val_main_v101 (F := Ideal) x0 x1 x3 x4 x5 x7 x8 (ix2 g n) = dRe (x0 (ix2 g n)) (x1 (ix2 g n)) (x5 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dRe
  pointwise [val_main_v101, val_main_v100, val_main_v93, val_main_v84, val_main_v83, val_main_v81, val_main_v80, norm_apply, ctIm_apply, ctRe_apply]

theorem dSin_apply (g : Fin 32) (n : Fin 64) : val_main_v112 (F := Ideal) x0 x1 x2 x3 x4 x6 x7 x8 (ix2 g n) = dSin (x0 (ix2 g n)) (x1 (ix2 g n)) (Ideal.exp (x2 (ix1 g))) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dSin
  pointwise [val_main_v112, val_main_v110, size_apply, cos'_apply, dIm_apply]

theorem dCos_apply (g : Fin 32) (n : Fin 64) : val_main_v123 (F := Ideal) x0 x1 x2 x3 x4 x5 x7 x8 (ix2 g n) = dCos (x0 (ix2 g n)) (x1 (ix2 g n)) (Ideal.exp (x2 (ix1 g))) (x5 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dCos
  pointwise [val_main_v123, val_main_v122, val_main_v119, size_apply, sin_apply, dRe_apply]

theorem dExp_apply (g : Fin 32) (n : Fin 64) : val_main_v131 (F := Ideal) x0 x1 x2 x3 x4 x5 x6 x7 x8 (ix2 g n) = dExp (x0 (ix2 g n)) (x1 (ix2 g n)) (Ideal.exp (x2 (ix1 g))) (x5 (ix2 g n)) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold dExp
  pointwise [val_main_v131, val_main_v121, val_main_v120, val_main_v111, size_apply, cos_apply, sin'_apply, dIm_apply, dRe_apply]

theorem gradIm_apply (g : Fin 32) (n : Fin 64) : val_main_v130 (F := Ideal) x0 x1 x2 x3 x4 x5 x6 x7 x8 (ix2 g n) = gradIm (x0 (ix2 g n)) (x1 (ix2 g n)) (Ideal.exp (x2 (ix1 g))) (x5 (ix2 g n)) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold gradIm
  pointwise [val_main_v130, val_main_v129, val_main_v128, val_main_v118, val_main_v117, val_main_v116, val_main_v105, val_main_v104, val_main_v103, val_main_v102, val_main_v95, val_main_v94, val_main_v93, val_main_v82, val_main_v81, val_main_v80, val_main_v30, val_main_v29, val_main_v1, val_main_v0, val_main_cst_1, re_apply, im_apply, norm_apply, ctIm_apply, ctRe_apply, dNorm_apply, dSin_apply, dCos_apply]

theorem gradRe_apply (g : Fin 32) (n : Fin 64) : val_main_v138 (F := Ideal) x0 x1 x2 x3 x4 x5 x6 x7 x8 (ix2 g n) = gradRe (x0 (ix2 g n)) (x1 (ix2 g n)) (Ideal.exp (x2 (ix1 g))) (x5 (ix2 g n)) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))) := by
  unfold gradRe
  pointwise [val_main_v138, val_main_v137, val_main_v136, val_main_v109, val_main_v108, val_main_v107, val_main_v106, val_main_v99, val_main_v98, val_main_v93, val_main_v85, val_main_v80, val_main_v19, val_main_v18, val_main_v1, val_main_v0, val_main_cst, re_apply, im_apply, norm_apply, ctIm_apply, ctRe_apply, dNorm_apply, dExp_apply]

theorem gradDt_apply (g : Fin 32) : val_main_v141 (F := Ideal) x0 x1 x2 x3 x4 x5 x6 x7 x8 (ix2 g 0) = ((∑ n : Fin 64, x1 (ix2 g n) * dSin (x0 (ix2 g n)) (x1 (ix2 g n)) (Ideal.exp (x2 (ix1 g))) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k)))) + (∑ n : Fin 64, x1 (ix2 g n) * dCos (x0 (ix2 g n)) (x1 (ix2 g n)) (Ideal.exp (x2 (ix1 g))) (x5 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k))))
      + ∑ n : Fin 64, x0 (ix2 g n) * dExp (x0 (ix2 g n)) (x1 (ix2 g n)) (Ideal.exp (x2 (ix1 g))) (x5 (ix2 g n)) (x6 (ix2 g n)) (ctIm (fun k => x3 (ix3 g n k)) (fun k => x4 (ix3 g n k)) (fun k => x7 (ix3 g n k)) (fun k => x8 (ix3 g n k))) (ctRe (fun k => x3 (ix3 g n k)) (fun k => x4 (ix3 g n k)) (fun k => x7 (ix3 g n k)) (fun k => x8 (ix3 g n k)))) * (Ideal.exp (x2 (ix1 g))) := by
  pointwise [val_main_v141, val_main_v140, val_main_v139, val_main_v135, val_main_v134, val_main_v133, val_main_v132, val_main_v127, val_main_v126, val_main_v125, val_main_v124, val_main_v115, val_main_v114, val_main_v113, val_main_v0, val_main_cst_12, val_main_cst_9, val_main_cst_10, val_main_cst_11, dSin_apply, dCos_apply, dExp_apply, Finset.univ_unique, Finset.sum_singleton, Fin.default_eq_zero]

theorem gradBr_apply (g : Fin 32) (k : Fin 16) (n : Fin 64) : val_main_v142 (F := Ideal) x0 x1 x2 x7 x8 (ix3 g k n) = gainIm (x0 (ix2 g n)) (x1 (ix2 g n)) (Ideal.exp (x2 (ix1 g))) * x8 (ix3 g n k) + gainRe (x0 (ix2 g n)) (x1 (ix2 g n)) (Ideal.exp (x2 (ix1 g))) * x7 (ix3 g n k) := by
  pointwise [val_main_v142, val_main_v71, val_main_v70, val_main_v69, val_main_v60, val_main_v51, val_main_v50, val_main_v49, val_main_v37, val_main_v27, gainRe_apply, gainIm_apply]

theorem gradBi_apply (g : Fin 32) (k : Fin 16) (n : Fin 64) : val_main_v143 (F := Ideal) x0 x1 x2 x7 x8 (ix3 g k n) = gainRe (x0 (ix2 g n)) (x1 (ix2 g n)) (Ideal.exp (x2 (ix1 g))) * x8 (ix3 g n k) + gainIm (x0 (ix2 g n)) (x1 (ix2 g n)) (Ideal.exp (x2 (ix1 g))) * -x7 (ix3 g n k) := by
  pointwise [val_main_v143, val_main_v64, val_main_v63, val_main_v62, val_main_v61, val_main_v56, val_main_v55, val_main_v48, val_main_v37, val_main_v27, gainRe_apply, gainIm_apply]

end Cert.S5PrepRef

end
-- ==== Proof.S5PrepAlgebra.lean ====
module

public import proofs.«01_k».proof.Defs
public import proofs.«01_k».proof.Proof.S5PrepPoint
public import proofs.«01_k».proof.Proof.S5PrepRef
public import proofs.«01_k».proof.Proof.Gen.ReferenceS5PrepIdeal.Run

/-! The gradients of the discretised coefficients: the launch's five results are the reference's. -/

@[expose] public section

set_option maxRecDepth 16384

noncomputable section

namespace Cert.S5PrepAlgebra

open Idealize.ShloMosaic Idealize.ShloMosaic.TcCoe Idealize.SL.Sem Cert.KernelS5PrepIdeal Cert.KernelS5PrepIdeal.Gen

open Cert.ReferenceS5PrepIdeal.Read Cert.S5PrepRows

variable {m : (ℓ : Loc nD τ sig) → Buf (Elt Ideal) ℓ} {c : Dev nD}
variable (t : Fin cfg0.N)

abbrev a0 (m : (ℓ : Loc nD τ sig) → Buf (Elt Ideal) ℓ) (c : Dev nD) : (⟨S32x64, .f32⟩ : BufTy).Contents (Elt Ideal) := m ((c : Thread nD τ).loc main_arg0)
abbrev a1 (m : (ℓ : Loc nD τ sig) → Buf (Elt Ideal) ℓ) (c : Dev nD) : (⟨S32x64, .f32⟩ : BufTy).Contents (Elt Ideal) := m ((c : Thread nD τ).loc main_arg1)
abbrev a2 (m : (ℓ : Loc nD τ sig) → Buf (Elt Ideal) ℓ) (c : Dev nD) : (⟨S32, .f32⟩ : BufTy).Contents (Elt Ideal) := m ((c : Thread nD τ).loc main_arg2)
abbrev a3 (m : (ℓ : Loc nD τ sig) → Buf (Elt Ideal) ℓ) (c : Dev nD) : (⟨S32x64x16, .f32⟩ : BufTy).Contents (Elt Ideal) := m ((c : Thread nD τ).loc main_arg3)
abbrev a4 (m : (ℓ : Loc nD τ sig) → Buf (Elt Ideal) ℓ) (c : Dev nD) : (⟨S32x64x16, .f32⟩ : BufTy).Contents (Elt Ideal) := m ((c : Thread nD τ).loc main_arg4)
abbrev a5 (m : (ℓ : Loc nD τ sig) → Buf (Elt Ideal) ℓ) (c : Dev nD) : (⟨S32x64, .f32⟩ : BufTy).Contents (Elt Ideal) := m ((c : Thread nD τ).loc main_arg5)
abbrev a6 (m : (ℓ : Loc nD τ sig) → Buf (Elt Ideal) ℓ) (c : Dev nD) : (⟨S32x64, .f32⟩ : BufTy).Contents (Elt Ideal) := m ((c : Thread nD τ).loc main_arg6)
abbrev a7 (m : (ℓ : Loc nD τ sig) → Buf (Elt Ideal) ℓ) (c : Dev nD) : (⟨S32x64x16, .f32⟩ : BufTy).Contents (Elt Ideal) := m ((c : Thread nD τ).loc main_arg7)
abbrev a8 (m : (ℓ : Loc nD τ sig) → Buf (Elt Ideal) ℓ) (c : Dev nD) : (⟨S32x64x16, .f32⟩ : BufTy).Contents (Elt Ideal) := m ((c : Thread nD τ).loc main_arg8)

/-! What the host hands to the launch. -/

theorem V_dt (g : Fin 32) : (V m c main_v0 : S32x1.Idx → EReal) (ix2 g 0) = a2 m c (ix1 g) := by
  unfold V
  after_reads_simp
  pointwise

theorem V_br (g : Fin 32) (k : Fin 16) (n : Fin 64) : (V m c main_v1 : S32x16x64.Idx → EReal) (ix3 g k n) = a3 m c (ix3 g n k) := by
  unfold V
  after_reads_simp
  pointwise

theorem V_bi (g : Fin 32) (k : Fin 16) (n : Fin 64) : (V m c main_v2 : S32x16x64.Idx → EReal) (ix3 g k n) = a4 m c (ix3 g n k) := by
  unfold V
  after_reads_simp
  pointwise

theorem V_cr (g : Fin 32) (k : Fin 16) (n : Fin 64) : (V m c main_v3 : S32x16x64.Idx → EReal) (ix3 g k n) = a7 m c (ix3 g n k) := by
  unfold V
  after_reads_simp
  pointwise

theorem V_ci (g : Fin 32) (k : Fin 16) (n : Fin 64) : (V m c main_v4 : S32x16x64.Idx → EReal) (ix3 g k n) = a8 m c (ix3 g n k) := by
  unfold V
  after_reads_simp
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)

/-! The one grid point's blocks are the arrays. -/

theorem blk0 (g : Fin 32) (n : Fin 64) : (iblk m c 0 t : S32x64.Idx → EReal) (ix2 g n) = a0 m c (ix2 g n) := by
  have e : V m c main_arg0 = a0 m c := V_main_arg0 m c
  rw [← e]
  blk_ext [iblk, idx0]

theorem blk1 (g : Fin 32) (n : Fin 64) : (iblk m c 1 t : S32x64.Idx → EReal) (ix2 g n) = a1 m c (ix2 g n) := by
  have e : V m c main_arg1 = a1 m c := V_main_arg1 m c
  rw [← e]
  blk_ext [iblk, idx1]

theorem blk5 (g : Fin 32) (n : Fin 64) : (iblk m c 5 t : S32x64.Idx → EReal) (ix2 g n) = a5 m c (ix2 g n) := by
  have e : V m c main_arg5 = a5 m c := V_main_arg5 m c
  rw [← e]
  blk_ext [iblk, idx5]

theorem blk6 (g : Fin 32) (n : Fin 64) : (iblk m c 6 t : S32x64.Idx → EReal) (ix2 g n) = a6 m c (ix2 g n) := by
  have e : V m c main_arg6 = a6 m c := V_main_arg6 m c
  rw [← e]
  blk_ext [iblk, idx6]

theorem blk2 (g : Fin 32) : (iblk m c 2 t : S32x1.Idx → EReal) (ix2 g 0) = a2 m c (ix1 g) := by
  rw [← V_dt (m := m) (c := c) g]
  blk_ext [iblk, idx2]

theorem blk3 (g : Fin 32) (k : Fin 16) (n : Fin 64) : (iblk m c 3 t : S32x16x64.Idx → EReal) (ix3 g k n) = a3 m c (ix3 g n k) := by
  rw [← V_br (m := m) (c := c) g k n]
  blk_ext [iblk, idx3]

theorem blk4 (g : Fin 32) (k : Fin 16) (n : Fin 64) : (iblk m c 4 t : S32x16x64.Idx → EReal) (ix3 g k n) = a4 m c (ix3 g n k) := by
  rw [← V_bi (m := m) (c := c) g k n]
  blk_ext [iblk, idx4]

theorem blk7 (g : Fin 32) (k : Fin 16) (n : Fin 64) : (iblk m c 7 t : S32x16x64.Idx → EReal) (ix3 g k n) = a7 m c (ix3 g n k) := by
  rw [← V_cr (m := m) (c := c) g k n]
  blk_ext [iblk, idx7]

theorem blk8 (g : Fin 32) (k : Fin 16) (n : Fin 64) : (iblk m c 8 t : S32x16x64.Idx → EReal) (ix3 g k n) = a8 m c (ix3 g n k) := by
  rw [← V_ci (m := m) (c := c) g k n]
  blk_ext [iblk, idx8]

/-! The arrays that the launch leaves, at the arguments. -/

theorem final9 : (dats m 0 c).arrAt 9 cfg0.N = (val_main_v138 (F := Ideal) (a0 m c) (a1 m c) (a2 m c) (a3 m c) (a4 m c) (a5 m c) (a6 m c) (a7 m c) (a8 m c) : S32x64.Idx → EReal) := by
  refine (dats m 0 c).arrAt_eq_of_covers 9 _ (by decide +kernel) fun t hf y => ?_
  blk_simp
  rw [after0_9]
  obtain ⟨g, n, rfl⟩ : ∃ (g : Fin 32) (n : Fin 64), y = ix2 g n := ⟨y 0, y 1, eq_ix2 y⟩
  refine (Cert.S5PrepPoint.out9_apply ..).trans ?_
  simp only [blk0, blk1, blk2, blk3, blk4, blk5, blk6, blk7, blk8]
  refine (Cert.S5PrepRef.gradRe_apply ..).symm.trans (congrArg (val_main_v138 (F := Ideal) (a0 m c) (a1 m c) (a2 m c) (a3 m c) (a4 m c) (a5 m c) (a6 m c) (a7 m c) (a8 m c)) (funext fun a => Fin.ext ?_))
  fin_cases a <;> blk_simp [idx9]

theorem final10 : (dats m 0 c).arrAt 10 cfg0.N = (val_main_v130 (F := Ideal) (a0 m c) (a1 m c) (a2 m c) (a3 m c) (a4 m c) (a5 m c) (a6 m c) (a7 m c) (a8 m c) : S32x64.Idx → EReal) := by
  refine (dats m 0 c).arrAt_eq_of_covers 10 _ (by decide +kernel) fun t hf y => ?_
  blk_simp
  rw [after0_10]
  obtain ⟨g, n, rfl⟩ : ∃ (g : Fin 32) (n : Fin 64), y = ix2 g n := ⟨y 0, y 1, eq_ix2 y⟩
  refine (Cert.S5PrepPoint.out10_apply ..).trans ?_
  simp only [blk0, blk1, blk2, blk3, blk4, blk5, blk6, blk7, blk8]
  refine (Cert.S5PrepRef.gradIm_apply ..).symm.trans (congrArg (val_main_v130 (F := Ideal) (a0 m c) (a1 m c) (a2 m c) (a3 m c) (a4 m c) (a5 m c) (a6 m c) (a7 m c) (a8 m c)) (funext fun a => Fin.ext ?_))
  fin_cases a <;> blk_simp [idx10]

theorem final11 : (dats m 0 c).arrAt 11 cfg0.N = (val_main_v141 (F := Ideal) (a0 m c) (a1 m c) (a2 m c) (a3 m c) (a4 m c) (a5 m c) (a6 m c) (a7 m c) (a8 m c) : S32x1.Idx → EReal) := by
  refine (dats m 0 c).arrAt_eq_of_covers 11 _ (by decide +kernel) fun t hf y => ?_
  blk_simp
  rw [after0_11]
  obtain ⟨g, z, rfl⟩ : ∃ (g : Fin 32) (z : Fin 1), y = ix2 g z := ⟨y 0, y 1, eq_ix2 y⟩
  obtain rfl : z = 0 := Subsingleton.elim _ _
  refine (Cert.S5PrepPoint.out11_apply ..).trans ?_
  simp only [blk0, blk1, blk2, blk3, blk4, blk5, blk6, blk7, blk8]
  refine (Cert.S5PrepRef.gradDt_apply ..).symm.trans (congrArg (val_main_v141 (F := Ideal) (a0 m c) (a1 m c) (a2 m c) (a3 m c) (a4 m c) (a5 m c) (a6 m c) (a7 m c) (a8 m c)) (funext fun a => Fin.ext ?_))
  fin_cases a <;> blk_simp [idx11]

theorem final12 : (dats m 0 c).arrAt 12 cfg0.N = (val_main_v142 (F := Ideal) (a0 m c) (a1 m c) (a2 m c) (a7 m c) (a8 m c) : S32x16x64.Idx → EReal) := by
  refine (dats m 0 c).arrAt_eq_of_covers 12 _ (by decide +kernel) fun t hf y => ?_
  blk_simp
  rw [after0_12]
  obtain ⟨g, k, n, rfl⟩ : ∃ (g : Fin 32) (k : Fin 16) (n : Fin 64), y = ix3 g k n := ⟨y 0, y 1, y 2, eq_ix3 y⟩
  refine (Cert.S5PrepPoint.out12_apply ..).trans ?_
  simp only [blk0, blk1, blk2, blk3, blk4, blk5, blk6, blk7, blk8]
  refine (Cert.S5PrepRef.gradBr_apply ..).symm.trans (congrArg (val_main_v142 (F := Ideal) (a0 m c) (a1 m c) (a2 m c) (a7 m c) (a8 m c)) (funext fun a => Fin.ext ?_))
  fin_cases a <;> blk_simp [idx12]

theorem final13 : (dats m 0 c).arrAt 13 cfg0.N = (val_main_v143 (F := Ideal) (a0 m c) (a1 m c) (a2 m c) (a7 m c) (a8 m c) : S32x16x64.Idx → EReal) := by
  refine (dats m 0 c).arrAt_eq_of_covers 13 _ (by decide +kernel) fun t hf y => ?_
  blk_simp
  rw [after0_13]
  obtain ⟨g, k, n, rfl⟩ : ∃ (g : Fin 32) (k : Fin 16) (n : Fin 64), y = ix3 g k n := ⟨y 0, y 1, y 2, eq_ix3 y⟩
  refine (Cert.S5PrepPoint.out13_apply ..).trans ?_
  simp only [blk0, blk1, blk2, blk3, blk4, blk5, blk6, blk7, blk8]
  refine (Cert.S5PrepRef.gradBi_apply ..).symm.trans (congrArg (val_main_v143 (F := Ideal) (a0 m c) (a1 m c) (a2 m c) (a7 m c) (a8 m c)) (funext fun a => Fin.ext ?_))
  fin_cases a <;> blk_simp [idx13]

/-- The run, with the five arrays as the launch leaves them. -/
theorem launched (ρ : Dev nD → PrngReg) : θ_run (defs (F := Ideal)) (onTc (τ := τ) (main (F := Ideal))) ⟨m, fun _ => 0, ρ⟩ fun r => ∀ c : Dev nD,
      r.2.mem ((c : Thread nD τ).loc main_v5_0) = (dats m 0 c).arrAt 9 cfg0.N
      ∧ r.2.mem ((c : Thread nD τ).loc main_v5_1) = (dats m 0 c).arrAt 10 cfg0.N
      ∧ r.2.mem ((c : Thread nD τ).loc main_v5_2) = (dats m 0 c).arrAt 11 cfg0.N
      ∧ r.2.mem ((c : Thread nD τ).loc main_v5_3) = (dats m 0 c).arrAt 12 cfg0.N
      ∧ r.2.mem ((c : Thread nD τ).loc main_v5_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run _ _ _).mono (fun r h c => ⟨(h c).1 9, (h c).1 10, (h c).1 11, (h c).1 12, (h c).1 13, ?_, ?_, ?_, ?_, ?_, ?_, ?_, ?_, ?_⟩) (run_main m ρ)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).1 5).trans (((dats m 0 c).arrAt_in 5 rfl _).trans ((A_eq m c 5).trans (V_main_arg5 m c)))
  · exact ((h c).1 6).trans (((dats m 0 c).arrAt_in 6 rfl _).trans ((A_eq m c 6).trans (V_main_arg6 m c)))
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)

theorem algebraic : Cert.algebraic_KernelS5PrepIdeal_ReferenceS5PrepIdeal (hKernelS5PrepIdeal := Cert.KernelS5PrepIdeal.Gen.facts)
    (hReferenceS5PrepIdeal := Cert.ReferenceS5PrepIdeal.Gen.facts) := by
  intro m g m' g' _ hargs
  refine ⟨_, _, _, _, _, launched g, ?_⟩
  refine (θ_run _ _ _).mono (fun r h c => ?_) (Cert.ReferenceS5PrepIdeal.Value.run m' g')
  obtain ⟨h0, h1, h2, h3, h4, k⟩ := h c
  obtain ⟨e0, e1, e2, e3, e4, e5, e6, e7, e8⟩ := hargs c
  refine ⟨h0.trans ?_, h1.trans ?_, h2.trans ?_, h3.trans ?_, h4.trans ?_, k⟩
  · rw [val_main_v138_eq, e0, e1, e2, e3, e4, e5, e6, e7, e8, final9]
  · rw [val_main_v130_eq, e0, e1, e2, e3, e4, e5, e6, e7, e8, final10]
  · rw [val_main_v141_eq, e0, e1, e2, e3, e4, e5, e6, e7, e8, final11]
  · rw [val_main_v142_eq, e0, e1, e2, e7, e8, final12]
  · rw [val_main_v143_eq, e0, e1, e2, e7, e8, final13]

end Cert.S5PrepAlgebra

end
-- ==== Proof.MixOutFwdPoint.lean ====
module

public import proofs.«01_k».proof.Proof.Gen.KernelMixOutFwdIdeal.Value
public import proofs.«01_k».proof.Proof.MixOutRows
public import Idealize.ShloMosaic.Lib.Pointwise
public import Idealize.ShloMosaic.Lib.StableHlo.ReadAt
public import Idealize.ShloMosaic.Lib.Pipeline.ValueKit.Point
public import Idealize.ShloMosaic.Lib.Pipeline.ReadBack

/-! The mixer's output block, forward: one tile of token rows. -/

@[expose] public section

set_option maxRecDepth 16384

noncomputable section

namespace Cert.MixOutFwdPoint

open Idealize.ShloMosaic Idealize.ShloMosaic.TcCoe Idealize.SL.Sem Cert.KernelMixOutFwdIdeal Cert.KernelMixOutFwdIdeal.Gen Cert.KernelMixOutFwdIdeal.Value

open Cert.MixOutRows

abbrev Heads : Type := S640x256.Idx → EReal
abbrev Wide : Type := S640x512.Idx → EReal
abbrev Rows : Type := S640x1024.Idx → EReal
abbrev Gain : Type := S1x64.Idx → EReal
abbrev Bias : Type := S1x512.Idx → EReal
abbrev Glu : Type := S512x512.Idx → EReal
abbrev Out : Type := S1024x1024.Idx → EReal

/-! The two masks: columns of one head, and columns at one place of their heads. -/

def heads : S256x256.Idx → EReal := k0_pay8 (F := Ideal) k0_pay6 k0_pay7

abbrev sel : BitVec 32 := Scalar.select (Scalar.cmpi .eq 64#32 0#32) 1#32 64#32

def lanes : S64x256.Idx → EReal := k0_pay12 (F := Ideal) k0_pay9 k0_pay10 k0_pay11

theorem heads_apply (i k : Fin 256) : heads (ix2 i k) = if i.val / 64 = k.val / 64 then 1 else 0 := by
  have b : ∀ i : Fin 256, Scalar.select
      (IntOp.andi (IntOp.cmpi .ne (IntOp.subi (BitVec.setWidth 32 (IntOp.cmpi .sgt (BitVec.ofNat 32 i.val) 0#32))
          (BitVec.setWidth 32 (IntOp.cmpi .slt (BitVec.ofNat 32 i.val) 0#32)))
          (Scalar.subi (Scalar.extui (Scalar.cmpi .sgt 64#32 0#32)) (Scalar.extui (Scalar.cmpi .slt 64#32 0#32))))
        (IntOp.cmpi .ne (IntOp.remsi .vector (BitVec.ofNat 32 i.val) 64#32) 0#32))
      (IntOp.subi (IntOp.divsi .vector (BitVec.ofNat 32 i.val) 64#32) 1#32)
      (IntOp.divsi .vector (BitVec.ofNat 32 i.val) 64#32) = BitVec.ofNat 32 (head i).val := by decide +kernel
  have q : ∀ a b : Fin 4, (BitVec.setWidth 32 (IntOp.cmpi .eq (BitVec.ofNat 32 a.val) (BitVec.ofNat 32 b.val))).toInt
    = if a.val = b.val then 1 else 0 := by decide +kernel
  unfold heads
  unfold_payloads
  pointwise
  rw [b, b]
  show (((BitVec.setWidth 32 _).toInt : ℝ) : EReal) = _
  rw [q]
  split <;> norm_num

theorem lanes_apply (d : Fin 64) (k : Fin 256) : lanes (ix2 d k) = if k.val % 64 = d.val then 1 else 0 := by
  have b : ∀ k : Fin 256, Scalar.select
      (IntOp.andi (IntOp.xori (IntOp.cmpi .slt (IntOp.remsi .vector (BitVec.ofNat 32 k.val) sel) 0#32) (Scalar.cmpi .slt sel 0#32))
        (IntOp.cmpi .ne (IntOp.remsi .vector (BitVec.ofNat 32 k.val) sel) 0#32))
      (IntOp.addi (IntOp.remsi .vector (BitVec.ofNat 32 k.val) sel) sel)
      (IntOp.remsi .vector (BitVec.ofNat 32 k.val) sel) = BitVec.ofNat 32 (lane k).val := by decide +kernel
  have q : ∀ a b : Fin 64, (BitVec.setWidth 32 (IntOp.cmpi .eq (BitVec.ofNat 32 a.val) (BitVec.ofNat 32 b.val))).toInt
    = if a.val = b.val then 1 else 0 := by decide +kernel
  unfold lanes
  unfold_payloads
  pointwise
  rw [b]
  show (((BitVec.setWidth 32 _).toInt : ℝ) : EReal) = _
  rw [q]
  split <;> norm_num

/-! The parts of the mixed row. -/

variable (o z : Heads) (y : Wide) (h : Rows) (g : Gain) (wg : Glu) (bg g5 : Bias) (wo : Out) (r : Fin 640)

def part0 : Heads := k0_pay13 (F := Ideal) o (k0_pay2 (F := Ideal) g) heads k0_pay9 k0_pay10 k0_pay11
def part1 : Heads := k0_pay14 (F := Ideal) o z (k0_pay3 (F := Ideal) g) heads k0_pay9 k0_pay10 k0_pay11

theorem part0_apply (k : Fin 256) : part0 o g (ix2 r k) = nrm (fun k => o (ix2 r k)) k * g (ix2 0 (lane k)) := by
  have e : k0_pay12 (F := Ideal) k0_pay9 k0_pay10 k0_pay11 = lanes := rfl
  unfold nrm ms part0 k0_pay13 k0_pay2
  rw [e]
  pointwise [heads_apply, sum_head, lanes_apply, spread]

theorem part1_apply (k : Fin 256) : part1 o z g (ix2 r k) = nrm (fun k => o (ix2 r k)) k * g (ix2 0 (lane k)) * sil (z (ix2 r k)) := by
  have e : k0_pay12 (F := Ideal) k0_pay9 k0_pay10 k0_pay11 = lanes := rfl
  unfold nrm ms sil sg part1 k0_pay14 k0_pay3
  rw [e]
  pointwise [heads_apply, sum_head, lanes_apply, spread, zero_sub]

/-- Three rows side by side. -/
def beside (a b : Fin 256 → EReal) (u : Fin 512 → EReal) (i : Fin 1024) : EReal :=
  if h : i.val < 256 then a ⟨i.val, h⟩ else if h : i.val < 512 then b ⟨i.val - 256, by omega⟩ else u ⟨i.val - 512, by omega⟩

/-- The gated unit over the activations `v`. -/
def gated (v : Fin 512 → EReal) (w : Fin 512 → Fin 512 → EReal) (b : Fin 512 → EReal) (j : Fin 512) : EReal := v j * sg ((∑ f, v f * w f j) + b j)

/-- The last product, over the three parts. -/
theorem pay1_apply (a b : Heads) (p q : Wide) (j : Fin 1024) : k0_pay1 (F := Ideal) wg bg g5 a b p q h wo (ix2 r j)
    = h (ix2 r j) + ∑ i, beside (fun k => a (ix2 r k)) (fun k => b (ix2 r k))
      (fun k => nrm5 (gated (fun f => p (ix2 r f) * (1 + Ideal.tanh (q (ix2 r f)))) (fun f k => wg (ix2 f k)) (fun k => bg (ix2 0 k))) k * g5 (ix2 0 k)) i
      * wo (ix2 i j) := by
  unfold k0_pay1
  pointwise [zero_sub]
  refine congrArg _ (Finset.sum_congr rfl fun i _ => congrArg (· * _) ?_)
  unfold beside nrm5 ms5 gated sg
  by_cases h : i.val < 256
  · rw [dif_pos h, dif_pos h]
  · rw [dif_neg h, dif_neg h]
    by_cases h' : i.val < 512
    · rw [dif_pos h', dif_pos (by omega)]
    · have q : (⟨i.val - 256 - 256, by omega⟩ : Fin 512) = ⟨i.val - 512, by omega⟩ := Fin.ext (by show i.val - 256 - 256 = i.val - 512; omega)
      rw [dif_neg h', dif_neg (by omega), q]

theorem gel_apply (f : Fin 512) : k0_pay15 (F := Ideal) y (ix2 r f) * (1 + Ideal.tanh (k0_pay16 (F := Ideal) y (ix2 r f))) = gel (y (ix2 r f)) := by
  unfold gel k0_pay15 k0_pay16
  pointwise

/-- The tile's result. -/
def tile (o1 o2 : Heads) (g1 g2 : Gain) : Rows :=
  k0_pay1 (F := Ideal) wg (k0_pay4 (F := Ideal) bg) (k0_pay5 (F := Ideal) g5) (part0 o1 g1) (part1 o2 z g2) (k0_pay15 (F := Ideal) y) (k0_pay16 (F := Ideal) y) h wo

theorem tile_apply (o1 o2 : Heads) (g1 g2 : Gain) (j : Fin 1024) : tile z y h wg bg g5 wo o1 o2 g1 g2 (ix2 r j)
    = h (ix2 r j) + ∑ i, mixed (fun k => o1 (ix2 r k)) (fun k => o2 (ix2 r k)) (fun k => z (ix2 r k)) (fun k => g1 (ix2 0 k)) (fun k => g2 (ix2 0 k))
      (glu (fun k => y (ix2 r k)) (fun f k => wg (ix2 f k)) (fun k => bg (ix2 0 k))) (fun k => g5 (ix2 0 k)) i * wo (ix2 i j) := by
  have e4 (k : Fin 512) : k0_pay4 (F := Ideal) bg (ix2 0 k) = bg (ix2 0 k) := by
    unfold k0_pay4
    pointwise
  have e5 (k : Fin 512) : k0_pay5 (F := Ideal) g5 (ix2 0 k) = g5 (ix2 0 k) := by
    unfold k0_pay5
    pointwise
  refine (pay1_apply ..).trans ?_
  simp only [part0_apply, part1_apply, gel_apply, e4, e5]
  rfl

end Cert.MixOutFwdPoint

end
-- ==== Proof.MixOutFwdRef.lean ====
module

public import proofs.«01_k».proof.Proof.Gen.ReferenceMixOutFwdIdeal.Read
public import proofs.«01_k».proof.Proof.MixOutRows
public import Idealize.ShloMosaic.Lib.Pointwise
public import Idealize.ShloMosaic.Lib.StableHlo.ReadAt

/-! The mixer's output block, forward, as the reference writes it, at an index. -/

@[expose] public section

set_option maxRecDepth 16384

noncomputable section

namespace Cert.MixOutFwdRef

open Idealize.ShloMosaic Idealize.ShloMosaic.TcCoe Idealize.SL.Sem Cert.ReferenceMixOutFwdIdeal Cert.ReferenceMixOutFwdIdeal.Gen Cert.ReferenceMixOutFwdIdeal.Read

open Cert.MixOutRows

variable (x0 : S16640x1024.Idx → EReal) (x1 x2 x3 : S16640x256.Idx → EReal) (x4 : S16640x512.Idx → EReal) (x5 x6 : S64.Idx → EReal)
  (x7 : S512x512.Idx → EReal) (x8 x9 : S512.Idx → EReal) (x10 : S1024x1024.Idx → EReal)

theorem rsqrt_sb (r : Fin 16640) (a : Fin 4) (d : Fin 64) :
    val_main_v8 (F := Ideal) x1 (ix3 r a 0) = Ideal.rsqrt (ms (fun k => x1 (ix2 r k)) (col a d)) := by
  unfold ms
  rw [head_col, ← div64]
  pointwise [val_main_v8, val_main_v7, val_main_v6, val_main_v5, val_main_v4, val_main_v3, val_main_v2, val_main_v1, val_main_v0,
    val_main_cst, val_main_cst_0, val_main_cst_1]

theorem rsqrt_dn (r : Fin 16640) (a : Fin 4) (d : Fin 64) :
    val_main_v23 (F := Ideal) x2 (ix3 r a 0) = Ideal.rsqrt (ms (fun k => x2 (ix2 r k)) (col a d)) := by
  unfold ms
  rw [head_col, ← div64]
  pointwise [val_main_v23, val_main_v22, val_main_v21, val_main_v20, val_main_v19, val_main_v18, val_main_v17, val_main_v16, val_main_v15,
    val_main_cst_2, val_main_cst_3, val_main_cst_4]

theorem nrm_sb (r : Fin 16640) (a : Fin 4) (d : Fin 64) :
    val_main_v10 (F := Ideal) x1 (ix3 r a d) = nrm (fun k => x1 (ix2 r k)) (col a d) := by
  unfold nrm
  pointwise [val_main_v10, val_main_v9, val_main_v0, rsqrt_sb x1 r a d]

theorem nrm_dn (r : Fin 16640) (a : Fin 4) (d : Fin 64) :
    val_main_v25 (F := Ideal) x2 (ix3 r a d) = nrm (fun k => x2 (ix2 r k)) (col a d) := by
  unfold nrm
  pointwise [val_main_v25, val_main_v24, val_main_v15, rsqrt_dn x2 r a d]

theorem sil_z (r : Fin 16640) (a : Fin 4) (d : Fin 64) :
    val_main_v30 (F := Ideal) x3 (ix3 r a d) = sil (x3 (ix2 r (col a d))) := by
  unfold sil sg
  pointwise [val_main_v30, val_main_call0_v5, val_main_call0_v4, val_main_call0_v3, val_main_call0_v2, val_main_call0_v1, val_main_call0_v0,
    val_main_call0_cst, val_main_call0_cst_0, val_main_v29]

theorem gel_y (r : Fin 16640) (j : Fin 512) : val_main_v45 (F := Ideal) x4 (ix2 r j) = gel (x4 (ix2 r j)) := by
  have e (x : EReal) : Ideal.ofBits .f32 0x3D372713#32 * x * x * x = Ideal.ofBits .f32 0x3D372713#32 * (x * x * x) := by ac_rfl
  have q (a b c : EReal) : a * b * c = b * (a * c) := by ac_rfl
  unfold gel
  rw [e, q]
  pointwise [val_main_v45, val_main_v44, val_main_v43, val_main_v42, val_main_v41, val_main_v40, val_main_v39, val_main_v38, val_main_v37,
    val_main_v36, val_main_v35, val_main_v34, val_main_v33, val_main_cst_5, val_main_cst_6, val_main_cst_7, val_main_cst_8]

theorem glu_y (r : Fin 16640) (j : Fin 512) : val_main_v56 (F := Ideal) x4 x7 x8 (ix2 r j)
    = glu (fun k => x4 (ix2 r k)) (fun f k => x7 (ix2 f k)) (fun k => x8 (ix1 k)) j := by
  unfold glu pre sg
  pointwise [val_main_v56, val_main_v55, val_main_v54, val_main_v53, val_main_v52, val_main_v51, val_main_v50, val_main_v49, val_main_v48,
    val_main_v47, val_main_v46, gel_y, val_main_cst_9, val_main_cst_10]

theorem nrm_glu (r : Fin 16640) (j : Fin 512) : val_main_v66 (F := Ideal) x4 x7 x8 (ix2 r j)
    = nrm5 (glu (fun k => x4 (ix2 r k)) (fun f k => x7 (ix2 f k)) (fun k => x8 (ix1 k))) j := by
  unfold nrm5 ms5
  pointwise [val_main_v66, val_main_v65, val_main_v64, val_main_v63, val_main_v62, val_main_v61, val_main_v60, val_main_v59, val_main_v58,
    val_main_v57, glu_y, val_main_cst_11, val_main_cst_12, val_main_cst_13]

theorem mixed_apply (r : Fin 16640) (i : Fin 1024) : val_main_v70 (F := Ideal) x1 x2 x3 x4 x5 x6 x7 x8 x9 (ix2 r i)
    = mixed (fun k => x1 (ix2 r k)) (fun k => x2 (ix2 r k)) (fun k => x3 (ix2 r k)) (fun k => x5 (ix1 k)) (fun k => x6 (ix1 k))
      (glu (fun k => x4 (ix2 r k)) (fun f k => x7 (ix2 f k)) (fun k => x8 (ix1 k))) (fun k => x9 (ix1 k)) i := by
  unfold mixed
  pointwise [val_main_v70]
  by_cases h : i.val < 256
  · rw [dif_pos h, dif_pos h]
    have e := col_head_lane ⟨i.val, h⟩
    have n := nrm_sb x1 r (head ⟨i.val, h⟩) (lane ⟨i.val, h⟩)
    rw [e] at n
    refine Eq.trans ?_ (congrArg (· * _) n)
    pointwise [val_main_v14, val_main_v13, val_main_v12, val_main_v11]
  · rw [dif_neg h, dif_neg h]
    by_cases h' : i.val < 512
    · rw [dif_pos h', dif_pos (by omega)]
      have e := col_head_lane ⟨i.val - 256, by omega⟩
      have n := nrm_dn x2 r (head ⟨i.val - 256, by omega⟩) (lane ⟨i.val - 256, by omega⟩)
      have z := sil_z x3 r (head ⟨i.val - 256, by omega⟩) (lane ⟨i.val - 256, by omega⟩)
      rw [e] at n z
      rw [← n, ← z]
      pointwise [val_main_v32, val_main_v31, val_main_v28, val_main_v27, val_main_v26]
    · rw [dif_neg h', dif_neg (by omega)]
      rw [← nrm_glu x4 x7 x8 r ⟨i.val - 512, by omega⟩]
      have q : (⟨i.val - 256 - 256, by omega⟩ : Fin 512) = ⟨i.val - 512, by omega⟩ := Fin.ext (by show i.val - 256 - 256 = i.val - 512; omega)
      pointwise [val_main_v69, val_main_v68, val_main_v67]
      rw [q]

theorem v72_apply (r : Fin 16640) (j : Fin 1024) : val_main_v72 (F := Ideal) x0 x1 x2 x3 x4 x5 x6 x7 x8 x9 x10 (ix2 r j)
    = x0 (ix2 r j) + ∑ i, mixed (fun k => x1 (ix2 r k)) (fun k => x2 (ix2 r k)) (fun k => x3 (ix2 r k)) (fun k => x5 (ix1 k)) (fun k => x6 (ix1 k))
      (glu (fun k => x4 (ix2 r k)) (fun f k => x7 (ix2 f k)) (fun k => x8 (ix1 k))) (fun k => x9 (ix1 k)) i * x10 (ix2 i j) := by
  pointwise [val_main_v72, val_main_v71, mixed_apply]

end Cert.MixOutFwdRef

end
-- ==== Proof.MixOutFwdAlgebra.lean ====
module

public import proofs.«01_k».proof.Defs
public import proofs.«01_k».proof.Proof.Gen.ReferenceMixOutFwdIdeal.Run
public import proofs.«01_k».proof.Proof.MixOutFwdPoint
public import proofs.«01_k».proof.Proof.MixOutFwdRef

/-! The mixer's output block, forward: the launch's rows are the reference's. -/

@[expose] public section

set_option maxRecDepth 16384

noncomputable section

namespace Cert.MixOutFwdAlgebra

open Idealize.ShloMosaic Idealize.ShloMosaic.TcCoe Idealize.SL.Sem Cert.KernelMixOutFwdIdeal Cert.KernelMixOutFwdIdeal.Gen Cert.KernelMixOutFwdIdeal.Value

open Cert.MixOutRows

open Cert.MixOutFwdPoint Cert.ReferenceMixOutFwdIdeal.Read

variable {m : (ℓ : Loc nD τ sig) → Buf (Elt Ideal) ℓ} {c : Dev nD}
variable (t : Fin cfg0.N)

abbrev a0 (m : (ℓ : Loc nD τ sig) → Buf (Elt Ideal) ℓ) (c : Dev nD) : (⟨S16640x1024, .f32⟩ : BufTy).Contents (Elt Ideal) := m ((c : Thread nD τ).loc main_arg0)
abbrev a1 (m : (ℓ : Loc nD τ sig) → Buf (Elt Ideal) ℓ) (c : Dev nD) : (⟨S16640x256, .f32⟩ : BufTy).Contents (Elt Ideal) := m ((c : Thread nD τ).loc main_arg1)
abbrev a2 (m : (ℓ : Loc nD τ sig) → Buf (Elt Ideal) ℓ) (c : Dev nD) : (⟨S16640x256, .f32⟩ : BufTy).Contents (Elt Ideal) := m ((c : Thread nD τ).loc main_arg2)
abbrev a3 (m : (ℓ : Loc nD τ sig) → Buf (Elt Ideal) ℓ) (c : Dev nD) : (⟨S16640x256, .f32⟩ : BufTy).Contents (Elt Ideal) := m ((c : Thread nD τ).loc main_arg3)
abbrev a4 (m : (ℓ : Loc nD τ sig) → Buf (Elt Ideal) ℓ) (c : Dev nD) : (⟨S16640x512, .f32⟩ : BufTy).Contents (Elt Ideal) := m ((c : Thread nD τ).loc main_arg4)
abbrev a5 (m : (ℓ : Loc nD τ sig) → Buf (Elt Ideal) ℓ) (c : Dev nD) : (⟨S64, .f32⟩ : BufTy).Contents (Elt Ideal) := m ((c : Thread nD τ).loc main_arg5)
abbrev a6 (m : (ℓ : Loc nD τ sig) → Buf (Elt Ideal) ℓ) (c : Dev nD) : (⟨S64, .f32⟩ : BufTy).Contents (Elt Ideal) := m ((c : Thread nD τ).loc main_arg6)
abbrev a7 (m : (ℓ : Loc nD τ sig) → Buf (Elt Ideal) ℓ) (c : Dev nD) : (⟨S512x512, .f32⟩ : BufTy).Contents (Elt Ideal) := m ((c : Thread nD τ).loc main_arg7)
abbrev a8 (m : (ℓ : Loc nD τ sig) → Buf (Elt Ideal) ℓ) (c : Dev nD) : (⟨S512, .f32⟩ : BufTy).Contents (Elt Ideal) := m ((c : Thread nD τ).loc main_arg8)
abbrev a9 (m : (ℓ : Loc nD τ sig) → Buf (Elt Ideal) ℓ) (c : Dev nD) : (⟨S512, .f32⟩ : BufTy).Contents (Elt Ideal) := m ((c : Thread nD τ).loc main_arg9)
abbrev a10 (m : (ℓ : Loc nD τ sig) → Buf (Elt Ideal) ℓ) (c : Dev nD) : (⟨S1024x1024, .f32⟩ : BufTy).Contents (Elt Ideal) := m ((c : Thread nD τ).loc main_arg10)

/-! What the host hands to the launch. -/

theorem V_gsb (d : Fin 64) : (V m c main_v0 : S1x64.Idx → EReal) (ix2 0 d) = a5 m c (ix1 d) := by
  unfold V
  after_reads_simp
  pointwise

theorem V_gdn (d : Fin 64) : (V m c main_v1 : S1x64.Idx → EReal) (ix2 0 d) = a6 m c (ix1 d) := by
  unfold V
  after_reads_simp
  pointwise

theorem V_bg (d : Fin 512) : (V m c main_v2 : S1x512.Idx → EReal) (ix2 0 d) = a8 m c (ix1 d) := by
  unfold V
  after_reads_simp
  pointwise

theorem V_g5 (d : Fin 512) : (V m c main_v3 : S1x512.Idx → EReal) (ix2 0 d) = a9 m c (ix1 d) := by
  unfold V
  after_reads_simp
  pointwise

theorem V_wo (i j : Fin 1024) : (V m c main_v4 : S1024x1024.Idx → EReal) (ix2 i j) = a10 m c (ix2 i j) := by
  unfold V
  after_reads_simp
  pointwise

/-! Which block each window is at, and what it holds. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)

/-- The token row that a point has at its place `k`. -/
abbrev row (t : Fin cfg0.N) (k : Fin 640) : Fin 16640 := ⟨640 * t.val + k.val, by have : t.val < 26 := lt_of_lt_of_eq t.isLt N_0; omega⟩

theorem blk0 (k : Fin 640) (f : Fin 1024) : (iblk m c 0 t : S640x1024.Idx → EReal) (ix2 k f) = a0 m c (ix2 (row t k) f) := by
  have e : V m c main_arg0 = a0 m c := V_main_arg0 m c
  rw [← e]
  blk_ext [iblk, idx0]

theorem blk1 (k : Fin 640) (f : Fin 256) : (iblk m c 1 t : S640x256.Idx → EReal) (ix2 k f) = a1 m c (ix2 (row t k) f) := by
  have e : V m c main_arg1 = a1 m c := V_main_arg1 m c
  rw [← e]
  blk_ext [iblk, idx1]

theorem blk2 (k : Fin 640) (f : Fin 256) : (iblk m c 2 t : S640x256.Idx → EReal) (ix2 k f) = a2 m c (ix2 (row t k) f) := by
  have e : V m c main_arg2 = a2 m c := V_main_arg2 m c
  rw [← e]
  blk_ext [iblk, idx2]

theorem blk3 (k : Fin 640) (f : Fin 256) : (iblk m c 3 t : S640x256.Idx → EReal) (ix2 k f) = a3 m c (ix2 (row t k) f) := by
  have e : V m c main_arg3 = a3 m c := V_main_arg3 m c
  rw [← e]
  blk_ext [iblk, idx3]

theorem blk4 (k : Fin 640) (f : Fin 512) : (iblk m c 4 t : S640x512.Idx → EReal) (ix2 k f) = a4 m c (ix2 (row t k) f) := by
  have e : V m c main_arg4 = a4 m c := V_main_arg4 m c
  rw [← e]
  blk_ext [iblk, idx4]

theorem blk5 (d : Fin 64) : (iblk m c 5 t : S1x64.Idx → EReal) (ix2 0 d) = a5 m c (ix1 d) := by
  rw [← V_gsb (m := m) (c := c) d]
  blk_ext [iblk, idx5]

theorem blk6 (d : Fin 64) : (iblk m c 6 t : S1x64.Idx → EReal) (ix2 0 d) = a6 m c (ix1 d) := by
  rw [← V_gdn (m := m) (c := c) d]
  blk_ext [iblk, idx6]

theorem blk8 (d : Fin 512) : (iblk m c 8 t : S1x512.Idx → EReal) (ix2 0 d) = a8 m c (ix1 d) := by
  rw [← V_bg (m := m) (c := c) d]
  blk_ext [iblk, idx8]

theorem blk9 (d : Fin 512) : (iblk m c 9 t : S1x512.Idx → EReal) (ix2 0 d) = a9 m c (ix1 d) := by
  rw [← V_g5 (m := m) (c := c) d]
  blk_ext [iblk, idx9]

theorem blk7 (f j : Fin 512) : (iblk m c 7 t : S512x512.Idx → EReal) (ix2 f j) = a7 m c (ix2 f j) := by
  have e : V m c main_arg7 = a7 m c := V_main_arg7 m c
  rw [← e]
  blk_ext [iblk, idx7]

theorem blk10 (i j : Fin 1024) : (iblk m c 10 t : S1024x1024.Idx → EReal) (ix2 i j) = a10 m c (ix2 i j) := by
  rw [← V_wo (m := m) (c := c) i j]
  blk_ext [iblk, idx10]

/-! The rows that the launch leaves. -/

theorem final11 : (dats m 0 c).arrAt 11 cfg0.N = (val_main_v72 (F := Ideal) (a0 m c) (a1 m c) (a2 m c) (a3 m c) (a4 m c) (a5 m c) (a6 m c) (a7 m c)
    (a8 m c) (a9 m c) (a10 m c) : S16640x1024.Idx → EReal) := by
  refine (dats m 0 c).arrAt_eq_of_covers 11 _ (by decide +kernel) fun t hf y => ?_
  blk_simp
  rw [after0_11]
  obtain ⟨k, f, rfl⟩ : ∃ (k : Fin 640) (f : Fin 1024), y = ix2 k f := ⟨y 0, y 1, eq_ix2 y⟩
  unfold_out out0_11
  frame_out
  refine (tile_apply (iblk m c 3 t) (iblk m c 4 t) (iblk m c 0 t) (iblk m c 7 t) (iblk m c 8 t) (iblk m c 9 t) (iblk m c 10 t) k
    (iblk m c 1 t) (iblk m c 2 t) (iblk m c 5 t) (iblk m c 6 t) f).trans ?_
  simp only [blk0, blk1, blk2, blk3, blk4, blk5, blk6, blk7, blk8, blk9, blk10]
  refine (Cert.MixOutFwdRef.v72_apply ..).symm.trans (congrArg (val_main_v72 (F := Ideal) (a0 m c) (a1 m c) (a2 m c) (a3 m c) (a4 m c) (a5 m c)
    (a6 m c) (a7 m c) (a8 m c) (a9 m c) (a10 m c)) (funext fun a => Fin.ext ?_))
  fin_cases a
  · blk_simp [idx11]
    exact congrArg (· + k.val) (Nat.mul_comm 640 t.val)
  · blk_simp [idx11]
    rfl

theorem algebraic : Cert.algebraic_KernelMixOutFwdIdeal_ReferenceMixOutFwdIdeal (hKernelMixOutFwdIdeal := Cert.KernelMixOutFwdIdeal.Gen.facts)
    (hReferenceMixOutFwdIdeal := Cert.ReferenceMixOutFwdIdeal.Gen.facts) := by
  intro m g m' g' _ hargs
  refine ⟨_, Cert.KernelMixOutFwdIdeal.Value.run_blocks m g, ?_⟩
  refine (θ_run _ _ _).mono (fun r h c => ?_) (Cert.ReferenceMixOutFwdIdeal.Value.run m' g')
  obtain ⟨h0, k⟩ := h c
  obtain ⟨e0, e1, e2, e3, e4, e5, e6, e7, e8, e9, e10⟩ := hargs c
  refine ⟨h0.trans ?_, k⟩
  rw [val_main_v72_eq, e0, e1, e2, e3, e4, e5, e6, e7, e8, e9, e10, final11]

end Cert.MixOutFwdAlgebra

end
-- ==== Proof.DnDecayRows.lean ====
module

public import proofs.«01_k».proof.Proof.Reals

/-! The slope of the softplus, at a real number, in the two forms: by cases on the sign, and by one exponential. -/

@[expose] public section

noncomputable section

namespace Cert.DnDecayRows

open Idealize.ShloMosaic Cert.Reals

/-- The softplus. -/
def sp (x : EReal) : EReal := max x 0 + Ideal.log (1 + Ideal.exp (-(max x (-x))))

/-- A cotangent `d` of the logarithm's part, before the sign. -/
def tail (d x : EReal) : EReal := -(Ideal.div d (1 + Ideal.exp (-(max x (-x)))) * Ideal.exp (-(max x (-x))))

open Classical in
/-- The slope by cases. -/
def cases (d x : EReal) : EReal :=
  (if 0 ≤ x then tail d x else 0) + -(if 0 ≤ x then 0 else tail d x)
    + d * (if 0 < x then 1 else if x = 0 then Ideal.ofBits .f32 0x3F000000#32 else 0)

theorem abs_eq (x : EReal) : FloatOps.absf (F := Ideal) (φ := .f32) x = max x (-x) := rfl

theorem max_coe (a b : ℝ) : max (a : EReal) b = ((max a b : ℝ) : EReal) := (EReal.coe_strictMono.monotone.map_max).symm

theorem neg_abs (r : ℝ) : -(max (r : EReal) (-(r : EReal))) = ((-|r| : ℝ) : EReal) := by
  rw [← EReal.coe_neg, max_coe, ← EReal.coe_neg]
  rfl

theorem sp_coe (r : ℝ) : sp r = ((max r 0 + Real.log (1 + Real.exp (-|r|)) : ℝ) : EReal) := by
  have h : ¬ 1 + Real.exp (-|r|) ≤ 0 := not_le.mpr (by positivity)
  rw [sp, neg_abs, Ideal.exp_coe, ← EReal.coe_one, ← EReal.coe_add, Ideal.log_coe, if_neg h, ← EReal.coe_zero, max_coe, ← EReal.coe_add]

theorem isReal_sp {x : EReal} (h : IsReal x) : IsReal (sp x) := by
  obtain ⟨r, rfl⟩ := h
  exact ⟨_, sp_coe r⟩

theorem tail_coe (d r : ℝ) : tail d r = ((-(d / (1 + Real.exp (-|r|)) * Real.exp (-|r|)) : ℝ) : EReal) := by
  have h : (1 : EReal) + Ideal.exp (((-|r| : ℝ) : EReal)) = ((1 + Real.exp (-|r|) : ℝ) : EReal) := by
    rw [Ideal.exp_coe, ← EReal.coe_one, ← EReal.coe_add]
  have n : ((1 + Real.exp (-|r|) : ℝ) : EReal) ≠ 0 := by
    have : (0 : ℝ) < 1 + Real.exp (-|r|) := by positivity
    exact_mod_cast this.ne'
  rw [tail, neg_abs, h, Ideal.div, if_neg n, Ideal.exp_coe, ← EReal.coe_inv, ← EReal.coe_mul, ← EReal.coe_mul, ← EReal.coe_neg]
  rfl

theorem slope_coe (r : ℝ) : Ideal.exp ((r : EReal) - sp r) = ((Real.exp (r - max r 0) / (1 + Real.exp (-|r|)) : ℝ) : EReal) := by
  have h : 0 < 1 + Real.exp (-|r|) := by positivity
  rw [sp_coe, ← EReal.coe_sub, Ideal.exp_coe, ← sub_sub, Real.exp_sub, Real.exp_log h]

/-- Away from zero the two forms agree. -/
theorem cases_eq {d x : EReal} (hd : IsReal d) (hx : IsReal x) (h0 : x ≠ 0) : cases d x = d * Ideal.exp (x - sp x) := by
  obtain ⟨d, rfl⟩ := hd
  obtain ⟨r, rfl⟩ := hx
  have h0 : r ≠ 0 := fun h => h0 (by rw [h, EReal.coe_zero])
  have p : (1 : ℝ) + Real.exp (-|r|) ≠ 0 := by positivity
  rw [slope_coe, cases, tail_coe, ← EReal.coe_mul]
  rcases lt_or_gt_of_ne h0 with h | h
  · have e1 : ¬ (0 : EReal) ≤ r := by exact_mod_cast not_le.mpr h
    have e2 : ¬ (0 : EReal) < r := by exact_mod_cast not_lt.mpr h.le
    have e3 : ¬ (r : EReal) = 0 := by exact_mod_cast h0
    rw [if_neg e1, if_neg e1, if_neg e2, if_neg e3, mul_zero, zero_add, add_zero, ← EReal.coe_neg, neg_neg, max_eq_right h.le, abs_of_neg h, neg_neg, sub_zero]
    congr 1
    ring
  · have e1 : (0 : EReal) ≤ r := by exact_mod_cast h.le
    have e2 : (0 : EReal) < r := by exact_mod_cast h
    rw [if_pos e1, if_pos e1, if_pos e2, mul_one, neg_zero, add_zero, ← EReal.coe_add, max_eq_left h.le, sub_self, Real.exp_zero]
    congr 1
    field_simp
    ring

/-- Sums of reals: minus each part's sum times a real is minus the whole sum times it. -/
theorem sum_neg_mul {ι : Type*} [Fintype ι] (f : ι → EReal) (hf : ∀ i, IsReal (f i)) {e : EReal} (he : IsReal e) :
    ∑ i, -(f i) * e = -(∑ i, f i) * e := by
  choose g hg using hf
  obtain ⟨e, rfl⟩ := he
  have s (k : ι → ℝ) : ∑ i, (k i : EReal) = ((∑ i, k i : ℝ) : EReal) :=
    (map_sum (⟨⟨Real.toEReal, EReal.coe_zero⟩, EReal.coe_add⟩ : ℝ →+ EReal) k _).symm
  simp only [hg, ← EReal.coe_neg, ← EReal.coe_mul, s]
  congr 1
  rw [← Finset.sum_mul, Finset.sum_neg_distrib]

end Cert.DnDecayRows

end
-- ==== Proof.DnDecayPoint.lean ====
module

public import proofs.«01_k».proof.Proof.Gen.KernelDnDecayIdeal.Value
public import proofs.«01_k».proof.Proof.Tiles
public import proofs.«01_k».proof.Proof.DnDecayRows
public import Idealize.ShloMosaic.Lib.Pointwise
public import Idealize.ShloMosaic.Lib.StableHlo.ReadAt
public import Idealize.ShloMosaic.Lib.Pipeline.ValueKit.Acc
public import Idealize.ShloMosaic.Lib.Pipeline.ValueKit.Point
public import Idealize.ShloMosaic.Lib.Pipeline.ReadBack

/-! The gradients of the decay's two parameters: what one tile of token rows adds to them. -/

@[expose] public section

set_option maxRecDepth 16384

noncomputable section

namespace Cert.DnDecayPoint

open Idealize.ShloMosaic Idealize.ShloMosaic.TcCoe Idealize.SL.Sem Cert.KernelDnDecayIdeal Cert.KernelDnDecayIdeal.Gen Cert.KernelDnDecayIdeal.Value

open Cert.DnDecayRows

variable (m : (ℓ : Loc nD τ sig) → Buf (Elt Ideal) ℓ) (c : Dev nD) (t : Fin cfg0.N)

abbrev Lanes : Type := S320x128.Idx → EReal
abbrev Pair : Type := S8x128.Idx → EReal

/-- The number of a lane. -/
def lane : IVec S320x128 32 := iota .tc S320x128 32 [1] iota_S320x128_d1_w32

variable (b d : Lanes) (p : Pair) (k : Fin 320) (l : Fin 128)

/-- The cotangents of the decay, in the lanes 4 to 7. -/
def dlane (l : Fin 128) (x : EReal) : EReal := if l.val < 8 then if l.val < 4 then 0 else x else 0

theorem sel_apply : k0_pay51 (F := Ideal) lane k0_pay46 d (ix2 k l) = dlane l (d (ix2 k l)) := by
  have b4 : ∀ l : Fin 128, IntOp.cmpi .slt (BitVec.ofNat 32 l.val) 4#32 = if l.val < 4 then 1#1 else 0#1 := by decide +kernel
  have b8 : ∀ l : Fin 128, IntOp.cmpi .slt (BitVec.ofNat 32 l.val) 8#32 = if l.val < 8 then 1#1 else 0#1 := by decide +kernel
  unfold dlane k0_pay51 k0_pay47 k0_pay48 k0_pay49 k0_pay46 lane
  pointwise
  rw [b4, b8]
  split <;> split <;> rfl

/-- The softplus's argument. -/
theorem arg_apply : k0_pay40 (F := Ideal) b p (ix2 k l) = b (ix2 k l) + p (ix2 1 l) := by
  unfold k0_pay40
  pointwise

theorem sp_apply : k0_pay45 (F := Ideal) b p (ix2 k l) = sp (b (ix2 k l) + p (ix2 1 l)) := by
  unfold sp k0_pay45 k0_pay44 k0_pay43
  pointwise [arg_apply, zero_sub, abs_eq]

/-- A row's part of the second parameter's gradient. -/
theorem slope_apply : k0_pay52 (F := Ideal) lane (k0_pay39 (F := Ideal) p) (k0_pay41 (F := Ideal) b p) (k0_pay42 (F := Ideal) b p) (k0_pay43 (F := Ideal) b p) (k0_pay44 (F := Ideal) b p) k0_pay46 d (ix2 k l)
    = cases (-(Ideal.exp (p (ix2 0 l))) * dlane l (d (ix2 k l))) (b (ix2 k l) + p (ix2 1 l)) := by
  unfold cases tail k0_pay52 k0_pay39 k0_pay38 k0_pay41 k0_pay42 k0_pay43 k0_pay44 k0_pay43
  pointwise [arg_apply, sel_apply, zero_sub, abs_eq]

/-- What a tile adds. -/
def part (b d : Lanes) (p : Pair) : Pair := k0_pay55 (F := Ideal)
  (k0_pay53 lane (k0_pay39 (F := Ideal) p) (k0_pay41 (F := Ideal) b p) (k0_pay42 (F := Ideal) b p) (k0_pay43 (F := Ideal) b p) (k0_pay44 (F := Ideal) b p) k0_pay46 d)
  (k0_pay54 lane (k0_pay38 (F := Ideal) p) (k0_pay45 (F := Ideal) b p) k0_pay46 d)

theorem part_zero : part b d p (ix2 0 l) = -(∑ k, dlane l (d (ix2 k l)) * sp (b (ix2 k l) + p (ix2 1 l))) * Ideal.exp (p (ix2 0 l)) := by
  unfold part k0_pay55 k0_pay53 k0_pay54 k0_pay38
  pointwise [sp_apply, sel_apply, zero_sub]

theorem part_one : part b d p (ix2 1 l) = ∑ k, cases (-(Ideal.exp (p (ix2 0 l))) * dlane l (d (ix2 k l))) (b (ix2 k l) + p (ix2 1 l)) := by
  unfold part k0_pay55 k0_pay53 k0_pay54
  pointwise [slope_apply]

theorem part_rest (i : Fin 8) (h : 2 ≤ i.val) : part b d p (ix2 i l) = 0 := by
  unfold part k0_pay55 k0_pay53 k0_pay54
  pointwise
  rw [dif_neg (by omega), dif_neg (by omega)]
  pointwise

theorem pay10_eq : k0_pay10 (F := Ideal) b = b := by
  funext i
  unfold k0_pay10
  pointwise

theorem pay12_eq : k0_pay12 (F := Ideal) p = p := by
  funext i
  unfold k0_pay12
  pointwise

theorem pay4_apply (x y : Pair) (i : Fin 8) : k0_pay4 (F := Ideal) x y (ix2 i l) = y (ix2 i l) + x (ix2 i l) := by
  unfold k0_pay4
  pointwise

theorem pay6_apply (i : Fin 8) : k0_pay6 (F := Ideal) (ix2 i l) = (0 : EReal) := by
  unfold k0_pay6
  pointwise

abbrev bB : Lanes := iblk m c 2 t
abbrev pB : Pair := iblk m c 4 t
abbrev dB : Lanes := iblk m c 8 t

theorem outs_first (h0 : t.val % 52 = 0) : (outsAt0 m c t.val t.isLt).2.2.2
    = k0_pay4 (F := Ideal) (part (k0_pay10 (F := Ideal) (bB m c t)) (dB m c t) (k0_pay12 (F := Ideal) (pB m c t))) (k0_pay6 (F := Ideal)) := by
  rw [outsAt0_A m c t h0]
  frame_out
  rfl

theorem outs_step (h0 : ¬t.val % 52 = 0) : (outsAt0 m c t.val t.isLt).2.2.2
    = k0_pay4 (F := Ideal) (part (k0_pay10 (F := Ideal) (bB m c t)) (dB m c t) (k0_pay12 (F := Ideal) (pB m c t))) (outsAt0 m c (t.val - 1) (by omega)).2.2.2 := by
  rw [outsAt0_B m c t h0]
  frame_out
  rfl

end Cert.DnDecayPoint

end
-- ==== Proof.DnDecayValue.lean ====
module

public import proofs.«01_k».proof.Proof.DnDecayPoint
public import Idealize.ShloMosaic.Lib.Pipeline.ValueKit.Acc

/-! The gradients of the decay's two parameters: the launch's result, of the padded arrays the host prepares. -/

@[expose] public section

set_option maxRecDepth 16384

noncomputable section

namespace Cert.DnDecayValue

open Idealize.ShloMosaic Idealize.ShloMosaic.TcCoe Idealize.SL.Sem Cert.KernelDnDecayIdeal Cert.KernelDnDecayIdeal.Gen Cert.KernelDnDecayIdeal.Value
open Cert.DnDecayPoint Cert.DnDecayRows

variable (m : (ℓ : Loc nD τ sig) → Buf (Elt Ideal) ℓ) (c : Dev nD)

abbrev a2 : (⟨S16640x4, .f32⟩ : BufTy).Contents (Elt Ideal) := m ((c : Thread nD τ).loc main_arg2)
abbrev a4 : (⟨S4, .f32⟩ : BufTy).Contents (Elt Ideal) := m ((c : Thread nD τ).loc main_arg4)
abbrev a5 : (⟨S4, .f32⟩ : BufTy).Contents (Elt Ideal) := m ((c : Thread nD τ).loc main_arg5)
abbrev a10 : (⟨S16640x4, .f32⟩ : BufTy).Contents (Elt Ideal) := m ((c : Thread nD τ).loc main_arg10)

/-! The padded arrays, in the lanes 4 to 7. -/

/-- The gates' two columns of each head, the parameters, and the cotangents, each padded to 128 lanes. -/
abbrev ba : S16640x128.Idx → EReal := V m c main_v5
abbrev pv : S8x128.Idx → EReal := V m c main_v3
abbrev dbg : S16640x128.Idx → EReal := V m c main_v8

variable {m c}

theorem ba_lane (r : Fin 16640) (h : Fin 4) : ba m c (ix2 r ⟨4 + h.val, by omega⟩) = a2 m c (ix2 r h) := by
  unfold ba V
  after_reads_simp
  simp only [StableHlo.TRef.toBuf, StableHlo.TRef.ofBuf, cast_eq]
  clean_types
  pointwise
  after_reads_simp
  exact dif_pos (by omega)

theorem dbg_lane (r : Fin 16640) (h : Fin 4) : dbg m c (ix2 r ⟨4 + h.val, by omega⟩) = a10 m c (ix2 r h) := by
  unfold dbg V
  after_reads_simp
  simp only [StableHlo.TRef.toBuf, StableHlo.TRef.ofBuf, cast_eq]
  clean_types
  pointwise
  after_reads_simp
  exact dif_pos (by omega)

theorem pv_log (h : Fin 4) : pv m c (ix2 0 ⟨4 + h.val, by omega⟩) = a4 m c (ix1 h) := by
  unfold pv V
  after_reads_simp
  simp only [StableHlo.TRef.toBuf, StableHlo.TRef.ofBuf, cast_eq]
  clean_types
  pointwise
  after_reads_simp
  pointwise

theorem pv_bias (h : Fin 4) : pv m c (ix2 1 ⟨4 + h.val, by omega⟩) = a5 m c (ix1 h) := by
  unfold pv V
  after_reads_simp
  simp only [StableHlo.TRef.toBuf, StableHlo.TRef.ofBuf, cast_eq]
  clean_types
  pointwise
  after_reads_simp
  pointwise

/-! Which block each window is at, and what it holds. -/

theorem idx2 : ∀ t : Fin cfg0.N, win0_2.index t = ![t.val, 0] := (by decide +kernel : ∀ t : Fin grid0.N, _)
theorem idx4 : ∀ t : Fin cfg0.N, win0_4.index t = ![0, 0] := (by decide +kernel : ∀ t : Fin grid0.N, _)
theorem idx8 : ∀ t : Fin cfg0.N, win0_8.index t = ![t.val, 0] := (by decide +kernel : ∀ t : Fin grid0.N, _)

theorem lt52 (t : Fin cfg0.N) : t.val < 52 := lt_of_lt_of_eq t.isLt N_0

/-- The token row that a point has at its place `k`. -/
abbrev row (t : Fin cfg0.N) (k : Fin 320) : Fin 16640 := ⟨320 * t.val + k.val, by have := lt52 t; omega⟩

variable (t : Fin cfg0.N) (l : Fin 128)

theorem bB_apply (k : Fin 320) : bB m c t (ix2 k l) = ba m c (ix2 (row t k) l) := by
  unfold ba
  blk_ext [iblk, idx2]

theorem dB_apply (k : Fin 320) : dB m c t (ix2 k l) = dbg m c (ix2 (row t k) l) := by
  unfold dbg
  blk_ext [iblk, idx8]

theorem pB_apply (i : Fin 8) : pB m c t (ix2 i l) = pv m c (ix2 i l) := by
  unfold pv
  blk_ext [iblk, idx4]

/-! What a row gives to each of the two sums. -/

variable (m c)

/-- The softplus's argument in a lane. -/
def arg (l : Fin 128) (r : Fin 16640) : EReal := ba m c (ix2 r l) + pv m c (ix2 1 l)

def logTerm (l : Fin 128) (r : Fin 16640) : EReal := dlane l (dbg m c (ix2 r l)) * sp (arg m c l r)

def biasTerm (l : Fin 128) (r : Fin 16640) : EReal := cases (-(Ideal.exp (pv m c (ix2 0 l))) * dlane l (dbg m c (ix2 r l))) (arg m c l r)

/-- What a point adds to an entry. -/
def add (i : Fin 8) (l : Fin 128) (t : Fin cfg0.N) : EReal :=
  if i.val = 0 then -(∑ k, logTerm m c l (row t k)) * Ideal.exp (pv m c (ix2 0 l)) else if i.val = 1 then ∑ k, biasTerm m c l (row t k) else 0

variable {m c}

theorem part_apply (i : Fin 8) : part (k0_pay10 (F := Ideal) (bB m c t)) (dB m c t) (k0_pay12 (F := Ideal) (pB m c t)) (ix2 i l) = add m c i l t := by
  rw [pay10_eq, pay12_eq]
  unfold add logTerm biasTerm arg
  split
  · rename_i h
    obtain rfl : i = 0 := Fin.ext h
    rw [part_zero]
    simp only [bB_apply, dB_apply, pB_apply]
  · split
    · rename_i _ h
      obtain rfl : i = 1 := Fin.ext h
      rw [part_one]
      simp only [bB_apply, dB_apply, pB_apply]
    · exact part_rest _ _ _ _ _ (by omega)

/-- The last point. -/
abbrev last : Fin cfg0.N := ⟨51, by decide⟩

theorem out_last (i : Fin 8) (t : Fin cfg0.N) (ht : t.val + 1 = cfg0.N) : (outsAt0 m c t.val t.isLt).2.2.2 (ix2 i l) = ∑ t, add m c i l t := by
  have q := Pipeline.eq_sum_fin_of_reset_step_last (M := EReal) (fun n h => (outsAt0 m c n h).2.2.2 (ix2 i l)) 52 0 (fun t => add m c i l t)
    (fun t h => by rw [outs_first m c t h, pay4_apply, pay6_apply, part_apply])
    (fun t h => by rw [outs_step m c t h, pay4_apply, part_apply]) (by decide) t ht
  rw [q, zero_add]

theorem final12 : (dats m 0 c).arrAt 12 cfg0.N = fun i : S8x128.Idx => ∑ t, add m c (i 0) (i 1) t := by
  refine (dats m 0 c).arrAt_eq_of_after_last 12 last (by decide +kernel) _ fun j => ?_
  blk_simp
  rw [after0_12]
  obtain ⟨i, l, rfl⟩ : ∃ (i : Fin 8) (l : Fin 128), j = ix2 i l := ⟨j 0, j 1, eq_ix2 j⟩
  exact out_last l i last (by decide)

end Cert.DnDecayValue

end
-- ==== Proof.DnDecayRef.lean ====
module

public import proofs.«01_k».proof.Proof.Gen.ReferenceDnDecayIdeal.Read
public import proofs.«01_k».proof.Proof.DnDecayRows
public import Idealize.ShloMosaic.Lib.Pointwise

/-! The reference's gradients of the decay's two parameters, read at an entry. -/

@[expose] public section

set_option maxRecDepth 16384

noncomputable section

namespace Cert.DnDecayRef

open Idealize.ShloMosaic Idealize.ShloMosaic.TcCoe Idealize.SL.Sem Cert.ReferenceDnDecayIdeal Cert.ReferenceDnDecayIdeal.Gen Cert.ReferenceDnDecayIdeal.Read
open Cert.DnDecayRows

variable (x2 x10 : S16640x4.Idx → EReal) (x4 x5 : S4.Idx → EReal) (r : Fin 16640) (h : Fin 4)

/-- The softplus's argument. -/
def arg (r : Fin 16640) (h : Fin 4) : EReal := x2 (ix2 r h) + x5 (ix1 h)

theorem arg_ref : val_main_v4 (F := Ideal) x2 x5 (ix2 r h) = arg x2 x5 r h := by
  unfold arg val_main_v4
  pointwise [val_main_v3, val_main_v2]

theorem une_self (x : EReal) : Ideal.cmp .une x x = 0#1 := by simp [Ideal.cmp]

theorem sp_ref : val_main_v5_0 (F := Ideal) x2 x5 (ix2 r h) = sp (arg x2 x5 r h) := by
  unfold sp val_main_v5_0
  pointwise [val_main_call0_v4, val_main_call0_v6, val_main_call0_v11, val_main_call0_v10, val_main_call0_v9, val_main_call0_v8, val_main_call0_v7, val_main_call0_v3, val_main_call0_v2,
    val_main_call0_v1, val_main_call0_v0, val_main_call0_v5, val_main_call0_cst, arg_ref, une_self, sub_zero, abs_eq, Ideal.log1p]

/-- The word that stands for infinity. -/
theorem inf_word : Ideal.ofBits .f32 0x7F800000#32 = (⊤ : EReal) := by simp [Ideal.ofBits, Ideal.ieee]

theorem oeq_top {x : EReal} (hx : x ≠ ⊤) : Ideal.cmp .oeq x ⊤ = 0#1 := by simp [Ideal.cmp, hx]

theorem slope_ref (ha : arg x2 x5 r h ≠ ⊤) (hs : sp (arg x2 x5 r h) ≠ ⊤) :
    val_main_v5_1 (F := Ideal) x2 x5 (ix2 r h) = Ideal.exp (arg x2 x5 r h - sp (arg x2 x5 r h)) := by
  unfold val_main_v5_1
  pointwise [val_main_call0_v21, val_main_call0_v20, val_main_call0_v19, val_main_call0_v18, val_main_call0_v17, val_main_call0_v16, val_main_call0_v15, val_main_call0_v14, val_main_call0_v13,
    val_main_call0_cst_0, val_main_call0_cst_1, val_main_call0_cst_2, val_main_call0_cst_3, arg_ref, sp_ref, inf_word, oeq_top ha, oeq_top hs]

theorem dt_ref (hr : ∀ r h, arg x2 x5 r h ≠ ⊤ ∧ sp (arg x2 x5 r h) ≠ ⊤) : val_main_v18 (F := Ideal) x2 x4 x5 x10 (ix1 h)
    = ∑ r, -(Ideal.exp (x4 (ix1 h))) * x10 (ix2 r h) * Ideal.exp (arg x2 x5 r h - sp (arg x2 x5 r h)) := by
  unfold val_main_v18
  pointwise [val_main_v17, val_main_v16, val_main_v15, val_main_v10, val_main_v9, val_main_v6, val_main_v1, val_main_v0, val_main_cst_1, val_main_cst_2, slope_ref _ _ _ _ (hr _ _).1 (hr _ _).2,
    Fin.sum_univ_one, zero_add]

theorem al_ref : val_main_v20 (F := Ideal) x2 x4 x5 x10 (ix1 h)
    = -(∑ r, x10 (ix2 r h) * sp (arg x2 x5 r h)) * Ideal.exp (x4 (ix1 h)) := by
  unfold val_main_v20
  pointwise [val_main_v19, val_main_v14, val_main_v13, val_main_v12, val_main_v11, val_main_v0, val_main_cst, val_main_cst_0, sp_ref, Fin.sum_univ_one, zero_add]

variable (i : Fin 8) (l : Fin 128)

theorem out_zero (h4 : 4 ≤ l.val) (h8 : l.val < 8) : val_main_v24 (F := Ideal) x2 x4 x5 x10 (ix2 0 l) = val_main_v20 (F := Ideal) x2 x4 x5 x10 (ix1 ⟨l.val - 4, by omega⟩) := by
  unfold val_main_v24
  pointwise [val_main_v23, val_main_v21, val_main_v22]
  rw [dif_pos (by omega)]

theorem out_one (h4 : 4 ≤ l.val) (h8 : l.val < 8) : val_main_v24 (F := Ideal) x2 x4 x5 x10 (ix2 1 l) = val_main_v18 (F := Ideal) x2 x4 x5 x10 (ix1 ⟨l.val - 4, by omega⟩) := by
  unfold val_main_v24
  pointwise [val_main_v23, val_main_v21, val_main_v22]
  rw [dif_pos (by omega)]

theorem out_rest (hn : ¬(i.val < 2 ∧ 4 ≤ l.val ∧ l.val < 8)) : val_main_v24 (F := Ideal) x2 x4 x5 x10 (ix2 i l) = 0 := by
  unfold val_main_v24
  pointwise [val_main_call2_v0, val_main_c]
  rw [dif_neg (by omega)]
  show (((0#32 : BitVec 32).toInt : ℝ) : EReal) = 0
  simp

end Cert.DnDecayRef

end
-- ==== Proof.DnDecayFinite.lean ====
module

public import proofs.«01_k».proof.Defs
public import proofs.«01_k».proof.Proof.DxFinite

/-! The precondition of the decay's gradients, read: four arrays are real, and the softplus's argument is nowhere zero. -/

@[expose] public section

set_option maxRecDepth 16384

noncomputable section

namespace Cert.DnDecayFinite

open Idealize.ShloMosaic Cert.Pre_away Cert.Reals Cert.DxFinite

/-- The side conditions of the precondition's program. -/
theorem facts : Cert.Pre_away.Facts where
  bcast_S_S16640x4 := by decide
  reducesTo_S16640x4_S_d0_1 := by decide
  h_S_ := by decide
  bcast_S_S4 := by decide
  reducesTo_S4_S_d0 := by decide
  bcast_S4_S1x4_1 := by decide
  bcast_S1x4_S16640x4_0_1 := by decide

attribute [local instance] facts

theorem ne_of_une {x : EReal} (h : Ideal.cmp .une x 0 = 1#1) : x ≠ 0 := by
  rintro rfl
  simp [Ideal.cmp] at h

theorem read (x0 : FVec Ideal S16640x768 .f32) (x1 x2 : FVec Ideal S16640x4 .f32) (x3 : FVec Ideal S4x768 .f32) (x4 x5 : FVec Ideal S4 .f32)
    (x6 x7 x8 : FVec Ideal S16640x256 .f32) (x9 x10 : FVec Ideal S16640x4 .f32) (h : fn (F := Ideal) x0 x1 x2 x3 x4 x5 x6 x7 x8 x9 x10 = fun _ => 1#1) :
    (∀ i, IsReal (x2 i)) ∧ (∀ i, IsReal (x4 i)) ∧ (∀ i, IsReal (x5 i)) ∧ (∀ i, IsReal (x10 i))
      ∧ ∀ (r : Fin 16640) (j : Fin 4), (x2 (ix2 r j) + x5 (ix1 j) : EReal) ≠ 0 := by
  have e := congrFun h fun k => k.elim0
  unfold fn fn_part1 at e
  obtain ⟨e, hz⟩ := and_one e
  obtain ⟨e, h10⟩ := and_one e
  obtain ⟨e, h5⟩ := and_one e
  obtain ⟨h2, h4⟩ := and_one e
  have : Subsingleton S_.Idx := ⟨fun i j => funext fun k => k.elim0⟩
  refine ⟨fun i => isReal_of_abs_lt _ (Host.reduce_andi_all _ _ _ _ _ h2 i), fun i => isReal_of_abs_lt _ (Host.reduce_andi_all _ _ _ _ _ h4 i),
    fun i => isReal_of_abs_lt _ (Host.reduce_andi_all _ _ _ _ _ h5 i), fun i => isReal_of_abs_lt _ (Host.reduce_andi_all _ _ _ _ _ h10 i), fun r j => ?_⟩
  have z := Host.reduce_andi_all _ _ _ _ _ hz (ix2 r j)
  refine ne_of_une ?_
  rw [← z]
  symm
  pointwise

end Cert.DnDecayFinite

end
-- ==== Proof.DnDecayAlgebra.lean ====
module

public import proofs.«01_k».proof.Proof.DnDecayValue
public import proofs.«01_k».proof.Proof.DnDecayRef
public import proofs.«01_k».proof.Proof.DnDecayFinite
public import proofs.«01_k».proof.Proof.Gen.ReferenceDnDecayIdeal.Run

/-! The gradients of the decay's two parameters: launch and reference agree. -/

@[expose] public section

set_option maxRecDepth 16384

noncomputable section

namespace Cert.DnDecayAlgebra

open Idealize.ShloMosaic Idealize.ShloMosaic.TcCoe Idealize.SL.Sem Cert.KernelDnDecayIdeal Cert.KernelDnDecayIdeal.Gen Cert.KernelDnDecayIdeal.Value
open Cert.DnDecayPoint Cert.DnDecayRows Cert.DnDecayValue Cert.Reals
open Cert.ReferenceDnDecayIdeal.Read (val_main_v24 val_main_v24_eq)

variable (m : (ℓ : Loc nD τ sig) → Buf (Elt Ideal) ℓ) (c : Dev nD)

/-- The precondition, at one device. -/
structure Away : Prop where
  a : ∀ i, IsReal (a2 m c i)
  log : ∀ i, IsReal (a4 m c i)
  bias : ∀ i, IsReal (a5 m c i)
  dg : ∀ i, IsReal (a10 m c i)
  ne : ∀ (r : Fin 16640) (j : Fin 4), (a2 m c (ix2 r j) + a5 m c (ix1 j) : EReal) ≠ 0

variable {m c}

theorem exp_nonneg (x : EReal) : 0 ≤ Ideal.exp x := by
  induction x using EReal.rec with
  | bot => simp
  | coe r =>
    rw [Ideal.exp_coe]
    exact_mod_cast (Real.exp_pos r).le
  | top => simp

/-- A row whose cotangent is zero gives nothing. -/
theorem cases_zero (x : EReal) : cases 0 x = 0 := by
  have h : (1 : EReal) + Ideal.exp (-(max x (-x))) ≠ 0 := by
    have : (0 : EReal) < 1 + Ideal.exp (-(max x (-x))) := lt_of_lt_of_le zero_lt_one (le_add_of_nonneg_right (exp_nonneg _))
    exact this.ne'
  have e : tail 0 x = 0 := by rw [tail, Ideal.div, if_neg h, zero_mul, zero_mul, neg_zero]
  unfold cases
  rw [e, ite_self, zero_mul, neg_zero, add_zero, add_zero]

theorem dlane_out {l : Fin 128} (h : ¬(4 ≤ l.val ∧ l.val < 8)) (x : EReal) : dlane l x = 0 := by
  unfold dlane
  split
  · rw [if_pos (by omega)]
  · rfl

theorem dlane_in (h : Fin 4) (x : EReal) : dlane ⟨4 + h.val, by omega⟩ x = x := by
  unfold dlane
  rw [if_pos (by show 4 + h.val < 8; omega), if_neg (by show ¬4 + h.val < 4; omega)]

/-- The sum over the tiles of the sums over a tile's rows. -/
theorem sum_rows (f : Fin 16640 → EReal) : ∑ t : Fin cfg0.N, ∑ k, f (row t k) = ∑ r, f r := by
  have e := Cert.Tiles.sum_tiles (b := 320) (n := 52) (N := 16640) (by norm_num) (fun r => if h : r < 16640 then f ⟨r, h⟩ else 0)
  rw [← Fin.sum_univ_eq_sum_range (fun s => ∑ k : Fin 320, if h : 320 * s + k.val < 16640 then f ⟨320 * s + k.val, h⟩ else 0) 52] at e
  refine Eq.trans ?_ (e.trans (Finset.sum_congr rfl fun r _ => dif_pos r.isLt))
  show ∑ t : Fin 52, _ = _
  refine Finset.sum_congr rfl fun t _ => Finset.sum_congr rfl fun k _ => ?_
  rw [dif_pos (by omega)]

variable (hA : Away m c)
include hA

theorem arg_real (r : Fin 16640) (h : Fin 4) : IsReal (Cert.DnDecayRef.arg (a2 m c) (a5 m c) r h) := (hA.a _).add (hA.bias _)

omit hA in
theorem arg_lane (r : Fin 16640) (h : Fin 4) : DnDecayValue.arg m c ⟨4 + h.val, by omega⟩ r = Cert.DnDecayRef.arg (a2 m c) (a5 m c) r h := by
  unfold DnDecayValue.arg Cert.DnDecayRef.arg
  rw [ba_lane, pv_bias]

omit hA in
theorem log_lane (r : Fin 16640) (h : Fin 4) : logTerm m c ⟨4 + h.val, by omega⟩ r = a10 m c (ix2 r h) * sp (Cert.DnDecayRef.arg (a2 m c) (a5 m c) r h) := by
  unfold logTerm
  rw [dlane_in, dbg_lane, arg_lane]

theorem exp_real (h : Fin 4) : IsReal (Ideal.exp (a4 m c (ix1 h))) := by
  obtain ⟨x, e⟩ := hA.log (ix1 h)
  exact ⟨_, by rw [e, Ideal.exp_coe]⟩

theorem bias_lane (r : Fin 16640) (h : Fin 4) : biasTerm m c ⟨4 + h.val, by omega⟩ r
    = -(Ideal.exp (a4 m c (ix1 h))) * a10 m c (ix2 r h) * Ideal.exp (Cert.DnDecayRef.arg (a2 m c) (a5 m c) r h - sp (Cert.DnDecayRef.arg (a2 m c) (a5 m c) r h)) := by
  unfold biasTerm
  rw [dlane_in, dbg_lane, arg_lane, pv_log]
  obtain ⟨x, e⟩ := exp_real hA h
  refine cases_eq (IsReal.mul ⟨-x, ?_⟩ (hA.dg _)) (arg_real hA r h) (hA.ne r h)
  rw [e, EReal.coe_neg]

theorem log_sum (h : Fin 4) : ∑ t, add m c 0 ⟨4 + h.val, by omega⟩ t
    = -(∑ r, a10 m c (ix2 r h) * sp (Cert.DnDecayRef.arg (a2 m c) (a5 m c) r h)) * Ideal.exp (a4 m c (ix1 h)) := by
  have e (t : Fin cfg0.N) : add m c 0 ⟨4 + h.val, by omega⟩ t
      = -(∑ k, (fun r => a10 m c (ix2 r h) * sp (Cert.DnDecayRef.arg (a2 m c) (a5 m c) r h)) (row t k)) * Ideal.exp (a4 m c (ix1 h)) := by
    unfold add
    rw [if_pos (show (0 : Fin 8).val = 0 from rfl), pv_log]
    simp only [log_lane]
  rw [Finset.sum_congr rfl fun t _ => e t, sum_neg_mul _ (fun t => IsReal.sum _ _ fun k _ => (hA.dg _).mul (isReal_sp (arg_real hA _ h))) (exp_real hA h)]
  exact congrArg (fun s => -s * Ideal.exp (a4 m c (ix1 h))) (sum_rows fun r => a10 m c (ix2 r h) * sp (Cert.DnDecayRef.arg (a2 m c) (a5 m c) r h))

theorem bias_sum (h : Fin 4) : ∑ t, add m c 1 ⟨4 + h.val, by omega⟩ t
    = ∑ r, -(Ideal.exp (a4 m c (ix1 h))) * a10 m c (ix2 r h) * Ideal.exp (Cert.DnDecayRef.arg (a2 m c) (a5 m c) r h - sp (Cert.DnDecayRef.arg (a2 m c) (a5 m c) r h)) := by
  rw [← sum_rows]
  refine Finset.sum_congr rfl fun t _ => ?_
  unfold add
  rw [if_neg (by decide), if_pos (show (1 : Fin 8).val = 1 from rfl)]
  exact Finset.sum_congr rfl fun k _ => bias_lane hA _ h

omit hA in
theorem rest_sum (i : Fin 8) (l : Fin 128) (hn : ¬(i.val < 2 ∧ 4 ≤ l.val ∧ l.val < 8)) : ∑ t, add m c i l t = 0 := by
  refine Finset.sum_eq_zero fun t _ => ?_
  unfold add
  split
  · rw [Finset.sum_eq_zero fun k _ => ?_, neg_zero, zero_mul]
    unfold logTerm
    rw [dlane_out (by omega), zero_mul]
  · split
    · refine Finset.sum_eq_zero fun k _ => ?_
      unfold biasTerm
      rw [dlane_out (by omega), mul_zero, cases_zero]
    · rfl

omit hA in
theorem lane_lt (j : Fin 4) : 4 + j.val < 128 := by omega

omit hA in
theorem ne_top {x : EReal} (h : IsReal x) : x ≠ ⊤ := by
  obtain ⟨r, rfl⟩ := h
  exact EReal.coe_ne_top r

theorem value_eq (i : Fin 8) (l : Fin 128) : ∑ t, add m c i l t = val_main_v24 (F := Ideal) (a2 m c) (a4 m c) (a5 m c) (a10 m c) (ix2 i l) := by
  by_cases h : i.val < 2 ∧ 4 ≤ l.val ∧ l.val < 8
  · obtain ⟨hi, h4, h8⟩ := h
    obtain ⟨j, rfl⟩ : ∃ j : Fin 4, l = ⟨4 + j.val, lane_lt j⟩ := ⟨⟨l.val - 4, by omega⟩, Fin.ext (by show l.val = 4 + (l.val - 4); omega)⟩
    have ej : (⟨4 + j.val - 4, by omega⟩ : Fin 4) = j := Fin.ext (by show 4 + j.val - 4 = j.val; omega)
    obtain h0 | h1 : i.val = 0 ∨ i.val = 1 := by omega
    · obtain rfl : i = 0 := Fin.ext h0
      rw [log_sum hA, Cert.DnDecayRef.out_zero _ _ _ _ _ h4 h8]
      refine Eq.trans ?_ (congrArg (fun h => Cert.ReferenceDnDecayIdeal.Read.val_main_v20 (F := Ideal) (a2 m c) (a4 m c) (a5 m c) (a10 m c) (ix1 h)) ej).symm
      refine Eq.trans ?_ (Eq.symm (Cert.DnDecayRef.al_ref ..))
      rfl
    · obtain rfl : i = 1 := Fin.ext h1
      rw [bias_sum hA, Cert.DnDecayRef.out_one _ _ _ _ _ h4 h8]
      refine Eq.trans ?_ (congrArg (fun h => Cert.ReferenceDnDecayIdeal.Read.val_main_v18 (F := Ideal) (a2 m c) (a4 m c) (a5 m c) (a10 m c) (ix1 h)) ej).symm
      refine Eq.trans ?_ (Eq.symm (Cert.DnDecayRef.dt_ref _ _ _ _ _ fun r h => ⟨ne_top (arg_real hA r h), ne_top (isReal_sp (arg_real hA r h))⟩))
      rfl
  · rw [rest_sum i l h, Cert.DnDecayRef.out_rest _ _ _ _ _ _ h]

omit hA

theorem algebraic : Cert.algebraic_KernelDnDecayIdeal_ReferenceDnDecayIdeal_pre_away (hKernelDnDecayIdeal := Cert.KernelDnDecayIdeal.Gen.facts)
    (hReferenceDnDecayIdeal := Cert.ReferenceDnDecayIdeal.Gen.facts) (hPre_away := Cert.DnDecayFinite.facts) := by
  intro m g m' g' hpre hargs
  refine ⟨fun c => (dats m 0 c).arrAt 12 cfg0.N, (θ_run _ _ _).mono (fun r h c => (h c).2.2.2) (run_blocks m g), ?_⟩
  refine (θ_run _ _ _).mono (fun r h c => ?_) (Cert.ReferenceDnDecayIdeal.Value.run m' g')
  obtain ⟨h0, k⟩ := h c
  obtain ⟨e0, e1, e2, e3, e4, e5, e6, e7, e8, e9, e10⟩ := hargs c
  obtain ⟨f2, f4, f5, f10, fn⟩ := Cert.DnDecayFinite.read _ _ _ _ _ _ _ _ _ _ _ (hpre c)
  have hA : Away m c := ⟨f2, f4, f5, f10, fn⟩
  refine ⟨h0.trans ?_, k⟩
  rw [val_main_v24_eq, e2, e4, e5, e10]
  refine Eq.trans ?_ final12.symm
  funext i
  obtain ⟨a, l, rfl⟩ : ∃ (a : Fin 8) (l : Fin 128), i = ix2 a l := ⟨i 0, i 1, eq_ix2 i⟩
  exact (value_eq hA a l).symm

end Cert.DnDecayAlgebra

end
-- ==== Proof.DnConvRows.lean ====
module

public import proofs.«01_k».proof.Proof.MixOutRows

/-! The short convolution of the scan's inputs on one token row, its gate, and the backward pass of the norm of each head. -/

@[expose] public section

noncomputable section

namespace Cert.DnConvRows

open Idealize.ShloMosaic Cert.Reals Cert.MixOutRows

/-- The rows of a column, `k` rows later; the first `k` are zero. -/
def delay (x : Fin 16640 → EReal) (k : ℕ) (r : Fin 16640) : EReal := if _ : k ≤ r.val then x ⟨r.val - k, by omega⟩ else 0

/-- The convolution of four taps: `x k` is the row `k` rows before. -/
def conv (x : Fin 4 → EReal) (w : Fin 4 → EReal) : EReal := x 0 * w 3 + x 1 * w 2 + x 2 * w 1 + x 3 * w 0

theorem conv_eq (x w : Fin 4 → EReal) : w 0 * x 3 + w 1 * x 2 + w 2 * x 1 + w 3 * x 0 = conv x w := by
  unfold conv
  rw [mul_comm (w 0), mul_comm (w 1), mul_comm (w 2), mul_comm (w 3)]
  abel

/-- The square norm of a head, with the norm's epsilon. -/
def nsq (s : Fin 256 → EReal) (a : Fin 4) : EReal := (∑ d, s (col a d) * s (col a d)) + Ideal.ofBits .f32 0x358637BD#32

/-- The derivative of the inverse norm. -/
def dnorm (s : Fin 256 → EReal) (a : Fin 4) : EReal := Ideal.ofBits .f32 0xBF000000#32 * Ideal.div (Ideal.rsqrt (nsq s a)) (nsq s a)

/-- What a head's norm gives back: each product times the derivative, then summed. -/
def pullK (s d : Fin 256 → EReal) (a : Fin 4) : EReal := ∑ e, s (col a e) * d (col a e) * dnorm s a

/-- The same, summed first. -/
def pullR (s d : Fin 256 → EReal) (a : Fin 4) : EReal := (∑ e, s (col a e) * d (col a e)) * dnorm s a

/-- The cotangent of a normed head's entries. -/
def unnorm (s d : Fin 256 → EReal) (p : Fin 4 → EReal) (k : Fin 256) : EReal :=
  d k * Ideal.rsqrt (nsq s (head k)) + s k * p (head k) + p (head k) * s k

/-- The cotangent of the gate's argument, in the two forms. -/
def gateK (c d : EReal) : EReal :=
  d * sg c + -(-(c * d * Ideal.div 1 ((1 + Ideal.exp (-c)) * (1 + Ideal.exp (-c)))) * Ideal.exp (-c))

def gateR (c d : EReal) : EReal := d * sg c + c * d * (sg c * (1 - sg c))

theorem gate_eq (c d : EReal) : gateK c d = gateR c d := by
  have e := dpre_eq (c * d) _ _ _ (sg_deriv c)
  rw [zero_sub, zero_sub] at e
  rw [gateK, gateR, e]

theorem sum_mul_real {ι : Type*} [Fintype ι] (f : ι → EReal) (hf : ∀ i, IsReal (f i)) {e : EReal} (he : IsReal e) :
    ∑ i, f i * e = (∑ i, f i) * e := by
  choose g hg using hf
  obtain ⟨e, rfl⟩ := he
  have s (k : ι → ℝ) : ∑ i, (k i : EReal) = ((∑ i, k i : ℝ) : EReal) :=
    (map_sum (⟨⟨Real.toEReal, EReal.coe_zero⟩, EReal.coe_add⟩ : ℝ →+ EReal) k _).symm
  simp only [hg, ← EReal.coe_mul, s]
  rw [Finset.sum_mul]

theorem half_neg : Ideal.ofBits .f32 0xBF000000#32 = ((-(1 / 2) : ℝ) : EReal) := by
  simp [Ideal.ofBits, Ideal.ieee, -EReal.coe_mul]
  norm_num

/-- A head of reals has a real derivative. -/
theorem dnorm_real (s : Fin 256 → EReal) (a : Fin 4) (hs : ∀ d, IsReal (s (col a d))) : IsReal (dnorm s a) := by
  choose r hr using hs
  obtain ⟨e, he, e_eq⟩ := eps_pos
  have h : nsq s a = (((∑ d, r d * r d) + e : ℝ) : EReal) := by
    rw [nsq, e_eq, EReal.coe_add]
    congr 1
    simp only [hr, ← EReal.coe_mul]
    exact (map_sum (⟨⟨Real.toEReal, EReal.coe_zero⟩, EReal.coe_add⟩ : ℝ →+ EReal) _ _).symm
  have p : 0 < (∑ d, r d * r d) + e := by
    have : 0 ≤ ∑ d, r d * r d := Finset.sum_nonneg fun i _ => mul_self_nonneg _
    linarith
  have n : (((∑ d, r d * r d) + e : ℝ) : EReal) ≠ 0 := by exact_mod_cast p.ne'
  exact ⟨_, by rw [dnorm, h, half_neg, Ideal.rsqrt_coe, if_neg (not_lt.mpr p.le), if_neg p.ne', Ideal.div, if_neg n, ← EReal.coe_inv, ← EReal.coe_mul, ← EReal.coe_mul]⟩

theorem square_cases (x : EReal) : 0 ≤ x * x ∧ (IsReal x ∨ x * x = ⊤) := by
  induction x using EReal.rec with
  | bot => exact ⟨by simp, .inr (by simp)⟩
  | coe r => exact ⟨by rw [← EReal.coe_mul]; exact_mod_cast mul_self_nonneg r, .inl ⟨r, rfl⟩⟩
  | top => exact ⟨by simp, .inr (by simp)⟩

/-- A head with an infinite entry has derivative zero. -/
theorem dnorm_zero (s : Fin 256 → EReal) (a : Fin 4) (d : Fin 64) (h : ¬IsReal (s (col a d))) : dnorm s a = 0 := by
  have t : ∑ d, s (col a d) * s (col a d) = ⊤ := by
    refine top_le_iff.mp ?_
    rw [← (square_cases (s (col a d))).2.resolve_left h]
    exact Finset.single_le_sum (f := fun d => s (col a d) * s (col a d)) (fun i _ => (square_cases _).1) (Finset.mem_univ d)
  obtain ⟨e, he, e_eq⟩ := eps_pos
  have n : nsq s a = ⊤ := by rw [nsq, t, e_eq, EReal.top_add_coe]
  have z : Ideal.rsqrt ⊤ = 0 := rfl
  rw [dnorm, n, z, Ideal.div, if_neg EReal.top_ne_zero, zero_mul, mul_zero]

theorem pullK_eq (s d : Fin 256 → EReal) (hd : ∀ k, IsReal (d k)) (a : Fin 4) : pullK s d a = pullR s d a := by
  by_cases h : ∀ e, IsReal (s (col a e))
  · exact sum_mul_real _ (fun e => (h e).mul (hd _)) (dnorm_real s a h)
  · obtain ⟨e, he⟩ := not_forall.mp h
    unfold pullK pullR
    simp only [dnorm_zero s a e he, mul_zero, Finset.sum_const_zero]

/-- Three blocks of 256 columns in a row. -/
def join (q k v : Fin 256 → EReal) (c : Fin 768) : EReal :=
  if h : c.val < 256 then q ⟨c.val, h⟩ else if h : c.val < 512 then k ⟨c.val - 256, by omega⟩ else v ⟨c.val - 512, by omega⟩

end Cert.DnConvRows

end
-- ==== Proof.DnConvPoint.lean ====
module

public import proofs.«01_k».proof.Proof.Gen.KernelDnConvIdeal.Value
public import proofs.«01_k».proof.Proof.Tiles
public import proofs.«01_k».proof.Proof.DnConvRows
public import Idealize.ShloMosaic.Lib.Pointwise
public import Idealize.ShloMosaic.Lib.StableHlo.ReadAt
public import Idealize.ShloMosaic.Lib.Pipeline.ValueKit.Acc
public import Idealize.ShloMosaic.Lib.Pipeline.ValueKit.Point
public import Idealize.ShloMosaic.Lib.Pipeline.ReadBack

/-! The gradient of the convolution's taps: what one tile of token rows adds to it. -/

@[expose] public section

set_option maxRecDepth 16384

noncomputable section

namespace Cert.DnConvPoint

open Idealize.ShloMosaic Idealize.ShloMosaic.TcCoe Idealize.SL.Sem Cert.KernelDnConvIdeal Cert.KernelDnConvIdeal.Gen Cert.KernelDnConvIdeal.Value

open Cert.DnConvRows Cert.MixOutRows

abbrev Rows : Type := S320x768.Idx → EReal
abbrev Third : Type := S320x256.Idx → EReal
abbrev Taps : Type := S8x768.Idx → EReal

/-! The mask of the columns of one head. -/

def heads : S256x256.Idx → EReal := k0_pay26 (F := Ideal) (iota .tc S256x256 32 [0] iota_S256x256_d0_w32) k0_pay23 k0_pay24 k0_pay25

theorem heads_apply (i k : Fin 256) : heads (ix2 i k) = if i.val / 64 = k.val / 64 then 1 else 0 := by
  have b : ∀ i : Fin 256, Scalar.select
      (IntOp.andi (IntOp.cmpi .ne (IntOp.subi (BitVec.setWidth 32 (IntOp.cmpi .sgt (BitVec.ofNat 32 i.val) 0#32))
          (BitVec.setWidth 32 (IntOp.cmpi .slt (BitVec.ofNat 32 i.val) 0#32)))
          (Scalar.subi (Scalar.extui (Scalar.cmpi .sgt 64#32 0#32)) (Scalar.extui (Scalar.cmpi .slt 64#32 0#32))))
        (IntOp.cmpi .ne (IntOp.remsi .vector (BitVec.ofNat 32 i.val) 64#32) 0#32))
      (IntOp.subi (IntOp.divsi .vector (BitVec.ofNat 32 i.val) 64#32) 1#32)
      (IntOp.divsi .vector (BitVec.ofNat 32 i.val) 64#32) = BitVec.ofNat 32 (head i).val := by decide +kernel
  have q : ∀ a b : Fin 4, (BitVec.setWidth 32 (IntOp.cmpi .eq (BitVec.ofNat 32 a.val) (BitVec.ofNat 32 b.val))).toInt
    = if a.val = b.val then 1 else 0 := by decide +kernel
  unfold heads
  unfold_payloads
  pointwise
  rw [b, b]
  show (((BitVec.setWidth 32 _).toInt : ℝ) : EReal) = _
  rw [q]
  split <;> norm_num

/-! The rows `n` before, of the tile and the tile before it. -/

/-- A row of the tile `n` rows before, out of the previous tile where it starts there; nothing is before the first tile. -/
def shift (n : ℕ) (hn : n < 320) (first : Prop) [Decidable first] (x y : Rows) (r : Fin 320) (c : Fin 768) : EReal :=
  if _ : n ≤ r.val then x (ix2 ⟨r.val - n, by omega⟩ c) else if first then 0 else y (ix2 ⟨320 + r.val - n, by omega⟩ c)

variable (i : grid0.Coords) (x y : Rows) (r : Fin 320) (c : Fin 768)

theorem first_word (i : grid0.Coords) : Scalar.cmpi .eq (BitVec.ofNat 32 (i 0).val) 0#32 = if (i 0).val = 0 then 1#1 else 0#1 :=
  (by decide +kernel : ∀ a : Fin 52, Scalar.cmpi .eq (BitVec.ofNat 32 a.val) 0#32 = if a.val = 0 then 1#1 else 0#1) ⟨(i 0).val, (i 0).isLt⟩

theorem shift1 : k0_pay7 (F := Ideal) i x y (ix2 r c) = shift 1 (by decide) ((i 0).val = 0) x y r c := by
  have b : ∀ r : Fin 320, IntOp.cmpi .sge (BitVec.ofNat 32 r.val) 1#32 = if 1 ≤ r.val then 1#1 else 0#1 := by decide +kernel
  unfold shift k0_pay7
  pointwise
  rw [b, first_word]
  by_cases h : 1 ≤ r.val
  · rw [if_pos h, dif_pos h]
    exact congrArg (fun a => x (ix2 a c)) (Fin.ext (by show (r.val + 320 - 1) % 320 = r.val - 1; omega))
  · rw [if_neg h, dif_neg h]
    split
    · rfl
    · exact congrArg (fun a => y (ix2 a c)) (Fin.ext (by show (r.val + 320 - 1) % 320 = 320 + r.val - 1; omega))

theorem shift2 : k0_pay8 (F := Ideal) i x y (ix2 r c) = shift 2 (by decide) ((i 0).val = 0) x y r c := by
  have b : ∀ r : Fin 320, IntOp.cmpi .sge (BitVec.ofNat 32 r.val) 2#32 = if 2 ≤ r.val then 1#1 else 0#1 := by decide +kernel
  unfold shift k0_pay8
  pointwise
  rw [b, first_word]
  by_cases h : 2 ≤ r.val
  · rw [if_pos h, dif_pos h]
    exact congrArg (fun a => x (ix2 a c)) (Fin.ext (by show (r.val + 320 - 2) % 320 = r.val - 2; omega))
  · rw [if_neg h, dif_neg h]
    split
    · rfl
    · exact congrArg (fun a => y (ix2 a c)) (Fin.ext (by show (r.val + 320 - 2) % 320 = 320 + r.val - 2; omega))

theorem shift3 : k0_pay9 (F := Ideal) i x y (ix2 r c) = shift 3 (by decide) ((i 0).val = 0) x y r c := by
  have b : ∀ r : Fin 320, IntOp.cmpi .sge (BitVec.ofNat 32 r.val) 3#32 = if 3 ≤ r.val then 1#1 else 0#1 := by decide +kernel
  unfold shift k0_pay9
  pointwise
  rw [b, first_word]
  by_cases h : 3 ≤ r.val
  · rw [if_pos h, dif_pos h]
    exact congrArg (fun a => x (ix2 a c)) (Fin.ext (by show (r.val + 320 - 3) % 320 = r.val - 3; omega))
  · rw [if_neg h, dif_neg h]
    split
    · rfl
    · exact congrArg (fun a => y (ix2 a c)) (Fin.ext (by show (r.val + 320 - 3) % 320 = 320 + r.val - 3; omega))

/-! The convolution and its gate. -/

variable (x1 x2 x3 : Rows) (w : Taps)

/-- The convolution of a row. -/
def cvK (r : Fin 320) (c : Fin 768) : EReal := conv ![x (ix2 r c), x1 (ix2 r c), x2 (ix2 r c), x3 (ix2 r c)] fun j => w (ix2 ⟨j.val, by omega⟩ c)

theorem cv_apply : k0_pay17 (F := Ideal) x x1 x2 x3 w (ix2 r c) = cvK x x1 x2 x3 w r c := by
  unfold cvK conv k0_pay17 k0_pay16 k0_pay15 k0_pay14 k0_pay13 k0_pay11
  pointwise

theorem e_apply : k0_pay18 (F := Ideal) x x1 x2 x3 w (ix2 r c) = Ideal.exp (-(cvK x x1 x2 x3 w r c)) := by
  unfold k0_pay18
  pointwise [cv_apply, zero_sub]

theorem g_apply : k0_pay20 (F := Ideal) x x1 x2 x3 w (ix2 r c) = sg (cvK x x1 x2 x3 w r c) := by
  unfold sg k0_pay20 k0_pay19
  pointwise [e_apply]

theorem gg_apply : k0_pay21 (F := Ideal) x x1 x2 x3 w (ix2 r c)
    = Ideal.div 1 ((1 + Ideal.exp (-(cvK x x1 x2 x3 w r c))) * (1 + Ideal.exp (-(cvK x x1 x2 x3 w r c)))) := by
  unfold k0_pay21 k0_pay19
  pointwise [e_apply]

theorem s_apply : k0_pay22 (F := Ideal) x x1 x2 x3 w (ix2 r c) = sil (cvK x x1 x2 x3 w r c) := by
  unfold sil k0_pay22
  pointwise [cv_apply, g_apply]

/-! The norms of the heads. -/

variable (s : Rows) (k : Fin 256)

def qs (s : Rows) (r : Fin 320) (k : Fin 256) : EReal := s (ix2 r ⟨k.val, by omega⟩)
def ks (s : Rows) (r : Fin 320) (k : Fin 256) : EReal := s (ix2 r ⟨256 + k.val, by omega⟩)

/-- The norm's payloads, at the mask. -/
abbrev io : IVec S256x256 32 := iota .tc S256x256 32 [0] iota_S256x256_d0_w32

theorem q_apply : k0_pay27 (F := Ideal) s (ix2 r k) = qs s r k := by
  unfold qs k0_pay27
  pointwise

theorem k_apply : k0_pay28 (F := Ideal) s (ix2 r k) = ks s r k := by
  unfold ks k0_pay28
  pointwise

theorem heads_eq : k0_pay26 (F := Ideal) io k0_pay23 k0_pay24 k0_pay25 = heads := rfl

theorem qn_apply : k0_pay29 (F := Ideal) s io k0_pay23 k0_pay24 k0_pay25 (ix2 r k) = nsq (qs s r) (head k) := by
  unfold nsq k0_pay29
  rw [heads_eq]
  pointwise [q_apply, heads_apply, sum_head]

theorem qr_apply : k0_pay30 (F := Ideal) s io k0_pay23 k0_pay24 k0_pay25 (ix2 r k) = Ideal.rsqrt (nsq (qs s r) (head k)) := by
  unfold k0_pay30
  pointwise [qn_apply]

theorem qd_apply : k0_pay31 (F := Ideal) s io k0_pay23 k0_pay24 k0_pay25 (ix2 r k) = dnorm (qs s r) (head k) := by
  unfold dnorm k0_pay31
  pointwise [qn_apply, qr_apply]

theorem kn_apply : k0_pay33 (F := Ideal) (k0_pay32 (F := Ideal) s io k0_pay23 k0_pay24 k0_pay25) (ix2 r k) = nsq (ks s r) (head k) := by
  unfold nsq k0_pay33 k0_pay32
  rw [heads_eq]
  pointwise [k_apply, heads_apply, sum_head]

theorem kr_apply : k0_pay34 (F := Ideal) (k0_pay32 (F := Ideal) s io k0_pay23 k0_pay24 k0_pay25) (ix2 r k) = Ideal.rsqrt (nsq (ks s r) (head k)) := by
  unfold k0_pay34
  pointwise [kn_apply]

theorem kd_apply : k0_pay35 (F := Ideal) (k0_pay32 (F := Ideal) s io k0_pay23 k0_pay24 k0_pay25) (ix2 r k) = dnorm (ks s r) (head k) := by
  unfold dnorm k0_pay35
  pointwise [kn_apply, kr_apply]

/-! The cotangents. -/

variable (dq dk dv : Third)

/-- The cotangent of the gated convolution. -/
def cotK (s : Rows) (dq dk dv : Third) (r : Fin 320) (c : Fin 768) : EReal :=
  join (unnorm (qs s r) (fun k => dq (ix2 r k)) (pullK (qs s r) fun k => dq (ix2 r k)))
    (unnorm (ks s r) (fun k => dk (ix2 r k)) (pullK (ks s r) fun k => dk (ix2 r k))) (fun k => dv (ix2 r k)) c

/-- The cotangent of the convolution, as computed. -/
def dconv (x x1 x2 x3 : Rows) (w : Taps) (dq dk dv : Third) : Rows :=
  let s := k0_pay22 (F := Ideal) x x1 x2 x3 w
  k0_pay57 (F := Ideal) (k0_pay17 (F := Ideal) x x1 x2 x3 w) (k0_pay18 (F := Ideal) x x1 x2 x3 w) (k0_pay20 (F := Ideal) x x1 x2 x3 w) (k0_pay21 (F := Ideal) x x1 x2 x3 w) heads
    (k0_pay27 (F := Ideal) s) (k0_pay28 (F := Ideal) s) (k0_pay30 (F := Ideal) s io k0_pay23 k0_pay24 k0_pay25) (k0_pay31 (F := Ideal) s io k0_pay23 k0_pay24 k0_pay25)
    (k0_pay34 (F := Ideal) (k0_pay32 (F := Ideal) s io k0_pay23 k0_pay24 k0_pay25)) (k0_pay35 (F := Ideal) (k0_pay32 (F := Ideal) s io k0_pay23 k0_pay24 k0_pay25)) dq dk dv

theorem sum_head_left (f : Fin 256 → EReal) (k : Fin 256) :
    ∑ i : Fin 256, f i * (if k.val / 64 = i.val / 64 then 1 else 0) = ∑ d, f (col (head k) d) := by
  rw [← sum_head]
  exact Finset.sum_congr rfl fun i _ => by simp only [eq_comm]

/-- A product with the mask's rows is what the norm of the column's head gives back. -/
theorem pull_sum (s d : Fin 256 → EReal) (n : ℕ) (h : n < 256) :
    ∑ i : Fin 256, s i * d i * dnorm s (head i) * (if n / 64 = i.val / 64 then 1 else 0) = pullK s d (head ⟨n, h⟩) := by
  refine (sum_head_left (fun i => s i * d i * dnorm s (head i)) ⟨n, h⟩).trans ?_
  unfold pullK
  simp only [head_col]

theorem dconv_apply : dconv x x1 x2 x3 w dq dk dv (ix2 r c)
    = gateK (cvK x x1 x2 x3 w r c) (cotK (k0_pay22 (F := Ideal) x x1 x2 x3 w) dq dk dv r c) := by
  unfold dconv k0_pay57 gateK cotK join unnorm
  pointwise [cv_apply, e_apply, g_apply, gg_apply, q_apply, k_apply, qr_apply, qd_apply, kr_apply, kd_apply, heads_apply, zero_sub, mul_one]
  by_cases h : c.val < 256
  · have h' : c.val < 512 := by omega
    simp only [dif_pos h, dif_pos h', zero_add, add_zero]
    rw [pull_sum _ (fun k => dq (ix2 r k)) c.val h]
  · by_cases h' : c.val < 512
    · simp only [dif_neg h, dif_pos h', zero_add, add_zero]
      rw [pull_sum _ (fun k => dk (ix2 r k)) (c.val - 256) (by omega)]
    · simp only [dif_neg h, dif_neg h', zero_add, add_zero]

/-! What a tile adds. -/

variable (d : Rows)

/-- What a tile adds to the taps. -/
def part (x x1 x2 x3 d : Rows) : Taps := k0_pay61 (F := Ideal) x x1 x2 d (mulf (F := Ideal) (φ := .f32) x3 d)

theorem part_apply (i : Fin 8) : part x x1 x2 x3 d (ix2 i c)
    = if i.val = 0 then ∑ r, x3 (ix2 r c) * d (ix2 r c) else if i.val = 1 then ∑ r, x2 (ix2 r c) * d (ix2 r c) else if i.val = 2 then ∑ r, x1 (ix2 r c) * d (ix2 r c)
      else if i.val = 3 then ∑ r, x (ix2 r c) * d (ix2 r c) else 0 := by
  unfold part k0_pay61
  fin_cases i <;> pointwise <;> trace_state

theorem pay3_apply (a b : Taps) (i : Fin 8) : k0_pay3 (F := Ideal) a b (ix2 i c) = b (ix2 i c) + a (ix2 i c) := by
  unfold k0_pay3
  pointwise

theorem pay5_apply (i : Fin 8) : k0_pay5 (F := Ideal) (ix2 i c) = (0 : EReal) := by
  unfold k0_pay5
  pointwise

variable (m : (ℓ : Loc nD τ sig) → Buf (Elt Ideal) ℓ) (c : Dev nD) (t : Fin cfg0.N)

abbrev xB : Rows := iblk m c 0 t
abbrev yB : Rows := iblk m c 1 t
abbrev wB : Taps := iblk m c 3 t
abbrev qB : Third := iblk m c 5 t
abbrev kB : Third := iblk m c 6 t
abbrev vB : Third := iblk m c 7 t
abbrev x1B : Rows := k0_pay7 (F := Ideal) (grid0.coords t) (xB m c t) (yB m c t)
abbrev x2B : Rows := k0_pay8 (F := Ideal) (grid0.coords t) (xB m c t) (yB m c t)
abbrev x3B : Rows := k0_pay9 (F := Ideal) (grid0.coords t) (xB m c t) (yB m c t)

/-- What a point adds. -/
abbrev addB : Taps := part (xB m c t) (x1B m c t) (x2B m c t) (x3B m c t)
  (dconv (xB m c t) (x1B m c t) (x2B m c t) (x3B m c t) (wB m c t) (qB m c t) (kB m c t) (vB m c t))

theorem outs_first (h0 : t.val % 52 = 0) : (outsAt0 m c t.val t.isLt).2.2.1 = k0_pay3 (F := Ideal) (addB m c t) (k0_pay5 (F := Ideal)) := by
  rw [outsAt0_A m c t h0]
  frame_out
  rfl

theorem outs_step (h0 : ¬t.val % 52 = 0) : (outsAt0 m c t.val t.isLt).2.2.1
    = k0_pay3 (F := Ideal) (addB m c t) (outsAt0 m c (t.val - 1) (by omega)).2.2.1 := by
  rw [outsAt0_B m c t h0]
  frame_out
  rfl

end Cert.DnConvPoint

end
-- ==== Proof.DnConvValue.lean ====
module

public import proofs.«01_k».proof.Proof.DnConvPoint
public import Idealize.ShloMosaic.Lib.Pipeline.ValueKit.Acc

/-! The gradient of the convolution's taps: the launch's result, as a sum of what the points add, and the blocks they read. -/

@[expose] public section

set_option maxRecDepth 16384

noncomputable section

namespace Cert.DnConvValue

open Idealize.ShloMosaic Idealize.ShloMosaic.TcCoe Idealize.SL.Sem Cert.KernelDnConvIdeal Cert.KernelDnConvIdeal.Gen Cert.KernelDnConvIdeal.Value
open Cert.DnConvPoint Cert.DnConvRows

variable (m : (ℓ : Loc nD τ sig) → Buf (Elt Ideal) ℓ) (c : Dev nD)

abbrev a0 : (⟨S16640x768, .f32⟩ : BufTy).Contents (Elt Ideal) := m ((c : Thread nD τ).loc main_arg0)
abbrev a3 : (⟨S4x768, .f32⟩ : BufTy).Contents (Elt Ideal) := m ((c : Thread nD τ).loc main_arg3)
abbrev a6 : (⟨S16640x256, .f32⟩ : BufTy).Contents (Elt Ideal) := m ((c : Thread nD τ).loc main_arg6)
abbrev a7 : (⟨S16640x256, .f32⟩ : BufTy).Contents (Elt Ideal) := m ((c : Thread nD τ).loc main_arg7)
abbrev a8 : (⟨S16640x256, .f32⟩ : BufTy).Contents (Elt Ideal) := m ((c : Thread nD τ).loc main_arg8)

/-- The taps, padded to eight rows. -/
abbrev cw : S8x768.Idx → EReal := V m c main_v6

variable {m c}

theorem cw_row (j : Fin 4) (l : Fin 768) : cw m c (ix2 ⟨j.val, by omega⟩ l) = a3 m c (ix2 j l) := by
  unfold cw V
  after_reads_simp
  simp only [StableHlo.TRef.toBuf, StableHlo.TRef.ofBuf, cast_eq]
  clean_types
  pointwise

/-! Which block each window is at, and what it holds. -/

theorem idx0 : ∀ t : Fin cfg0.N, win0_0.index t = ![t.val, 0] := (by decide +kernel : ∀ t : Fin grid0.N, _)
theorem idx1 : ∀ t : Fin cfg0.N, win0_1.index t = ![t.val - 1, 0] := (by decide +kernel : ∀ t : Fin grid0.N, _)
theorem idx3 : ∀ t : Fin cfg0.N, win0_3.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem lt52 (t : Fin cfg0.N) : t.val < 52 := lt_of_lt_of_eq t.isLt N_0

/-- The token row that a point has at its place `k`, and the one a tile before. -/
abbrev row (t : Fin cfg0.N) (k : Fin 320) : Fin 16640 := ⟨320 * t.val + k.val, by have := lt52 t; omega⟩
abbrev prev (t : Fin cfg0.N) (k : Fin 320) : Fin 16640 := ⟨320 * (t.val - 1) + k.val, by have := lt52 t; omega⟩

variable (t : Fin cfg0.N) (k : Fin 320)

theorem xB_apply (l : Fin 768) : xB m c t (ix2 k l) = a0 m c (ix2 (row t k) l) := by
  have e : V m c main_arg0 = a0 m c := V_main_arg0 m c
  rw [← e]
  blk_ext [iblk, idx0]

theorem yB_apply (l : Fin 768) : yB m c t (ix2 k l) = a0 m c (ix2 (prev t k) l) := by
  have e : V m c main_arg0 = a0 m c := V_main_arg0 m c
  rw [← e]
  blk_ext [iblk, idx1]

theorem wB_apply (j : Fin 4) (l : Fin 768) : wB m c t (ix2 ⟨j.val, by omega⟩ l) = a3 m c (ix2 j l) := by
  rw [← cw_row j l]
  unfold cw
  blk_ext [iblk, idx3]

theorem qB_apply (l : Fin 256) : qB m c t (ix2 k l) = a6 m c (ix2 (row t k) l) := by
  have e : V m c main_arg6 = a6 m c := V_main_arg6 m c
  rw [← e]
  blk_ext [iblk, idx5]

theorem kB_apply (l : Fin 256) : kB m c t (ix2 k l) = a7 m c (ix2 (row t k) l) := by
  have e : V m c main_arg7 = a7 m c := V_main_arg7 m c
  rw [← e]
  blk_ext [iblk, idx6]

theorem vB_apply (l : Fin 256) : vB m c t (ix2 k l) = a8 m c (ix2 (row t k) l) := by
  have e : V m c main_arg8 = a8 m c := V_main_arg8 m c
  rw [← e]
  blk_ext [iblk, idx7]

/-! The rows before. -/

theorem coords_eq : ∀ t : Fin cfg0.N, (grid0.coords t 0).val = t.val := (by decide +kernel : ∀ t : Fin grid0.N, _)

theorem shift_row (n : ℕ) (hn : n < 320) (l : Fin 768) :
    shift n hn ((grid0.coords t 0).val = 0) (xB m c t) (yB m c t) k l = delay (fun r => a0 m c (ix2 r l)) n (row t k) := by
  unfold shift delay
  by_cases h : n ≤ k.val
  · have h' : n ≤ 320 * t.val + k.val := by omega
    rw [dif_pos h, dif_pos h', xB_apply]
    exact congrArg (fun r => a0 m c (ix2 r l)) (Fin.ext (by show 320 * t.val + (k.val - n) = 320 * t.val + k.val - n; omega))
  · rw [dif_neg h]
    by_cases h0 : t.val = 0
    · have h' : ¬n ≤ 320 * t.val + k.val := by omega
      rw [if_pos ((coords_eq t).trans h0), dif_neg h']
    · have h' : n ≤ 320 * t.val + k.val := by omega
      rw [if_neg (fun e => h0 ((coords_eq t).symm.trans e)), dif_pos h', yB_apply]
      exact congrArg (fun r => a0 m c (ix2 r l)) (Fin.ext (by show 320 * (t.val - 1) + (320 + k.val - n) = 320 * t.val + k.val - n; omega))

theorem x1B_apply (l : Fin 768) : x1B m c t (ix2 k l) = delay (fun r => a0 m c (ix2 r l)) 1 (row t k) := (shift1 ..).trans (shift_row ..)

theorem x2B_apply (l : Fin 768) : x2B m c t (ix2 k l) = delay (fun r => a0 m c (ix2 r l)) 2 (row t k) := (shift2 ..).trans (shift_row ..)

theorem x3B_apply (l : Fin 768) : x3B m c t (ix2 k l) = delay (fun r => a0 m c (ix2 r l)) 3 (row t k) := (shift3 ..).trans (shift_row ..)

/-! The sum over the points. -/

/-- The last point. -/
abbrev last : Fin cfg0.N := ⟨51, by decide⟩

theorem out_last (i : Fin 8) (l : Fin 768) (t : Fin cfg0.N) (ht : t.val + 1 = cfg0.N) : (outsAt0 m c t.val t.isLt).2.2.1 (ix2 i l) = ∑ t, addB m c t (ix2 i l) := by
  have q := Pipeline.eq_sum_fin_of_reset_step_last (M := EReal) (fun n h => (outsAt0 m c n h).2.2.1 (ix2 i l)) 52 0 (fun t => addB m c t (ix2 i l))
    (fun t h => by rw [outs_first m c t h, pay3_apply, pay5_apply])
    (fun t h => by rw [outs_step m c t h, pay3_apply]) (by decide) t ht
  rw [q, zero_add]

theorem final11 : (dats m 0 c).arrAt 11 cfg0.N = fun i : S8x768.Idx => ∑ t, addB m c t (ix2 (i 0) (i 1)) := by
  refine (dats m 0 c).arrAt_eq_of_after_last 11 last (by decide +kernel) _ fun j => ?_
  blk_simp
  rw [after0_11]
  obtain ⟨i, l, rfl⟩ : ∃ (i : Fin 8) (l : Fin 768), j = ix2 i l := ⟨j 0, j 1, eq_ix2 j⟩
  exact out_last i l last (by decide)

end Cert.DnConvValue

end
-- ==== Proof.DnConvRef.lean ====
module

public import proofs.«01_k».proof.Proof.Gen.ReferenceDnConvIdeal.Read
public import proofs.«01_k».proof.Proof.DnConvRows
public import Idealize.ShloMosaic.Lib.Pointwise

/-! The reference's gradient of the convolution's taps, read at an entry. -/

@[expose] public section

set_option maxRecDepth 16384

noncomputable section

namespace Cert.DnConvRef

open Idealize.ShloMosaic Idealize.ShloMosaic.TcCoe Idealize.SL.Sem Cert.ReferenceDnConvIdeal Cert.ReferenceDnConvIdeal.Gen Cert.ReferenceDnConvIdeal.Read
open Cert.DnConvRows Cert.MixOutRows

variable (x0 : S16640x768.Idx → EReal) (x3 : S4x768.Idx → EReal) (x6 x7 x8 : S16640x256.Idx → EReal) (r : Fin 16640) (c : Fin 768)

/-- The row and the three before it, in one column. -/
def rows (r : Fin 16640) (c : Fin 768) (k : Fin 4) : EReal := delay (fun r => x0 (ix2 r c)) k.val r

/-- The convolution. -/
def cv (r : Fin 16640) (c : Fin 768) : EReal := conv (rows x0 r c) fun j => x3 (ix2 j c)

theorem zero_word : ((((0#32 : BitVec 32).toInt : ℤ) : ℝ) : EReal) = 0 := by simp

theorem x3_ref : val_main_v3 (F := Ideal) x0 (ix2 r c) = rows x0 r c 3 := by
  unfold rows delay val_main_v3
  pointwise [val_main_v0, val_main_call0_v0, val_main_c]
  split
  · rw [dif_pos (by show 3 ≤ r.val; omega)]
  · rw [dif_neg (by show ¬3 ≤ r.val; omega)]
    exact zero_word

theorem x2_ref : val_main_v11 (F := Ideal) x0 (ix2 r c) = rows x0 r c 2 := by
  unfold rows delay val_main_v11
  pointwise [val_main_v0, val_main_call0_v0, val_main_c]
  by_cases h : 2 ≤ r.val
  · refine Eq.trans (dif_pos (by omega)) (Eq.trans ?_ (dif_pos h).symm)
    exact congrArg (fun a => x0 (ix2 a c)) (Fin.ext (by show 1 + r.val - 3 = r.val - 2; omega))
  · refine Eq.trans (dif_neg (by omega)) (Eq.trans ?_ (dif_neg h).symm)
    exact zero_word

theorem x1_ref : val_main_v18 (F := Ideal) x0 (ix2 r c) = rows x0 r c 1 := by
  unfold rows delay val_main_v18
  pointwise [val_main_v0, val_main_call0_v0, val_main_c]
  by_cases h : 1 ≤ r.val
  · refine Eq.trans (dif_pos (by omega)) (Eq.trans ?_ (dif_pos h).symm)
    exact congrArg (fun a => x0 (ix2 a c)) (Fin.ext (by show 2 + r.val - 3 = r.val - 1; omega))
  · refine Eq.trans (dif_neg (by omega)) (Eq.trans ?_ (dif_neg h).symm)
    exact zero_word

theorem x0_ref : val_main_v25 (F := Ideal) x0 (ix2 r c) = rows x0 r c 0 := by
  unfold rows delay val_main_v25
  pointwise [val_main_v0, val_main_call0_v0, val_main_c]

theorem cv_ref : val_main_v29 (F := Ideal) x0 x3 (ix2 r c) = cv x0 x3 r c := by
  unfold val_main_v29 cv
  pointwise [val_main_v28, val_main_v27, val_main_v26, val_main_v24, val_main_v23, val_main_v22, val_main_v21, val_main_v20, val_main_v19, val_main_v17, val_main_v16, val_main_v15, val_main_v14,
    val_main_v13, val_main_v12, val_main_v10, val_main_v9, val_main_v8, val_main_v7, val_main_cst, val_main_v6, val_main_v5, val_main_v4, val_main_v2, val_main_v1, x3_ref, x2_ref, x1_ref, x0_ref, zero_add]
  exact conv_eq (rows x0 r c) fun j => x3 (ix2 j c)

theorem sg_ref : val_main_v30_2 (F := Ideal) x0 x3 (ix2 r c) = sg (cv x0 x3 r c) := by
  unfold val_main_v30_2 sg
  pointwise [val_main_call1_v4, val_main_call1_cst_0, val_main_call1_v3, val_main_call1_v2, val_main_call1_cst, val_main_call1_v1, val_main_call1_v0, cv_ref]

/-- The gated convolution in the columns of the queries and of the keys. -/
def sq (r : Fin 16640) (k : Fin 256) : EReal := sil (cv x0 x3 r ⟨k.val, by omega⟩)
def sk (r : Fin 16640) (k : Fin 256) : EReal := sil (cv x0 x3 r ⟨256 + k.val, by omega⟩)

variable (a : Fin 4) (d : Fin 64)

theorem q_ref : val_main_v34 (F := Ideal) x0 x3 (ix3 r a d) = sq x0 x3 r (col a d) := by
  unfold val_main_v34 sq sil
  pointwise [val_main_v31, val_main_v30_0, cv_ref, sg_ref]

theorem k_ref : val_main_v35 (F := Ideal) x0 x3 (ix3 r a d) = sk x0 x3 r (col a d) := by
  unfold val_main_v35 sk sil
  pointwise [val_main_v32, val_main_v30_0, cv_ref, sg_ref]

theorem qn_ref : val_main_v41 (F := Ideal) x0 x3 (ix3 r a 0) = nsq (sq x0 x3 r) a := by
  unfold val_main_v41 nsq
  pointwise [val_main_v39, val_main_v38, val_main_v40, val_main_cst_1, val_main_cst_0, val_main_v37, q_ref, zero_add]

theorem kn_ref : val_main_v52 (F := Ideal) x0 x3 (ix3 r a 0) = nsq (sk x0 x3 r) a := by
  unfold val_main_v52 nsq
  pointwise [val_main_v50, val_main_v49, val_main_v51, val_main_cst_4, val_main_cst_3, val_main_v48, k_ref, zero_add]

theorem qs_ref : val_main_v45 (F := Ideal) x0 x3 (ix3 r a 0) = dnorm (sq x0 x3 r) a := by
  unfold val_main_v45 dnorm
  pointwise [val_main_v44, val_main_cst_2, val_main_v43, val_main_v42, qn_ref]

theorem ks_ref : val_main_v56 (F := Ideal) x0 x3 (ix3 r a 0) = dnorm (sk x0 x3 r) a := by
  unfold val_main_v56 dnorm
  pointwise [val_main_v55, val_main_cst_5, val_main_v54, val_main_v53, kn_ref]

theorem qp_ref : val_main_v80 (F := Ideal) x0 x3 x6 (ix2 r a) = pullR (sq x0 x3 r) (fun k => x6 (ix2 r k)) a := by
  unfold val_main_v80 pullR
  pointwise [val_main_cst_9, val_main_v79, val_main_v76, val_main_v75, val_main_cst_8, val_main_v74, val_main_v59, q_ref, qs_ref, Fin.sum_univ_one, zero_add]

theorem kp_ref : val_main_v68 (F := Ideal) x0 x3 x7 (ix2 r a) = pullR (sk x0 x3 r) (fun k => x7 (ix2 r k)) a := by
  unfold val_main_v68 pullR
  pointwise [val_main_cst_7, val_main_v67, val_main_v64, val_main_v63, val_main_cst_6, val_main_v62, val_main_v60, k_ref, ks_ref, Fin.sum_univ_one, zero_add]

theorem col_hl (k : Fin 256) (h : k.val / 64 * 64 + k.val % 64 < 256) : (⟨k.val / 64 * 64 + k.val % 64, h⟩ : Fin 256) = k := Fin.ext (by show k.val / 64 * 64 + k.val % 64 = k.val; omega)

theorem dq_ref (k : Fin 256) : val_main_v88 (F := Ideal) x0 x3 x6 (ix2 r k) = unnorm (sq x0 x3 r) (fun k => x6 (ix2 r k)) (pullR (sq x0 x3 r) fun k => x6 (ix2 r k)) k := by
  unfold val_main_v88 unnorm
  pointwise [val_main_v85, val_main_v84, val_main_v83, val_main_v82, val_main_v81, val_main_v78, val_main_v77, val_main_v59, val_main_v42, qn_ref, qp_ref, q_ref]
  have e : sq x0 x3 r (col ⟨k.val / 64, by omega⟩ ⟨k.val % 64, by omega⟩) = sq x0 x3 r k := congrArg _ (col_head_lane k)
  rw [e]

theorem dk_ref (k : Fin 256) : val_main_v87 (F := Ideal) x0 x3 x7 (ix2 r k) = unnorm (sk x0 x3 r) (fun k => x7 (ix2 r k)) (pullR (sk x0 x3 r) fun k => x7 (ix2 r k)) k := by
  unfold val_main_v87 unnorm
  pointwise [val_main_v73, val_main_v72, val_main_v71, val_main_v70, val_main_v69, val_main_v66, val_main_v65, val_main_v60, val_main_v53, kn_ref, kp_ref, k_ref]
  have e : sk x0 x3 r (col ⟨k.val / 64, by omega⟩ ⟨k.val % 64, by omega⟩) = sk x0 x3 r k := congrArg _ (col_head_lane k)
  rw [e]

theorem dv_ref (k : Fin 256) : val_main_v86 (F := Ideal) x8 (ix2 r k) = x8 (ix2 r k) := by
  unfold val_main_v86
  pointwise [val_main_v61, col_hl]

/-- The cotangent of the gated convolution. -/
def cot (r : Fin 16640) (c : Fin 768) : EReal :=
  join (unnorm (sq x0 x3 r) (fun k => x6 (ix2 r k)) (pullR (sq x0 x3 r) fun k => x6 (ix2 r k)))
    (unnorm (sk x0 x3 r) (fun k => x7 (ix2 r k)) (pullR (sk x0 x3 r) fun k => x7 (ix2 r k))) (fun k => x8 (ix2 r k)) c

theorem cot_ref : val_main_v89 (F := Ideal) x0 x3 x6 x7 x8 (ix2 r c) = cot x0 x3 x6 x7 x8 r c := by
  unfold val_main_v89 cot join
  pointwise [dq_ref, dk_ref, dv_ref]
  by_cases h : c.val < 256
  · rw [dif_pos h, dif_pos h]
  · by_cases h' : c.val < 512
    · rw [dif_neg h, dif_neg h, dif_pos (by omega), dif_pos h']
    · rw [dif_neg h, dif_neg h, dif_neg (by omega), dif_neg h']
      exact congrArg (fun a => x8 (ix2 r a)) (Fin.ext (by show c.val - 256 - 256 = c.val - 512; omega))

theorem dc_ref : val_main_v90 (F := Ideal) x0 x3 x6 x7 x8 (ix2 r c) = gateR (cv x0 x3 r c) (cot x0 x3 x6 x7 x8 r c) := by
  unfold val_main_v90 gateR
  pointwise [val_main_call2_v1, val_main_call2_v2, val_main_call2_v0, val_main_v30_1, val_main_call1_v7, val_main_call1_v6, val_main_call1_cst_1, cot_ref, cv_ref, sg_ref]

/-- The gradient of a tap. -/
def tap (k : Fin 4) (c : Fin 768) : EReal := ∑ r, gateR (cv x0 x3 r c) (cot x0 x3 x6 x7 x8 r c) * rows x0 r c k

theorem tap0 : val_main_v94 (F := Ideal) x0 x3 x6 x7 x8 (ix1 c) = tap x0 x3 x6 x7 x8 0 c := by
  unfold val_main_v94 tap
  pointwise [val_main_cst_11, val_main_v93, val_main_v92, val_main_cst_10, val_main_v91, dc_ref, x0_ref, Fin.sum_univ_one, zero_add]

theorem tap1 : val_main_v100 (F := Ideal) x0 x3 x6 x7 x8 (ix1 c) = tap x0 x3 x6 x7 x8 1 c := by
  unfold val_main_v100 tap
  pointwise [val_main_cst_14, val_main_v99, val_main_v98, val_main_cst_13, val_main_v97, dc_ref, x1_ref, Fin.sum_univ_one, zero_add]

theorem tap2 : val_main_v107 (F := Ideal) x0 x3 x6 x7 x8 (ix1 c) = tap x0 x3 x6 x7 x8 2 c := by
  unfold val_main_v107 tap
  pointwise [val_main_cst_17, val_main_v106, val_main_v105, val_main_cst_16, val_main_v104, dc_ref, x2_ref, Fin.sum_univ_one, zero_add]

theorem tap3 : val_main_v114 (F := Ideal) x0 x3 x6 x7 x8 (ix1 c) = tap x0 x3 x6 x7 x8 3 c := by
  unfold val_main_v114 tap
  pointwise [val_main_cst_20, val_main_v113, val_main_v112, val_main_cst_19, val_main_v111, dc_ref, x3_ref, Fin.sum_univ_one, zero_add]

/-- Entry `i` of the result, by rows. -/
def out (i : Fin 8) (c : Fin 768) : EReal :=
  if i.val = 0 then tap x0 x3 x6 x7 x8 3 c else if i.val = 1 then tap x0 x3 x6 x7 x8 2 c else if i.val = 2 then tap x0 x3 x6 x7 x8 1 c
    else if i.val = 3 then tap x0 x3 x6 x7 x8 0 c else 0

theorem out_ref (i : Fin 8) : val_main_v118 (F := Ideal) x0 x3 x6 x7 x8 (ix2 i c) = out x0 x3 x6 x7 x8 i c := by
  unfold val_main_v118 out
  fin_cases i <;> pointwise [val_main_call3_v0, val_main_c_22, val_main_v117, val_main_v116, val_main_v115, val_main_v110, val_main_v109, val_main_v108, val_main_v103, val_main_v102, val_main_v101, val_main_v96, val_main_v95,
    val_main_cst_12, val_main_cst_15, val_main_cst_18, val_main_cst_21, tap0, tap1, tap2, tap3] <;> exact zero_word

end Cert.DnConvRef

end
-- ==== Proof.DnConvFinite.lean ====
module

public import proofs.«01_k».proof.Defs
public import proofs.«01_k».proof.Proof.DxFinite

/-! The precondition of the convolution's gradient, read: the cotangents of the queries and of the keys are real. -/

@[expose] public section

set_option maxRecDepth 16384

noncomputable section

namespace Cert.DnConvFinite

open Idealize.ShloMosaic Cert.Pre_real_heads Cert.Reals Cert.DxFinite

/-- The side conditions of the precondition's program. -/
theorem facts : Cert.Pre_real_heads.Facts where
  bcast_S_S16640x256 := by decide
  reducesTo_S16640x256_S_d0_1 := by decide
  h_S_ := by decide

attribute [local instance] facts

theorem read (x0 : FVec Ideal S16640x768 .f32) (x1 x2 : FVec Ideal S16640x4 .f32) (x3 : FVec Ideal S4x768 .f32) (x4 x5 : FVec Ideal S4 .f32)
    (x6 x7 x8 : FVec Ideal S16640x256 .f32) (x9 x10 : FVec Ideal S16640x4 .f32) (h : fn (F := Ideal) x0 x1 x2 x3 x4 x5 x6 x7 x8 x9 x10 = fun _ => 1#1) :
    (∀ i, IsReal (x6 i)) ∧ ∀ i, IsReal (x7 i) := by
  have e := congrFun h fun k => k.elim0
  unfold fn at e
  obtain ⟨h6, h7⟩ := and_one e
  have : Subsingleton S_.Idx := ⟨fun i j => funext fun k => k.elim0⟩
  exact ⟨fun i => isReal_of_abs_lt _ (Host.reduce_andi_all _ _ _ _ _ h6 i), fun i => isReal_of_abs_lt _ (Host.reduce_andi_all _ _ _ _ _ h7 i)⟩

end Cert.DnConvFinite

end
-- ==== Proof.DnConvAlgebra.lean ====
module

public import proofs.«01_k».proof.Proof.DnConvValue
public import proofs.«01_k».proof.Proof.DnConvRef
public import proofs.«01_k».proof.Proof.DnConvFinite
public import proofs.«01_k».proof.Proof.Gen.ReferenceDnConvIdeal.Run

/-! The gradient of the convolution's taps: launch and reference agree. -/

@[expose] public section

set_option maxRecDepth 16384

noncomputable section

namespace Cert.DnConvAlgebra

open Idealize.ShloMosaic Idealize.ShloMosaic.TcCoe Idealize.SL.Sem Cert.KernelDnConvIdeal Cert.KernelDnConvIdeal.Gen Cert.KernelDnConvIdeal.Value
open Cert.DnConvPoint Cert.DnConvRows Cert.DnConvValue Cert.MixOutRows Cert.Reals
open Cert.ReferenceDnConvIdeal.Read (val_main_v118 val_main_v118_eq)

variable (m : (ℓ : Loc nD τ sig) → Buf (Elt Ideal) ℓ) (c : Dev nD)

/-- The precondition, at one device. -/
structure Finite : Prop where
  dq : ∀ i, IsReal (a6 m c i)
  dk : ∀ i, IsReal (a7 m c i)

variable {m c}

/-- The sum over the tiles of the sums over a tile's rows. -/
theorem sum_rows (f : Fin 16640 → EReal) : ∑ t : Fin cfg0.N, ∑ k, f (row t k) = ∑ r, f r := by
  have e := Cert.Tiles.sum_tiles (b := 320) (n := 52) (N := 16640) (by norm_num) (fun r => if h : r < 16640 then f ⟨r, h⟩ else 0)
  rw [← Fin.sum_univ_eq_sum_range (fun s => ∑ k : Fin 320, if h : 320 * s + k.val < 16640 then f ⟨320 * s + k.val, h⟩ else 0) 52] at e
  refine Eq.trans ?_ (e.trans (Finset.sum_congr rfl fun r _ => dif_pos r.isLt))
  show ∑ t : Fin 52, _ = _
  refine Finset.sum_congr rfl fun t _ => Finset.sum_congr rfl fun k _ => ?_
  rw [dif_pos (by omega)]

variable (t : Fin cfg0.N) (k : Fin 320) (l : Fin 768)

theorem row0 : xB m c t (ix2 k l) = Cert.DnConvRef.rows (a0 m c) (row t k) l 0 := by
  rw [xB_apply]
  unfold Cert.DnConvRef.rows delay
  rw [dif_pos (show ((0 : Fin 4) : ℕ) ≤ (row t k).val from Nat.zero_le _)]
  rfl

theorem row1 : x1B m c t (ix2 k l) = Cert.DnConvRef.rows (a0 m c) (row t k) l 1 := x1B_apply t k l

theorem row2 : x2B m c t (ix2 k l) = Cert.DnConvRef.rows (a0 m c) (row t k) l 2 := x2B_apply t k l

theorem row3 : x3B m c t (ix2 k l) = Cert.DnConvRef.rows (a0 m c) (row t k) l 3 := x3B_apply t k l

theorem cv_eq : cvK (xB m c t) (x1B m c t) (x2B m c t) (x3B m c t) (wB m c t) k l = Cert.DnConvRef.cv (a0 m c) (a3 m c) (row t k) l := by
  unfold cvK Cert.DnConvRef.cv
  rw [row0, row1, row2, row3]
  have h : (![Cert.DnConvRef.rows (a0 m c) (row t k) l 0, Cert.DnConvRef.rows (a0 m c) (row t k) l 1, Cert.DnConvRef.rows (a0 m c) (row t k) l 2,
      Cert.DnConvRef.rows (a0 m c) (row t k) l 3] : Fin 4 → EReal) = Cert.DnConvRef.rows (a0 m c) (row t k) l := by
    funext j
    fin_cases j <;> rfl
  rw [h]
  exact congrArg (conv _) (funext fun j => wB_apply t j l)

/-- The gated convolution of a tile, as computed. -/
abbrev sB (m : (ℓ : Loc nD τ sig) → Buf (Elt Ideal) ℓ) (c : Dev nD) (t : Fin cfg0.N) : Rows :=
  k0_pay22 (F := Ideal) (xB m c t) (x1B m c t) (x2B m c t) (x3B m c t) (wB m c t)

theorem qs_eq : qs (sB m c t) k = Cert.DnConvRef.sq (a0 m c) (a3 m c) (row t k) := by
  funext j
  unfold qs Cert.DnConvRef.sq
  exact (s_apply ..).trans (congrArg sil (cv_eq ..))

theorem ks_eq : ks (sB m c t) k = Cert.DnConvRef.sk (a0 m c) (a3 m c) (row t k) := by
  funext j
  unfold ks Cert.DnConvRef.sk
  exact (s_apply ..).trans (congrArg sil (cv_eq ..))

variable (hF : Finite m c)
include hF

theorem cot_eq : cotK (sB m c t) (qB m c t) (kB m c t) (vB m c t) k l = Cert.DnConvRef.cot (a0 m c) (a3 m c) (a6 m c) (a7 m c) (a8 m c) (row t k) l := by
  unfold cotK Cert.DnConvRef.cot
  have eq : (fun j => qB m c t (ix2 k j)) = fun j => a6 m c (ix2 (row t k) j) := funext fun j => qB_apply t k j
  have ek : (fun j => kB m c t (ix2 k j)) = fun j => a7 m c (ix2 (row t k) j) := funext fun j => kB_apply t k j
  have ev : (fun j => vB m c t (ix2 k j)) = fun j => a8 m c (ix2 (row t k) j) := funext fun j => vB_apply t k j
  rw [qs_eq, ks_eq, eq, ek, ev]
  have pq : pullK (Cert.DnConvRef.sq (a0 m c) (a3 m c) (row t k)) (fun j => a6 m c (ix2 (row t k) j))
      = pullR (Cert.DnConvRef.sq (a0 m c) (a3 m c) (row t k)) fun j => a6 m c (ix2 (row t k) j) :=
    funext fun a => pullK_eq _ _ (fun _ => hF.dq _) a
  have pk : pullK (Cert.DnConvRef.sk (a0 m c) (a3 m c) (row t k)) (fun j => a7 m c (ix2 (row t k) j))
      = pullR (Cert.DnConvRef.sk (a0 m c) (a3 m c) (row t k)) fun j => a7 m c (ix2 (row t k) j) :=
    funext fun a => pullK_eq _ _ (fun _ => hF.dk _) a
  rw [pq, pk]

/-- The cotangent of the convolution, as computed and as the reference has it. -/
theorem dconv_eq : dconv (xB m c t) (x1B m c t) (x2B m c t) (x3B m c t) (wB m c t) (qB m c t) (kB m c t) (vB m c t) (ix2 k l)
    = gateR (Cert.DnConvRef.cv (a0 m c) (a3 m c) (row t k) l) (Cert.DnConvRef.cot (a0 m c) (a3 m c) (a6 m c) (a7 m c) (a8 m c) (row t k) l) := by
  rw [dconv_apply, cv_eq, gate_eq]
  exact congrArg (gateR _) (cot_eq t k l hF)

/-- The sum over all rows for one tap. -/
theorem tap_eq (j : Fin 4) : ∑ t : Fin cfg0.N, ∑ k : Fin 320, Cert.DnConvRef.rows (a0 m c) (row t k) l j
      * dconv (xB m c t) (x1B m c t) (x2B m c t) (x3B m c t) (wB m c t) (qB m c t) (kB m c t) (vB m c t) (ix2 k l)
    = Cert.DnConvRef.tap (a0 m c) (a3 m c) (a6 m c) (a7 m c) (a8 m c) j l := by
  unfold Cert.DnConvRef.tap
  rw [← sum_rows]
  refine Finset.sum_congr rfl fun t _ => Finset.sum_congr rfl fun k _ => ?_
  rw [dconv_eq t k l hF, mul_comm]

theorem value_eq (i : Fin 8) : ∑ t, addB m c t (ix2 i l) = Cert.DnConvRef.out (a0 m c) (a3 m c) (a6 m c) (a7 m c) (a8 m c) i l := by
  unfold Cert.DnConvRef.out
  simp only [addB, part_apply]
  split
  · rw [← tap_eq l hF 3]
    exact Finset.sum_congr rfl fun t _ => Finset.sum_congr rfl fun k _ => by rw [row3]
  · split
    · rw [← tap_eq l hF 2]
      exact Finset.sum_congr rfl fun t _ => Finset.sum_congr rfl fun k _ => by rw [row2]
    · split
      · rw [← tap_eq l hF 1]
        exact Finset.sum_congr rfl fun t _ => Finset.sum_congr rfl fun k _ => by rw [row1]
      · split
        · rw [← tap_eq l hF 0]
          exact Finset.sum_congr rfl fun t _ => Finset.sum_congr rfl fun k _ => by rw [row0]
        · exact Finset.sum_eq_zero fun t _ => rfl

omit hF

theorem algebraic : Cert.algebraic_KernelDnConvIdeal_ReferenceDnConvIdeal_pre_real_heads (hKernelDnConvIdeal := Cert.KernelDnConvIdeal.Gen.facts)
    (hReferenceDnConvIdeal := Cert.ReferenceDnConvIdeal.Gen.facts) (hPre_real_heads := Cert.DnConvFinite.facts) := by
  intro m g m' g' hpre hargs
  refine ⟨fun c => (dats m 0 c).arrAt 11 cfg0.N, (θ_run _ _ _).mono (fun r h c => ⟨(h c).2.2.1, (h c).2.2.2.2⟩) (run_blocks m g), ?_⟩
  refine (θ_run _ _ _).mono (fun r h c => ?_) (Cert.ReferenceDnConvIdeal.Value.run m' g')
  obtain ⟨h0, k⟩ := h c
  obtain ⟨e0, e1, e2, e3, e4, e5, e6, e7, e8, e9, e10⟩ := hargs c
  obtain ⟨f6, f7⟩ := Cert.DnConvFinite.read _ _ _ _ _ _ _ _ _ _ _ (hpre c)
  have hF : Finite m c := ⟨f6, f7⟩
  replace e0 : StableHlo.launchContents m' c (Proc.devRef .tc Cert.ReferenceDnConvIdeal.main_arg0) = a0 m c := e0
  replace e3 : StableHlo.launchContents m' c (Proc.devRef .tc Cert.ReferenceDnConvIdeal.main_arg3) = a3 m c := e3
  replace e6 : StableHlo.launchContents m' c (Proc.devRef .tc Cert.ReferenceDnConvIdeal.main_arg6) = a6 m c := e6
  replace e7 : StableHlo.launchContents m' c (Proc.devRef .tc Cert.ReferenceDnConvIdeal.main_arg7) = a7 m c := e7
  replace e8 : StableHlo.launchContents m' c (Proc.devRef .tc Cert.ReferenceDnConvIdeal.main_arg8) = a8 m c := e8
  refine ⟨h0.trans ?_, k⟩
  rw [val_main_v118_eq, e0, e3, e6, e7, e8]
  refine Eq.trans ?_ final11.symm
  funext i
  obtain ⟨a, l, rfl⟩ : ∃ (a : Fin 8) (l : Fin 768), i = ix2 a l := ⟨i 0, i 1, eq_ix2 i⟩
  exact (Cert.DnConvRef.out_ref (a0 m c) (a3 m c) (a6 m c) (a7 m c) (a8 m c) l a).trans (value_eq l hF a).symm

end Cert.DnConvAlgebra

end
-- ==== Proof.lean ====
module

public import proofs.«01_k».proof.Defs
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.KernelDxIdeal.Value
public import proofs.«01_k».proof.Proof.Gen.ReferenceDxIdeal
public import proofs.«01_k».proof.Proof.Gen.ReferenceDxIdeal.Run
public import proofs.«01_k».proof.Proof.Gen.ReferenceDxIdeal.Read
public import proofs.«01_k».proof.Proof.Gen.KernelDw
public import proofs.«01_k».proof.Proof.Gen.KernelDw.Frame
public import proofs.«01_k».proof.Proof.Gen.KernelDwIdeal
public import proofs.«01_k».proof.Proof.Gen.KernelDwIdeal.Frame
public import proofs.«01_k».proof.Proof.Gen.KernelDwIdeal.Value
public import proofs.«01_k».proof.Proof.Gen.ReferenceDwIdeal
public import proofs.«01_k».proof.Proof.Gen.ReferenceDwIdeal.Run
public import proofs.«01_k».proof.Proof.Gen.ReferenceDwIdeal.Read
public import proofs.«01_k».proof.Proof.Gen.KernelFwd
public import proofs.«01_k».proof.Proof.Gen.KernelFwd.Frame
public import proofs.«01_k».proof.Proof.Gen.KernelFwdIdeal
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelInproj
public import proofs.«01_k».proof.Proof.Gen.KernelInproj.Frame
public import proofs.«01_k».proof.Proof.Gen.KernelInprojIdeal
public import proofs.«01_k».proof.Proof.Gen.KernelInprojIdeal.Frame
public import proofs.«01_k».proof.Proof.Gen.KernelInprojIdeal.Value
public import proofs.«01_k».proof.Proof.Gen.ReferenceInprojIdeal
public import proofs.«01_k».proof.Proof.Gen.ReferenceInprojIdeal.Run
public import proofs.«01_k».proof.Proof.Gen.ReferenceInprojIdeal.Read
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelAdam
public import proofs.«01_k».proof.Proof.Gen.KernelAdam.Frame
public import proofs.«01_k».proof.Proof.Gen.KernelAdamIdeal
public import proofs.«01_k».proof.Proof.Gen.KernelAdamIdeal.Frame
public import proofs.«01_k».proof.Proof.Gen.KernelAdamIdeal.Value
public import proofs.«01_k».proof.Proof.Gen.ReferenceAdamIdeal
public import proofs.«01_k».proof.Proof.Gen.ReferenceAdamIdeal.Run
public import proofs.«01_k».proof.Proof.Gen.ReferenceAdamIdeal.Read
public import proofs.«01_k».proof.Proof.Gen.KernelInprojFwd
public import proofs.«01_k».proof.Proof.Gen.KernelInprojFwd.Frame
public import proofs.«01_k».proof.Proof.Gen.KernelInprojFwdIdeal
public import proofs.«01_k».proof.Proof.Gen.KernelInprojFwdIdeal.Frame
public import proofs.«01_k».proof.Proof.Gen.KernelInprojFwdIdeal.Value
public import proofs.«01_k».proof.Proof.Gen.ReferenceInprojFwdIdeal
public import proofs.«01_k».proof.Proof.Gen.ReferenceInprojFwdIdeal.Run
public import proofs.«01_k».proof.Proof.Gen.ReferenceInprojFwdIdeal.Read
public import proofs.«01_k».proof.Proof.Gen.KernelAdamGate
public import proofs.«01_k».proof.Proof.Gen.KernelAdamGate.Frame
public import proofs.«01_k».proof.Proof.Gen.KernelAdamGateIdeal
public import proofs.«01_k».proof.Proof.Gen.KernelAdamGateIdeal.Frame
public import proofs.«01_k».proof.Proof.Gen.KernelAdamGateIdeal.Value
public import proofs.«01_k».proof.Proof.Gen.ReferenceAdamGateIdeal
public import proofs.«01_k».proof.Proof.Gen.ReferenceAdamGateIdeal.Run
public import proofs.«01_k».proof.Proof.Gen.ReferenceAdamGateIdeal.Read
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.KernelAdamInIdeal.Value
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.KernelAdamOutIdeal.Value
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Gen.KernelAdamGlu
public import proofs.«01_k».proof.Proof.Gen.KernelAdamGlu.Frame
public import proofs.«01_k».proof.Proof.Gen.KernelAdamGluIdeal
public import proofs.«01_k».proof.Proof.Gen.KernelAdamGluIdeal.Frame
public import proofs.«01_k».proof.Proof.Gen.KernelAdamGluIdeal.Value
public import proofs.«01_k».proof.Proof.Gen.ReferenceAdamGluIdeal
public import proofs.«01_k».proof.Proof.Gen.ReferenceAdamGluIdeal.Run
public import proofs.«01_k».proof.Proof.Gen.ReferenceAdamGluIdeal.Read
public import proofs.«01_k».proof.Proof.Gen.KernelAdamMeta
public import proofs.«01_k».proof.Proof.Gen.KernelAdamMeta.Frame
public import proofs.«01_k».proof.Proof.Gen.KernelAdamMetaIdeal
public import proofs.«01_k».proof.Proof.Gen.KernelAdamMetaIdeal.Frame
public import proofs.«01_k».proof.Proof.Gen.KernelAdamMetaIdeal.Value
public import proofs.«01_k».proof.Proof.Gen.ReferenceAdamMetaIdeal
public import proofs.«01_k».proof.Proof.Gen.ReferenceAdamMetaIdeal.Run
public import proofs.«01_k».proof.Proof.Gen.ReferenceAdamMetaIdeal.Read
public import proofs.«01_k».proof.Proof.Gen.KernelAdamConv
public import proofs.«01_k».proof.Proof.Gen.KernelAdamConv.Frame
public import proofs.«01_k».proof.Proof.Gen.KernelAdamConvIdeal
public import proofs.«01_k».proof.Proof.Gen.KernelAdamConvIdeal.Frame
public import proofs.«01_k».proof.Proof.Gen.KernelAdamConvIdeal.Value
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Gen.KernelAdamRest
public import proofs.«01_k».proof.Proof.Gen.KernelAdamRest.Frame
public import proofs.«01_k».proof.Proof.Gen.KernelAdamRestIdeal
public import proofs.«01_k».proof.Proof.Gen.KernelAdamRestIdeal.Frame
public import proofs.«01_k».proof.Proof.Gen.KernelAdamRestIdeal.Value
public import proofs.«01_k».proof.Proof.Gen.ReferenceAdamRestIdeal
public import proofs.«01_k».proof.Proof.Gen.ReferenceAdamRestIdeal.Run
public import proofs.«01_k».proof.Proof.Gen.ReferenceAdamRestIdeal.Read
public import proofs.«01_k».proof.Proof.Gen.KernelMixOut
public import proofs.«01_k».proof.Proof.Gen.KernelMixOut.Frame
public import proofs.«01_k».proof.Proof.Gen.KernelMixOutIdeal
public import proofs.«01_k».proof.Proof.Gen.KernelMixOutIdeal.Frame
public import proofs.«01_k».proof.Proof.Gen.KernelMixOutIdeal.Value
public import proofs.«01_k».proof.Proof.Gen.ReferenceMixOutIdeal
public import proofs.«01_k».proof.Proof.Gen.ReferenceMixOutIdeal.Run
public import proofs.«01_k».proof.Proof.Gen.ReferenceMixOutIdeal.Read
public import proofs.«01_k».proof.Proof.Gen.KernelS5Prep
public import proofs.«01_k».proof.Proof.Gen.KernelS5Prep.Frame
public import proofs.«01_k».proof.Proof.Gen.KernelS5PrepIdeal
public import proofs.«01_k».proof.Proof.Gen.KernelS5PrepIdeal.Frame
public import proofs.«01_k».proof.Proof.Gen.ReferenceS5PrepIdeal
public import proofs.«01_k».proof.Proof.Gen.ReferenceS5PrepIdeal.Run
public import proofs.«01_k».proof.Proof.Gen.ReferenceS5PrepIdeal.Read
public import proofs.«01_k».proof.Proof.Gen.KernelMixOutFwd
public import proofs.«01_k».proof.Proof.Gen.KernelMixOutFwd.Frame
public import proofs.«01_k».proof.Proof.Gen.KernelMixOutFwdIdeal
public import proofs.«01_k».proof.Proof.Gen.KernelMixOutFwdIdeal.Frame
public import proofs.«01_k».proof.Proof.Gen.KernelMixOutFwdIdeal.Value
public import proofs.«01_k».proof.Proof.Gen.ReferenceMixOutFwdIdeal
public import proofs.«01_k».proof.Proof.Gen.ReferenceMixOutFwdIdeal.Run
public import proofs.«01_k».proof.Proof.Gen.ReferenceMixOutFwdIdeal.Read
public import proofs.«01_k».proof.Proof.Gen.KernelDnDecay
public import proofs.«01_k».proof.Proof.Gen.KernelDnDecay.Frame
public import proofs.«01_k».proof.Proof.Gen.KernelDnDecayIdeal
public import proofs.«01_k».proof.Proof.Gen.KernelDnDecayIdeal.Frame
public import proofs.«01_k».proof.Proof.Gen.KernelDnDecayIdeal.Value
public import proofs.«01_k».proof.Proof.Gen.ReferenceDnDecayIdeal
public import proofs.«01_k».proof.Proof.Gen.ReferenceDnDecayIdeal.Run
public import proofs.«01_k».proof.Proof.Gen.ReferenceDnDecayIdeal.Read
public import proofs.«01_k».proof.Proof.Gen.KernelDnConv
public import proofs.«01_k».proof.Proof.Gen.KernelDnConv.Frame
public import proofs.«01_k».proof.Proof.Gen.KernelDnConvIdeal
public import proofs.«01_k».proof.Proof.Gen.KernelDnConvIdeal.Frame
public import proofs.«01_k».proof.Proof.Gen.KernelDnConvIdeal.Value
public import proofs.«01_k».proof.Proof.Gen.ReferenceDnConvIdeal
public import proofs.«01_k».proof.Proof.Gen.ReferenceDnConvIdeal.Run
public import proofs.«01_k».proof.Proof.Gen.ReferenceDnConvIdeal.Read
public import proofs.«01_k».proof.Proof.DxAlgebra
public import proofs.«01_k».proof.Proof.DwAlgebra
public import proofs.«01_k».proof.Proof.FwdAlgebra
public import proofs.«01_k».proof.Proof.InprojAlgebra
public import proofs.«01_k».proof.Proof.LossAlgebra
public import proofs.«01_k».proof.Proof.AdamAlgebra
public import proofs.«01_k».proof.Proof.InprojFwdAlgebra
public import proofs.«01_k».proof.Proof.AdamGateAlgebra
public import proofs.«01_k».proof.Proof.AdamInAlgebra
public import proofs.«01_k».proof.Proof.AdamOutAlgebra
public import proofs.«01_k».proof.Proof.AdamGluAlgebra
public import proofs.«01_k».proof.Proof.AdamMetaAlgebra
public import proofs.«01_k».proof.Proof.AdamConvAlgebra
public import proofs.«01_k».proof.Proof.AdamRestAlgebra
public import proofs.«01_k».proof.Proof.MixOutAlgebra
public import proofs.«01_k».proof.Proof.S5PrepAlgebra
public import proofs.«01_k».proof.Proof.MixOutFwdAlgebra
public import proofs.«01_k».proof.Proof.DnDecayAlgebra
public import proofs.«01_k».proof.Proof.DnConvAlgebra
public import Idealize.ShloMosaic.Adequacy
public import Idealize.ShloMosaic.Init

/-! The claims: of the launches of one layer, the loss head and the optimiser. -/

@[expose] public section

noncomputable section

namespace Cert.Proof

open Idealize.ShloMosaic Idealize.SL.Sem

/-! Each reference runs to the end, its arguments unchanged and its counters at zero. -/

theorem reference_dx : Cert.quiescent_ReferenceDxIdeal (hReferenceDxIdeal := Cert.ReferenceDxIdeal.Gen.facts) := by
  intro m g _
  exact (θ_run _ _ _).mono (fun r h => ⟨fun c => (h c).2.2.2.2.2, sem_eq_zero_of_no_sems (by decide) r.2⟩)
    (Cert.ReferenceDxIdeal.Value.run (F := Ideal) m g)

theorem reference_dw : Cert.quiescent_ReferenceDwIdeal (hReferenceDwIdeal := Cert.ReferenceDwIdeal.Gen.facts) := by
  intro m g _
  exact (θ_run _ _ _).mono (fun r h => ⟨fun c => (h c).2.2.2, sem_eq_zero_of_no_sems (by decide) r.2⟩)
    (Cert.ReferenceDwIdeal.Value.run (F := Ideal) m g)

theorem reference_fwd : Cert.quiescent_ReferenceFwdIdeal (hReferenceFwdIdeal := Cert.ReferenceFwdIdeal.Gen.facts) := by
  intro m g _
  exact (θ_run _ _ _).mono (fun r h => ⟨fun c => (h c).2.2.2.2, sem_eq_zero_of_no_sems (by decide) r.2⟩)
    (Cert.ReferenceFwdIdeal.Value.run (F := Ideal) m g)

theorem reference_inproj : Cert.quiescent_ReferenceInprojIdeal (hReferenceInprojIdeal := Cert.ReferenceInprojIdeal.Gen.facts) := by
  intro m g _
  exact (θ_run _ _ _).mono (fun r h => ⟨fun c => (h c).2.2.2, sem_eq_zero_of_no_sems (by decide) r.2⟩)
    (Cert.ReferenceInprojIdeal.Value.run (F := Ideal) m g)

theorem reference_loss : Cert.quiescent_ReferenceLossIdeal (hReferenceLossIdeal := Cert.ReferenceLossIdeal.Gen.facts) := by
  intro m g _
  exact (θ_run _ _ _).mono (fun r h => ⟨fun c => (h c).2.2.2, sem_eq_zero_of_no_sems (by decide) r.2⟩)
    (Cert.ReferenceLossIdeal.Value.run (F := Ideal) m g)

theorem reference_adam : Cert.quiescent_ReferenceAdamIdeal (hReferenceAdamIdeal := Cert.ReferenceAdamIdeal.Gen.facts) := by
  intro m g _
  exact (θ_run _ _ _).mono (fun r h => ⟨fun c => (h c).2.2.2, sem_eq_zero_of_no_sems (by decide) r.2⟩)
    (Cert.ReferenceAdamIdeal.Value.run (F := Ideal) m g)

theorem reference_inprojfwd : Cert.quiescent_ReferenceInprojFwdIdeal (hReferenceInprojFwdIdeal := Cert.ReferenceInprojFwdIdeal.Gen.facts) := by
  intro m g _
  exact (θ_run _ _ _).mono (fun r h => ⟨fun c => (h c).2.2.2.2.2.2.2, sem_eq_zero_of_no_sems (by decide) r.2⟩)
    (Cert.ReferenceInprojFwdIdeal.Value.run (F := Ideal) m g)

theorem reference_adamgate : Cert.quiescent_ReferenceAdamGateIdeal (hReferenceAdamGateIdeal := Cert.ReferenceAdamGateIdeal.Gen.facts) := by
  intro m g _
  exact (θ_run _ _ _).mono (fun r h => ⟨fun c => (h c).2.2.2, sem_eq_zero_of_no_sems (by decide) r.2⟩)
    (Cert.ReferenceAdamGateIdeal.Value.run (F := Ideal) m g)

theorem reference_adamin : Cert.quiescent_ReferenceAdamInIdeal (hReferenceAdamInIdeal := Cert.ReferenceAdamInIdeal.Gen.facts) := by
  intro m g _
  exact (θ_run _ _ _).mono (fun r h => ⟨fun c => (h c).2.2.2, sem_eq_zero_of_no_sems (by decide) r.2⟩)
    (Cert.ReferenceAdamInIdeal.Value.run (F := Ideal) m g)

theorem reference_adamout : Cert.quiescent_ReferenceAdamOutIdeal (hReferenceAdamOutIdeal := Cert.ReferenceAdamOutIdeal.Gen.facts) := by
  intro m g _
  exact (θ_run _ _ _).mono (fun r h => ⟨fun c => (h c).2.2.2, sem_eq_zero_of_no_sems (by decide) r.2⟩)
    (Cert.ReferenceAdamOutIdeal.Value.run (F := Ideal) m g)

theorem reference_adamglu : Cert.quiescent_ReferenceAdamGluIdeal (hReferenceAdamGluIdeal := Cert.ReferenceAdamGluIdeal.Gen.facts) := by
  intro m g _
  exact (θ_run _ _ _).mono (fun r h => ⟨fun c => (h c).2.2.2, sem_eq_zero_of_no_sems (by decide) r.2⟩)
    (Cert.ReferenceAdamGluIdeal.Value.run (F := Ideal) m g)

theorem reference_adammeta : Cert.quiescent_ReferenceAdamMetaIdeal (hReferenceAdamMetaIdeal := Cert.ReferenceAdamMetaIdeal.Gen.facts) := by
  intro m g _
  exact (θ_run _ _ _).mono (fun r h => ⟨fun c => (h c).2.2.2, sem_eq_zero_of_no_sems (by decide) r.2⟩)
    (Cert.ReferenceAdamMetaIdeal.Value.run (F := Ideal) m g)

theorem reference_adamconv : Cert.quiescent_ReferenceAdamConvIdeal (hReferenceAdamConvIdeal := Cert.ReferenceAdamConvIdeal.Gen.facts) := by
  intro m g _
  exact (θ_run _ _ _).mono (fun r h => ⟨fun c => (h c).2.2.2, sem_eq_zero_of_no_sems (by decide) r.2⟩)
    (Cert.ReferenceAdamConvIdeal.Value.run (F := Ideal) m g)

theorem reference_adamrest : Cert.quiescent_ReferenceAdamRestIdeal (hReferenceAdamRestIdeal := Cert.ReferenceAdamRestIdeal.Gen.facts) := by
  intro m g _
  exact (θ_run _ _ _).mono (fun r h => ⟨fun c => (h c).2.2.2, sem_eq_zero_of_no_sems (by decide) r.2⟩)
    (Cert.ReferenceAdamRestIdeal.Value.run (F := Ideal) m g)

theorem reference_mixout : Cert.quiescent_ReferenceMixOutIdeal (hReferenceMixOutIdeal := Cert.ReferenceMixOutIdeal.Gen.facts) := by
  intro m g _
  exact (θ_run _ _ _).mono (fun r h => ⟨fun c => (h c).2.2.2.2.2.2, sem_eq_zero_of_no_sems (by decide) r.2⟩)
    (Cert.ReferenceMixOutIdeal.Value.run (F := Ideal) m g)

theorem reference_s5prep : Cert.quiescent_ReferenceS5PrepIdeal (hReferenceS5PrepIdeal := Cert.ReferenceS5PrepIdeal.Gen.facts) := by
  intro m g _
  exact (θ_run _ _ _).mono (fun r h => ⟨fun c => (h c).2.2.2.2.2, sem_eq_zero_of_no_sems (by decide) r.2⟩)
    (Cert.ReferenceS5PrepIdeal.Value.run (F := Ideal) m g)

theorem reference_mixoutfwd : Cert.quiescent_ReferenceMixOutFwdIdeal (hReferenceMixOutFwdIdeal := Cert.ReferenceMixOutFwdIdeal.Gen.facts) := by
  intro m g _
  exact (θ_run _ _ _).mono (fun r h => ⟨fun c => (h c).2, sem_eq_zero_of_no_sems (by decide) r.2⟩)
    (Cert.ReferenceMixOutFwdIdeal.Value.run (F := Ideal) m g)

theorem reference_dndecay : Cert.quiescent_ReferenceDnDecayIdeal (hReferenceDnDecayIdeal := Cert.ReferenceDnDecayIdeal.Gen.facts) := by
  intro m g _
  exact (θ_run _ _ _).mono (fun r h => ⟨fun c => (h c).2, sem_eq_zero_of_no_sems (by decide) r.2⟩)
    (Cert.ReferenceDnDecayIdeal.Value.run (F := Ideal) m g)

theorem reference_dnconv : Cert.quiescent_ReferenceDnConvIdeal (hReferenceDnConvIdeal := Cert.ReferenceDnConvIdeal.Gen.facts) := by
  intro m g _
  exact (θ_run _ _ _).mono (fun r h => ⟨fun c => (h c).2, sem_eq_zero_of_no_sems (by decide) r.2⟩)
    (Cert.ReferenceDnConvIdeal.Value.run (F := Ideal) m g)

theorem claim : Cert.Claim :=
  ⟨Cert.KernelDx.Gen.facts, Cert.KernelDxIdeal.Gen.facts, Cert.ReferenceDxIdeal.Gen.facts,
    Cert.KernelDw.Gen.facts, Cert.KernelDwIdeal.Gen.facts, Cert.ReferenceDwIdeal.Gen.facts,
    Cert.KernelFwd.Gen.facts, Cert.KernelFwdIdeal.Gen.facts, Cert.ReferenceFwdIdeal.Gen.facts,
    Cert.KernelInproj.Gen.facts, Cert.KernelInprojIdeal.Gen.facts, Cert.ReferenceInprojIdeal.Gen.facts,
    Cert.KernelLoss.Gen.facts, Cert.KernelLossIdeal.Gen.facts, Cert.ReferenceLossIdeal.Gen.facts,
    Cert.KernelAdam.Gen.facts, Cert.KernelAdamIdeal.Gen.facts, Cert.ReferenceAdamIdeal.Gen.facts,
    Cert.KernelInprojFwd.Gen.facts, Cert.KernelInprojFwdIdeal.Gen.facts, Cert.ReferenceInprojFwdIdeal.Gen.facts,
    Cert.KernelAdamGate.Gen.facts, Cert.KernelAdamGateIdeal.Gen.facts, Cert.ReferenceAdamGateIdeal.Gen.facts,
    Cert.KernelAdamIn.Gen.facts, Cert.KernelAdamInIdeal.Gen.facts, Cert.ReferenceAdamInIdeal.Gen.facts,
    Cert.KernelAdamOut.Gen.facts, Cert.KernelAdamOutIdeal.Gen.facts, Cert.ReferenceAdamOutIdeal.Gen.facts,
    Cert.KernelAdamGlu.Gen.facts, Cert.KernelAdamGluIdeal.Gen.facts, Cert.ReferenceAdamGluIdeal.Gen.facts,
    Cert.KernelAdamMeta.Gen.facts, Cert.KernelAdamMetaIdeal.Gen.facts, Cert.ReferenceAdamMetaIdeal.Gen.facts,
    Cert.KernelAdamConv.Gen.facts, Cert.KernelAdamConvIdeal.Gen.facts, Cert.ReferenceAdamConvIdeal.Gen.facts,
    Cert.KernelAdamRest.Gen.facts, Cert.KernelAdamRestIdeal.Gen.facts, Cert.ReferenceAdamRestIdeal.Gen.facts,
    Cert.KernelMixOut.Gen.facts, Cert.KernelMixOutIdeal.Gen.facts, Cert.ReferenceMixOutIdeal.Gen.facts,
    Cert.KernelS5Prep.Gen.facts, Cert.KernelS5PrepIdeal.Gen.facts, Cert.ReferenceS5PrepIdeal.Gen.facts,
    Cert.KernelMixOutFwd.Gen.facts, Cert.KernelMixOutFwdIdeal.Gen.facts, Cert.ReferenceMixOutFwdIdeal.Gen.facts,
    Cert.KernelDnDecay.Gen.facts, Cert.KernelDnDecayIdeal.Gen.facts, Cert.ReferenceDnDecayIdeal.Gen.facts,
    Cert.KernelDnConv.Gen.facts, Cert.KernelDnConvIdeal.Gen.facts, Cert.ReferenceDnConvIdeal.Gen.facts,
    Cert.DxFinite.facts, Cert.DnDecayFinite.facts, Cert.DnConvFinite.facts,
    fun m ρ _ => Cert.KernelDx.Gen.frame m ρ, fun m ρ _ => Cert.KernelDxIdeal.Gen.frame m ρ,
    fun m ρ _ => Cert.KernelDxIdeal.Gen.frame m ρ, reference_dx, fun m ρ _ => reference_dx m ρ trivial,
    fun m ρ _ => Cert.KernelDw.Gen.frame m ρ, fun m ρ _ => Cert.KernelDwIdeal.Gen.frame m ρ, reference_dw,
    fun m ρ _ => Cert.KernelFwd.Gen.frame m ρ, fun m ρ _ => Cert.KernelFwdIdeal.Gen.frame m ρ, reference_fwd,
    fun m ρ _ => Cert.KernelInproj.Gen.frame m ρ, fun m ρ _ => Cert.KernelInprojIdeal.Gen.frame m ρ, reference_inproj,
    fun m ρ _ => Cert.KernelLoss.Gen.frame m ρ, fun m ρ _ => Cert.KernelLossIdeal.Gen.frame m ρ, reference_loss,
    fun m ρ _ => Cert.KernelAdam.Gen.frame m ρ, fun m ρ _ => Cert.KernelAdamIdeal.Gen.frame m ρ, reference_adam,
    fun m ρ _ => Cert.KernelInprojFwd.Gen.frame m ρ, fun m ρ _ => Cert.KernelInprojFwdIdeal.Gen.frame m ρ, reference_inprojfwd,
    fun m ρ _ => Cert.KernelAdamGate.Gen.frame m ρ, fun m ρ _ => Cert.KernelAdamGateIdeal.Gen.frame m ρ, reference_adamgate,
    fun m ρ _ => Cert.KernelAdamIn.Gen.frame m ρ, fun m ρ _ => Cert.KernelAdamInIdeal.Gen.frame m ρ, reference_adamin,
    fun m ρ _ => Cert.KernelAdamOut.Gen.frame m ρ, fun m ρ _ => Cert.KernelAdamOutIdeal.Gen.frame m ρ, reference_adamout,
    fun m ρ _ => Cert.KernelAdamGlu.Gen.frame m ρ, fun m ρ _ => Cert.KernelAdamGluIdeal.Gen.frame m ρ, reference_adamglu,
    fun m ρ _ => Cert.KernelAdamMeta.Gen.frame m ρ, fun m ρ _ => Cert.KernelAdamMetaIdeal.Gen.frame m ρ, reference_adammeta,
    fun m ρ _ => Cert.KernelAdamConv.Gen.frame m ρ, fun m ρ _ => Cert.KernelAdamConvIdeal.Gen.frame m ρ, reference_adamconv,
    fun m ρ _ => Cert.KernelAdamRest.Gen.frame m ρ, fun m ρ _ => Cert.KernelAdamRestIdeal.Gen.frame m ρ, reference_adamrest,
    fun m ρ _ => Cert.KernelMixOut.Gen.frame m ρ, fun m ρ _ => Cert.KernelMixOutIdeal.Gen.frame m ρ, reference_mixout,
    fun m ρ _ => Cert.KernelS5Prep.Gen.frame m ρ, fun m ρ _ => Cert.KernelS5PrepIdeal.Gen.frame m ρ, reference_s5prep,
    fun m ρ _ => Cert.KernelMixOutFwd.Gen.frame m ρ, fun m ρ _ => Cert.KernelMixOutFwdIdeal.Gen.frame m ρ, reference_mixoutfwd,
    fun m ρ _ => Cert.KernelDnDecay.Gen.frame m ρ, fun m ρ _ => Cert.KernelDnDecayIdeal.Gen.frame m ρ,
    fun m ρ _ => Cert.KernelDnDecayIdeal.Gen.frame m ρ, reference_dndecay, fun m ρ _ => reference_dndecay m ρ trivial,
    fun m ρ _ => Cert.KernelDnConv.Gen.frame m ρ, fun m ρ _ => Cert.KernelDnConvIdeal.Gen.frame m ρ,
    fun m ρ _ => Cert.KernelDnConvIdeal.Gen.frame m ρ, reference_dnconv, fun m ρ _ => reference_dnconv m ρ trivial,
    trivial, Cert.DxAlgebra.algebraic, trivial, Cert.DwAlgebra.algebraic, trivial, Cert.FwdAlgebra.algebraic, trivial, Cert.InprojAlgebra.algebraic, trivial, Cert.LossAlgebra.algebraic, trivial, Cert.AdamAlgebra.algebraic, trivial, Cert.InprojFwdAlgebra.algebraic, trivial, Cert.AdamGateAlgebra.algebraic, trivial, Cert.AdamInAlgebra.algebraic, trivial, Cert.AdamOutAlgebra.algebraic, trivial, Cert.AdamGluAlgebra.algebraic, trivial, Cert.AdamMetaAlgebra.algebraic, trivial, Cert.AdamConvAlgebra.algebraic, trivial, Cert.AdamRestAlgebra.algebraic, trivial, Cert.MixOutAlgebra.algebraic, trivial, Cert.S5PrepAlgebra.algebraic, trivial, Cert.MixOutFwdAlgebra.algebraic, trivial, Cert.DnDecayAlgebra.algebraic, trivial, Cert.DnConvAlgebra.algebraic⟩

end Cert.Proof

end
